-- ==== Defs.lean ====
def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsIdeal_finite_rows [hPre_finite_rows : Cert.Pre_finite_rows.Facts] (m : (ℓ : Loc Cert.RowsIdeal.nD Cert.RowsIdeal.τ Cert.RowsIdeal.sig) → Buf (Elt Ideal) ℓ) : Prop :=
  ∀ c : Dev Cert.RowsIdeal.nD,
    (Cert.Pre_finite_rows.fn (F := Ideal) (m ((c.tc : Thread Cert.RowsIdeal.nD Cert.RowsIdeal.τ).loc Cert.RowsIdeal.main_arg0)) (m ((c.tc : Thread Cert.RowsIdeal.nD Cert.RowsIdeal.τ).loc Cert.RowsIdeal.main_arg1)) (m ((c.tc : Thread Cert.RowsIdeal.nD Cert.RowsIdeal.τ).loc Cert.RowsIdeal.main_arg2)) (m ((c.tc : Thread Cert.RowsIdeal.nD Cert.RowsIdeal.τ).loc Cert.RowsIdeal.main_arg3)) (m ((c.tc : Thread Cert.RowsIdeal.nD Cert.RowsIdeal.τ).loc Cert.RowsIdeal.main_arg4))).1 = (fun _ => 1#1)
    ∧ (Cert.Pre_finite_rows.fn (F := Ideal) (m ((c.tc : Thread Cert.RowsIdeal.nD Cert.RowsIdeal.τ).loc Cert.RowsIdeal.main_arg0)) (m ((c.tc : Thread Cert.RowsIdeal.nD Cert.RowsIdeal.τ).loc Cert.RowsIdeal.main_arg1)) (m ((c.tc : Thread Cert.RowsIdeal.nD Cert.RowsIdeal.τ).loc Cert.RowsIdeal.main_arg2)) (m ((c.tc : Thread Cert.RowsIdeal.nD Cert.RowsIdeal.τ).loc Cert.RowsIdeal.main_arg3)) (m ((c.tc : Thread Cert.RowsIdeal.nD Cert.RowsIdeal.τ).loc Cert.RowsIdeal.main_arg4))).2.1 = (fun _ => 1#1)
    ∧ (Cert.Pre_finite_rows.fn (F := Ideal) (m ((c.tc : Thread Cert.RowsIdeal.nD Cert.RowsIdeal.τ).loc Cert.RowsIdeal.main_arg0)) (m ((c.tc : Thread Cert.RowsIdeal.nD Cert.RowsIdeal.τ).loc Cert.RowsIdeal.main_arg1)) (m ((c.tc : Thread Cert.RowsIdeal.nD Cert.RowsIdeal.τ).loc Cert.RowsIdeal.main_arg2)) (m ((c.tc : Thread Cert.RowsIdeal.nD Cert.RowsIdeal.τ).loc Cert.RowsIdeal.main_arg3)) (m ((c.tc : Thread Cert.RowsIdeal.nD Cert.RowsIdeal.τ).loc Cert.RowsIdeal.main_arg4))).2.2.1 = (fun _ => 1#1)
    ∧ (Cert.Pre_finite_rows.fn (F := Ideal) (m ((c.tc : Thread Cert.RowsIdeal.nD Cert.RowsIdeal.τ).loc Cert.RowsIdeal.main_arg0)) (m ((c.tc : Thread Cert.RowsIdeal.nD Cert.RowsIdeal.τ).loc Cert.RowsIdeal.main_arg1)) (m ((c.tc : Thread Cert.RowsIdeal.nD Cert.RowsIdeal.τ).loc Cert.RowsIdeal.main_arg2)) (m ((c.tc : Thread Cert.RowsIdeal.nD Cert.RowsIdeal.τ).loc Cert.RowsIdeal.main_arg3)) (m ((c.tc : Thread Cert.RowsIdeal.nD Cert.RowsIdeal.τ).loc Cert.RowsIdeal.main_arg4))).2.2.2.1 = (fun _ => 1#1)
    ∧ (Cert.Pre_finite_rows.fn (F := Ideal) (m ((c.tc : Thread Cert.RowsIdeal.nD Cert.RowsIdeal.τ).loc Cert.RowsIdeal.main_arg0)) (m ((c.tc : Thread Cert.RowsIdeal.nD Cert.RowsIdeal.τ).loc Cert.RowsIdeal.main_arg1)) (m ((c.tc : Thread Cert.RowsIdeal.nD Cert.RowsIdeal.τ).loc Cert.RowsIdeal.main_arg2)) (m ((c.tc : Thread Cert.RowsIdeal.nD Cert.RowsIdeal.τ).loc Cert.RowsIdeal.main_arg3)) (m ((c.tc : Thread Cert.RowsIdeal.nD Cert.RowsIdeal.τ).loc Cert.RowsIdeal.main_arg4))).2.2.2.2 = (fun _ => 1#1)

def Pre_RowsRefIdeal (m : (ℓ : Loc Cert.RowsRefIdeal.nD Cert.RowsRefIdeal.τ Cert.RowsRefIdeal.sig) → Buf (Elt Ideal) ℓ) : Prop :=
  True

def Pre_RowsRefIdeal_finite_rows [hPre_finite_rows : Cert.Pre_finite_rows.Facts] (m : (ℓ : Loc Cert.RowsRefIdeal.nD Cert.RowsRefIdeal.τ Cert.RowsRefIdeal.sig) → Buf (Elt Ideal) ℓ) : Prop :=
  ∀ c : Dev Cert.RowsRefIdeal.nD,
    (Cert.Pre_finite_rows.fn (F := Ideal) (m ((c.tc : Thread Cert.RowsRefIdeal.nD Cert.RowsRefIdeal.τ).loc Cert.RowsRefIdeal.main_arg0)) (m ((c.tc : Thread Cert.RowsRefIdeal.nD Cert.RowsRefIdeal.τ).loc Cert.RowsRefIdeal.main_arg1)) (m ((c.tc : Thread Cert.RowsRefIdeal.nD Cert.RowsRefIdeal.τ).loc Cert.RowsRefIdeal.main_arg2)) (m ((c.tc : Thread Cert.RowsRefIdeal.nD Cert.RowsRefIdeal.τ).loc Cert.RowsRefIdeal.main_arg3)) (m ((c.tc : Thread Cert.RowsRefIdeal.nD Cert.RowsRefIdeal.τ).loc Cert.RowsRefIdeal.main_arg4))).1 = (fun _ => 1#1)
    ∧ (Cert.Pre_finite_rows.fn (F := Ideal) (m ((c.tc : Thread Cert.RowsRefIdeal.nD Cert.RowsRefIdeal.τ).loc Cert.RowsRefIdeal.main_arg0)) (m ((c.tc : Thread Cert.RowsRefIdeal.nD Cert.RowsRefIdeal.τ).loc Cert.RowsRefIdeal.main_arg1)) (m ((c.tc : Thread Cert.RowsRefIdeal.nD Cert.RowsRefIdeal.τ).loc Cert.RowsRefIdeal.main_arg2)) (m ((c.tc : Thread Cert.RowsRefIdeal.nD Cert.RowsRefIdeal.τ).loc Cert.RowsRefIdeal.main_arg3)) (m ((c.tc : Thread Cert.RowsRefIdeal.nD Cert.RowsRefIdeal.τ).loc Cert.RowsRefIdeal.main_arg4))).2.1 = (fun _ => 1#1)
    ∧ (Cert.Pre_finite_rows.fn (F := Ideal) (m ((c.tc : Thread Cert.RowsRefIdeal.nD Cert.RowsRefIdeal.τ).loc Cert.RowsRefIdeal.main_arg0)) (m ((c.tc : Thread Cert.RowsRefIdeal.nD Cert.RowsRefIdeal.τ).loc Cert.RowsRefIdeal.main_arg1)) (m ((c.tc : Thread Cert.RowsRefIdeal.nD Cert.RowsRefIdeal.τ).loc Cert.RowsRefIdeal.main_arg2)) (m ((c.tc : Thread Cert.RowsRefIdeal.nD Cert.RowsRefIdeal.τ).loc Cert.RowsRefIdeal.main_arg3)) (m ((c.tc : Thread Cert.RowsRefIdeal.nD Cert.RowsRefIdeal.τ).loc Cert.RowsRefIdeal.main_arg4))).2.2.1 = (fun _ => 1#1)
    ∧ (Cert.Pre_finite_rows.fn (F := Ideal) (m ((c.tc : Thread Cert.RowsRefIdeal.nD Cert.RowsRefIdeal.τ).loc Cert.RowsRefIdeal.main_arg0)) (m ((c.tc : Thread Cert.RowsRefIdeal.nD Cert.RowsRefIdeal.τ).loc Cert.RowsRefIdeal.main_arg1)) (m ((c.tc : Thread Cert.RowsRefIdeal.nD Cert.RowsRefIdeal.τ).loc Cert.RowsRefIdeal.main_arg2)) (m ((c.tc : Thread Cert.RowsRefIdeal.nD Cert.RowsRefIdeal.τ).loc Cert.RowsRefIdeal.main_arg3)) (m ((c.tc : Thread Cert.RowsRefIdeal.nD Cert.RowsRefIdeal.τ).loc Cert.RowsRefIdeal.main_arg4))).2.2.2.1 = (fun _ => 1#1)
    ∧ (Cert.Pre_finite_rows.fn (F := Ideal) (m ((c.tc : Thread Cert.RowsRefIdeal.nD Cert.RowsRefIdeal.τ).loc Cert.RowsRefIdeal.main_arg0)) (m ((c.tc : Thread Cert.RowsRefIdeal.nD Cert.RowsRefIdeal.τ).loc Cert.RowsRefIdeal.main_arg1)) (m ((c.tc : Thread Cert.RowsRefIdeal.nD Cert.RowsRefIdeal.τ).loc Cert.RowsRefIdeal.main_arg2)) (m ((c.tc : Thread Cert.RowsRefIdeal.nD Cert.RowsRefIdeal.τ).loc Cert.RowsRefIdeal.main_arg3)) (m ((c.tc : Thread Cert.RowsRefIdeal.nD Cert.RowsRefIdeal.τ).loc Cert.RowsRefIdeal.main_arg4))).2.2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_mla [hPre_finite_mla : Cert.Pre_finite_mla.Facts] (m : (ℓ : Loc Cert.MlaIdeal.nD Cert.MlaIdeal.τ Cert.MlaIdeal.sig) → Buf (Elt Ideal) ℓ) : Prop :=
  ∀ c : Dev Cert.MlaIdeal.nD,
    (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8))).1 = (fun _ => 1#1)
    ∧ (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8))).2.1 = (fun _ => 1#1)
    ∧ (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8))).2.2.1 = (fun _ => 1#1)
    ∧ (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8))).2.2.2.1 = (fun _ => 1#1)
    ∧ (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8))).2.2.2.2.1 = (fun _ => 1#1)
    ∧ (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8))).2.2.2.2.2.1 = (fun _ => 1#1)
    ∧ (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8))).2.2.2.2.2.2.1 = (fun _ => 1#1)
    ∧ (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8))).2.2.2.2.2.2.2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_mla [hPre_finite_mla : Cert.Pre_finite_mla.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8))).1 = (fun _ => 1#1)
    ∧ (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8))).2.1 = (fun _ => 1#1)
    ∧ (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8))).2.2.1 = (fun _ => 1#1)
    ∧ (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8))).2.2.2.1 = (fun _ => 1#1)
    ∧ (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8))).2.2.2.2.1 = (fun _ => 1#1)
    ∧ (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8))).2.2.2.2.2.1 = (fun _ => 1#1)
    ∧ (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8))).2.2.2.2.2.2.1 = (fun _ => 1#1)
    ∧ (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8))).2.2.2.2.2.2.2 = (fun _ => 1#1)

def Pre_Inx (m : (ℓ : Loc Cert.Inx.nD Cert.Inx.τ Cert.Inx.sig) → Buf (Elt Bits) ℓ) : Prop :=
  True

def Pre_InxIdeal (m : (ℓ : Loc Cert.InxIdeal.nD Cert.InxIdeal.τ Cert.InxIdeal.sig) → Buf (Elt Ideal) ℓ) : Prop :=
  True

def Pre_InxIdeal_finite_inx [hPre_finite_inx : Cert.Pre_finite_inx.Facts] (m : (ℓ : Loc Cert.InxIdeal.nD Cert.InxIdeal.τ Cert.InxIdeal.sig) → Buf (Elt Ideal) ℓ) : Prop :=
  ∀ c : Dev Cert.InxIdeal.nD,
    (Cert.Pre_finite_inx.fn (F := Ideal) (m ((c.tc : Thread Cert.InxIdeal.nD Cert.InxIdeal.τ).loc Cert.InxIdeal.main_arg0)) (m ((c.tc : Thread Cert.InxIdeal.nD Cert.InxIdeal.τ).loc Cert.InxIdeal.main_arg1)) (m ((c.tc : Thread Cert.InxIdeal.nD Cert.InxIdeal.τ).loc Cert.InxIdeal.main_arg2)) (m ((c.tc : Thread Cert.InxIdeal.nD Cert.InxIdeal.τ).loc Cert.InxIdeal.main_arg3)) (m ((c.tc : Thread Cert.InxIdeal.nD Cert.InxIdeal.τ).loc Cert.InxIdeal.main_arg4)) (m ((c.tc : Thread Cert.InxIdeal.nD Cert.InxIdeal.τ).loc Cert.InxIdeal.main_arg5)) (m ((c.tc : Thread Cert.InxIdeal.nD Cert.InxIdeal.τ).loc Cert.InxIdeal.main_arg6)) (m ((c.tc : Thread Cert.InxIdeal.nD Cert.InxIdeal.τ).loc Cert.InxIdeal.main_arg7))).1 = (fun _ => 1#1)
    ∧ (Cert.Pre_finite_inx.fn (F := Ideal) (m ((c.tc : Thread Cert.InxIdeal.nD Cert.InxIdeal.τ).loc Cert.InxIdeal.main_arg0)) (m ((c.tc : Thread Cert.InxIdeal.nD Cert.InxIdeal.τ).loc Cert.InxIdeal.main_arg1)) (m ((c.tc : Thread Cert.InxIdeal.nD Cert.InxIdeal.τ).loc Cert.InxIdeal.main_arg2)) (m ((c.tc : Thread Cert.InxIdeal.nD Cert.InxIdeal.τ).loc Cert.InxIdeal.main_arg3)) (m ((c.tc : Thread Cert.InxIdeal.nD Cert.InxIdeal.τ).loc Cert.InxIdeal.main_arg4)) (m ((c.tc : Thread Cert.InxIdeal.nD Cert.InxIdeal.τ).loc Cert.InxIdeal.main_arg5)) (m ((c.tc : Thread Cert.InxIdeal.nD Cert.InxIdeal.τ).loc Cert.InxIdeal.main_arg6)) (m ((c.tc : Thread Cert.InxIdeal.nD Cert.InxIdeal.τ).loc Cert.InxIdeal.main_arg7))).2.1 = (fun _ => 1#1)
    ∧ (Cert.Pre_finite_inx.fn (F := Ideal) (m ((c.tc : Thread Cert.InxIdeal.nD Cert.InxIdeal.τ).loc Cert.InxIdeal.main_arg0)) (m ((c.tc : Thread Cert.InxIdeal.nD Cert.InxIdeal.τ).loc Cert.InxIdeal.main_arg1)) (m ((c.tc : Thread Cert.InxIdeal.nD Cert.InxIdeal.τ).loc Cert.InxIdeal.main_arg2)) (m ((c.tc : Thread Cert.InxIdeal.nD Cert.InxIdeal.τ).loc Cert.InxIdeal.main_arg3)) (m ((c.tc : Thread Cert.InxIdeal.nD Cert.InxIdeal.τ).loc Cert.InxIdeal.main_arg4)) (m ((c.tc : Thread Cert.InxIdeal.nD Cert.InxIdeal.τ).loc Cert.InxIdeal.main_arg5)) (m ((c.tc : Thread Cert.InxIdeal.nD Cert.InxIdeal.τ).loc Cert.InxIdeal.main_arg6)) (m ((c.tc : Thread Cert.InxIdeal.nD Cert.InxIdeal.τ).loc Cert.InxIdeal.main_arg7))).2.2.1 = (fun _ => 1#1)
    ∧ (Cert.Pre_finite_inx.fn (F := Ideal) (m ((c.tc : Thread Cert.InxIdeal.nD Cert.InxIdeal.τ).loc Cert.InxIdeal.main_arg0)) (m ((c.tc : Thread Cert.InxIdeal.nD Cert.InxIdeal.τ).loc Cert.InxIdeal.main_arg1)) (m ((c.tc : Thread Cert.InxIdeal.nD Cert.InxIdeal.τ).loc Cert.InxIdeal.main_arg2)) (m ((c.tc : Thread Cert.InxIdeal.nD Cert.InxIdeal.τ).loc Cert.InxIdeal.main_arg3)) (m ((c.tc : Thread Cert.InxIdeal.nD Cert.InxIdeal.τ).loc Cert.InxIdeal.main_arg4)) (m ((c.tc : Thread Cert.InxIdeal.nD Cert.InxIdeal.τ).loc Cert.InxIdeal.main_arg5)) (m ((c.tc : Thread Cert.InxIdeal.nD Cert.InxIdeal.τ).loc Cert.InxIdeal.main_arg6)) (m ((c.tc : Thread Cert.InxIdeal.nD Cert.InxIdeal.τ).loc Cert.InxIdeal.main_arg7))).2.2.2.1 = (fun _ => 1#1)
    ∧ (Cert.Pre_finite_inx.fn (F := Ideal) (m ((c.tc : Thread Cert.InxIdeal.nD Cert.InxIdeal.τ).loc Cert.InxIdeal.main_arg0)) (m ((c.tc : Thread Cert.InxIdeal.nD Cert.InxIdeal.τ).loc Cert.InxIdeal.main_arg1)) (m ((c.tc : Thread Cert.InxIdeal.nD Cert.InxIdeal.τ).loc Cert.InxIdeal.main_arg2)) (m ((c.tc : Thread Cert.InxIdeal.nD Cert.InxIdeal.τ).loc Cert.InxIdeal.main_arg3)) (m ((c.tc : Thread Cert.InxIdeal.nD Cert.InxIdeal.τ).loc Cert.InxIdeal.main_arg4)) (m ((c.tc : Thread Cert.InxIdeal.nD Cert.InxIdeal.τ).loc Cert.InxIdeal.main_arg5)) (m ((c.tc : Thread Cert.InxIdeal.nD Cert.InxIdeal.τ).loc Cert.InxIdeal.main_arg6)) (m ((c.tc : Thread Cert.InxIdeal.nD Cert.InxIdeal.τ).loc Cert.InxIdeal.main_arg7))).2.2.2.2.1 = (fun _ => 1#1)
    ∧ (Cert.Pre_finite_inx.fn (F := Ideal) (m ((c.tc : Thread Cert.InxIdeal.nD Cert.InxIdeal.τ).loc Cert.InxIdeal.main_arg0)) (m ((c.tc : Thread Cert.InxIdeal.nD Cert.InxIdeal.τ).loc Cert.InxIdeal.main_arg1)) (m ((c.tc : Thread Cert.InxIdeal.nD Cert.InxIdeal.τ).loc Cert.InxIdeal.main_arg2)) (m ((c.tc : Thread Cert.InxIdeal.nD Cert.InxIdeal.τ).loc Cert.InxIdeal.main_arg3)) (m ((c.tc : Thread Cert.InxIdeal.nD Cert.InxIdeal.τ).loc Cert.InxIdeal.main_arg4)) (m ((c.tc : Thread Cert.InxIdeal.nD Cert.InxIdeal.τ).loc Cert.InxIdeal.main_arg5)) (m ((c.tc : Thread Cert.InxIdeal.nD Cert.InxIdeal.τ).loc Cert.InxIdeal.main_arg6)) (m ((c.tc : Thread Cert.InxIdeal.nD Cert.InxIdeal.τ).loc Cert.InxIdeal.main_arg7))).2.2.2.2.2 = (fun _ => 1#1)

def Pre_InxRefIdeal (m : (ℓ : Loc Cert.InxRefIdeal.nD Cert.InxRefIdeal.τ Cert.InxRefIdeal.sig) → Buf (Elt Ideal) ℓ) : Prop :=
  True

def Pre_InxRefIdeal_finite_inx [hPre_finite_inx : Cert.Pre_finite_inx.Facts] (m : (ℓ : Loc Cert.InxRefIdeal.nD Cert.InxRefIdeal.τ Cert.InxRefIdeal.sig) → Buf (Elt Ideal) ℓ) : Prop :=
  ∀ c : Dev Cert.InxRefIdeal.nD,
    (Cert.Pre_finite_inx.fn (F := Ideal) (m ((c.tc : Thread Cert.InxRefIdeal.nD Cert.InxRefIdeal.τ).loc Cert.InxRefIdeal.main_arg0)) (m ((c.tc : Thread Cert.InxRefIdeal.nD Cert.InxRefIdeal.τ).loc Cert.InxRefIdeal.main_arg1)) (m ((c.tc : Thread Cert.InxRefIdeal.nD Cert.InxRefIdeal.τ).loc Cert.InxRefIdeal.main_arg2)) (m ((c.tc : Thread Cert.InxRefIdeal.nD Cert.InxRefIdeal.τ).loc Cert.InxRefIdeal.main_arg3)) (m ((c.tc : Thread Cert.InxRefIdeal.nD Cert.InxRefIdeal.τ).loc Cert.InxRefIdeal.main_arg4)) (m ((c.tc : Thread Cert.InxRefIdeal.nD Cert.InxRefIdeal.τ).loc Cert.InxRefIdeal.main_arg5)) (m ((c.tc : Thread Cert.InxRefIdeal.nD Cert.InxRefIdeal.τ).loc Cert.InxRefIdeal.main_arg6)) (m ((c.tc : Thread Cert.InxRefIdeal.nD Cert.InxRefIdeal.τ).loc Cert.InxRefIdeal.main_arg7))).1 = (fun _ => 1#1)
    ∧ (Cert.Pre_finite_inx.fn (F := Ideal) (m ((c.tc : Thread Cert.InxRefIdeal.nD Cert.InxRefIdeal.τ).loc Cert.InxRefIdeal.main_arg0)) (m ((c.tc : Thread Cert.InxRefIdeal.nD Cert.InxRefIdeal.τ).loc Cert.InxRefIdeal.main_arg1)) (m ((c.tc : Thread Cert.InxRefIdeal.nD Cert.InxRefIdeal.τ).loc Cert.InxRefIdeal.main_arg2)) (m ((c.tc : Thread Cert.InxRefIdeal.nD Cert.InxRefIdeal.τ).loc Cert.InxRefIdeal.main_arg3)) (m ((c.tc : Thread Cert.InxRefIdeal.nD Cert.InxRefIdeal.τ).loc Cert.InxRefIdeal.main_arg4)) (m ((c.tc : Thread Cert.InxRefIdeal.nD Cert.InxRefIdeal.τ).loc Cert.InxRefIdeal.main_arg5)) (m ((c.tc : Thread Cert.InxRefIdeal.nD Cert.InxRefIdeal.τ).loc Cert.InxRefIdeal.main_arg6)) (m ((c.tc : Thread Cert.InxRefIdeal.nD Cert.InxRefIdeal.τ).loc Cert.InxRefIdeal.main_arg7))).2.1 = (fun _ => 1#1)
    ∧ (Cert.Pre_finite_inx.fn (F := Ideal) (m ((c.tc : Thread Cert.InxRefIdeal.nD Cert.InxRefIdeal.τ).loc Cert.InxRefIdeal.main_arg0)) (m ((c.tc : Thread Cert.InxRefIdeal.nD Cert.InxRefIdeal.τ).loc Cert.InxRefIdeal.main_arg1)) (m ((c.tc : Thread Cert.InxRefIdeal.nD Cert.InxRefIdeal.τ).loc Cert.InxRefIdeal.main_arg2)) (m ((c.tc : Thread Cert.InxRefIdeal.nD Cert.InxRefIdeal.τ).loc Cert.InxRefIdeal.main_arg3)) (m ((c.tc : Thread Cert.InxRefIdeal.nD Cert.InxRefIdeal.τ).loc Cert.InxRefIdeal.main_arg4)) (m ((c.tc : Thread Cert.InxRefIdeal.nD Cert.InxRefIdeal.τ).loc Cert.InxRefIdeal.main_arg5)) (m ((c.tc : Thread Cert.InxRefIdeal.nD Cert.InxRefIdeal.τ).loc Cert.InxRefIdeal.main_arg6)) (m ((c.tc : Thread Cert.InxRefIdeal.nD Cert.InxRefIdeal.τ).loc Cert.InxRefIdeal.main_arg7))).2.2.1 = (fun _ => 1#1)
    ∧ (Cert.Pre_finite_inx.fn (F := Ideal) (m ((c.tc : Thread Cert.InxRefIdeal.nD Cert.InxRefIdeal.τ).loc Cert.InxRefIdeal.main_arg0)) (m ((c.tc : Thread Cert.InxRefIdeal.nD Cert.InxRefIdeal.τ).loc Cert.InxRefIdeal.main_arg1)) (m ((c.tc : Thread Cert.InxRefIdeal.nD Cert.InxRefIdeal.τ).loc Cert.InxRefIdeal.main_arg2)) (m ((c.tc : Thread Cert.InxRefIdeal.nD Cert.InxRefIdeal.τ).loc Cert.InxRefIdeal.main_arg3)) (m ((c.tc : Thread Cert.InxRefIdeal.nD Cert.InxRefIdeal.τ).loc Cert.InxRefIdeal.main_arg4)) (m ((c.tc : Thread Cert.InxRefIdeal.nD Cert.InxRefIdeal.τ).loc Cert.InxRefIdeal.main_arg5)) (m ((c.tc : Thread Cert.InxRefIdeal.nD Cert.InxRefIdeal.τ).loc Cert.InxRefIdeal.main_arg6)) (m ((c.tc : Thread Cert.InxRefIdeal.nD Cert.InxRefIdeal.τ).loc Cert.InxRefIdeal.main_arg7))).2.2.2.1 = (fun _ => 1#1)
    ∧ (Cert.Pre_finite_inx.fn (F := Ideal) (m ((c.tc : Thread Cert.InxRefIdeal.nD Cert.InxRefIdeal.τ).loc Cert.InxRefIdeal.main_arg0)) (m ((c.tc : Thread Cert.InxRefIdeal.nD Cert.InxRefIdeal.τ).loc Cert.InxRefIdeal.main_arg1)) (m ((c.tc : Thread Cert.InxRefIdeal.nD Cert.InxRefIdeal.τ).loc Cert.InxRefIdeal.main_arg2)) (m ((c.tc : Thread Cert.InxRefIdeal.nD Cert.InxRefIdeal.τ).loc Cert.InxRefIdeal.main_arg3)) (m ((c.tc : Thread Cert.InxRefIdeal.nD Cert.InxRefIdeal.τ).loc Cert.InxRefIdeal.main_arg4)) (m ((c.tc : Thread Cert.InxRefIdeal.nD Cert.InxRefIdeal.τ).loc Cert.InxRefIdeal.main_arg5)) (m ((c.tc : Thread Cert.InxRefIdeal.nD Cert.InxRefIdeal.τ).loc Cert.InxRefIdeal.main_arg6)) (m ((c.tc : Thread Cert.InxRefIdeal.nD Cert.InxRefIdeal.τ).loc Cert.InxRefIdeal.main_arg7))).2.2.2.2.1 = (fun _ => 1#1)
    ∧ (Cert.Pre_finite_inx.fn (F := Ideal) (m ((c.tc : Thread Cert.InxRefIdeal.nD Cert.InxRefIdeal.τ).loc Cert.InxRefIdeal.main_arg0)) (m ((c.tc : Thread Cert.InxRefIdeal.nD Cert.InxRefIdeal.τ).loc Cert.InxRefIdeal.main_arg1)) (m ((c.tc : Thread Cert.InxRefIdeal.nD Cert.InxRefIdeal.τ).loc Cert.InxRefIdeal.main_arg2)) (m ((c.tc : Thread Cert.InxRefIdeal.nD Cert.InxRefIdeal.τ).loc Cert.InxRefIdeal.main_arg3)) (m ((c.tc : Thread Cert.InxRefIdeal.nD Cert.InxRefIdeal.τ).loc Cert.InxRefIdeal.main_arg4)) (m ((c.tc : Thread Cert.InxRefIdeal.nD Cert.InxRefIdeal.τ).loc Cert.InxRefIdeal.main_arg5)) (m ((c.tc : Thread Cert.InxRefIdeal.nD Cert.InxRefIdeal.τ).loc Cert.InxRefIdeal.main_arg6)) (m ((c.tc : Thread Cert.InxRefIdeal.nD Cert.InxRefIdeal.τ).loc Cert.InxRefIdeal.main_arg7))).2.2.2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_merge [hPre_finite_merge : Cert.Pre_finite_merge.Facts] (m : (ℓ : Loc Cert.MergeIdeal.nD Cert.MergeIdeal.τ Cert.MergeIdeal.sig) → Buf (Elt Ideal) ℓ) : Prop :=
  ∀ c : Dev Cert.MergeIdeal.nD,
    (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))).1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))).2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))).2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))).2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))).2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))).2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))).2.2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))).2.2.2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))).2.2.2.2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))).2.2.2.2.2.2.2.2.2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_merge [hPre_finite_merge : Cert.Pre_finite_merge.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11))).1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11))).2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11))).2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11))).2.2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11))).2.2.2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11))).2.2.2.2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11))).2.2.2.2.2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11))).2.2.2.2.2.2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11))).2.2.2.2.2.2.2.2.1 = (fun _ => 1#1)
    ∧ (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11))).2.2.2.2.2.2.2.2.2 = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).2.1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).2.2 = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_fwd [hPre_finite_fwd : Cert.Pre_finite_fwd.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))).1 = (fun _ => 1#1)
    ∧ (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))).2.1 = (fun _ => 1#1)
    ∧ (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))).2.2 = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_prep [hPre_finite_prep : Cert.Pre_finite_prep.Facts] (m : (ℓ : Loc Cert.PrepIdeal.nD Cert.PrepIdeal.τ Cert.PrepIdeal.sig) → Buf (Elt Ideal) ℓ) : Prop :=
  ∀ c : Dev Cert.PrepIdeal.nD,
    (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))).1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))).2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))).2.2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))).2.2.2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))).2.2.2.2 = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_finite_prep [hPre_finite_prep : Cert.Pre_finite_prep.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5))).1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5))).2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5))).2.2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5))).2.2.2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5))).2.2.2.2 = (fun _ => 1#1)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1)
      ∧ r.2.mem ((c.tc : Thread Cert.Rows.nD Cert.Rows.τ).loc Cert.Rows.main_arg2) = m ((c.tc : Thread Cert.Rows.nD Cert.Rows.τ).loc Cert.Rows.main_arg2)
      ∧ r.2.mem ((c.tc : Thread Cert.Rows.nD Cert.Rows.τ).loc Cert.Rows.main_arg3) = m ((c.tc : Thread Cert.Rows.nD Cert.Rows.τ).loc Cert.Rows.main_arg3)
      ∧ r.2.mem ((c.tc : Thread Cert.Rows.nD Cert.Rows.τ).loc Cert.Rows.main_arg4) = m ((c.tc : Thread Cert.Rows.nD Cert.Rows.τ).loc Cert.Rows.main_arg4))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
      ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
      ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4))
      ∧ r.2.sem = fun _ => 0)

def quiescent_RowsIdeal_pre_finite_rows [hRowsIdeal : Cert.RowsIdeal.Facts] [hPre_finite_rows : Cert.Pre_finite_rows.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal_finite_rows m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
      ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
      ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4))
      ∧ r.2.sem = fun _ => 0)

def quiescent_RowsRefIdeal [hRowsRefIdeal : Cert.RowsRefIdeal.Facts] : Prop :=
  ∀ (m : (ℓ : Loc Cert.RowsRefIdeal.nD Cert.RowsRefIdeal.τ Cert.RowsRefIdeal.sig) → Buf (Elt Ideal) ℓ) (g : Dev Cert.RowsRefIdeal.nD → PrngReg), Pre_RowsRefIdeal m →
    θ_run (Cert.RowsRefIdeal.defs (F := Ideal)) (onTc (τ := Cert.RowsRefIdeal.τ) (Cert.RowsRefIdeal.main (F := Ideal))) ⟨m, fun _ => 0, g⟩ (fun r => (∀ c : Dev Cert.RowsRefIdeal.nD,
      r.2.mem ((c.tc : Thread Cert.RowsRefIdeal.nD Cert.RowsRefIdeal.τ).loc Cert.RowsRefIdeal.main_arg0) = m ((c.tc : Thread Cert.RowsRefIdeal.nD Cert.RowsRefIdeal.τ).loc Cert.RowsRefIdeal.main_arg0)
      ∧ r.2.mem ((c.tc : Thread Cert.RowsRefIdeal.nD Cert.RowsRefIdeal.τ).loc Cert.RowsRefIdeal.main_arg1) = m ((c.tc : Thread Cert.RowsRefIdeal.nD Cert.RowsRefIdeal.τ).loc Cert.RowsRefIdeal.main_arg1)
      ∧ r.2.mem ((c.tc : Thread Cert.RowsRefIdeal.nD Cert.RowsRefIdeal.τ).loc Cert.RowsRefIdeal.main_arg2) = m ((c.tc : Thread Cert.RowsRefIdeal.nD Cert.RowsRefIdeal.τ).loc Cert.RowsRefIdeal.main_arg2)
      ∧ r.2.mem ((c.tc : Thread Cert.RowsRefIdeal.nD Cert.RowsRefIdeal.τ).loc Cert.RowsRefIdeal.main_arg3) = m ((c.tc : Thread Cert.RowsRefIdeal.nD Cert.RowsRefIdeal.τ).loc Cert.RowsRefIdeal.main_arg3)
      ∧ r.2.mem ((c.tc : Thread Cert.RowsRefIdeal.nD Cert.RowsRefIdeal.τ).loc Cert.RowsRefIdeal.main_arg4) = m ((c.tc : Thread Cert.RowsRefIdeal.nD Cert.RowsRefIdeal.τ).loc Cert.RowsRefIdeal.main_arg4))
      ∧ r.2.sem = fun _ => 0)

def quiescent_RowsRefIdeal_pre_finite_rows [hRowsRefIdeal : Cert.RowsRefIdeal.Facts] [hPre_finite_rows : Cert.Pre_finite_rows.Facts] : Prop :=
  ∀ (m : (ℓ : Loc Cert.RowsRefIdeal.nD Cert.RowsRefIdeal.τ Cert.RowsRefIdeal.sig) → Buf (Elt Ideal) ℓ) (g : Dev Cert.RowsRefIdeal.nD → PrngReg), Pre_RowsRefIdeal_finite_rows m →
    θ_run (Cert.RowsRefIdeal.defs (F := Ideal)) (onTc (τ := Cert.RowsRefIdeal.τ) (Cert.RowsRefIdeal.main (F := Ideal))) ⟨m, fun _ => 0, g⟩ (fun r => (∀ c : Dev Cert.RowsRefIdeal.nD,
      r.2.mem ((c.tc : Thread Cert.RowsRefIdeal.nD Cert.RowsRefIdeal.τ).loc Cert.RowsRefIdeal.main_arg0) = m ((c.tc : Thread Cert.RowsRefIdeal.nD Cert.RowsRefIdeal.τ).loc Cert.RowsRefIdeal.main_arg0)
      ∧ r.2.mem ((c.tc : Thread Cert.RowsRefIdeal.nD Cert.RowsRefIdeal.τ).loc Cert.RowsRefIdeal.main_arg1) = m ((c.tc : Thread Cert.RowsRefIdeal.nD Cert.RowsRefIdeal.τ).loc Cert.RowsRefIdeal.main_arg1)
      ∧ r.2.mem ((c.tc : Thread Cert.RowsRefIdeal.nD Cert.RowsRefIdeal.τ).loc Cert.RowsRefIdeal.main_arg2) = m ((c.tc : Thread Cert.RowsRefIdeal.nD Cert.RowsRefIdeal.τ).loc Cert.RowsRefIdeal.main_arg2)
      ∧ r.2.mem ((c.tc : Thread Cert.RowsRefIdeal.nD Cert.RowsRefIdeal.τ).loc Cert.RowsRefIdeal.main_arg3) = m ((c.tc : Thread Cert.RowsRefIdeal.nD Cert.RowsRefIdeal.τ).loc Cert.RowsRefIdeal.main_arg3)
      ∧ r.2.mem ((c.tc : Thread Cert.RowsRefIdeal.nD Cert.RowsRefIdeal.τ).loc Cert.RowsRefIdeal.main_arg4) = m ((c.tc : Thread Cert.RowsRefIdeal.nD Cert.RowsRefIdeal.τ).loc Cert.RowsRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5)
      ∧ r.2.mem ((c.tc : Thread Cert.Mla.nD Cert.Mla.τ).loc Cert.Mla.main_arg6) = m ((c.tc : Thread Cert.Mla.nD Cert.Mla.τ).loc Cert.Mla.main_arg6)
      ∧ r.2.mem ((c.tc : Thread Cert.Mla.nD Cert.Mla.τ).loc Cert.Mla.main_arg7) = m ((c.tc : Thread Cert.Mla.nD Cert.Mla.τ).loc Cert.Mla.main_arg7)
      ∧ r.2.mem ((c.tc : Thread Cert.Mla.nD Cert.Mla.τ).loc Cert.Mla.main_arg8) = m ((c.tc : Thread Cert.Mla.nD Cert.Mla.τ).loc Cert.Mla.main_arg8))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
      ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8))
      ∧ r.2.sem = fun _ => 0)

def quiescent_MlaIdeal_pre_finite_mla [hMlaIdeal : Cert.MlaIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_mla m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
      ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8))
      ∧ r.2.sem = fun _ => 0)

def quiescent_MlaRefIdeal_pre_finite_mla [hMlaRefIdeal : Cert.MlaRefIdeal.Facts] [hPre_finite_mla : Cert.Pre_finite_mla.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_mla m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8))
      ∧ r.2.sem = fun _ => 0)

def quiescent_Inx [hInx : Cert.Inx.Facts] : Prop :=
  ∀ (m : (ℓ : Loc Cert.Inx.nD Cert.Inx.τ Cert.Inx.sig) → Buf (Elt Bits) ℓ) (g : Dev Cert.Inx.nD → PrngReg), Pre_Inx m →
    θ_run (Cert.Inx.defs (F := Bits)) (onTc (τ := Cert.Inx.τ) (Cert.Inx.main (F := Bits))) ⟨m, fun _ => 0, g⟩ (fun r => (∀ c : Dev Cert.Inx.nD,
      r.2.mem ((c.tc : Thread Cert.Inx.nD Cert.Inx.τ).loc Cert.Inx.main_arg0) = m ((c.tc : Thread Cert.Inx.nD Cert.Inx.τ).loc Cert.Inx.main_arg0)
      ∧ r.2.mem ((c.tc : Thread Cert.Inx.nD Cert.Inx.τ).loc Cert.Inx.main_arg1) = m ((c.tc : Thread Cert.Inx.nD Cert.Inx.τ).loc Cert.Inx.main_arg1)
      ∧ r.2.mem ((c.tc : Thread Cert.Inx.nD Cert.Inx.τ).loc Cert.Inx.main_arg2) = m ((c.tc : Thread Cert.Inx.nD Cert.Inx.τ).loc Cert.Inx.main_arg2)
      ∧ r.2.mem ((c.tc : Thread Cert.Inx.nD Cert.Inx.τ).loc Cert.Inx.main_arg3) = m ((c.tc : Thread Cert.Inx.nD Cert.Inx.τ).loc Cert.Inx.main_arg3)
      ∧ r.2.mem ((c.tc : Thread Cert.Inx.nD Cert.Inx.τ).loc Cert.Inx.main_arg4) = m ((c.tc : Thread Cert.Inx.nD Cert.Inx.τ).loc Cert.Inx.main_arg4)
      ∧ r.2.mem ((c.tc : Thread Cert.Inx.nD Cert.Inx.τ).loc Cert.Inx.main_arg5) = m ((c.tc : Thread Cert.Inx.nD Cert.Inx.τ).loc Cert.Inx.main_arg5)
      ∧ r.2.mem ((c.tc : Thread Cert.Inx.nD Cert.Inx.τ).loc Cert.Inx.main_arg6) = m ((c.tc : Thread Cert.Inx.nD Cert.Inx.τ).loc Cert.Inx.main_arg6)
      ∧ r.2.mem ((c.tc : Thread Cert.Inx.nD Cert.Inx.τ).loc Cert.Inx.main_arg7) = m ((c.tc : Thread Cert.Inx.nD Cert.Inx.τ).loc Cert.Inx.main_arg7))
      ∧ r.2.sem = fun _ => 0)

def quiescent_InxIdeal [hInxIdeal : Cert.InxIdeal.Facts] : Prop :=
  ∀ (m : (ℓ : Loc Cert.InxIdeal.nD Cert.InxIdeal.τ Cert.InxIdeal.sig) → Buf (Elt Ideal) ℓ) (g : Dev Cert.InxIdeal.nD → PrngReg), Pre_InxIdeal m →
    θ_run (Cert.InxIdeal.defs (F := Ideal)) (onTc (τ := Cert.InxIdeal.τ) (Cert.InxIdeal.main (F := Ideal))) ⟨m, fun _ => 0, g⟩ (fun r => (∀ c : Dev Cert.InxIdeal.nD,
      r.2.mem ((c.tc : Thread Cert.InxIdeal.nD Cert.InxIdeal.τ).loc Cert.InxIdeal.main_arg0) = m ((c.tc : Thread Cert.InxIdeal.nD Cert.InxIdeal.τ).loc Cert.InxIdeal.main_arg0)
      ∧ r.2.mem ((c.tc : Thread Cert.InxIdeal.nD Cert.InxIdeal.τ).loc Cert.InxIdeal.main_arg1) = m ((c.tc : Thread Cert.InxIdeal.nD Cert.InxIdeal.τ).loc Cert.InxIdeal.main_arg1)
      ∧ r.2.mem ((c.tc : Thread Cert.InxIdeal.nD Cert.InxIdeal.τ).loc Cert.InxIdeal.main_arg2) = m ((c.tc : Thread Cert.InxIdeal.nD Cert.InxIdeal.τ).loc Cert.InxIdeal.main_arg2)
      ∧ r.2.mem ((c.tc : Thread Cert.InxIdeal.nD Cert.InxIdeal.τ).loc Cert.InxIdeal.main_arg3) = m ((c.tc : Thread Cert.InxIdeal.nD Cert.InxIdeal.τ).loc Cert.InxIdeal.main_arg3)
      ∧ r.2.mem ((c.tc : Thread Cert.InxIdeal.nD Cert.InxIdeal.τ).loc Cert.InxIdeal.main_arg4) = m ((c.tc : Thread Cert.InxIdeal.nD Cert.InxIdeal.τ).loc Cert.InxIdeal.main_arg4)
      ∧ r.2.mem ((c.tc : Thread Cert.InxIdeal.nD Cert.InxIdeal.τ).loc Cert.InxIdeal.main_arg5) = m ((c.tc : Thread Cert.InxIdeal.nD Cert.InxIdeal.τ).loc Cert.InxIdeal.main_arg5)
      ∧ r.2.mem ((c.tc : Thread Cert.InxIdeal.nD Cert.InxIdeal.τ).loc Cert.InxIdeal.main_arg6) = m ((c.tc : Thread Cert.InxIdeal.nD Cert.InxIdeal.τ).loc Cert.InxIdeal.main_arg6)
      ∧ r.2.mem ((c.tc : Thread Cert.InxIdeal.nD Cert.InxIdeal.τ).loc Cert.InxIdeal.main_arg7) = m ((c.tc : Thread Cert.InxIdeal.nD Cert.InxIdeal.τ).loc Cert.InxIdeal.main_arg7))
      ∧ r.2.sem = fun _ => 0)

def quiescent_InxIdeal_pre_finite_inx [hInxIdeal : Cert.InxIdeal.Facts] [hPre_finite_inx : Cert.Pre_finite_inx.Facts] : Prop :=
  ∀ (m : (ℓ : Loc Cert.InxIdeal.nD Cert.InxIdeal.τ Cert.InxIdeal.sig) → Buf (Elt Ideal) ℓ) (g : Dev Cert.InxIdeal.nD → PrngReg), Pre_InxIdeal_finite_inx m →
    θ_run (Cert.InxIdeal.defs (F := Ideal)) (onTc (τ := Cert.InxIdeal.τ) (Cert.InxIdeal.main (F := Ideal))) ⟨m, fun _ => 0, g⟩ (fun r => (∀ c : Dev Cert.InxIdeal.nD,
      r.2.mem ((c.tc : Thread Cert.InxIdeal.nD Cert.InxIdeal.τ).loc Cert.InxIdeal.main_arg0) = m ((c.tc : Thread Cert.InxIdeal.nD Cert.InxIdeal.τ).loc Cert.InxIdeal.main_arg0)
      ∧ r.2.mem ((c.tc : Thread Cert.InxIdeal.nD Cert.InxIdeal.τ).loc Cert.InxIdeal.main_arg1) = m ((c.tc : Thread Cert.InxIdeal.nD Cert.InxIdeal.τ).loc Cert.InxIdeal.main_arg1)
      ∧ r.2.mem ((c.tc : Thread Cert.InxIdeal.nD Cert.InxIdeal.τ).loc Cert.InxIdeal.main_arg2) = m ((c.tc : Thread Cert.InxIdeal.nD Cert.InxIdeal.τ).loc Cert.InxIdeal.main_arg2)
      ∧ r.2.mem ((c.tc : Thread Cert.InxIdeal.nD Cert.InxIdeal.τ).loc Cert.InxIdeal.main_arg3) = m ((c.tc : Thread Cert.InxIdeal.nD Cert.InxIdeal.τ).loc Cert.InxIdeal.main_arg3)
      ∧ r.2.mem ((c.tc : Thread Cert.InxIdeal.nD Cert.InxIdeal.τ).loc Cert.InxIdeal.main_arg4) = m ((c.tc : Thread Cert.InxIdeal.nD Cert.InxIdeal.τ).loc Cert.InxIdeal.main_arg4)
      ∧ r.2.mem ((c.tc : Thread Cert.InxIdeal.nD Cert.InxIdeal.τ).loc Cert.InxIdeal.main_arg5) = m ((c.tc : Thread Cert.InxIdeal.nD Cert.InxIdeal.τ).loc Cert.InxIdeal.main_arg5)
      ∧ r.2.mem ((c.tc : Thread Cert.InxIdeal.nD Cert.InxIdeal.τ).loc Cert.InxIdeal.main_arg6) = m ((c.tc : Thread Cert.InxIdeal.nD Cert.InxIdeal.τ).loc Cert.InxIdeal.main_arg6)
      ∧ r.2.mem ((c.tc : Thread Cert.InxIdeal.nD Cert.InxIdeal.τ).loc Cert.InxIdeal.main_arg7) = m ((c.tc : Thread Cert.InxIdeal.nD Cert.InxIdeal.τ).loc Cert.InxIdeal.main_arg7))
      ∧ r.2.sem = fun _ => 0)

def quiescent_InxRefIdeal [hInxRefIdeal : Cert.InxRefIdeal.Facts] : Prop :=
  ∀ (m : (ℓ : Loc Cert.InxRefIdeal.nD Cert.InxRefIdeal.τ Cert.InxRefIdeal.sig) → Buf (Elt Ideal) ℓ) (g : Dev Cert.InxRefIdeal.nD → PrngReg), Pre_InxRefIdeal m →
    θ_run (Cert.InxRefIdeal.defs (F := Ideal)) (onTc (τ := Cert.InxRefIdeal.τ) (Cert.InxRefIdeal.main (F := Ideal))) ⟨m, fun _ => 0, g⟩ (fun r => (∀ c : Dev Cert.InxRefIdeal.nD,
      r.2.mem ((c.tc : Thread Cert.InxRefIdeal.nD Cert.InxRefIdeal.τ).loc Cert.InxRefIdeal.main_arg0) = m ((c.tc : Thread Cert.InxRefIdeal.nD Cert.InxRefIdeal.τ).loc Cert.InxRefIdeal.main_arg0)
      ∧ r.2.mem ((c.tc : Thread Cert.InxRefIdeal.nD Cert.InxRefIdeal.τ).loc Cert.InxRefIdeal.main_arg1) = m ((c.tc : Thread Cert.InxRefIdeal.nD Cert.InxRefIdeal.τ).loc Cert.InxRefIdeal.main_arg1)
      ∧ r.2.mem ((c.tc : Thread Cert.InxRefIdeal.nD Cert.InxRefIdeal.τ).loc Cert.InxRefIdeal.main_arg2) = m ((c.tc : Thread Cert.InxRefIdeal.nD Cert.InxRefIdeal.τ).loc Cert.InxRefIdeal.main_arg2)
      ∧ r.2.mem ((c.tc : Thread Cert.InxRefIdeal.nD Cert.InxRefIdeal.τ).loc Cert.InxRefIdeal.main_arg3) = m ((c.tc : Thread Cert.InxRefIdeal.nD Cert.InxRefIdeal.τ).loc Cert.InxRefIdeal.main_arg3)
      ∧ r.2.mem ((c.tc : Thread Cert.InxRefIdeal.nD Cert.InxRefIdeal.τ).loc Cert.InxRefIdeal.main_arg4) = m ((c.tc : Thread Cert.InxRefIdeal.nD Cert.InxRefIdeal.τ).loc Cert.InxRefIdeal.main_arg4)
      ∧ r.2.mem ((c.tc : Thread Cert.InxRefIdeal.nD Cert.InxRefIdeal.τ).loc Cert.InxRefIdeal.main_arg5) = m ((c.tc : Thread Cert.InxRefIdeal.nD Cert.InxRefIdeal.τ).loc Cert.InxRefIdeal.main_arg5)
      ∧ r.2.mem ((c.tc : Thread Cert.InxRefIdeal.nD Cert.InxRefIdeal.τ).loc Cert.InxRefIdeal.main_arg6) = m ((c.tc : Thread Cert.InxRefIdeal.nD Cert.InxRefIdeal.τ).loc Cert.InxRefIdeal.main_arg6)
      ∧ r.2.mem ((c.tc : Thread Cert.InxRefIdeal.nD Cert.InxRefIdeal.τ).loc Cert.InxRefIdeal.main_arg7) = m ((c.tc : Thread Cert.InxRefIdeal.nD Cert.InxRefIdeal.τ).loc Cert.InxRefIdeal.main_arg7))
      ∧ r.2.sem = fun _ => 0)

def quiescent_InxRefIdeal_pre_finite_inx [hInxRefIdeal : Cert.InxRefIdeal.Facts] [hPre_finite_inx : Cert.Pre_finite_inx.Facts] : Prop :=
  ∀ (m : (ℓ : Loc Cert.InxRefIdeal.nD Cert.InxRefIdeal.τ Cert.InxRefIdeal.sig) → Buf (Elt Ideal) ℓ) (g : Dev Cert.InxRefIdeal.nD → PrngReg), Pre_InxRefIdeal_finite_inx m →
    θ_run (Cert.InxRefIdeal.defs (F := Ideal)) (onTc (τ := Cert.InxRefIdeal.τ) (Cert.InxRefIdeal.main (F := Ideal))) ⟨m, fun _ => 0, g⟩ (fun r => (∀ c : Dev Cert.InxRefIdeal.nD,
      r.2.mem ((c.tc : Thread Cert.InxRefIdeal.nD Cert.InxRefIdeal.τ).loc Cert.InxRefIdeal.main_arg0) = m ((c.tc : Thread Cert.InxRefIdeal.nD Cert.InxRefIdeal.τ).loc Cert.InxRefIdeal.main_arg0)
      ∧ r.2.mem ((c.tc : Thread Cert.InxRefIdeal.nD Cert.InxRefIdeal.τ).loc Cert.InxRefIdeal.main_arg1) = m ((c.tc : Thread Cert.InxRefIdeal.nD Cert.InxRefIdeal.τ).loc Cert.InxRefIdeal.main_arg1)
      ∧ r.2.mem ((c.tc : Thread Cert.InxRefIdeal.nD Cert.InxRefIdeal.τ).loc Cert.InxRefIdeal.main_arg2) = m ((c.tc : Thread Cert.InxRefIdeal.nD Cert.InxRefIdeal.τ).loc Cert.InxRefIdeal.main_arg2)
      ∧ r.2.mem ((c.tc : Thread Cert.InxRefIdeal.nD Cert.InxRefIdeal.τ).loc Cert.InxRefIdeal.main_arg3) = m ((c.tc : Thread Cert.InxRefIdeal.nD Cert.InxRefIdeal.τ).loc Cert.InxRefIdeal.main_arg3)
      ∧ r.2.mem ((c.tc : Thread Cert.InxRefIdeal.nD Cert.InxRefIdeal.τ).loc Cert.InxRefIdeal.main_arg4) = m ((c.tc : Thread Cert.InxRefIdeal.nD Cert.InxRefIdeal.τ).loc Cert.InxRefIdeal.main_arg4)
      ∧ r.2.mem ((c.tc : Thread Cert.InxRefIdeal.nD Cert.InxRefIdeal.τ).loc Cert.InxRefIdeal.main_arg5) = m ((c.tc : Thread Cert.InxRefIdeal.nD Cert.InxRefIdeal.τ).loc Cert.InxRefIdeal.main_arg5)
      ∧ r.2.mem ((c.tc : Thread Cert.InxRefIdeal.nD Cert.InxRefIdeal.τ).loc Cert.InxRefIdeal.main_arg6) = m ((c.tc : Thread Cert.InxRefIdeal.nD Cert.InxRefIdeal.τ).loc Cert.InxRefIdeal.main_arg6)
      ∧ r.2.mem ((c.tc : Thread Cert.InxRefIdeal.nD Cert.InxRefIdeal.τ).loc Cert.InxRefIdeal.main_arg7) = m ((c.tc : Thread Cert.InxRefIdeal.nD Cert.InxRefIdeal.τ).loc Cert.InxRefIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeIdeal_pre_finite_merge [hMergeIdeal : Cert.MergeIdeal.Facts] [hPre_finite_merge : Cert.Pre_finite_merge.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_merge m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_MergeRefIdeal_pre_finite_merge [hMergeRefIdeal : Cert.MergeRefIdeal.Facts] [hPre_finite_merge : Cert.Pre_finite_merge.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_merge m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_finite_fwd [hFwdRefIdeal : Cert.FwdRefIdeal.Facts] [hPre_finite_fwd : Cert.Pre_finite_fwd.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_fwd m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_PrepIdeal_pre_finite_prep [hPrepIdeal : Cert.PrepIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_prep m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5))
      ∧ r.2.sem = fun _ => 0)

def quiescent_PrepRefIdeal_pre_finite_prep [hPrepRefIdeal : Cert.PrepRefIdeal.Facts] [hPre_finite_prep : Cert.Pre_finite_prep.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_finite_prep m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5))
      ∧ r.2.sem = fun _ => 0)

def preserves_Rows_RowsIdeal : Prop :=
  True

def algebraic_RowsIdeal_RowsRefIdeal_pre_finite_rows [hRowsIdeal : Cert.RowsIdeal.Facts] [hRowsRefIdeal : Cert.RowsRefIdeal.Facts] [hPre_finite_rows : Cert.Pre_finite_rows.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsRefIdeal.nD Cert.RowsRefIdeal.τ Cert.RowsRefIdeal.sig) → Buf (Elt Ideal) ℓ) (g' : Dev Cert.RowsRefIdeal.nD → PrngReg), Pre_RowsIdeal_finite_rows m →
    (∀ c : Dev Cert.RowsIdeal.nD,
      m' ((c.tc : Thread Cert.RowsRefIdeal.nD Cert.RowsRefIdeal.τ).loc Cert.RowsRefIdeal.main_arg0) = m ((c.tc : Thread Cert.RowsIdeal.nD Cert.RowsIdeal.τ).loc Cert.RowsIdeal.main_arg0)
      ∧ m' ((c.tc : Thread Cert.RowsRefIdeal.nD Cert.RowsRefIdeal.τ).loc Cert.RowsRefIdeal.main_arg1) = m ((c.tc : Thread Cert.RowsIdeal.nD Cert.RowsIdeal.τ).loc Cert.RowsIdeal.main_arg1)
      ∧ m' ((c.tc : Thread Cert.RowsRefIdeal.nD Cert.RowsRefIdeal.τ).loc Cert.RowsRefIdeal.main_arg2) = m ((c.tc : Thread Cert.RowsIdeal.nD Cert.RowsIdeal.τ).loc Cert.RowsIdeal.main_arg2)
      ∧ m' ((c.tc : Thread Cert.RowsRefIdeal.nD Cert.RowsRefIdeal.τ).loc Cert.RowsRefIdeal.main_arg3) = m ((c.tc : Thread Cert.RowsIdeal.nD Cert.RowsIdeal.τ).loc Cert.RowsIdeal.main_arg3)
      ∧ m' ((c.tc : Thread Cert.RowsRefIdeal.nD Cert.RowsRefIdeal.τ).loc Cert.RowsRefIdeal.main_arg4) = m ((c.tc : Thread Cert.RowsIdeal.nD Cert.RowsIdeal.τ).loc Cert.RowsIdeal.main_arg4)) →
    ∃ (v0 : (c : Dev Cert.RowsIdeal.nD) → Buf (Elt Ideal) ((c.tc : Thread Cert.RowsIdeal.nD Cert.RowsIdeal.τ).loc Cert.RowsIdeal.main_v5_0)) (v1 : (c : Dev Cert.RowsIdeal.nD) → Buf (Elt Ideal) ((c.tc : Thread Cert.RowsIdeal.nD Cert.RowsIdeal.τ).loc Cert.RowsIdeal.main_v5_1)) (v2 : (c : Dev Cert.RowsIdeal.nD) → Buf (Elt Ideal) ((c.tc : Thread Cert.RowsIdeal.nD Cert.RowsIdeal.τ).loc Cert.RowsIdeal.main_v5_2)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v5_0) = v0 c
          ∧ r.2.mem ((c.tc : Thread Cert.RowsIdeal.nD Cert.RowsIdeal.τ).loc Cert.RowsIdeal.main_v5_1) = v1 c
          ∧ r.2.mem ((c.tc : Thread Cert.RowsIdeal.nD Cert.RowsIdeal.τ).loc Cert.RowsIdeal.main_v5_2) = v2 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
          ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
          ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
          ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4))
      ∧ θ_run (Cert.RowsRefIdeal.defs (F := Ideal)) (onTc (τ := Cert.RowsRefIdeal.τ) (Cert.RowsRefIdeal.main (F := Ideal))) ⟨m', fun _ => 0, g'⟩ (fun r => ∀ c : Dev Cert.RowsRefIdeal.nD,
          r.2.mem ((c.tc : Thread Cert.RowsRefIdeal.nD Cert.RowsRefIdeal.τ).loc Cert.RowsRefIdeal.main_v59) = v0 c
          ∧ r.2.mem ((c.tc : Thread Cert.RowsRefIdeal.nD Cert.RowsRefIdeal.τ).loc Cert.RowsRefIdeal.main_v60) = v1 c
          ∧ r.2.mem ((c.tc : Thread Cert.RowsRefIdeal.nD Cert.RowsRefIdeal.τ).loc Cert.RowsRefIdeal.main_v62) = v2 c
          ∧ r.2.mem ((c.tc : Thread Cert.RowsRefIdeal.nD Cert.RowsRefIdeal.τ).loc Cert.RowsRefIdeal.main_arg0) = m' ((c.tc : Thread Cert.RowsRefIdeal.nD Cert.RowsRefIdeal.τ).loc Cert.RowsRefIdeal.main_arg0)
          ∧ r.2.mem ((c.tc : Thread Cert.RowsRefIdeal.nD Cert.RowsRefIdeal.τ).loc Cert.RowsRefIdeal.main_arg1) = m' ((c.tc : Thread Cert.RowsRefIdeal.nD Cert.RowsRefIdeal.τ).loc Cert.RowsRefIdeal.main_arg1)
          ∧ r.2.mem ((c.tc : Thread Cert.RowsRefIdeal.nD Cert.RowsRefIdeal.τ).loc Cert.RowsRefIdeal.main_arg2) = m' ((c.tc : Thread Cert.RowsRefIdeal.nD Cert.RowsRefIdeal.τ).loc Cert.RowsRefIdeal.main_arg2)
          ∧ r.2.mem ((c.tc : Thread Cert.RowsRefIdeal.nD Cert.RowsRefIdeal.τ).loc Cert.RowsRefIdeal.main_arg3) = m' ((c.tc : Thread Cert.RowsRefIdeal.nD Cert.RowsRefIdeal.τ).loc Cert.RowsRefIdeal.main_arg3)
          ∧ r.2.mem ((c.tc : Thread Cert.RowsRefIdeal.nD Cert.RowsRefIdeal.τ).loc Cert.RowsRefIdeal.main_arg4) = m' ((c.tc : Thread Cert.RowsRefIdeal.nD Cert.RowsRefIdeal.τ).loc Cert.RowsRefIdeal.main_arg4))

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v32_0)) (v1 : (c : Dev Cert.AttnIdeal.nD) → Buf (Elt Ideal) ((c.tc : Thread Cert.AttnIdeal.nD Cert.AttnIdeal.τ).loc Cert.AttnIdeal.main_v32_1)) (v2 : (c : Dev Cert.AttnIdeal.nD) → Buf (Elt Ideal) ((c.tc : Thread Cert.AttnIdeal.nD Cert.AttnIdeal.τ).loc Cert.AttnIdeal.main_v32_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v32_0) = v0 c
          ∧ r.2.mem ((c.tc : Thread Cert.AttnIdeal.nD Cert.AttnIdeal.τ).loc Cert.AttnIdeal.main_v32_1) = v1 c
          ∧ r.2.mem ((c.tc : Thread Cert.AttnIdeal.nD Cert.AttnIdeal.τ).loc Cert.AttnIdeal.main_v32_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v59) = v0 c
          ∧ r.2.mem ((c.tc : Thread Cert.AttnRefIdeal.nD Cert.AttnRefIdeal.τ).loc Cert.AttnRefIdeal.main_v58) = v1 c
          ∧ r.2.mem ((c.tc : Thread Cert.AttnRefIdeal.nD Cert.AttnRefIdeal.τ).loc Cert.AttnRefIdeal.main_v44) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Mla_MlaIdeal : Prop :=
  True

def algebraic_MlaIdeal_MlaRefIdeal_pre_finite_mla [hMlaIdeal : Cert.MlaIdeal.Facts] [hMlaRefIdeal : Cert.MlaRefIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_mla m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)
      ∧ m' ((c.tc : Thread Cert.MlaRefIdeal.nD Cert.MlaRefIdeal.τ).loc Cert.MlaRefIdeal.main_arg6) = m ((c.tc : Thread Cert.MlaIdeal.nD Cert.MlaIdeal.τ).loc Cert.MlaIdeal.main_arg6)
      ∧ m' ((c.tc : Thread Cert.MlaRefIdeal.nD Cert.MlaRefIdeal.τ).loc Cert.MlaRefIdeal.main_arg7) = m ((c.tc : Thread Cert.MlaIdeal.nD Cert.MlaIdeal.τ).loc Cert.MlaIdeal.main_arg7)
      ∧ m' ((c.tc : Thread Cert.MlaRefIdeal.nD Cert.MlaRefIdeal.τ).loc Cert.MlaRefIdeal.main_arg8) = m ((c.tc : Thread Cert.MlaIdeal.nD Cert.MlaIdeal.τ).loc Cert.MlaIdeal.main_arg8)) →
    ∃ (v0 : (c : Dev Cert.MlaIdeal.nD) → Buf (Elt Ideal) ((c.tc : Thread Cert.MlaIdeal.nD Cert.MlaIdeal.τ).loc Cert.MlaIdeal.main_v19_0)) (v1 : (c : Dev Cert.MlaIdeal.nD) → Buf (Elt Ideal) ((c.tc : Thread Cert.MlaIdeal.nD Cert.MlaIdeal.τ).loc Cert.MlaIdeal.main_v19_1)) (v2 : (c : Dev Cert.MlaIdeal.nD) → Buf (Elt Ideal) ((c.tc : Thread Cert.MlaIdeal.nD Cert.MlaIdeal.τ).loc Cert.MlaIdeal.main_v19_2)) (v3 : (c : Dev Cert.MlaIdeal.nD) → Buf (Elt Ideal) ((c.tc : Thread Cert.MlaIdeal.nD Cert.MlaIdeal.τ).loc Cert.MlaIdeal.main_v19_3)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v19_0) = v0 c
          ∧ r.2.mem ((c.tc : Thread Cert.MlaIdeal.nD Cert.MlaIdeal.τ).loc Cert.MlaIdeal.main_v19_1) = v1 c
          ∧ r.2.mem ((c.tc : Thread Cert.MlaIdeal.nD Cert.MlaIdeal.τ).loc Cert.MlaIdeal.main_v19_2) = v2 c
          ∧ r.2.mem ((c.tc : Thread Cert.MlaIdeal.nD Cert.MlaIdeal.τ).loc Cert.MlaIdeal.main_v19_3) = v3 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
          ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
          ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
          ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v184) = v0 c
          ∧ r.2.mem ((c.tc : Thread Cert.MlaRefIdeal.nD Cert.MlaRefIdeal.τ).loc Cert.MlaRefIdeal.main_v161) = v1 c
          ∧ r.2.mem ((c.tc : Thread Cert.MlaRefIdeal.nD Cert.MlaRefIdeal.τ).loc Cert.MlaRefIdeal.main_v135) = v2 c
          ∧ r.2.mem ((c.tc : Thread Cert.MlaRefIdeal.nD Cert.MlaRefIdeal.τ).loc Cert.MlaRefIdeal.main_v186) = v3 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5)
          ∧ r.2.mem ((c.tc : Thread Cert.MlaRefIdeal.nD Cert.MlaRefIdeal.τ).loc Cert.MlaRefIdeal.main_arg6) = m' ((c.tc : Thread Cert.MlaRefIdeal.nD Cert.MlaRefIdeal.τ).loc Cert.MlaRefIdeal.main_arg6)
          ∧ r.2.mem ((c.tc : Thread Cert.MlaRefIdeal.nD Cert.MlaRefIdeal.τ).loc Cert.MlaRefIdeal.main_arg7) = m' ((c.tc : Thread Cert.MlaRefIdeal.nD Cert.MlaRefIdeal.τ).loc Cert.MlaRefIdeal.main_arg7)
          ∧ r.2.mem ((c.tc : Thread Cert.MlaRefIdeal.nD Cert.MlaRefIdeal.τ).loc Cert.MlaRefIdeal.main_arg8) = m' ((c.tc : Thread Cert.MlaRefIdeal.nD Cert.MlaRefIdeal.τ).loc Cert.MlaRefIdeal.main_arg8))

def preserves_Inx_InxIdeal : Prop :=
  True

def algebraic_InxIdeal_InxRefIdeal_pre_finite_inx [hInxIdeal : Cert.InxIdeal.Facts] [hInxRefIdeal : Cert.InxRefIdeal.Facts] [hPre_finite_inx : Cert.Pre_finite_inx.Facts] : Prop :=
  ∀ (m : (ℓ : Loc Cert.InxIdeal.nD Cert.InxIdeal.τ Cert.InxIdeal.sig) → Buf (Elt Ideal) ℓ) (g : Dev Cert.InxIdeal.nD → PrngReg)
    (m' : (ℓ : Loc Cert.InxRefIdeal.nD Cert.InxRefIdeal.τ Cert.InxRefIdeal.sig) → Buf (Elt Ideal) ℓ) (g' : Dev Cert.InxRefIdeal.nD → PrngReg), Pre_InxIdeal_finite_inx m →
    (∀ c : Dev Cert.InxIdeal.nD,
      m' ((c.tc : Thread Cert.InxRefIdeal.nD Cert.InxRefIdeal.τ).loc Cert.InxRefIdeal.main_arg0) = m ((c.tc : Thread Cert.InxIdeal.nD Cert.InxIdeal.τ).loc Cert.InxIdeal.main_arg0)
      ∧ m' ((c.tc : Thread Cert.InxRefIdeal.nD Cert.InxRefIdeal.τ).loc Cert.InxRefIdeal.main_arg1) = m ((c.tc : Thread Cert.InxIdeal.nD Cert.InxIdeal.τ).loc Cert.InxIdeal.main_arg1)
      ∧ m' ((c.tc : Thread Cert.InxRefIdeal.nD Cert.InxRefIdeal.τ).loc Cert.InxRefIdeal.main_arg2) = m ((c.tc : Thread Cert.InxIdeal.nD Cert.InxIdeal.τ).loc Cert.InxIdeal.main_arg2)
      ∧ m' ((c.tc : Thread Cert.InxRefIdeal.nD Cert.InxRefIdeal.τ).loc Cert.InxRefIdeal.main_arg3) = m ((c.tc : Thread Cert.InxIdeal.nD Cert.InxIdeal.τ).loc Cert.InxIdeal.main_arg3)
      ∧ m' ((c.tc : Thread Cert.InxRefIdeal.nD Cert.InxRefIdeal.τ).loc Cert.InxRefIdeal.main_arg4) = m ((c.tc : Thread Cert.InxIdeal.nD Cert.InxIdeal.τ).loc Cert.InxIdeal.main_arg4)
      ∧ m' ((c.tc : Thread Cert.InxRefIdeal.nD Cert.InxRefIdeal.τ).loc Cert.InxRefIdeal.main_arg5) = m ((c.tc : Thread Cert.InxIdeal.nD Cert.InxIdeal.τ).loc Cert.InxIdeal.main_arg5)
      ∧ m' ((c.tc : Thread Cert.InxRefIdeal.nD Cert.InxRefIdeal.τ).loc Cert.InxRefIdeal.main_arg6) = m ((c.tc : Thread Cert.InxIdeal.nD Cert.InxIdeal.τ).loc Cert.InxIdeal.main_arg6)
      ∧ m' ((c.tc : Thread Cert.InxRefIdeal.nD Cert.InxRefIdeal.τ).loc Cert.InxRefIdeal.main_arg7) = m ((c.tc : Thread Cert.InxIdeal.nD Cert.InxIdeal.τ).loc Cert.InxIdeal.main_arg7)) →
    ∃ (v0 : (c : Dev Cert.InxIdeal.nD) → Buf (Elt Ideal) ((c.tc : Thread Cert.InxIdeal.nD Cert.InxIdeal.τ).loc Cert.InxIdeal.main_v18_0)) (v1 : (c : Dev Cert.InxIdeal.nD) → Buf (Elt Ideal) ((c.tc : Thread Cert.InxIdeal.nD Cert.InxIdeal.τ).loc Cert.InxIdeal.main_v18_1)),
      θ_run (Cert.InxIdeal.defs (F := Ideal)) (onTc (τ := Cert.InxIdeal.τ) (Cert.InxIdeal.main (F := Ideal))) ⟨m, fun _ => 0, g⟩ (fun r => ∀ c : Dev Cert.InxIdeal.nD,
          r.2.mem ((c.tc : Thread Cert.InxIdeal.nD Cert.InxIdeal.τ).loc Cert.InxIdeal.main_v18_0) = v0 c
          ∧ r.2.mem ((c.tc : Thread Cert.InxIdeal.nD Cert.InxIdeal.τ).loc Cert.InxIdeal.main_v18_1) = v1 c
          ∧ r.2.mem ((c.tc : Thread Cert.InxIdeal.nD Cert.InxIdeal.τ).loc Cert.InxIdeal.main_arg0) = m ((c.tc : Thread Cert.InxIdeal.nD Cert.InxIdeal.τ).loc Cert.InxIdeal.main_arg0)
          ∧ r.2.mem ((c.tc : Thread Cert.InxIdeal.nD Cert.InxIdeal.τ).loc Cert.InxIdeal.main_arg1) = m ((c.tc : Thread Cert.InxIdeal.nD Cert.InxIdeal.τ).loc Cert.InxIdeal.main_arg1)
          ∧ r.2.mem ((c.tc : Thread Cert.InxIdeal.nD Cert.InxIdeal.τ).loc Cert.InxIdeal.main_arg2) = m ((c.tc : Thread Cert.InxIdeal.nD Cert.InxIdeal.τ).loc Cert.InxIdeal.main_arg2)
          ∧ r.2.mem ((c.tc : Thread Cert.InxIdeal.nD Cert.InxIdeal.τ).loc Cert.InxIdeal.main_arg3) = m ((c.tc : Thread Cert.InxIdeal.nD Cert.InxIdeal.τ).loc Cert.InxIdeal.main_arg3)
          ∧ r.2.mem ((c.tc : Thread Cert.InxIdeal.nD Cert.InxIdeal.τ).loc Cert.InxIdeal.main_arg4) = m ((c.tc : Thread Cert.InxIdeal.nD Cert.InxIdeal.τ).loc Cert.InxIdeal.main_arg4)
          ∧ r.2.mem ((c.tc : Thread Cert.InxIdeal.nD Cert.InxIdeal.τ).loc Cert.InxIdeal.main_arg5) = m ((c.tc : Thread Cert.InxIdeal.nD Cert.InxIdeal.τ).loc Cert.InxIdeal.main_arg5)
          ∧ r.2.mem ((c.tc : Thread Cert.InxIdeal.nD Cert.InxIdeal.τ).loc Cert.InxIdeal.main_arg6) = m ((c.tc : Thread Cert.InxIdeal.nD Cert.InxIdeal.τ).loc Cert.InxIdeal.main_arg6)
          ∧ r.2.mem ((c.tc : Thread Cert.InxIdeal.nD Cert.InxIdeal.τ).loc Cert.InxIdeal.main_arg7) = m ((c.tc : Thread Cert.InxIdeal.nD Cert.InxIdeal.τ).loc Cert.InxIdeal.main_arg7))
      ∧ θ_run (Cert.InxRefIdeal.defs (F := Ideal)) (onTc (τ := Cert.InxRefIdeal.τ) (Cert.InxRefIdeal.main (F := Ideal))) ⟨m', fun _ => 0, g'⟩ (fun r => ∀ c : Dev Cert.InxRefIdeal.nD,
          r.2.mem ((c.tc : Thread Cert.InxRefIdeal.nD Cert.InxRefIdeal.τ).loc Cert.InxRefIdeal.main_v49) = v0 c
          ∧ r.2.mem ((c.tc : Thread Cert.InxRefIdeal.nD Cert.InxRefIdeal.τ).loc Cert.InxRefIdeal.main_v51) = v1 c
          ∧ r.2.mem ((c.tc : Thread Cert.InxRefIdeal.nD Cert.InxRefIdeal.τ).loc Cert.InxRefIdeal.main_arg0) = m' ((c.tc : Thread Cert.InxRefIdeal.nD Cert.InxRefIdeal.τ).loc Cert.InxRefIdeal.main_arg0)
          ∧ r.2.mem ((c.tc : Thread Cert.InxRefIdeal.nD Cert.InxRefIdeal.τ).loc Cert.InxRefIdeal.main_arg1) = m' ((c.tc : Thread Cert.InxRefIdeal.nD Cert.InxRefIdeal.τ).loc Cert.InxRefIdeal.main_arg1)
          ∧ r.2.mem ((c.tc : Thread Cert.InxRefIdeal.nD Cert.InxRefIdeal.τ).loc Cert.InxRefIdeal.main_arg2) = m' ((c.tc : Thread Cert.InxRefIdeal.nD Cert.InxRefIdeal.τ).loc Cert.InxRefIdeal.main_arg2)
          ∧ r.2.mem ((c.tc : Thread Cert.InxRefIdeal.nD Cert.InxRefIdeal.τ).loc Cert.InxRefIdeal.main_arg3) = m' ((c.tc : Thread Cert.InxRefIdeal.nD Cert.InxRefIdeal.τ).loc Cert.InxRefIdeal.main_arg3)
          ∧ r.2.mem ((c.tc : Thread Cert.InxRefIdeal.nD Cert.InxRefIdeal.τ).loc Cert.InxRefIdeal.main_arg4) = m' ((c.tc : Thread Cert.InxRefIdeal.nD Cert.InxRefIdeal.τ).loc Cert.InxRefIdeal.main_arg4)
          ∧ r.2.mem ((c.tc : Thread Cert.InxRefIdeal.nD Cert.InxRefIdeal.τ).loc Cert.InxRefIdeal.main_arg5) = m' ((c.tc : Thread Cert.InxRefIdeal.nD Cert.InxRefIdeal.τ).loc Cert.InxRefIdeal.main_arg5)
          ∧ r.2.mem ((c.tc : Thread Cert.InxRefIdeal.nD Cert.InxRefIdeal.τ).loc Cert.InxRefIdeal.main_arg6) = m' ((c.tc : Thread Cert.InxRefIdeal.nD Cert.InxRefIdeal.τ).loc Cert.InxRefIdeal.main_arg6)
          ∧ r.2.mem ((c.tc : Thread Cert.InxRefIdeal.nD Cert.InxRefIdeal.τ).loc Cert.InxRefIdeal.main_arg7) = m' ((c.tc : Thread Cert.InxRefIdeal.nD Cert.InxRefIdeal.τ).loc Cert.InxRefIdeal.main_arg7))

def preserves_Merge_MergeIdeal : Prop :=
  True

def algebraic_MergeIdeal_MergeRefIdeal_pre_finite_merge [hMergeIdeal : Cert.MergeIdeal.Facts] [hMergeRefIdeal : Cert.MergeRefIdeal.Facts] [hPre_finite_merge : Cert.Pre_finite_merge.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_merge m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v16_0)) (v1 : (c : Dev Cert.MergeIdeal.nD) → Buf (Elt Ideal) ((c.tc : Thread Cert.MergeIdeal.nD Cert.MergeIdeal.τ).loc Cert.MergeIdeal.main_v16_1)) (v2 : (c : Dev Cert.MergeIdeal.nD) → Buf (Elt Ideal) ((c.tc : Thread Cert.MergeIdeal.nD Cert.MergeIdeal.τ).loc Cert.MergeIdeal.main_v16_2)) (v3 : (c : Dev Cert.MergeIdeal.nD) → Buf (Elt Ideal) ((c.tc : Thread Cert.MergeIdeal.nD Cert.MergeIdeal.τ).loc Cert.MergeIdeal.main_v16_3)) (v4 : (c : Dev Cert.MergeIdeal.nD) → Buf (Elt Ideal) ((c.tc : Thread Cert.MergeIdeal.nD Cert.MergeIdeal.τ).loc Cert.MergeIdeal.main_v16_4)) (v5 : (c : Dev Cert.MergeIdeal.nD) → Buf (Elt Ideal) ((c.tc : Thread Cert.MergeIdeal.nD Cert.MergeIdeal.τ).loc Cert.MergeIdeal.main_v16_6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16_0) = v0 c
          ∧ r.2.mem ((c.tc : Thread Cert.MergeIdeal.nD Cert.MergeIdeal.τ).loc Cert.MergeIdeal.main_v16_1) = v1 c
          ∧ r.2.mem ((c.tc : Thread Cert.MergeIdeal.nD Cert.MergeIdeal.τ).loc Cert.MergeIdeal.main_v16_2) = v2 c
          ∧ r.2.mem ((c.tc : Thread Cert.MergeIdeal.nD Cert.MergeIdeal.τ).loc Cert.MergeIdeal.main_v16_3) = v3 c
          ∧ r.2.mem ((c.tc : Thread Cert.MergeIdeal.nD Cert.MergeIdeal.τ).loc Cert.MergeIdeal.main_v16_4) = v4 c
          ∧ r.2.mem ((c.tc : Thread Cert.MergeIdeal.nD Cert.MergeIdeal.τ).loc Cert.MergeIdeal.main_v16_6) = v5 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v99) = v0 c
          ∧ r.2.mem ((c.tc : Thread Cert.MergeRefIdeal.nD Cert.MergeRefIdeal.τ).loc Cert.MergeRefIdeal.main_v104) = v1 c
          ∧ r.2.mem ((c.tc : Thread Cert.MergeRefIdeal.nD Cert.MergeRefIdeal.τ).loc Cert.MergeRefIdeal.main_v106) = v2 c
          ∧ r.2.mem ((c.tc : Thread Cert.MergeRefIdeal.nD Cert.MergeRefIdeal.τ).loc Cert.MergeRefIdeal.main_v108) = v3 c
          ∧ r.2.mem ((c.tc : Thread Cert.MergeRefIdeal.nD Cert.MergeRefIdeal.τ).loc Cert.MergeRefIdeal.main_v82) = v4 c
          ∧ r.2.mem ((c.tc : Thread Cert.MergeRefIdeal.nD Cert.MergeRefIdeal.τ).loc Cert.MergeRefIdeal.main_v112) = v5 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Fwd_FwdIdeal : Prop :=
  True

def algebraic_FwdIdeal_FwdRefIdeal_pre_finite_fwd [hFwdIdeal : Cert.FwdIdeal.Facts] [hFwdRefIdeal : Cert.FwdRefIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_fwd m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v3_0)) (v1 : (c : Dev Cert.FwdIdeal.nD) → Buf (Elt Ideal) ((c.tc : Thread Cert.FwdIdeal.nD Cert.FwdIdeal.τ).loc Cert.FwdIdeal.main_v3_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v3_0) = v0 c
          ∧ r.2.mem ((c.tc : Thread Cert.FwdIdeal.nD Cert.FwdIdeal.τ).loc Cert.FwdIdeal.main_v3_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v31) = v0 c
          ∧ r.2.mem ((c.tc : Thread Cert.FwdRefIdeal.nD Cert.FwdRefIdeal.τ).loc Cert.FwdRefIdeal.main_v32) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_Prep_PrepIdeal : Prop :=
  True

def algebraic_PrepIdeal_PrepRefIdeal_pre_finite_prep [hPrepIdeal : Cert.PrepIdeal.Facts] [hPrepRefIdeal : Cert.PrepRefIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_finite_prep m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)) →
    ∃ (v0 : (c : Dev Cert.PrepIdeal.nD) → Buf (Elt Ideal) ((c.tc : Thread Cert.PrepIdeal.nD Cert.PrepIdeal.τ).loc Cert.PrepIdeal.main_v19_0)) (v1 : (c : Dev Cert.PrepIdeal.nD) → Buf (Elt Ideal) ((c.tc : Thread Cert.PrepIdeal.nD Cert.PrepIdeal.τ).loc Cert.PrepIdeal.main_v19_1)) (v2 : (c : Dev Cert.PrepIdeal.nD) → Buf (Elt Ideal) ((c.tc : Thread Cert.PrepIdeal.nD Cert.PrepIdeal.τ).loc Cert.PrepIdeal.main_v19_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v19_0) = v0 c
          ∧ r.2.mem ((c.tc : Thread Cert.PrepIdeal.nD Cert.PrepIdeal.τ).loc Cert.PrepIdeal.main_v19_1) = v1 c
          ∧ r.2.mem ((c.tc : Thread Cert.PrepIdeal.nD Cert.PrepIdeal.τ).loc Cert.PrepIdeal.main_v19_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v88) = v0 c
          ∧ r.2.mem ((c.tc : Thread Cert.PrepRefIdeal.nD Cert.PrepRefIdeal.τ).loc Cert.PrepRefIdeal.main_v89) = v1 c
          ∧ r.2.mem ((c.tc : Thread Cert.PrepRefIdeal.nD Cert.PrepRefIdeal.τ).loc Cert.PrepRefIdeal.main_v90) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5))

def Claim : Prop :=
  ∃ (hRows : Cert.Rows.Facts) (hRowsIdeal : Cert.RowsIdeal.Facts) (hRowsRefIdeal : Cert.RowsRefIdeal.Facts) (hAttn : Cert.Attn.Facts) (hAttnIdeal : Cert.AttnIdeal.Facts) (hAttnRefIdeal : Cert.AttnRefIdeal.Facts) (hMla : Cert.Mla.Facts) (hMlaIdeal : Cert.MlaIdeal.Facts) (hMlaRefIdeal : Cert.MlaRefIdeal.Facts) (hInx : Cert.Inx.Facts) (hInxIdeal : Cert.InxIdeal.Facts) (hInxRefIdeal : Cert.InxRefIdeal.Facts) (hMerge : Cert.Merge.Facts) (hMergeIdeal : Cert.MergeIdeal.Facts) (hMergeRefIdeal : Cert.MergeRefIdeal.Facts) (hFwd : Cert.Fwd.Facts) (hFwdIdeal : Cert.FwdIdeal.Facts) (hFwdRefIdeal : Cert.FwdRefIdeal.Facts) (hPrep : Cert.Prep.Facts) (hPrepIdeal : Cert.PrepIdeal.Facts) (hPrepRefIdeal : Cert.PrepRefIdeal.Facts) (hPre_finite_rows : Cert.Pre_finite_rows.Facts) (hPre_finite_attn : Cert.Pre_finite_attn.Facts) (hPre_finite_mla : Cert.Pre_finite_mla.Facts) (hPre_finite_inx : Cert.Pre_finite_inx.Facts) (hPre_finite_merge : Cert.Pre_finite_merge.Facts) (hPre_finite_fwd : Cert.Pre_finite_fwd.Facts) (hPre_finite_prep : Cert.Pre_finite_prep.Facts),
    quiescent_Rows (hRows := hRows)
    ∧ quiescent_RowsIdeal (hRowsIdeal := hRowsIdeal)
    ∧ quiescent_RowsIdeal_pre_finite_rows (hRowsIdeal := hRowsIdeal) (hPre_finite_rows := hPre_finite_rows)
    ∧ quiescent_RowsRefIdeal (hRowsRefIdeal := hRowsRefIdeal)
    ∧ quiescent_RowsRefIdeal_pre_finite_rows (hRowsRefIdeal := hRowsRefIdeal) (hPre_finite_rows := hPre_finite_rows)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Mla (hMla := hMla)
    ∧ quiescent_MlaIdeal (hMlaIdeal := hMlaIdeal)
    ∧ quiescent_MlaIdeal_pre_finite_mla (hMlaIdeal := hMlaIdeal) (hPre_finite_mla := hPre_finite_mla)
    ∧ quiescent_MlaRefIdeal (hMlaRefIdeal := hMlaRefIdeal)
    ∧ quiescent_MlaRefIdeal_pre_finite_mla (hMlaRefIdeal := hMlaRefIdeal) (hPre_finite_mla := hPre_finite_mla)
    ∧ quiescent_Inx (hInx := hInx)
    ∧ quiescent_InxIdeal (hInxIdeal := hInxIdeal)
    ∧ quiescent_InxIdeal_pre_finite_inx (hInxIdeal := hInxIdeal) (hPre_finite_inx := hPre_finite_inx)
    ∧ quiescent_InxRefIdeal (hInxRefIdeal := hInxRefIdeal)
    ∧ quiescent_InxRefIdeal_pre_finite_inx (hInxRefIdeal := hInxRefIdeal) (hPre_finite_inx := hPre_finite_inx)
    ∧ quiescent_Merge (hMerge := hMerge)
    ∧ quiescent_MergeIdeal (hMergeIdeal := hMergeIdeal)
    ∧ quiescent_MergeIdeal_pre_finite_merge (hMergeIdeal := hMergeIdeal) (hPre_finite_merge := hPre_finite_merge)
    ∧ quiescent_MergeRefIdeal (hMergeRefIdeal := hMergeRefIdeal)
    ∧ quiescent_MergeRefIdeal_pre_finite_merge (hMergeRefIdeal := hMergeRefIdeal) (hPre_finite_merge := hPre_finite_merge)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_FwdRefIdeal (hFwdRefIdeal := hFwdRefIdeal)
    ∧ quiescent_FwdRefIdeal_pre_finite_fwd (hFwdRefIdeal := hFwdRefIdeal) (hPre_finite_fwd := hPre_finite_fwd)
    ∧ quiescent_Prep (hPrep := hPrep)
    ∧ quiescent_PrepIdeal (hPrepIdeal := hPrepIdeal)
    ∧ quiescent_PrepIdeal_pre_finite_prep (hPrepIdeal := hPrepIdeal) (hPre_finite_prep := hPre_finite_prep)
    ∧ quiescent_PrepRefIdeal (hPrepRefIdeal := hPrepRefIdeal)
    ∧ quiescent_PrepRefIdeal_pre_finite_prep (hPrepRefIdeal := hPrepRefIdeal) (hPre_finite_prep := hPre_finite_prep)
    ∧ preserves_Rows_RowsIdeal
    ∧ algebraic_RowsIdeal_RowsRefIdeal_pre_finite_rows (hRowsIdeal := hRowsIdeal) (hRowsRefIdeal := hRowsRefIdeal) (hPre_finite_rows := hPre_finite_rows)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Mla_MlaIdeal
    ∧ algebraic_MlaIdeal_MlaRefIdeal_pre_finite_mla (hMlaIdeal := hMlaIdeal) (hMlaRefIdeal := hMlaRefIdeal) (hPre_finite_mla := hPre_finite_mla)
    ∧ preserves_Inx_InxIdeal
    ∧ algebraic_InxIdeal_InxRefIdeal_pre_finite_inx (hInxIdeal := hInxIdeal) (hInxRefIdeal := hInxRefIdeal) (hPre_finite_inx := hPre_finite_inx)
    ∧ preserves_Merge_MergeIdeal
    ∧ algebraic_MergeIdeal_MergeRefIdeal_pre_finite_merge (hMergeIdeal := hMergeIdeal) (hMergeRefIdeal := hMergeRefIdeal) (hPre_finite_merge := hPre_finite_merge)
    ∧ preserves_Fwd_FwdIdeal
    ∧ algebraic_FwdIdeal_FwdRefIdeal_pre_finite_fwd (hFwdIdeal := hFwdIdeal) (hFwdRefIdeal := hFwdRefIdeal) (hPre_finite_fwd := hPre_finite_fwd)
    ∧ preserves_Prep_PrepIdeal
    ∧ algebraic_PrepIdeal_PrepRefIdeal_pre_finite_prep (hPrepIdeal := hPrepIdeal) (hPrepRefIdeal := hPrepRefIdeal) (hPre_finite_prep := hPre_finite_prep)
-- ==== Pre_finite_attn.lean ====
abbrev S8x4096x192 : Shape := ⟨3, ![8, 4096, 192]⟩
abbrev S8x4096x128 : Shape := ⟨3, ![8, 4096, 128]⟩
abbrev S4096x1024 : Shape := ⟨2, ![4096, 1024]⟩
abbrev S_ : Shape := ⟨0, ![]⟩

class Facts : Prop where
  bcast_S_S8x4096x192 : S_.BroadcastsInDim S8x4096x192 (![] : Fin 0 → Fin S8x4096x192.rank)
  bcast_S_S8x4096x128 : S_.BroadcastsInDim S8x4096x128 (![] : Fin 0 → Fin S8x4096x128.rank)
  bcast_S_S4096x1024 : S_.BroadcastsInDim S4096x1024 (![] : Fin 0 → Fin S4096x1024.rank)

variable [Facts]

def fn {F : FTy → Type} [FloatOps F] (main_arg0 : FVec F S8x4096x192 .f32) (main_arg1 : FVec F S8x4096x192 .f32) (main_arg2 : FVec F S8x4096x128 .f32) (main_arg3 : FVec F S4096x1024 .f32) : IVec S8x4096x192 1 × IVec S8x4096x192 1 × IVec S8x4096x128 1 × IVec S4096x1024 1 :=
  let main_v0 : FVec F S8x4096x192 .f32 := Host.absf main_arg0
  let main_cst : FVec F S_ .f32 := constant S_ .f32 0x7F800000#32
  let main_v1 : FVec F S8x4096x192 .f32 := broadcastInDim S8x4096x192 ![] bcast_S_S8x4096x192 main_cst
  let main_v2 : IVec S8x4096x192 1 := cmpf .olt main_v0 main_v1
  let main_v3 : FVec F S8x4096x192 .f32 := Host.absf main_arg1
  let main_cst_0 : FVec F S_ .f32 := constant S_ .f32 0x7F800000#32
  let main_v4 : FVec F S8x4096x192 .f32 := broadcastInDim S8x4096x192 ![] bcast_S_S8x4096x192 main_cst_0
  let main_v5 : IVec S8x4096x192 1 := cmpf .olt main_v3 main_v4
  let main_v6 : FVec F S8x4096x128 .f32 := Host.absf main_arg2
  let main_cst_1 : FVec F S_ .f32 := constant S_ .f32 0x7F800000#32
  let main_v7 : FVec F S8x4096x128 .f32 := broadcastInDim S8x4096x128 ![] bcast_S_S8x4096x128 main_cst_1
  let main_v8 : IVec S8x4096x128 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_fwd.lean ====
abbrev S8x4096x192 : Shape := ⟨3, ![8, 4096, 192]⟩
abbrev S8x4096x128 : Shape := ⟨3, ![8, 4096, 128]⟩
abbrev S_ : Shape := ⟨0, ![]⟩

class Facts : Prop where
  bcast_S_S8x4096x192 : S_.BroadcastsInDim S8x4096x192 (![] : Fin 0 → Fin S8x4096x192.rank)
  bcast_S_S8x4096x128 : S_.BroadcastsInDim S8x4096x128 (![] : Fin 0 → Fin S8x4096x128.rank)

variable [Facts]

def fn {F : FTy → Type} [FloatOps F] (main_arg0 : FVec F S8x4096x192 .f32) (main_arg1 : FVec F S8x4096x192 .f32) (main_arg2 : FVec F S8x4096x128 .f32) : IVec S8x4096x192 1 × IVec S8x4096x192 1 × IVec S8x4096x128 1 :=
  let main_v0 : FVec F S8x4096x192 .f32 := Host.absf main_arg0
  let main_cst : FVec F S_ .f32 := constant S_ .f32 0x7F800000#32
  let main_v1 : FVec F S8x4096x192 .f32 := broadcastInDim S8x4096x192 ![] bcast_S_S8x4096x192 main_cst
  let main_v2 : IVec S8x4096x192 1 := cmpf .olt main_v0 main_v1
  let main_v3 : FVec F S8x4096x192 .f32 := Host.absf main_arg1
  let main_cst_0 : FVec F S_ .f32 := constant S_ .f32 0x7F800000#32
  let main_v4 : FVec F S8x4096x192 .f32 := broadcastInDim S8x4096x192 ![] bcast_S_S8x4096x192 main_cst_0
  let main_v5 : IVec S8x4096x192 1 := cmpf .olt main_v3 main_v4
  let main_v6 : FVec F S8x4096x128 .f32 := Host.absf main_arg2
  let main_cst_1 : FVec F S_ .f32 := constant S_ .f32 0x7F800000#32
  let main_v7 : FVec F S8x4096x128 .f32 := broadcastInDim S8x4096x128 ![] bcast_S_S8x4096x128 main_cst_1
  let main_v8 : IVec S8x4096x128 1 := cmpf .olt main_v6 main_v7
  (main_v2, main_v5, main_v8)
-- ==== Pre_finite_inx.lean ====
abbrev S4096x6720 : Shape := ⟨2, ![4096, 6720]⟩
abbrev S1024x6720 : Shape := ⟨2, ![1024, 6720]⟩
abbrev S4096x1024 : Shape := ⟨2, ![4096, 1024]⟩
abbrev S1x1024 : Shape := ⟨2, ![1, 1024]⟩
abbrev S_ : Shape := ⟨0, ![]⟩

class Facts : Prop where
  bcast_S_S4096x6720 : S_.BroadcastsInDim S4096x6720 (![] : Fin 0 → Fin S4096x6720.rank)
  bcast_S_S1024x6720 : S_.BroadcastsInDim S1024x6720 (![] : Fin 0 → Fin S1024x6720.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x6720 .f32) (main_arg1 : FVec F S1024x6720 .f32) (main_arg2 : FVec F S4096x1024 .f32) (main_arg3 : FVec F S4096x1024 .f32) (main_arg4 : FVec F S1x1024 .f32) (main_arg5 : FVec F S1x1024 .f32) (main_arg6 : FVec F S1x1024 .f32) (main_arg7 : FVec F S1x1024 .f32) : IVec S4096x6720 1 × IVec S1024x6720 1 × IVec S4096x1024 1 × IVec S4096x1024 1 × IVec S1x1024 1 × IVec S1x1024 1 :=
  let main_v0 : FVec F S4096x6720 .f32 := Host.absf main_arg0
  let main_cst : FVec F S_ .f32 := constant S_ .f32 0x7F800000#32
  let main_v1 : FVec F S4096x6720 .f32 := broadcastInDim S4096x6720 ![] bcast_S_S4096x6720 main_cst
  let main_v2 : IVec S4096x6720 1 := cmpf .olt main_v0 main_v1
  let main_v3 : FVec F S1024x6720 .f32 := Host.absf main_arg1
  let main_cst_0 : FVec F S_ .f32 := constant S_ .f32 0x7F800000#32
  let main_v4 : FVec F S1024x6720 .f32 := broadcastInDim S1024x6720 ![] bcast_S_S1024x6720 main_cst_0
  let main_v5 : IVec S1024x6720 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg6
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_finite_merge.lean ====
abbrev S4096x1024 : Shape := ⟨2, ![4096, 1024]⟩
abbrev S4096x6720 : Shape := ⟨2, ![4096, 6720]⟩
abbrev S1x1024 : Shape := ⟨2, ![1, 1024]⟩
abbrev S1024 : Shape := ⟨1, ![1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S4096x6720 : S_.BroadcastsInDim S4096x6720 (![] : Fin 0 → Fin S4096x6720.rank)
  bcast_S_S1x1024 : S_.BroadcastsInDim S1x1024 (![] : Fin 0 → Fin S1x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn_part1 {F : FTy → Type} [FloatOps F] (main_arg8 : FVec F S1024 .f32) (main_arg9 : FVec F S1024x1024 .f32) (main_arg10 : FVec F S1024x1024 .f32) (main_arg11 : FVec F S1024x1024 .f32) (main_v2 : IVec S4096x1024 1) (main_v5 : IVec S4096x1024 1) (main_v8 : IVec S4096x1024 1) (main_v11 : IVec S4096x1024 1) (main_v14 : IVec S4096x6720 1) (main_v17 : IVec S1x1024 1) : IVec S4096x1024 1 × IVec S4096x1024 1 × IVec S4096x1024 1 × IVec S4096x1024 1 × IVec S4096x6720 1 × IVec S1x1024 1 × IVec S1024 1 × IVec S1024x1024 1 × IVec S1024x1024 1 × IVec S1024x1024 1 :=
  let main_v18 : FVec F S1024 .f32 := Host.absf main_arg8
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024x1024 .f32 := Host.absf main_arg9
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  let main_v24 : FVec F S1024x1024 .f32 := Host.absf main_arg10
  let main_cst_7 : FVec F S_ .f32 := constant S_ .f32 0x7F800000#32
  let main_v25 : FVec F S1024x1024 .f32 := broadcastInDim S1024x1024 ![] bcast_S_S1024x1024 main_cst_7
  let main_v26 : IVec S1024x1024 1 := cmpf .olt main_v24 main_v25
  let main_v27 : FVec F S1024x1024 .f32 := Host.absf main_arg11
  let main_cst_8 : FVec F S_ .f32 := constant S_ .f32 0x7F800000#32
  let main_v28 : FVec F S1024x1024 .f32 := broadcastInDim S1024x1024 ![] bcast_S_S1024x1024 main_cst_8
  let main_v29 : IVec S1024x1024 1 := cmpf .olt main_v27 main_v28
  (main_v2, main_v5, main_v8, main_v11, main_v14, main_v17, main_v20, main_v23, main_v26, main_v29)

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x6720 .f32) (main_arg5 : FVec F S1x1024 .f32) (main_arg6 : FVec F S1x1024 .f32) (main_arg7 : FVec F S1x1024 .f32) (main_arg8 : FVec F S1024 .f32) (main_arg9 : FVec F S1024x1024 .f32) (main_arg10 : FVec F S1024x1024 .f32) (main_arg11 : FVec F S1024x1024 .f32) : IVec S4096x1024 1 × IVec S4096x1024 1 × IVec S4096x1024 1 × IVec S4096x1024 1 × IVec S4096x6720 1 × IVec S1x1024 1 × IVec S1024 1 × IVec S1024x1024 1 × IVec S1024x1024 1 × IVec S1024x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x6720 .f32 := Host.absf main_arg4
  let main_cst_3 : FVec F S_ .f32 := constant S_ .f32 0x7F800000#32
  let main_v13 : FVec F S4096x6720 .f32 := broadcastInDim S4096x6720 ![] bcast_S_S4096x6720 main_cst_3
  let main_v14 : IVec S4096x6720 1 := cmpf .olt main_v12 main_v13
  let main_v15 : FVec F S1x1024 .f32 := Host.absf main_arg7
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg8 main_arg9 main_arg10 main_arg11 main_v2 main_v5 main_v8 main_v11 main_v14 main_v17
-- ==== Pre_finite_mla.lean ====
abbrev S8x4096x192 : Shape := ⟨3, ![8, 4096, 192]⟩
abbrev S8x4096x128 : Shape := ⟨3, ![8, 4096, 128]⟩
abbrev S4096x6720 : Shape := ⟨2, ![4096, 6720]⟩
abbrev S1x4096 : Shape := ⟨2, ![1, 4096]⟩
abbrev S1x256 : Shape := ⟨2, ![1, 256]⟩
abbrev S256x1536 : Shape := ⟨2, ![256, 1536]⟩
abbrev S256x2048 : Shape := ⟨2, ![256, 2048]⟩
abbrev S4096x512 : Shape := ⟨2, ![4096, 512]⟩
abbrev S_ : Shape := ⟨0, ![]⟩

class Facts : Prop where
  slices_S4096x6720_S4096x512_0_3072 : S4096x6720.Slices ![0, 3072] S4096x512
  bcast_S_S8x4096x192 : S_.BroadcastsInDim S8x4096x192 (![] : Fin 0 → Fin S8x4096x192.rank)
  bcast_S_S8x4096x128 : S_.BroadcastsInDim S8x4096x128 (![] : Fin 0 → Fin S8x4096x128.rank)
  bcast_S_S4096x512 : S_.BroadcastsInDim S4096x512 (![] : Fin 0 → Fin S4096x512.rank)
  bcast_S_S1x256 : S_.BroadcastsInDim S1x256 (![] : Fin 0 → Fin S1x256.rank)
  bcast_S_S256x1536 : S_.BroadcastsInDim S256x1536 (![] : Fin 0 → Fin S256x1536.rank)
  bcast_S_S256x2048 : S_.BroadcastsInDim S256x2048 (![] : Fin 0 → Fin S256x2048.rank)

variable [Facts]

def fn_part1 {F : FTy → Type} [FloatOps F] (main_arg7 : FVec F S1x256 .f32) (main_arg8 : FVec F S256x2048 .f32) (main_v3 : IVec S8x4096x192 1) (main_v6 : IVec S8x4096x192 1) (main_v9 : IVec S8x4096x128 1) (main_v12 : IVec S4096x512 1) (main_v15 : IVec S1x256 1) (main_v16 : FVec F S256x1536 .f32) (main_v17 : FVec F S256x1536 .f32) : IVec S8x4096x192 1 × IVec S8x4096x192 1 × IVec S8x4096x128 1 × IVec S4096x512 1 × IVec S1x256 1 × IVec S256x1536 1 × IVec S1x256 1 × IVec S256x2048 1 :=
  let main_v18 : IVec S256x1536 1 := cmpf .olt main_v16 main_v17
  let main_v19 : FVec F S1x256 .f32 := Host.absf main_arg7
  let main_cst_5 : FVec F S_ .f32 := constant S_ .f32 0x7F800000#32
  let main_v20 : FVec F S1x256 .f32 := broadcastInDim S1x256 ![] bcast_S_S1x256 main_cst_5
  let main_v21 : IVec S1x256 1 := cmpf .olt main_v19 main_v20
  let main_v22 : FVec F S256x2048 .f32 := Host.absf main_arg8
  let main_cst_6 : FVec F S_ .f32 := constant S_ .f32 0x7F800000#32
  let main_v23 : FVec F S256x2048 .f32 := broadcastInDim S256x2048 ![] bcast_S_S256x2048 main_cst_6
  let main_v24 : IVec S256x2048 1 := cmpf .olt main_v22 main_v23
  (main_v3, main_v6, main_v9, main_v12, main_v15, main_v18, main_v21, main_v24)

def fn {F : FTy → Type} [FloatOps F] (main_arg0 : FVec F S8x4096x192 .f32) (main_arg1 : FVec F S8x4096x192 .f32) (main_arg2 : FVec F S8x4096x128 .f32) (main_arg3 : FVec F S4096x6720 .f32) (main_arg4 : IVec S1x4096 32) (main_arg5 : FVec F S1x256 .f32) (main_arg6 : FVec F S256x1536 .f32) (main_arg7 : FVec F S1x256 .f32) (main_arg8 : FVec F S256x2048 .f32) : IVec S8x4096x192 1 × IVec S8x4096x192 1 × IVec S8x4096x128 1 × IVec S4096x512 1 × IVec S1x256 1 × IVec S256x1536 1 × IVec S1x256 1 × IVec S256x2048 1 :=
  let main_v0 : FVec F S4096x512 .f32 := (extractStridedSlice S4096x512 ![0, 3072] · slices_S4096x6720_S4096x512_0_3072) main_arg3
  let main_v1 : FVec F S8x4096x192 .f32 := Host.absf main_arg0
  let main_cst : FVec F S_ .f32 := constant S_ .f32 0x7F800000#32
  let main_v2 : FVec F S8x4096x192 .f32 := broadcastInDim S8x4096x192 ![] bcast_S_S8x4096x192 main_cst
  let main_v3 : IVec S8x4096x192 1 := cmpf .olt main_v1 main_v2
  let main_v4 : FVec F S8x4096x192 .f32 := Host.absf main_arg1
  let main_cst_0 : FVec F S_ .f32 := constant S_ .f32 0x7F800000#32
  let main_v5 : FVec F S8x4096x192 .f32 := broadcastInDim S8x4096x192 ![] bcast_S_S8x4096x192 main_cst_0
  let main_v6 : IVec S8x4096x192 1 := cmpf .olt main_v4 main_v5
  let main_v7 : FVec F S8x4096x128 .f32 := Host.absf main_arg2
  let main_cst_1 : FVec F S_ .f32 := constant S_ .f32 0x7F800000#32
  let main_v8 : FVec F S8x4096x128 .f32 := broadcastInDim S8x4096x128 ![] bcast_S_S8x4096x128 main_cst_1
  let main_v9 : IVec S8x4096x128 1 := cmpf .olt main_v7 main_v8
  let main_v10 : FVec F S4096x512 .f32 := Host.absf main_v0
  let main_cst_2 : FVec F S_ .f32 := constant S_ .f32 0x7F800000#32
  let main_v11 : FVec F S4096x512 .f32 := broadcastInDim S4096x512 ![] bcast_S_S4096x512 main_cst_2
  let main_v12 : IVec S4096x512 1 := cmpf .olt main_v10 main_v11
  let main_v13 : FVec F S1x256 .f32 := Host.absf main_arg5
  let main_cst_3 : FVec F S_ .f32 := constant S_ .f32 0x7F800000#32
  let main_v14 : FVec F S1x256 .f32 := broadcastInDim S1x256 ![] bcast_S_S1x256 main_cst_3
  let main_v15 : IVec S1x256 1 := cmpf .olt main_v13 main_v14
  let main_v16 : FVec F S256x1536 .f32 := Host.absf main_arg6
  let main_cst_4 : FVec F S_ .f32 := constant S_ .f32 0x7F800000#32
  let main_v17 : FVec F S256x1536 .f32 := broadcastInDim S256x1536 ![] bcast_S_S256x1536 main_cst_4
  fn_part1 (F := F) main_arg7 main_arg8 main_v3 main_v6 main_v9 main_v12 main_v15 main_v16 main_v17
-- ==== Pre_finite_prep.lean ====
abbrev S4096x6720 : Shape := ⟨2, ![4096, 6720]⟩
abbrev S1x4096 : Shape := ⟨2, ![1, 4096]⟩
abbrev S1x256 : Shape := ⟨2, ![1, 256]⟩
abbrev S256x1536 : Shape := ⟨2, ![256, 1536]⟩
abbrev S256x2048 : Shape := ⟨2, ![256, 2048]⟩
abbrev S4096x576 : Shape := ⟨2, ![4096, 576]⟩
abbrev S_ : Shape := ⟨0, ![]⟩

class Facts : Prop where
  slices_S4096x6720_S4096x576_0_3072 : S4096x6720.Slices ![0, 3072] S4096x576
  bcast_S_S4096x576 : S_.BroadcastsInDim S4096x576 (![] : Fin 0 → Fin S4096x576.rank)
  bcast_S_S1x256 : S_.BroadcastsInDim S1x256 (![] : Fin 0 → Fin S1x256.rank)
  bcast_S_S256x1536 : S_.BroadcastsInDim S256x1536 (![] : Fin 0 → Fin S256x1536.rank)
  bcast_S_S256x2048 : S_.BroadcastsInDim S256x2048 (![] : Fin 0 → Fin S256x2048.rank)

variable [Facts]

def fn {F : FTy → Type} [FloatOps F] (main_arg0 : FVec F S4096x6720 .f32) (main_arg1 : IVec S1x4096 32) (main_arg2 : FVec F S1x256 .f32) (main_arg3 : FVec F S256x1536 .f32) (main_arg4 : FVec F S1x256 .f32) (main_arg5 : FVec F S256x2048 .f32) : IVec S4096x576 1 × IVec S1x256 1 × IVec S256x1536 1 × IVec S1x256 1 × IVec S256x2048 1 :=
  let main_v0 : FVec F S4096x576 .f32 := (extractStridedSlice S4096x576 ![0, 3072] · slices_S4096x6720_S4096x576_0_3072) main_arg0
  let main_v1 : FVec F S4096x576 .f32 := Host.absf main_v0
  let main_cst : FVec F S_ .f32 := constant S_ .f32 0x7F800000#32
  let main_v2 : FVec F S4096x576 .f32 := broadcastInDim S4096x576 ![] bcast_S_S4096x576 main_cst
  let main_v3 : IVec S4096x576 1 := cmpf .olt main_v1 main_v2
  let main_v4 : FVec F S1x256 .f32 := Host.absf main_arg2
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_v7 : FVec F S256x1536 .f32 := Host.absf main_arg3
  let main_cst_1 : FVec F S_ .f32 := constant S_ .f32 0x7F800000#32
  let main_v8 : FVec F S256x1536 .f32 := broadcastInDim S256x1536 ![] bcast_S_S256x1536 main_cst_1
  let main_v9 : IVec S256x1536 1 := cmpf .olt main_v7 main_v8
  let main_v10 : FVec F S1x256 .f32 := Host.absf main_arg4
  let main_cst_2 : FVec F S_ .f32 := constant S_ .f32 0x7F800000#32
  let main_v11 : FVec F S1x256 .f32 := broadcastInDim S1x256 ![] bcast_S_S1x256 main_cst_2
  let main_v12 : IVec S1x256 1 := cmpf .olt main_v10 main_v11
  let main_v13 : FVec F S256x2048 .f32 := Host.absf main_arg5
  let main_cst_3 : FVec F S_ .f32 := constant S_ .f32 0x7F800000#32
  let main_v14 : FVec F S256x2048 .f32 := broadcastInDim S256x2048 ![] bcast_S_S256x2048 main_cst_3
  let main_v15 : IVec S256x2048 1 := cmpf .olt main_v13 main_v14
  (main_v3, main_v6, main_v9, main_v12, main_v15)
-- ==== Pre_finite_rows.lean ====
abbrev S4096x1024 : Shape := ⟨2, ![4096, 1024]⟩
abbrev S4096x6720 : Shape := ⟨2, ![4096, 6720]⟩
abbrev S1x1024 : Shape := ⟨2, ![1, 1024]⟩
abbrev S_ : Shape := ⟨0, ![]⟩

class Facts : Prop where
  slices_S4096x6720_S4096x1024_0_2048 : S4096x6720.Slices ![0, 2048] S4096x1024
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S4096x1024 .f32) (main_arg2 : FVec F S4096x6720 .f32) (main_arg3 : FVec F S1x1024 .f32) (main_arg4 : FVec F S1x1024 .f32) : IVec S4096x1024 1 × IVec S4096x1024 1 × IVec S4096x1024 1 × IVec S1x1024 1 × IVec S1x1024 1 :=
  let main_v0 : FVec F S4096x1024 .f32 := (extractStridedSlice S4096x1024 ![0, 2048] · slices_S4096x6720_S4096x1024_0_2048) main_arg2
  let main_v1 : FVec F S4096x1024 .f32 := Host.absf main_arg0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_v7 : FVec F S4096x1024 .f32 := Host.absf main_v0
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : FVec F S1x1024 .f32 := Host.absf main_arg3
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_v13 : FVec F S1x1024 .f32 := Host.absf main_arg4
  let main_cst_3 : FVec F S_ .f32 := constant S_ .f32 0x7F800000#32
  let main_v14 : FVec F S1x1024 .f32 := broadcastInDim S1x1024 ![] bcast_S_S1x1024 main_cst_3
  let main_v15 : IVec S1x1024 1 := cmpf .olt main_v13 main_v14
  (main_v3, main_v6, main_v9, main_v12, main_v15)
-- ==== Rows.lean ====
abbrev S4096x1024 : Shape := ⟨2, ![4096, 1024]⟩
abbrev S4096x6720 : Shape := ⟨2, ![4096, 6720]⟩
abbrev S1x1024 : Shape := ⟨2, ![1, 1024]⟩
abbrev S4096x3648 : Shape := ⟨2, ![4096, 3648]⟩
abbrev S_ : Shape := ⟨0, ![]⟩
abbrev S4096x448 : Shape := ⟨2, ![4096, 448]⟩
abbrev S4096x3072 : Shape := ⟨2, ![4096, 3072]⟩
abbrev S4096x7168 : Shape := ⟨2, ![4096, 7168]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x6720, .f32⟩
  | .hbm, ⟨3, _⟩ => ⟨S1x1024, .f32⟩
  | .hbm, ⟨4, _⟩ => ⟨S1x1024, .f32⟩
  | .hbm, ⟨5, _⟩ => ⟨S4096x3648, .f32⟩
  | .hbm, ⟨6, _⟩ => ⟨S_, .f32⟩
  | .hbm, ⟨7, _⟩ => ⟨S4096x448, .f32⟩
  | .hbm, ⟨8, _⟩ => ⟨S4096x3072, .f32⟩
  | .hbm, ⟨9, _⟩ => ⟨S4096x7168, .f32⟩
  | .hbm, ⟨10, _⟩ => ⟨S4096x7168, .bf16⟩
  | .hbm, ⟨11, _⟩ => ⟨S4096x1024, .f32⟩
  | .hbm, ⟨12, _⟩ => ⟨S4096x1024, .bf16⟩
  | .hbm, ⟨13, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RowsRefIdeal.lean ====
abbrev S4096x1024 : Shape := ⟨2, ![4096, 1024]⟩
abbrev S4096x6720 : Shape := ⟨2, ![4096, 6720]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S6x1024 : Shape := ⟨2, ![6, 1024]⟩
abbrev S8x1024 : Shape := ⟨2, ![8, 1024]⟩

abbrev nBuf : Space → Nat
  | .hbm => 113
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x6720, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1024, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S_, .f32⟩
  | .hbm, ⟨100, _⟩ => ⟨S4096, .f32⟩
  | .hbm, ⟨101, _⟩ => ⟨S4096x1, .f32⟩
  | .hbm, ⟨102, _⟩ => ⟨S_, .f32⟩
  | .hbm, ⟨103, _⟩ => ⟨S4096x1, .f32⟩
  | .hbm, ⟨104, _⟩ => ⟨S4096x1, .f32⟩
  | .hbm, ⟨105, _⟩ => ⟨S_, .f32⟩
  | .hbm, ⟨106, _⟩ => ⟨S4096, .f32⟩
  | .hbm, ⟨107, _⟩ => ⟨S4096x1024, .f32⟩
  | .hbm, ⟨108, _⟩ => ⟨S4096x1024, .f32⟩
  | .hbm, ⟨109, _⟩ => ⟨S4096x1024, .bf16⟩
  | .hbm, ⟨110, _⟩ => ⟨S_, .f32⟩
  | .hbm, ⟨111, _⟩ => ⟨S6x1024, .f32⟩
  | .hbm, ⟨112, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v24_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v24_1 : Ref sig .tc := ⟨.hbm, 46, rfl⟩
abbrev main_v24_0 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_v25_2 : Ref sig .tc := ⟨.hbm, 55, rfl⟩
abbrev main_call1_cst_1 : Ref sig .tc := ⟨.hbm, 56, rfl⟩
abbrev main_call1_v6 : Ref sig .tc := ⟨.hbm, 57, rfl⟩
abbrev main_call1_v7 : Ref sig .tc := ⟨.hbm, 58, rfl⟩
abbrev main_v25_1 : Ref sig .tc := ⟨.hbm, 59, rfl⟩
abbrev main_v25_0 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v29 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_v30 : Ref sig .tc := ⟨.hbm, 71, rfl⟩
abbrev main_cst_5 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_6 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_7 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_8 : Ref sig .tc := ⟨.hbm, 88, rfl⟩
abbrev main_v44 : Ref sig .tc := ⟨.hbm, 89, rfl⟩
abbrev main_v45 : Ref sig .tc := ⟨.hbm, 90, rfl⟩
abbrev main_cst_9 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_cst_10 : Ref sig .tc := ⟨.hbm, 99, rfl⟩
abbrev main_v53 : Ref sig .tc := ⟨.hbm, 100, rfl⟩
abbrev main_v54 : Ref sig .tc := ⟨.hbm, 101, rfl⟩
abbrev main_cst_11 : Ref sig .tc := ⟨.hbm, 102, rfl⟩
abbrev main_v55 : Ref sig .tc := ⟨.hbm, 103, rfl⟩
abbrev main_v56 : Ref sig .tc := ⟨.hbm, 104, rfl⟩
abbrev main_cst_12 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_cst_13 : Ref sig .tc := ⟨.hbm, 110, rfl⟩
abbrev main_v61 : Ref sig .tc := ⟨.hbm, 111, rfl⟩
abbrev main_v62 : Ref sig .tc := ⟨.hbm, 112, rfl⟩

abbrev nD : Nat := 1
abbrev τ : Topo := Topo.v7x

variable {F : FTy → Type} [FloatOps F]
-- ==== Attn.lean ====
abbrev S8x4096x192 : Shape := ⟨3, ![8, 4096, 192]⟩
abbrev S8x4096x128 : Shape := ⟨3, ![8, 4096, 128]⟩
abbrev S4096x1024 : Shape := ⟨2, ![4096, 1024]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S_ : Shape := ⟨0, ![]⟩
abbrev S8x4096 : Shape := ⟨2, ![8, 4096]⟩
abbrev S8x4096x1 : Shape := ⟨3, ![8, 4096, 1]⟩
abbrev S4096x8x128 : Shape := ⟨3, ![4096, 8, 128]⟩
abbrev S1x4096x192 : Shape := ⟨3, ![1, 4096, 192]⟩
abbrev S1x1024x192 : Shape := ⟨3, ![1, 1024, 192]⟩
abbrev S1x1024x128 : Shape := ⟨3, ![1, 1024, 128]⟩
abbrev S4096x128 : Shape := ⟨2, ![4096, 128]⟩
abbrev S1x4096x128 : Shape := ⟨3, ![1, 4096, 128]⟩
abbrev S1024x192 : Shape := ⟨2, ![1024, 192]⟩
abbrev S1024x128 : Shape := ⟨2, ![1024, 128]⟩
abbrev S1024x1024 : Shape := ⟨2, ![1024, 1024]⟩
abbrev S1x1024x1 : Shape := ⟨3, ![1, 1024, 1]⟩
abbrev S1024x1 : Shape := ⟨2, ![1024, 1]⟩

abbrev nBuf : Space → Nat
  | .hbm => 46
  | .vmem => 18
  | .smem => 0
  | _ => 0

abbrev bufTy : (tb : Table) → Fin (tcTables nBuf tb) → BufTy
  | .hbm, ⟨0, _⟩ => ⟨S8x4096x192, .f32⟩
  | .hbm, ⟨1, _⟩ => ⟨S8x4096x192, .f32⟩
  | .hbm, ⟨2, _⟩ => ⟨S8x4096x128, .f32⟩
  | .hbm, ⟨3, _⟩ => ⟨S4096x1024, .f32⟩
  | .hbm, ⟨4, _⟩ => ⟨S8x4096x4096, .f32⟩
  | .hbm, ⟨5, _⟩ => ⟨S4096, .i32⟩
  | .hbm, ⟨6, _⟩ => ⟨S1x4096, .i32⟩
  | .hbm, ⟨7, _⟩ => ⟨S4096x1, .i32⟩
  | .hbm, ⟨8, _⟩ => ⟨S4096x4096, .i32⟩
  | .hbm, ⟨9, _⟩ => ⟨S4096x4096, .i32⟩
  | .hbm, ⟨10, _⟩ => ⟨S4096x4096, .i1⟩
  | .hbm, ⟨11, _⟩ => ⟨S1x4096x4096, .i1⟩
  | .hbm, ⟨12, _⟩ => ⟨S_, .f32⟩
  | .hbm, ⟨13, _⟩ => ⟨S_, .f32⟩
  | .hbm, ⟨14, _⟩ => ⟨S8x4096x4096, .i1⟩
  | .hbm, ⟨15, _⟩ => ⟨S8x4096x4096, .f32⟩
  | .hbm, ⟨16, _⟩ => ⟨S8x4096x4096, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x128, .f32⟩
  | .hbm, ⟨29, _⟩ => ⟨S8x4096x4096, .f32⟩
  | .hbm, ⟨30, _⟩ => ⟨S8x4096x4096, .f32⟩
  | .hbm, ⟨31, _⟩ => ⟨S8x4096x128, .f32⟩
  | .hbm, ⟨32, _⟩ => ⟨S4096x8x128, .f32⟩
  | .hbm, ⟨33, _⟩ => ⟨S8x4096x128, .f32⟩
  | .hbm, ⟨34, _⟩ => ⟨S8x4096x128, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S8x4096x128, .f32⟩
  | .hbm, ⟨39, _⟩ => ⟨S8x4096x192, .bf16⟩
  | .hbm, ⟨40, _⟩ => ⟨S8x4096x192, .bf16⟩
  | .hbm, ⟨41, _⟩ => ⟨S8x4096x128, .bf16⟩
  | .hbm, ⟨42, _⟩ => ⟨S4096x1024, .bf16⟩
  | .hbm, ⟨43, _⟩ => ⟨S8x4096x192, .f32⟩
  | .hbm, ⟨44, _⟩ => ⟨S8x4096x192, .f32⟩
  | .hbm, ⟨45, _⟩ => ⟨S8x4096x128, .f32⟩
  | .local _ .vmem, ⟨0, _⟩ => ⟨S1x4096x192, .bf16⟩
  | .local _ .vmem, ⟨1, _⟩ => ⟨S1x4096x192, .bf16⟩
  | .local _ .vmem, ⟨2, _⟩ => ⟨S1x1024x192, .bf16⟩
  | .local _ .vmem, ⟨3, _⟩ => ⟨S1x1024x192, .bf16⟩
  | .local _ .vmem, ⟨4, _⟩ => ⟨S1x1024x128, .bf16⟩
  | .local _ .vmem, ⟨5, _⟩ => ⟨S1x1024x128, .bf16⟩
  | .local _ .vmem, ⟨6, _⟩ => ⟨S4096x128, .bf16⟩
  | .local _ .vmem, ⟨7, _⟩ => ⟨S4096x128, .bf16⟩
  | .local _ .vmem, ⟨8, _⟩ => ⟨S1x4096x128, .f32⟩
  | .local _ .vmem, ⟨9, _⟩ => ⟨S1x4096x128, .f32⟩
  | .local _ .vmem, ⟨10, _⟩ => ⟨S1x4096x128, .f32⟩
  | .local _ .vmem, ⟨11, _⟩ => ⟨S1x4096x128, .f32⟩
  | .local _ .vmem, ⟨12, _⟩ => ⟨S1x4096x192, .f32⟩
  | .local _ .vmem, ⟨13, _⟩ => ⟨S1x4096x192, .f32⟩
  | .local _ .vmem, ⟨14, _⟩ => ⟨S1x1024x192, .f32⟩
  | .local _ .vmem, ⟨15, _⟩ => ⟨S1x1024x192, .f32⟩
  | .local _ .vmem, ⟨16, _⟩ => ⟨S1x1024x128, .f32⟩
  | .local _ .vmem, ⟨17, _⟩ => ⟨S1x1024x128, .f32⟩
  | _, _ => ⟨S8x4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32_0 : Ref sig .tc := ⟨.hbm, 43, rfl⟩
abbrev main_v32_1 : Ref sig .tc := ⟨.hbm, 44, rfl⟩
abbrev main_v32_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v9 : BitVec 32 := Scalar.muli arg1 c1024_i32
  v9
def k0_off1 (i : grid0.Coords) : Fin 3 → Nat :=
  let c0_7 : Index := 0#32
  let arg1 : BitVec 32 := BitVec.ofNat 32 (i 1).val
  let c1024_i32 : BitVec 32 := 1024#32
  let v9 : BitVec 32 := Scalar.muli arg1 c1024_i32
  let v10 : BitVec 32 := v9
  let v11 : Index := Scalar.indexCast v10
  let c0_8 : Index := 0#32
  ![0, v11.toNat, 0]
def k0_off2 (i : grid0.Coords) : Fin 2 → Nat :=
  let arg1 : BitVec 32 := BitVec.ofNat 32 (i 1).val
  let c1024_i32 : BitVec 32 := 1024#32
  let v9 : BitVec 32 := Scalar.muli arg1 c1024_i32
  let v10 : BitVec 32 := v9
  let v14 : Index := Scalar.indexCast v10
  let c0_9 : Index := 0#32
  ![v14.toNat, 0]
def k0_off3 (i : grid0.Coords) : Fin 3 → Nat :=
  let c0_12 : Index := 0#32
  let arg1 : BitVec 32 := BitVec.ofNat 32 (i 1).val
  let c1024_i32 : BitVec 32 := 1024#32
  let v9 : BitVec 32 := Scalar.muli arg1 c1024_i32
  let v10 : BitVec 32 := v9
  let v23 : Index := Scalar.indexCast v10
  let c0_13 : Index := 0#32
  ![0, v23.toNat, 0]
@[reducible] def k0_t1_loop (i : grid0.Coords) : Scf.Loop 32 :=
  let arg1 : BitVec 32 := BitVec.ofNat 32 (i 1).val
  let c1_i32 : BitVec 32 := 1#32
  let v51 : BitVec 32 := Scalar.addi arg1 c1_i32
  let c4_i32 : BitVec 32 := 4#32
  let v52 : BitVec 32 := Scalar.subi c4_i32 v51
  let c1_i32_24 : BitVec 32 := 1#32
  let v54 : BitVec 32 := Scalar.divsi v52 c1_i32_24
  let v55 : BitVec 32 := Scalar.muli v54 c1_i32_24
  let v56 : BitVec 32 := Scalar.addi v51 v55
  let c1_i32_25 : BitVec 32 := 1#32
  ⟨v51, v56, c1_i32_25⟩
def k0_mult2 (i : grid0.Coords) (k0_t1 : Fin (k0_t1_loop i).trips) : BitVec 32 :=
  let arg1 : BitVec 32 := BitVec.ofNat 32 (i 1).val
  let c1_i32 : BitVec 32 := 1#32
  let v51 : BitVec 32 := Scalar.addi arg1 c1_i32
  let c1_i32_25 : BitVec 32 := 1#32
  let arg11 : BitVec 32 := Scf.iv v51 c1_i32_25 k0_t1
  let c1024_i32_33 : BitVec 32 := 1024#32
  let v65 : BitVec 32 := Scalar.muli arg11 c1024_i32_33
  v65
def k0_off4 (i : grid0.Coords) (k0_t1 : Fin (k0_t1_loop i).trips) : Fin 3 → Nat :=
  let c0_34 : Index := 0#32
  let arg1 : BitVec 32 := BitVec.ofNat 32 (i 1).val
  let c1_i32 : BitVec 32 := 1#32
  let v51 : BitVec 32 := Scalar.addi arg1 c1_i32
  let c1_i32_25 : BitVec 32 := 1#32
  let arg11 : BitVec 32 := Scf.iv v51 c1_i32_25 k0_t1
  let c1024_i32_33 : BitVec 32 := 1024#32
  let v65 : BitVec 32 := Scalar.muli arg11 c1024_i32_33
  let v66 : BitVec 32 := v65
  let v67 : Index := Scalar.indexCast v66
  let c0_35 : Index := 0#32
  ![0, v67.toNat, 0]
def k0_off5 (i : grid0.Coords) (k0_t1 : Fin (k0_t1_loop i).trips) : Fin 2 → Nat :=
  let arg1 : BitVec 32 := BitVec.ofNat 32 (i 1).val
  let c1_i32 : BitVec 32 := 1#32
  let v51 : BitVec 32 := Scalar.addi arg1 c1_i32
  let c1_i32_25 : BitVec 32 := 1#32
  let arg11 : BitVec 32 := Scf.iv v51 c1_i32_25 k0_t1
  let c1024_i32_33 : BitVec 32 := 1024#32
  let v65 : BitVec 32 := Scalar.muli arg11 c1024_i32_33
  let v66 : BitVec 32 := v65
  let v70 : Index := Scalar.indexCast v66
  let c0_36 : Index := 0#32
  ![v70.toNat, 0]
def k0_off6 (i : grid0.Coords) (k0_t1 : Fin (k0_t1_loop i).trips) : Fin 3 → Nat :=
  let c0_38 : Index := 0#32
  let arg1 : BitVec 32 := BitVec.ofNat 32 (i 1).val
  let c1_i32 : BitVec 32 := 1#32
  let v51 : BitVec 32 := Scalar.addi arg1 c1_i32
  let c1_i32_25 : BitVec 32 := 1#32
  let arg11 : BitVec 32 := Scf.iv v51 c1_i32_25 k0_t1
  let c1024_i32_33 : BitVec 32 := 1024#32
  let v65 : BitVec 32 := Scalar.muli arg11 c1024_i32_33
  let v66 : BitVec 32 := v65
  let v74 : Index := Scalar.indexCast v66
  let c0_39 : Index := 0#32
  ![0, v74.toNat, 0]
@[reducible] def k0_t2_loop (i : grid0.Coords) : Scf.Loop 32 :=
  let arg1 : BitVec 32 := BitVec.ofNat 32 (i 1).val
  let c1_i32 : BitVec 32 := 1#32
  let v51 : BitVec 32 := Scalar.addi arg1 c1_i32
  let c4_i32 : BitVec 32 := 4#32
  let v52 : BitVec 32 := Scalar.subi c4_i32 v51
  let c1_i32_24 : BitVec 32 := 1#32
  let v54 : BitVec 32 := Scalar.divsi v52 c1_i32_24
  let v55 : BitVec 32 := Scalar.muli v54 c1_i32_24
  let v56 : BitVec 32 := Scalar.addi v51 v55
  let v53 : BitVec 32 := Scalar.addi v51 v52
  let c1_i32_26 : BitVec 32 := 1#32
  ⟨v56, v53, c1_i32_26⟩
def k0_mult3 (i : grid0.Coords) (k0_t2 : Fin (k0_t2_loop i).trips) : BitVec 32 :=
  let arg1 : BitVec 32 := BitVec.ofNat 32 (i 1).val
  let c1_i32 : BitVec 32 := 1#32
  let v51 : BitVec 32 := Scalar.addi arg1 c1_i32
  let c4_i32 : BitVec 32 := 4#32
  let v52 : BitVec 32 := Scalar.subi c4_i32 v51
  let c1_i32_24 : BitVec 32 := 1#32
  let v54 : BitVec 32 := Scalar.divsi v52 c1_i32_24
  let v55 : BitVec 32 := Scalar.muli v54 c1_i32_24
  let v56 : BitVec 32 := Scalar.addi v51 v55
  let c1_i32_26 : BitVec 32 := 1#32
  let arg11 : BitVec 32 := Scf.iv v56 c1_i32_26 k0_t2
  let c1024_i32_33 : BitVec 32 := 1024#32
  let v65 : BitVec 32 := Scalar.muli arg11 c1024_i32_33
  v65
def k0_off7 (i : grid0.Coords) (k0_t2 : Fin (k0_t2_loop i).trips) : Fin 3 → Nat :=
  let c0_34 : Index := 0#32
  let arg1 : BitVec 32 := BitVec.ofNat 32 (i 1).val
  let c1_i32 : BitVec 32 := 1#32
  let v51 : BitVec 32 := Scalar.addi arg1 c1_i32
  let c4_i32 : BitVec 32 := 4#32
  let v52 : BitVec 32 := Scalar.subi c4_i32 v51
  let c1_i32_24 : BitVec 32 := 1#32
  let v54 : BitVec 32 := Scalar.divsi v52 c1_i32_24
  let v55 : BitVec 32 := Scalar.muli v54 c1_i32_24
  let v56 : BitVec 32 := Scalar.addi v51 v55
  let c1_i32_26 : BitVec 32 := 1#32
  let arg11 : BitVec 32 := Scf.iv v56 c1_i32_26 k0_t2
  let c1024_i32_33 : BitVec 32 := 1024#32
  let v65 : BitVec 32 := Scalar.muli arg11 c1024_i32_33
  let v66 : BitVec 32 := v65
  let v67 : Index := Scalar.indexCast v66
  let c0_35 : Index := 0#32
  ![0, v67.toNat, 0]
def k0_off8 (i : grid0.Coords) (k0_t2 : Fin (k0_t2_loop i).trips) : Fin 2 → Nat :=
  let arg1 : BitVec 32 := BitVec.ofNat 32 (i 1).val
  let c1_i32 : BitVec 32 := 1#32
  let v51 : BitVec 32 := Scalar.addi arg1 c1_i32
  let c4_i32 : BitVec 32 := 4#32
  let v52 : BitVec 32 := Scalar.subi c4_i32 v51
  let c1_i32_24 : BitVec 32 := 1#32
  let v54 : BitVec 32 := Scalar.divsi v52 c1_i32_24
  let v55 : BitVec 32 := Scalar.muli v54 c1_i32_24
  let v56 : BitVec 32 := Scalar.addi v51 v55
  let c1_i32_26 : BitVec 32 := 1#32
  let arg11 : BitVec 32 := Scf.iv v56 c1_i32_26 k0_t2
  let c1024_i32_33 : BitVec 32 := 1024#32
  let v65 : BitVec 32 := Scalar.muli arg11 c1024_i32_33
  let v66 : BitVec 32 := v65
  let v70 : Index := Scalar.indexCast v66
  let c0_36 : Index := 0#32
  ![v70.toNat, 0]
def k0_off9 (i : grid0.Coords) (k0_t2 : Fin (k0_t2_loop i).trips) : Fin 3 → Nat :=
  let c0_38 : Index := 0#32
  let arg1 : BitVec 32 := BitVec.ofNat 32 (i 1).val
  let c1_i32 : BitVec 32 := 1#32
  let v51 : BitVec 32 := Scalar.addi arg1 c1_i32
  let c4_i32 : BitVec 32 := 4#32
  let v52 : BitVec 32 := Scalar.subi c4_i32 v51
  let c1_i32_24 : BitVec 32 := 1#32
  let v54 : BitVec 32 := Scalar.divsi v52 c1_i32_24
  let v55 : BitVec 32 := Scalar.muli v54 c1_i32_24
  let v56 : BitVec 32 := Scalar.addi v51 v55
  let c1_i32_26 : BitVec 32 := 1#32
  let arg11 : BitVec 32 := Scf.iv v56 c1_i32_26 k0_t2
  let c1024_i32_33 : BitVec 32 := 1024#32
  let v65 : BitVec 32 := Scalar.muli arg11 c1024_i32_33
  let v66 : BitVec 32 := v65
  let v74 : Index := Scalar.indexCast v66
  let c0_39 : Index := 0#32
  ![0, v74.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnRefIdeal.lean ====
abbrev S8x4096x192 : Shape := ⟨3, ![8, 4096, 192]⟩
abbrev S8x4096x128 : Shape := ⟨3, ![8, 4096, 128]⟩
abbrev S4096x1024 : Shape := ⟨2, ![4096, 1024]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S_ : Shape := ⟨0, ![]⟩
abbrev S8x4096 : Shape := ⟨2, ![8, 4096]⟩
abbrev S8x4096x1 : Shape := ⟨3, ![8, 4096, 1]⟩
abbrev S8x128x4096 : Shape := ⟨3, ![8, 128, 4096]⟩
abbrev S4096x8x128 : Shape := ⟨3, ![4096, 8, 128]⟩

abbrev nBuf : Space → Nat
  | .hbm => 84
  | .vmem => 0
  | .smem => 0
  | _ => 0

abbrev bufTy : (tb : Table) → Fin (tcTables nBuf tb) → BufTy
  | .hbm, ⟨0, _⟩ => ⟨S8x4096x192, .f32⟩
  | .hbm, ⟨1, _⟩ => ⟨S8x4096x192, .f32⟩
  | .hbm, ⟨2, _⟩ => ⟨S8x4096x128, .f32⟩
  | .hbm, ⟨3, _⟩ => ⟨S4096x1024, .f32⟩
  | .hbm, ⟨4, _⟩ => ⟨S8x4096x4096, .f32⟩
  | .hbm, ⟨5, _⟩ => ⟨S4096, .i32⟩
  | .hbm, ⟨6, _⟩ => ⟨S1x4096, .i32⟩
  | .hbm, ⟨7, _⟩ => ⟨S4096x1, .i32⟩
  | .hbm, ⟨8, _⟩ => ⟨S4096x4096, .i32⟩
  | .hbm, ⟨9, _⟩ => ⟨S4096x4096, .i32⟩
  | .hbm, ⟨10, _⟩ => ⟨S4096x4096, .i1⟩
  | .hbm, ⟨11, _⟩ => ⟨S1x4096x4096, .i1⟩
  | .hbm, ⟨12, _⟩ => ⟨S_, .f32⟩
  | .hbm, ⟨13, _⟩ => ⟨S_, .f32⟩
  | .hbm, ⟨14, _⟩ => ⟨S8x4096x4096, .i1⟩
  | .hbm, ⟨15, _⟩ => ⟨S8x4096x4096, .f32⟩
  | .hbm, ⟨16, _⟩ => ⟨S8x4096x4096, .f32⟩
  | .hbm, ⟨17, _⟩ => ⟨S_, .f32⟩
  | .hbm, ⟨18, _⟩ => ⟨S8x4096x4096, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S8x4096x4096, .f32⟩
  | .hbm, ⟨23, _⟩ => ⟨S8x4096x4096, .i1⟩
  | .hbm, ⟨24, _⟩ => ⟨S8x4096x4096, .f32⟩
  | .hbm, ⟨25, _⟩ => ⟨S_, .f32⟩
  | .hbm, ⟨26, _⟩ => ⟨S8x4096, .f32⟩
  | .hbm, ⟨27, _⟩ => ⟨S_, .f32⟩
  | .hbm, ⟨28, _⟩ => ⟨S8x4096, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .i1⟩
  | .hbm, ⟨33, _⟩ => ⟨S_, .f32⟩
  | .hbm, ⟨34, _⟩ => ⟨S8x4096, .f32⟩
  | .hbm, ⟨35, _⟩ => ⟨S8x4096, .i1⟩
  | .hbm, ⟨36, _⟩ => ⟨S_, .f32⟩
  | .hbm, ⟨37, _⟩ => ⟨S8x4096, .f32⟩
  | .hbm, ⟨38, _⟩ => ⟨S_, .f32⟩
  | .hbm, ⟨39, _⟩ => ⟨S8x4096, .f32⟩
  | .hbm, ⟨40, _⟩ => ⟨S_, .f32⟩
  | .hbm, ⟨41, _⟩ => ⟨S8x4096, .f32⟩
  | .hbm, ⟨42, _⟩ => ⟨S8x4096, .f32⟩
  | .hbm, ⟨43, _⟩ => ⟨S8x4096, .f32⟩
  | .hbm, ⟨44, _⟩ => ⟨S8x4096x1, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S_, .f32⟩
  | .hbm, ⟨49, _⟩ => ⟨S8x4096, .f32⟩
  | .hbm, ⟨50, _⟩ => ⟨S8x4096x1, .f32⟩
  | .hbm, ⟨51, _⟩ => ⟨S8x4096x4096, .f32⟩
  | .hbm, ⟨52, _⟩ => ⟨S8x4096x4096, .f32⟩
  | .hbm, ⟨53, _⟩ => ⟨S8x4096x1, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S8x128x4096, .f32⟩
  | .hbm, ⟨58, _⟩ => ⟨S4096x8x128, .f32⟩
  | .hbm, ⟨59, _⟩ => ⟨S4096x1024, .f32⟩
  | .hbm, ⟨60, _⟩ => ⟨S4096x8x128, .f32⟩
  | .hbm, ⟨61, _⟩ => ⟨S8x128x4096, .f32⟩
  | .hbm, ⟨62, _⟩ => ⟨S8x4096x4096, .f32⟩
  | .hbm, ⟨63, _⟩ => ⟨S8x128x4096, .f32⟩
  | .hbm, ⟨64, _⟩ => ⟨S8x4096x128, .f32⟩
  | .hbm, ⟨65, _⟩ => ⟨S8x4096x4096, .f32⟩
  | .hbm, ⟨66, _⟩ => ⟨S8x4096x4096, .f32⟩
  | .hbm, ⟨67, _⟩ => ⟨S8x4096x4096, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S8x4096x1, .f32⟩
  | .hbm, ⟨72, _⟩ => ⟨S8x4096x4096, .f32⟩
  | .hbm, ⟨73, _⟩ => ⟨S8x4096x4096, .f32⟩
  | .hbm, ⟨74, _⟩ => ⟨S_, .f32⟩
  | .hbm, ⟨75, _⟩ => ⟨S8x4096, .f32⟩
  | .hbm, ⟨76, _⟩ => ⟨S8x4096x4096, .f32⟩
  | .hbm, ⟨77, _⟩ => ⟨S8x4096x4096, .f32⟩
  | .hbm, ⟨78, _⟩ => ⟨S8x4096x4096, .f32⟩
  | .hbm, ⟨79, _⟩ => ⟨S_, .f32⟩
  | .hbm, ⟨80, _⟩ => ⟨S8x4096x4096, .f32⟩
  | .hbm, ⟨81, _⟩ => ⟨S8x4096x4096, .f32⟩
  | .hbm, ⟨82, _⟩ => ⟨S8x4096x192, .f32⟩
  | .hbm, ⟨83, _⟩ => ⟨S8x4096x192, .f32⟩
  | _, _ => ⟨S8x4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_call0_v0 : Ref sig .tc := ⟨.hbm, 13, rfl⟩
abbrev main_v8_1 : Ref sig .tc := ⟨.hbm, 14, rfl⟩
abbrev main_call0_v2 : Ref sig .tc := ⟨.hbm, 15, rfl⟩
abbrev main_v8_0 : Ref sig .tc := ⟨.hbm, 16, rfl⟩
abbrev main_call0_cst : Ref sig .tc := ⟨.hbm, 17, rfl⟩
abbrev main_v8_2 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call1_cst : Ref sig .tc := ⟨.hbm, 79, rfl⟩
abbrev main_call1_v0 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Mla.lean ====
abbrev S8x4096x192 : Shape := ⟨3, ![8, 4096, 192]⟩
abbrev S8x4096x128 : Shape := ⟨3, ![8, 4096, 128]⟩
abbrev S4096x6720 : Shape := ⟨2, ![4096, 6720]⟩
abbrev S1x4096 : Shape := ⟨2, ![1, 4096]⟩
abbrev S1x256 : Shape := ⟨2, ![1, 256]⟩
abbrev S256x1536 : Shape := ⟨2, ![256, 1536]⟩
abbrev S256x2048 : Shape := ⟨2, ![256, 2048]⟩
abbrev S32 : Shape := ⟨1, ![32]⟩
abbrev S_ : Shape := ⟨0, ![]⟩
abbrev S1x32 : Shape := ⟨2, ![1, 32]⟩
abbrev S4096x3648 : Shape := ⟨2, ![4096, 3648]⟩
abbrev S4096x448 : Shape := ⟨2, ![4096, 448]⟩
abbrev S4096x3072 : Shape := ⟨2, ![4096, 3072]⟩
abbrev S4096x7168 : Shape := ⟨2, ![4096, 7168]⟩
abbrev S4096x1 : Shape := ⟨2, ![4096, 1]⟩
abbrev S4096x1024 : Shape := ⟨2, ![4096, 1024]⟩
abbrev S8x256 : Shape := ⟨2, ![8, 256]⟩
abbrev S8x512x192 : Shape := ⟨3, ![8, 512, 192]⟩
abbrev S8x512x128 : Shape := ⟨3, ![8, 512, 128]⟩
abbrev S512x1024 : Shape := ⟨2, ![512, 1024]⟩
abbrev S512x1 : Shape := ⟨2, ![512, 1]⟩
abbrev S512x32 : Shape := ⟨2, ![512, 32]⟩
abbrev S512x64 : Shape := ⟨2, ![512, 64]⟩
abbrev S1x512x192 : Shape := ⟨3, ![1, 512, 192]⟩
abbrev S512x192 : Shape := ⟨2, ![512, 192]⟩
abbrev S512x128 : Shape := ⟨2, ![512, 128]⟩
abbrev S1x512x128 : Shape := ⟨3, ![1, 512, 128]⟩
abbrev S512x1536 : Shape := ⟨2, ![512, 1536]⟩
abbrev S512x2048 : Shape := ⟨2, ![512, 2048]⟩
abbrev S512x256 : Shape := ⟨2, ![512, 256]⟩
abbrev S512 : Shape := ⟨1, ![512]⟩
abbrev S256 : Shape := ⟨1, ![256]⟩
abbrev S512x448 : Shape := ⟨2, ![512, 448]⟩

abbrev nBuf : Space → Nat
  | .hbm => 37
  | .vmem => 20
  | .smem => 0
  | _ => 0

abbrev bufTy : (tb : Table) → Fin (tcTables nBuf tb) → BufTy
  | .hbm, ⟨0, _⟩ => ⟨S8x4096x192, .f32⟩
  | .hbm, ⟨1, _⟩ => ⟨S8x4096x192, .f32⟩
  | .hbm, ⟨2, _⟩ => ⟨S8x4096x128, .f32⟩
  | .hbm, ⟨3, _⟩ => ⟨S4096x6720, .f32⟩
  | .hbm, ⟨4, _⟩ => ⟨S1x4096, .i32⟩
  | .hbm, ⟨5, _⟩ => ⟨S1x256, .f32⟩
  | .hbm, ⟨6, _⟩ => ⟨S256x1536, .f32⟩
  | .hbm, ⟨7, _⟩ => ⟨S1x256, .f32⟩
  | .hbm, ⟨8, _⟩ => ⟨S256x2048, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S1x32, .f32⟩
  | .hbm, ⟨24, _⟩ => ⟨S4096x3648, .f32⟩
  | .hbm, ⟨25, _⟩ => ⟨S_, .f32⟩
  | .hbm, ⟨26, _⟩ => ⟨S4096x448, .f32⟩
  | .hbm, ⟨27, _⟩ => ⟨S4096x3072, .f32⟩
  | .hbm, ⟨28, _⟩ => ⟨S4096x7168, .f32⟩
  | .hbm, ⟨29, _⟩ => ⟨S4096x7168, .bf16⟩
  | .hbm, ⟨30, _⟩ => ⟨S4096x1, .i32⟩
  | .hbm, ⟨31, _⟩ => ⟨S256x1536, .bf16⟩
  | .hbm, ⟨32, _⟩ => ⟨S256x2048, .bf16⟩
  | .hbm, ⟨33, _⟩ => ⟨S4096x1024, .bf16⟩
  | .hbm, ⟨34, _⟩ => ⟨S256x1536, .f32⟩
  | .hbm, ⟨35, _⟩ => ⟨S256x2048, .f32⟩
  | .hbm, ⟨36, _⟩ => ⟨S8x256, .f32⟩
  | .local _ .vmem, ⟨0, _⟩ => ⟨S8x512x192, .f32⟩
  | .local _ .vmem, ⟨1, _⟩ => ⟨S8x512x192, .f32⟩
  | .local _ .vmem, ⟨2, _⟩ => ⟨S8x512x192, .f32⟩
  | .local _ .vmem, ⟨3, _⟩ => ⟨S8x512x192, .f32⟩
  | .local _ .vmem, ⟨4, _⟩ => ⟨S8x512x128, .f32⟩
  | .local _ .vmem, ⟨5, _⟩ => ⟨S8x512x128, .f32⟩
  | .local _ .vmem, ⟨6, _⟩ => ⟨S512x1024, .bf16⟩
  | .local _ .vmem, ⟨7, _⟩ => ⟨S512x1024, .bf16⟩
  | .local _ .vmem, ⟨8, _⟩ => ⟨S512x1, .i32⟩
  | .local _ .vmem, ⟨9, _⟩ => ⟨S512x1, .i32⟩
  | .local _ .vmem, ⟨10, _⟩ => ⟨S1x32, .f32⟩
  | .local _ .vmem, ⟨11, _⟩ => ⟨S1x256, .f32⟩
  | .local _ .vmem, ⟨12, _⟩ => ⟨S1x256, .f32⟩
  | .local _ .vmem, ⟨13, _⟩ => ⟨S256x1536, .bf16⟩
  | .local _ .vmem, ⟨14, _⟩ => ⟨S256x2048, .bf16⟩
  | .local _ .vmem, ⟨15, _⟩ => ⟨S512x1024, .bf16⟩
  | .local _ .vmem, ⟨16, _⟩ => ⟨S512x1024, .bf16⟩
  | .local _ .vmem, ⟨17, _⟩ => ⟨S256x1536, .f32⟩
  | .local _ .vmem, ⟨18, _⟩ => ⟨S256x2048, .f32⟩
  | .local _ .vmem, ⟨19, _⟩ => ⟨S8x256, .f32⟩
  | _, _ => ⟨S8x4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v19_2 : Ref sig .tc := ⟨.hbm, 35, rfl⟩
abbrev main_v19_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S256x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MlaRefIdeal.lean ====
abbrev S8x4096x192 : Shape := ⟨3, ![8, 4096, 192]⟩
abbrev S8x4096x128 : Shape := ⟨3, ![8, 4096, 128]⟩
abbrev S4096x6720 : Shape := ⟨2, ![4096, 6720]⟩
abbrev S1x4096 : Shape := ⟨2, ![1, 4096]⟩
abbrev S1x256 : Shape := ⟨2, ![1, 256]⟩
abbrev S256x1536 : Shape := ⟨2, ![256, 1536]⟩
abbrev S256x2048 : Shape := ⟨2, ![256, 2048]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x576 : Shape := ⟨2, ![4096, 576]⟩
abbrev S4096x256 : Shape := ⟨2, ![4096, 256]⟩
abbrev S4096x64 : Shape := ⟨2, ![4096, 64]⟩
abbrev S4096x1536 : Shape := ⟨2, ![4096, 1536]⟩
abbrev S4096x8x192 : Shape := ⟨3, ![4096, 8, 192]⟩
abbrev S4096x8x128 : Shape := ⟨3, ![4096, 8, 128]⟩
abbrev S4096x8x64 : Shape := ⟨3, ![4096, 8, 64]⟩
abbrev S4096x2048 : Shape := ⟨2, ![4096, 2048]⟩
abbrev S4096x8x256 : Shape := ⟨3, ![4096, 8, 256]⟩
abbrev S4096x1x32 : Shape := ⟨3, ![4096, 1, 32]⟩
abbrev S4096x8x32 : Shape := ⟨3, ![4096, 8, 32]⟩
abbrev S4096x1x64 : Shape := ⟨3, ![4096, 1, 64]⟩
abbrev S2048x256 : Shape := ⟨2, ![2048, 256]⟩
abbrev S256 : Shape := ⟨1, ![256]⟩
abbrev S1536x256 : Shape := ⟨2, ![1536, 256]⟩
abbrev S4096x448 : Shape := ⟨2, ![4096, 448]⟩
abbrev S4096x1024 : Shape := ⟨2, ![4096, 1024]⟩
abbrev S6x256 : Shape := ⟨2, ![6, 256]⟩
abbrev S8x256 : Shape := ⟨2, ![8, 256]⟩

abbrev nBuf : Space → Nat
  | .hbm => 226
  | .vmem => 0
  | .smem => 0
  | _ => 0

abbrev hbmTy0_0 (i : Nat) : BufTy := match i % 128 with
  | 0 => ⟨S8x4096x192, .f32⟩
  | 1 => ⟨S8x4096x192, .f32⟩
  | 2 => ⟨S8x4096x128, .f32⟩
  | 3 => ⟨S4096x6720, .f32⟩
  | 4 => ⟨S1x4096, .i32⟩
  | 5 => ⟨S1x256, .f32⟩
  | 6 => ⟨S256x1536, .f32⟩
  | 7 => ⟨S1x256, .f32⟩
  | 8 => ⟨S256x2048, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S4096, .i32⟩
  | 24 => ⟨S4096, .f32⟩
  | 25 => ⟨S4096x1, .f32⟩
  | 26 => ⟨S1x32, .f32⟩
  | 27 => ⟨S4096x32, .f32⟩
  | 28 => ⟨S4096x32, .f32⟩
  | 29 => ⟨S4096x32, .f32⟩
  | 30 => ⟨S4096x576, .f32⟩
  | 31 => ⟨S4096x32, .f32⟩
  | 32 => ⟨S4096x32, .f32⟩
  | 33 => ⟨S4096x256, .f32⟩
  | 34 => ⟨S4096x256, .f32⟩
  | 35 => ⟨S4096x64, .f32⟩
  | 36 => ⟨S4096x256, .f32⟩
  | 37 => ⟨S_, .f32⟩
  | 38 => ⟨S4096, .f32⟩
  | 39 => ⟨S4096x1, .f32⟩
  | 40 => ⟨S_, .f32⟩
  | 41 => ⟨S4096x1, .f32⟩
  | 42 => ⟨S4096x1, .f32⟩
  | 43 => ⟨S_, .f32⟩
  | 44 => ⟨S4096x1, .f32⟩
  | 45 => ⟨S4096x1, .f32⟩
  | 46 => ⟨S4096x1, .f32⟩
  | 47 => ⟨S4096x1, .f32⟩
  | 48 => ⟨S_, .f32⟩
  | 49 => ⟨S4096x1, .f32⟩
  | 50 => ⟨S4096x1, .f32⟩
  | 51 => ⟨S4096x256, .f32⟩
  | 52 => ⟨S4096x256, .f32⟩
  | 53 => ⟨S4096x256, .f32⟩
  | 54 => ⟨S4096x256, .f32⟩
  | 55 => ⟨S4096x1536, .f32⟩
  | 56 => ⟨S4096x8x192, .f32⟩
  | 57 => ⟨S4096x8x128, .f32⟩
  | 58 => ⟨S4096x8x64, .f32⟩
  | 59 => ⟨S4096x256, .f32⟩
  | 60 => ⟨S_, .f32⟩
  | 61 => ⟨S4096, .f32⟩
  | 62 => ⟨S4096x1, .f32⟩
  | 63 => ⟨S_, .f32⟩
  | 64 => ⟨S4096x1, .f32⟩
  | 65 => ⟨S4096x1, .f32⟩
  | 66 => ⟨S_, .f32⟩
  | 67 => ⟨S4096x1, .f32⟩
  | 68 => ⟨S4096x1, .f32⟩
  | 69 => ⟨S4096x1, .f32⟩
  | 70 => ⟨S4096x1, .f32⟩
  | 71 => ⟨S_, .f32⟩
  | 72 => ⟨S4096x1, .f32⟩
  | 73 => ⟨S4096x1, .f32⟩
  | 74 => ⟨S4096x256, .f32⟩
  | 75 => ⟨S4096x256, .f32⟩
  | 76 => ⟨S4096x256, .f32⟩
  | 77 => ⟨S4096x256, .f32⟩
  | 78 => ⟨S4096x2048, .f32⟩
  | 79 => ⟨S4096x8x256, .f32⟩
  | 80 => ⟨S4096x8x128, .f32⟩
  | 81 => ⟨S4096x8x128, .f32⟩
  | 82 => ⟨S4096x1x32, .f32⟩
  | 83 => ⟨S4096x1x32, .f32⟩
  | 84 => ⟨S4096x8x32, .f32⟩
  | 85 => ⟨S4096x8x32, .f32⟩
  | 86 => ⟨S4096x8x32, .f32⟩
  | 87 => ⟨S4096x8x32, .f32⟩
  | 88 => ⟨S4096x8x32, .f32⟩
  | 89 => ⟨S4096x8x32, .f32⟩
  | 90 => ⟨S4096x8x32, .f32⟩
  | 91 => ⟨S4096x8x32, .f32⟩
  | 92 => ⟨S4096x8x32, .f32⟩
  | 93 => ⟨S4096x8x32, .f32⟩
  | 94 => ⟨S4096x8x32, .f32⟩
  | 95 => ⟨S4096x8x32, .f32⟩
  | 96 => ⟨S4096x8x64, .f32⟩
  | 97 => ⟨S4096x32, .f32⟩
  | 98 => ⟨S4096x32, .f32⟩
  | 99 => ⟨S4096x32, .f32⟩
  | 100 => ⟨S4096x32, .f32⟩
  | 101 => ⟨S4096x32, .f32⟩
  | 102 => ⟨S4096x32, .f32⟩
  | 103 => ⟨S4096x32, .f32⟩
  | 104 => ⟨S4096x32, .f32⟩
  | 105 => ⟨S4096x64, .f32⟩
  | 106 => ⟨S4096x8x192, .f32⟩
  | 107 => ⟨S_, .f32⟩
  | 108 => ⟨S4096x8x192, .f32⟩
  | 109 => ⟨S4096x8x192, .f32⟩
  | 110 => ⟨S4096x1x64, .f32⟩
  | 111 => ⟨S4096x8x64, .f32⟩
  | 112 => ⟨S4096x8x192, .f32⟩
  | 113 => ⟨S8x4096x192, .f32⟩
  | 114 => ⟨S8x4096x192, .f32⟩
  | 115 => ⟨S8x4096x128, .f32⟩
  | 116 => ⟨S4096x8x128, .f32⟩
  | 117 => ⟨S4096x8x192, .f32⟩
  | 118 => ⟨S4096x8x192, .f32⟩
  | 119 => ⟨S4096x8x128, .f32⟩
  | 120 => ⟨S4096x8x64, .f32⟩
  | 121 => ⟨S_, .f32⟩
  | 122 => ⟨S4096x64, .f32⟩
  | 123 => ⟨S4096x1x64, .f32⟩
  | 124 => ⟨S_, .f32⟩
  | 125 => ⟨S4096x64, .f32⟩
  | 126 => ⟨S_, .f32⟩
  | 127 => ⟨S4096x8x192, .f32⟩
  | _ => ⟨S8x4096x192, .f32⟩

abbrev hbmTy0_1 (i : Nat) : BufTy := match i % 128 with
  | 0 => ⟨S4096x8x192, .f32⟩
  | 1 => ⟨S4096x8x128, .f32⟩
  | 2 => ⟨S4096x8x64, .f32⟩
  | 3 => ⟨S4096x32, .f32⟩
  | 4 => ⟨S4096x32, .f32⟩
  | 5 => ⟨S4096x32, .f32⟩
  | 6 => ⟨S4096x32, .f32⟩
  | 7 => ⟨S4096x32, .f32⟩
  | 8 => ⟨S4096x32, .f32⟩
  | 9 => ⟨S4096x32, .f32⟩
  | 10 => ⟨S4096x32, .f32⟩
  | 11 => ⟨S4096x32, .f32⟩
  | 12 => ⟨S4096x64, .f32⟩
  | 13 => ⟨S4096x8x32, .f32⟩
  | 14 => ⟨S4096x8x32, .f32⟩
  | 15 => ⟨S4096x8x32, .f32⟩
  | 16 => ⟨S4096x8x32, .f32⟩
  | 17 => ⟨S4096x8x32, .f32⟩
  | 18 => ⟨S4096x8x32, .f32⟩
  | 19 => ⟨S4096x8x32, .f32⟩
  | 20 => ⟨S4096x8x32, .f32⟩
  | 21 => ⟨S4096x8x32, .f32⟩
  | 22 => ⟨S4096x8x32, .f32⟩
  | 23 => ⟨S4096x8x32, .f32⟩
  | 24 => ⟨S4096x8x32, .f32⟩
  | 25 => ⟨S4096x8x32, .f32⟩
  | 26 => ⟨S4096x8x64, .f32⟩
  | 27 => ⟨S_, .f32⟩
  | 28 => ⟨S4096x8x256, .f32⟩
  | 29 => ⟨S_, .f32⟩
  | 30 => ⟨S4096x8x256, .f32⟩
  | 31 => ⟨S4096x8x256, .f32⟩
  | 32 => ⟨S4096x2048, .f32⟩
  | 33 => ⟨S2048x256, .f32⟩
  | 34 => ⟨S256x2048, .f32⟩
  | 35 => ⟨S4096x256, .f32⟩
  | 36 => ⟨S4096x256, .f32⟩
  | 37 => ⟨S_, .f32⟩
  | 38 => ⟨S256, .f32⟩
  | 39 => ⟨S1x256, .f32⟩
  | 40 => ⟨S4096x256, .f32⟩
  | 41 => ⟨S4096x256, .f32⟩
  | 42 => ⟨S4096x256, .f32⟩
  | 43 => ⟨S_, .f32⟩
  | 44 => ⟨S4096, .f32⟩
  | 45 => ⟨S4096x1, .f32⟩
  | 46 => ⟨S4096x256, .f32⟩
  | 47 => ⟨S4096x256, .f32⟩
  | 48 => ⟨S4096x1, .f32⟩
  | 49 => ⟨S_, .f32⟩
  | 50 => ⟨S4096x1, .f32⟩
  | 51 => ⟨S4096x1, .f32⟩
  | 52 => ⟨S_, .f32⟩
  | 53 => ⟨S4096, .f32⟩
  | 54 => ⟨S4096x256, .f32⟩
  | 55 => ⟨S4096x256, .f32⟩
  | 56 => ⟨S4096x256, .f32⟩
  | 57 => ⟨S4096x256, .f32⟩
  | 58 => ⟨S4096x256, .f32⟩
  | 59 => ⟨S_, .f32⟩
  | 60 => ⟨S4096x8x192, .f32⟩
  | 61 => ⟨S_, .f32⟩
  | 62 => ⟨S4096x8x192, .f32⟩
  | 63 => ⟨S4096x8x192, .f32⟩
  | 64 => ⟨S4096x1536, .f32⟩
  | 65 => ⟨S1536x256, .f32⟩
  | 66 => ⟨S256x1536, .f32⟩
  | 67 => ⟨S4096x256, .f32⟩
  | 68 => ⟨S4096x256, .f32⟩
  | 69 => ⟨S_, .f32⟩
  | 70 => ⟨S256, .f32⟩
  | 71 => ⟨S1x256, .f32⟩
  | 72 => ⟨S4096x256, .f32⟩
  | 73 => ⟨S4096x256, .f32⟩
  | 74 => ⟨S4096x256, .f32⟩
  | 75 => ⟨S_, .f32⟩
  | 76 => ⟨S4096, .f32⟩
  | 77 => ⟨S4096x1, .f32⟩
  | 78 => ⟨S4096x256, .f32⟩
  | 79 => ⟨S4096x256, .f32⟩
  | 80 => ⟨S4096x1, .f32⟩
  | 81 => ⟨S_, .f32⟩
  | 82 => ⟨S4096x1, .f32⟩
  | 83 => ⟨S4096x1, .f32⟩
  | 84 => ⟨S_, .f32⟩
  | 85 => ⟨S4096, .f32⟩
  | 86 => ⟨S4096x256, .f32⟩
  | 87 => ⟨S4096x256, .f32⟩
  | 88 => ⟨S4096x256, .f32⟩
  | 89 => ⟨S4096x256, .f32⟩
  | 90 => ⟨S4096x256, .f32⟩
  | 91 => ⟨S_, .f32⟩
  | 92 => ⟨S4096x448, .f32⟩
  | 93 => ⟨S4096x1024, .f32⟩
  | 94 => ⟨S4096x1024, .bf16⟩
  | 95 => ⟨S_, .f32⟩
  | 96 => ⟨S6x256, .f32⟩
  | 97 => ⟨S8x256, .f32⟩
  | _ => ⟨S8x4096x192, .f32⟩

abbrev hbmTy (i : Nat) : BufTy := match i / 128 with
  | 0 => hbmTy0_0 i
  | 1 => hbmTy0_1 i
  | _ => ⟨S8x4096x192, .f32⟩

abbrev bufTy : (tb : Table) → Fin (tcTables nBuf tb) → BufTy
  | .hbm, ⟨i, _⟩ => hbmTy i
  | _, _ => ⟨S8x4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_11 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_12 : Ref sig .tc := ⟨.hbm, 121, rfl⟩
abbrev main_v99 : Ref sig .tc := ⟨.hbm, 122, rfl⟩
abbrev main_v100 : Ref sig .tc := ⟨.hbm, 123, rfl⟩
abbrev main_cst_13 : Ref sig .tc := ⟨.hbm, 124, rfl⟩
abbrev main_v101 : Ref sig .tc := ⟨.hbm, 125, rfl⟩
abbrev main_cst_14 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_cst_15 : Ref sig .tc := ⟨.hbm, 155, rfl⟩
abbrev main_v130 : Ref sig .tc := ⟨.hbm, 156, rfl⟩
abbrev main_cst_16 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_cst_17 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_cst_18 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_cst_19 : Ref sig .tc := ⟨.hbm, 177, rfl⟩
abbrev main_v148 : Ref sig .tc := ⟨.hbm, 178, rfl⟩
abbrev main_v149 : Ref sig .tc := ⟨.hbm, 179, rfl⟩
abbrev main_cst_20 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_cst_21 : Ref sig .tc := ⟨.hbm, 187, rfl⟩
abbrev main_v156 : Ref sig .tc := ⟨.hbm, 188, rfl⟩
abbrev main_cst_22 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_cst_23 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_cst_24 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_cst_25 : Ref sig .tc := ⟨.hbm, 209, rfl⟩
abbrev main_v174 : Ref sig .tc := ⟨.hbm, 210, rfl⟩
abbrev main_v175 : Ref sig .tc := ⟨.hbm, 211, rfl⟩
abbrev main_cst_26 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_cst_27 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_cst_28 : Ref sig .tc := ⟨.hbm, 223, rfl⟩
abbrev main_v185 : Ref sig .tc := ⟨.hbm, 224, rfl⟩
abbrev main_v186 : Ref sig .tc := ⟨.hbm, 225, rfl⟩

abbrev nD : Nat := 1
abbrev τ : Topo := Topo.v7x

variable {F : FTy → Type} [FloatOps F]
-- ==== Inx.lean ====
abbrev S4096x6720 : Shape := ⟨2, ![4096, 6720]⟩
abbrev S1024x6720 : Shape := ⟨2, ![1024, 6720]⟩
abbrev S4096x1024 : Shape := ⟨2, ![4096, 1024]⟩
abbrev S1x1024 : Shape := ⟨2, ![1, 1024]⟩
abbrev S4096x2048 : Shape := ⟨2, ![4096, 2048]⟩
abbrev S4096x576 : Shape := ⟨2, ![4096, 576]⟩
abbrev S_ : Shape := ⟨0, ![]⟩
abbrev S4096x448 : Shape := ⟨2, ![4096, 448]⟩
abbrev S4096x3072 : Shape := ⟨2, ![4096, 3072]⟩
abbrev S6720x1024 : Shape := ⟨2, ![6720, 1024]⟩
abbrev S3648x1024 : Shape := ⟨2, ![3648, 1024]⟩
abbrev S448x1024 : Shape := ⟨2, ![448, 1024]⟩
abbrev S3072x1024 : Shape := ⟨2, ![3072, 1024]⟩
abbrev S7168x1024 : Shape := ⟨2, ![7168, 1024]⟩
abbrev S5x1024 : Shape := ⟨2, ![5, 1024]⟩
abbrev S8x1024 : Shape := ⟨2, ![8, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 31
  | .vmem => 20
  | .smem => 0
  | _ => 0

abbrev bufTy : (tb : Table) → Fin (tcTables nBuf tb) → BufTy
  | .hbm, ⟨0, _⟩ => ⟨S4096x6720, .f32⟩
  | .hbm, ⟨1, _⟩ => ⟨S1024x6720, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x2048, .f32⟩
  | .hbm, ⟨9, _⟩ => ⟨S4096x2048, .bf16⟩
  | .hbm, ⟨10, _⟩ => ⟨S4096x1024, .f32⟩
  | .hbm, ⟨11, _⟩ => ⟨S4096x1024, .bf16⟩
  | .hbm, ⟨12, _⟩ => ⟨S4096x576, .f32⟩
  | .hbm, ⟨13, _⟩ => ⟨S_, .f32⟩
  | .hbm, ⟨14, _⟩ => ⟨S4096x448, .f32⟩
  | .hbm, ⟨15, _⟩ => ⟨S4096x1024, .f32⟩
  | .hbm, ⟨16, _⟩ => ⟨S4096x1024, .bf16⟩
  | .hbm, ⟨17, _⟩ => ⟨S4096x3072, .f32⟩
  | .hbm, ⟨18, _⟩ => ⟨S4096x3072, .bf16⟩
  | .hbm, ⟨19, _⟩ => ⟨S1024x6720, .bf16⟩
  | .hbm, ⟨20, _⟩ => ⟨S6720x1024, .bf16⟩
  | .hbm, ⟨21, _⟩ => ⟨S3648x1024, .bf16⟩
  | .hbm, ⟨22, _⟩ => ⟨S_, .bf16⟩
  | .hbm, ⟨23, _⟩ => ⟨S448x1024, .bf16⟩
  | .hbm, ⟨24, _⟩ => ⟨S3072x1024, .bf16⟩
  | .hbm, ⟨25, _⟩ => ⟨S7168x1024, .bf16⟩
  | .hbm, ⟨26, _⟩ => ⟨S_, .f32⟩
  | .hbm, ⟨27, _⟩ => ⟨S5x1024, .f32⟩
  | .hbm, ⟨28, _⟩ => ⟨S8x1024, .f32⟩
  | .hbm, ⟨29, _⟩ => ⟨S4096x1024, .f32⟩
  | .hbm, ⟨30, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S8x1024, .f32⟩
  | .local _ .vmem, ⟨16, _⟩ => ⟨S1024x1024, .f32⟩
  | .local _ .vmem, ⟨17, _⟩ => ⟨S1024x1024, .f32⟩
  | .local _ .vmem, ⟨18, _⟩ => ⟨S8x1024, .f32⟩
  | .local _ .vmem, ⟨19, _⟩ => ⟨S1024x1024, .f32⟩
  | _, _ => ⟨S4096x6720, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨2, ![4, 7], ![false, false]⟩

def k0_cond7 (i : grid0.Coords) : BitVec 1 :=
  let arg1 : BitVec 32 := BitVec.ofNat 32 (i 1).val
  let c6_i32 : BitVec 32 := 6#32
  let v20 : BitVec 1 := Scalar.cmpi .eq arg1 c6_i32
  let v21 : BitVec 32 := Scalar.extui v20
  let c0_i32_10 : BitVec 32 := 0#32
  let v22 : BitVec 1 := Scalar.cmpi .ne v21 c0_i32_10
  v22

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== InxRefIdeal.lean ====
abbrev S4096x6720 : Shape := ⟨2, ![4096, 6720]⟩
abbrev S1024x6720 : Shape := ⟨2, ![1024, 6720]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4096x6720, .f32⟩
  | .hbm, ⟨1, _⟩ => ⟨S1024x6720, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x6720, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S5x1024, .f32⟩
  | .hbm, ⟨71, _⟩ => ⟨S8x1024, .f32⟩
  | _, _ => ⟨S4096x6720, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Merge.lean ====
abbrev S4096x1024 : Shape := ⟨2, ![4096, 1024]⟩
abbrev S4096x6720 : Shape := ⟨2, ![4096, 6720]⟩
abbrev S1x1024 : Shape := ⟨2, ![1, 1024]⟩
abbrev S1024 : Shape := ⟨1, ![1024]⟩
abbrev S1024x1024 : Shape := ⟨2, ![1024, 1024]⟩
abbrev S_ : Shape := ⟨0, ![]⟩
abbrev S5x1024 : Shape := ⟨2, ![5, 1024]⟩
abbrev S8x1024 : Shape := ⟨2, ![8, 1024]⟩
abbrev S8x128x1024 : Shape := ⟨3, ![8, 128, 1024]⟩
abbrev S8x384x1024 : Shape := ⟨3, ![8, 384, 1024]⟩
abbrev S4096x3648 : Shape := ⟨2, ![4096, 3648]⟩
abbrev S4096x448 : Shape := ⟨2, ![4096, 448]⟩
abbrev S4096x3072 : Shape := ⟨2, ![4096, 3072]⟩
abbrev S4096x7168 : Shape := ⟨2, ![4096, 7168]⟩
abbrev S8x4096x128 : Shape := ⟨3, ![8, 4096, 128]⟩
abbrev S3x1024x1024 : Shape := ⟨3, ![3, 1024, 1024]⟩
abbrev S256x1024 : Shape := ⟨2, ![256, 1024]⟩
abbrev S8x256x128 : Shape := ⟨3, ![8, 256, 128]⟩
abbrev S256x3072 : Shape := ⟨2, ![256, 3072]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1024x1024 : Shape := ⟨3, ![1, 1024, 1024]⟩
abbrev S256x128 : Shape := ⟨2, ![256, 128]⟩
abbrev S1x256x128 : Shape := ⟨3, ![1, 256, 128]⟩

abbrev nBuf : Space → Nat
  | .hbm => 37
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x6720, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S5x1024, .f32⟩
  | .hbm, ⟨14, _⟩ => ⟨S8x1024, .f32⟩
  | .hbm, ⟨15, _⟩ => ⟨S8x128x1024, .f32⟩
  | .hbm, ⟨16, _⟩ => ⟨S8x128x1024, .bf16⟩
  | .hbm, ⟨17, _⟩ => ⟨S8x128x1024, .f32⟩
  | .hbm, ⟨18, _⟩ => ⟨S8x128x1024, .bf16⟩
  | .hbm, ⟨19, _⟩ => ⟨S8x128x1024, .f32⟩
  | .hbm, ⟨20, _⟩ => ⟨S8x128x1024, .bf16⟩
  | .hbm, ⟨21, _⟩ => ⟨S8x384x1024, .bf16⟩
  | .hbm, ⟨22, _⟩ => ⟨S4096x1024, .bf16⟩
  | .hbm, ⟨23, _⟩ => ⟨S4096x3648, .f32⟩
  | .hbm, ⟨24, _⟩ => ⟨S_, .f32⟩
  | .hbm, ⟨25, _⟩ => ⟨S4096x448, .f32⟩
  | .hbm, ⟨26, _⟩ => ⟨S4096x3072, .f32⟩
  | .hbm, ⟨27, _⟩ => ⟨S4096x7168, .f32⟩
  | .hbm, ⟨28, _⟩ => ⟨S4096x7168, .bf16⟩
  | .hbm, ⟨29, _⟩ => ⟨S1x1024, .f32⟩
  | .hbm, ⟨30, _⟩ => ⟨S4096x1024, .f32⟩
  | .hbm, ⟨31, _⟩ => ⟨S4096x1024, .bf16⟩
  | .hbm, ⟨32, _⟩ => ⟨S8x4096x128, .f32⟩
  | .hbm, ⟨33, _⟩ => ⟨S4096x3072, .bf16⟩
  | .hbm, ⟨34, _⟩ => ⟨S4096x1024, .f32⟩
  | .hbm, ⟨35, _⟩ => ⟨S3x1024x1024, .bf16⟩
  | .hbm, ⟨36, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S8x1024, .f32⟩
  | .local _ .vmem, ⟨15, _⟩ => ⟨S1x1024, .f32⟩
  | .local _ .vmem, ⟨16, _⟩ => ⟨S8x128x1024, .bf16⟩
  | .local _ .vmem, ⟨17, _⟩ => ⟨S8x128x1024, .bf16⟩
  | .local _ .vmem, ⟨18, _⟩ => ⟨S8x128x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S8x256x128, .f32⟩
  | .local _ .vmem, ⟨24, _⟩ => ⟨S8x256x128, .f32⟩
  | .local _ .vmem, ⟨25, _⟩ => ⟨S256x3072, .bf16⟩
  | .local _ .vmem, ⟨26, _⟩ => ⟨S256x3072, .bf16⟩
  | .local _ .vmem, ⟨27, _⟩ => ⟨S256x1024, .f32⟩
  | .local _ .vmem, ⟨28, _⟩ => ⟨S256x1024, .f32⟩
  | .local _ .vmem, ⟨29, _⟩ => ⟨S8x1024, .f32⟩
  | .local _ .vmem, ⟨30, _⟩ => ⟨S3x1024x1024, .f32⟩
  | .local _ .vmem, ⟨31, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev main_v16_3 : Ref sig .tc := ⟨.hbm, 33, rfl⟩
abbrev main_v16_4 : Ref sig .tc := ⟨.hbm, 34, rfl⟩
abbrev main_v16_5 : Ref sig .tc := ⟨.hbm, 35, rfl⟩
abbrev main_v16_6 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_11 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MergeRefIdeal.lean ====
abbrev S4096x1024 : Shape := ⟨2, ![4096, 1024]⟩
abbrev S4096x6720 : Shape := ⟨2, ![4096, 6720]⟩
abbrev S1x1024 : Shape := ⟨2, ![1, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x8x128 : Shape := ⟨3, ![4096, 8, 128]⟩
abbrev S4096x8 : Shape := ⟨2, ![4096, 8]⟩
abbrev S8x4096 : Shape := ⟨2, ![8, 4096]⟩
abbrev S8x4096x1 : Shape := ⟨3, ![8, 4096, 1]⟩
abbrev S8x4096x128 : Shape := ⟨3, ![8, 4096, 128]⟩
abbrev S4096x3072 : Shape := ⟨2, ![4096, 3072]⟩
abbrev S5x1024 : Shape := ⟨2, ![5, 1024]⟩
abbrev S8x1024 : Shape := ⟨2, ![8, 1024]⟩

abbrev nBuf : Space → Nat
  | .hbm => 166
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x6720, .f32⟩
  | 5 => ⟨S1x1024, .f32⟩
  | 6 => ⟨S1x1024, .f32⟩
  | 7 => ⟨S1x1024, .f32⟩
  | 8 => ⟨S1024, .f32⟩
  | 9 => ⟨S1024x1024, .f32⟩
  | 10 => ⟨S1024x1024, .f32⟩
  | 11 => ⟨S1024x1024, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S_, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S_, .f32⟩
  | 64 => ⟨S4096, .f32⟩
  | 65 => ⟨S4096x1, .f32⟩
  | 66 => ⟨S_, .f32⟩
  | 67 => ⟨S4096x1, .f32⟩
  | 68 => ⟨S4096x1, .f32⟩
  | 69 => ⟨S_, .f32⟩
  | 70 => ⟨S4096x1, .f32⟩
  | 71 => ⟨S4096x1, .f32⟩
  | 72 => ⟨S4096x1, .f32⟩
  | 73 => ⟨S4096x1, .f32⟩
  | 74 => ⟨S_, .f32⟩
  | 75 => ⟨S4096x1, .f32⟩
  | 76 => ⟨S4096x1, .f32⟩
  | 77 => ⟨S4096x1024, .f32⟩
  | 78 => ⟨S4096x1024, .f32⟩
  | 79 => ⟨S1x1024, .f32⟩
  | 80 => ⟨S4096x1024, .f32⟩
  | 81 => ⟨S4096x1024, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S_, .f32⟩
  | 88 => ⟨S4096, .f32⟩
  | 89 => ⟨S_, .f32⟩
  | 90 => ⟨S4096, .f32⟩
  | 91 => ⟨S4096, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S4096, .f32⟩
  | 100 => ⟨S_, .f32⟩
  | 101 => ⟨S4096, .f32⟩
  | 102 => ⟨S4096, .f32⟩
  | 103 => ⟨S4096x1024, .f32⟩
  | 104 => ⟨S4096x1024, .f32⟩
  | 105 => ⟨S4096x1024, .f32⟩
  | 106 => ⟨S_, .f32⟩
  | 107 => ⟨S1024, .f32⟩
  | 108 => ⟨S1x1024, .f32⟩
  | 109 => ⟨S4096x1024, .f32⟩
  | 110 => ⟨S4096x1024, .f32⟩
  | 111 => ⟨S_, .f32⟩
  | 112 => ⟨S1024, .f32⟩
  | 113 => ⟨S4096x1024, .f32⟩
  | 114 => ⟨S_, .f32⟩
  | 115 => ⟨S4096, .f32⟩
  | 116 => ⟨S4096x1, .f32⟩
  | 117 => ⟨S4096x1024, .f32⟩
  | 118 => ⟨S4096x1024, .f32⟩
  | 119 => ⟨S4096x1, .f32⟩
  | 120 => ⟨S_, .f32⟩
  | 121 => ⟨S4096x1, .f32⟩
  | 122 => ⟨S4096x1, .f32⟩
  | 123 => ⟨S_, .f32⟩
  | 124 => ⟨S4096, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S_, .f32⟩
  | 6 => ⟨S1024, .f32⟩
  | 7 => ⟨S1x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S4096x8x128, .f32⟩
  | 25 => ⟨S_, .f32⟩
  | 26 => ⟨S4096x8, .f32⟩
  | 27 => ⟨S8x4096, .f32⟩
  | 28 => ⟨S4096x1024, .bf16⟩
  | 29 => ⟨S8x4096x1, .f32⟩
  | 30 => ⟨S8x4096x128, .f32⟩
  | 31 => ⟨S4096x3072, .f32⟩
  | 32 => ⟨S4096x3072, .bf16⟩
  | 33 => ⟨S1x1024, .f32⟩
  | 34 => ⟨S1x1024, .f32⟩
  | 35 => ⟨S_, .f32⟩
  | 36 => ⟨S5x1024, .f32⟩
  | 37 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v4_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v4_1 : Ref sig .tc := ⟨.hbm, 27, rfl⟩
abbrev main_v4_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst : Ref sig .tc := ⟨.hbm, 33, rfl⟩
abbrev main_v9 : Ref sig .tc := ⟨.hbm, 34, rfl⟩
abbrev main_v10 : Ref sig .tc := ⟨.hbm, 35, rfl⟩
abbrev main_cst_0 : Ref sig .tc := ⟨.hbm, 36, rfl⟩
abbrev main_v11 : Ref sig .tc := ⟨.hbm, 37, rfl⟩
abbrev main_v12 : Ref sig .tc := ⟨.hbm, 38, rfl⟩
abbrev main_cst_1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_2 : Ref sig .tc := ⟨.hbm, 46, rfl⟩
abbrev main_v19 : Ref sig .tc := ⟨.hbm, 47, rfl⟩
abbrev main_v20 : Ref sig .tc := ⟨.hbm, 48, rfl⟩
abbrev main_cst_3 : Ref sig .tc := ⟨.hbm, 49, rfl⟩
abbrev main_v21 : Ref sig .tc := ⟨.hbm, 50, rfl⟩
abbrev main_v22 : Ref sig .tc := ⟨.hbm, 51, rfl⟩
abbrev main_cst_4 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_5 : Ref sig .tc := ⟨.hbm, 63, rfl⟩
abbrev main_v33 : Ref sig .tc := ⟨.hbm, 64, rfl⟩
abbrev main_v34 : Ref sig .tc := ⟨.hbm, 65, rfl⟩
abbrev main_cst_6 : Ref sig .tc := ⟨.hbm, 66, rfl⟩
abbrev main_v35 : Ref sig .tc := ⟨.hbm, 67, rfl⟩
abbrev main_v36 : Ref sig .tc := ⟨.hbm, 68, rfl⟩
abbrev main_cst_7 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_8 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_9 : Ref sig .tc := ⟨.hbm, 84, rfl⟩
abbrev main_v50 : Ref sig .tc := ⟨.hbm, 85, rfl⟩
abbrev main_v51 : Ref sig .tc := ⟨.hbm, 86, rfl⟩
abbrev main_cst_10 : Ref sig .tc := ⟨.hbm, 87, rfl⟩
abbrev main_v52 : Ref sig .tc := ⟨.hbm, 88, rfl⟩
abbrev main_cst_11 : Ref sig .tc := ⟨.hbm, 89, rfl⟩
abbrev main_v53 : Ref sig .tc := ⟨.hbm, 90, rfl⟩
abbrev main_v54 : Ref sig .tc := ⟨.hbm, 91, rfl⟩
abbrev main_cst_12 : Ref sig .tc := ⟨.hbm, 92, rfl⟩
abbrev main_v55 : Ref sig .tc := ⟨.hbm, 93, rfl⟩
abbrev main_cst_13 : Ref sig .tc := ⟨.hbm, 94, rfl⟩
abbrev main_v56 : Ref sig .tc := ⟨.hbm, 95, rfl⟩
abbrev main_cst_14 : Ref sig .tc := ⟨.hbm, 96, rfl⟩
abbrev main_cst_15 : Ref sig .tc := ⟨.hbm, 97, rfl⟩
abbrev main_v57 : Ref sig .tc := ⟨.hbm, 98, rfl⟩
abbrev main_v58 : Ref sig .tc := ⟨.hbm, 99, rfl⟩
abbrev main_cst_16 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_17 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_18 : Ref sig .tc := ⟨.hbm, 111, rfl⟩
abbrev main_v68 : Ref sig .tc := ⟨.hbm, 112, rfl⟩
abbrev main_v69 : Ref sig .tc := ⟨.hbm, 113, rfl⟩
abbrev main_cst_19 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_cst_20 : Ref sig .tc := ⟨.hbm, 120, rfl⟩
abbrev main_v75 : Ref sig .tc := ⟨.hbm, 121, rfl⟩
abbrev main_v76 : Ref sig .tc := ⟨.hbm, 122, rfl⟩
abbrev main_cst_21 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_22 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_call1_v0 : Ref sig .tc := ⟨.hbm, 146, rfl⟩
abbrev main_call1_v1 : Ref sig .tc := ⟨.hbm, 147, rfl⟩
abbrev main_call1_v2 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_cst_23 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_cst_24 : Ref sig .tc := ⟨.hbm, 163, rfl⟩
abbrev main_v111 : Ref sig .tc := ⟨.hbm, 164, rfl⟩
abbrev main_v112 : Ref sig .tc := ⟨.hbm, 165, rfl⟩

abbrev nD : Nat := 1
abbrev τ : Topo := Topo.v7x

variable {F : FTy → Type} [FloatOps F]
-- ==== Fwd.lean ====
abbrev S8x4096x192 : Shape := ⟨3, ![8, 4096, 192]⟩
abbrev S8x4096x128 : Shape := ⟨3, ![8, 4096, 128]⟩
abbrev S4096x1024 : Shape := ⟨2, ![4096, 1024]⟩
abbrev S1x1024x192 : Shape := ⟨3, ![1, 1024, 192]⟩
abbrev S1x4096x192 : Shape := ⟨3, ![1, 4096, 192]⟩
abbrev S1x4096x128 : Shape := ⟨3, ![1, 4096, 128]⟩
abbrev S1024x128 : Shape := ⟨2, ![1024, 128]⟩
abbrev S1x1024x128 : Shape := ⟨3, ![1, 1024, 128]⟩
abbrev S1024x192 : Shape := ⟨2, ![1024, 192]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 8
  | .vmem => 10
  | .smem => 0
  | _ => 0

abbrev bufTy : (tb : Table) → Fin (tcTables nBuf tb) → BufTy
  | .hbm, ⟨0, _⟩ => ⟨S8x4096x192, .f32⟩
  | .hbm, ⟨1, _⟩ => ⟨S8x4096x192, .f32⟩
  | .hbm, ⟨2, _⟩ => ⟨S8x4096x128, .f32⟩
  | .hbm, ⟨3, _⟩ => ⟨S8x4096x192, .bf16⟩
  | .hbm, ⟨4, _⟩ => ⟨S8x4096x192, .bf16⟩
  | .hbm, ⟨5, _⟩ => ⟨S8x4096x128, .bf16⟩
  | .hbm, ⟨6, _⟩ => ⟨S4096x1024, .f32⟩
  | .hbm, ⟨7, _⟩ => ⟨S8x4096x128, .f32⟩
  | .local _ .vmem, ⟨0, _⟩ => ⟨S1x1024x192, .bf16⟩
  | .local _ .vmem, ⟨1, _⟩ => ⟨S1x1024x192, .bf16⟩
  | .local _ .vmem, ⟨2, _⟩ => ⟨S1x4096x192, .bf16⟩
  | .local _ .vmem, ⟨3, _⟩ => ⟨S1x4096x192, .bf16⟩
  | .local _ .vmem, ⟨4, _⟩ => ⟨S1x4096x128, .bf16⟩
  | .local _ .vmem, ⟨5, _⟩ => ⟨S1x4096x128, .bf16⟩
  | .local _ .vmem, ⟨6, _⟩ => ⟨S1024x128, .f32⟩
  | .local _ .vmem, ⟨7, _⟩ => ⟨S1024x128, .f32⟩
  | .local _ .vmem, ⟨8, _⟩ => ⟨S1x1024x128, .f32⟩
  | .local _ .vmem, ⟨9, _⟩ => ⟨S1x1024x128, .f32⟩
  | _, _ => ⟨S8x4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  ⟨c0_i32, v9, c1_i32_4⟩
def k0_mult1 (i : grid0.Coords) (k0_t1 : Fin (k0_t1_loop i).trips) : BitVec 32 :=
  let c0_i32 : BitVec 32 := 0#32
  let c1_i32_4 : BitVec 32 := 1#32
  let arg7 : BitVec 32 := Scf.iv c0_i32 c1_i32_4 k0_t1
  let c1024_i32_20 : BitVec 32 := 1024#32
  let v53 : BitVec 32 := Scalar.muli arg7 c1024_i32_20
  v53
def k0_off1 (i : grid0.Coords) (k0_t1 : Fin (k0_t1_loop i).trips) : Fin 3 → Nat :=
  let c0_21 : Index := 0#32
  let c0_i32 : BitVec 32 := 0#32
  let c1_i32_4 : BitVec 32 := 1#32
  let arg7 : BitVec 32 := Scf.iv c0_i32 c1_i32_4 k0_t1
  let c1024_i32_20 : BitVec 32 := 1024#32
  let v53 : BitVec 32 := Scalar.muli arg7 c1024_i32_20
  let v54 : BitVec 32 := v53
  let v55 : Index := Scalar.indexCast v54
  let c0_22 : Index := 0#32
  ![0, v55.toNat, 0]
def k0_off2 (i : grid0.Coords) (k0_t1 : Fin (k0_t1_loop i).trips) : Fin 3 → Nat :=
  let c0_26 : Index := 0#32
  let c0_i32 : BitVec 32 := 0#32
  let c1_i32_4 : BitVec 32 := 1#32
  let arg7 : BitVec 32 := Scf.iv c0_i32 c1_i32_4 k0_t1
  let c1024_i32_20 : BitVec 32 := 1024#32
  let v53 : BitVec 32 := Scalar.muli arg7 c1024_i32_20
  let v54 : BitVec 32 := v53
  let v74 : Index := Scalar.indexCast v54
  let c0_27 : Index := 0#32
  ![0, v74.toNat, 0]
@[reducible] def k0_t2_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let v6 : BitVec 32 := Scalar.addi c0_i32 v5
  let c1_i32_5 : BitVec 32 := 1#32
  ⟨v9, v6, c1_i32_5⟩
def k0_mult2 (i : grid0.Coords) (k0_t2 : Fin (k0_t2_loop i).trips) : BitVec 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg7 : BitVec 32 := Scf.iv v9 c1_i32_5 k0_t2
  let c1024_i32_20 : BitVec 32 := 1024#32
  let v53 : BitVec 32 := Scalar.muli arg7 c1024_i32_20
  v53
def k0_off3 (i : grid0.Coords) (k0_t2 : Fin (k0_t2_loop i).trips) : Fin 3 → Nat :=
  let c0_21 : Index := 0#32
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg7 : BitVec 32 := Scf.iv v9 c1_i32_5 k0_t2
  let c1024_i32_20 : BitVec 32 := 1024#32
  let v53 : BitVec 32 := Scalar.muli arg7 c1024_i32_20
  let v54 : BitVec 32 := v53
  let v55 : Index := Scalar.indexCast v54
  let c0_22 : Index := 0#32
  ![0, v55.toNat, 0]
def k0_off4 (i : grid0.Coords) (k0_t2 : Fin (k0_t2_loop i).trips) : Fin 3 → Nat :=
  let c0_26 : Index := 0#32
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg7 : BitVec 32 := Scf.iv v9 c1_i32_5 k0_t2
  let c1024_i32_20 : BitVec 32 := 1024#32
  let v53 : BitVec 32 := Scalar.muli arg7 c1024_i32_20
  let v54 : BitVec 32 := v53
  let v74 : Index := Scalar.indexCast v54
  let c0_27 : Index := 0#32
  ![0, v74.toNat, 0]
def k0_mult3 (i : grid0.Coords) : BitVec 32 :=
  let arg1 : BitVec 32 := BitVec.ofNat 32 (i 1).val
  let c1024_i32 : BitVec 32 := 1024#32
  let v12 : BitVec 32 := Scalar.muli arg1 c1024_i32
  v12
def k0_off5 (i : grid0.Coords) : Fin 3 → Nat :=
  let c0_6 : Index := 0#32
  let arg1 : BitVec 32 := BitVec.ofNat 32 (i 1).val
  let c1024_i32 : BitVec 32 := 1024#32
  let v12 : BitVec 32 := Scalar.muli arg1 c1024_i32
  let v13 : BitVec 32 := v12
  let v14 : Index := Scalar.indexCast v13
  let c0_7 : Index := 0#32
  ![0, v14.toNat, 0]
def k0_off6 (i : grid0.Coords) : Fin 3 → Nat :=
  let c0_12 : Index := 0#32
  let arg1 : BitVec 32 := BitVec.ofNat 32 (i 1).val
  let c1024_i32 : BitVec 32 := 1024#32
  let v12 : BitVec 32 := Scalar.muli arg1 c1024_i32
  let v13 : BitVec 32 := v12
  let v38 : Index := Scalar.indexCast v13
  let c0_13 : Index := 0#32
  ![0, v38.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdRefIdeal.lean ====
abbrev S8x4096x192 : Shape := ⟨3, ![8, 4096, 192]⟩
abbrev S8x4096x128 : Shape := ⟨3, ![8, 4096, 128]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S_ : Shape := ⟨0, ![]⟩
abbrev S8x4096 : Shape := ⟨2, ![8, 4096]⟩
abbrev S8x4096x1 : Shape := ⟨3, ![8, 4096, 1]⟩
abbrev S8x128x4096 : Shape := ⟨3, ![8, 128, 4096]⟩
abbrev S4096x8x128 : Shape := ⟨3, ![4096, 8, 128]⟩
abbrev S4096x1024 : Shape := ⟨2, ![4096, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x192, .f32⟩
  | .hbm, ⟨1, _⟩ => ⟨S8x4096x192, .f32⟩
  | .hbm, ⟨2, _⟩ => ⟨S8x4096x128, .f32⟩
  | .hbm, ⟨3, _⟩ => ⟨S8x4096x4096, .f32⟩
  | .hbm, ⟨4, _⟩ => ⟨S4096, .i32⟩
  | .hbm, ⟨5, _⟩ => ⟨S1x4096, .i32⟩
  | .hbm, ⟨6, _⟩ => ⟨S4096x1, .i32⟩
  | .hbm, ⟨7, _⟩ => ⟨S4096x4096, .i32⟩
  | .hbm, ⟨8, _⟩ => ⟨S4096x4096, .i32⟩
  | .hbm, ⟨9, _⟩ => ⟨S4096x4096, .i1⟩
  | .hbm, ⟨10, _⟩ => ⟨S1x4096x4096, .i1⟩
  | .hbm, ⟨11, _⟩ => ⟨S_, .f32⟩
  | .hbm, ⟨12, _⟩ => ⟨S_, .f32⟩
  | .hbm, ⟨13, _⟩ => ⟨S8x4096x4096, .i1⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096, .f32⟩
  | .hbm, ⟨18, _⟩ => ⟨S_, .f32⟩
  | .hbm, ⟨19, _⟩ => ⟨S8x4096, .f32⟩
  | .hbm, ⟨20, _⟩ => ⟨S8x4096, .f32⟩
  | .hbm, ⟨21, _⟩ => ⟨S8x4096x1, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x1, .f32⟩
  | .hbm, ⟨40, _⟩ => ⟨S8x4096x1, .f32⟩
  | .hbm, ⟨41, _⟩ => ⟨S8x128x4096, .f32⟩
  | .hbm, ⟨42, _⟩ => ⟨S4096x8x128, .f32⟩
  | .hbm, ⟨43, _⟩ => ⟨S4096x1024, .f32⟩
  | .hbm, ⟨44, _⟩ => ⟨S8x4096x128, .f32⟩
  | _, _ => ⟨S8x4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Prep.lean ====
abbrev S4096x6720 : Shape := ⟨2, ![4096, 6720]⟩
abbrev S1x4096 : Shape := ⟨2, ![1, 4096]⟩
abbrev S1x256 : Shape := ⟨2, ![1, 256]⟩
abbrev S256x1536 : Shape := ⟨2, ![256, 1536]⟩
abbrev S256x2048 : Shape := ⟨2, ![256, 2048]⟩
abbrev S32 : Shape := ⟨1, ![32]⟩
abbrev S_ : Shape := ⟨0, ![]⟩
abbrev S1x32 : Shape := ⟨2, ![1, 32]⟩
abbrev S4096x3648 : Shape := ⟨2, ![4096, 3648]⟩
abbrev S4096x448 : Shape := ⟨2, ![4096, 448]⟩
abbrev S4096x3072 : Shape := ⟨2, ![4096, 3072]⟩
abbrev S4096x7168 : Shape := ⟨2, ![4096, 7168]⟩
abbrev S4096x1 : Shape := ⟨2, ![4096, 1]⟩
abbrev S8x4096x192 : Shape := ⟨3, ![8, 4096, 192]⟩
abbrev S8x4096x128 : Shape := ⟨3, ![8, 4096, 128]⟩
abbrev S512x1024 : Shape := ⟨2, ![512, 1024]⟩
abbrev S512x1 : Shape := ⟨2, ![512, 1]⟩
abbrev S8x512x192 : Shape := ⟨3, ![8, 512, 192]⟩
abbrev S8x512x128 : Shape := ⟨3, ![8, 512, 128]⟩
abbrev S512x32 : Shape := ⟨2, ![512, 32]⟩
abbrev S512x256 : Shape := ⟨2, ![512, 256]⟩
abbrev S512 : Shape := ⟨1, ![512]⟩
abbrev S512x1536 : Shape := ⟨2, ![512, 1536]⟩
abbrev S512x2048 : Shape := ⟨2, ![512, 2048]⟩
abbrev S512x64 : Shape := ⟨2, ![512, 64]⟩
abbrev S512x192 : Shape := ⟨2, ![512, 192]⟩
abbrev S512x128 : Shape := ⟨2, ![512, 128]⟩
abbrev S1x512x192 : Shape := ⟨3, ![1, 512, 192]⟩
abbrev S1x512x128 : Shape := ⟨3, ![1, 512, 128]⟩

abbrev nBuf : Space → Nat
  | .hbm => 33
  | .vmem => 15
  | .smem => 0
  | _ => 0

abbrev bufTy : (tb : Table) → Fin (tcTables nBuf tb) → BufTy
  | .hbm, ⟨0, _⟩ => ⟨S4096x6720, .f32⟩
  | .hbm, ⟨1, _⟩ => ⟨S1x4096, .i32⟩
  | .hbm, ⟨2, _⟩ => ⟨S1x256, .f32⟩
  | .hbm, ⟨3, _⟩ => ⟨S256x1536, .f32⟩
  | .hbm, ⟨4, _⟩ => ⟨S1x256, .f32⟩
  | .hbm, ⟨5, _⟩ => ⟨S256x2048, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S1x32, .f32⟩
  | .hbm, ⟨21, _⟩ => ⟨S4096x3648, .f32⟩
  | .hbm, ⟨22, _⟩ => ⟨S_, .f32⟩
  | .hbm, ⟨23, _⟩ => ⟨S4096x448, .f32⟩
  | .hbm, ⟨24, _⟩ => ⟨S4096x3072, .f32⟩
  | .hbm, ⟨25, _⟩ => ⟨S4096x7168, .f32⟩
  | .hbm, ⟨26, _⟩ => ⟨S4096x7168, .bf16⟩
  | .hbm, ⟨27, _⟩ => ⟨S4096x1, .i32⟩
  | .hbm, ⟨28, _⟩ => ⟨S256x1536, .bf16⟩
  | .hbm, ⟨29, _⟩ => ⟨S256x2048, .bf16⟩
  | .hbm, ⟨30, _⟩ => ⟨S8x4096x192, .bf16⟩
  | .hbm, ⟨31, _⟩ => ⟨S8x4096x192, .bf16⟩
  | .hbm, ⟨32, _⟩ => ⟨S8x4096x128, .bf16⟩
  | .local _ .vmem, ⟨0, _⟩ => ⟨S512x1024, .bf16⟩
  | .local _ .vmem, ⟨1, _⟩ => ⟨S512x1024, .bf16⟩
  | .local _ .vmem, ⟨2, _⟩ => ⟨S512x1, .i32⟩
  | .local _ .vmem, ⟨3, _⟩ => ⟨S512x1, .i32⟩
  | .local _ .vmem, ⟨4, _⟩ => ⟨S1x32, .f32⟩
  | .local _ .vmem, ⟨5, _⟩ => ⟨S1x256, .f32⟩
  | .local _ .vmem, ⟨6, _⟩ => ⟨S1x256, .f32⟩
  | .local _ .vmem, ⟨7, _⟩ => ⟨S256x1536, .bf16⟩
  | .local _ .vmem, ⟨8, _⟩ => ⟨S256x2048, .bf16⟩
  | .local _ .vmem, ⟨9, _⟩ => ⟨S8x512x192, .bf16⟩
  | .local _ .vmem, ⟨10, _⟩ => ⟨S8x512x192, .bf16⟩
  | .local _ .vmem, ⟨11, _⟩ => ⟨S8x512x192, .bf16⟩
  | .local _ .vmem, ⟨12, _⟩ => ⟨S8x512x192, .bf16⟩
  | .local _ .vmem, ⟨13, _⟩ => ⟨S8x512x128, .bf16⟩
  | .local _ .vmem, ⟨14, _⟩ => ⟨S8x512x128, .bf16⟩
  | _, _ => ⟨S4096x6720, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x512x192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512x192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PrepRefIdeal.lean ====
abbrev S4096x6720 : Shape := ⟨2, ![4096, 6720]⟩
abbrev S1x4096 : Shape := ⟨2, ![1, 4096]⟩
abbrev S1x256 : Shape := ⟨2, ![1, 256]⟩
abbrev S256x1536 : Shape := ⟨2, ![256, 1536]⟩
abbrev S256x2048 : Shape := ⟨2, ![256, 2048]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x576 : Shape := ⟨2, ![4096, 576]⟩
abbrev S4096x256 : Shape := ⟨2, ![4096, 256]⟩
abbrev S4096x64 : Shape := ⟨2, ![4096, 64]⟩
abbrev S4096x1536 : Shape := ⟨2, ![4096, 1536]⟩
abbrev S4096x8x192 : Shape := ⟨3, ![4096, 8, 192]⟩
abbrev S4096x8x128 : Shape := ⟨3, ![4096, 8, 128]⟩
abbrev S4096x8x64 : Shape := ⟨3, ![4096, 8, 64]⟩
abbrev S4096x2048 : Shape := ⟨2, ![4096, 2048]⟩
abbrev S4096x8x256 : Shape := ⟨3, ![4096, 8, 256]⟩
abbrev S4096x1x32 : Shape := ⟨3, ![4096, 1, 32]⟩
abbrev S4096x8x32 : Shape := ⟨3, ![4096, 8, 32]⟩
abbrev S4096x1x64 : Shape := ⟨3, ![4096, 1, 64]⟩
abbrev S8x4096x192 : Shape := ⟨3, ![8, 4096, 192]⟩
abbrev S8x4096x128 : Shape := ⟨3, ![8, 4096, 128]⟩

abbrev nBuf : Space → Nat
  | .hbm => 108
  | .vmem => 0
  | .smem => 0
  | _ => 0

abbrev bufTy : (tb : Table) → Fin (tcTables nBuf tb) → BufTy
  | .hbm, ⟨0, _⟩ => ⟨S4096x6720, .f32⟩
  | .hbm, ⟨1, _⟩ => ⟨S1x4096, .i32⟩
  | .hbm, ⟨2, _⟩ => ⟨S1x256, .f32⟩
  | .hbm, ⟨3, _⟩ => ⟨S256x1536, .f32⟩
  | .hbm, ⟨4, _⟩ => ⟨S1x256, .f32⟩
  | .hbm, ⟨5, _⟩ => ⟨S256x2048, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096, .i32⟩
  | .hbm, ⟨21, _⟩ => ⟨S4096, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x576, .f32⟩
  | .hbm, ⟨28, _⟩ => ⟨S4096x32, .f32⟩
  | .hbm, ⟨29, _⟩ => ⟨S4096x32, .f32⟩
  | .hbm, ⟨30, _⟩ => ⟨S4096x256, .f32⟩
  | .hbm, ⟨31, _⟩ => ⟨S4096x256, .f32⟩
  | .hbm, ⟨32, _⟩ => ⟨S4096x64, .f32⟩
  | .hbm, ⟨33, _⟩ => ⟨S4096x256, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S4096x256, .f32⟩
  | .hbm, ⟨45, _⟩ => ⟨S4096x256, .f32⟩
  | .hbm, ⟨46, _⟩ => ⟨S4096x256, .f32⟩
  | .hbm, ⟨47, _⟩ => ⟨S4096x256, .f32⟩
  | .hbm, ⟨48, _⟩ => ⟨S4096x1536, .f32⟩
  | .hbm, ⟨49, _⟩ => ⟨S4096x8x192, .f32⟩
  | .hbm, ⟨50, _⟩ => ⟨S4096x8x128, .f32⟩
  | .hbm, ⟨51, _⟩ => ⟨S4096x8x64, .f32⟩
  | .hbm, ⟨52, _⟩ => ⟨S4096x256, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S4096x256, .f32⟩
  | .hbm, ⟨64, _⟩ => ⟨S4096x256, .f32⟩
  | .hbm, ⟨65, _⟩ => ⟨S4096x256, .f32⟩
  | .hbm, ⟨66, _⟩ => ⟨S4096x256, .f32⟩
  | .hbm, ⟨67, _⟩ => ⟨S4096x2048, .f32⟩
  | .hbm, ⟨68, _⟩ => ⟨S4096x8x256, .f32⟩
  | .hbm, ⟨69, _⟩ => ⟨S4096x8x128, .f32⟩
  | .hbm, ⟨70, _⟩ => ⟨S4096x8x128, .f32⟩
  | .hbm, ⟨71, _⟩ => ⟨S4096x1x32, .f32⟩
  | .hbm, ⟨72, _⟩ => ⟨S4096x1x32, .f32⟩
  | .hbm, ⟨73, _⟩ => ⟨S4096x8x32, .f32⟩
  | .hbm, ⟨74, _⟩ => ⟨S4096x8x32, .f32⟩
  | .hbm, ⟨75, _⟩ => ⟨S4096x8x32, .f32⟩
  | .hbm, ⟨76, _⟩ => ⟨S4096x8x32, .f32⟩
  | .hbm, ⟨77, _⟩ => ⟨S4096x8x32, .f32⟩
  | .hbm, ⟨78, _⟩ => ⟨S4096x8x32, .f32⟩
  | .hbm, ⟨79, _⟩ => ⟨S4096x8x32, .f32⟩
  | .hbm, ⟨80, _⟩ => ⟨S4096x8x32, .f32⟩
  | .hbm, ⟨81, _⟩ => ⟨S4096x8x32, .f32⟩
  | .hbm, ⟨82, _⟩ => ⟨S4096x8x32, .f32⟩
  | .hbm, ⟨83, _⟩ => ⟨S4096x8x32, .f32⟩
  | .hbm, ⟨84, _⟩ => ⟨S4096x8x32, .f32⟩
  | .hbm, ⟨85, _⟩ => ⟨S4096x8x64, .f32⟩
  | .hbm, ⟨86, _⟩ => ⟨S4096x32, .f32⟩
  | .hbm, ⟨87, _⟩ => ⟨S4096x32, .f32⟩
  | .hbm, ⟨88, _⟩ => ⟨S4096x32, .f32⟩
  | .hbm, ⟨89, _⟩ => ⟨S4096x32, .f32⟩
  | .hbm, ⟨90, _⟩ => ⟨S4096x32, .f32⟩
  | .hbm, ⟨91, _⟩ => ⟨S4096x32, .f32⟩
  | .hbm, ⟨92, _⟩ => ⟨S4096x32, .f32⟩
  | .hbm, ⟨93, _⟩ => ⟨S4096x32, .f32⟩
  | .hbm, ⟨94, _⟩ => ⟨S4096x64, .f32⟩
  | .hbm, ⟨95, _⟩ => ⟨S4096x8x192, .f32⟩
  | .hbm, ⟨96, _⟩ => ⟨S_, .f32⟩
  | .hbm, ⟨97, _⟩ => ⟨S4096x8x192, .f32⟩
  | .hbm, ⟨98, _⟩ => ⟨S4096x8x192, .f32⟩
  | .hbm, ⟨99, _⟩ => ⟨S4096x1x64, .f32⟩
  | .hbm, ⟨100, _⟩ => ⟨S4096x8x64, .f32⟩
  | .hbm, ⟨101, _⟩ => ⟨S4096x8x192, .f32⟩
  | .hbm, ⟨102, _⟩ => ⟨S8x4096x192, .f32⟩
  | .hbm, ⟨103, _⟩ => ⟨S8x4096x192, .f32⟩
  | .hbm, ⟨104, _⟩ => ⟨S8x4096x128, .f32⟩
  | .hbm, ⟨105, _⟩ => ⟨S8x4096x192, .bf16⟩
  | .hbm, ⟨106, _⟩ => ⟨S8x4096x192, .bf16⟩
  | .hbm, ⟨107, _⟩ => ⟨S8x4096x128, .bf16⟩
  | _, _ => ⟨S4096x6720, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_9 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩

abbrev nD : Nat := 1
abbrev τ : Topo := Topo.v7x

variable {F : FTy → Type} [FloatOps F]
-- ==== Proof.Reals.lean ====
/-
  Arrays of extended reals that hold real numbers.

  `Rep x g` says that the array `x` of ideal floats holds the real numbers `g`.  Each operation of a program keeps it:
  there is one lemma per operation here, and the real array it yields is written as a function of the coordinates.
  A program all of whose inputs are finite is thereby carried over to the reals, where gradients are compared.
-/
module

public import Idealize.ShloMosaic.Lib.Pipeline.Value
public import Idealize.ShloMosaic.Lib.ValueIdx
public import Idealize.ShloMosaic.PureOps.Ideal.Laws

@[expose] public section

noncomputable section

namespace Cert

open Idealize.ShloMosaic Idealize.ShloMosaic.ValueIdx

/-- The array `x` of extended reals holds the real numbers `g`. -/
abbrev Rep {s : Shape} (x : s.Idx → EReal) (g : s.Idx → ℝ) : Prop := ∀ i, x i = (g i : EReal)

/-- A matrix, a row of numbers and a stack of matrices, by coordinates. -/
abbrev Mat {n m : Nat} (x : (⟨2, ![n, m]⟩ : Shape).Idx → EReal) (g : Fin n → Fin m → ℝ) : Prop :=
  ∀ i : (⟨2, ![n, m]⟩ : Shape).Idx, x i = ((g (i 0) (i 1) : ℝ) : EReal)
abbrev Row {n : Nat} (x : (⟨1, ![n]⟩ : Shape).Idx → EReal) (g : Fin n → ℝ) : Prop :=
  ∀ i : (⟨1, ![n]⟩ : Shape).Idx, x i = ((g (i 0) : ℝ) : EReal)
abbrev Ten {a b c : Nat} (x : (⟨3, ![a, b, c]⟩ : Shape).Idx → EReal) (g : Fin a → Fin b → Fin c → ℝ) : Prop :=
  ∀ i : (⟨3, ![a, b, c]⟩ : Shape).Idx, x i = ((g (i 0) (i 1) (i 2) : ℝ) : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of the first terms, and of one more. -/
theorem sum_upto_zero {N : Nat} (f : Fin N → ℝ) (h : 0 < N) : (∑ t, if t.val ≤ 0 then f t else 0) = 0 + f ⟨0, h⟩ := by
  rw [zero_add, Finset.sum_eq_single (⟨0, h⟩ : Fin N)]
  · rw [if_pos le_rfl]
  · intro t _ ht
    rw [if_neg fun h' => ht (Fin.ext (Nat.le_zero.mp h'))]
  · intro h'
    exact absurd (Finset.mem_univ _) h'

theorem sum_upto_succ {N n : Nat} (f : Fin N → ℝ) (h : n + 1 < N) :
    (∑ t, if t.val ≤ n + 1 then f t else 0) = (∑ t, if t.val ≤ n then f t else 0) + f ⟨n + 1, h⟩ := by
  have e : f ⟨n + 1, h⟩ = ∑ t, if t = ⟨n + 1, h⟩ then f t else 0 := by rw [Finset.sum_ite_eq', if_pos (Finset.mem_univ _)]
  rw [e, ← Finset.sum_add_distrib]
  refine Finset.sum_congr rfl fun t _ => ?_
  by_cases h1 : t.val ≤ n
  · rw [if_pos (by omega), if_pos h1, if_neg fun h' => by rw [h'] at h1; simp at h1, add_zero]
  by_cases h2 : t.val = n + 1
  · rw [if_pos (by omega), if_neg h1, if_pos (Fin.ext h2), zero_add]
  · rw [if_neg (by omega), if_neg h1, if_neg fun h' => h2 (by rw [h']), zero_add]

/-- A sum over rows is the sum over blocks of rows of the sums within them. -/
theorem sum_blocks {N n M : Nat} (hM : N * n = M) (f : Fin M → ℝ) (at_ : Fin N → Fin n → Fin M)
    (h : ∀ t r, (at_ t r).val = n * t.val + r.val) : ∑ t, ∑ r, f (at_ t r) = ∑ i, f i := by
  subst hM
  rw [← Fintype.sum_prod_type' fun t r => f (at_ t r)]
  refine Fintype.sum_equiv finProdFinEquiv _ _ fun p => congrArg f (Fin.ext ?_)
  rw [h]
  simp [finProdFinEquiv, add_comm]

/-- An extended real of finite absolute value is a real number. -/
theorem exists_real {x : EReal} (h : max x (-x) < ⊤) : ∃ r : ℝ, x = (r : EReal) := by
  induction x with
  | bot => simp at h
  | top => simp at h
  | coe r => exact ⟨r, rfl⟩

/-! ## Numbers -/

/-- The normalisations' `1e-6`, as single precision has it. -/
def eps : ℝ := 8796093 / 8796093022208

theorem eps_pos : 0 < eps := by unfold eps; norm_num

theorem word_eps : Ideal.ofBits .f32 0x358637BD#32 = (eps : EReal) := by
  simp [Ideal.ofBits, Ideal.ieee, eps]; rw [← EReal.coe_mul]; norm_num
theorem word_one : Ideal.ofBits .f32 0x3F800000#32 = ((1 : ℝ) : EReal) := by
  simp [Ideal.ofBits, Ideal.ieee]; rw [← EReal.coe_mul]; norm_num
theorem word_zero : Ideal.ofBits .f32 0x00000000#32 = ((0 : ℝ) : EReal) := by
  simp [Ideal.ofBits, Ideal.ieee]
theorem word_neg_half : Ideal.ofBits .f32 0xBF000000#32 = ((-1 / 2 : ℝ) : EReal) := by
  simp [Ideal.ofBits, Ideal.ieee]; rw [← EReal.coe_mul]; norm_num
theorem word_1024 : Ideal.ofBits .f32 0x44800000#32 = ((1024 : ℝ) : EReal) := by
  simp [Ideal.ofBits, Ideal.ieee]; rw [← EReal.coe_mul]; norm_num
theorem word_256 : Ideal.ofBits .f32 0x43800000#32 = ((256 : ℝ) : EReal) := by
  simp [Ideal.ofBits, Ideal.ieee]; rw [← EReal.coe_mul]; norm_num

theorem word_inf : Ideal.ofBits .f32 0x7F800000#32 = ⊤ := by
  simp [Ideal.ofBits, Ideal.ieee]

/-- An array of finite absolute values holds real numbers. -/
theorem exists_rep {s : Shape} {x : s.Idx → EReal} {dims : Fin 0 → Fin s.rank} {h}
    (hf : cmpf (F := Ideal) (φ := .f32) .olt (Host.absf x) (broadcastInDim (s := ⟨0, ![]⟩) s dims h (constant ⟨0, ![]⟩ .f32 0x7F800000#32))
      = fun _ => 1#1) : ∃ g, Rep x g := by
  have hx (i) : ∃ r : ℝ, x i = (r : EReal) := by
    have e : Ideal.cmp .olt (max (x i) (-(x i))) (Ideal.ofBits .f32 0x7F800000#32) = 1#1 := congrFun hf i
    rw [word_inf] at e
    refine exists_real ?_
    by_contra hc
    simp [Ideal.cmp, hc] at e
  choose g hg using hx
  exact ⟨g, hg⟩

/-- A matrix of them, by coordinates. -/
theorem exists_mat {n m : Nat} {x : (⟨2, ![n, m]⟩ : Shape).Idx → EReal} (h : ∃ g, Rep x g) : ∃ g, Mat x g := by
  obtain ⟨g, hg⟩ := h
  refine ⟨fun r c => g (ix2 r c), fun i => (hg i).trans (congrArg _ (congrArg g ?_))⟩
  exact funext fun a => match a with | ⟨0, _⟩ => rfl | ⟨1, _⟩ => rfl

/-- Matrices that hold the same numbers are equal. -/
theorem Mat.eq {n m : Nat} {x y : (⟨2, ![n, m]⟩ : Shape).Idx → EReal} {g f : Fin n → Fin m → ℝ} (hx : Mat x g) (hy : Mat y f)
    (e : ∀ r c, g r c = f r c) : x = y :=
  funext fun i => (hx i).trans ((congrArg _ (e (i 0) (i 1))).trans (hy i).symm)

theorem div_real (x : ℝ) {y : ℝ} (h : y ≠ 0) : Ideal.div (x : EReal) (y : EReal) = ((x / y : ℝ) : EReal) := by
  rw [Ideal.div_coe h, ← EReal.coe_mul, mul_one_div]

/-! ## Operations element by element -/

namespace Rep

variable {s t : Shape} {φ ψ : FTy} {x y : s.Idx → EReal} {g f : s.Idx → ℝ}

theorem of_eq (e : x = y) (h : Rep y g) : Rep x g := e ▸ h

theorem cast (h : Rep x g) (e : ∀ i, g i = f i) : Rep x f := fun i => (h i).trans (congrArg _ (e i))

theorem mul (hx : Rep x g) (hy : Rep y f) : Rep (mulf (F := Ideal) (φ := φ) x y) (fun i => g i * f i) := fun i => by
  show x i * y i = _
  rw [hx, hy, EReal.coe_mul]

theorem add (hx : Rep x g) (hy : Rep y f) : Rep (addf (F := Ideal) (φ := φ) x y) (fun i => g i + f i) := fun i => by
  show x i + y i = _
  rw [hx, hy, EReal.coe_add]

theorem sub (hx : Rep x g) (hy : Rep y f) : Rep (subf (F := Ideal) (φ := φ) x y) (fun i => g i - f i) := fun i => by
  show x i - y i = _
  rw [hx, hy, EReal.coe_sub]

theorem neg (hx : Rep x g) : Rep (negf (F := Ideal) (φ := φ) x) (fun i => -g i) := fun i => by
  show -(x i) = _
  rw [hx, EReal.coe_neg]

theorem div (hx : Rep x g) (hy : Rep y f) (h : ∀ i, f i ≠ 0) :
    Rep (divf (F := Ideal) (φ := φ) x y) (fun i => g i / f i) := fun i => by
  show Ideal.div (x i) (y i) = _
  rw [hx, hy, div_real _ (h i)]

theorem host_neg (hx : Rep x g) : Rep (Host.negf (F := Ideal) (φ := φ) x) (fun i => -g i) := hx.neg (φ := φ)

theorem host_div (hx : Rep x g) (hy : Rep y f) (h : ∀ i, f i ≠ 0) :
    Rep (Host.divf (F := Ideal) (φ := φ) x y) (fun i => g i / f i) := hx.div (φ := φ) hy h

theorem exp (hx : Rep x g) : Rep (Idealize.ShloMosaic.exp (F := Ideal) (φ := φ) x) (fun i => Real.exp (g i)) := fun i => by
  show Ideal.exp (x i) = _
  rw [hx, Ideal.exp_coe]

theorem host_exp (hx : Rep x g) : Rep (Host.exp (F := Ideal) (φ := φ) x) (fun i => Real.exp (g i)) := hx.exp (φ := φ)

theorem rsqrt (hx : Rep x g) (h : ∀ i, 0 < g i) :
    Rep (Idealize.ShloMosaic.rsqrt (F := Ideal) (φ := φ) x) (fun i => (Real.sqrt (g i))⁻¹) := fun i => by
  show Ideal.rsqrt (x i) = _
  rw [hx, Ideal.rsqrt_coe, if_neg (not_lt.mpr (h i).le), if_neg (h i).ne']

theorem host_rsqrt (hx : Rep x g) (h : ∀ i, 0 < g i) :
    Rep (Host.rsqrt (F := Ideal) (φ := φ) x) (fun i => (Real.sqrt (g i))⁻¹) := hx.rsqrt (φ := φ) h

theorem logistic (hx : Rep x g) :
    Rep (Idealize.ShloMosaic.logistic (F := Ideal) (φ := φ) x) (fun i => (1 + Real.exp (-g i))⁻¹) := fun i => by
  show Ideal.logistic (x i) = _
  rw [hx, Ideal.logistic_coe]

theorem trunc (h : ψ.bits < φ.bits) (hx : Rep x g) : Rep (truncf (F := Ideal) (φ := φ) ψ x h) g := hx

theorem ext (h : φ.bits < ψ.bits) (hx : Rep x g) : Rep (extf (F := Ideal) (φ := φ) ψ x h) g := hx

/-- A splat of one number. -/
theorem splat {w : BitVec φ.bits} {r : ℝ} (h : Ideal.ofBits φ w = (r : EReal)) :
    Rep (broadcast s (Scalar.ofBits (F := Ideal) φ w)) (fun _ => r) := fun _ => h

theorem const {w : BitVec φ.bits} {r : ℝ} (h : Ideal.ofBits φ w = (r : EReal)) :
    Rep (constant (F := Ideal) s φ w) (fun _ => r) := fun _ => h

/-- One number broadcast by the host. -/
theorem host_splat {x : (⟨0, ![]⟩ : Shape).Idx → EReal} {r : ℝ} (hx : Rep x (fun _ => r)) (dims) (h) :
    Rep (broadcastInDim (s := ⟨0, ![]⟩) s dims h x) (fun _ => r) := fun i => hx _

theorem self (h : s.ShapeCasts s) (hx : Rep x g) : Rep (shapeCast s x h) g := by rw [shapeCast_self]; exact hx

end Rep

/-! ## Rows and columns -/

namespace Mat

variable {n m k : Nat} {φ : FTy} {x : (⟨2, ![n, m]⟩ : Shape).Idx → EReal} {g : (⟨2, ![n, m]⟩ : Shape).Idx → ℝ}

theorem apply {g : Fin n → Fin m → ℝ} (hx : Mat x g) (r : Fin n) (c : Fin m) : x (ix2 r c) = (g r c : EReal) := hx (ix2 r c)

theorem lift_rows (h : (⟨2, ![n, m]⟩ : Shape).Reduces [1] ⟨1, ![n]⟩) (i : (⟨1, ![n]⟩ : Shape).Idx) (c : Fin m) :
    h.lift i c = ix2 (i 0) c := funext fun a => match a with | ⟨0, _⟩ => rfl | ⟨1, _⟩ => rfl

theorem lift_cols (h : (⟨2, ![n, m]⟩ : Shape).Reduces [0] ⟨1, ![m]⟩) (i : (⟨1, ![m]⟩ : Shape).Idx) (r : Fin n) :
    h.lift i r = ix2 r (i 0) := funext fun a => match a with | ⟨0, _⟩ => rfl | ⟨1, _⟩ => rfl

/-- The sum along each row, in a kernel and on the host. -/
theorem sum_rows (hx : Rep x g) (w) (h) (hφ) (hw) :
    Row (multiReduction (F := Ideal) (φ := φ) .add [1] ⟨1, ![n]⟩ x w h hφ hw) (fun r => ∑ c, g (ix2 r c)) := fun i => by
  rw [Ideal.multiReduction_add_single, coe_sum]
  exact Finset.sum_congr rfl fun c _ => by rw [lift_rows h i c]; exact hx _

theorem sum_cols (hx : Rep x g) (w) (h) (hφ) (hw) :
    Row (multiReduction (F := Ideal) (φ := φ) .add [0] ⟨1, ![m]⟩ x w h hφ hw) (fun c => ∑ r, g (ix2 r c)) := fun i => by
  rw [Ideal.multiReduction_add_single, coe_sum]
  exact Finset.sum_congr rfl fun c _ => by rw [lift_cols h i c]; exact hx _

theorem host_sum_rows {z : (⟨0, ![]⟩ : Shape).Idx → EReal} (hx : Rep x g) (hz : Rep z (fun _ => 0)) (h) (hu)
    (h' : (⟨2, ![n, m]⟩ : Shape).Reduces [1] ⟨1, ![n]⟩ := by decide) :
    Row (Host.reduceAdd (F := Ideal) (φ := φ) (axes := [1]) (t := ⟨1, ![n]⟩) x z h hu) (fun r => ∑ c, g (ix2 r c)) := fun i => by
  show Ideal.hostReduceAdd h x (z _) i = _
  rw [Ideal.hostReduceAdd_single h h', hz, EReal.coe_zero, zero_add, coe_sum]
  exact Finset.sum_congr rfl fun c _ => by rw [lift_rows h' i c]; exact hx _

theorem host_sum_cols {z : (⟨0, ![]⟩ : Shape).Idx → EReal} (hx : Rep x g) (hz : Rep z (fun _ => 0)) (h) (hu)
    (h' : (⟨2, ![n, m]⟩ : Shape).Reduces [0] ⟨1, ![m]⟩ := by decide) :
    Row (Host.reduceAdd (F := Ideal) (φ := φ) (axes := [0]) (t := ⟨1, ![m]⟩) x z h hu) (fun c => ∑ r, g (ix2 r c)) := fun i => by
  show Ideal.hostReduceAdd h x (z _) i = _
  rw [Ideal.hostReduceAdd_single h h', hz, EReal.coe_zero, zero_add, coe_sum]
  exact Finset.sum_congr rfl fun c _ => by rw [lift_cols h' i c]; exact hx _

/-- The sum along a row of one. -/
theorem host_sum_unit {x : (⟨2, ![n, 1]⟩ : Shape).Idx → EReal} {g : (⟨2, ![n, 1]⟩ : Shape).Idx → ℝ}
    {z : (⟨0, ![]⟩ : Shape).Idx → EReal} (hx : Rep x g) (hz : Rep z (fun _ => 0)) (h) (hu)
    (h' : (⟨2, ![n, 1]⟩ : Shape).Reduces [1] ⟨1, ![n]⟩ := by decide) :
    Row (Host.reduceAdd (F := Ideal) (φ := φ) (axes := [1]) (t := ⟨1, ![n]⟩) x z h hu) (fun r => g (ix2 r 0)) := fun i =>
  (host_sum_rows hx hz h hu h' i).trans (congrArg _ (Fin.sum_univ_one fun c => g (ix2 (i 0) c)))

/-- A column repeated along the rows, and a row repeated down the columns. -/
theorem repeat_col {x : (⟨2, ![n, 1]⟩ : Shape).Idx → EReal} {g : (⟨2, ![n, 1]⟩ : Shape).Idx → ℝ} (hx : Rep x g)
    (h : (⟨2, ![n, 1]⟩ : Shape).Broadcasts ⟨2, ![n, m]⟩) : Mat (broadcastTo ⟨2, ![n, m]⟩ x h) (fun r _ => g (ix2 r 0)) := fun i => by
  rw [broadcastTo_apply x h i (ix2 (i 0) 0)]
  · exact hx _
  · intro a
    match a with
    | ⟨0, _⟩ =>
      show (i 0).val = if n = 1 then 0 else (i 0).val
      split
      · have := (i 0).isLt; have e : (⟨2, ![n, m]⟩ : Shape).size 0 = n := rfl; omega
      · rfl
    | ⟨1, _⟩ => rfl

theorem repeat_row {x : (⟨2, ![1, m]⟩ : Shape).Idx → EReal} {g : (⟨2, ![1, m]⟩ : Shape).Idx → ℝ} (hx : Rep x g)
    (h : (⟨2, ![1, m]⟩ : Shape).Broadcasts ⟨2, ![n, m]⟩) : Mat (broadcastTo ⟨2, ![n, m]⟩ x h) (fun _ c => g (ix2 0 c)) := fun i => by
  rw [broadcastTo_apply x h i (ix2 0 (i 1))]
  · exact hx _
  · intro a
    match a with
    | ⟨0, _⟩ => rfl
    | ⟨1, _⟩ =>
      show (i 1).val = if m = 1 then 0 else (i 1).val
      split
      · have := (i 1).isLt; have e : (⟨2, ![n, m]⟩ : Shape).size 1 = m := rfl; omega
      · rfl

theorem host_repeat_col {x : (⟨2, ![n, 1]⟩ : Shape).Idx → EReal} {g : (⟨2, ![n, 1]⟩ : Shape).Idx → ℝ} (hx : Rep x g)
    (h : (⟨2, ![n, 1]⟩ : Shape).BroadcastsInDim ⟨2, ![n, m]⟩ ![0, 1]) :
    Mat (broadcastInDim (s := ⟨2, ![n, 1]⟩) ⟨2, ![n, m]⟩ ![0, 1] h x) (fun r _ => g (ix2 r 0)) := fun i => by
  rw [broadcastInDim_apply _ h x i (ix2 (i 0) 0)]
  · exact hx _
  · intro a
    match a with
    | ⟨0, _⟩ =>
      show (i 0).val = if n = 1 then 0 else (i 0).val
      split
      · have := (i 0).isLt; have e : (⟨2, ![n, m]⟩ : Shape).size 0 = n := rfl; omega
      · rfl
    | ⟨1, _⟩ => rfl

theorem host_repeat_row {x : (⟨2, ![1, m]⟩ : Shape).Idx → EReal} {g : (⟨2, ![1, m]⟩ : Shape).Idx → ℝ} (hx : Rep x g)
    (h : (⟨2, ![1, m]⟩ : Shape).BroadcastsInDim ⟨2, ![n, m]⟩ ![0, 1]) :
    Mat (broadcastInDim (s := ⟨2, ![1, m]⟩) ⟨2, ![n, m]⟩ ![0, 1] h x) (fun _ c => g (ix2 0 c)) := fun i => by
  rw [broadcastInDim_apply _ h x i (ix2 0 (i 1))]
  · exact hx _
  · intro a
    match a with
    | ⟨0, _⟩ => rfl
    | ⟨1, _⟩ =>
      show (i 1).val = if m = 1 then 0 else (i 1).val
      split
      · have := (i 1).isLt; have e : (⟨2, ![n, m]⟩ : Shape).size 1 = m := rfl; omega
      · rfl

/-- Columns `o` to `o + k` of a matrix. -/
theorem cols (hx : Rep x g) {o : Nat} (ho : o + k ≤ m) (h : (⟨2, ![n, m]⟩ : Shape).Slices ![0, o] ⟨2, ![n, k]⟩) :
    Mat (extractStridedSlice ⟨2, ![n, k]⟩ ![0, o] x h) (fun r c => g (ix2 r ⟨o + c, by omega⟩)) := fun i => by
  rw [extractStridedSlice_apply _ x h i (ix2 (i 0) ⟨o + (i 1).val, by have := (i 1).isLt; have e : (⟨2, ![n, k]⟩ : Shape).size 1 = k := rfl; omega⟩)]
  · exact hx _
  · intro a
    match a with
    | ⟨0, _⟩ => exact (Nat.zero_add _).symm
    | ⟨1, _⟩ => rfl

end Mat

namespace Row

variable {n m : Nat} {x : (⟨1, ![n]⟩ : Shape).Idx → EReal} {g : (⟨1, ![n]⟩ : Shape).Idx → ℝ}

/-- Numbers set out as a column, and as a row. -/
theorem col (hx : Rep x g) (h : (⟨1, ![n]⟩ : Shape).ShapeCasts ⟨2, ![n, 1]⟩) :
    Mat (shapeCast ⟨2, ![n, 1]⟩ x h) (fun r _ => g (ix1 r)) := fun i => by
  rw [shapeCast_apply x h i (ix1 (i 0))]
  · exact hx _
  · rw [Shape.rowMajor_val_one, Shape.rowMajor_val_two]
    have := (i 1).isLt
    have e : (⟨2, ![n, 1]⟩ : Shape).size 1 = 1 := rfl
    show (i 0).val = (i 0).val * 1 + (i 1).val
    omega

theorem row (hx : Rep x g) (h : (⟨1, ![n]⟩ : Shape).ShapeCasts ⟨2, ![1, n]⟩) :
    Mat (shapeCast ⟨2, ![1, n]⟩ x h) (fun _ c => g (ix1 c)) := fun i => by
  rw [shapeCast_apply x h i (ix1 (i 1))]
  · exact hx _
  · rw [Shape.rowMajor_val_one, Shape.rowMajor_val_two]
    have := (i 0).isLt
    have e : (⟨2, ![1, n]⟩ : Shape).size 0 = 1 := rfl
    show (i 1).val = (i 0).val * n + (i 1).val
    have : (i 0).val = 0 := by omega
    rw [this]; omega

theorem host_col (hx : Rep x g) (h : (⟨1, ![n]⟩ : Shape).BroadcastsInDim ⟨2, ![n, m]⟩ ![0]) :
    Mat (broadcastInDim (s := ⟨1, ![n]⟩) ⟨2, ![n, m]⟩ ![0] h x) (fun r _ => g (ix1 r)) := fun i => by
  rw [broadcastInDim_apply _ h x i (ix1 (i 0))]
  · exact hx _
  · intro a
    match a with
    | ⟨0, _⟩ =>
      show (i 0).val = if n = 1 then 0 else (i 0).val
      split
      · have := (i 0).isLt; have e : (⟨2, ![n, m]⟩ : Shape).size 0 = n := rfl; omega
      · rfl

end Row

end Cert

end
-- ==== Proof.Products.lean ====
/-
  Products of arrays that hold real numbers, and arrays masked by −∞.

  A contraction over one axis holds the real sums.  `Part x p g` says that `x` holds `g` where `p` holds and −∞
  elsewhere: the scores of a causal attention.
-/
module

public import proofs.«01_k».proof.Proof.Reals
public import Idealize.ShloMosaic.Lib.Pointwise.Contract
public import Idealize.ShloMosaic.Lib.WordCmp

@[expose] public section

noncomputable section

namespace Cert

open Idealize.ShloMosaic Idealize.ShloMosaic.ValueIdx

section Dot

variable {sl sr so : Shape} {x : sl.Idx → EReal} {y : sr.Idx → EReal} {g : sl.Idx → ℝ} {f : sr.Idx → ℝ}

/-- A product into zeros, in a kernel and on the host. -/
theorem Rep.matmul {φ₁ φ₂ : FTy} (d : DotDims sl sr so) (prec : Option ContractPrecision) (hx : Rep x g) (hy : Rep y f)
    {a : Fin sl.rank} {K : Nat} (hc : d.lhsContracting = [a] := by rfl) (hK : sl.size a = K := by rfl) :
    Rep (Idealize.ShloMosaic.matmul (F := Ideal) (φ₁ := φ₁) (φ₂ := φ₂) d prec x y (constant so .f32 0x00000000#32))
      (fun j => ∑ k : Fin K, g (Shape.Idx.norm (d.lhsIdx j (d.contrIdx₁ hc hK k))) * f (Shape.Idx.norm (d.rhsIdx j (d.contrIdx₁ hc hK k)))) :=
  fun j => by
    refine (Ideal.matmul_apply₁ d hc hK x y _ j).trans ?_
    show Ideal.ofBits .f32 0x00000000#32 + _ = _
    rw [word_zero, EReal.coe_zero, zero_add, coe_sum]
    exact Finset.sum_congr rfl fun k _ => by rw [hx, hy, EReal.coe_mul]

theorem Rep.host_dot {φ₁ φ₂ : FTy} (d : DotDims sl sr so) (prec : Option ContractPrecision) (hx : Rep x g) (hy : Rep y f)
    {a : Fin sl.rank} {K : Nat} (hc : d.lhsContracting = [a] := by rfl) (hK : sl.size a = K := by rfl) :
    Rep (Host.dotGeneral (F := Ideal) (φ₁ := φ₁) (φ₂ := φ₂) d prec x y)
      (fun j => ∑ k : Fin K, g (Shape.Idx.norm (d.lhsIdx j (d.contrIdx₁ hc hK k))) * f (Shape.Idx.norm (d.rhsIdx j (d.contrIdx₁ hc hK k)))) :=
  fun j => by
    refine (Ideal.dotGeneral_apply (φ₁ := φ₁) (φ₂ := φ₂) d prec .single x y j).trans ((d.sum_contr₁ hc hK _).trans ?_)
    rw [coe_sum]
    exact Finset.sum_congr rfl fun k _ => by rw [EReal.coe_mul]; exact congrArg₂ _ (hx _) (hy _)

end Dot

section Unit

variable {n m : Nat}

/-- A leading axis of one, dropped and added. -/
theorem Ten.flat {x : (⟨3, ![1, n, m]⟩ : Shape).Idx → EReal} {g : Fin 1 → Fin n → Fin m → ℝ} (hx : Ten x g)
    (h : (⟨3, ![1, n, m]⟩ : Shape).ShapeCasts ⟨2, ![n, m]⟩) : Mat (shapeCast ⟨2, ![n, m]⟩ x h) (g 0) := fun i =>
  (shapeCast_dropUnit_apply ![n, m] x h i).trans (hx _)

theorem Mat.stack {x : (⟨2, ![n, m]⟩ : Shape).Idx → EReal} {g : Fin n → Fin m → ℝ} (hx : Mat x g)
    (h : (⟨2, ![n, m]⟩ : Shape).ShapeCasts ⟨3, ![1, n, m]⟩) : Ten (shapeCast ⟨3, ![1, n, m]⟩ x h) (fun _ => g) := fun i =>
  (shapeCast_addUnit_apply ![n, m] x h i).trans (hx _)

end Unit

section Masked

variable {s : Shape} {x y : s.Idx → EReal} {p : s.Idx → Prop} [DecidablePred p] {g f : s.Idx → ℝ}

/-- The array `x` holds `g` where `p` holds, and −∞ elsewhere. -/
abbrev Part {s : Shape} (x : s.Idx → EReal) (p : s.Idx → Prop) [DecidablePred p] (g : s.Idx → ℝ) : Prop :=
  ∀ i, x i = if p i then (g i : EReal) else ⊥

theorem Part.sub {φ : FTy} (hx : Part x p g) (hy : Rep y f) : Part (subf (F := Ideal) (φ := φ) x y) p (fun i => g i - f i) := fun i => by
  show x i - y i = _
  rw [hx, hy]
  split
  · rw [EReal.coe_sub]
  · exact EReal.bot_sub _

theorem Part.exp {φ : FTy} (hx : Part x p g) : Rep (Idealize.ShloMosaic.exp (F := Ideal) (φ := φ) x) (fun i => if p i then Real.exp (g i) else 0) :=
  fun i => by
    show Ideal.exp (x i) = _
    rw [hx]
    dsimp only
    split
    · exact Ideal.exp_coe _
    · rw [Ideal.exp_bot, EReal.coe_zero]

theorem Part.host_exp {φ : FTy} (hx : Part x p g) : Rep (Host.exp (F := Ideal) (φ := φ) x) (fun i => if p i then Real.exp (g i) else 0) :=
  hx.exp (φ := φ)

theorem word_neg_inf : Ideal.ofBits .f32 0xFF800000#32 = ⊥ := by
  simp [Ideal.ofBits, Ideal.ieee]

/-- A choice by a word of one bit. -/
theorem select_word {α : Type} {P : Prop} [Decidable P] {w : BitVec 1} (h1 : P → w = 1#1) (h0 : ¬P → w = 0#1) (a b : α) :
    Scalar.select w a b = if P then a else b := by
  by_cases h : P
  · rw [h1 h, if_pos h]; exact if_pos rfl
  · rw [h0 h, if_neg h]; exact if_neg (by decide)

end Masked

end Cert

end
-- ==== Proof.Heads.lean ====
/-
  Stacks of matrices that hold real numbers, the causal mask, and the greatest entry of a masked row.
-/
module

public import proofs.«01_k».proof.Proof.Products
public import Idealize.ShloMosaic.Lib.IdealHost
public import Idealize.ShloMosaic.Lib.Pipeline.Value

@[expose] public section

noncomputable section

namespace Cert

open Idealize.ShloMosaic hiding ix1 ix2 ix3
open Idealize.ShloMosaic.ValueIdx

variable {a b c : Nat} {φ : FTy}

theorem lift_last (h : (⟨3, ![a, b, c]⟩ : Shape).Reduces [2] ⟨2, ![a, b]⟩) (i : (⟨2, ![a, b]⟩ : Shape).Idx) (k : Fin c) :
    h.lift i k = ix3 (i 0) (i 1) k := funext fun x => match x with | ⟨0, _⟩ => rfl | ⟨1, _⟩ => rfl | ⟨2, _⟩ => rfl

/-- The sums along the last axis. -/
theorem Ten.host_sum {x : (⟨3, ![a, b, c]⟩ : Shape).Idx → EReal} {g : (⟨3, ![a, b, c]⟩ : Shape).Idx → ℝ}
    {z : (⟨0, ![]⟩ : Shape).Idx → EReal} (hx : Rep x g) (hz : Rep z (fun _ => 0)) (h) (hu)
    (h' : (⟨3, ![a, b, c]⟩ : Shape).Reduces [2] ⟨2, ![a, b]⟩ := by decide) :
    Mat (Host.reduceAdd (F := Ideal) (φ := φ) (axes := [2]) (t := ⟨2, ![a, b]⟩) x z h hu) (fun i j => ∑ k, g (ix3 i j k)) := fun i => by
  show Ideal.hostReduceAdd h x (z _) i = _
  rw [Ideal.hostReduceAdd_single h h', hz, EReal.coe_zero, zero_add, coe_sum]
  exact Finset.sum_congr rfl fun k _ => by rw [lift_last h' i k]; exact hx _

/-- Numbers by two coordinates set out with a unit last axis. -/
theorem Mat.host_last {x : (⟨2, ![a, b]⟩ : Shape).Idx → EReal} {g : (⟨2, ![a, b]⟩ : Shape).Idx → ℝ} (hx : Rep x g)
    (h : (⟨2, ![a, b]⟩ : Shape).BroadcastsInDim ⟨3, ![a, b, c]⟩ ![0, 1]) :
    Ten (broadcastInDim (s := ⟨2, ![a, b]⟩) ⟨3, ![a, b, c]⟩ ![0, 1] h x) (fun i j _ => g (ix2 i j)) := fun i => by
  rw [broadcastInDim_apply _ h x i (ix2 (i 0) (i 1))]
  · exact hx _
  · intro k
    match k with
    | ⟨0, _⟩ =>
      show (i 0).val = if a = 1 then 0 else (i 0).val
      split
      · have := (i 0).isLt; have e : (⟨3, ![a, b, c]⟩ : Shape).size 0 = a := rfl; omega
      · rfl
    | ⟨1, _⟩ =>
      show (i 1).val = if b = 1 then 0 else (i 1).val
      split
      · have := (i 1).isLt; have e : (⟨3, ![a, b, c]⟩ : Shape).size 1 = b := rfl; omega
      · rfl

/-- A unit last axis repeated. -/
theorem Ten.host_repeat {x : (⟨3, ![a, b, 1]⟩ : Shape).Idx → EReal} {g : (⟨3, ![a, b, 1]⟩ : Shape).Idx → ℝ} (hx : Rep x g)
    (h : (⟨3, ![a, b, 1]⟩ : Shape).BroadcastsInDim ⟨3, ![a, b, c]⟩ ![0, 1, 2]) :
    Ten (broadcastInDim (s := ⟨3, ![a, b, 1]⟩) ⟨3, ![a, b, c]⟩ ![0, 1, 2] h x) (fun i j _ => g (ix3 i j 0)) := fun i => by
  rw [broadcastInDim_apply _ h x i (ix3 (i 0) (i 1) 0)]
  · exact hx _
  · intro k
    match k with
    | ⟨0, _⟩ =>
      show (i 0).val = if a = 1 then 0 else (i 0).val
      split
      · have := (i 0).isLt; have e : (⟨3, ![a, b, c]⟩ : Shape).size 0 = a := rfl; omega
      · rfl
    | ⟨1, _⟩ =>
      show (i 1).val = if b = 1 then 0 else (i 1).val
      split
      · have := (i 1).isLt; have e : (⟨3, ![a, b, c]⟩ : Shape).size 1 = b := rfl; omega
      · rfl
    | ⟨2, _⟩ => rfl

/-- A unit last axis added by a change of shape. -/
theorem Mat.last {x : (⟨2, ![a, b]⟩ : Shape).Idx → EReal} {g : (⟨2, ![a, b]⟩ : Shape).Idx → ℝ} (hx : Rep x g)
    (h : (⟨2, ![a, b]⟩ : Shape).ShapeCasts ⟨3, ![a, b, 1]⟩) :
    Ten (shapeCast ⟨3, ![a, b, 1]⟩ x h) (fun i j _ => g (ix2 i j)) := fun i => by
  rw [shapeCast_apply x h i (ix2 (i 0) (i 1))]
  · exact hx _
  · rw [Shape.rowMajor_val_two, Shape.rowMajor_val_three]
    have := (i 2).isLt
    have e : (⟨3, ![a, b, 1]⟩ : Shape).size 2 = 1 := rfl
    show (i 0).val * b + (i 1).val = ((i 0).val * b + (i 1).val) * 1 + (i 2).val
    omega

/-- Columns set out as heads of `c` columns each. -/
theorem Mat.heads {n m k w : Nat} {x : (⟨2, ![n, m]⟩ : Shape).Idx → EReal} {g : (⟨2, ![n, m]⟩ : Shape).Idx → ℝ} (hx : Rep x g)
    (hm : k * w = m) (h : (⟨2, ![n, m]⟩ : Shape).ShapeCasts ⟨3, ![n, k, w]⟩) (f : Fin k → Fin w → Fin m)
    (hf : ∀ p q, (f p q).val = w * p.val + q.val) :
    Ten (shapeCast ⟨3, ![n, k, w]⟩ x h) (fun r p q => g (ix2 r (f p q))) := fun i => by
  rw [shapeCast_apply x h i (ix2 (i 0) (f (i 1) (i 2)))]
  · exact hx _
  · rw [Shape.rowMajor_val_two, Shape.rowMajor_val_three]
    show (i 0).val * m + (f (i 1) (i 2)).val = ((i 0).val * k + (i 1).val) * w + (i 2).val
    have e := hf (i 1) (i 2)
    subst hm
    refine (congrArg ((i 0).val * (k * w) + ·) e).trans ?_
    ring

theorem Part.of_eq {s : Shape} {x y : s.Idx → EReal} {p : s.Idx → Prop} [DecidablePred p] {g : s.Idx → ℝ} (e : x = y) (h : Part y p g) : Part x p g :=
  e ▸ h

/-- The greater of −∞ and a number. -/
theorem Rep.max_bot {s : Shape} {x y z : s.Idx → EReal} {g : s.Idx → ℝ} {c : (⟨0, ![]⟩ : Shape).Idx → EReal} {dims h}
    (e : x = maximumf (F := Ideal) (φ := .f32) z y) (ez : z = broadcastInDim (s := ⟨0, ![]⟩) s dims h c)
    (ec : c = constant (F := Ideal) ⟨0, ![]⟩ .f32 0xFF800000#32) (hy : Rep y g) : Rep x g := fun i => by
  have hz : z i = ⊥ := by rw [ez, ec]; exact word_neg_inf
  rw [e]
  show max (z i) (y i) = _
  rw [hz, hy]
  exact max_eq_right bot_le

theorem Rep.log {s : Shape} {x : s.Idx → EReal} {g : s.Idx → ℝ} (hx : Rep x g) (h : ∀ i, 0 < g i) :
    Rep (Host.log (F := Ideal) (φ := φ) x) (fun i => Real.log (g i)) := fun i => by
  show Ideal.log (x i) = _
  rw [hx, Ideal.log_coe, if_neg (not_le.mpr (h i))]

/-- The greatest of a list of numbers and −∞s, some of them a number. -/
theorem max_list {ι : Type} (f : ι → EReal) (l : List ι) (z : EReal) (hz : z < ⊤) (hf : ∀ n, f n < ⊤) :
    l.foldl (fun r n => max r (f n)) z < ⊤ ∧ z ≤ l.foldl (fun r n => max r (f n)) z ∧ ∀ n ∈ l, f n ≤ l.foldl (fun r n => max r (f n)) z := by
  induction l generalizing z with
  | nil => exact ⟨hz, le_rfl, fun n h => absurd h (List.not_mem_nil)⟩
  | cons q l ih =>
    obtain ⟨h1, h2, h3⟩ := ih (max z (f q)) (max_lt hz (hf q))
    refine ⟨h1, (le_max_left _ _).trans h2, fun n hn => ?_⟩
    rcases List.mem_cons.mp hn with e | e
    · rw [e]; exact (le_max_right _ _).trans h2
    · exact h3 n e

/-- The greatest entries of masked rows, every row with an entry, are numbers. -/
theorem Part.host_max {n : Nat} {x : (⟨3, ![a, n, n]⟩ : Shape).Idx → EReal} {z : (⟨0, ![]⟩ : Shape).Idx → EReal}
    {g : (⟨3, ![a, n, n]⟩ : Shape).Idx → ℝ} (hx : Part x (fun i => (i 2).val ≤ (i 1).val) g) (hz : ∀ i, z i = ⊥)
    (h : (⟨3, ![a, n, n]⟩ : Shape).ReducesTo [2] ⟨2, ![a, n]⟩) (hu) :
    ∃ M, Mat (Host.reduce (FloatOps.maximumf (F := Ideal) (φ := .f32)) x z h hu) M := by
  refine exists_mat ⟨fun i => (Host.reduce (FloatOps.maximumf (F := Ideal) (φ := .f32)) x z h hu i).toReal, fun i => ?_⟩
  have hf : ∀ k, x ((⟨3, ![a, n, n]⟩ : Shape).rowMajor.symm k) < ⊤ := fun k => by
    rw [hx]; split
    · exact EReal.coe_lt_top _
    · exact bot_lt_top
  obtain ⟨h1, -, h3⟩ := max_list (fun k => x ((⟨3, ![a, n, n]⟩ : Shape).rowMajor.symm k))
    ((List.finRange (⟨3, ![a, n, n]⟩ : Shape).numel).filter fun k => h.drop ((⟨3, ![a, n, n]⟩ : Shape).rowMajor.symm k) = i)
    (z (Shape.Idx.first hu)) (by rw [hz]; exact bot_lt_top) hf
  have h4 := h3 ((⟨3, ![a, n, n]⟩ : Shape).rowMajor (ix3 (i 0) (i 1) (i 1))) (List.mem_filter.mpr ⟨List.mem_finRange _, by
    rw [Equiv.symm_apply_apply]
    refine decide_eq_true (funext fun k => ?_)
    match k with
    | ⟨0, _⟩ => rfl
    | ⟨1, _⟩ => rfl⟩)
  dsimp only at h4
  rw [Equiv.symm_apply_apply] at h4
  have h5 : x (ix3 (i 0) (i 1) (i 1)) = (g (ix3 (i 0) (i 1) (i 1)) : EReal) := (hx _).trans (if_pos (show ((i 1).val ≤ (i 1).val) from le_rfl))
  refine (EReal.coe_toReal (ne_of_lt h1) (ne_of_gt (lt_of_lt_of_le ?_ h4))).symm
  rw [h5]
  exact EReal.bot_lt_coe _

section Causal

variable {n : Nat} {v1 : (⟨1, ![n]⟩ : Shape).Idx → BitVec 32} {v2 : (⟨2, ![1, n]⟩ : Shape).Idx → BitVec 32}
  {v3 : (⟨2, ![n, 1]⟩ : Shape).Idx → BitVec 32} {v4 v5 : (⟨2, ![n, n]⟩ : Shape).Idx → BitVec 32}
  {v6 : (⟨2, ![n, n]⟩ : Shape).Idx → BitVec 1} {v7 : (⟨3, ![1, n, n]⟩ : Shape).Idx → BitVec 1}
  {w : (⟨3, ![a, n, n]⟩ : Shape).Idx → BitVec 1} {h2 h3 h4 h5 h7 h8}

/-- The mask that allows the columns up to the row's own. -/
theorem causal (hn : 1 < n) (hn' : n < 2 ^ 31) (e1 : v1 = iotaInDim ⟨1, ![n]⟩ 32 0) (e2 : v2 = broadcastInDim ⟨2, ![1, n]⟩ ![1] h2 v1)
    (e3 : v3 = broadcastInDim ⟨2, ![n, 1]⟩ ![0] h3 v1) (e4 : v4 = broadcastInDim ⟨2, ![n, n]⟩ ![0, 1] h4 v2)
    (e5 : v5 = broadcastInDim ⟨2, ![n, n]⟩ ![0, 1] h5 v3) (e6 : v6 = cmpi .sle v4 v5)
    (e7 : v7 = broadcastInDim ⟨3, ![1, n, n]⟩ ![1, 2] h7 v6) (e8 : w = broadcastInDim ⟨3, ![a, n, n]⟩ ![0, 1, 2] h8 v7)
    (i : (⟨3, ![a, n, n]⟩ : Shape).Idx) :
    ((i 2).val ≤ (i 1).val → w i = 1#1) ∧ (¬(i 2).val ≤ (i 1).val → w i = 0#1) := by
  have hn1 : ¬n = 1 := by omega
  have i1 : (i 1).val < n := (i 1).isLt
  have i2 : (i 2).val < n := (i 2).isLt
  have r1 : v1 (ix1 (i 2)) = BitVec.ofNat 32 (i 2).val := by rw [e1]; rfl
  have r1' : v1 (ix1 (i 1)) = BitVec.ofNat 32 (i 1).val := by rw [e1]; rfl
  have r2 : v2 (ix2 0 (i 2)) = BitVec.ofNat 32 (i 2).val := by
    rw [e2, broadcastInDim_apply _ h2 v1 (ix2 0 (i 2)) (ix1 (i 2)) (fun k => match k with | ⟨0, _⟩ => (if_neg hn1).symm), r1]
  have r3 : v3 (ix2 (i 1) 0) = BitVec.ofNat 32 (i 1).val := by
    rw [e3, broadcastInDim_apply _ h3 v1 (ix2 (i 1) 0) (ix1 (i 1)) (fun k => match k with | ⟨0, _⟩ => (if_neg hn1).symm), r1']
  have r4 : v4 (ix2 (i 1) (i 2)) = BitVec.ofNat 32 (i 2).val := by
    rw [e4, broadcastInDim_apply _ h4 v2 (ix2 (i 1) (i 2)) (ix2 0 (i 2)) (fun k => match k with | ⟨0, _⟩ => (if_pos rfl).symm | ⟨1, _⟩ => (if_neg hn1).symm), r2]
  have r5 : v5 (ix2 (i 1) (i 2)) = BitVec.ofNat 32 (i 1).val := by
    rw [e5, broadcastInDim_apply _ h5 v3 (ix2 (i 1) (i 2)) (ix2 (i 1) 0) (fun k => match k with | ⟨0, _⟩ => (if_neg hn1).symm | ⟨1, _⟩ => (if_pos rfl).symm), r3]
  have r7 : w i = IntOp.cmpi .sle (BitVec.ofNat 32 (i 2).val) (BitVec.ofNat 32 (i 1).val) := by
    rw [e8, broadcastInDim_apply _ h8 v7 i (ix3 0 (i 1) (i 2))
      (fun k => match k with | ⟨0, _⟩ => (if_pos rfl).symm | ⟨1, _⟩ => (if_neg hn1).symm | ⟨2, _⟩ => (if_neg hn1).symm),
      e7, broadcastInDim_apply _ h7 v6 (ix3 0 (i 1) (i 2)) (ix2 (i 1) (i 2)) (fun k => match k with | ⟨0, _⟩ => (if_neg hn1).symm | ⟨1, _⟩ => (if_neg hn1).symm),
      e6]
    exact congrArg₂ _ r4 r5
  rw [r7]
  exact ⟨(WordCmp.cmpi_sle_ofNat_eq_one_iff (by omega) (by omega)).mpr, (WordCmp.cmpi_sle_ofNat_eq_zero_iff (by omega) (by omega)).mpr⟩

/-- Masked scores. -/
theorem Part.masked {x y z : (⟨3, ![a, n, n]⟩ : Shape).Idx → EReal} {g : (⟨3, ![a, n, n]⟩ : Shape).Idx → ℝ}
    (hw : ∀ i : (⟨3, ![a, n, n]⟩ : Shape).Idx, ((i 2).val ≤ (i 1).val → w i = 1#1) ∧ (¬(i 2).val ≤ (i 1).val → w i = 0#1))
    (e : x = select w y z) (hy : Rep y g) (hz : ∀ i, z i = ⊥) : Part x (fun i => (i 2).val ≤ (i 1).val) g := fun i => by
  rw [e, show select w y z i = Scalar.select (w i) (y i) (z i) from rfl, select_word (hw i).1 (hw i).2, hy, hz]

theorem Rep.masked {x y z : (⟨3, ![a, n, n]⟩ : Shape).Idx → EReal} {g : (⟨3, ![a, n, n]⟩ : Shape).Idx → ℝ}
    (hw : ∀ i : (⟨3, ![a, n, n]⟩ : Shape).Idx, ((i 2).val ≤ (i 1).val → w i = 1#1) ∧ (¬(i 2).val ≤ (i 1).val → w i = 0#1))
    (e : x = select w y z) (hy : Rep y g) (hz : Rep z fun _ => 0) : Rep x (fun i => if (i 2).val ≤ (i 1).val then g i else 0) := fun i => by
  rw [e, show select w y z i = Scalar.select (w i) (y i) (z i) from rfl, select_word (hw i).1 (hw i).2, hy, hz]
  dsimp only
  split <;> rfl

end Causal

end Cert

end
-- ==== Proof.Axes.lean ====
/-
  Numbers along the axes of matrices and of three-axis arrays: set beside one another, set among zeros, put in another
  order, cut, summed.  Also cosine, sine, powers and the numbers of integers.
-/
module

public import Idealize.ShloMosaic.Lib.KernelVsHost
public import proofs.«01_k».proof.Proof.Heads

@[expose] public section

noncomputable section

namespace Cert

open Idealize.ShloMosaic hiding ix1 ix2 ix3
open Idealize.ShloMosaic.ValueIdx

section Pointwise

variable {s : Shape} {φ : FTy} {x y : s.Idx → EReal} {g f : s.Idx → ℝ}

theorem Rep.cos (hx : Rep x g) : Rep (Idealize.ShloMosaic.cos (F := Ideal) (φ := φ) x) (fun i => Real.cos (g i)) := fun i => by
  show Ideal.cos (x i) = _
  rw [hx]; rfl

theorem Rep.sin (hx : Rep x g) : Rep (Idealize.ShloMosaic.sin (F := Ideal) (φ := φ) x) (fun i => Real.sin (g i)) := fun i => by
  show Ideal.sin (x i) = _
  rw [hx]; rfl

theorem Rep.host_cos (hx : Rep x g) : Rep (Host.cos (F := Ideal) (φ := φ) x) (fun i => Real.cos (g i)) := hx.cos (φ := φ)

theorem Rep.host_sin (hx : Rep x g) : Rep (Host.sin (F := Ideal) (φ := φ) x) (fun i => Real.sin (g i)) := hx.sin (φ := φ)

theorem Rep.pow (hx : Rep x g) (hy : Rep y f) :
    Rep (Host.powf (F := Ideal) (φ := φ) x y) (fun i => Real.rpow (g i) (f i)) := fun i => by
  show Ideal.pow (x i) (y i) = _
  rw [hx, hy]; rfl

theorem word_2 : Ideal.ofBits .f32 0x40000000#32 = ((2 : ℝ) : EReal) := by
  simp [Ideal.ofBits, Ideal.ieee]; rw [← EReal.coe_mul]; norm_num

theorem word_64 : Ideal.ofBits .f32 0x42800000#32 = ((64 : ℝ) : EReal) := by
  simp [Ideal.ofBits, Ideal.ieee]; rw [← EReal.coe_mul]; norm_num

theorem word_10000 : Ideal.ofBits .f32 0x461C4000#32 = ((10000 : ℝ) : EReal) := by
  simp [Ideal.ofBits, Ideal.ieee]; rw [← EReal.coe_mul]; norm_num

/-- The number the scale's word stands for: one over the root of 192, rounded. -/
def scale : ℝ := 9686330 / 134217728

theorem word_scale : Ideal.ofBits .f32 0x3D93CD3A#32 = (scale : EReal) := by
  simp [Ideal.ofBits, Ideal.ieee, scale]; rw [← EReal.coe_mul]; norm_num

end Pointwise

/-! ## Matrices -/

section Two

variable {n m a b k : Nat} {φ : FTy}

theorem size0 (i : (⟨2, ![n, m]⟩ : Shape).Idx) : (i 0).val < n := (i 0).isLt
theorem size1 (i : (⟨2, ![n, m]⟩ : Shape).Idx) : (i 1).val < m := (i 1).isLt

theorem Mat.swap {x : (⟨2, ![n, m]⟩ : Shape).Idx → EReal} {g : Fin n → Fin m → ℝ} (hx : Mat x g)
    (h : (⟨2, ![n, m]⟩ : Shape).Transposes [1, 0] ⟨2, ![m, n]⟩) : Mat (transpose ⟨2, ![m, n]⟩ [1, 0] x h) (fun j i => g i j) := fun i => by
  rw [transpose_apply [1, 0] x h i (ix2 (i 1) (i 0))]
  · exact hx _
  · intro c
    match c with
    | ⟨0, _⟩ => rfl
    | ⟨1, _⟩ => rfl

/-- Two matrices side by side. -/
theorem Mat.beside {x : (⟨2, ![n, a]⟩ : Shape).Idx → EReal} {y : (⟨2, ![n, b]⟩ : Shape).Idx → EReal} {g : Fin n → Fin a → ℝ}
    {f : Fin n → Fin b → ℝ} (hx : Mat x g) (hy : Mat y f) (hm : a + b = m)
    (h : Shape.Concatenates [(⟨2, ![n, a]⟩ : Shape), ⟨2, ![n, b]⟩] ⟨2, ![n, m]⟩ 1) :
    Mat (concatenate ⟨2, ![n, m]⟩ 1 [⟨⟨2, ![n, a]⟩, x⟩, ⟨⟨2, ![n, b]⟩, y⟩] h)
      (fun r c => if hc : c.val < a then g r ⟨c, hc⟩ else f r ⟨c - a, by omega⟩) := fun i => by
  have h1 := size1 i
  by_cases hc : (i 1).val < a
  · refine (concatenate_pair_apply_left (1 : Fin 2) x y h i rfl (ix2 (i 0) ⟨(i 1).val, hc⟩) fun c => ?_).trans ((hx _).trans ?_)
    · match c with
      | ⟨0, _⟩ => rfl
      | ⟨1, _⟩ => rfl
    · show _ = ((dite _ _ _ : ℝ) : EReal); rw [dif_pos hc]; rfl
  · refine (concatenate_pair_apply_right (1 : Fin 2) x y h i rfl rfl (ix2 (i 0) ⟨(i 1).val - a, by omega⟩) (fun c hc' => ?_) ?_).trans ((hy _).trans ?_)
    · match c with
      | ⟨0, _⟩ => rfl
      | ⟨1, _⟩ => exact absurd rfl hc'
    · show (i 1).val - a + a = (i 1).val; omega
    · show _ = ((dite _ _ _ : ℝ) : EReal); rw [dif_neg hc]; rfl

/-- Numbers by two coordinates set out with a unit middle axis. -/
theorem Mat.host_mid {x : (⟨2, ![a, b]⟩ : Shape).Idx → EReal} {g : Fin a → Fin b → ℝ} (hx : Mat x g)
    (h : (⟨2, ![a, b]⟩ : Shape).BroadcastsInDim ⟨3, ![a, k, b]⟩ ![0, 2]) :
    Ten (broadcastInDim (s := ⟨2, ![a, b]⟩) ⟨3, ![a, k, b]⟩ ![0, 2] h x) (fun i _ j => g i j) := fun i => by
  rw [broadcastInDim_apply _ h x i (ix2 (i 0) (i 2))]
  · exact hx _
  · intro e
    match e with
    | ⟨0, _⟩ =>
      show (i 0).val = if a = 1 then 0 else (i 0).val
      split
      · have := (i 0).isLt; have e : (⟨3, ![a, k, b]⟩ : Shape).size 0 = a := rfl; omega
      · rfl
    | ⟨1, _⟩ =>
      show (i 2).val = if b = 1 then 0 else (i 2).val
      split
      · have := (i 2).isLt; have e : (⟨3, ![a, k, b]⟩ : Shape).size 2 = b := rfl; omega
      · rfl

/-- A row of numbers as the only row of a matrix. -/
theorem Row.host_row {x : (⟨1, ![n]⟩ : Shape).Idx → EReal} {g : Fin n → ℝ} (hx : Row x g)
    (h : (⟨1, ![n]⟩ : Shape).BroadcastsInDim ⟨2, ![m, n]⟩ ![1]) :
    Mat (broadcastInDim (s := ⟨1, ![n]⟩) ⟨2, ![m, n]⟩ ![1] h x) (fun _ c => g c) := fun i => by
  rw [broadcastInDim_apply _ h x i (ix1 (i 1))]
  · exact hx _
  · intro k
    match k with
    | ⟨0, _⟩ =>
      show (i 1).val = if n = 1 then 0 else (i 1).val
      split
      · have := size1 i; omega
      · rfl

end Two

/-! ## Three axes -/

section Three

variable {a b c d k o : Nat} {φ : FTy} {x : (⟨3, ![a, b, c]⟩ : Shape).Idx → EReal} {g : Fin a → Fin b → Fin c → ℝ}

theorem size_last (i : (⟨3, ![a, b, c]⟩ : Shape).Idx) : (i 2).val < c := (i 2).isLt

/-- The first two axes exchanged. -/
theorem Ten.swap (hx : Ten x g) (h : (⟨3, ![a, b, c]⟩ : Shape).Transposes [1, 0, 2] ⟨3, ![b, a, c]⟩) :
    Ten (transpose ⟨3, ![b, a, c]⟩ [1, 0, 2] x h) (fun j i k => g i j k) := fun i => by
  rw [transpose_apply [1, 0, 2] x h i (ix3 (i 1) (i 0) (i 2))]
  · exact hx _
  · intro c
    match c with
    | ⟨0, _⟩ => rfl
    | ⟨1, _⟩ => rfl
    | ⟨2, _⟩ => rfl

/-- Entries `o` to `o + k` along the last axis. -/
theorem Ten.cut (hx : Ten x g) (ho : o + k ≤ c) (h : (⟨3, ![a, b, c]⟩ : Shape).Slices ![0, 0, o] ⟨3, ![a, b, k]⟩) :
    Ten (extractStridedSlice ⟨3, ![a, b, k]⟩ ![0, 0, o] x h) (fun i j l => g i j ⟨o + l, by omega⟩) := fun i => by
  have h2 := size_last i
  rw [extractStridedSlice_apply _ x h i (ix3 (i 0) (i 1) ⟨o + (i 2).val, by omega⟩)]
  · exact hx _
  · intro e
    match e with
    | ⟨0, _⟩ => exact (Nat.zero_add _).symm
    | ⟨1, _⟩ => exact (Nat.zero_add _).symm
    | ⟨2, _⟩ => rfl

theorem lift_mid (h : (⟨3, ![a, b, c]⟩ : Shape).Reduces [1] ⟨2, ![a, c]⟩) (i : (⟨2, ![a, c]⟩ : Shape).Idx) (k : Fin b) :
    h.lift i k = ix3 (i 0) k (i 1) := funext fun x => match x with | ⟨0, _⟩ => rfl | ⟨1, _⟩ => rfl | ⟨2, _⟩ => rfl

/-- The sums along the middle axis. -/
theorem Ten.host_sum_mid {z : (⟨0, ![]⟩ : Shape).Idx → EReal} (hx : Ten x g) (hz : Rep z (fun _ => 0)) (h) (hu)
    (h' : (⟨3, ![a, b, c]⟩ : Shape).Reduces [1] ⟨2, ![a, c]⟩ := by decide) :
    Mat (Host.reduceAdd (F := Ideal) (φ := φ) (axes := [1]) (t := ⟨2, ![a, c]⟩) x z h hu) (fun i k => ∑ j, g i j k) := fun i => by
  show Ideal.hostReduceAdd h x (z _) i = _
  rw [Ideal.hostReduceAdd_single h h', hz, EReal.coe_zero, zero_add, coe_sum]
  exact Finset.sum_congr rfl fun k _ => by rw [lift_mid h' i k]; exact hx _

/-- A unit middle axis repeated. -/
theorem Ten.host_repeat_mid {x : (⟨3, ![a, 1, c]⟩ : Shape).Idx → EReal} {g : Fin a → Fin 1 → Fin c → ℝ} (hx : Ten x g)
    (h : (⟨3, ![a, 1, c]⟩ : Shape).BroadcastsInDim ⟨3, ![a, b, c]⟩ ![0, 1, 2]) :
    Ten (broadcastInDim (s := ⟨3, ![a, 1, c]⟩) ⟨3, ![a, b, c]⟩ ![0, 1, 2] h x) (fun i _ j => g i 0 j) := fun i => by
  rw [broadcastInDim_apply _ h x i (ix3 (i 0) 0 (i 2))]
  · exact hx _
  · intro k
    match k with
    | ⟨0, _⟩ =>
      show (i 0).val = if a = 1 then 0 else (i 0).val
      split
      · have := (i 0).isLt; have e : (⟨3, ![a, b, c]⟩ : Shape).size 0 = a := rfl; omega
      · rfl
    | ⟨1, _⟩ => rfl
    | ⟨2, _⟩ =>
      show (i 2).val = if c = 1 then 0 else (i 2).val
      split
      · have := size_last i; omega
      · rfl

/-- Two arrays one after the other along the last axis. -/
theorem Ten.beside {y : (⟨3, ![a, b, d]⟩ : Shape).Idx → EReal} {f : Fin a → Fin b → Fin d → ℝ} (hx : Ten x g) (hy : Ten y f) (hm : c + d = k)
    (h : Shape.Concatenates [(⟨3, ![a, b, c]⟩ : Shape), ⟨3, ![a, b, d]⟩] ⟨3, ![a, b, k]⟩ 2) :
    Ten (concatenate ⟨3, ![a, b, k]⟩ 2 [⟨⟨3, ![a, b, c]⟩, x⟩, ⟨⟨3, ![a, b, d]⟩, y⟩] h)
      (fun i j l => if hl : l.val < c then g i j ⟨l, hl⟩ else f i j ⟨l - c, by omega⟩) := fun i => by
  have h1 := size_last i
  by_cases hc : (i 2).val < c
  · refine (concatenate_pair_apply_left (2 : Fin 3) x y h i rfl (ix3 (i 0) (i 1) ⟨(i 2).val, hc⟩) fun e => ?_).trans ((hx _).trans ?_)
    · match e with
      | ⟨0, _⟩ => rfl
      | ⟨1, _⟩ => rfl
      | ⟨2, _⟩ => rfl
    · show _ = ((dite _ _ _ : ℝ) : EReal); rw [dif_pos hc]; rfl
  · refine (concatenate_pair_apply_right (2 : Fin 3) x y h i rfl rfl (ix3 (i 0) (i 1) ⟨(i 2).val - c, by omega⟩) (fun e hc' => ?_) ?_).trans ((hy _).trans ?_)
    · match e with
      | ⟨0, _⟩ => rfl
      | ⟨1, _⟩ => rfl
      | ⟨2, _⟩ => exact absurd rfl hc'
    · show (i 2).val - c + c = (i 2).val; omega
    · show _ = ((dite _ _ _ : ℝ) : EReal); rw [dif_neg hc]; rfl

/-- Zeros before, and after, the entries along the last axis. -/
theorem Ten.after {z : (⟨0, ![]⟩ : Shape).Idx → EReal} (hx : Ten x g) (hz : Rep z (fun _ => 0)) (hk : o + c = k)
    (h : (⟨3, ![a, b, c]⟩ : Shape).Pads (![0, 0, o] : Fin 3 → Nat) ![0, 0, 0] ![0, 0, 0] ⟨3, ![a, b, k]⟩) (hu) :
    Ten (pad ⟨3, ![a, b, k]⟩ (![0, 0, o] : Fin 3 → Nat) ![0, 0, 0] ![0, 0, 0] x z h hu)
      (fun i j l => if hl : l.val < o then 0 else g i j ⟨l - o, by omega⟩) := fun i => by
  have h1 := size_last i
  by_cases hc : (i 2).val < o
  · rw [pad_apply_of_not_inside _ _ _ x z h hu i (2 : Fin 3) fun hn => absurd hn.1 (Nat.not_le.mpr hc), hz]
    show _ = ((dite _ _ _ : ℝ) : EReal); rw [dif_pos hc]
  · rw [pad_apply_of_inside _ _ _ x z h hu i (ix3 (i 0) (i 1) ⟨(i 2).val - o, by omega⟩), hx]
    · show _ = ((dite _ _ _ : ℝ) : EReal); rw [dif_neg hc]; rfl
    · intro e
      match e with
      | ⟨0, _⟩ => show (i 0).val = 0 + (i 0).val * (0 + 1); omega
      | ⟨1, _⟩ => show (i 1).val = 0 + (i 1).val * (0 + 1); omega
      | ⟨2, _⟩ => show (i 2).val = o + ((i 2).val - o) * (0 + 1); omega

theorem Ten.before {z : (⟨0, ![]⟩ : Shape).Idx → EReal} (hx : Ten x g) (hz : Rep z (fun _ => 0)) (hk : c + o = k)
    (h : (⟨3, ![a, b, c]⟩ : Shape).Pads (![0, 0, 0] : Fin 3 → Nat) ![0, 0, o] ![0, 0, 0] ⟨3, ![a, b, k]⟩) (hu) :
    Ten (pad ⟨3, ![a, b, k]⟩ (![0, 0, 0] : Fin 3 → Nat) ![0, 0, o] ![0, 0, 0] x z h hu)
      (fun i j l => if hl : l.val < c then g i j ⟨l, hl⟩ else 0) := fun i => by
  have h1 := size_last i
  by_cases hc : (i 2).val < c
  · rw [pad_apply_of_inside _ _ _ x z h hu i (ix3 (i 0) (i 1) ⟨(i 2).val, hc⟩), hx]
    · show _ = ((dite _ _ _ : ℝ) : EReal); rw [dif_pos hc]; rfl
    · intro e
      match e with
      | ⟨0, _⟩ => show (i 0).val = 0 + (i 0).val * (0 + 1); omega
      | ⟨1, _⟩ => show (i 1).val = 0 + (i 1).val * (0 + 1); omega
      | ⟨2, _⟩ => show (i 2).val = 0 + (i 2).val * (0 + 1); omega
  · rw [pad_apply_of_not_inside _ _ _ x z h hu i (2 : Fin 3) fun hn => hc ?_, hz]
    · show _ = ((dite _ _ _ : ℝ) : EReal); rw [dif_neg hc]
    · have := hn.2.2
      have e : ((i 2).val - 0) / (0 + 1) < c := this
      omega

/-- The last two axes as one. -/
theorem Ten.join (hx : Ten x g) (hm : b * c = k) (hc : 0 < c) (h : (⟨3, ![a, b, c]⟩ : Shape).ShapeCasts ⟨2, ![a, k]⟩) :
    Mat (shapeCast ⟨2, ![a, k]⟩ x h)
      (fun i l => g i ⟨l / c, Nat.div_lt_of_lt_mul (by rw [Nat.mul_comm c b, hm]; exact l.isLt)⟩ ⟨l % c, Nat.mod_lt _ hc⟩) := fun i => by
  have h1 := size1 i
  rw [shapeCast_apply x h i (ix3 (i 0) ⟨(i 1).val / c, Nat.div_lt_of_lt_mul (by rw [Nat.mul_comm c b, hm]; exact h1)⟩ ⟨(i 1).val % c, Nat.mod_lt _ hc⟩)]
  · exact hx _
  · rw [Shape.rowMajor_val_three, Shape.rowMajor_val_two]
    show ((i 0).val * b + (i 1).val / c) * c + (i 1).val % c = (i 0).val * k + (i 1).val
    have e := Nat.div_add_mod (i 1).val c
    generalize (i 1).val = q at e ⊢
    subst hm
    rw [Nat.add_mul, Nat.mul_assoc, Nat.add_assoc, Nat.mul_comm (q / c) c, e]

end Three

end Cert

end
-- ==== Proof.Windows.lean ====
/-
  Windows read and written by rows, by heads, or whole: what a load gives, and what a list of stores leaves.
-/
module

public import Idealize.ShloMosaic.Lib.WritesUnit
public import Idealize.ShloMosaic.Lib.VecWindow
public import Idealize.ShloMosaic.Lib.Pipeline.ReadBack
public import Idealize.ShloMosaic.Lib.Pipeline.ValueKit.Tiles
public import proofs.«01_k».proof.Proof.Axes

@[expose] public section

noncomputable section

namespace Cert.Windows

open Idealize.ShloMosaic hiding ix1 ix2 ix3
open Idealize.ShloMosaic.TcCoe Idealize.SL.Sem Idealize.ShloMosaic.ValueIdx

theorem hz : (![0, 0] : Fin 2 → Nat) = fun _ => 0 := funext fun a => by fin_cases a <;> rfl
theorem hz3 : (![0, 0, 0] : Fin 3 → Nat) = fun _ => 0 := funext fun a => by fin_cases a <;> rfl

theorem ld_whole {d : Fin 2 → Nat} {e : EltTy} (x : (⟨2, d⟩ : Shape).Idx → Elt Ideal e) (inb : ∀ a, (![0, 0] : Fin 2 → Nat) a + d a ≤ d a) :
    View.ld (Val := Elt Ideal) (S := ⟨2, d⟩) (e' := e) x (Rect.unit (s := ⟨2, d⟩) ![0, 0] d inb) = x :=
  View.ld_unit_zero (S := ⟨2, d⟩) hz inb x

theorem ld_whole3 {d : Fin 3 → Nat} {e : EltTy} (x : (⟨3, d⟩ : Shape).Idx → Elt Ideal e) (inb : ∀ a, (![0, 0, 0] : Fin 3 → Nat) a + d a ≤ d a) :
    View.ld (Val := Elt Ideal) (S := ⟨3, d⟩) (e' := e) x (Rect.unit (s := ⟨3, d⟩) ![0, 0, 0] d inb) = x :=
  View.ld_unit_zero (S := ⟨3, d⟩) hz3 inb x

variable {sig : RefSig} {n r w : Nat}

/-- One row of a block. -/
def rowOf (x : (⟨2, ![n, w]⟩ : Shape).Idx → EReal) (k : Fin n) : (⟨2, ![1, w]⟩ : Shape).Idx → EReal := fun z => x (ix2 k (z 1))

theorem ld_row (x : (⟨2, ![n, w]⟩ : Shape).Idx → EReal) (k : Nat)
    (inb : ∀ a, (![k, 0] : Fin 2 → Nat) a + (![1, w] : Fin 2 → Nat) a ≤ (![n, w] : Fin 2 → Nat) a) :
    View.ld (Val := Elt Ideal) (S := ⟨2, ![n, w]⟩) (e' := .f32) x (Rect.unit (s := ⟨2, ![n, w]⟩) ![k, 0] ![1, w] inb)
      = rowOf x ⟨k, inb 0⟩ := by
  funext z
  refine View.ld_unit_apply_of (Val := Elt Ideal) (S := ⟨2, ![n, w]⟩) (e := .f32) x _ _ _ z (ix2 ⟨k, inb 0⟩ (z 1)) fun a => ?_
  have := (z 0).isLt
  match a with
  | ⟨0, _⟩ => show k = k + (z 0).val; have : (z 0).val < 1 := this; omega
  | ⟨1, _⟩ => show (z 1).val = 0 + (z 1).val; omega

theorem row_stored (v : View sig .tc .vmem ⟨2, ![n, w]⟩ .f32) (f) (k : Nat)
    (inb : ∀ a, (![k, 0] : Fin 2 → Nat) a + (![1, w] : Fin 2 → Nat) a ≤ (![n, w] : Fin 2 → Nat) a) (p : (⟨2, ![1, w]⟩ : Shape).Idx → EReal) (L) :
    v.read (Elt Ideal) (v.writes (Elt Ideal) f (⟨Rect.unit ![k, 0] ![1, w] inb, p⟩ :: L))
      = fun y => if (y 0).val = k then p (ix2 0 (y 1)) else v.read (Elt Ideal) (v.writes (Elt Ideal) f L) y := by
  funext y
  by_cases e : (y 0).val = k
  · rw [if_pos e]
    exact View.read_writes_cons_rows_of_mem v f _ _ _ y (ix2 0 (y 1)) rfl e rfl
  rw [if_neg e, View.read_writes_cons_rows_of_not_mem (W := 1) v f _ _ _ y rfl rfl (by omega)]

/-- One head of a block. -/
def head (x : (⟨3, ![n, r, w]⟩ : Shape).Idx → EReal) (h : Fin n) : (⟨3, ![1, r, w]⟩ : Shape).Idx → EReal := fun z => x (ix3 h (z 1) (z 2))

theorem ld_head (x : (⟨3, ![n, r, w]⟩ : Shape).Idx → EReal) (h : Nat)
    (inb : ∀ a, (![h, 0, 0] : Fin 3 → Nat) a + (![1, r, w] : Fin 3 → Nat) a ≤ (![n, r, w] : Fin 3 → Nat) a) :
    View.ld (Val := Elt Ideal) (S := ⟨3, ![n, r, w]⟩) (e' := .f32) x (Rect.unit (s := ⟨3, ![n, r, w]⟩) ![h, 0, 0] ![1, r, w] inb)
      = head x ⟨h, inb 0⟩ := by
  funext z
  refine View.ld_unit_apply_of (Val := Elt Ideal) (S := ⟨3, ![n, r, w]⟩) (e := .f32) x _ _ _ z (ix3 ⟨h, inb 0⟩ (z 1) (z 2)) fun a => ?_
  have := (z 0).isLt
  match a with
  | ⟨0, _⟩ => show h = h + (z 0).val; have : (z 0).val < 1 := this; omega
  | ⟨1, _⟩ => show (z 1).val = 0 + (z 1).val; omega
  | ⟨2, _⟩ => show (z 2).val = 0 + (z 2).val; omega

theorem head_stored {e : EltTy} (v : View sig .tc .vmem ⟨3, ![n, r, w]⟩ e) (f) (h : Nat)
    (inb : ∀ a, (![h, 0, 0] : Fin 3 → Nat) a + (![1, r, w] : Fin 3 → Nat) a ≤ (![n, r, w] : Fin 3 → Nat) a)
    (p : (⟨3, ![1, r, w]⟩ : Shape).Idx → Elt Ideal e) (L) :
    v.read (Elt Ideal) (v.writes (Elt Ideal) f (⟨Rect.unit ![h, 0, 0] ![1, r, w] inb, p⟩ :: L))
      = fun y => if (y 0).val = h then p (ix3 0 (y 1) (y 2)) else v.read (Elt Ideal) (v.writes (Elt Ideal) f L) y := by
  funext y
  by_cases e : (y 0).val = h
  · rw [if_pos e]
    exact View.read_writes_cons_unit_of_mem v f _ _ _ y (ix3 0 (y 1) (y 2)) rfl fun a => match a with
      | ⟨0, _⟩ => e
      | ⟨1, _⟩ => (Nat.zero_add _).symm
      | ⟨2, _⟩ => (Nat.zero_add _).symm
  rw [if_neg e, View.read_writes_cons_unit_of_not_mem v f _ _ _ y rfl 0 (by
    rcases Nat.lt_or_gt_of_ne e with e | e
    · exact .inl e
    · exact .inr (show h + 1 ≤ (y 0).val from e))]

end Cert.Windows
end
-- ==== Proof.LayerNorm.lean ====
/-
  The normalised row and its gradient, over the reals.

  `cen`, `var`, `rstd` and `xhat` are the row less its mean, its variance, the reciprocal root and the normalised row.
  Differentiation through mean, variance and reciprocal root yields `backDiff`; the closed form is `back`.  They are
  equal because a row less its mean sums to zero and because `rstd` is the cube of itself over the square of its root.
-/
module

public import proofs.«01_k».proof.Proof.Reals

@[expose] public section

noncomputable section

namespace Cert.LayerNorm

variable (v y w b : Fin 1024 → ℝ)

def mean : ℝ := (∑ c, v c) / 1024
def cen (c : Fin 1024) : ℝ := v c - mean v
/-- The variance and `eps`. -/
def var : ℝ := (∑ c, cen v c * cen v c) / 1024 + eps
def rstd : ℝ := (Real.sqrt (var v))⁻¹
def xhat (c : Fin 1024) : ℝ := cen v c * rstd v
def out (c : Fin 1024) : ℝ := xhat v c * w c + b c

theorem var_pos : 0 < var v := by
  unfold var
  have : 0 ≤ ∑ c, cen v c * cen v c := Finset.sum_nonneg fun c _ => mul_self_nonneg _
  have := eps_pos
  positivity

theorem rstd_sq : rstd v / var v = rstd v ^ 3 := by
  have h := var_pos v
  have hs : Real.sqrt (var v) ^ 2 = var v := Real.sq_sqrt h.le
  have : Real.sqrt (var v) ≠ 0 := (Real.sqrt_pos.mpr h).ne'
  unfold rstd
  generalize Real.sqrt (var v) = s at *
  rw [← hs]
  field_simp

theorem sum_cen : ∑ c, cen v c = 0 := by
  simp only [cen, Finset.sum_sub_distrib, Finset.sum_const, Finset.card_univ, Fintype.card_fin, nsmul_eq_mul, mean]
  push_cast
  ring

/-- The gradient of the row where `y` is that of the normalised row, as differentiation operation by operation has it. -/
def coef : ℝ := (∑ c, cen v c * y c) * (-1 / 2 * (rstd v / var v)) / 1024
def through (c : Fin 1024) : ℝ := y c * rstd v + cen v c * coef v y + coef v y * cen v c
def backDiff (c : Fin 1024) : ℝ := through v y c + (∑ c, -through v y c) / 1024

/-- The same gradient in closed form. -/
def back (c : Fin 1024) : ℝ := rstd v * (y c - mean y - xhat v c * mean fun c => y c * xhat v c)

theorem backDiff_eq (c : Fin 1024) : backDiff v y c = back v y c := by
  have h1 : ∑ c, through v y c = (∑ c, y c) * rstd v := by
    simp only [through, Finset.sum_add_distrib, ← Finset.sum_mul, ← Finset.mul_sum, sum_cen]
    ring
  have h2 : ∑ c, y c * xhat v c = (∑ c, cen v c * y c) * rstd v := by
    rw [Finset.sum_mul]
    exact Finset.sum_congr rfl fun c _ => by unfold xhat; ring
  unfold backDiff back
  rw [Finset.sum_neg_distrib, h1]
  unfold mean
  rw [h2]
  unfold through coef xhat
  rw [rstd_sq]
  ring

end Cert.LayerNorm

namespace Cert

/-- The logistic function and `x * sgm x`. -/
def sgm (x : ℝ) : ℝ := (1 + Real.exp (-x))⁻¹
def silu (x : ℝ) : ℝ := x * sgm x

theorem one_div_sgm (x : ℝ) : 1 / (1 + Real.exp (-x)) = sgm x := one_div _

theorem one_add_exp_ne (x : ℝ) : 1 + Real.exp (-x) ≠ 0 := by positivity

/-- The derivative of `silu` at `x` times `t`, as differentiation of the product has it, and in closed form. -/
def siluDiff (x t : ℝ) : ℝ := t * sgm x + x * t * (sgm x * (1 - sgm x))
def siluBack (x t : ℝ) : ℝ := t * (sgm x * (1 + x * (1 - sgm x)))

theorem siluDiff_eq (x t : ℝ) : siluDiff x t = siluBack x t := by unfold siluDiff siluBack; ring

end Cert

end
-- ==== Proof.RowsPay.lean ====
/-
  What one block of rows of the kernel computes, over the reals.

  The kernel takes 512 rows at a time.  Its payloads, one lemma each, are the functions of Proof/LayerNorm.lean of the
  block's rows.
-/
module

public import proofs.«01_k».proof.Proof.LayerNorm
public import proofs.«01_k».proof.Proof.Gen.RowsIdeal.Value

@[expose] public section

set_option maxRecDepth 16384

noncomputable section

namespace Cert.RowsPay

open Cert.RowsIdeal Cert.RowsIdeal.Gen Cert.LayerNorm
open Idealize.ShloMosaic Idealize.ShloMosaic.TcCoe Idealize.ShloMosaic.ValueIdx

/-- The gradient of the normalised row's scaled and shifted value. -/
def dln (d g u w b : Fin 1024 → ℝ) (c : Fin 1024) : ℝ := siluBack (out u w b c) (d c * silu (g c))
/-- The gradient of the gate. -/
def dgate (d g u w b : Fin 1024 → ℝ) (c : Fin 1024) : ℝ := siluBack (g c) (d c * silu (out u w b c))
/-- The gradient of the row. -/
def drow (d g u w b : Fin 1024 → ℝ) : Fin 1024 → ℝ := back u fun c => dln d g u w b c * w c

variable {xd xu : FVec Ideal S512x1024 .f32} {xg : FVec Ideal S512x1024 .bf16} {xw xb : FVec Ideal S1x1024 .f32}
variable {d u g : Fin 512 → Fin 1024 → ℝ} {w b : Fin 1 → Fin 1024 → ℝ}

theorem pay3 (hu : Mat xu u) : Mat (k0_pay3 (F := Ideal) xu) fun r c => cen (u r) c :=
  Rep.cast (Rep.sub (φ := .f32) hu (Mat.repeat_col (Rep.div (φ := .f32) (Row.col (Mat.sum_rows (φ := .f32) hu _ _ _ _) _)
    (Rep.splat (φ := .f32) word_1024) fun _ => by norm_num) _)) fun _ => rfl

theorem pay4 (hu : Mat xu u) : Mat (k0_pay4 (F := Ideal) xu) fun r _ => rstd (u r) :=
  Rep.cast (Rep.rsqrt (φ := .f32) (g := fun i => var (u (i 0))) (Rep.cast (Rep.add (φ := .f32) (Rep.div (φ := .f32)
    (Row.col (Mat.sum_rows (φ := .f32) (Rep.mul (φ := .f32) (pay3 hu) (pay3 hu)) _ _ _ _) _)
    (Rep.splat (φ := .f32) word_1024) fun _ => by norm_num) (Rep.splat (φ := .f32) word_eps)) fun _ => rfl)
    fun i => var_pos _) fun _ => rfl

theorem pay5 (hu : Mat xu u) : Mat (k0_pay5 (F := Ideal) xu) fun r c => xhat (u r) c :=
  Rep.cast (Rep.mul (φ := .f32) (pay3 hu) (Mat.repeat_col (pay4 hu) _)) fun _ => rfl

theorem pay6 (hu : Mat xu u) (hw : Mat xw w) (hb : Mat xb b) : Mat (k0_pay6 (F := Ideal) xu xw xb) fun r c => out (u r) (w 0) (b 0) c :=
  Rep.cast (Rep.add (φ := .f32) (Rep.mul (φ := .f32) (pay5 hu) (Mat.repeat_row hw _)) (Mat.repeat_row hb _)) fun _ => rfl

theorem pay7 (hu : Mat xu u) (hw : Mat xw w) (hb : Mat xb b) :
    Mat (k0_pay7 (F := Ideal) xu xw xb) fun r c => sgm (out (u r) (w 0) (b 0) c) :=
  Rep.cast (Rep.logistic (φ := .f32) (pay6 hu hw hb)) fun _ => rfl

theorem pay8 (hg : Mat xg g) : Mat (k0_pay8 (F := Ideal) xg) g :=
  Rep.cast (Rep.ext (φ := .bf16) (ψ := .f32) bitsLt_bf16_f32 (Rep.self _ hg)) fun _ => rfl

theorem pay9 (hg : Mat xg g) : Mat (k0_pay9 (F := Ideal) xg) fun r c => sgm (g r c) :=
  Rep.cast (Rep.logistic (φ := .f32) (pay8 hg)) fun _ => rfl

theorem pay12 (hd : Mat xd d) (hg : Mat xg g) (hu : Mat xu u) (hw : Mat xw w) (hb : Mat xb b) :
    Mat (k0_pay12 (F := Ideal) (k0_pay9 (F := Ideal) xg) (k0_pay10 (F := Ideal) xu xw xb xd) (k0_pay11 (F := Ideal) xg))
      fun r c => dgate (d r) (g r) (u r) (w 0) (b 0) c :=
  Rep.cast (Rep.trunc (φ := .f32) (ψ := .bf16) bitsLt_bf16_f32 (Rep.mul (φ := .f32)
    (Rep.mul (φ := .f32) hd (Rep.mul (φ := .f32) (pay6 hu hw hb) (pay7 hu hw hb)))
    (Rep.mul (φ := .f32) (pay9 hg) (Rep.add (φ := .f32) (Rep.splat (φ := .f32) word_one) (Rep.mul (φ := .f32) (pay8 hg)
      (Rep.sub (φ := .f32) (Rep.splat (φ := .f32) word_one) (pay9 hg))))))) fun _ => rfl

theorem pay13 (hd : Mat xd d) (hg : Mat xg g) (hu : Mat xu u) (hw : Mat xw w) (hb : Mat xb b) :
    Mat (k0_pay13 (F := Ideal) (k0_pay6 (F := Ideal) xu xw xb) (k0_pay7 (F := Ideal) xu xw xb) (k0_pay8 (F := Ideal) xg) (k0_pay9 (F := Ideal) xg) xd)
      fun r c => dln (d r) (g r) (u r) (w 0) (b 0) c :=
  Rep.cast (Rep.mul (φ := .f32) (Rep.mul (φ := .f32) hd (Rep.mul (φ := .f32) (pay8 hg) (pay9 hg)))
    (Rep.mul (φ := .f32) (pay7 hu hw hb) (Rep.add (φ := .f32) (Rep.splat (φ := .f32) word_one)
      (Rep.mul (φ := .f32) (pay6 hu hw hb) (Rep.sub (φ := .f32) (Rep.splat (φ := .f32) word_one) (pay7 hu hw hb))))))
    fun _ => rfl

theorem pay14 {xa : FVec Ideal S1x1024 .f32} {a : Fin 1 → Fin 1024 → ℝ} (ha : Mat xa a)
    (hd : Mat xd d) (hg : Mat xg g) (hu : Mat xu u) (hw : Mat xw w) (hb : Mat xb b) :
    Mat (k0_pay14 (F := Ideal) (k0_pay5 (F := Ideal) xu) (k0_pay6 (F := Ideal) xu xw xb) (k0_pay7 (F := Ideal) xu xw xb) (k0_pay8 (F := Ideal) xg) (k0_pay9 (F := Ideal) xg) xd xa)
      fun r c => a r c + ∑ k, dln (d k) (g k) (u k) (w 0) (b 0) c * xhat (u k) c :=
  Rep.cast (Rep.add (φ := .f32) (Rep.self _ ha) (Row.row (Mat.sum_cols (φ := .f32) (Rep.mul (φ := .f32)
    (pay13 hd hg hu hw hb) (pay5 hu)) _ _ _ _) _)) fun _ => rfl

theorem pay15 {xa : FVec Ideal S1x1024 .f32} {a : Fin 1 → Fin 1024 → ℝ} (ha : Mat xa a)
    (hd : Mat xd d) (hg : Mat xg g) (hu : Mat xu u) (hw : Mat xw w) (hb : Mat xb b) :
    Mat (k0_pay15 (F := Ideal) (k0_pay6 (F := Ideal) xu xw xb) (k0_pay7 (F := Ideal) xu xw xb) (k0_pay8 (F := Ideal) xg) (k0_pay9 (F := Ideal) xg) xd xa)
      fun r c => a r c + ∑ k, dln (d k) (g k) (u k) (w 0) (b 0) c :=
  Rep.cast (Rep.add (φ := .f32) (Rep.self _ ha) (Row.row (Mat.sum_cols (φ := .f32)
    (pay13 hd hg hu hw hb) _ _ _ _) _)) fun _ => rfl

theorem pay16 (hd : Mat xd d) (hg : Mat xg g) (hu : Mat xu u) (hw : Mat xw w) (hb : Mat xb b) :
    Mat (k0_pay16 (F := Ideal) xw (k0_pay6 (F := Ideal) xu xw xb) (k0_pay7 (F := Ideal) xu xw xb) (k0_pay8 (F := Ideal) xg) (k0_pay9 (F := Ideal) xg) xd)
      fun r c => dln (d r) (g r) (u r) (w 0) (b 0) c * w 0 c :=
  Rep.cast (Rep.mul (φ := .f32) (pay13 hd hg hu hw hb) (Mat.repeat_row hw _)) fun _ => rfl

theorem pay17 (hd : Mat xd d) (hg : Mat xg g) (hu : Mat xu u) (hw : Mat xw w) (hb : Mat xb b) :
    Mat (k0_pay17 (F := Ideal) xw (k0_pay6 (F := Ideal) xu xw xb) (k0_pay7 (F := Ideal) xu xw xb) (k0_pay8 (F := Ideal) xg) (k0_pay9 (F := Ideal) xg) xd)
      fun r c => dln (d r) (g r) (u r) (w 0) (b 0) c * w 0 c - mean fun c => dln (d r) (g r) (u r) (w 0) (b 0) c * w 0 c :=
  Rep.cast (Rep.sub (φ := .f32) (pay16 hd hg hu hw hb) (Mat.repeat_col (Rep.div (φ := .f32)
    (Row.col (Mat.sum_rows (φ := .f32) (pay16 hd hg hu hw hb) _ _ _ _) _)
    (Rep.splat (φ := .f32) word_1024) fun _ => by norm_num) _)) fun _ => rfl

theorem pay18 (hd : Mat xd d) (hg : Mat xg g) (hu : Mat xu u) (hw : Mat xw w) (hb : Mat xb b) :
    Mat (k0_pay18 (F := Ideal) (k0_pay5 (F := Ideal) xu) xw (k0_pay6 (F := Ideal) xu xw xb) (k0_pay7 (F := Ideal) xu xw xb) (k0_pay8 (F := Ideal) xg) (k0_pay9 (F := Ideal) xg) xd)
      fun r _ => mean fun c => dln (d r) (g r) (u r) (w 0) (b 0) c * w 0 c * xhat (u r) c :=
  Rep.cast (Rep.div (φ := .f32)
    (Row.col (Mat.sum_rows (φ := .f32) (Rep.mul (φ := .f32) (pay16 hd hg hu hw hb) (pay5 hu)) _ _ _ _) _)
    (Rep.splat (φ := .f32) word_1024) fun _ => by norm_num) fun _ => rfl

/-- The block's gradient with respect to the rows. -/
abbrev rowsOut (xd xu : FVec Ideal S512x1024 .f32) (xg : FVec Ideal S512x1024 .bf16) (xw xb : FVec Ideal S1x1024 .f32) :
    FVec Ideal S512x1024 .f32 :=
  k0_pay1 (k0_pay4 xu) (k0_pay5 xu)
    (k0_pay17 xw (k0_pay6 xu xw xb) (k0_pay7 xu xw xb) (k0_pay8 xg) (k0_pay9 xg) xd)
    (k0_pay18 (k0_pay5 xu) xw (k0_pay6 xu xw xb) (k0_pay7 xu xw xb) (k0_pay8 xg) (k0_pay9 xg) xd)

/-- The block's gradient with respect to the gates. -/
abbrev gateOut (xd xu : FVec Ideal S512x1024 .f32) (xg : FVec Ideal S512x1024 .bf16) (xw xb : FVec Ideal S1x1024 .f32) :
    FVec Ideal S512x1024 .bf16 :=
  k0_pay12 (k0_pay9 xg) (k0_pay10 xu xw xb xd) (k0_pay11 xg)

/-- The sums for the scale and for the shift with the block's added. -/
abbrev scaleOut (xd xu : FVec Ideal S512x1024 .f32) (xg : FVec Ideal S512x1024 .bf16) (xw xb xa : FVec Ideal S1x1024 .f32) :
    FVec Ideal S1x1024 .f32 :=
  k0_pay14 (k0_pay5 xu) (k0_pay6 xu xw xb) (k0_pay7 xu xw xb) (k0_pay8 xg) (k0_pay9 xg) xd xa
abbrev shiftOut (xd xu : FVec Ideal S512x1024 .f32) (xg : FVec Ideal S512x1024 .bf16) (xw xb xa : FVec Ideal S1x1024 .f32) :
    FVec Ideal S1x1024 .f32 :=
  k0_pay15 (k0_pay6 xu xw xb) (k0_pay7 xu xw xb) (k0_pay8 xg) (k0_pay9 xg) xd xa

theorem pay1 (hd : Mat xd d) (hg : Mat xg g) (hu : Mat xu u) (hw : Mat xw w) (hb : Mat xb b) :
    Mat (rowsOut xd xu xg xw xb) fun r c => drow (d r) (g r) (u r) (w 0) (b 0) c :=
  Rep.cast (Rep.mul (φ := .f32) (Mat.repeat_col (pay4 hu) _) (Rep.sub (φ := .f32) (pay17 hd hg hu hw hb)
    (Rep.mul (φ := .f32) (pay5 hu) (Mat.repeat_col (pay18 hd hg hu hw hb) _)))) fun _ => rfl

end Cert.RowsPay

end
-- ==== Proof.Line.lean ====
/-
  A straight line of host operations, read one operation at a time.

  A host program is in single-assignment form: each operation writes one buffer of its own, and reads buffers written
  before it or never.  So the contents after the whole line satisfy every operation's equation at once: the result
  buffer holds the operation's function of what its operand buffers hold at the end (`Ssa.unary`, `Ssa.binary`, …).
  A proof then cites one short equation per buffer, and no composed term is ever written down.

  `opsOf` reads the list of operations off the program; that the program is the line of that list is checked by
  evaluation where it is used.
-/
module

public import Idealize.ShloMosaic.Lib.StableHlo.Run

@[expose] public section

noncomputable section

namespace Cert.Line

open Idealize.ShloMosaic Idealize.ShloMosaic.TcCoe Idealize.SL.Sem Idealize.ShloMosaic.StableHlo

variable {nD : Nat} {τ : Topo} {sig : RefSig} {Val : EltTy → Type} {Λ : Labels}

/-- The host operations a program performs, in order.  The contents `V` answer each operation's completion; no
    straight-line program looks at the answer. -/
def opsOf (V : Valuation τ sig Val) {α : Type} : Prog (TpuEff nD τ sig Val Λ .tc) α → List (HloOp τ sig Val)
  | .ret _ => []
  | .op (.hloBegin _ op) k => op :: opsOf V (k ⟨⟩)
  | .op (.hloEnd _ _) k => opsOf V (k fun b => V b.1)
  | .op _ _ => []

section read

variable {ops : List (HloOp τ sig Val)} {W : List (Ref sig .tc)}

/-- The operation at position `k` writes `r`, and nothing after it does: at the end `r` holds what the operation
    left, computed from the contents the operations before it left. -/
theorem after_at (V : Valuation τ sig Val) (hW : ops.map HloOp.writes = W.map fun r => {Proc.devRef (τ := τ) .tc r}) (k : Nat)
    {op : HloOp τ sig Val} (h : ops[k]? = some op) {r : Ref sig .tc} (hr : r ∉ W.drop (k + 1)) :
    after ops V (Proc.devRef .tc r) = op.result (after (ops.take k) V) (Proc.devRef .tc r) := by
  induction k generalizing ops W V with
  | zero =>
    cases ops with
    | nil => simp at h
    | cons o l =>
      cases W with
      | nil => simp at hW
      | cons w W =>
        simp only [List.length_cons, Nat.zero_lt_succ, List.getElem?_cons_zero, Option.some.injEq] at h
        subst h
        simp only [List.map_cons, List.cons.injEq] at hW
        exact after_of_writes_sub l _ (forall_writes_sub_of_map hW.2) (by simpa using hr)
  | succ k ih =>
    cases ops with
    | nil => simp at h
    | cons o l =>
      cases W with
      | nil => simp at hW
      | cons w W =>
        simp only [List.map_cons, List.cons.injEq] at hW
        simp only [List.getElem?_cons_succ] at h
        exact ih (o.result V) hW.2 h (by simpa using hr)

/-- A buffer no operation from position `k` on writes has its final contents already there. -/
theorem after_take (V : Valuation τ sig Val) (hW : ops.map HloOp.writes = W.map fun r => {Proc.devRef (τ := τ) .tc r}) (k : Nat)
    {r : Ref sig .tc} (hr : r ∉ W.drop k) :
    after (ops.take k) V (Proc.devRef .tc r) = after ops V (Proc.devRef .tc r) := by
  induction k generalizing ops W V with
  | zero => exact (after_of_writes_sub ops V (forall_writes_sub_of_map hW) (by simpa using hr)).symm
  | succ k ih =>
    cases ops with
    | nil => rfl
    | cons o l =>
      cases W with
      | nil => simp at hW
      | cons w W =>
        simp only [List.map_cons, List.cons.injEq] at hW
        exact ih (o.result V) hW.2 (by simpa using hr)

/-- The operations of the line write the buffers `W`, one each, in order, and these have the indices from `n` on. -/
structure Ssa (ops : List (HloOp τ sig Val)) (W : List (Ref sig .tc)) (n : Nat) : Prop where
  writes : ops.map HloOp.writes = W.map fun r => {Proc.devRef (τ := τ) .tc r}
  index : ∀ (i : Nat) (h : i < W.length), W[i].idx.val = n + i

variable {V : Valuation τ sig Val} {n : Nat} (L : Ssa ops W n) (k : Nat) {x a b c y : Ref sig .tc}

include L

/-- A buffer of smaller index than those the operations from position `k` on write. -/
theorem Ssa.notin {k : Nat} (h : x.idx.val < n + k) : x ∉ W.drop k := fun hx => by
  obtain ⟨i, hi, e⟩ := List.getElem_of_mem hx
  rw [List.getElem_drop] at e
  have hk : k + i < W.length := by rw [List.length_drop] at hi; omega
  have := L.index (k + i) hk
  rw [e] at this
  omega

theorem Ssa.nullary {v : y.ty.Contents Val} {hy} (h : ops[k]? = some (StableHlo.nullary y v hy))
    (hr : y.idx.val < n + (k + 1) := by decide) : after ops V (Proc.devRef .tc y) = v := by
  rw [after_at V L.writes k h (L.notin hr), StableHlo.nullary_result]

theorem Ssa.unary {f : x.ty.Contents Val → y.ty.Contents Val} {hx hy} (h : ops[k]? = some (StableHlo.unary x y f hx hy))
    (hr : y.idx.val < n + (k + 1) := by decide) (hx' : x.idx.val < n + k := by decide) :
    after ops V (Proc.devRef .tc y) = f (after ops V (Proc.devRef .tc x)) := by
  rw [after_at V L.writes k h (L.notin hr), StableHlo.unary_result, after_take V L.writes k (L.notin hx')]

theorem Ssa.binary {f : a.ty.Contents Val → b.ty.Contents Val → y.ty.Contents Val} {ha hb hy}
    (h : ops[k]? = some (StableHlo.binary a b y f ha hb hy)) (hr : y.idx.val < n + (k + 1) := by decide)
    (ha' : a.idx.val < n + k := by decide) (hb' : b.idx.val < n + k := by decide) :
    after ops V (Proc.devRef .tc y) = f (after ops V (Proc.devRef .tc a)) (after ops V (Proc.devRef .tc b)) := by
  rw [after_at V L.writes k h (L.notin hr), StableHlo.binary_result, after_take V L.writes k (L.notin ha'),
    after_take V L.writes k (L.notin hb')]

theorem Ssa.ternary {f : c.ty.Contents Val → a.ty.Contents Val → b.ty.Contents Val → y.ty.Contents Val} {hc ha hb hy}
    (h : ops[k]? = some (StableHlo.ternary c a b y f hc ha hb hy)) (hr : y.idx.val < n + (k + 1) := by decide)
    (hc' : c.idx.val < n + k := by decide) (ha' : a.idx.val < n + k := by decide) (hb' : b.idx.val < n + k := by decide) :
    after ops V (Proc.devRef .tc y)
      = f (after ops V (Proc.devRef .tc c)) (after ops V (Proc.devRef .tc a)) (after ops V (Proc.devRef .tc b)) := by
  rw [after_at V L.writes k h (L.notin hr), StableHlo.ternary_result, after_take V L.writes k (L.notin hc'),
    after_take V L.writes k (L.notin ha'), after_take V L.writes k (L.notin hb')]

theorem Ssa.reshape {he hn hx hy} (h : ops[k]? = some (StableHlo.reshape x y he hn hx hy))
    (hr : y.idx.val < n + (k + 1) := by decide) (hx' : x.idx.val < n + k := by decide) :
    after ops V (Proc.devRef .tc y) = fun i => he ▸ shapeCast y.ty.shape (after ops V (Proc.devRef .tc x)) hn i := by
  rw [after_at V L.writes k h (L.notin hr), StableHlo.reshape_result, after_take V L.writes k (L.notin hx')]

theorem Ssa.nary {N : Nat} {xs : Fin N → Ref sig .tc} {f : ((k : Fin N) → (xs k).ty.Contents Val) → y.ty.Contents Val} {hxs hy}
    (h : ops[k]? = some (StableHlo.nary xs y f hxs hy)) (hr : y.idx.val < n + (k + 1) := by decide)
    (hx' : ∀ j, (xs j).idx.val < n + k := by decide) :
    after ops V (Proc.devRef .tc y) = f fun j => after ops V (Proc.devRef .tc (xs j)) := by
  rw [after_at V L.writes k h (L.notin hr), StableHlo.nary_result]
  exact congrArg f (funext fun j => after_take V L.writes k (L.notin (hx' j)))

theorem Ssa.arg (hr : x.idx.val < n := by decide) : after ops V (Proc.devRef .tc x) = V (Proc.devRef .tc x) :=
  after_of_writes_sub ops V (forall_writes_sub_of_map L.writes) (by simpa using L.notin (k := 0) hr)

end read

/-- A program that is a line of host operations runs to the contents they leave. -/
theorem run (hR : (Finset.univ.filter fun b : Ref sig .tc => b.isScoped) = ∅)
    (hC : (Finset.univ.filter fun sm : SemLoc sig => sm.isScoped .tc) = ∅) (hall : tcRefs τ sig = Finset.univ)
    (defs : Defs nD τ sig Val Λ) (main : Dev nD → Prog (TpuEff nD τ sig Val Λ .tc) PUnit)
    (ops : Dev nD → List (HloOp τ sig Val)) (hmain : ∀ d, main d = seq (ops d)) {N : Nat}
    (hfresh : ∀ d, (ops d).map HloOp.fresh = (List.range N).map fun _ => ∅)
    (m : (ℓ : Loc nD τ sig) → Buf Val ℓ) (ρ : Dev nD → PrngReg) :
    θ_run defs (onTc (τ := τ) main) ⟨m, fun _ => 0, ρ⟩ fun r =>
      ∀ (d : Dev nD) (b : Ref sig .tc), r.2.mem ((d.tc : Thread nD τ).loc b) = after (ops d) (launchContents m d) (Proc.devRef .tc b) :=
  run_seq hR hC defs main ops hmain
    (fun d => List.forall_iff_forall_mem.mpr fun op _ => by rw [hall]; exact Finset.subset_univ _) m ρ
    fun d op hop => by
      have h := List.mem_map_of_mem (f := HloOp.fresh) hop
      rw [hfresh d] at h
      obtain ⟨_, _, e⟩ := List.mem_map.mp h
      exact e.symm

end Cert.Line

end
-- ==== Proof.RowsKernel.lean ====
/-
  The row-wise gradients of the kernel, over the reals.

  A block of 512 rows leaves its rows' gradients and its gates' gradients, and adds its sums to the block the previous
  rows left; after the eight blocks the arrays hold the functions of Proof/RowsPay.lean of every row.
-/
module
public import proofs.«01_k».proof.Proof.Windows
public import proofs.«01_k».proof.Proof.RowsPay
public import proofs.«01_k».proof.Proof.Line
@[expose] public section
set_option maxRecDepth 16384
noncomputable section
namespace Cert.RowsKernel
open Cert.RowsIdeal Cert.RowsIdeal.Gen Cert.RowsIdeal.Value Cert.LayerNorm Cert.RowsPay Cert.Windows
open Idealize.ShloMosaic hiding ix1 ix2 ix3
open Idealize.ShloMosaic.TcCoe Idealize.SL.Sem Idealize.ShloMosaic.ValueIdx

section Body

variable (c : Dev nD) (i : grid0.Coords)
  (a1 : Memref sig .tc .vmem S512x1024 .f32) (h1 : a1.IsWhole) (a2 : Memref sig .tc .vmem S512x1024 .f32) (h2 : a2.IsWhole)
  (a3 : Memref sig .tc .vmem S512x1024 .bf16) (h3 : a3.IsWhole) (a4 : Memref sig .tc .vmem S1x1024 .f32) (h4 : a4.IsWhole)
  (a5 : Memref sig .tc .vmem S1x1024 .f32) (h5 : a5.IsWhole) (a6 : Memref sig .tc .vmem S512x1024 .f32) (h6 : a6.IsWhole)
  (a7 : Memref sig .tc .vmem S512x1024 .bf16) (h7 : a7.IsWhole) (a8 : Memref sig .tc .vmem S8x1024 .f32) (h8 : a8.IsWhole)
  (x0 x1 : FVec Ideal S512x1024 .f32) (x2 : FVec Ideal S512x1024 .bf16) (x3 x4 : FVec Ideal S1x1024 .f32)
  (xo : FVec Ideal S8x1024 .f32)

/-- The block of sums with one block of rows added. -/
def sums : FVec Ideal S8x1024 .f32 := fun y =>
  if (y 0).val = 1 then shiftOut x0 x1 x2 x3 x4 (rowOf xo 1) (ix2 0 (y 1))
  else if (y 0).val = 0 then scaleOut x0 x1 x2 x3 x4 (rowOf xo 0) (ix2 0 (y 1))
  else xo y

theorem outB5 (hc) : out0_B_5 (F := Ideal) c i a1 h1 a2 h2 a3 h3 a4 h4 a5 h5 a6 h6 a7 h7 a8 h8 hc x0 x1 x2 x3 x4 xo = rowsOut x0 x1 x2 x3 x4 := by
  unfold out0_B_5
  rw [View.read_writes_eq_canon _ _ _ (fun _ => cover0_B_5 (F := Ideal) ..)]
  unfold kernelRun0_B
  dsimp only
  sl_unfold_words
  rw [View.canon_unit_zero hz]
  simp only [View.readAt_eq_ld, Memref.IsWhole.read_unread, ld_whole]

theorem outA5 (hc) : out0_A_5 (F := Ideal) c i a1 h1 a2 h2 a3 h3 a4 h4 a5 h5 a6 h6 a7 h7 a8 h8 hc x0 x1 x2 x3 x4 = rowsOut x0 x1 x2 x3 x4 := by
  unfold out0_A_5
  rw [View.read_writes_eq_canon _ _ _ (fun _ => cover0_A_5 (F := Ideal) ..)]
  unfold kernelRun0_A
  dsimp only
  sl_unfold_words
  rw [View.canon_unit_zero hz]
  simp only [View.readAt_eq_ld, Memref.IsWhole.read_unread, ld_whole]

theorem outB6 (hc) : out0_B_6 (F := Ideal) c i a1 h1 a2 h2 a3 h3 a4 h4 a5 h5 a6 h6 a7 h7 a8 h8 hc x0 x1 x2 x3 x4 xo = gateOut x0 x1 x2 x3 x4 := by
  unfold out0_B_6
  rw [View.read_writes_eq_canon _ _ _ (fun _ => cover0_B_6 (F := Ideal) ..)]
  unfold kernelRun0_B
  dsimp only
  sl_unfold_words
  rw [View.canon_unit_zero hz]
  simp only [View.readAt_eq_ld, Memref.IsWhole.read_unread, ld_whole]

theorem outA6 (hc) : out0_A_6 (F := Ideal) c i a1 h1 a2 h2 a3 h3 a4 h4 a5 h5 a6 h6 a7 h7 a8 h8 hc x0 x1 x2 x3 x4 = gateOut x0 x1 x2 x3 x4 := by
  unfold out0_A_6
  rw [View.read_writes_eq_canon _ _ _ (fun _ => cover0_A_6 (F := Ideal) ..)]
  unfold kernelRun0_A
  dsimp only
  sl_unfold_words
  rw [View.canon_unit_zero hz]
  simp only [View.readAt_eq_ld, Memref.IsWhole.read_unread, ld_whole]

theorem outB7 (hc) : out0_B_7 (F := Ideal) c i a1 h1 a2 h2 a3 h3 a4 h4 a5 h5 a6 h6 a7 h7 a8 h8 hc x0 x1 x2 x3 x4 xo
    = sums x0 x1 x2 x3 x4 xo := by
  unfold out0_B_7 kernelRun0_B
  dsimp only
  sl_unfold_words
  simp only [View.readAt_eq_ld, Memref.IsWhole.read_unread, ld_whole]
  simp only [row_stored, View.writes_nil, Memref.IsWhole.read_unread, ld_row]
  rfl

theorem outA7 (hc) : out0_A_7 (F := Ideal) c i a1 h1 a2 h2 a3 h3 a4 h4 a5 h5 a6 h6 a7 h7 a8 h8 hc x0 x1 x2 x3 x4
    = sums x0 x1 x2 x3 x4 k0_pay2 := by
  unfold out0_A_7 kernelRun0_A
  dsimp only
  sl_unfold_words
  simp only [View.readAt_eq_ld, Memref.IsWhole.read_unread, ld_whole]
  rw [View.readCov_skip _ _ _ _ _ (by decide), View.readCov_fill (s := S8x1024) _ _ _ _ _ (by decide),
    View.readCov_fill (s := S8x1024) _ _ _ _ _ (by decide)]
  simp only [row_stored, View.read_writes_full (s := S8x1024), ld_row]
  rfl

variable {d u g : Fin 512 → Fin 1024 → ℝ} {w b : Fin 1 → Fin 1024 → ℝ} {S : Fin 8 → Fin 1024 → ℝ}

/-- What one block of rows adds to the sums: the scale's gradient in row 0, the shift's in row 1. -/
def add (d u g : Fin 512 → Fin 1024 → ℝ) (w b : Fin 1024 → ℝ) (k : Fin 8) (q : Fin 1024) : ℝ :=
  if k.val = 1 then ∑ r, dln (d r) (g r) (u r) w b q
  else if k.val = 0 then ∑ r, dln (d r) (g r) (u r) w b q * xhat (u r) q else 0

variable {x0 x1 x2 x3 x4 xo} in
theorem sums_real (hS : Mat xo S) (hd : Mat x0 d) (hu : Mat x1 u) (hg : Mat x2 g) (hw : Mat x3 w) (hb : Mat x4 b) :
    Mat (sums x0 x1 x2 x3 x4 xo) fun k q => S k q + add d u g (w 0) (b 0) k q := fun y => by
  have hr (k : Fin 8) : Mat (rowOf xo k) fun _ q => S k q := fun z => hS (ix2 k (z 1))
  unfold sums add
  by_cases e1 : (y 0).val = 1
  · rw [if_pos e1]
    refine (pay15 (hr 1) hd hg hu hw hb (ix2 0 (y 1))).trans (congrArg _ ?_)
    have e : y 0 = (1 : Fin 8) := Fin.ext e1
    show S 1 (y 1) + _ = S (y 0) (y 1) + ite _ _ _
    rw [if_pos e1, e]
  rw [if_neg e1]
  by_cases e0 : (y 0).val = 0
  · rw [if_pos e0]
    refine (pay14 (hr 0) hd hg hu hw hb (ix2 0 (y 1))).trans (congrArg _ ?_)
    have e : y 0 = (0 : Fin 8) := Fin.ext e0
    show S 0 (y 1) + _ = S (y 0) (y 1) + ite _ _ (ite _ _ _)
    rw [if_neg e1, if_pos e0, e]
  rw [if_neg e0, hS y]
  show _ = ((S (y 0) (y 1) + ite _ _ (ite _ _ _) : ℝ) : EReal)
  rw [if_neg e1, if_neg e0, add_zero]

theorem zero_real : Mat (k0_pay2 (F := Ideal)) fun _ _ => 0 := Rep.splat (φ := .f32) word_zero

end Body

/-! ## The grid -/

section Grid

variable (m : (ℓ : Loc nD τ sig) → Buf (Elt Ideal) ℓ) (c : Dev nD)
  {D U G : Fin 4096 → Fin 1024 → ℝ} {w b : Fin 1 → Fin 1024 → ℝ}

/-- Row `r` of block `t`. -/
def at_ (t : Fin cfg0.N) (r : Fin 512) : Fin 4096 := ⟨512 * t.val + r.val, by have := t.isLt; have : cfg0.N = 8 := N_0; omega⟩

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 2 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = t.val ∧ win0_5.index t 1 = 0 := by decide +kernel
theorem index6 : ∀ t : Fin cfg0.N, win0_6.index t 0 = t.val ∧ win0_6.index t 1 = 0 := by decide +kernel
theorem index7 : ∀ t : Fin cfg0.N, win0_7.index t 0 = 0 ∧ win0_7.index t 1 = 0 := by decide +kernel

variable {m c}

theorem blk0 (h : Mat (V m c main_arg0) D) (t : Fin cfg0.N) :
    Mat (n := 512) (m := 1024) (iblk m c 0 t) fun r q => D (at_ t r) q := fun j => by
  unfold iblk
  rw [View.read_apply]
  show V m c main_arg0 _ = _
  rw [h]
  congr 2
  · congr 1
    exact Fin.ext (by show win0_0.index t 0 * 512 + 1 * (j 0).val = 512 * t.val + (j 0).val; rw [(index0 t).1]; omega)
  · exact Fin.ext (by show win0_0.index t 1 * 1024 + 1 * (j 1).val = (j 1).val; rw [(index0 t).2]; omega)

theorem blk1 (h : Mat (V m c main_arg1) U) (t : Fin cfg0.N) :
    Mat (n := 512) (m := 1024) (iblk m c 1 t) fun r q => U (at_ t r) q := fun j => by
  unfold iblk
  rw [View.read_apply]
  show V m c main_arg1 _ = _
  rw [h]
  congr 2
  · congr 1
    exact Fin.ext (by show win0_1.index t 0 * 512 + 1 * (j 0).val = 512 * t.val + (j 0).val; rw [(index1 t).1]; omega)
  · exact Fin.ext (by show win0_1.index t 1 * 1024 + 1 * (j 1).val = (j 1).val; rw [(index1 t).2]; omega)

/-- The gates are columns 2048 to 3072 of the packed projection. -/
theorem blk2 (h : ∀ r q, V m c main_v4 (ix2 r ⟨2048 + q.val, by omega⟩) = (G r q : EReal)) (t : Fin cfg0.N) :
    Mat (n := 512) (m := 1024) (iblk m c 2 t) fun r q => G (at_ t r) q := fun j => by
  unfold iblk
  rw [View.read_apply]
  refine Eq.trans ?_ (h (at_ t (j 0)) (j 1))
  show V m c main_v4 _ = _
  congr 1
  funext a
  apply Fin.ext
  match a with
  | ⟨0, _⟩ => show win0_2.index t 0 * 512 + 1 * (j 0).val = 512 * t.val + (j 0).val; rw [(index2 t).1]; omega
  | ⟨1, _⟩ => show win0_2.index t 1 * 1024 + 1 * (j 1).val = 2048 + (j 1).val; rw [(index2 t).2]; omega

theorem blk3 (h : Mat (V m c main_arg3) w) (t : Fin cfg0.N) : Mat (n := 1) (m := 1024) (iblk m c 3 t) w := fun j => by
  unfold iblk
  rw [View.read_apply]
  show V m c main_arg3 _ = _
  rw [h]
  congr 2
  · exact Fin.ext (by show win0_3.index t 0 * 1 + 1 * (j 0).val = (j 0).val; rw [(index3 t).1]; omega)
  · exact Fin.ext (by show win0_3.index t 1 * 1024 + 1 * (j 1).val = (j 1).val; rw [(index3 t).2]; omega)

theorem blk4 (h : Mat (V m c main_arg4) b) (t : Fin cfg0.N) : Mat (n := 1) (m := 1024) (iblk m c 4 t) b := fun j => by
  unfold iblk
  rw [View.read_apply]
  show V m c main_arg4 _ = _
  rw [h]
  congr 2
  · exact Fin.ext (by show win0_4.index t 0 * 1 + 1 * (j 0).val = (j 0).val; rw [(index4 t).1]; omega)
  · exact Fin.ext (by show win0_4.index t 1 * 1024 + 1 * (j 1).val = (j 1).val; rw [(index4 t).2]; omega)

/-- What the region's arrays hold when it is entered. -/
structure Entry (D U G : Fin 4096 → Fin 1024 → ℝ) (w b : Fin 1 → Fin 1024 → ℝ) : Prop where
  dya : Mat (V m c main_arg0) D
  row : Mat (V m c main_arg1) U
  gate : ∀ r q, V m c main_v4 (ix2 r ⟨2048 + q.val, by omega⟩) = (G r q : EReal)
  scale : Mat (V m c main_arg3) w
  shift : Mat (V m c main_arg4) b

theorem outs_first (m : (ℓ : Loc nD τ sig) → Buf (Elt Ideal) ℓ) (c : Dev nD) (t : Fin cfg0.N) (h : t.val % 8 = 0) : outsAt0 m c t.val t.isLt =
    (rowsOut (iblk m c 0 t) (iblk m c 1 t) (iblk m c 2 t) (iblk m c 3 t) (iblk m c 4 t),
     gateOut (iblk m c 0 t) (iblk m c 1 t) (iblk m c 2 t) (iblk m c 3 t) (iblk m c 4 t),
     sums (iblk m c 0 t) (iblk m c 1 t) (iblk m c 2 t) (iblk m c 3 t) (iblk m c 4 t) k0_pay2) :=
  (outsAt0_A m c t h).trans (by rw [outA5, outA6, outA7])

theorem outs_later (m : (ℓ : Loc nD τ sig) → Buf (Elt Ideal) ℓ) (c : Dev nD) (t : Fin cfg0.N) (h : ¬t.val % 8 = 0) : outsAt0 m c t.val t.isLt =
    (rowsOut (iblk m c 0 t) (iblk m c 1 t) (iblk m c 2 t) (iblk m c 3 t) (iblk m c 4 t),
     gateOut (iblk m c 0 t) (iblk m c 1 t) (iblk m c 2 t) (iblk m c 3 t) (iblk m c 4 t),
     sums (iblk m c 0 t) (iblk m c 1 t) (iblk m c 2 t) (iblk m c 3 t) (iblk m c 4 t)
       (outsAt0 m c (t.val - 1) (lt_of_le_of_lt (Nat.sub_le ..) t.isLt)).2.2) :=
  (outsAt0_B m c t h).trans (by rw [outB5, outB6, outB7])

theorem outs5 (e : Entry (m := m) (c := c) D U G w b) (t : Fin cfg0.N) : Mat (n := 512) (m := 1024) (outsAt0 m c t.val t.isLt).1
    fun r q => drow (D (at_ t r)) (G (at_ t r)) (U (at_ t r)) (w 0) (b 0) q := by
  by_cases h : t.val % 8 = 0
  · rw [outs_first m c t h]
    exact pay1 (blk0 e.dya t) (blk2 e.gate t) (blk1 e.row t) (blk3 e.scale t) (blk4 e.shift t)
  · rw [outs_later m c t h]
    exact pay1 (blk0 e.dya t) (blk2 e.gate t) (blk1 e.row t) (blk3 e.scale t) (blk4 e.shift t)

theorem outs6 (e : Entry (m := m) (c := c) D U G w b) (t : Fin cfg0.N) : Mat (n := 512) (m := 1024) (outsAt0 m c t.val t.isLt).2.1
    fun r q => dgate (D (at_ t r)) (G (at_ t r)) (U (at_ t r)) (w 0) (b 0) q := by
  by_cases h : t.val % 8 = 0
  · rw [outs_first m c t h]
    exact pay12 (blk0 e.dya t) (blk2 e.gate t) (blk1 e.row t) (blk3 e.scale t) (blk4 e.shift t)
  · rw [outs_later m c t h]
    exact pay12 (blk0 e.dya t) (blk2 e.gate t) (blk1 e.row t) (blk3 e.scale t) (blk4 e.shift t)

/-- What block `t` adds to the sums. -/
def addAt (D U G : Fin 4096 → Fin 1024 → ℝ) (w b : Fin 1 → Fin 1024 → ℝ) (t : Fin cfg0.N) (k : Fin 8) (q : Fin 1024) : ℝ :=
  add (fun r => D (at_ t r)) (fun r => U (at_ t r)) (fun r => G (at_ t r)) (w 0) (b 0) k q

theorem outs7 (e : Entry (m := m) (c := c) D U G w b) : ∀ (n : Nat) (h : n < cfg0.N),
    Mat (n := 8) (m := 1024) (outsAt0 m c n h).2.2 fun k q => ∑ t, if t.val ≤ n then addAt D U G w b t k q else 0
  | 0, h => by
    rw [show outsAt0 m c 0 h = _ from outs_first m c ⟨0, h⟩ rfl]
    exact Rep.cast (sums_real zero_real (blk0 e.dya _) (blk1 e.row _) (blk2 e.gate _) (blk3 e.scale _) (blk4 e.shift _))
      fun i => (sum_upto_zero (fun t => addAt D U G w b t (i 0) (i 1)) h).symm
  | n + 1, h => by
    have hN : cfg0.N = 8 := N_0
    rw [show outsAt0 m c (n + 1) h = _ from outs_later m c ⟨n + 1, h⟩ (by dsimp only; omega)]
    exact Rep.cast (sums_real (outs7 e n (by omega)) (blk0 e.dya _) (blk1 e.row _) (blk2 e.gate _) (blk3 e.scale _) (blk4 e.shift _))
      fun i => (sum_upto_succ (fun t => addAt D U G w b t (i 0) (i 1)) h).symm

theorem result5 (e : Entry (m := m) (c := c) D U G w b) : Mat (n := 4096) (m := 1024) ((dats m 0 c).arrAt 5 cfg0.N)
    fun r q => drow (D r) (G r) (U r) (w 0) (b 0) q := fun i => by
  have hi : (i 0).val < 4096 := (i 0).isLt
  have hN : cfg0.N = 8 := N_0
  let t : Fin cfg0.N := ⟨(i 0).val / 512, by omega⟩
  let j : S512x1024.Idx := ix2 ⟨(i 0).val % 512, Nat.mod_lt _ (by norm_num)⟩ (i 1)
  have h := (congrFun ((blocks5 m c t (flush0_5 t)).trans (flushed5 m c t)) j).trans (outs5 e t j)
  rw [View.read_apply] at h
  have hr : at_ t (j 0) = i 0 := Fin.ext (Nat.div_add_mod _ _)
  have hj : ((cfg0.win 5).blk t).view.emb j = i := funext fun a => Fin.ext <| match a with
    | ⟨0, _⟩ => by
      show win0_5.index t 0 * 512 + 1 * ((i 0).val % 512) = (i 0).val
      rw [(index5 t).1]; show (i 0).val / 512 * 512 + _ = _; omega
    | ⟨1, _⟩ => by show win0_5.index t 1 * 1024 + 1 * (i 1).val = (i 1).val; rw [(index5 t).2]; omega
  refine (congrArg _ hj).symm.trans (h.trans (congrArg _ ?_))
  show drow (D (at_ t (j 0))) (G (at_ t (j 0))) (U (at_ t (j 0))) (w 0) (b 0) (i 1) = drow (D (i 0)) (G (i 0)) (U (i 0)) (w 0) (b 0) (i 1)
  rw [hr]

theorem result6 (e : Entry (m := m) (c := c) D U G w b) : Mat (n := 4096) (m := 1024) ((dats m 0 c).arrAt 6 cfg0.N)
    fun r q => dgate (D r) (G r) (U r) (w 0) (b 0) q := fun i => by
  have hi : (i 0).val < 4096 := (i 0).isLt
  have hN : cfg0.N = 8 := N_0
  let t : Fin cfg0.N := ⟨(i 0).val / 512, by omega⟩
  let j : S512x1024.Idx := ix2 ⟨(i 0).val % 512, Nat.mod_lt _ (by norm_num)⟩ (i 1)
  have h := (congrFun ((blocks6 m c t (flush0_6 t)).trans (flushed6 m c t)) j).trans (outs6 e t j)
  rw [View.read_apply] at h
  have hr : at_ t (j 0) = i 0 := Fin.ext (Nat.div_add_mod _ _)
  have hj : ((cfg0.win 6).blk t).view.emb j = i := funext fun a => Fin.ext <| match a with
    | ⟨0, _⟩ => by
      show win0_6.index t 0 * 512 + 1 * ((i 0).val % 512) = (i 0).val
      rw [(index6 t).1]; show (i 0).val / 512 * 512 + _ = _; omega
    | ⟨1, _⟩ => by show win0_6.index t 1 * 1024 + 1 * (i 1).val = (i 1).val; rw [(index6 t).2]; omega
  refine (congrArg _ hj).symm.trans (h.trans (congrArg _ ?_))
  show dgate (D (at_ t (j 0))) (G (at_ t (j 0))) (U (at_ t (j 0))) (w 0) (b 0) (i 1) = dgate (D (i 0)) (G (i 0)) (U (i 0)) (w 0) (b 0) (i 1)
  rw [hr]

theorem disjoint7 (t t' : Fin cfg0.N) (h : (cfg0.win 7).flush t = true) (h' : (cfg0.win 7).flush t' = true) (hne : t ≠ t') :
    Disjoint ((cfg0.win 7).blk t).view.set ((cfg0.win 7).blk t').view.set := by
  have := (flush0_7 t).mp h
  have := (flush0_7 t').mp h'
  have hN : cfg0.N = 8 := N_0
  exact absurd (Fin.ext (by omega)) hne

/-- The sums over all the rows. -/
def total (D U G : Fin 4096 → Fin 1024 → ℝ) (w b : Fin 1024 → ℝ) (k : Fin 8) (q : Fin 1024) : ℝ :=
  if k.val = 1 then ∑ r, dln (D r) (G r) (U r) w b q
  else if k.val = 0 then ∑ r, dln (D r) (G r) (U r) w b q * xhat (U r) q else 0

theorem sum_add (k : Fin 8) (q : Fin 1024) : (∑ t, if t.val ≤ 7 then addAt D U G w b t k q else 0) = total D U G (w 0) (b 0) k q := by
  have hN : cfg0.N = 8 := N_0
  rw [Finset.sum_congr rfl fun t _ => if_pos (show t.val ≤ 7 by have := t.isLt; omega)]
  unfold addAt add total
  split_ifs
  · exact sum_blocks (by rw [hN]) (fun r => dln (D r) (G r) (U r) (w 0) (b 0) q) at_ fun t r => rfl
  · exact sum_blocks (by rw [hN]) (fun r => dln (D r) (G r) (U r) (w 0) (b 0) q * xhat (U r) q) at_ fun t r => rfl
  · exact Finset.sum_const_zero

theorem result7 (e : Entry (m := m) (c := c) D U G w b) : Mat (n := 8) (m := 1024) ((dats m 0 c).arrAt 7 cfg0.N)
    fun k q => total D U G (w 0) (b 0) k q := fun i => by
  have hN : cfg0.N = 8 := N_0
  let t : Fin cfg0.N := ⟨7, by omega⟩
  have h := (congrFun (((dats m 0 c).read_blk_arrAt_eq_flushed 7 disjoint7 cfg0.N t t.isLt ((flush0_7 t).mpr rfl)).trans (flushed7 m c t))
    i).trans ((outs7 e 7 t.isLt i).trans (congrArg _ (sum_add (i 0) (i 1))))
  rw [View.read_apply] at h
  have hj : ((cfg0.win 7).blk t).view.emb i = i := funext fun a => Fin.ext <| match a with
    | ⟨0, _⟩ => by show win0_7.index t 0 * 8 + 1 * (i 0).val = (i 0).val; rw [(index7 t).1]; omega
    | ⟨1, _⟩ => by show win0_7.index t 1 * 1024 + 1 * (i 1).val = (i 1).val; rw [(index7 t).2]; omega
  exact (congrArg _ hj).symm.trans h

/-- The packed projection has the projection's columns 2048 to 3072 where they were. -/
theorem packed (h : ∀ r q, m ((c : Thread nD τ).loc main_arg2) (ix2 r ⟨2048 + q.val, by omega⟩) = (G r q : EReal)) (r : Fin 4096)
    (q : Fin 1024) : V m c main_v4 (ix2 r ⟨2048 + q.val, by omega⟩) = (G r q : EReal) := by
  let W : List (Ref sig .tc) := [main_v0, main_cst, main_v1, main_v2, main_v3, main_v4]
  have L : Line.Ssa (hostOps0 (F := Ideal)) W 5 := ⟨rfl, by decide⟩
  let V₀ : Valuation τ sig (Elt Ideal) := fun b => m (c, b)
  let xs : List ((s : Shape) × (s.Idx → EReal)) :=
    [⟨S4096x3648, V m c main_v0⟩, ⟨S4096x448, V m c main_v1⟩, ⟨S4096x3072, V m c main_v2⟩]
  refine (congrFun (L.unary (V := V₀) 5 rfl) _).trans ((congrFun (L.nary (V := V₀) 4 rfl) _).trans ?_)
  let j : S4096x7168.Idx := ix2 r ⟨2048 + q.val, by omega⟩
  let hc : Shape.Concatenates (xs.map (·.1)) S4096x7168 1 := concatenates_S4096x3648_S4096x448_S4096x3072_S4096x7168_d1
  refine (concatenate_apply_piece (1 : Fin 2) xs hc j 0 (show 0 < 3 by decide) S4096x3648 (V m c main_v0) rfl rfl 0 rfl
    (ix2 r ⟨2048 + q.val, by omega⟩) (fun b hb => match b with | ⟨0, _⟩ => rfl | ⟨1, _⟩ => absurd rfl hb) (Nat.zero_add _)).trans ?_
  refine (congrFun (L.unary (V := V₀) 0 rfl) _).trans ?_
  refine (extractStridedSlice_apply _ _ _ _ (ix2 r ⟨2048 + q.val, by omega⟩) fun a => ?_).trans ((congrFun (L.arg (V := V₀)) _).trans (h r q))
  match a with
  | ⟨0, _⟩ => exact (Nat.zero_add _).symm
  | ⟨1, _⟩ => exact (Nat.zero_add _).symm

end Grid

end Cert.RowsKernel
end
-- ==== Proof.RowsRef.lean ====
/-
  The row-wise gradients' reference, read over the reals: what each buffer of its line of operations holds, as a
  function of the real numbers that the arguments are.
-/
module

public import proofs.«01_k».proof.Proof.Line
public import proofs.«01_k».proof.Proof.LayerNorm
public import proofs.«01_k».proof.Proof.Gen.RowsRefIdeal

@[expose] public section

set_option maxRecDepth 16384

noncomputable section

namespace Cert.RowsRef

open Cert.RowsRefIdeal Cert.RowsRefIdeal.Gen Cert.LayerNorm
open Idealize.ShloMosaic Idealize.ShloMosaic.TcCoe Idealize.SL.Sem Idealize.ShloMosaic.StableHlo

variable (m : (ℓ : Loc nD τ sig) → Buf (Elt Ideal) ℓ) (d : Dev nD)

abbrev V : Valuation τ sig (Elt Ideal) := launchContents m d
abbrev ops : List (HloOp τ sig (Elt Ideal)) := Line.opsOf (V m d) (main (F := Ideal) d)
/-- The buffers the operations write, one each, in order. -/
abbrev W : List (Ref sig .tc) := (List.finRange 108).map fun k => ⟨.hbm, k.natAdd 5, rfl⟩
theorem main_eq : main (F := Ideal) d = seq (ops m d) := rfl
theorem line : Line.Ssa (ops m d) W 5 := ⟨rfl, by decide +kernel⟩
abbrev B (r : Ref sig .tc) : r.ty.Contents (Elt Ideal) := after (ops m d) (V m d) (Proc.devRef .tc r)

variable {m d}
variable {dy u g : Fin 4096 → Fin 1024 → ℝ} {w b : Fin 1 → Fin 1024 → ℝ}

set_option maxHeartbeats 4000000 in
theorem results (hd : Mat (B m d main_arg0) dy) (hu : Mat (B m d main_arg1) u) (hg : Mat (B m d main_v0) g)
    (hw : Mat (B m d main_arg3) w) (hb : Mat (B m d main_arg4) b) :
    Mat (B m d main_v59) (fun r => backDiff (u r) fun c => siluDiff (out (u r) (w 0) (b 0) c) (dy r c * silu (g r c)) * w 0 c)
    ∧ Mat (B m d main_v60) (fun r c => siluDiff (g r c) (silu (out (u r) (w 0) (b 0) c) * dy r c))
    ∧ Mat (B m d main_v35) (fun _ c => ∑ r, xhat (u r) c * siluDiff (out (u r) (w 0) (b 0) c) (dy r c * silu (g r c)))
    ∧ Mat (B m d main_v32) (fun _ c => ∑ r, siluDiff (out (u r) (w 0) (b 0) c) (dy r c * silu (g r c))) := by
  have L := line m d
  have v6 : Mat (B m d main_v6) (fun r => cen (u r)) :=
    Rep.cast (.of_eq (L.binary 8 rfl) <| .sub hu (.of_eq (L.unary 7 rfl) <| Mat.host_repeat_col (.of_eq (L.binary 6 rfl) <|
      .host_div (.of_eq (L.unary 3 rfl) <| Row.host_col (.of_eq (L.binary 2 rfl) <| Mat.host_sum_rows hu (.of_eq (L.nullary 1 rfl)
      <| .const word_zero) _ _) _) (.of_eq (L.unary 5 rfl) <| .host_splat (.of_eq (L.nullary 4 rfl) <| .const word_1024) _ _) fun
      _ => by norm_num) _)) fun _ => rfl
  have v13 : Mat (B m d main_v13) (fun r _ => var (u r)) :=
    Rep.cast (.of_eq (L.binary 18 rfl) <| .add (.of_eq (L.binary 15 rfl) <| .host_div (.of_eq (L.unary 12 rfl) <| Row.host_col
      (.of_eq (L.binary 11 rfl) <| Mat.host_sum_rows (.of_eq (L.binary 9 rfl) <| .mul v6 v6) (.of_eq (L.nullary 10 rfl) <| .const
      word_zero) _ _) _) (.of_eq (L.unary 14 rfl) <| .host_splat (.of_eq (L.nullary 13 rfl) <| .const word_1024) _ _) fun _ => by
      norm_num) (.of_eq (L.unary 17 rfl) <| .host_splat (.of_eq (L.nullary 16 rfl) <| .const word_eps) _ _)) fun _ => rfl
  have v14 : Mat (B m d main_v14) (fun r _ => rstd (u r)) :=
    Rep.cast (.of_eq (L.unary 19 rfl) <| .host_rsqrt v13 fun _ => var_pos _) fun _ => rfl
  have v17 : Mat (B m d main_v17) (fun r _ => -1 / 2 * (rstd (u r) / var (u r))) :=
    Rep.cast (.of_eq (L.binary 23 rfl) <| .mul (.of_eq (L.unary 22 rfl) <| .host_splat (.of_eq (L.nullary 21 rfl) <| .const
      word_neg_half) _ _) (.of_eq (L.binary 20 rfl) <| .host_div v14 v13 fun _ => (var_pos _).ne')) fun _ => rfl
  have v19 : Mat (B m d main_v19) (fun r => xhat (u r)) :=
    Rep.cast (.of_eq (L.binary 25 rfl) <| .mul v6 (.of_eq (L.unary 24 rfl) <| Mat.host_repeat_col v14 _)) fun _ => rfl
  have v23 : Mat (B m d main_v23) (fun r => out (u r) (w 0) (b 0)) :=
    Rep.cast (.of_eq (L.binary 29 rfl) <| .add (.of_eq (L.binary 27 rfl) <| .mul v19 (.of_eq (L.unary 26 rfl) <|
      Mat.host_repeat_row hw _)) (.of_eq (L.unary 28 rfl) <| Mat.host_repeat_row hb _)) fun _ => rfl
  have v24_2 : Mat (B m d main_v24_2) (fun r c => sgm (out (u r) (w 0) (b 0) c)) :=
    Rep.cast (.of_eq (show B m d main_v24_2 = Host.divf (F := Ideal) (φ := .f32) (B m d main_call0_v4) (B m d main_call0_v3) from
      L.binary 37 rfl) <| .host_div (.of_eq (show B m d main_call0_v4 = broadcastInDim S4096x1024 ![] bcast_S_S4096x1024 (B m d
      main_call0_cst_0) from L.unary 36 rfl) <| .host_splat (.of_eq (show B m d main_call0_cst_0 = constant (F := Ideal) S_ .f32
      0x3F800000#32 from L.nullary 35 rfl) <| .const word_one) _ bcast_S_S4096x1024) (.of_eq (show B m d main_call0_v3 = addf (F
      := Ideal) (φ := .f32) (B m d main_call0_v2) (B m d main_call0_v1) from L.binary 34 rfl) <| .add (.of_eq (show B m d
      main_call0_v2 = broadcastInDim S4096x1024 ![] bcast_S_S4096x1024 (B m d main_call0_cst) from L.unary 33 rfl) <| .host_splat
      (.of_eq (show B m d main_call0_cst = constant (F := Ideal) S_ .f32 0x3F800000#32 from L.nullary 32 rfl) <| .const word_one)
      _ bcast_S_S4096x1024) (.of_eq (show B m d main_call0_v1 = Host.exp (F := Ideal) (φ := .f32) (B m d main_call0_v0) from
      L.unary 31 rfl) <| .host_exp (.of_eq (show B m d main_call0_v0 = Host.negf (F := Ideal) (φ := .f32) (B m d main_v23) from
      L.unary 30 rfl) <| .host_neg v23))) fun _ => one_add_exp_ne _) fun i => one_div_sgm _
  have v24_1 : Mat (B m d main_v24_1) (fun r c => sgm (out (u r) (w 0) (b 0) c) * (1 - sgm (out (u r) (w 0) (b 0) c))) :=
    Rep.cast (.of_eq (show B m d main_v24_1 = mulf (F := Ideal) (φ := .f32) (B m d main_v24_2) (B m d main_call0_v7) from L.binary
      41 rfl) <| .mul v24_2 (.of_eq (show B m d main_call0_v7 = subf (F := Ideal) (φ := .f32) (B m d main_call0_v6) (B m d
      main_v24_2) from L.binary 40 rfl) <| .sub (.of_eq (show B m d main_call0_v6 = broadcastInDim S4096x1024 ![]
      bcast_S_S4096x1024 (B m d main_call0_cst_1) from L.unary 39 rfl) <| .host_splat (.of_eq (show B m d main_call0_cst_1 =
      constant (F := Ideal) S_ .f32 0x3F800000#32 from L.nullary 38 rfl) <| .const word_one) _ bcast_S_S4096x1024) v24_2)) fun _
      => rfl
  have v24_0 : Mat (B m d main_v24_0) (fun r c => silu (out (u r) (w 0) (b 0) c)) :=
    Rep.cast (.of_eq (show B m d main_v24_0 = mulf (F := Ideal) (φ := .f32) (B m d main_v23) (B m d main_v24_2) from L.binary 42
      rfl) <| .mul v23 v24_2) fun _ => rfl
  have v25_2 : Mat (B m d main_v25_2) (fun r c => sgm (g r c)) :=
    Rep.cast (.of_eq (show B m d main_v25_2 = Host.divf (F := Ideal) (φ := .f32) (B m d main_call1_v4) (B m d main_call1_v3) from
      L.binary 50 rfl) <| .host_div (.of_eq (show B m d main_call1_v4 = broadcastInDim S4096x1024 ![] bcast_S_S4096x1024 (B m d
      main_call1_cst_0) from L.unary 49 rfl) <| .host_splat (.of_eq (show B m d main_call1_cst_0 = constant (F := Ideal) S_ .f32
      0x3F800000#32 from L.nullary 48 rfl) <| .const word_one) _ bcast_S_S4096x1024) (.of_eq (show B m d main_call1_v3 = addf (F
      := Ideal) (φ := .f32) (B m d main_call1_v2) (B m d main_call1_v1) from L.binary 47 rfl) <| .add (.of_eq (show B m d
      main_call1_v2 = broadcastInDim S4096x1024 ![] bcast_S_S4096x1024 (B m d main_call1_cst) from L.unary 46 rfl) <| .host_splat
      (.of_eq (show B m d main_call1_cst = constant (F := Ideal) S_ .f32 0x3F800000#32 from L.nullary 45 rfl) <| .const word_one)
      _ bcast_S_S4096x1024) (.of_eq (show B m d main_call1_v1 = Host.exp (F := Ideal) (φ := .f32) (B m d main_call1_v0) from
      L.unary 44 rfl) <| .host_exp (.of_eq (show B m d main_call1_v0 = Host.negf (F := Ideal) (φ := .f32) (B m d main_v0) from
      L.unary 43 rfl) <| .host_neg hg))) fun _ => one_add_exp_ne _) fun i => one_div_sgm _
  have v25_1 : Mat (B m d main_v25_1) (fun r c => sgm (g r c) * (1 - sgm (g r c))) :=
    Rep.cast (.of_eq (show B m d main_v25_1 = mulf (F := Ideal) (φ := .f32) (B m d main_v25_2) (B m d main_call1_v7) from L.binary
      54 rfl) <| .mul v25_2 (.of_eq (show B m d main_call1_v7 = subf (F := Ideal) (φ := .f32) (B m d main_call1_v6) (B m d
      main_v25_2) from L.binary 53 rfl) <| .sub (.of_eq (show B m d main_call1_v6 = broadcastInDim S4096x1024 ![]
      bcast_S_S4096x1024 (B m d main_call1_cst_1) from L.unary 52 rfl) <| .host_splat (.of_eq (show B m d main_call1_cst_1 =
      constant (F := Ideal) S_ .f32 0x3F800000#32 from L.nullary 51 rfl) <| .const word_one) _ bcast_S_S4096x1024) v25_2)) fun _
      => rfl
  have v25_0 : Mat (B m d main_v25_0) (fun r c => silu (g r c)) :=
    Rep.cast (.of_eq (show B m d main_v25_0 = mulf (F := Ideal) (φ := .f32) (B m d main_v0) (B m d main_v25_2) from L.binary 55
      rfl) <| .mul hg v25_2) fun _ => rfl
  have v27 : Mat (B m d main_v27) (fun r c => silu (out (u r) (w 0) (b 0) c) * dy r c) :=
    Rep.cast (.of_eq (L.binary 57 rfl) <| .mul v24_0 hd) fun _ => rfl
  have v28 : Mat (B m d main_v28) (fun r c => dy r c * silu (g r c)) :=
    Rep.cast (.of_eq (L.binary 58 rfl) <| .mul hd v25_0) fun _ => rfl
  have v60 : Mat (B m d main_v60) (fun r c => siluDiff (g r c) (silu (out (u r) (w 0) (b 0) c) * dy r c)) :=
    Rep.cast (.of_eq (L.unary 104 rfl) <| .trunc bitsLt_bf16_f32 (.of_eq (show B m d main_v29 = addf (F := Ideal) (φ := .f32) (B m
      d main_call2_v1) (B m d main_call2_v2) from L.binary 62 rfl) <| .add (.of_eq (show B m d main_call2_v1 = mulf (F := Ideal)
      (φ := .f32) (B m d main_v27) (B m d main_v25_2) from L.binary 60 rfl) <| .mul v27 v25_2) (.of_eq (show B m d main_call2_v2 =
      mulf (F := Ideal) (φ := .f32) (B m d main_call2_v0) (B m d main_v25_1) from L.binary 61 rfl) <| .mul (.of_eq (show B m d
      main_call2_v0 = mulf (F := Ideal) (φ := .f32) (B m d main_v0) (B m d main_v27) from L.binary 59 rfl) <| .mul hg v27)
      v25_1))) fun _ => rfl
  have v30 : Mat (B m d main_v30) (fun r c => siluDiff (out (u r) (w 0) (b 0) c) (dy r c * silu (g r c))) :=
    Rep.cast (.of_eq (show B m d main_v30 = addf (F := Ideal) (φ := .f32) (B m d main_call3_v1) (B m d main_call3_v2) from
      L.binary 66 rfl) <| .add (.of_eq (show B m d main_call3_v1 = mulf (F := Ideal) (φ := .f32) (B m d main_v28) (B m d
      main_v24_2) from L.binary 64 rfl) <| .mul v28 v24_2) (.of_eq (show B m d main_call3_v2 = mulf (F := Ideal) (φ := .f32) (B m
      d main_call3_v0) (B m d main_v24_1) from L.binary 65 rfl) <| .mul (.of_eq (show B m d main_call3_v0 = mulf (F := Ideal) (φ
      := .f32) (B m d main_v23) (B m d main_v28) from L.binary 63 rfl) <| .mul v23 v28) v24_1)) fun _ => rfl
  have v32 : Mat (B m d main_v32) (fun _ c => ∑ r, siluDiff (out (u r) (w 0) (b 0) c) (dy r c * silu (g r c))) :=
    Rep.cast (.of_eq (L.reshape 69 rfl) <| Row.row (.of_eq (L.binary 68 rfl) <| Mat.host_sum_cols v30 (.of_eq (L.nullary 67 rfl)
      <| .const word_zero) _ _) _) fun _ => rfl
  have v35 : Mat (B m d main_v35) (fun _ c => ∑ r, xhat (u r) c * siluDiff (out (u r) (w 0) (b 0) c) (dy r c * silu (g r c))) :=
    Rep.cast (.of_eq (L.reshape 73 rfl) <| Row.row (.of_eq (L.binary 72 rfl) <| Mat.host_sum_cols (.of_eq (L.binary 70 rfl) <|
      .mul v19 v30) (.of_eq (L.nullary 71 rfl) <| .const word_zero) _ _) _) fun _ => rfl
  have v37 : Mat (B m d main_v37) (fun r c => siluDiff (out (u r) (w 0) (b 0) c) (dy r c * silu (g r c)) * w 0 c) :=
    Rep.cast (.of_eq (L.binary 75 rfl) <| .mul v30 (.of_eq (L.unary 74 rfl) <| Mat.host_repeat_row hw _)) fun _ => rfl
  have v47 : Mat (B m d main_v47) (fun r _ => coef (u r) fun c => siluDiff (out (u r) (w 0) (b 0) c) (dy r c * silu (g r c)) * w 0 c) :=
    Rep.cast (.of_eq (L.unary 88 rfl) <| Row.host_col (.of_eq (L.binary 87 rfl) <| Mat.host_sum_unit (.of_eq (L.binary 85 rfl) <|
      .host_div (.of_eq (L.binary 82 rfl) <| .mul (.of_eq (L.reshape 79 rfl) <| Row.col (.of_eq (L.binary 78 rfl) <|
      Mat.host_sum_rows (.of_eq (L.binary 76 rfl) <| .mul v6 v37) (.of_eq (L.nullary 77 rfl) <| .const word_zero) _ _) _) v17)
      (.of_eq (L.unary 84 rfl) <| .host_splat (.of_eq (L.nullary 83 rfl) <| .const word_1024) _ _) fun _ => by norm_num) (.of_eq
      (L.nullary 86 rfl) <| .const word_zero) _ _) _) fun _ => rfl
  have v51 : Mat (B m d main_v51) (fun r => through (u r) fun c => siluDiff (out (u r) (w 0) (b 0) c) (dy r c * silu (g r c)) * w 0 c) :=
    Rep.cast (.of_eq (L.binary 92 rfl) <| .add (.of_eq (L.binary 90 rfl) <| .add (.of_eq (L.binary 81 rfl) <| .mul v37 (.of_eq
      (L.unary 80 rfl) <| Mat.host_repeat_col v14 _)) (.of_eq (L.binary 89 rfl) <| .mul v6 v47)) (.of_eq (L.binary 91 rfl) <| .mul
      v47 v6)) fun _ => rfl
  have v59 : Mat (B m d main_v59) (fun r => backDiff (u r) fun c => siluDiff (out (u r) (w 0) (b 0) c) (dy r c * silu (g r c)) * w 0 c) :=
    Rep.cast (.of_eq (L.binary 103 rfl) <| .add v51 (.of_eq (L.unary 102 rfl) <| Row.host_col (.of_eq (L.binary 101 rfl) <|
      Mat.host_sum_unit (.of_eq (L.binary 99 rfl) <| .host_div (.of_eq (L.reshape 96 rfl) <| Row.col (.of_eq (L.binary 95 rfl) <|
      Mat.host_sum_rows (.of_eq (L.unary 93 rfl) <| .host_neg v51) (.of_eq (L.nullary 94 rfl) <| .const word_zero) _ _) _) (.of_eq
      (L.unary 98 rfl) <| .host_splat (.of_eq (L.nullary 97 rfl) <| .const word_1024) _ _) fun _ => by norm_num) (.of_eq
      (L.nullary 100 rfl) <| .const word_zero) _ _) _)) fun _ => rfl
  exact ⟨v59, v60, v35, v32⟩

end Cert.RowsRef

end
-- ==== Proof.RowsRun.lean ====
/-
  The reference of the row-wise gradients, run.
-/
module

public import proofs.«01_k».proof.Proof.RowsRef

@[expose] public section

set_option maxRecDepth 16384

noncomputable section

namespace Cert.RowsRef

open Cert.RowsRefIdeal Cert.RowsRefIdeal.Gen Cert.LayerNorm
open Idealize.ShloMosaic Idealize.ShloMosaic.TcCoe Idealize.SL.Sem Idealize.ShloMosaic.StableHlo Idealize.ShloMosaic.ValueIdx

variable (m : (ℓ : Loc nD τ sig) → Buf (Elt Ideal) ℓ) (d : Dev nD) (ρ : Dev nD → PrngReg)

theorem run : θ_run (defs (F := Ideal)) (onTc (τ := τ) (main (F := Ideal))) ⟨m, fun _ => 0, ρ⟩ fun r =>
    ∀ (d : Dev nD) (b : Ref sig .tc), r.2.mem ((d.tc : Thread nD τ).loc b) = B m d b :=
  Line.run (by decide) (by decide) (by decide +kernel) defs main (ops m) (main_eq m) (N := 108) (fun d => rfl) m ρ

variable {m d} {dy u : Fin 4096 → Fin 1024 → ℝ} {p : Fin 4096 → Fin 6720 → ℝ} {w b : Fin 1 → Fin 1024 → ℝ}

/-- The gates are columns 2048 to 3072 of the projection. -/
theorem gate {g : Fin 4096 → Fin 1024 → ℝ}
    (h : ∀ r q, m ((d.tc : Thread nD τ).loc main_arg2) (ix2 r ⟨2048 + q.val, by omega⟩) = (g r q : EReal)) :
    Mat (B m d main_v0) g := fun i => by
  refine (congrFun ((line m d).unary 0 rfl) i).trans ?_
  refine (extractStridedSlice_apply _ _ _ i (ix2 (i 0) ⟨2048 + (i 1).val, by have : (i 1).val < 1024 := (i 1).isLt; omega⟩) fun a => ?_).trans
    ((congrFun (line m d).arg _).trans (h (i 0) (i 1)))
  match a with
  | ⟨0, _⟩ => exact (Nat.zero_add _).symm
  | ⟨1, _⟩ => rfl

/-- The scale's and the shift's gradients as rows 0 and 1 of eight. -/
theorem sums {s t : Fin 1 → Fin 1024 → ℝ} (hs : Mat (B m d main_v35) s) (ht : Mat (B m d main_v32) t) :
    Mat (B m d main_v62) fun k q => if k.val = 1 then t 0 q else if k.val = 0 then s 0 q else 0 := fun i => by
  have hz : Mat (B m d main_v61) fun _ _ => 0 :=
    Rep.of_eq ((line m d).unary 106 rfl) <| Rep.host_splat (Rep.of_eq ((line m d).nullary 105 rfl) <| Rep.const (φ := .f32) word_zero) _ _
  have hi : (i 0).val < 8 := (i 0).isLt
  let xs : List ((s : Shape) × (s.Idx → EReal)) := [⟨S1x1024, B m d main_v35⟩, ⟨S1x1024, B m d main_v32⟩, ⟨S6x1024, B m d main_v61⟩]
  refine (congrFun ((line m d).nary 107 rfl) i).trans ?_
  by_cases e1 : (i 0).val = 1
  · refine (concatenate_apply_piece (0 : Fin 2) xs _ i 1 (show 1 < 3 by decide) S1x1024 (B m d main_v32) rfl rfl 1 rfl (ix2 0 (i 1))
      (fun b hb => match b with | ⟨0, _⟩ => absurd rfl hb | ⟨1, _⟩ => rfl) e1.symm).trans ((ht _).trans (congrArg _ ?_))
    exact (if_pos e1).symm
  by_cases e0 : (i 0).val = 0
  · refine (concatenate_apply_piece (0 : Fin 2) xs _ i 0 (show 0 < 3 by decide) S1x1024 (B m d main_v35) rfl rfl 0 rfl (ix2 0 (i 1))
      (fun b hb => match b with | ⟨0, _⟩ => absurd rfl hb | ⟨1, _⟩ => rfl) e0.symm).trans ((hs _).trans (congrArg _ ?_))
    exact ((if_neg e1).trans (if_pos e0)).symm
  · refine (concatenate_apply_piece (0 : Fin 2) xs _ i 2 (show 2 < 3 by decide) S6x1024 (B m d main_v61) rfl rfl 2 rfl (ix2 ⟨(i 0).val - 2, by omega⟩ (i 1))
      (fun b hb => match b with | ⟨0, _⟩ => absurd rfl hb | ⟨1, _⟩ => rfl) (show 2 + ((i 0).val - 2) = (i 0).val by omega)).trans ((hz _).trans (congrArg _ ?_))
    exact ((if_neg e1).trans (if_neg e0)).symm

/-- An argument ends as it was launched. -/
theorem kept {m : (ℓ : Loc nD τ sig) → Buf (Elt Ideal) ℓ} {d : Dev nD} (x : Ref sig .tc) (h : x.idx.val < 5 := by decide) :
    B m d x = m (d.tc.loc x) := (line m d).arg h

end Cert.RowsRef

end
-- ==== Proof.RowsClaim.lean ====
/-
  The row-wise gradients: the kernel's are the reference's.
-/
module

public import proofs.«01_k».proof.Proof.RowsKernel
public import proofs.«01_k».proof.Proof.RowsRun
public import proofs.«01_k».proof.Defs
public import Idealize.ShloMosaic.Lib.Quiescent
public import proofs.«01_k».proof.Proof.Gen.Pre_finite_rows

@[expose] public section

set_option maxRecDepth 16384

noncomputable section

namespace Cert.RowsClaim

open Idealize.ShloMosaic hiding ix1 ix2 ix3
open Idealize.ShloMosaic.TcCoe Idealize.SL.Sem Idealize.ShloMosaic.StableHlo Idealize.ShloMosaic.ValueIdx
open Cert.LayerNorm Cert.RowsPay

variable (d g u w b : Fin 1024 → ℝ)

theorem drow_eq (q : Fin 1024) : drow d g u w b q = backDiff u (fun c => siluDiff (out u w b c) (d c * silu (g c)) * w c) q := by
  rw [backDiff_eq]
  unfold drow dln
  simp only [siluDiff_eq]

theorem dgate_eq (q : Fin 1024) : dgate d g u w b q = siluDiff (g q) (silu (out u w b q) * d q) := by
  unfold dgate
  rw [siluDiff_eq, mul_comm (d q)]

theorem total_eq (D U G : Fin 4096 → Fin 1024 → ℝ) (k : Fin 8) (q : Fin 1024) : RowsKernel.total D U G w b k q
    = if k.val = 1 then ∑ r, siluDiff (out (U r) w b q) (D r q * silu (G r q))
      else if k.val = 0 then ∑ r, xhat (U r) q * siluDiff (out (U r) w b q) (D r q * silu (G r q)) else 0 := by
  unfold RowsKernel.total dln
  simp only [siluDiff_eq, mul_comm (xhat _ _)]

theorem frame_ref (m : (ℓ : Loc RowsRefIdeal.nD RowsRefIdeal.τ RowsRefIdeal.sig) → Buf (Elt Ideal) ℓ) (ρ : Dev RowsRefIdeal.nD → PrngReg) :
    θ_run (RowsRefIdeal.defs (F := Ideal)) (onTc (τ := RowsRefIdeal.τ) (RowsRefIdeal.main (F := Ideal))) ⟨m, fun _ => 0, ρ⟩ fun r =>
      (∀ c : Dev RowsRefIdeal.nD, (r.2.mem (c.tc.loc RowsRefIdeal.main_arg0) = m (c.tc.loc RowsRefIdeal.main_arg0)
        ∧ r.2.mem (c.tc.loc RowsRefIdeal.main_arg1) = m (c.tc.loc RowsRefIdeal.main_arg1)
        ∧ r.2.mem (c.tc.loc RowsRefIdeal.main_arg2) = m (c.tc.loc RowsRefIdeal.main_arg2)
        ∧ r.2.mem (c.tc.loc RowsRefIdeal.main_arg3) = m (c.tc.loc RowsRefIdeal.main_arg3)
        ∧ r.2.mem (c.tc.loc RowsRefIdeal.main_arg4) = m (c.tc.loc RowsRefIdeal.main_arg4))) ∧ r.2.sem = fun _ => 0 :=
  (θ_run _ _ _).mono (fun r h => ⟨fun c =>
    have L := RowsRef.line m c
    ⟨(h c _).trans L.arg, (h c _).trans L.arg, (h c _).trans L.arg, (h c _).trans L.arg, (h c _).trans L.arg⟩,
    sem_eq_zero_of_no_sems rfl _⟩) (RowsRef.run m ρ)

theorem algebraic : Cert.algebraic_RowsIdeal_RowsRefIdeal_pre_finite_rows := by
  intro m ρ m' ρ' hpre hag
  refine ⟨fun c => (RowsIdeal.Gen.dats m 0 c).arrAt 5 RowsIdeal.cfg0.N, fun c => (RowsIdeal.Gen.dats m 0 c).arrAt 6 RowsIdeal.cfg0.N,
    fun c => (RowsIdeal.Gen.dats m 0 c).arrAt 7 RowsIdeal.cfg0.N, RowsIdeal.Value.run_blocks m ρ,
    (θ_run _ _ _).mono (fun r h c => ?_) (RowsRef.run m' ρ')⟩
  obtain ⟨p0, p1, p2, p3, p4⟩ := hpre c
  obtain ⟨a0, a1, a2, a3, a4⟩ := hag c
  obtain ⟨D, hD⟩ := exists_mat (exists_rep p0)
  obtain ⟨U, hU⟩ := exists_mat (exists_rep p1)
  obtain ⟨G, hG⟩ := exists_mat (exists_rep p2)
  obtain ⟨w, hw⟩ := exists_mat (exists_rep p3)
  obtain ⟨b, hb⟩ := exists_mat (exists_rep p4)
  have hG' (r : Fin 4096) (q : Fin 1024) : m ((c : Thread RowsIdeal.nD RowsIdeal.τ).loc RowsIdeal.main_arg2) (ix2 r ⟨2048 + q.val, by omega⟩)
      = (G r q : EReal) := by
    refine Eq.trans (Eq.symm ?_) (hG (ix2 r q))
    refine extractStridedSlice_apply _ _ _ _ _ fun a => ?_
    match a with
    | ⟨0, _⟩ => exact (Nat.zero_add _).symm
    | ⟨1, _⟩ => rfl
  have e : RowsKernel.Entry (m := m) (c := c) D U G w b :=
    ⟨(RowsIdeal.Gen.V_main_arg0 m c).symm ▸ hD, (RowsIdeal.Gen.V_main_arg1 m c).symm ▸ hU, RowsKernel.packed hG',
     (RowsIdeal.Gen.V_main_arg3 m c).symm ▸ hw, (RowsIdeal.Gen.V_main_arg4 m c).symm ▸ hb⟩
  obtain ⟨r0, r1, r2, r3⟩ := RowsRef.results (m := m') (d := c) (((RowsRef.kept RowsRefIdeal.main_arg0).trans a0).symm ▸ hD) (((RowsRef.kept RowsRefIdeal.main_arg1).trans a1).symm ▸ hU)
    (RowsRef.gate (g := G) fun r q => (congrFun a2 _).trans (hG' r q)) (((RowsRef.kept RowsRefIdeal.main_arg3).trans a3).symm ▸ hw) (((RowsRef.kept RowsRefIdeal.main_arg4).trans a4).symm ▸ hb)
  refine ⟨(h c _).trans (r0.eq (RowsKernel.result5 e) fun r q => (drow_eq ..).symm),
    (h c _).trans (r1.eq (RowsKernel.result6 e) fun r q => (dgate_eq ..).symm),
    (h c _).trans ((RowsRef.sums r2 r3).eq (RowsKernel.result7 e) fun k q => (total_eq ..).symm),
    (h c _).trans (RowsRef.kept _), (h c _).trans (RowsRef.kept _), (h c _).trans (RowsRef.kept _), (h c _).trans (RowsRef.kept _),
    (h c _).trans (RowsRef.kept _)⟩

end Cert.RowsClaim

end
-- ==== Proof.AttnPay.lean ====
/-
  The attention gradient's arithmetic on one pair of a row chunk and a key block, over the reals.
-/
module

public import proofs.«01_k».proof.Proof.Products
public import proofs.«01_k».proof.Proof.Gen.AttnIdeal.Skeleton

@[expose] public section

set_option maxRecDepth 16384

noncomputable section

namespace AttnPay

open Cert Cert.AttnIdeal Cert.AttnIdeal.Gen
open Idealize.ShloMosaic Idealize.ShloMosaic.ValueIdx

/-- The products of the rows of two matrices. -/
def dots {n m e : ℕ} (x : Fin n → Fin e → ℝ) (y : Fin m → Fin e → ℝ) (r : Fin n) (c : Fin m) : ℝ := ∑ d, x r d * y c d

/-- The probabilities, and those of a chunk on the diagonal. -/
def pr (q k : Fin 1024 → Fin 192 → ℝ) (l : Fin 1024 → ℝ) (r c : Fin 1024) : ℝ := Real.exp (dots q k r c - l r)
def pd (q k : Fin 1024 → Fin 192 → ℝ) (l : Fin 1024 → ℝ) (r c : Fin 1024) : ℝ := if c ≤ r then pr q k l r c else 0

/-- The scores' gradient. -/
def ds (p : Fin 1024 → Fin 1024 → ℝ) (d v : Fin 1024 → Fin 128 → ℝ) (z : Fin 1024 → ℝ) (r c : Fin 1024) : ℝ := p r c * (dots d v r c - z r)

variable {xq xk : Vec Ideal S1x1024x192 .bf16} {xv : Vec Ideal S1x1024x128 .bf16} {xd : Vec Ideal S1024x128 .bf16}
variable {xl xz : Vec Ideal S1x1024x1 .f32} {y4 : FVec Ideal S1024x192 .bf16} {y6 : FVec Ideal S1024x128 .bf16}
variable {q k : Fin 1024 → Fin 192 → ℝ} {v d : Fin 1024 → Fin 128 → ℝ} {l z : Fin 1024 → ℝ}
variable {xa : FVec Ideal S1024x192 .f32} {xb : FVec Ideal S1024x128 .f32} {xg : Vec Ideal S1x1024x192 .f32}
variable {a g : Fin 1024 → Fin 192 → ℝ} {b : Fin 1024 → Fin 128 → ℝ}

theorem pay4 (hq : Ten xq fun _ => q) : Mat (k0_pay4 (F := Ideal) xq) q := Ten.flat hq _
theorem pay21 (hk : Ten xk fun _ => k) : Mat (k0_pay21 (F := Ideal) xk) k := Ten.flat hk _
theorem pay22 (hv : Ten xv fun _ => v) : Mat (k0_pay22 (F := Ideal) xv) v := Ten.flat hv _
theorem pay24 (hq : Ten xq fun _ => q) : Mat (k0_pay24 (F := Ideal) xq) q := Ten.flat hq _
theorem pay5 (hd : Mat xd d) : Mat (k0_pay5 (F := Ideal) xd) d := Rep.self _ hd
theorem pay25 (hd : Mat xd d) : Mat (k0_pay25 (F := Ideal) xd) d := Rep.self _ hd

theorem pay6 (hk : Mat y4 k) (hq : Ten xq fun _ => q) (hl : Ten xl fun _ r _ => l r) :
    Mat (k0_pay6 (F := Ideal) y4 xq xl) (pr q k l) :=
  Rep.cast (Rep.exp (φ := .f32) (Rep.sub (φ := .f32) (Rep.matmul (φ₁ := .bf16) (φ₂ := .bf16) dot_S1024x192_S1024x192_S1024x1024_1_1_0_0_n_n none (pay4 hq) hk)
    (Mat.repeat_col (Ten.flat hl _) _))) fun _ => rfl

theorem pay7 (hk : Mat y4 k) (hb : Mat xb b) (hq : Ten xq fun _ => q) (hd : Mat xd d) (hl : Ten xl fun _ r _ => l r) :
    Mat (k0_pay7 (F := Ideal) y4 xb xq xd xl) fun c e => b c e + ∑ r, pr q k l r c * d r e :=
  Rep.cast (Rep.add (φ := .f32) hb (Rep.matmul (φ₁ := .bf16) (φ₂ := .bf16) dot_S1024x1024_S1024x128_S1024x128_0_0_1_1_n_n none
    (Rep.trunc (φ := .f32) (ψ := .bf16) bitsLt_bf16_f32 (pay6 hk hq hl)) (pay5 hd))) fun _ => rfl

theorem pay8 (hk : Mat y4 k) (hv : Mat y6 v) (hq : Ten xq fun _ => q) (hd : Mat xd d) (hl : Ten xl fun _ r _ => l r) (hz : Ten xz fun _ r _ => z r) :
    Mat (k0_pay8 (F := Ideal) y4 y6 xq xd xl xz) (ds (pr q k l) d v z) :=
  Rep.cast (Rep.trunc (φ := .f32) (ψ := .bf16) bitsLt_bf16_f32 (Rep.mul (φ := .f32) (pay6 hk hq hl) (Rep.sub (φ := .f32)
    (Rep.matmul (φ₁ := .bf16) (φ₂ := .bf16) dot_S1024x128_S1024x128_S1024x1024_1_1_0_0_n_n none (pay5 hd) hv)
    (Mat.repeat_col (Ten.flat hz _) _)))) fun _ => rfl

theorem pay9 (hk : Mat y4 k) (hv : Mat y6 v) (ha : Mat xa a) (hq : Ten xq fun _ => q) (hd : Mat xd d) (hl : Ten xl fun _ r _ => l r)
    (hz : Ten xz fun _ r _ => z r) :
    Mat (k0_pay9 (F := Ideal) y4 y6 xa xq xd xl xz) fun c e => a c e + ∑ r, ds (pr q k l) d v z r c * q r e :=
  Rep.cast (Rep.add (φ := .f32) ha (Rep.matmul (φ₁ := .bf16) (φ₂ := .bf16) dot_S1024x1024_S1024x192_S1024x192_0_0_1_1_n_n none
    (pay8 hk hv hq hd hl hz) (pay4 hq))) fun _ => rfl

theorem pay10 (hk : Mat y4 k) (hv : Mat y6 v) (hq : Ten xq fun _ => q) (hd : Mat xd d) (hl : Ten xl fun _ r _ => l r)
    (hz : Ten xz fun _ r _ => z r) (hg : Ten xg fun _ => g) :
    Ten (k0_pay10 (F := Ideal) y4 y6 xq xd xl xz xg) fun _ r e => g r e + ∑ c, ds (pr q k l) d v z r c * k c e :=
  Mat.stack (Rep.cast (Rep.add (φ := .f32) (Ten.flat hg _) (Rep.matmul (φ₁ := .bf16) (φ₂ := .bf16) dot_S1024x1024_S1024x192_S1024x192_1_0_0_1_n_n none
    (pay8 hk hv hq hd hl hz) hk)) fun _ => rfl) _

theorem pay26 (hk : Ten xk fun _ => k) (hq : Ten xq fun _ => q) (hl : Ten xl fun _ r _ => l r) :
    Mat (k0_pay26 (F := Ideal) xk xq xl) (pd q k l) := by
  have hs := Rep.matmul (φ₁ := .bf16) (φ₂ := .bf16) dot_S1024x192_S1024x192_S1024x1024_1_1_0_0_n_n none (pay24 hq) (pay21 hk)
  have hp : Part (select (cmpi .sle (iota .tc S1024x1024 32 [1] iota_S1024x1024_d1_w32) (iota .tc S1024x1024 32 [0] iota_S1024x1024_d0_w32))
      (matmul (F := Ideal) dot_S1024x192_S1024x192_S1024x1024_1_1_0_0_n_n none (k0_pay24 (F := Ideal) xq) (k0_pay21 (F := Ideal) xk) (constant S1024x1024 .f32 0x00000000#32))
      (broadcast S1024x1024 (Ideal.ofBits .f32 0xFF800000#32)))
      (fun i : S1024x1024.Idx => (i 1 : Fin 1024) ≤ (i 0 : Fin 1024)) (fun i => dots q k (i 0) (i 1)) := fun i => by
    have hi0 : (i 0).val < 1024 := (i 0).isLt
    have hi1 : (i 1).val < 1024 := (i 1).isLt
    have e : cmpi .sle (iota .tc S1024x1024 32 [1] iota_S1024x1024_d1_w32) (iota .tc S1024x1024 32 [0] iota_S1024x1024_d0_w32) i
        = IntOp.cmpi .sle (BitVec.ofNat 32 (i 1).val) (BitVec.ofNat 32 (i 0).val) := by
      rw [← iota_single_apply .tc S1024x1024 32 1 iota_S1024x1024_d1_w32 i, ← iota_single_apply .tc S1024x1024 32 0 iota_S1024x1024_d0_w32 i]
      exact rfl
    refine (select_word (P := (i 1 : Fin 1024) ≤ (i 0 : Fin 1024)) (fun h => e.trans ?_) (fun h => e.trans ?_) _ _).trans ?_
    · exact (WordCmp.cmpi_sle_ofNat_eq_one_iff (by omega) (by omega)).mpr h
    · exact (WordCmp.cmpi_sle_ofNat_eq_zero_iff (by omega) (by omega)).mpr h
    · exact ite_congr rfl (fun _ => hs i) fun _ => word_neg_inf
  exact Rep.cast (Part.exp (φ := .f32) (Part.sub (φ := .f32) hp (Mat.repeat_col (Ten.flat hl _) _))) fun _ => rfl

theorem pay27 (hk : Ten xk fun _ => k) (hq : Ten xq fun _ => q) (hd : Mat xd d) (hl : Ten xl fun _ r _ => l r) :
    Mat (k0_pay27 (F := Ideal) xk xq xd xl) fun c e => 0 + ∑ r, pd q k l r c * d r e :=
  Rep.cast (Rep.add (φ := .f32) (Rep.splat (φ := .f32) word_zero) (Rep.matmul (φ₁ := .bf16) (φ₂ := .bf16) dot_S1024x1024_S1024x128_S1024x128_0_0_1_1_n_n none
    (Rep.trunc (φ := .f32) (ψ := .bf16) bitsLt_bf16_f32 (pay26 hk hq hl)) (pay25 hd))) fun _ => rfl

theorem pay28 (hv : Ten xv fun _ => v) (hd : Mat xd d) : Mat (k0_pay28 (F := Ideal) xv xd) (dots d v) :=
  Rep.cast (Rep.matmul (φ₁ := .bf16) (φ₂ := .bf16) dot_S1024x128_S1024x128_S1024x1024_1_1_0_0_n_n none (pay25 hd) (pay22 hv)) fun _ => rfl

variable {xp xs : FVec Ideal S1024x1024 .f32} {p s : Fin 1024 → Fin 1024 → ℝ}

theorem pay1 (hp : Mat xp p) (hs : Mat xs s) (hz : Ten xz fun _ r _ => z r) :
    Mat (k0_pay1 (F := Ideal) xp xs xz) fun r c => p r c * (s r c - z r) :=
  Rep.cast (Rep.trunc (φ := .f32) (ψ := .bf16) bitsLt_bf16_f32 (Rep.mul (φ := .f32) hp (Rep.sub (φ := .f32) hs
    (Mat.repeat_col (Ten.flat hz _) _)))) fun _ => rfl

theorem pay2 (hk : Ten xk fun _ => k) (hv : Ten xv fun _ => v) (hq : Ten xq fun _ => q) (hd : Mat xd d) (hl : Ten xl fun _ r _ => l r)
    (hz : Ten xz fun _ r _ => z r) :
    Mat (k0_pay2 (F := Ideal) k0_pay23 (k0_pay24 (F := Ideal) xq) (k0_pay26 (F := Ideal) xk xq xl) (k0_pay28 (F := Ideal) xv xd) xz)
      fun c e => 0 + ∑ r, ds (pd q k l) d v z r c * q r e :=
  Rep.cast (Rep.add (φ := .f32) (Rep.splat (φ := .f32) word_zero) (Rep.matmul (φ₁ := .bf16) (φ₂ := .bf16) dot_S1024x1024_S1024x192_S1024x192_0_0_1_1_n_n none
    (pay1 (pay26 hk hq hl) (pay28 hv hd) hz) (pay24 hq))) fun _ => rfl

theorem pay3 (hk : Ten xk fun _ => k) (hv : Ten xv fun _ => v) (hq : Ten xq fun _ => q) (hd : Mat xd d) (hl : Ten xl fun _ r _ => l r)
    (hz : Ten xz fun _ r _ => z r) (hg : Ten xg fun _ => g) :
    Ten (k0_pay3 (F := Ideal) (k0_pay21 (F := Ideal) xk) (k0_pay26 (F := Ideal) xk xq xl) (k0_pay28 (F := Ideal) xv xd) xz xg)
      fun _ r e => g r e + ∑ c, ds (pd q k l) d v z r c * k c e :=
  Mat.stack (Rep.cast (Rep.add (φ := .f32) (Ten.flat hg _) (Rep.matmul (φ₁ := .bf16) (φ₂ := .bf16) dot_S1024x1024_S1024x192_S1024x192_1_0_0_1_n_n none
    (pay1 (pay26 hk hq hl) (pay28 hv hd) hz) (pay21 hk))) fun _ => rfl) _

theorem pay18 (ha : Mat xa a) : Ten (k0_pay18 (F := Ideal) xa) fun _ => a := Mat.stack ha _
theorem pay19 (hb : Mat xb b) : Ten (k0_pay19 (F := Ideal) xb) fun _ => b := Mat.stack hb _
theorem pay20 : Ten (k0_pay20 (F := Ideal)) fun _ _ _ => 0 := Rep.splat (φ := .f32) word_zero

end AttnPay

end
-- ==== Proof.AttnLoop.lean ====
/-
  The attention gradient's kernel body: what a grid point leaves, as functions of the blocks it reads.
  The body adds, for each row chunk of 1024 rows from the diagonal on, a term to the two carried sums (the
  keys' and the values' gradients) and to the chunk's rows of the queries' gradient, which stays in its window
  over the points of one head.
-/
module

public import proofs.«01_k».proof.Proof.Gen.AttnIdeal.Frame
public import proofs.«01_k».proof.Proof.Gen.AttnIdeal.Skeleton
public import Idealize.ShloMosaic.Lib.LoopRemainder
public import Idealize.ShloMosaic.Lib.WritesUnit
public import Idealize.ShloMosaic.Lib.Pipeline.Value
public import Idealize.ShloMosaic.Lib.Tactic
public import Idealize.ShloMosaic.Lib.WordCmp

@[expose] public section

set_option maxRecDepth 16384

noncomputable section

namespace AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen

variable {F : FTy → Type} [FloatOps F]

local notation "𝕄" => MT nD τ sig Unit (Elt F) ℕ (UR sig nD τ) ℕ

/-- The block `x` with the window of sizes `size` at `off` overwritten by `w`. -/
def put {s : Shape} {α : Type} (off size : Fin s.rank → ℕ) (w : ((a : Fin s.rank) → Fin (size a)) → α) (x : s.Idx → α) :
    s.Idx → α :=
  fun y => if h : ∀ a, off a ≤ (y a).val ∧ (y a).val < off a + size a then w (Rect.unitLocal (off := off) y h) else x y

/-- A buffer read after one store of a window. -/
theorem read_put {κ : Kind} {sp : Space} {s : Shape} {e : EltTy} (v : View sig κ sp s e) (f : v.ty.Contents (Elt F))
    (off size : Fin s.rank → ℕ) (inb : ∀ a, off a + size a ≤ s.size a)
    (w : (Rect.unit off size inb).shape.Idx → Elt F e) (L : List (View.Piece (Elt F) s e)) :
    v.read (Elt F) (v.writes (Elt F) f ((⟨Rect.unit off size inb, w⟩ : View.Piece (Elt F) s e) :: L))
      = put off size w (v.read (Elt F) (v.writes (Elt F) f L)) :=
  funext fun y => View.read_writes_cons_unit v f inb w L y rfl

/-- The two carried sums and the queries' gradient block. -/
abbrev St (F : FTy → Type) : Type := (FVec F S1024x192 .f32 × FVec F S1024x128 .f32) × Vec F S1x4096x192 .f32

/-- One trip of the loop over the row chunks below the diagonal one. -/
def trip (i : grid0.Coords) (x0 : Vec F S1x4096x192 .bf16) (x3 : Vec F S4096x128 .bf16) (x4 x5 : Vec F S1x4096x128 .f32)
    (v4 : FVec F S1024x192 .bf16) (v6 : FVec F S1024x128 .bf16) (k : Fin (k0_t1_loop i).trips) (s : St F) : St F :=
  let q : Vec F S1x1024x192 .bf16 := View.ld (Val := Elt F) (S := S1x4096x192) (e' := .bf16) x0 (Rect.unit (s := S1x4096x192) (k0_off4 i k) S1x1024x192.size (k0_off4_inb i k))
  let d : Vec F S1024x128 .bf16 := View.ld (Val := Elt F) (S := S4096x128) (e' := .bf16) x3 (Rect.unit (s := S4096x128) (k0_off5 i k) S1024x128.size (k0_off5_inb i k))
  let l : Vec F S1x1024x1 .f32 := View.ld (Val := Elt F) (S := S1x4096x128) (e' := .f32) x4 (Rect.unit (s := S1x4096x128) (k0_off6 i k) S1x1024x1.size (k0_off6_inb i k))
  let z : Vec F S1x1024x1 .f32 := View.ld (Val := Elt F) (S := S1x4096x128) (e' := .f32) x5 (Rect.unit (s := S1x4096x128) (k0_off6 i k) S1x1024x1.size (k0_off6_inb i k))
  let a : Vec F S1x1024x192 .f32 := View.ld (Val := Elt F) (S := S1x4096x192) (e' := .f32) s.2 (Rect.unit (s := S1x4096x192) (k0_off4 i k) S1x1024x192.size (k0_off4_inb i k))
  ((k0_pay9 v4 v6 s.1.1 q d l z, k0_pay7 v4 s.1.2 q d l),
    put (s := S1x4096x192) (k0_off4 i k) S1x1024x192.size (k0_pay10 v4 v6 q d l z a) s.2)

/-- The state before trip `k`. -/
def before (i : grid0.Coords) (x0 : Vec F S1x4096x192 .bf16) (x3 : Vec F S4096x128 .bf16) (x4 x5 : Vec F S1x4096x128 .f32)
    (v4 : FVec F S1024x192 .bf16) (v6 : FVec F S1024x128 .bf16) (s : St F) : ℕ → St F
  | 0 => s
  | k + 1 => if h : k < (k0_t1_loop i).trips then trip i x0 x3 x4 x5 v4 v6 ⟨k, h⟩ (before i x0 x3 x4 x5 v4 v6 s k)
      else before i x0 x3 x4 x5 v4 v6 s k

theorem before_succ (i : grid0.Coords) (x0 : Vec F S1x4096x192 .bf16) (x3 : Vec F S4096x128 .bf16) (x4 x5 : Vec F S1x4096x128 .f32)
    (v4 : FVec F S1024x192 .bf16) (v6 : FVec F S1024x128 .bf16) (s : St F) (k : Fin (k0_t1_loop i).trips) :
    before i x0 x3 x4 x5 v4 v6 s (k.val + 1) = trip i x0 x3 x4 x5 v4 v6 k (before i x0 x3 x4 x5 v4 v6 s k.val) := by
  rw [before]; exact dif_pos k.isLt

/-- The loop over the row chunks by its invariant: before trip `k` the carried sums and the block of the queries'
    gradient are the state's. -/
@[instance_reducible, sl_loop] def chunks (𝒱 : Variants) (c : Dev nD) (bd : Option 𝒱.V) (E : Set ℕ) (i : grid0.Coords)
    (arg2 : Memref sig .tc .vmem S1x4096x192 .bf16) (harg2 : arg2.IsWhole) (arg3 : Memref sig .tc .vmem S1x1024x192 .bf16) (harg3 : arg3.IsWhole)
    (arg4 : Memref sig .tc .vmem S1x1024x128 .bf16) (harg4 : arg4.IsWhole) (arg5 : Memref sig .tc .vmem S4096x128 .bf16) (harg5 : arg5.IsWhole)
    (arg6 : Memref sig .tc .vmem S1x4096x128 .f32) (harg6 : arg6.IsWhole) (arg7 : Memref sig .tc .vmem S1x4096x128 .f32) (harg7 : arg7.IsWhole)
    (arg8 : Memref sig .tc .vmem S1x4096x192 .f32) (harg8 : arg8.IsWhole) (arg9 : Memref sig .tc .vmem S1x1024x192 .f32) (harg9 : arg9.IsWhole)
    (arg10 : Memref sig .tc .vmem S1x1024x128 .f32) (harg10 : arg10.IsWhole)
    (v4 : FVec F S1024x192 .bf16) (v6 : FVec F S1024x128 .bf16)
    (X2 : BufTy.Contents (Elt F) arg2.view.ty) (X5 : BufTy.Contents (Elt F) arg5.view.ty) (X6 : BufTy.Contents (Elt F) arg6.view.ty)
    (X7 : BufTy.Contents (Elt F) arg7.view.ty) (g : Vec F S1x4096x192 .f32)
    (init : FVec F S1024x192 .f32 × FVec F S1024x128 .f32) :
    LoopInv (M := 𝕄) Idealize.ShloMosaic.frame (wpE (defs₀ (F := F)) 𝒱 (c : Thread nD τ) bd) E
      (k0_t1_loop i).lb (k0_t1_loop i).ub (k0_t1_loop i).st (k0_t1_ok i) init
      (k0_t1_body (F := F) i arg2 harg2 arg3 harg3 arg4 harg4 arg5 harg5 arg6 harg6 arg7 harg7 arg8 harg8 arg9 harg9 arg10 harg10 v4 v6) where
  inv k acc := iprop((arg2.view.loc (c : Thread nD τ) ↦[arg2.view.set]{fullShare} X2)
      ∗ (arg5.view.loc (c : Thread nD τ) ↦[arg5.view.set]{fullShare} X5)
      ∗ (arg6.view.loc (c : Thread nD τ) ↦[arg6.view.set]{fullShare} X6)
      ∗ (arg7.view.loc (c : Thread nD τ) ↦[arg7.view.set]{fullShare} X7)
      ∗ (∃ f, (arg8.view.loc (c : Thread nD τ) ↦[arg8.view.set]{fullShare} f)
          ∗ ⌜arg8.view.read (Elt F) f = (before i (arg2.view.read (Elt F) X2) (arg5.view.read (Elt F) X5) (arg6.view.read (Elt F) X6)
              (arg7.view.read (Elt F) X7) v4 v6 (init, g) k).2⌝)
      ∗ ⌜acc = (before i (arg2.view.read (Elt F) X2) (arg5.view.read (Elt F) X5) (arg6.view.read (Elt F) X6)
              (arg7.view.read (Elt F) X7) v4 v6 (init, g) k).1⌝)
  step k acc := by
    unfold k0_t1_body
    rw [before_succ]
    iintro ⟨H2, H5, H6, H7, ⟨%f, H8, %hf⟩, %ha⟩
    sl_exec
    sl_step
    isplitl [H2]; · iexact H2
    isplitl [H5]; · iexact H5
    isplitl [H6]; · iexact H6
    isplitl [H7]; · iexact H7
    isplitl [H8]
    · iexists _; isplitl [H8]; · iexact H8
      ipureintro
      refine (read_put arg8.view f _ _ _ _ []).trans ?_
      rw [View.writes_nil, hf]
      simp only [View.readAt_eq_ld, hf, trip]
    ipureintro
    rw [ha]
    simp only [View.readAt_eq_ld, trip]

end AttnRun

end
-- ==== Proof.AttnPoint.lean ====
/-
  The attention gradient's grid points run: what the three result windows hold after each, the launch, and the
  frames of the kernel and of its idealisation, which are one program.
-/
module

public import proofs.«01_k».proof.Proof.AttnLoop
public import Idealize.ShloMosaic.Lib.Pipeline.ReadBack
public import Idealize.ShloMosaic.Lib.WritesUnit
public import Idealize.ShloMosaic.Lib.Pipeline.Value
public import Idealize.ShloMosaic.Lib.Tactic
public import Idealize.ShloMosaic.Lib.WordCmp

@[expose] public section

set_option maxRecDepth 16384

noncomputable section

namespace AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F]

local notation "𝕄" => MT nD τ sig Unit (Elt F) ℕ (UR sig nD τ) ℕ

/-- The point is the first of its head. -/
abbrev cond (i : grid0.Coords) : Prop := (Scalar.cmpi .ne (Scalar.extui (Scalar.cmpi .eq (BitVec.ofNat 32 (i 1).val) 0#32)) 0#32) = 1#1

/-- The key and value blocks of a point, as loaded. -/
def keys (x1 : Vec F S1x1024x192 .bf16) : Vec F S1x1024x192 .bf16 :=
  View.ld (Val := Elt F) (S := S1x1024x192) (e' := .bf16) x1 (Rect.unit (s := S1x1024x192) ![0, 0, 0] S1x1024x192.size inb_S1x1024x192_S1x1024x192_0_0_0)

def vals (x2 : Vec F S1x1024x128 .bf16) : Vec F S1x1024x128 .bf16 :=
  View.ld (Val := Elt F) (S := S1x1024x128) (e' := .bf16) x2 (Rect.unit (s := S1x1024x128) ![0, 0, 0] S1x1024x128.size inb_S1x1024x128_S1x1024x128_0_0_0)

/-- The diagonal chunk's terms, added to the block `a` of the queries' gradient. -/
def added (i : grid0.Coords) (x0 : Vec F S1x4096x192 .bf16) (x1 : Vec F S1x1024x192 .bf16) (x2 : Vec F S1x1024x128 .bf16) (x3 : Vec F S4096x128 .bf16) (x4 : Vec F S1x4096x128 .f32) (x5 : Vec F S1x4096x128 .f32) (a : Vec F S1x4096x192 .f32) : Vec F S1x1024x192 .f32 :=
  let q : Vec F S1x1024x192 .bf16 := View.ld (Val := Elt F) (S := S1x4096x192) (e' := .bf16) x0 (Rect.unit (s := S1x4096x192) (k0_off1 i) S1x1024x192.size (k0_off1_inb i))
  let d : Vec F S1024x128 .bf16 := View.ld (Val := Elt F) (S := S4096x128) (e' := .bf16) x3 (Rect.unit (s := S4096x128) (k0_off2 i) S1024x128.size (k0_off2_inb i))
  let l : Vec F S1x1024x1 .f32 := View.ld (Val := Elt F) (S := S1x4096x128) (e' := .f32) x4 (Rect.unit (s := S1x4096x128) (k0_off3 i) S1x1024x1.size (k0_off3_inb i))
  let z : Vec F S1x1024x1 .f32 := View.ld (Val := Elt F) (S := S1x4096x128) (e' := .f32) x5 (Rect.unit (s := S1x4096x128) (k0_off3 i) S1x1024x1.size (k0_off3_inb i))
  let b : Vec F S1x1024x192 .f32 := View.ld (Val := Elt F) (S := S1x4096x192) (e' := .f32) a (Rect.unit (s := S1x4096x192) (k0_off1 i) S1x1024x192.size (k0_off1_inb i))
  k0_pay3 (k0_pay21 (keys x1)) (k0_pay26 (keys x1) q l) (k0_pay28 (vals x2) d) z b

/-- The carried sums after the diagonal chunk. -/
def sums (i : grid0.Coords) (x0 : Vec F S1x4096x192 .bf16) (x1 : Vec F S1x1024x192 .bf16) (x2 : Vec F S1x1024x128 .bf16) (x3 : Vec F S4096x128 .bf16) (x4 : Vec F S1x4096x128 .f32) (x5 : Vec F S1x4096x128 .f32) : FVec F S1024x192 .f32 × FVec F S1024x128 .f32 :=
  let q : Vec F S1x1024x192 .bf16 := View.ld (Val := Elt F) (S := S1x4096x192) (e' := .bf16) x0 (Rect.unit (s := S1x4096x192) (k0_off1 i) S1x1024x192.size (k0_off1_inb i))
  let d : Vec F S1024x128 .bf16 := View.ld (Val := Elt F) (S := S4096x128) (e' := .bf16) x3 (Rect.unit (s := S4096x128) (k0_off2 i) S1024x128.size (k0_off2_inb i))
  let l : Vec F S1x1024x1 .f32 := View.ld (Val := Elt F) (S := S1x4096x128) (e' := .f32) x4 (Rect.unit (s := S1x4096x128) (k0_off3 i) S1x1024x1.size (k0_off3_inb i))
  let z : Vec F S1x1024x1 .f32 := View.ld (Val := Elt F) (S := S1x4096x128) (e' := .f32) x5 (Rect.unit (s := S1x4096x128) (k0_off3 i) S1x1024x1.size (k0_off3_inb i))
  (k0_pay2 k0_pay23 (k0_pay24 q) (k0_pay26 (keys x1) q l) (k0_pay28 (vals x2) d) z, k0_pay27 (keys x1) q d l)

/-- The state at a point's end. -/
def leaves (i : grid0.Coords) (x0 : Vec F S1x4096x192 .bf16) (x1 : Vec F S1x1024x192 .bf16) (x2 : Vec F S1x1024x128 .bf16) (x3 : Vec F S4096x128 .bf16) (x4 : Vec F S1x4096x128 .f32) (x5 : Vec F S1x4096x128 .f32) (a : Vec F S1x4096x192 .f32) : St F :=
  before i x0 x3 x4 x5 (k0_pay21 (keys x1)) (k0_pay22 (vals x2))
    (sums i x0 x1 x2 x3 x4 x5, put (s := S1x4096x192) (k0_off1 i) S1x1024x192.size (added i x0 x1 x2 x3 x4 x5 a) a) (k0_t1_loop i).trips

theorem hz : (![0, 0, 0] : Fin 3 → ℕ) = fun _ => 0 := by decide

/-- A rank-3 buffer stored whole reads what was stored. -/
theorem read_whole3 {κ : Kind} {sp : Space} {d : Fin 3 → ℕ} {e : EltTy} (v : View sig κ sp ⟨3, d⟩ e) (f : v.ty.Contents (Elt F))
    (inb : ∀ a, (![0, 0, 0] : Fin 3 → ℕ) a + d a ≤ d a) (w : (Rect.unit (s := ⟨3, d⟩) ![0, 0, 0] d inb).shape.Idx → Elt F e) :
    v.read (Elt F) (v.writes (Elt F) f [⟨Rect.unit (s := ⟨3, d⟩) ![0, 0, 0] d inb, w⟩]) = w := by
  refine (read_put v f _ _ inb w []).trans (funext fun y => ?_)
  unfold put
  rw [dif_pos (by intro a; rw [hz]; exact ⟨Nat.zero_le _, by rw [Nat.zero_add]; exact (y a).isLt⟩)]
  exact congrArg w (funext fun a => Fin.ext (by rw [Rect.unitLocal_val, hz]; rfl))

/-- The block of the queries' gradient zeroed and then added to in the diagonal chunk's rows. -/
theorem diag_zero {κ : Kind} {sp : Space} (v : View sig κ sp S1x4096x192 .f32) (off : Fin 3 → ℕ)
    (inb : ∀ a, off a + S1x1024x192.size a ≤ S1x4096x192.size a) (w : Vec F S1x4096x192 .f32 → Vec F S1x1024x192 .f32) :
    v.read (Elt F) (v.writes (Elt F) v.junk [⟨Rect.unit (s := S1x4096x192) off S1x1024x192.size inb,
        w (v.read (Elt F) (v.writes (Elt F) v.junk [⟨Rect.unit (s := S1x4096x192) ![0, 0, 0] S1x4096x192.size inb_S1x4096x192_S1x4096x192_0_0_0, k0_pay20 (F := F)⟩]))⟩,
        ⟨Rect.unit (s := S1x4096x192) ![0, 0, 0] S1x4096x192.size inb_S1x4096x192_S1x4096x192_0_0_0, k0_pay20 (F := F)⟩])
      = put (s := S1x4096x192) off S1x1024x192.size (w k0_pay20) k0_pay20 := by
  rw [read_put, read_whole3]

set_option maxHeartbeats 2000000 in
/-- A later point of a head: the queries' gradient block is read as the point before left it. -/
theorem runLater (c : Dev nD) (i : grid0.Coords) (arg2 : Memref sig .tc .vmem S1x4096x192 .bf16) (harg2 : arg2.IsWhole)
    (arg3 : Memref sig .tc .vmem S1x1024x192 .bf16) (harg3 : arg3.IsWhole)
    (arg4 : Memref sig .tc .vmem S1x1024x128 .bf16) (harg4 : arg4.IsWhole)
    (arg5 : Memref sig .tc .vmem S4096x128 .bf16) (harg5 : arg5.IsWhole)
    (arg6 : Memref sig .tc .vmem S1x4096x128 .f32) (harg6 : arg6.IsWhole)
    (arg7 : Memref sig .tc .vmem S1x4096x128 .f32) (harg7 : arg7.IsWhole)
    (arg8 : Memref sig .tc .vmem S1x4096x192 .f32) (harg8 : arg8.IsWhole)
    (arg9 : Memref sig .tc .vmem S1x1024x192 .f32) (harg9 : arg9.IsWhole)
    (arg10 : Memref sig .tc .vmem S1x1024x128 .f32) (harg10 : arg10.IsWhole)
    (hc : ¬cond i) (x0 : Vec F S1x4096x192 .bf16) (x1 : Vec F S1x1024x192 .bf16) (x2 : Vec F S1x1024x128 .bf16) (x3 : Vec F S4096x128 .bf16) (x4 : Vec F S1x4096x128 .f32) (x5 : Vec F S1x4096x128 .f32) (x6 : Vec F S1x4096x192 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (leaves i x0 x1 x2 x3 x4 x5 x6).2 ∗ owns (c : Thread nD τ) arg9 fullShare (k0_pay18 (leaves i x0 x1 x2 x3 x4 x5 x6).1.1)
            ∗ owns (c : Thread nD τ) arg10 fullShare (k0_pay19 (leaves i x0 x1 x2 x3 x4 x5 x6).1.2)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10) K := by
  simp only [cc0_attn_bwd_eq_skeleton]; unfold cc0_attn_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec (disch := first | sl_exact hc)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]
  · iexists _; isplitr; swap; · iexact H6
    ipureintro
    refine Eq.trans (by assumption) ?_
    unfold leaves
    exact congrArg (fun g => (before i _ _ _ _ _ _ (_, g) _).2) (read_put arg8.view f6 (k0_off1 i) S1x1024x192.size (k0_off1_inb i) _ [])
  isplitl [H7]
  · iexists _; isplitr; swap; · iexact H7
    ipureintro
    refine (read_whole3 arg9.view f7 _ _).trans ?_
    unfold leaves
    exact congrArg (fun g => k0_pay18 (before i _ _ _ _ _ _ (_, g) _).1.1) (read_put arg8.view f6 (k0_off1 i) S1x1024x192.size (k0_off1_inb i) _ [])
  iexists _; isplitr; swap; · iexact H8
  ipureintro
  refine (read_whole3 arg10.view f8 _ _).trans ?_
  unfold leaves
  exact congrArg (fun g => k0_pay19 (before i _ _ _ _ _ _ (_, g) _).1.2) (read_put arg8.view f6 (k0_off1 i) S1x1024x192.size (k0_off1_inb i) _ [])

set_option maxHeartbeats 2000000 in
/-- The first point of a head: the queries' gradient block is zeroed first. -/
theorem runFirst (c : Dev nD) (i : grid0.Coords) (arg2 : Memref sig .tc .vmem S1x4096x192 .bf16) (harg2 : arg2.IsWhole)
    (arg3 : Memref sig .tc .vmem S1x1024x192 .bf16) (harg3 : arg3.IsWhole)
    (arg4 : Memref sig .tc .vmem S1x1024x128 .bf16) (harg4 : arg4.IsWhole)
    (arg5 : Memref sig .tc .vmem S4096x128 .bf16) (harg5 : arg5.IsWhole)
    (arg6 : Memref sig .tc .vmem S1x4096x128 .f32) (harg6 : arg6.IsWhole)
    (arg7 : Memref sig .tc .vmem S1x4096x128 .f32) (harg7 : arg7.IsWhole)
    (arg8 : Memref sig .tc .vmem S1x4096x192 .f32) (harg8 : arg8.IsWhole)
    (arg9 : Memref sig .tc .vmem S1x1024x192 .f32) (harg9 : arg9.IsWhole)
    (arg10 : Memref sig .tc .vmem S1x1024x128 .f32) (harg10 : arg10.IsWhole)
    (hc : cond i) (x0 : Vec F S1x4096x192 .bf16) (x1 : Vec F S1x1024x192 .bf16) (x2 : Vec F S1x1024x128 .bf16) (x3 : Vec F S4096x128 .bf16) (x4 : Vec F S1x4096x128 .f32) (x5 : Vec F S1x4096x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (leaves i x0 x1 x2 x3 x4 x5 k0_pay20).2 ∗ owns (c : Thread nD τ) arg9 fullShare (k0_pay18 (leaves i x0 x1 x2 x3 x4 x5 k0_pay20).1.1)
            ∗ owns (c : Thread nD τ) arg10 fullShare (k0_pay19 (leaves i x0 x1 x2 x3 x4 x5 k0_pay20).1.2)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10) K := by
  simp only [cc0_attn_bwd_eq_skeleton]; unfold cc0_attn_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec (disch := first | sl_exact hc)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]
  · iexists _; isplitr; swap; · iexact H6
    ipureintro
    refine Eq.trans (by assumption) ?_
    unfold leaves
    exact congrArg (fun g => (before i _ _ _ _ _ _ (_, g) _).2) (diag_zero arg8.view (k0_off1 i) (k0_off1_inb i) (added i _ _ _ _ _ _))
  isplitl [H7]
  · iexists _; isplitr; swap; · iexact H7
    ipureintro
    refine (read_whole3 arg9.view f7 _ _).trans ?_
    unfold leaves
    exact congrArg (fun g => k0_pay18 (before i _ _ _ _ _ _ (_, g) _).1.1) (diag_zero arg8.view (k0_off1 i) (k0_off1_inb i) (added i _ _ _ _ _ _))
  iexists _; isplitr; swap; · iexact H8
  ipureintro
  refine (read_whole3 arg10.view f8 _ _).trans ?_
  unfold leaves
  exact congrArg (fun g => k0_pay19 (before i _ _ _ _ _ _ (_, g) _).1.2) (diag_zero arg8.view (k0_off1 i) (k0_off1_inb i) (added i _ _ _ _ _ _))

end AttnRun

end
-- ==== Proof.AttnValue.lean ====
/-
  The attention gradient's kernel over the reals: the state at the end of every grid point is a partial sum of the
  three gradients' sums.
-/
module

public import proofs.«01_k».proof.Proof.AttnPay
public import proofs.«01_k».proof.Proof.AttnPoint
public import Idealize.ShloMosaic.Lib.Pipeline.ValueKit.Tiles

@[expose] public section

set_option maxRecDepth 16384

noncomputable section

namespace AttnRun

open Cert Cert.AttnIdeal Cert.AttnIdeal.Gen AttnPay
open Idealize.ShloMosaic hiding ix1 ix2 ix3
open Idealize.ShloMosaic.ValueIdx

/-- The sum of the terms before `n`. -/
def upto (n : ℕ) (f : Fin 4096 → ℝ) : ℝ := ∑ i, if i.val < n then f i else 0

/-- Row `r` of block `b`. -/
def row (b : Fin 4) (r : Fin 1024) : Fin 4096 := ⟨1024 * b.val + r.val, by omega⟩

theorem row_div (j : Fin 4096) : ∃ b r, j = row b r :=
  ⟨⟨j.val / 1024, by omega⟩, ⟨j.val % 1024, by omega⟩, Fin.ext (show j.val = 1024 * (j.val / 1024) + j.val % 1024 by omega)⟩

theorem upto_all (f : Fin 4096 → ℝ) : upto 4096 f = ∑ i, f i := Finset.sum_congr rfl fun i _ => if_pos i.isLt

theorem upto_zero {n : ℕ} {f : Fin 4096 → ℝ} (h : ∀ i, i.val < n → f i = 0) : upto n f = 0 :=
  Finset.sum_eq_zero fun i _ => by
    split
    · rename_i q; exact h i q
    · rfl

/-- One block more. -/
theorem upto_block (b : Fin 4) (f : Fin 4096 → ℝ) : upto (1024 * (b.val + 1)) f = upto (1024 * b.val) f + ∑ r, f (row b r) := by
  have e : ∑ r, f (row b r) = ∑ i : Fin 4096, if 1024 * b.val ≤ i.val ∧ i.val < 1024 * (b.val + 1) then f i else 0 := by
    rw [← Finset.sum_filter]
    refine Finset.sum_bij (fun r _ => row b r) (fun r _ => ?_) (fun r _ s _ h => ?_) (fun i hi => ?_) fun r _ => rfl
    · rw [Finset.mem_filter]
      exact ⟨Finset.mem_univ _, show 1024 * b.val ≤ 1024 * b.val + r.val by omega, show 1024 * b.val + r.val < _ by omega⟩
    · have := congrArg Fin.val h
      exact Fin.ext (by simp only [row] at this; omega)
    · have := (Finset.mem_filter.mp hi).2
      exact ⟨⟨i.val - 1024 * b.val, by omega⟩, Finset.mem_univ _, Fin.ext (show 1024 * b.val + (i.val - 1024 * b.val) = i.val by omega)⟩
  rw [e]
  unfold upto
  rw [← Finset.sum_add_distrib]
  refine Finset.sum_congr rfl fun i _ => ?_
  by_cases h1 : i.val < 1024 * b.val
  · rw [if_pos (by omega), if_pos h1, if_neg (by omega), add_zero]
  by_cases h2 : i.val < 1024 * (b.val + 1)
  · rw [if_pos h2, if_neg h1, if_pos (by omega), zero_add]
  · rw [if_neg h2, if_neg h1, if_neg (by omega), add_zero]

/-- What one head's gradient is computed from: queries, keys, values, the result's gradient, and for every row the
    logarithm of its normaliser and the product of the result with its gradient. -/
structure Head where
  Q : Fin 4096 → Fin 192 → ℝ
  K : Fin 4096 → Fin 192 → ℝ
  V : Fin 4096 → Fin 128 → ℝ
  O : Fin 4096 → Fin 128 → ℝ
  L : Fin 4096 → ℝ
  Z : Fin 4096 → ℝ

namespace Head

variable (H : Head)

/-- The probabilities and the scores' gradient. -/
def P (i j : Fin 4096) : ℝ := if j ≤ i then Real.exp (dots H.Q H.K i j - H.L i) else 0
def S (i j : Fin 4096) : ℝ := H.P i j * (dots H.O H.V i j - H.Z i)

theorem P_zero {i j : Fin 4096} (h : i < j) : H.P i j = 0 := if_neg (not_le.mpr h)
theorem S_zero {i j : Fin 4096} (h : i < j) : H.S i j = 0 := by unfold S; rw [H.P_zero h, zero_mul]

/-- The blocks at a point of key block `b` hold the head's arrays. -/
structure Blocks (b : Fin 4) (x0 : Vec Ideal S1x4096x192 .bf16) (x1 : Vec Ideal S1x1024x192 .bf16) (x2 : Vec Ideal S1x1024x128 .bf16)
    (x3 : Vec Ideal S4096x128 .bf16) (x4 x5 : Vec Ideal S1x4096x128 .f32) : Prop where
  h0 : Ten x0 fun _ => H.Q
  h1 : Ten x1 fun _ r => H.K (row b r)
  h2 : Ten x2 fun _ r => H.V (row b r)
  h3 : Mat x3 H.O
  h4 : Ten x4 fun _ r _ => H.L r
  h5 : Ten x5 fun _ r _ => H.Z r

/-- The state when the row chunks before `n` have been added, at key block `b`. -/
structure Inv (b : Fin 4) (n : ℕ) (s : St Ideal) : Prop where
  k : Mat s.1.1 fun r c => upto (1024 * n) fun i => H.S i (row b r) * H.Q i c
  v : Mat s.1.2 fun r e => upto (1024 * n) fun i => H.P i (row b r) * H.O i e
  q : Ten s.2 fun _ r c => upto (if r.val < 1024 * n then 1024 * (b.val + 1) else 1024 * b.val) fun j => H.S r j * H.K j c

end Head

section Windows

variable {w : ℕ} {off : Fin 3 → ℕ} {n : Fin 4}

theorem ld_rows {e : EltTy} {e' : ℕ} {x : (⟨3, ![1, 4096, w]⟩ : Shape).Idx → Elt Ideal e} {g : (⟨3, ![1, 4096, w]⟩ : Shape).Idx → Elt Ideal e}
    (hx : ∀ i, x i = g i) (ho : off = ![0, 1024 * n.val, 0]) (he : e' ≤ w)
    (inb : ∀ a, off a + (![1, 1024, e'] : Fin 3 → ℕ) a ≤ (![1, 4096, w] : Fin 3 → ℕ) a) (i : (⟨3, ![1, 1024, e']⟩ : Shape).Idx) :
    View.ld (Val := Elt Ideal) (S := ⟨3, ![1, 4096, w]⟩) (e' := e) x (Rect.unit (s := ⟨3, ![1, 4096, w]⟩) off ![1, 1024, e'] inb) i
      = g (ix3 0 (row n (i 1)) ⟨(i 2).val, lt_of_lt_of_le (i 2).isLt he⟩) := by
  subst ho
  refine (View.ld_unit_apply_of (Val := Elt Ideal) (S := ⟨3, ![1, 4096, w]⟩) (e := e) x _ _ inb i (
    ix3 0 (row n (i 1)) ⟨(i 2).val, lt_of_lt_of_le (i 2).isLt he⟩) fun a => ?_).trans (hx _)
  match a with
  | ⟨0, _⟩ => have h : (i 0).val < 1 := (i 0).isLt; show 0 = 0 + (i 0).val; omega
  | ⟨1, _⟩ => exact rfl
  | ⟨2, _⟩ => exact (Nat.zero_add _).symm

theorem ld_mat {off : Fin 2 → ℕ} {e : EltTy} {x : (⟨2, ![4096, w]⟩ : Shape).Idx → Elt Ideal e} {g : (⟨2, ![4096, w]⟩ : Shape).Idx → Elt Ideal e}
    (hx : ∀ i, x i = g i) (ho : off = ![1024 * n.val, 0])
    (inb : ∀ a, off a + (![1024, w] : Fin 2 → ℕ) a ≤ (![4096, w] : Fin 2 → ℕ) a) (i : (⟨2, ![1024, w]⟩ : Shape).Idx) :
    View.ld (Val := Elt Ideal) (S := ⟨2, ![4096, w]⟩) (e' := e) x (Rect.unit (s := ⟨2, ![4096, w]⟩) off ![1024, w] inb) i
      = g (ix2 (row n (i 0)) (i 1)) := by
  subst ho
  refine (View.ld_unit_apply_of (Val := Elt Ideal) (S := ⟨2, ![4096, w]⟩) (e := e) x _ _ inb i (ix2 (row n (i 0)) (i 1)) fun a => ?_).trans (hx _)
  match a with
  | ⟨0, _⟩ => exact rfl
  | ⟨1, _⟩ => exact (Nat.zero_add _).symm

theorem put_rows {x : Vec Ideal S1x4096x192 .f32} {y : Vec Ideal S1x1024x192 .f32} {g G : Fin 4096 → Fin 192 → ℝ} {g' : Fin 1024 → Fin 192 → ℝ}
    (hx : Ten x fun _ => g) (hy : Ten y fun _ => g') (ho : off = ![0, 1024 * n.val, 0]) (hin : ∀ r c, g' r c = G (row n r) c)
    (hout : ∀ i c, ¬(1024 * n.val ≤ i.val ∧ i.val < 1024 * n.val + 1024) → g i c = G i c) :
    Ten (put (s := S1x4096x192) off S1x1024x192.size y x) fun _ => G := fun i => by
  subst ho
  have h0 : (i 0).val < 1 := (i 0).isLt
  have h2 : (i 2).val < 192 := (i 2).isLt
  unfold put
  split
  · rename_i h
    have h1 : 1024 * n.val ≤ (i 1).val ∧ (i 1).val < 1024 * n.val + 1024 := h 1
    refine (hy _).trans (congrArg _ ((hin _ _).trans (congrArg₂ G (Fin.ext ?_) (Fin.ext ?_))))
    · show 1024 * n.val + ((i 1).val - 1024 * n.val) = (i 1).val
      omega
    · exact Nat.sub_zero _
  · rename_i h
    refine (hx i).trans (congrArg _ (hout _ _ fun h1 => h fun a => ?_))
    match a with
    | ⟨0, _⟩ => exact ⟨Nat.zero_le _, show (i 0).val < 0 + 1 by omega⟩
    | ⟨1, _⟩ => exact h1
    | ⟨2, _⟩ => exact ⟨Nat.zero_le _, show (i 2).val < 0 + 192 by omega⟩

end Windows

theorem trips_eq : ∀ i : grid0.Coords, (k0_t1_loop i).trips = 3 - (i 1).val := by decide +kernel

namespace Head

variable {H : Head} {b : Fin 4} {i : grid0.Coords} {x0 : Vec Ideal S1x4096x192 .bf16} {x1 : Vec Ideal S1x1024x192 .bf16}
  {x2 : Vec Ideal S1x1024x128 .bf16} {x3 : Vec Ideal S4096x128 .bf16} {x4 x5 : Vec Ideal S1x4096x128 .f32}

theorem keys_eq (x1 : Vec Ideal S1x1024x192 .bf16) : keys x1 = x1 := View.ld_unit_zero (S := S1x1024x192) hz _ _
theorem vals_eq (x2 : Vec Ideal S1x1024x128 .bf16) : vals x2 = x2 := View.ld_unit_zero (S := S1x1024x128) hz _ _

/-- Below the diagonal every probability of the chunk counts, on it those up to the diagonal. -/
theorem pr_eq {n : Fin 4} (h : b.val < n.val) (r c : Fin 1024) :
    pr (fun r => H.Q (row n r)) (fun c => H.K (row b c)) (fun r => H.L (row n r)) r c = H.P (row n r) (row b c) :=
  (if_pos (show 1024 * b.val + c.val ≤ 1024 * n.val + r.val by omega)).symm

theorem pd_eq (r c : Fin 1024) :
    pd (fun r => H.Q (row b r)) (fun c => H.K (row b c)) (fun r => H.L (row b r)) r c = H.P (row b r) (row b c) := by
  unfold pd P
  have e : (row b c ≤ row b r) = (c ≤ r) := propext ⟨fun h => (by
    have h' : 1024 * b.val + c.val ≤ 1024 * b.val + r.val := h
    exact Fin.le_def.mpr (by omega)), fun h => show 1024 * b.val + c.val ≤ 1024 * b.val + r.val from by have := Fin.le_def.mp h; omega⟩
  simp only [e]
  exact rfl

theorem pr_ds {n : Fin 4} (h : b.val < n.val) (r c : Fin 1024) :
    ds (pr (fun r => H.Q (row n r)) (fun c => H.K (row b c)) (fun r => H.L (row n r))) (fun r => H.O (row n r)) (fun c => H.V (row b c))
      (fun r => H.Z (row n r)) r c = H.S (row n r) (row b c) := by
  unfold ds S; rw [pr_eq h]; rfl

theorem pd_ds (r c : Fin 1024) :
    ds (pd (fun r => H.Q (row b r)) (fun c => H.K (row b c)) (fun r => H.L (row b r))) (fun r => H.O (row b r)) (fun c => H.V (row b c))
      (fun r => H.Z (row b r)) r c = H.S (row b r) (row b c) := by
  unfold ds S; rw [pd_eq]; rfl

/-- One row chunk below the diagonal. -/
theorem Inv.trip {s : St Ideal} (hB : H.Blocks b x0 x1 x2 x3 x4 x5) (hb : (i 1).val = b.val) (k : Fin (k0_t1_loop i).trips)
    (hs : H.Inv b (b.val + 1 + k.val) s) :
    H.Inv b (b.val + 1 + k.val + 1) (trip i x0 x3 x4 x5 (k0_pay21 (keys x1)) (k0_pay22 (vals x2)) k s) := by
  have hk : k.val < 3 - b.val := by have := k.isLt; have := trips_eq i; omega
  let n : Fin 4 := ⟨b.val + 1 + k.val, by omega⟩
  have hbn : b.val < n.val := by show b.val < b.val + 1 + k.val; omega
  have e4 : k0_off4 i k = ![0, 1024 * n.val, 0] := (k0_off4_eq i k).trans (by
    rw [show 1024 * (i 1).val + 1024 * k.val + 1024 = 1024 * n.val from by rw [hb]; show _ = 1024 * (b.val + 1 + k.val); omega])
  have e5 : k0_off5 i k = ![1024 * n.val, 0] := (k0_off5_eq i k).trans (by
    rw [show 1024 * (i 1).val + 1024 * k.val + 1024 = 1024 * n.val from by rw [hb]; show _ = 1024 * (b.val + 1 + k.val); omega])
  have e6 : k0_off6 i k = ![0, 1024 * n.val, 0] := (k0_off6_eq i k).trans (by
    rw [show 1024 * (i 1).val + 1024 * k.val + 1024 = 1024 * n.val from by rw [hb]; show _ = 1024 * (b.val + 1 + k.val); omega])
  have h4 := pay21 (hB.h1)
  have h6 := pay22 (hB.h2)
  rw [keys_eq, vals_eq]
  have hq := ld_rows (e := .bf16) (n := n) hB.h0 e4 le_rfl (k0_off4_inb i k)
  have hd := ld_mat (e := .bf16) (n := n) hB.h3 e5 (k0_off5_inb i k)
  have hl := ld_rows (e := .f32) (n := n) (e' := 1) hB.h4 e6 (by decide) (k0_off6_inb i k)
  have hz := ld_rows (e := .f32) (n := n) (e' := 1) hB.h5 e6 (by decide) (k0_off6_inb i k)
  have ha := ld_rows (e := .f32) (n := n) hs.q e4 le_rfl (k0_off4_inb i k)
  refine ⟨?_, ?_, ?_⟩
  · refine Rep.cast (pay9 (q := fun r => H.Q (row n r)) (d := fun r => H.O (row n r)) (l := fun r => H.L (row n r)) (z := fun r => H.Z (row n r))
      h4 h6 hs.k hq hd hl hz) fun j => ?_
    exact (congrArg (_ + ·) (Finset.sum_congr rfl fun r _ => congrArg (· * H.Q (row n r) (j 1)) (pr_ds hbn r (j 0)))).trans
      (upto_block n fun i => H.S i (row b (j 0)) * H.Q i (j 1)).symm
  · refine Rep.cast (pay7 (q := fun r => H.Q (row n r)) (d := fun r => H.O (row n r)) (l := fun r => H.L (row n r))
      h4 hs.v hq hd hl) fun j => ?_
    exact (congrArg (_ + ·) (Finset.sum_congr rfl fun r _ => congrArg (· * H.O (row n r) (j 1)) (pr_eq hbn r (j 0)))).trans
      (upto_block n fun i => H.P i (row b (j 0)) * H.O i (j 1)).symm
  · refine put_rows hs.q (pay10 (q := fun r => H.Q (row n r)) (d := fun r => H.O (row n r)) (l := fun r => H.L (row n r)) (z := fun r => H.Z (row n r))
      (g := fun r c => upto (if (row n r).val < 1024 * (b.val + 1 + k.val) then 1024 * (b.val + 1) else 1024 * b.val) fun j => H.S (row n r) j * H.K j c)
      h4 h6 hq hd hl hz ha) e4 (fun r c => ?_) fun r c h => ?_
    · simp only [pr_ds hbn]
      rw [if_neg (show ¬(row n r).val < 1024 * (b.val + 1 + k.val) from fun h => by have : n.val = b.val + 1 + k.val := rfl; have : (row n r).val = 1024 * n.val + r.val := rfl; omega),
        if_pos (show (row n r).val < 1024 * (b.val + 1 + k.val + 1) from by have : n.val = b.val + 1 + k.val := rfl; have : (row n r).val = 1024 * n.val + r.val := rfl; omega)]
      exact (upto_block b _).symm
    · have hn : n.val = b.val + 1 + k.val := rfl
      have e : (r.val < 1024 * (b.val + 1 + k.val)) = (r.val < 1024 * (b.val + 1 + k.val + 1)) := propext ⟨fun _ => by omega, fun _ => by omega⟩
      simp only [e]

theorem diag_k (c : Fin 1024) (e : Fin 192) :
    0 + ∑ r, ds (pd (fun r => H.Q (row b r)) (fun c => H.K (row b c)) (fun r => H.L (row b r))) (fun r => H.O (row b r)) (fun c => H.V (row b c))
      (fun r => H.Z (row b r)) r c * H.Q (row b r) e = upto (1024 * (b.val + 1)) fun i => H.S i (row b c) * H.Q i e := by
  rw [upto_block b, upto_zero fun i hi => by rw [H.S_zero (show i.val < 1024 * b.val + c.val by omega), zero_mul]]
  exact congrArg (_ + ·) (Finset.sum_congr rfl fun r _ => congrArg (· * H.Q (row b r) e) (pd_ds r c))

theorem diag_v (c : Fin 1024) (e : Fin 128) :
    0 + ∑ r, pd (fun r => H.Q (row b r)) (fun c => H.K (row b c)) (fun r => H.L (row b r)) r c * H.O (row b r) e
      = upto (1024 * (b.val + 1)) fun i => H.P i (row b c) * H.O i e := by
  rw [upto_block b, upto_zero fun i hi => by rw [H.P_zero (show i.val < 1024 * b.val + c.val by omega), zero_mul]]
  exact congrArg (_ + ·) (Finset.sum_congr rfl fun r _ => congrArg (· * H.O (row b r) e) (pd_eq r c))

/-- The diagonal chunk. -/
theorem Inv.diag {a : Vec Ideal S1x4096x192 .f32} (hB : H.Blocks b x0 x1 x2 x3 x4 x5) (hb : (i 1).val = b.val)
    (ha : Ten a fun _ r c => upto (1024 * b.val) fun j => H.S r j * H.K j c) :
    H.Inv b (b.val + 1) (sums i x0 x1 x2 x3 x4 x5, put (s := S1x4096x192) (k0_off1 i) S1x1024x192.size (added i x0 x1 x2 x3 x4 x5 a) a) := by
  have e1 : k0_off1 i = ![0, 1024 * b.val, 0] := (k0_off1_eq i).trans (by rw [hb])
  have e2 : k0_off2 i = ![1024 * b.val, 0] := (k0_off2_eq i).trans (by rw [hb])
  have e3 : k0_off3 i = ![0, 1024 * b.val, 0] := (k0_off3_eq i).trans (by rw [hb])
  have hq := ld_rows (e := .bf16) (n := b) hB.h0 e1 le_rfl (k0_off1_inb i)
  have hd := ld_mat (e := .bf16) (n := b) hB.h3 e2 (k0_off2_inb i)
  have hl := ld_rows (e := .f32) (n := b) (e' := 1) hB.h4 e3 (by decide) (k0_off3_inb i)
  have hz := ld_rows (e := .f32) (n := b) (e' := 1) hB.h5 e3 (by decide) (k0_off3_inb i)
  have hg := ld_rows (e := .f32) (n := b) ha e1 le_rfl (k0_off1_inb i)
  unfold sums added
  rw [keys_eq, vals_eq]
  refine ⟨?_, ?_, ?_⟩
  · refine Rep.cast (pay2 (q := fun r => H.Q (row b r)) (d := fun r => H.O (row b r)) (l := fun r => H.L (row b r)) (z := fun r => H.Z (row b r))
      hB.h1 hB.h2 hq hd hl hz) fun j => ?_
    exact diag_k (j 0) (j 1)
  · refine Rep.cast (pay27 (q := fun r => H.Q (row b r)) (d := fun r => H.O (row b r)) (l := fun r => H.L (row b r))
      hB.h1 hq hd hl) fun j => ?_
    exact diag_v (j 0) (j 1)
  · refine put_rows ha (pay3 (q := fun r => H.Q (row b r)) (d := fun r => H.O (row b r)) (l := fun r => H.L (row b r)) (z := fun r => H.Z (row b r))
      (g := fun r c => upto (1024 * b.val) fun j => H.S (row b r) j * H.K j c) hB.h1 hB.h2 hq hd hl hz hg) e1 (fun r c => ?_) fun r c h => ?_
    · simp only [pd_ds]
      rw [if_pos (show (row b r).val < 1024 * (b.val + 1) from show 1024 * b.val + r.val < _ by omega)]
      exact (upto_block b _).symm
    · by_cases hr : r.val < 1024 * b.val
      · rw [if_pos (by omega), upto_block b]
        refine ((add_zero _).symm.trans (congrArg _ (Finset.sum_eq_zero fun j _ => ?_).symm))
        rw [H.S_zero (show r.val < 1024 * b.val + j.val by omega), zero_mul]
      · rw [if_neg (by omega)]

/-- A whole point. -/
theorem Inv.leaves {a : Vec Ideal S1x4096x192 .f32} (hB : H.Blocks b x0 x1 x2 x3 x4 x5) (hb : (i 1).val = b.val)
    (ha : Ten a fun _ r c => upto (1024 * b.val) fun j => H.S r j * H.K j c) : H.Inv b 4 (leaves i x0 x1 x2 x3 x4 x5 a) := by
  have h : ∀ k, k ≤ (k0_t1_loop i).trips → H.Inv b (b.val + 1 + k) (before i x0 x3 x4 x5 (k0_pay21 (keys x1)) (k0_pay22 (vals x2))
      (sums i x0 x1 x2 x3 x4 x5, put (s := S1x4096x192) (k0_off1 i) S1x1024x192.size (added i x0 x1 x2 x3 x4 x5 a) a) k) := by
    intro k
    induction k with
    | zero => exact fun _ => Inv.diag hB hb ha
    | succ k ih =>
      intro hk
      rw [before_succ i x0 x3 x4 x5 _ _ _ ⟨k, hk⟩]
      exact Inv.trip hB hb ⟨k, hk⟩ (ih (Nat.le_of_succ_le hk))
  have := h _ le_rfl
  rw [show b.val + 1 + (k0_t1_loop i).trips = 4 from by rw [trips_eq]; omega] at this
  exact this

end Head

end AttnRun

end
-- ==== Proof.AttnFrame.lean ====
/-
  The attention gradient's launch: what the three result windows hold after every grid point, and the frames of the
  kernel and of its idealisation, which are one program.
-/
module

public import proofs.«01_k».proof.Proof.AttnPoint
public import Idealize.ShloMosaic.Lib.Claim
public import Idealize.ShloMosaic.Lib.Pipeline.ReadBack
public import Idealize.ShloMosaic.Lib.WritesUnit
public import Idealize.ShloMosaic.Lib.Pipeline.Value
public import Idealize.ShloMosaic.Lib.Tactic
public import Idealize.ShloMosaic.Lib.WordCmp

@[expose] public section

set_option maxRecDepth 16384

noncomputable section

namespace AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cond_iff : ∀ t : Fin cfg0.N, cond (grid0.coords t) ↔ t.val % 4 = 0 :=
  (by decide +kernel : ∀ t : Fin grid0.N, cond (grid0.coords t) ↔ t.val % 4 = 0)

/-- The state at the end of point `n`: from zeros at the first point of a head, from the point before at a later one. -/
def left (c : Dev nD) : (n : ℕ) → n < cfg0.N → St F
  | 0, hn => leaves (grid0.coords ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) k0_pay20
  | n + 1, hn => if (n + 1) % 4 = 0
      then leaves (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) k0_pay20
      else leaves (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (left c n (Nat.lt_of_succ_lt hn)).2

theorem left_first (c : Dev nD) (t : Fin cfg0.N) (h : t.val % 4 = 0) :
    left m c t.val t.isLt = leaves (grid0.coords t) (iblk m c 0 t) (iblk m c 1 t) (iblk m c 2 t) (iblk m c 3 t) (iblk m c 4 t) (iblk m c 5 t) k0_pay20 := by
  obtain ⟨n, hn⟩ := t
  cases n with
  | zero => exact rfl
  | succ n => exact if_pos h

theorem left_later (c : Dev nD) (t : Fin cfg0.N) (h : ¬t.val % 4 = 0) :
    left m c t.val t.isLt = leaves (grid0.coords t) (iblk m c 0 t) (iblk m c 1 t) (iblk m c 2 t) (iblk m c 3 t) (iblk m c 4 t) (iblk m c 5 t)
      (left m c (t.val - 1) (Nat.lt_of_le_of_lt (Nat.sub_le _ _) t.isLt)).2 := by
  obtain ⟨n, hn⟩ := t
  cases n with
  | zero => exact absurd (Nat.zero_mod _) h
  | succ n => exact if_neg h

/-- The launch's proof data: inputs at their blocks, results at the state's parts. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (left m c t.val t.isLt).2
    | ⟨7, _⟩ => k0_pay18 (left m c t.val t.isLt).1.1
    | ⟨8, _⟩ => k0_pay19 (left m c t.val t.isLt).1.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (left m c t.val t.isLt).2 := by dsimp only [dats]
theorem after7 (c : Dev nD) (t : Fin cfg0.N) : (dats m 0 c).after 7 t = k0_pay18 (left m c t.val t.isLt).1.1 := by dsimp only [dats]
theorem after8 (c : Dev nD) (t : Fin cfg0.N) : (dats m 0 c).after 8 t = k0_pay19 (left m c t.val t.isLt).1.2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- A later point of a head finds the queries' gradient block as the point before left it. -/
theorem before6 (c : Dev nD) (t : Fin cfg0.N) (h : ¬t.val % 4 = 0) (d) :
    (dats m 0 c).before 6 t d = (left m c (t.val - 1) (Nat.lt_of_le_of_lt (Nat.sub_le _ _) t.isLt)).2 := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ owns (c : Thread nD τ) ((cfg0.win 5).stage (cfg0.slots t 5)) fullShare ((dats m 0 c).after 5 t)
    ∗ owns (c : Thread nD τ) ((cfg0.win 6).stage (cfg0.slots t 6)) fullShare ((dats m 0 c).after 6 t)
    ∗ owns (c : Thread nD τ) ((cfg0.win 7).stage (cfg0.slots t 7)) fullShare ((dats m 0 c).after 7 t)
    ∗ owns (c : Thread nD τ) ((cfg0.win 8).stage (cfg0.slots t 8)) fullShare ((dats m 0 c).after 8 t))

set_option maxHeartbeats 1600000 in
theorem sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  by_cases h : t.val % 4 = 0
  · rw [left_first m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runFirst c (grid0.coords t) _ _ _ _ _ _ _ _ _ _ _ _ _ _ _ _ _ _ ((cond_iff t).mpr h) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [left_later m c t h]
    simp only [before6 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runLater c (grid0.coords t) _ _ _ _ _ _ _ _ _ _ _ _ _ _ _ _ _ _ (fun q => h ((cond_iff t).mp q)) (iblk m c 0 t) (iblk m c 1 t) (iblk m c 2 t) (iblk m c 3 t) (iblk m c 4 t) (iblk m c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

set_option backward.isDefEq.respectTransparency.types false in
/-- The launch: every window's array ends at what the proof data say, and no semaphore count is left. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The frame, over any values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_quiescent m ρ))

end AttnRun

end
-- ==== Proof.AttnKernel.lean ====
/-
  The attention gradient's kernel over the reals: the blocks the points read, and the three arrays the launch leaves.
-/
module

public import proofs.«01_k».proof.Proof.AttnValue
public import proofs.«01_k».proof.Proof.AttnFrame

@[expose] public section

set_option maxRecDepth 16384

noncomputable section

namespace AttnRun

open Cert Cert.AttnIdeal Cert.AttnIdeal.Gen AttnPay
open Idealize.ShloMosaic hiding ix1 ix2 ix3
open Idealize.ShloMosaic.ValueIdx Idealize.ShloMosaic.TcCoe Idealize.SL.Sem

/-- The head and the key block of a point. -/
def hd (t : Fin cfg0.N) : Fin 8 := ⟨t.val / 4, by have := t.isLt; have : cfg0.N = 32 := N_0; omega⟩
def kb (t : Fin cfg0.N) : Fin 4 := ⟨t.val % 4, Nat.mod_lt _ (by norm_num)⟩

/-- Column `e` of head `h` in an array that sets the heads side by side. -/
def col (h : Fin 8) (e : Fin 128) : Fin 1024 := ⟨128 * h.val + e.val, by omega⟩

theorem coord1 : ∀ t : Fin cfg0.N, ((grid0.coords t) 1).val = (kb t).val := by decide +kernel
theorem index0 : ∀ t : Fin cfg0.N, win0_0.index t 0 = t.val / 4 ∧ win0_0.index t 1 = 0 ∧ win0_0.index t 2 = 0 := by decide +kernel
theorem index1 : ∀ t : Fin cfg0.N, win0_1.index t 0 = t.val / 4 ∧ win0_1.index t 1 = t.val % 4 ∧ win0_1.index t 2 = 0 := by decide +kernel
theorem index2 : ∀ t : Fin cfg0.N, win0_2.index t 0 = t.val / 4 ∧ win0_2.index t 1 = t.val % 4 ∧ win0_2.index t 2 = 0 := by decide +kernel
theorem index3 : ∀ t : Fin cfg0.N, win0_3.index t 0 = 0 ∧ win0_3.index t 1 = t.val / 4 := by decide +kernel
theorem index4 : ∀ t : Fin cfg0.N, win0_4.index t 0 = t.val / 4 ∧ win0_4.index t 1 = 0 ∧ win0_4.index t 2 = 0 := by decide +kernel
theorem index5 : ∀ t : Fin cfg0.N, win0_5.index t 0 = t.val / 4 ∧ win0_5.index t 1 = 0 ∧ win0_5.index t 2 = 0 := by decide +kernel
theorem index6 : ∀ t : Fin cfg0.N, win0_6.index t 0 = t.val / 4 ∧ win0_6.index t 1 = 0 ∧ win0_6.index t 2 = 0 := by decide +kernel
theorem index7 : ∀ t : Fin cfg0.N, win0_7.index t 0 = t.val / 4 ∧ win0_7.index t 1 = t.val % 4 ∧ win0_7.index t 2 = 0 := by decide +kernel
theorem index8 : ∀ t : Fin cfg0.N, win0_8.index t 0 = t.val / 4 ∧ win0_8.index t 1 = t.val % 4 ∧ win0_8.index t 2 = 0 := by decide +kernel

/-- What the launch finds in its arrays. -/
structure Entry (m : (ℓ : Loc nD τ sig) → Buf (Elt Ideal) ℓ) (c : Dev nD) (H : Fin 8 → Head) : Prop where
  q : Ten (V m c main_v28) fun h => (H h).Q
  k : Ten (V m c main_v29) fun h => (H h).K
  v : Ten (V m c main_v30) fun h => (H h).V
  o : ∃ g, Mat (V m c main_v31) g ∧ ∀ h r e, g r (col h e) = (H h).O r e
  l : Ten (V m c main_v18) fun h r _ => (H h).L r
  z : Ten (V m c main_v27) fun h r _ => (H h).Z r

variable {m : (ℓ : Loc nD τ sig) → Buf (Elt Ideal) ℓ} {c : Dev nD} {H : Fin 8 → Head}

theorem blk0 {A : (⟨3, ![8, 4096, 192]⟩ : Shape).Idx → EReal} (h0 : Ten A fun h => (H h).Q) (t : Fin cfg0.N) :
    Ten (a := 1) (b := 4096) (c := 192) (((cfg0.win 0).blk t).view.read (Elt Ideal) A) (fun _ => (H (hd t)).Q) := fun j => by
  have hj : (j 0).val < 1 := (j 0).isLt
  rw [View.read_apply]
  refine Eq.trans ?_ (h0 (ix3 (hd t) (j 1) (j 2)))
  refine congrArg A (funext fun a => Fin.ext ?_)
  match a with
  | ⟨0, _⟩ => show win0_0.index t 0 * 1 + 1 * (j 0).val = t.val / 4; rw [(index0 t).1]; omega
  | ⟨1, _⟩ => show win0_0.index t 1 * 4096 + 1 * (j 1).val = (j 1).val; rw [(index0 t).2.1]; omega
  | ⟨2, _⟩ => show win0_0.index t 2 * 192 + 1 * (j 2).val = (j 2).val; rw [(index0 t).2.2]; omega

theorem blk1 {A : (⟨3, ![8, 4096, 192]⟩ : Shape).Idx → EReal} (h0 : Ten A fun h => (H h).K) (t : Fin cfg0.N) :
    Ten (a := 1) (b := 1024) (c := 192) (((cfg0.win 1).blk t).view.read (Elt Ideal) A) (fun _ r => (H (hd t)).K (row (kb t) r)) := fun j => by
  have hj : (j 0).val < 1 := (j 0).isLt
  rw [View.read_apply]
  refine Eq.trans ?_ (h0 (ix3 (hd t) (row (kb t) (j 1)) (j 2)))
  refine congrArg A (funext fun a => Fin.ext ?_)
  match a with
  | ⟨0, _⟩ => show win0_1.index t 0 * 1 + 1 * (j 0).val = t.val / 4; rw [(index1 t).1]; omega
  | ⟨1, _⟩ => show win0_1.index t 1 * 1024 + 1 * (j 1).val = 1024 * (t.val % 4) + (j 1).val; rw [(index1 t).2.1]; omega
  | ⟨2, _⟩ => show win0_1.index t 2 * 192 + 1 * (j 2).val = (j 2).val; rw [(index1 t).2.2]; omega

theorem blk2 {A : (⟨3, ![8, 4096, 128]⟩ : Shape).Idx → EReal} (h0 : Ten A fun h => (H h).V) (t : Fin cfg0.N) :
    Ten (a := 1) (b := 1024) (c := 128) (((cfg0.win 2).blk t).view.read (Elt Ideal) A) (fun _ r => (H (hd t)).V (row (kb t) r)) := fun j => by
  have hj : (j 0).val < 1 := (j 0).isLt
  rw [View.read_apply]
  refine Eq.trans ?_ (h0 (ix3 (hd t) (row (kb t) (j 1)) (j 2)))
  refine congrArg A (funext fun a => Fin.ext ?_)
  match a with
  | ⟨0, _⟩ => show win0_2.index t 0 * 1 + 1 * (j 0).val = t.val / 4; rw [(index2 t).1]; omega
  | ⟨1, _⟩ => show win0_2.index t 1 * 1024 + 1 * (j 1).val = 1024 * (t.val % 4) + (j 1).val; rw [(index2 t).2.1]; omega
  | ⟨2, _⟩ => show win0_2.index t 2 * 128 + 1 * (j 2).val = (j 2).val; rw [(index2 t).2.2]; omega

theorem blk3 {A : (⟨2, ![4096, 1024]⟩ : Shape).Idx → EReal} (h0 : ∃ g, Mat A g ∧ ∀ h r e, g r (col h e) = (H h).O r e) (t : Fin cfg0.N) :
    Mat (n := 4096) (m := 128) (((cfg0.win 3).blk t).view.read (Elt Ideal) A) (H (hd t)).O := fun j => by
  obtain ⟨g, hg, hO⟩ := h0
  rw [View.read_apply]
  refine Eq.trans ?_ ((hg (ix2 (j 0) (col (hd t) (j 1)))).trans (congrArg _ (hO (hd t) (j 0) (j 1))))
  refine congrArg A (funext fun a => Fin.ext ?_)
  match a with
  | ⟨0, _⟩ => show win0_3.index t 0 * 4096 + 1 * (j 0).val = (j 0).val; rw [(index3 t).1]; omega
  | ⟨1, _⟩ => show win0_3.index t 1 * 128 + 1 * (j 1).val = 128 * (hd t).val + (j 1).val; rw [(index3 t).2]; show t.val / 4 * 128 + _ = 128 * (t.val / 4) + _; omega

theorem blk4 {A : (⟨3, ![8, 4096, 128]⟩ : Shape).Idx → EReal} (h0 : Ten A fun h r _ => (H h).L r) (t : Fin cfg0.N) :
    Ten (a := 1) (b := 4096) (c := 128) (((cfg0.win 4).blk t).view.read (Elt Ideal) A) (fun _ r _ => (H (hd t)).L r) := fun j => by
  have hj : (j 0).val < 1 := (j 0).isLt
  rw [View.read_apply]
  refine Eq.trans ?_ (h0 (ix3 (hd t) (j 1) (j 2)))
  refine congrArg A (funext fun a => Fin.ext ?_)
  match a with
  | ⟨0, _⟩ => show win0_4.index t 0 * 1 + 1 * (j 0).val = t.val / 4; rw [(index4 t).1]; omega
  | ⟨1, _⟩ => show win0_4.index t 1 * 4096 + 1 * (j 1).val = (j 1).val; rw [(index4 t).2.1]; omega
  | ⟨2, _⟩ => show win0_4.index t 2 * 128 + 1 * (j 2).val = (j 2).val; rw [(index4 t).2.2]; omega

theorem blk5 {A : (⟨3, ![8, 4096, 128]⟩ : Shape).Idx → EReal} (h0 : Ten A fun h r _ => (H h).Z r) (t : Fin cfg0.N) :
    Ten (a := 1) (b := 4096) (c := 128) (((cfg0.win 5).blk t).view.read (Elt Ideal) A) (fun _ r _ => (H (hd t)).Z r) := fun j => by
  have hj : (j 0).val < 1 := (j 0).isLt
  rw [View.read_apply]
  refine Eq.trans ?_ (h0 (ix3 (hd t) (j 1) (j 2)))
  refine congrArg A (funext fun a => Fin.ext ?_)
  match a with
  | ⟨0, _⟩ => show win0_5.index t 0 * 1 + 1 * (j 0).val = t.val / 4; rw [(index5 t).1]; omega
  | ⟨1, _⟩ => show win0_5.index t 1 * 4096 + 1 * (j 1).val = (j 1).val; rw [(index5 t).2.1]; omega
  | ⟨2, _⟩ => show win0_5.index t 2 * 128 + 1 * (j 2).val = (j 2).val; rw [(index5 t).2.2]; omega

theorem Entry.blocks (e : Entry m c H) (t : Fin cfg0.N) :
    (H (hd t)).Blocks (kb t) (iblk m c 0 t) (iblk m c 1 t) (iblk m c 2 t) (iblk m c 3 t) (iblk m c 4 t) (iblk m c 5 t) :=
  ⟨blk0 e.q t, blk1 e.k t, blk2 e.v t, blk3 e.o t, blk4 e.l t, blk5 e.z t⟩

/-- The state at the end of a point. -/
theorem Entry.left (e : Entry m c H) : ∀ (n : ℕ) (hn : n < cfg0.N), (H (hd ⟨n, hn⟩)).Inv (kb ⟨n, hn⟩) 4 (left m c n hn) := by
  have first : ∀ t : Fin cfg0.N, t.val % 4 = 0 → (H (hd t)).Inv (kb t) 4 (AttnRun.left m c t.val t.isLt) := fun t h => by
    rw [left_first m c t h]
    refine Head.Inv.leaves (e.blocks t) (coord1 t) (Rep.cast pay20 fun j => ?_)
    exact (upto_zero fun i hi => absurd hi (by show ¬i.val < 1024 * (t.val % 4); omega)).symm
  intro n
  induction n with
  | zero => exact fun hn => first ⟨0, hn⟩ rfl
  | succ n ih =>
    intro hn
    by_cases h : (n + 1) % 4 = 0
    · exact first ⟨n + 1, hn⟩ h
    rw [show AttnRun.left m c (n + 1) hn = _ from left_later m c ⟨n + 1, hn⟩ h]
    have hl := ih (Nat.lt_of_succ_lt hn)
    have eh : hd ⟨n, Nat.lt_of_succ_lt hn⟩ = hd ⟨n + 1, hn⟩ := Fin.ext (show n / 4 = (n + 1) / 4 by omega)
    rw [eh] at hl
    refine Head.Inv.leaves (e.blocks ⟨n + 1, hn⟩) (coord1 ⟨n + 1, hn⟩) (Rep.cast hl.q fun j => ?_)
    refine congrArg (fun a => upto a _) ((if_pos (show (j 1).val < 1024 * 4 from (j 1).isLt)).trans ?_)
    exact congrArg (1024 * ·) (show n % 4 + 1 = (n + 1) % 4 by omega)

theorem idx6 : ∀ t t' : Fin cfg0.N, t.val % 4 = 3 → t'.val % 4 = 3 → win0_6.index t = win0_6.index t' → t = t' := by decide +kernel
theorem idx7 : ∀ t t' : Fin cfg0.N, win0_7.index t = win0_7.index t' → t = t' := by decide +kernel
theorem idx8 : ∀ t t' : Fin cfg0.N, win0_8.index t = win0_8.index t' → t = t' := by decide +kernel

theorem disjoint6 : ∀ t t' : Fin cfg0.N, (cfg0.win 6).flush t = true → (cfg0.win 6).flush t' = true → t ≠ t' →
    Disjoint ((cfg0.win 6).blk t).view.set ((cfg0.win 6).blk t').view.set :=
  fun t t' h h' hne => (cfg0.win 6).disjoint_blk fun q => hne (idx6 t t' ((flush0_6 t).mp h) ((flush0_6 t').mp h') q)
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun q => hne (idx7 t t' q)
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun q => hne (idx8 t t' q)

theorem Entry.result6 (e : Entry m c H) : Ten (a := 8) (b := 4096) (c := 192) ((dats m 0 c).arrAt 6 cfg0.N)
    fun h r e => ∑ j, (H h).S r j * (H h).K j e := fun i => by
  have h0 : (i 0).val < 8 := (i 0).isLt
  have h1 : (i 1).val < 4096 := (i 1).isLt
  have hN : cfg0.N = 32 := N_0
  let t : Fin cfg0.N := ⟨4 * (i 0).val + 3, by omega⟩
  let j : (⟨3, ![1, 4096, 192]⟩ : Shape).Idx := ix3 0 (i 1) (i 2)
  have h := (congrFun (((dats m 0 c).read_blk_arrAt_eq_flushed 6 disjoint6 cfg0.N t t.isLt ((flush0_6 t).mpr (show (4 * (i 0).val + 3) % 4 = 3 by omega))).trans (congrArg ((cfg0.win 6).cut (grid0.coords t)) (after6 m c t))) j).trans
    ((e.left t.val t.isLt).q j)
  rw [View.read_apply] at h
  have eh : hd t = i 0 := Fin.ext (show (4 * (i 0).val + 3) / 4 = (i 0).val by omega)
  have hj : ((cfg0.win 6).blk t).view.emb j = i := funext fun a => Fin.ext <| match a with
    | ⟨0, _⟩ => by show win0_6.index t 0 * 1 + 1 * 0 = (i 0).val; rw [(index6 t).1]; show (4 * (i 0).val + 3) / 4 * 1 + 1 * 0 = _; omega
    | ⟨1, _⟩ => by show win0_6.index t 1 * 4096 + 1 * (i 1).val = (i 1).val; rw [(index6 t).2.1]; omega
    | ⟨2, _⟩ => by show win0_6.index t 2 * 192 + 1 * (i 2).val = (i 2).val; rw [(index6 t).2.2]; omega
  refine (congrArg _ hj).symm.trans (h.trans (congrArg _ ?_))
  refine (show _ = upto (if (i 1).val < 1024 * 4 then 1024 * ((kb t).val + 1) else 1024 * (kb t).val)
    (fun x => (H (hd t)).S (i 1) x * (H (hd t)).K x (i 2)) from rfl).trans ?_
  rw [if_pos (show (i 1).val < 1024 * 4 from h1), eh, show 1024 * ((kb t).val + 1) = 4096 from
    (show 1024 * ((4 * (i 0).val + 3) % 4 + 1) = 4096 by omega), upto_all]

theorem Entry.result7 (e : Entry m c H) : Ten (a := 8) (b := 4096) (c := 192) ((dats m 0 c).arrAt 7 cfg0.N)
    fun h r e => ∑ i, (H h).S i r * (H h).Q i e := fun i => by
  have h0 : (i 0).val < 8 := (i 0).isLt
  have h1 : (i 1).val < 4096 := (i 1).isLt
  have hN : cfg0.N = 32 := N_0
  let t : Fin cfg0.N := ⟨4 * (i 0).val + (i 1).val / 1024, by omega⟩
  let j : (⟨3, ![1, 1024, 192]⟩ : Shape).Idx := ix3 0 ⟨(i 1).val % 1024, Nat.mod_lt _ (by norm_num)⟩ (i 2)
  have h := (congrFun (((dats m 0 c).read_blk_arrAt_eq_flushed 7 disjoint7 cfg0.N t t.isLt (flush0_7 t)).trans (congrArg ((cfg0.win 7).cut (grid0.coords t)) (after7 m c t))) j).trans
    (pay18 (e.left t.val t.isLt).k j)
  rw [View.read_apply] at h
  have eh : hd t = i 0 := Fin.ext (show (4 * (i 0).val + (i 1).val / 1024) / 4 = (i 0).val by omega)
  have hj : ((cfg0.win 7).blk t).view.emb j = i := funext fun a => Fin.ext <| match a with
    | ⟨0, _⟩ => by show win0_7.index t 0 * 1 + 1 * 0 = (i 0).val; rw [(index7 t).1]; show (4 * (i 0).val + (i 1).val / 1024) / 4 * 1 + 1 * 0 = _; omega
    | ⟨1, _⟩ => by show win0_7.index t 1 * 1024 + 1 * ((i 1).val % 1024) = (i 1).val; rw [(index7 t).2.1]; show (4 * (i 0).val + (i 1).val / 1024) % 4 * 1024 + _ = _; omega
    | ⟨2, _⟩ => by show win0_7.index t 2 * 192 + 1 * (i 2).val = (i 2).val; rw [(index7 t).2.2]; omega
  refine (congrArg _ hj).symm.trans (h.trans (congrArg _ ?_))
  have er : row (kb t) (j 1) = i 1 := Fin.ext (show 1024 * ((4 * (i 0).val + (i 1).val / 1024) % 4) + (i 1).val % 1024 = (i 1).val by omega)
  refine (show _ = upto 4096 (fun x => (H (hd t)).S x (row (kb t) (j 1)) * (H (hd t)).Q x (i 2)) from rfl).trans ?_
  rw [upto_all, eh, er]

theorem Entry.result8 (e : Entry m c H) : Ten (a := 8) (b := 4096) (c := 128) ((dats m 0 c).arrAt 8 cfg0.N)
    fun h r e => ∑ i, (H h).P i r * (H h).O i e := fun i => by
  have h0 : (i 0).val < 8 := (i 0).isLt
  have h1 : (i 1).val < 4096 := (i 1).isLt
  have hN : cfg0.N = 32 := N_0
  let t : Fin cfg0.N := ⟨4 * (i 0).val + (i 1).val / 1024, by omega⟩
  let j : (⟨3, ![1, 1024, 128]⟩ : Shape).Idx := ix3 0 ⟨(i 1).val % 1024, Nat.mod_lt _ (by norm_num)⟩ (i 2)
  have h := (congrFun (((dats m 0 c).read_blk_arrAt_eq_flushed 8 disjoint8 cfg0.N t t.isLt (flush0_8 t)).trans (congrArg ((cfg0.win 8).cut (grid0.coords t)) (after8 m c t))) j).trans
    (pay19 (e.left t.val t.isLt).v j)
  rw [View.read_apply] at h
  have eh : hd t = i 0 := Fin.ext (show (4 * (i 0).val + (i 1).val / 1024) / 4 = (i 0).val by omega)
  have hj : ((cfg0.win 8).blk t).view.emb j = i := funext fun a => Fin.ext <| match a with
    | ⟨0, _⟩ => by show win0_8.index t 0 * 1 + 1 * 0 = (i 0).val; rw [(index8 t).1]; show (4 * (i 0).val + (i 1).val / 1024) / 4 * 1 + 1 * 0 = _; omega
    | ⟨1, _⟩ => by show win0_8.index t 1 * 1024 + 1 * ((i 1).val % 1024) = (i 1).val; rw [(index8 t).2.1]; show (4 * (i 0).val + (i 1).val / 1024) % 4 * 1024 + _ = _; omega
    | ⟨2, _⟩ => by show win0_8.index t 2 * 128 + 1 * (i 2).val = (i 2).val; rw [(index8 t).2.2]; omega
  refine (congrArg _ hj).symm.trans (h.trans (congrArg _ ?_))
  have er : row (kb t) (j 1) = i 1 := Fin.ext (show 1024 * ((4 * (i 0).val + (i 1).val / 1024) % 4) + (i 1).val % 1024 = (i 1).val by omega)
  refine (show _ = upto 4096 (fun x => (H (hd t)).P x (row (kb t) (j 1)) * (H (hd t)).O x (i 2)) from rfl).trans ?_
  rw [upto_all, eh, er]

end AttnRun

end
-- ==== Proof.AttnReal.lean ====
/-
  The attention's real numbers: the causal softmax, free of the maximum that the programs subtract, and the gradient of
  its scores in the two forms the programs compute.
-/
module

public import proofs.«01_k».proof.Proof.AttnKernel

@[expose] public section

noncomputable section

namespace AttnRun

open AttnPay

/-- The arguments: queries, keys and values by head, and the result's gradient with the heads side by side. -/
structure Args where
  q : Fin 8 → Fin 4096 → Fin 192 → ℝ
  k : Fin 8 → Fin 4096 → Fin 192 → ℝ
  v : Fin 8 → Fin 4096 → Fin 128 → ℝ
  d : Fin 4096 → Fin 1024 → ℝ

namespace Args

variable (A : Args) (h : Fin 8) (i j : Fin 4096)

def s : ℝ := dots (A.q h) (A.k h) i j
def num : ℝ := if j.val ≤ i.val then Real.exp (A.s h i j) else 0
def den : ℝ := ∑ j, A.num h i j
def soft : ℝ := A.num h i j / A.den h i
def o (e : Fin 128) : ℝ := A.d i (col h e)
/-- The gradient of a probability, and its mean over the row's probabilities. -/
def dp : ℝ := dots (A.o h) (A.v h) i j
def z : ℝ := ∑ e, A.o h i e * ∑ j, A.soft h i j * A.v h j e

def head : Head := ⟨A.q h, A.k h, A.v h, A.o h, fun i => Real.log (A.den h i), A.z h⟩

theorem num_nonneg : 0 ≤ A.num h i j := by
  unfold num
  split
  · exact (Real.exp_pos _).le
  · exact le_rfl

theorem den_pos : 0 < A.den h i :=
  Finset.sum_pos' (fun j _ => A.num_nonneg h i j) ⟨i, Finset.mem_univ _, by unfold num; rw [if_pos le_rfl]; exact Real.exp_pos _⟩

theorem head_P : (A.head h).P i j = A.soft h i j := by
  show (if j ≤ i then Real.exp (A.s h i j - Real.log (A.den h i)) else 0) = A.num h i j / A.den h i
  unfold num
  by_cases c : j.val ≤ i.val
  · rw [if_pos c, if_pos (show j ≤ i from c), Real.exp_sub, Real.exp_log (A.den_pos h i)]
  · rw [if_neg c, if_neg (show ¬j ≤ i from c), zero_div]

theorem head_S : (A.head h).S i j = A.soft h i j * (A.dp h i j - A.z h i) := by
  unfold Head.S
  rw [head_P]
  rfl

theorem z_eq : A.z h i = ∑ j, A.dp h i j * A.soft h i j := by
  unfold z dp dots
  simp only [Finset.mul_sum, Finset.sum_mul]
  rw [Finset.sum_comm]
  exact Finset.sum_congr rfl fun j _ => Finset.sum_congr rfl fun e _ => by ring

/-- With a number `M` subtracted from the row's scores. -/
def ex (M : ℝ) : ℝ := if j.val ≤ i.val then Real.exp (A.s h i j - M) else 0

theorem ex_eq (M : ℝ) : A.ex h i j M = A.num h i j * Real.exp (-M) := by
  unfold ex num
  split
  · rw [sub_eq_add_neg, Real.exp_add]
  · rw [zero_mul]

theorem sum_ex (M : ℝ) : ∑ j, A.ex h i j M = A.den h i * Real.exp (-M) := by
  unfold den
  rw [Finset.sum_mul]
  exact Finset.sum_congr rfl fun j _ => A.ex_eq h i j M

theorem sum_pos (M : ℝ) : 0 < ∑ j, A.ex h i j M := by
  rw [sum_ex]; exact mul_pos (A.den_pos h i) (Real.exp_pos _)

theorem ex_div (M : ℝ) : A.ex h i j M / ∑ j, A.ex h i j M = A.soft h i j := by
  rw [sum_ex, ex_eq]
  exact mul_div_mul_right _ _ (Real.exp_pos _).ne'

theorem log_sum (M : ℝ) : M + Real.log (∑ j, A.ex h i j M) = Real.log (A.den h i) := by
  rw [sum_ex, Real.log_mul (A.den_pos h i).ne' (Real.exp_pos _).ne', Real.log_exp]
  ring

/-- The scores' gradient by the quotient rule. -/
theorem quotient (M : ℝ) :
    (if j.val ≤ i.val then (A.dp h i j / (∑ j, A.ex h i j M)
      + -∑ j, A.dp h i j * (1 / ((∑ j, A.ex h i j M) * ∑ j, A.ex h i j M)) * A.ex h i j M) * A.ex h i j M else 0) = (A.head h).S i j := by
  have hl := (A.sum_pos h i M).ne'
  have e : ∑ j, A.dp h i j * (1 / ((∑ j, A.ex h i j M) * ∑ j, A.ex h i j M)) * A.ex h i j M = A.z h i / ∑ j, A.ex h i j M := by
    rw [z_eq, Finset.sum_div]
    refine Finset.sum_congr rfl fun j _ => ?_
    rw [← A.ex_div h i j M]
    field_simp
  rw [head_S, e, ← A.ex_div h i j M]
  split
  · field_simp
    ring
  · rw [show A.ex h i j M = 0 from if_neg (by assumption), zero_div, zero_mul]

end Args

end AttnRun

end
-- ==== Proof.AttnHost.lean ====
/-
  What the attention gradient's launch finds in its arrays: the host lines before it, read over the reals.
-/
module

public import proofs.«01_k».proof.Proof.Line
public import proofs.«01_k».proof.Proof.Heads
public import proofs.«01_k».proof.Proof.AttnReal

@[expose] public section

set_option maxRecDepth 16384

noncomputable section

namespace AttnRun

open Cert Cert.AttnIdeal Cert.AttnIdeal.Gen AttnPay
open Idealize.ShloMosaic hiding ix1 ix2 ix3
open Idealize.ShloMosaic.ValueIdx Idealize.ShloMosaic.TcCoe Idealize.SL.Sem Idealize.ShloMosaic.StableHlo

variable {m : (ℓ : Loc nD τ sig) → Buf (Elt Ideal) ℓ} {c : Dev nD} {A : Args}

/-- The buffers the host operations write, one each, in order. -/
abbrev W : List (Ref sig .tc) := (List.finRange 39).map fun k => ⟨.hbm, ⟨k.val + 4, by have := k.isLt; show k.val + 4 < 46; omega⟩, rfl⟩

theorem line : Line.Ssa (List.flatten [hostOps0 (F := Ideal), hostOps0_1, hostOps0_2]) W 4 := ⟨rfl, by decide +kernel⟩

set_option maxHeartbeats 4000000 in
theorem entry (hq : Ten (m (c, Proc.devRef .tc main_arg0)) A.q) (hk : Ten (m (c, Proc.devRef .tc main_arg1)) A.k)
    (hv : Ten (m (c, Proc.devRef .tc main_arg2)) A.v) (hd : Mat (m (c, Proc.devRef .tc main_arg3)) A.d) : Entry m c A.head := by
  let V₀ : Valuation τ sig (Elt Ideal) := fun b => m (c, b)
  have L := line
  have q : Ten (V m c main_arg0) A.q := fun i => (congrFun (show V m c main_arg0 = m (c, Proc.devRef .tc main_arg0) from L.arg (V := V₀)) i).trans (hq i)
  have k : Ten (V m c main_arg1) A.k := fun i => (congrFun (show V m c main_arg1 = m (c, Proc.devRef .tc main_arg1) from L.arg (V := V₀)) i).trans (hk i)
  have v : Ten (V m c main_arg2) A.v := fun i => (congrFun (show V m c main_arg2 = m (c, Proc.devRef .tc main_arg2) from L.arg (V := V₀)) i).trans (hv i)
  have d : Mat (V m c main_arg3) A.d := fun i => (congrFun (show V m c main_arg3 = m (c, Proc.devRef .tc main_arg3) from L.arg (V := V₀)) i).trans (hd i)
  have v0 : Ten (V m c main_v0) A.s :=
    Rep.cast (.of_eq (L.binary (V := V₀) 0 rfl) <| .host_dot (φ₁ := .f32) (φ₂ := .f32) _ none q k) fun _ => rfl
  have mask := causal (n := 4096) (w := V m c main_call0_v1) (by norm_num) (by norm_num) (L.nullary (V := V₀) 1 rfl) (L.unary (V := V₀) 2 rfl)
    (L.unary (V := V₀) 3 rfl) (L.unary (V := V₀) 4 rfl) (L.unary (V := V₀) 5 rfl) (L.binary (V := V₀) 6 rfl) (L.unary (V := V₀) 7 rfl)
    (show V m c main_call0_v1 = broadcastInDim S8x4096x4096 ![0, 1, 2] bcast_S1x4096x4096_S8x4096x4096_0_1_2 (V m c main_v7) from L.unary (V := V₀) 10 rfl)
  have inf : ∀ i : S8x4096x4096.Idx, V m c main_call0_v2 i = (⊥ : EReal) := fun i => by
    rw [show V m c main_call0_v2 = broadcastInDim S8x4096x4096 ![] bcast_S_S8x4096x4096 (V m c main_call0_v0) from L.unary (V := V₀) 11 rfl,
      show V m c main_call0_v0 = V m c main_cst from L.unary (V := V₀) 9 rfl,
      show V m c main_cst = constant (F := Ideal) S_ .f32 0xFF800000#32 from L.nullary (V := V₀) 8 rfl]
    exact word_neg_inf
  have v8 : Part (V m c main_v8) (fun i => (i 2).val ≤ (i 1).val) fun i => A.s (i 0) (i 1) (i 2) :=
    Part.masked mask (show V m c main_v8 = select (V m c main_call0_v1) (V m c main_v0) (V m c main_call0_v2) from L.ternary (V := V₀) 12 rfl) v0 inf
  obtain ⟨M, v9⟩ : ∃ M, Mat (V m c main_v9) M := by
    obtain ⟨M, hM⟩ := Part.host_max v8 (z := V m c main_cst_0) (fun i => by
      rw [show V m c main_cst_0 = constant (F := Ideal) S_ .f32 0xFF800000#32 from L.nullary (V := V₀) 13 rfl]; exact word_neg_inf) _ h_S_
    exact ⟨M, fun i => (congrFun (L.binary (V := V₀) 14 rfl) i).trans (hM i)⟩
  have v10 : Ten (V m c main_v10) fun h i _ => M h i :=
    Rep.cast (.of_eq (L.unary (V := V₀) 15 rfl) <| Mat.host_last v9 _) fun _ => rfl
  have v13 : Ten (V m c main_v13) fun h i j => A.ex h i j (M h i) :=
    Rep.cast (.of_eq (L.unary (V := V₀) 18 rfl) <| Part.host_exp (φ := .f32) (Part.of_eq (L.binary (V := V₀) 17 rfl) <| Part.sub (φ := .f32) v8 (.of_eq (L.unary (V := V₀) 16 rfl) <| Ten.host_repeat v10 _))) fun _ => rfl
  have v15 : Ten (V m c main_v15) fun h i _ => ∑ j, A.ex h i j (M h i) :=
    Rep.cast (.of_eq (L.unary (V := V₀) 21 rfl) <| Mat.host_last (.of_eq (L.binary (V := V₀) 20 rfl) <| Ten.host_sum (φ := .f32) v13
      (.of_eq (L.nullary (V := V₀) 19 rfl) <| .const word_zero) _ _) _) fun _ => rfl
  have v17 : Ten (V m c main_v17) fun h i _ => Real.log (A.den h i) :=
    Rep.cast (.of_eq (L.binary (V := V₀) 23 rfl) <| .add v10 (.of_eq (L.unary (V := V₀) 22 rfl) <| .log v15 fun _ => A.sum_pos _ _ _)) fun _ => A.log_sum _ _ _
  have v20 : Ten (V m c main_v20) A.soft :=
    Rep.cast (.of_eq (L.binary (V := V₀) 26 rfl) <| .host_div v13 (.of_eq (L.unary (V := V₀) 25 rfl) <| Ten.host_repeat v15 _) fun _ => (A.sum_pos _ _ _).ne') fun _ => A.ex_div _ _ _ _
  have v23 : Ten (V m c main_v23) A.o := fun i => by
    refine (congrFun (L.unary (V := V₀) 29 rfl) i).trans ((transpose_apply _ _ _ i (ix3 (i 1) (i 0) (i 2)) fun b => ?_).trans
      ((congrFun (L.reshape (V := V₀) 28 rfl) _).trans (Mat.heads d (by norm_num) shapeCasts_S4096x1024_S4096x8x128 col (fun _ _ => rfl) (ix3 (i 1) (i 0) (i 2)))))
    match b with
    | ⟨0, _⟩ => rfl
    | ⟨1, _⟩ => rfl
    | ⟨2, _⟩ => rfl
  have v26 : Ten (V m c main_v26) fun h i _ => A.z h i :=
    Rep.cast (.of_eq (L.unary (V := V₀) 33 rfl) <| Mat.host_last (.of_eq (L.binary (V := V₀) 32 rfl) <| Ten.host_sum (φ := .f32)
      (.of_eq (L.binary (V := V₀) 30 rfl) <| .mul v23 (.of_eq (L.binary (V := V₀) 27 rfl) <| .host_dot (φ₁ := .f32) (φ₂ := .f32) _ none v20 v))
      (.of_eq (L.nullary (V := V₀) 31 rfl) <| .const word_zero) _ _) _) fun _ => rfl
  exact {
    q := Rep.cast (.of_eq (L.unary (V := V₀) 35 rfl) <| .trunc bitsLt_bf16_f32 q) fun _ => rfl
    k := Rep.cast (.of_eq (L.unary (V := V₀) 36 rfl) <| .trunc bitsLt_bf16_f32 k) fun _ => rfl
    v := Rep.cast (.of_eq (L.unary (V := V₀) 37 rfl) <| .trunc bitsLt_bf16_f32 v) fun _ => rfl
    o := ⟨A.d, Rep.cast (.of_eq (L.unary (V := V₀) 38 rfl) <| .trunc bitsLt_bf16_f32 d) fun _ => rfl, fun _ _ _ => rfl⟩
    l := Rep.cast (.of_eq (L.unary (V := V₀) 24 rfl) <| Ten.host_repeat v17 _) fun _ => rfl
    z := Rep.cast (.of_eq (L.unary (V := V₀) 34 rfl) <| Ten.host_repeat v26 _) fun _ => rfl }

end AttnRun

end
-- ==== Proof.AttnRef.lean ====
/-
  The attention gradient's reference, read over the reals: what its line of operations leaves in the three results.
-/
module

public import proofs.«01_k».proof.Proof.Line
public import proofs.«01_k».proof.Proof.Heads
public import proofs.«01_k».proof.Proof.AttnReal
public import proofs.«01_k».proof.Proof.Gen.AttnRefIdeal

@[expose] public section

set_option maxRecDepth 16384

noncomputable section

namespace Cert.AttnRef

open Cert Cert.AttnRefIdeal Cert.AttnRefIdeal.Gen AttnPay AttnRun
open Idealize.ShloMosaic hiding ix1 ix2 ix3
open Idealize.ShloMosaic.ValueIdx Idealize.ShloMosaic.TcCoe Idealize.SL.Sem Idealize.ShloMosaic.StableHlo

variable (m : (ℓ : Loc nD τ sig) → Buf (Elt Ideal) ℓ) (e : Dev nD)

abbrev V : Valuation τ sig (Elt Ideal) := launchContents m e
abbrev ops : List (HloOp τ sig (Elt Ideal)) := Line.opsOf (V m e) (main (F := Ideal) e)
/-- The buffers the operations write, one each, in order. -/
abbrev W : List (Ref sig .tc) := (List.finRange 80).map fun k => ⟨.hbm, k.natAdd 4, rfl⟩
theorem main_eq : main (F := Ideal) e = seq (ops m e) := rfl
theorem line : Line.Ssa (ops m e) W 4 := ⟨rfl, by decide +kernel⟩
abbrev B (r : Ref sig .tc) : r.ty.Contents (Elt Ideal) := after (ops m e) (V m e) (Proc.devRef .tc r)

variable {m e} {A : Args}

set_option maxHeartbeats 4000000 in
theorem results (q : Ten (B m e main_arg0) A.q) (k : Ten (B m e main_arg1) A.k) (v : Ten (B m e main_arg2) A.v) (d : Mat (B m e main_arg3) A.d) :
    Ten (B m e main_v59) (fun h r c => ∑ j, (A.head h).S r j * A.k h j c)
    ∧ Ten (B m e main_v58) (fun h r c => ∑ i, (A.head h).S i r * A.q h i c)
    ∧ Ten (B m e main_v44) (fun h r c => ∑ i, (A.head h).P i r * A.o h i c) := by
  have L := line m e
  have v0 : Ten (B m e main_v0) A.s :=
    Rep.cast (.of_eq (L.binary 0 rfl) <| .host_dot (φ₁ := .f32) (φ₂ := .f32) _ none q k) fun _ => rfl
  have mask := causal (n := 4096) (w := B m e main_v8_1) (by norm_num) (by norm_num) (L.nullary 1 rfl) (L.unary 2 rfl)
    (L.unary 3 rfl) (L.unary 4 rfl) (L.unary 5 rfl) (L.binary 6 rfl) (L.unary 7 rfl)
    (show B m e main_v8_1 = broadcastInDim S8x4096x4096 ![0, 1, 2] bcast_S1x4096x4096_S8x4096x4096_0_1_2 (B m e main_v7) from L.unary 10 rfl)
  have inf : ∀ i : S8x4096x4096.Idx, B m e main_call0_v2 i = (⊥ : EReal) := fun i => by
    rw [show B m e main_call0_v2 = broadcastInDim S8x4096x4096 ![] bcast_S_S8x4096x4096 (B m e main_call0_v0) from L.unary 11 rfl,
      show B m e main_call0_v0 = B m e main_cst from L.unary 9 rfl,
      show B m e main_cst = constant (F := Ideal) S_ .f32 0xFF800000#32 from L.nullary 8 rfl]
    exact word_neg_inf
  have v8 : Part (B m e main_v8_0) (fun i => (i 2).val ≤ (i 1).val) fun i => A.s (i 0) (i 1) (i 2) :=
    Part.masked mask (show B m e main_v8_0 = select (B m e main_v8_1) (B m e main_v0) (B m e main_call0_v2) from L.ternary 12 rfl) v0 inf
  obtain ⟨M, v9⟩ : ∃ M, Mat (B m e main_v9) M := by
    obtain ⟨M, hM⟩ := Part.host_max v8 (z := B m e main_cst_0) (fun i => by
      rw [show B m e main_cst_0 = constant (F := Ideal) S_ .f32 0xFF800000#32 from L.nullary 15 rfl]; exact word_neg_inf) _ h_S_
    exact ⟨M, fun i => (congrFun (L.binary 16 rfl) i).trans (hM i)⟩
  have v16 : Mat (B m e main_v16) M := Rep.max_bot (L.binary 25 rfl) (L.unary 24 rfl) (L.nullary 23 rfl) v9
  have v29 : Ten (B m e main_v29) fun h i j => A.ex h i j (M h i) :=
    Rep.cast (.of_eq (L.unary 43 rfl) <| Part.host_exp (φ := .f32) (Part.of_eq (L.binary 42 rfl) <| Part.sub (φ := .f32) v8 (.of_eq (L.unary 41 rfl) <| Ten.host_repeat
      (.of_eq (L.unary 40 rfl) <| Mat.host_last v16 _) _))) fun _ => rfl
  have v31 : Ten (B m e main_v31) fun h i _ => ∑ j, A.ex h i j (M h i) :=
    Rep.cast (.of_eq (L.unary 46 rfl) <| Mat.host_last (.of_eq (L.binary 45 rfl) <| Ten.host_sum (φ := .f32) v29
      (.of_eq (L.nullary 44 rfl) <| .const word_zero) _ _) _) fun _ => rfl
  have v33 : Ten (B m e main_v33) A.soft :=
    Rep.cast (.of_eq (L.binary 48 rfl) <| .host_div v29 (.of_eq (L.unary 47 rfl) <| Ten.host_repeat v31 _) fun _ => (A.sum_pos _ _ _).ne') fun _ => A.ex_div _ _ _ _
  have v36 : Ten (B m e main_v36) fun h i _ => 1 / ((∑ j, A.ex h i j (M h i)) * ∑ j, A.ex h i j (M h i)) :=
    Rep.cast (.of_eq (L.binary 52 rfl) <| .host_div (.of_eq (L.unary 51 rfl) <| .host_splat (.of_eq (L.nullary 50 rfl) <| .const word_one) _ _)
      (.of_eq (L.binary 49 rfl) <| .mul v31 v31) fun _ => mul_ne_zero (A.sum_pos _ _ _).ne' (A.sum_pos _ _ _).ne') fun _ => rfl
  have v41 : Ten (B m e main_v41) fun h x i => A.o h i x := fun i => by
    refine (congrFun (L.unary 57 rfl) i).trans ((transpose_apply _ _ _ i (ix3 (i 2) (i 0) (i 1)) fun b => ?_).trans
      ((congrFun (L.reshape 56 rfl) _).trans (Mat.heads d (by norm_num) shapeCasts_S4096x1024_S4096x8x128 col (fun _ _ => rfl) (ix3 (i 2) (i 0) (i 1)))))
    match b with
    | ⟨0, _⟩ => rfl
    | ⟨1, _⟩ => rfl
    | ⟨2, _⟩ => rfl
  have v42 : Ten (B m e main_v42) A.dp :=
    Rep.cast (.of_eq (L.binary 58 rfl) <| .host_dot (φ₁ := .f32) (φ₂ := .f32) _ none v41 v) fun _ => rfl
  have v43 : Ten (B m e main_v43) fun h x j => ∑ i, A.o h i x * A.soft h i j :=
    Rep.cast (.of_eq (L.binary 59 rfl) <| .host_dot (φ₁ := .f32) (φ₂ := .f32) _ none v41 v33) fun _ => rfl
  have v50 : Ten (B m e main_v50) fun h i _ => -∑ j, A.dp h i j * (1 / ((∑ j, A.ex h i j (M h i)) * ∑ j, A.ex h i j (M h i))) * A.ex h i j (M h i) :=
    Rep.cast (.of_eq (L.unary 67 rfl) <| .host_neg (.of_eq (L.reshape 66 rfl) <| Mat.last (.of_eq (L.binary 65 rfl) <| Ten.host_sum (φ := .f32)
      (.of_eq (L.binary 63 rfl) <| .mul (.of_eq (L.binary 62 rfl) <| .mul v42 (.of_eq (L.unary 61 rfl) <| Ten.host_repeat v36 _)) v29)
      (.of_eq (L.nullary 64 rfl) <| .const word_zero) _ _) _)) fun _ => rfl
  have v53 : Mat (B m e main_v53) fun h i => -∑ j, A.dp h i j * (1 / ((∑ j, A.ex h i j (M h i)) * ∑ j, A.ex h i j (M h i))) * A.ex h i j (M h i) :=
    Rep.cast (.of_eq (L.binary 71 rfl) <| Ten.host_sum (φ := .f32) v50 (.of_eq (L.nullary 70 rfl) <| .const word_zero) _ _)
      fun i => Fin.sum_univ_one _
  have v56 : Ten (B m e main_v56) fun h i j => (A.dp h i j / (∑ j, A.ex h i j (M h i))
      + -∑ j, A.dp h i j * (1 / ((∑ j, A.ex h i j (M h i)) * ∑ j, A.ex h i j (M h i))) * A.ex h i j (M h i)) * A.ex h i j (M h i) :=
    Rep.cast (.of_eq (L.binary 74 rfl) <| .mul (.of_eq (L.binary 73 rfl) <| .add
      (.of_eq (L.binary 69 rfl) <| .host_div v42 (.of_eq (L.unary 68 rfl) <| Ten.host_repeat v31 _) fun _ => (A.sum_pos _ _ _).ne')
      (.of_eq (L.unary 72 rfl) <| Mat.host_last v53 _)) v29) fun _ => rfl
  have v57 : Ten (B m e main_v57) fun h i j => (A.head h).S i j :=
    Rep.cast (Rep.masked mask (show B m e main_v57 = select (B m e main_v8_1) (B m e main_v56) (B m e main_call1_v0) from L.ternary 77 rfl) v56
      (.of_eq (show B m e main_call1_v0 = broadcastInDim S8x4096x4096 ![] bcast_S_S8x4096x4096 (B m e main_call1_cst) from L.unary 76 rfl) <| .host_splat
        (.of_eq (show B m e main_call1_cst = constant (F := Ideal) S_ .f32 0x00000000#32 from L.nullary 75 rfl) <| .const word_zero) _ _)) fun _ => A.quotient _ _ _ _
  refine ⟨Rep.cast (.of_eq (L.binary 79 rfl) <| .host_dot (φ₁ := .f32) (φ₂ := .f32) _ none v57 k) fun _ => rfl,
    Rep.cast (.of_eq (L.binary 78 rfl) <| .host_dot (φ₁ := .f32) (φ₂ := .f32) _ none v57 q) fun _ => rfl, fun i => ?_⟩
  refine (congrFun (L.unary 60 rfl) i).trans ((transpose_apply _ _ _ i (ix3 (i 0) (i 2) (i 1)) fun b => ?_).trans ((v43 _).trans (congrArg _
    (Finset.sum_congr rfl fun x _ => (mul_comm _ _).trans (congrArg (· * A.o (i 0) x (i 2)) (A.head_P (i 0) x (i 1)).symm)))))
  match b with
  | ⟨0, _⟩ => rfl
  | ⟨1, _⟩ => rfl
  | ⟨2, _⟩ => rfl

theorem run (m : (ℓ : Loc nD τ sig) → Buf (Elt Ideal) ℓ) (ρ : Dev nD → PrngReg) : θ_run (defs (F := Ideal)) (onTc (τ := τ) (main (F := Ideal))) ⟨m, fun _ => 0, ρ⟩ fun r =>
    ∀ (d : Dev nD) (b : Ref sig .tc), r.2.mem ((d.tc : Thread nD τ).loc b) = B m d b :=
  Line.run (by decide) (by decide) (by decide +kernel) defs main (ops m) (main_eq m) (N := 80) (fun d => rfl) m ρ

theorem kept (x : Ref sig .tc) (h : x.idx.val < 4 := by decide) : B m e x = m (e.tc.loc x) := (line m e).arg h

end Cert.AttnRef

end
-- ==== Proof.AttnClaim.lean ====
/-
  The attention gradient: the frames of the kernel and of the reference, and the kernel's gradients are the reference's.
-/
module

public import proofs.«01_k».proof.Proof.AttnHost
public import proofs.«01_k».proof.Proof.AttnRef
public import proofs.«01_k».proof.Attn
public import proofs.«01_k».proof.Defs
public import Idealize.ShloMosaic.Lib.Quiescent
public import proofs.«01_k».proof.Proof.Gen.Attn
public import proofs.«01_k».proof.Proof.Gen.Pre_finite_attn

@[expose] public section

set_option maxRecDepth 16384

noncomputable section

namespace Cert.AttnClaim

open Idealize.ShloMosaic hiding ix1 ix2 ix3
open Idealize.ShloMosaic.ValueIdx Idealize.ShloMosaic.TcCoe Idealize.SL.Sem Idealize.ShloMosaic.StableHlo

theorem frame : Cert.quiescent_Attn :=
  fun m ρ _ => cast (by sl_kernel_rfl) (AttnRun.frame_any (F := Bits) m ρ)

theorem frame_ref (m : (ℓ : Loc AttnRefIdeal.nD AttnRefIdeal.τ AttnRefIdeal.sig) → Buf (Elt Ideal) ℓ) (ρ : Dev AttnRefIdeal.nD → PrngReg) :
    θ_run (AttnRefIdeal.defs (F := Ideal)) (onTc (τ := AttnRefIdeal.τ) (AttnRefIdeal.main (F := Ideal))) ⟨m, fun _ => 0, ρ⟩ fun r =>
      (∀ c : Dev AttnRefIdeal.nD, (r.2.mem (c.tc.loc AttnRefIdeal.main_arg0) = m (c.tc.loc AttnRefIdeal.main_arg0)
        ∧ r.2.mem (c.tc.loc AttnRefIdeal.main_arg1) = m (c.tc.loc AttnRefIdeal.main_arg1)
        ∧ r.2.mem (c.tc.loc AttnRefIdeal.main_arg2) = m (c.tc.loc AttnRefIdeal.main_arg2)
        ∧ r.2.mem (c.tc.loc AttnRefIdeal.main_arg3) = m (c.tc.loc AttnRefIdeal.main_arg3))) ∧ r.2.sem = fun _ => 0 :=
  (θ_run _ _ _).mono (fun r h => ⟨fun c =>
    have L := AttnRef.line m c
    ⟨(h c _).trans L.arg, (h c _).trans L.arg, (h c _).trans L.arg, (h c _).trans L.arg⟩,
    sem_eq_zero_of_no_sems rfl _⟩) (AttnRef.run m ρ)

section

open AttnIdeal AttnIdeal.Gen AttnRun

/-- The kernel's run: the three gradients, and the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32_0) = (dats m 0 c).arrAt 6 cfg0.N
      ∧ r.2.mem ((c.tc : Thread nD τ).loc main_v32_1) = (dats m 0 c).arrAt 7 cfg0.N
      ∧ r.2.mem ((c.tc : Thread nD τ).loc main_v32_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).1 6, (h.1 c).1 7, (h.1 c).1 8, h.2.1 c⟩) (θ_run_and (AttnRun.run m ρ) (frame_any m ρ))

end

theorem exists_ten {a b c : Nat} {x : (⟨3, ![a, b, c]⟩ : Shape).Idx → EReal} (h : ∃ g, Rep x g) : ∃ g, Ten x g := by
  obtain ⟨g, hg⟩ := h
  refine ⟨fun i j k => g (ix3 i j k), fun i => (hg i).trans (congrArg _ (congrArg g ?_))⟩
  exact funext fun k => match k with | ⟨0, _⟩ => rfl | ⟨1, _⟩ => rfl | ⟨2, _⟩ => rfl

theorem algebraic : Cert.algebraic_AttnIdeal_AttnRefIdeal_pre_finite_attn := by
  intro m ρ m' ρ' hpre hag
  refine ⟨fun c => (AttnRun.dats m 0 c).arrAt 6 AttnIdeal.cfg0.N, fun c => (AttnRun.dats m 0 c).arrAt 7 AttnIdeal.cfg0.N,
    fun c => (AttnRun.dats m 0 c).arrAt 8 AttnIdeal.cfg0.N, run m ρ, (θ_run _ _ _).mono (fun r h c => ?_) (AttnRef.run m' ρ')⟩
  obtain ⟨p0, p1, p2, p3⟩ := hpre c
  obtain ⟨a0, a1, a2, a3⟩ := hag c
  obtain ⟨Q, hQ⟩ := exists_ten (exists_rep p0)
  obtain ⟨K, hK⟩ := exists_ten (exists_rep p1)
  obtain ⟨V, hV⟩ := exists_ten (exists_rep p2)
  obtain ⟨D, hD⟩ := exists_mat (exists_rep p3)
  have e := AttnRun.entry (m := m) (c := c) (A := ⟨Q, K, V, D⟩) hQ hK hV hD
  obtain ⟨r0, r1, r2⟩ := AttnRef.results (m := m') (e := c) (A := ⟨Q, K, V, D⟩)
    (((AttnRef.kept AttnRefIdeal.main_arg0).trans a0).symm ▸ hQ) (((AttnRef.kept AttnRefIdeal.main_arg1).trans a1).symm ▸ hK)
    (((AttnRef.kept AttnRefIdeal.main_arg2).trans a2).symm ▸ hV) (((AttnRef.kept AttnRefIdeal.main_arg3).trans a3).symm ▸ hD)
  exact ⟨(h c _).trans (funext fun i => (r0 i).trans (e.result6 i).symm), (h c _).trans (funext fun i => (r1 i).trans (e.result7 i).symm),
    (h c _).trans (funext fun i => (r2 i).trans (e.result8 i).symm),
    (h c _).trans (AttnRef.kept _), (h c _).trans (AttnRef.kept _), (h c _).trans (AttnRef.kept _), (h c _).trans (AttnRef.kept _)⟩

end Cert.AttnClaim

end
-- ==== Proof.Rms.lean ====
/-
  The row over its root mean square, and its gradient, over the reals, for rows of any length.

  `ms`, `rr` and `unit` are the mean square and `eps`, the reciprocal root and the scaled row.  Differentiation through
  mean square and reciprocal root yields `backDiff`; the closed form is `back`.
-/
module

public import proofs.«01_k».proof.Proof.Reals

@[expose] public section

noncomputable section

namespace Cert.Rms

-- `N` is the number the sum is divided by.
variable {n : ℕ} (N : ℝ) (v y : Fin n → ℝ)

def ms : ℝ := (∑ c, v c * v c) / N + eps
def rr : ℝ := (Real.sqrt (ms N v))⁻¹
def unit (c : Fin n) : ℝ := v c * rr N v

theorem ms_pos (hN : 0 < N) : 0 < ms N v := by
  unfold ms
  have : 0 ≤ ∑ c, v c * v c := Finset.sum_nonneg fun c _ => mul_self_nonneg _
  have := eps_pos
  positivity

theorem rr_ms (hN : 0 < N) : rr N v / ms N v = rr N v ^ 3 := by
  have h := ms_pos N v hN
  have hs : Real.sqrt (ms N v) ^ 2 = ms N v := Real.sq_sqrt h.le
  have : Real.sqrt (ms N v) ≠ 0 := (Real.sqrt_pos.mpr h).ne'
  unfold rr
  generalize Real.sqrt (ms N v) = s at *
  rw [← hs]
  field_simp

/-- The gradient of the row where `y` is that of the scaled row, operation by operation, and in closed form. -/
def coef : ℝ := (∑ c, v c * y c) * (-1 / 2 * (rr N v / ms N v)) / N
def backDiff (c : Fin n) : ℝ := y c * rr N v + v c * coef N v y + coef N v y * v c
def back (c : Fin n) : ℝ := rr N v * (y c - unit N v c * ((∑ c, y c * unit N v c) / N))

theorem backDiff_eq (hN : 0 < N) (c : Fin n) : backDiff N v y c = back N v y c := by
  have h : ∑ c, y c * unit N v c = (∑ c, v c * y c) * rr N v := by
    rw [Finset.sum_mul]
    exact Finset.sum_congr rfl fun c _ => by unfold unit; ring
  unfold backDiff back coef
  rw [h, rr_ms N v hN]
  unfold unit
  ring

end Cert.Rms

end
-- ==== Proof.MlaReal.lean ====
/-
  The gradient of the latent projections of queries, keys and values, over the reals.

  A row's queries, keys and values come from two latents, each a part of the row over its root mean square, and a part of
  the keys is shared by the heads and turned by the position's angles.  The functions here take one row's gradients back
  through turn and products to the two latents and to the parts of the row.
-/
module

public import proofs.«01_k».proof.Proof.Rms
public import proofs.«01_k».proof.Proof.Axes

@[expose] public section

noncomputable section

namespace Cert.Latent

open Idealize.ShloMosaic hiding ix1 ix2 ix3
open Idealize.ShloMosaic.ValueIdx Cert.Rms

/-- The frequency of entry `j` of the turn. -/
def freq (j : Fin 32) : ℝ := Real.rpow 10000 (-(0 + 2 * ((BitVec.ofNat 32 j.val).toInt : ℝ)) / 64)

variable (co si : Fin 32 → ℝ)

/-- The turn backwards. -/
def low (g : Fin 64 → ℝ) (e : Fin 32) : ℝ := g ⟨0 + e, by omega⟩ * co e + g ⟨32 + e, by omega⟩ * si e
def high (g : Fin 64 → ℝ) (e : Fin 32) : ℝ := g ⟨32 + e, by omega⟩ * co e - g ⟨0 + e, by omega⟩ * si e
def unturn (g : Fin 64 → ℝ) (e : Fin 64) : ℝ := if h : e.val < 32 then low co si g ⟨e, h⟩ else high co si g ⟨e - 32, by omega⟩

variable (q k : Fin 8 → Fin 192 → ℝ) (v : Fin 8 → Fin 128 → ℝ)

/-- The gradient of head `h`'s queries before turn and scale. -/
def upq (h : Fin 8) (e : Fin 192) : ℝ :=
  if c : e.val < 128 then q h ⟨0 + e, by omega⟩ * scale
  else unturn co si (fun j => q h ⟨128 + j, by omega⟩ * scale) ⟨e - 128, by omega⟩
/-- The gradient of head `h`'s own keys and its values, one after the other. -/
def upk (h : Fin 8) (e : Fin 256) : ℝ :=
  if c : e.val < 128 then k h ⟨0 + e, by omega⟩ else v h ⟨e - 128, by omega⟩
/-- The gradient of the turned keys the heads share. -/
def shared (e : Fin 64) : ℝ := ∑ h, k h ⟨128 + e, by omega⟩

theorem sum_upq (h : Fin 8) (e : Fin 192) : (if c : e.val < 128 then (0 : ℝ) else unturn co si (fun j => q h ⟨128 + j, by omega⟩ * scale) ⟨e - 128, by omega⟩)
    + (if c : e.val < 128 then q h ⟨0 + e, by omega⟩ * scale else 0) = upq co si q h e := by
  unfold upq
  split_ifs
  · exact zero_add _
  · exact add_zero _
theorem sum_upk (h : Fin 8) (e : Fin 256) : (if c : e.val < 128 then (0 : ℝ) else v h ⟨e - 128, by omega⟩)
    + (if c : e.val < 128 then k h ⟨0 + e, by omega⟩ else 0) = upk k v h e := by
  unfold upk
  split_ifs
  · exact zero_add _
  · exact add_zero _

/-- The heads one after the other. -/
def flatq (D : Fin 8 → Fin 192 → ℝ) (c : Fin 1536) : ℝ := D ⟨c / 192, by omega⟩ ⟨c % 192, by omega⟩
def flatk (D : Fin 8 → Fin 256 → ℝ) (c : Fin 2048) : ℝ := D ⟨c / 256, by omega⟩ ⟨c % 256, by omega⟩

variable {n : ℕ}

/-- The latent, the gradient of the latent, and the gradient of the part of the row it comes from. -/
def lat (c w : Fin 256 → ℝ) (i : Fin 256) : ℝ := unit 256 c i * w i
def dlat (d : Fin n → ℝ) (W : Fin 256 → Fin n → ℝ) (i : Fin 256) : ℝ := ∑ j, d j * W i j
def dpart (c w : Fin 256 → ℝ) (d : Fin n → ℝ) (W : Fin 256 → Fin n → ℝ) (i : Fin 256) : ℝ := back 256 c (fun i => dlat d W i * w i) i

/-- The gradient of the row's parts, one after the other and followed by zeros. -/
def parts (a b : Fin 256 → ℝ) (s : Fin 64 → ℝ) (c : Fin 1024) : ℝ :=
  if h : c.val < 256 then a ⟨c, h⟩ else if h' : c.val < 512 then b ⟨c - 256, by omega⟩
  else if h'' : c.val < 576 then s ⟨c - 512, by omega⟩ else 0

theorem parts_rep {n : Nat} {x y : (⟨2, ![n, 256]⟩ : Shape).Idx → EReal} {z : (⟨2, ![n, 64]⟩ : Shape).Idx → EReal}
    {u : (⟨2, ![n, 448]⟩ : Shape).Idx → EReal} {a b : Fin n → Fin 256 → ℝ} {s : Fin n → Fin 64 → ℝ} (hx : Mat x a) (hy : Mat y b)
    (hz : Mat z s) (hu : Mat u fun _ _ => 0)
    (h : Shape.Concatenates [(⟨2, ![n, 256]⟩ : Shape), ⟨2, ![n, 256]⟩, ⟨2, ![n, 64]⟩, ⟨2, ![n, 448]⟩] ⟨2, ![n, 1024]⟩ 1) :
    Mat (concatenate ⟨2, ![n, 1024]⟩ 1 [⟨⟨2, ![n, 256]⟩, x⟩, ⟨⟨2, ![n, 256]⟩, y⟩, ⟨⟨2, ![n, 64]⟩, z⟩, ⟨⟨2, ![n, 448]⟩, u⟩] h)
      (fun r c => parts (a r) (b r) (s r) c) := fun i => by
  have h1 := size1 i
  let xs : List ((s : Shape) × (s.Idx → EReal)) := [⟨⟨2, ![n, 256]⟩, x⟩, ⟨⟨2, ![n, 256]⟩, y⟩, ⟨⟨2, ![n, 64]⟩, z⟩, ⟨⟨2, ![n, 448]⟩, u⟩]
  have hc : Shape.Concatenates (xs.map (·.1)) ⟨2, ![n, 1024]⟩ 1 := h
  show _ = ((parts (a (i 0)) (b (i 0)) (s (i 0)) (i 1) : ℝ) : EReal)
  unfold parts
  split_ifs with c1 c2 c3
  · refine (concatenate_apply_piece (1 : Fin 2) xs hc i 0 (show 0 < 4 by decide) ⟨2, ![n, 256]⟩ x rfl rfl 0 rfl (ix2 (i 0) ⟨(i 1).val, c1⟩)
      (fun e he => match e with | ⟨0, _⟩ => rfl | ⟨1, _⟩ => absurd rfl he) (Nat.zero_add _)).trans (hx _)
  · refine (concatenate_apply_piece (1 : Fin 2) xs hc i 1 (show 1 < 4 by decide) ⟨2, ![n, 256]⟩ y rfl rfl 256 rfl (ix2 (i 0) ⟨(i 1).val - 256, by omega⟩)
      (fun e he => match e with | ⟨0, _⟩ => rfl | ⟨1, _⟩ => absurd rfl he) (by show 256 + ((i 1).val - 256) = (i 1).val; omega)).trans (hy _)
  · refine (concatenate_apply_piece (1 : Fin 2) xs hc i 2 (show 2 < 4 by decide) ⟨2, ![n, 64]⟩ z rfl rfl 512 rfl (ix2 (i 0) ⟨(i 1).val - 512, by omega⟩)
      (fun e he => match e with | ⟨0, _⟩ => rfl | ⟨1, _⟩ => absurd rfl he) (by show 512 + ((i 1).val - 512) = (i 1).val; omega)).trans (hz _)
  · refine (concatenate_apply_piece (1 : Fin 2) xs hc i 3 (show 3 < 4 by decide) ⟨2, ![n, 448]⟩ u rfl rfl 576 rfl (ix2 (i 0) ⟨(i 1).val - 576, by omega⟩)
      (fun e he => match e with | ⟨0, _⟩ => rfl | ⟨1, _⟩ => absurd rfl he) (by show 576 + ((i 1).val - 576) = (i 1).val; omega)).trans (hu _)

/-- The arguments, over the reals, of `n` rows. -/
structure Args (n : ℕ) where
  q : Fin 8 → Fin n → Fin 192 → ℝ
  k : Fin 8 → Fin n → Fin 192 → ℝ
  v : Fin 8 → Fin n → Fin 128 → ℝ
  cq : Fin n → Fin 256 → ℝ
  ck : Fin n → Fin 256 → ℝ
  pos : Fin n → ℝ
  qn : Fin 1 → Fin 256 → ℝ
  kn : Fin 1 → Fin 256 → ℝ
  wq : Fin 256 → Fin 1536 → ℝ
  wk : Fin 256 → Fin 2048 → ℝ

namespace Args

/-- Some of the rows. -/
def rows {n k : ℕ} (A : Args n) (at_ : Fin k → Fin n) : Args k :=
  { q := fun h r => A.q h (at_ r), k := fun h r => A.k h (at_ r), v := fun h r => A.v h (at_ r), cq := fun r => A.cq (at_ r), ck := fun r => A.ck (at_ r),
    pos := fun r => A.pos (at_ r), qn := A.qn, kn := A.kn, wq := A.wq, wk := A.wk }

variable {n : ℕ} (A : Args n)

def cosAt (r : Fin n) (e : Fin 32) : ℝ := Real.cos (A.pos r * freq e)
def sinAt (r : Fin n) (e : Fin 32) : ℝ := Real.sin (A.pos r * freq e)

/-- The gradients of a row's products with the two weights. -/
def dq (r : Fin n) : Fin 1536 → ℝ := flatq (upq (A.cosAt r) (A.sinAt r) fun h => A.q h r)
def dk (r : Fin n) : Fin 2048 → ℝ := flatk (upk (fun h => A.k h r) fun h => A.v h r)

/-- The results. -/
def row (r : Fin n) : Fin 1024 → ℝ :=
  parts (dpart (A.cq r) (A.qn 0) (A.dq r) A.wq) (dpart (A.ck r) (A.kn 0) (A.dk r) A.wk) (unturn (A.cosAt r) (A.sinAt r) (shared fun h => A.k h r))
def gq (i : Fin 256) (j : Fin 1536) : ℝ := ∑ r, lat (A.cq r) (A.qn 0) i * A.dq r j
def gk (i : Fin 256) (j : Fin 2048) : ℝ := ∑ r, lat (A.ck r) (A.kn 0) i * A.dk r j
def small (k : Fin 8) (i : Fin 256) : ℝ :=
  if k.val = 1 then ∑ r, dlat (A.dk r) A.wk i * unit 256 (A.ck r) i
  else if k.val = 0 then ∑ r, dlat (A.dq r) A.wq i * unit 256 (A.cq r) i else 0

end Args

end Cert.Latent

end
-- ==== Proof.MlaPay.lean ====
/-
  What the body of the latent projections' gradient computes from a block of 512 rows, over the reals.
-/
module

public import proofs.«01_k».proof.Proof.Windows
public import proofs.«01_k».proof.Proof.Gen.MlaIdeal.Skeleton
public import proofs.«01_k».proof.Proof.Products
public import proofs.«01_k».proof.Proof.MlaReal

@[expose] public section

set_option maxRecDepth 16384

noncomputable section

namespace Cert.MlaPay

open Cert.MlaIdeal Cert.MlaIdeal.Gen Cert.Latent Cert.Rms Cert.Windows
open Idealize.ShloMosaic hiding ix1 ix2 ix3
open Idealize.ShloMosaic.ValueIdx

/-! ## One head -/

theorem head_ten {w : Nat} {x : (⟨3, ![8, 512, w]⟩ : Shape).Idx → EReal} {g : Fin 8 → Fin 512 → Fin w → ℝ} (hx : Ten x g) (h : Fin 8) :
    Ten (head x h) (fun _ => g h) := fun z => hx (ix3 h (z 1) (z 2))

section One

variable {x : FVec Ideal S1x512x192 .f32} {y : FVec Ideal S1x512x128 .f32} {xc xs : FVec Ideal S512x32 .f32} {z : FVec Ideal S512x64 .f32}
variable {g : Fin 512 → Fin 192 → ℝ} {f : Fin 512 → Fin 128 → ℝ} {co si : Fin 512 → Fin 32 → ℝ} {t : Fin 512 → Fin 64 → ℝ}

theorem pay9 (hx : Ten x fun _ => g) : Mat (k0_pay9 (F := Ideal) x) fun r e => g r e * scale :=
  Rep.cast (Rep.mul (φ := .f32) (Ten.flat hx _) (Rep.splat (φ := .f32) word_scale)) fun _ => rfl

theorem pay11 (hx : Ten x fun _ => g) : Mat (k0_pay11 (F := Ideal) x) fun r e => g r ⟨0 + e, by omega⟩ * scale :=
  Rep.cast (Mat.cols (pay9 hx) (by decide) (by decide)) fun _ => rfl

theorem pay52 (hx : Ten x fun _ => g) : Mat (k0_pay52 (F := Ideal) x) fun r e => g r ⟨128 + e, by omega⟩ * scale :=
  Rep.cast (Mat.cols (pay9 hx) (by decide) (by decide)) fun _ => rfl

/-- The turn backwards of a block of 64 columns. -/
def unturned (xc xs : FVec Ideal S512x32 .f32) (z : FVec Ideal S512x64 .f32) : FVec Ideal S512x64 .f32 :=
  concatenate S512x64 1 [⟨S512x32, addf (mulf (k0_pay75 z) xc) (mulf (k0_pay76 z) xs)⟩,
    ⟨S512x32, subf (mulf (k0_pay76 z) xc) (mulf (k0_pay75 z) xs)⟩] concatenates_S512x32_S512x32_S512x64_d1

theorem unturned_mat (hc : Mat xc co) (hs : Mat xs si) (hz : Mat z t) : Mat (unturned xc xs z) fun r => unturn (co r) (si r) (t r) := by
  have l : Mat (k0_pay75 z) fun r e => t r ⟨0 + e, by omega⟩ := Rep.cast (Mat.cols hz (by decide) (by decide)) fun _ => rfl
  have u : Mat (k0_pay76 z) fun r e => t r ⟨32 + e, by omega⟩ := Rep.cast (Mat.cols hz (by decide) (by decide)) fun _ => rfl
  exact Mat.beside (g := fun r => low (co r) (si r) (t r)) (f := fun r => high (co r) (si r) (t r))
    (Rep.cast (Rep.add (φ := .f32) (Rep.mul (φ := .f32) l hc) (Rep.mul (φ := .f32) u hs)) fun _ => rfl)
    (Rep.cast (Rep.sub (φ := .f32) (Rep.mul (φ := .f32) u hc) (Rep.mul (φ := .f32) l hs)) fun _ => rfl) rfl _

theorem pay19 (hc : Mat xc co) (hs : Mat xs si) (hx : Ten x fun _ => g) :
    Mat (k0_pay19 (F := Ideal) xc xs x) fun r => unturn (co r) (si r) fun e => g r ⟨128 + e, by omega⟩ * scale :=
  unturned_mat hc hs (pay52 hx)

theorem pay20 (hx : Ten x fun _ => g) : Mat (k0_pay20 (F := Ideal) x) fun r e => g r ⟨0 + e, by omega⟩ :=
  Rep.cast (Mat.cols (Ten.flat hx shapeCasts_S1x512x192_S512x192) (by decide) (by decide)) fun _ => rfl

theorem pay21 (hy : Ten y fun _ => f) : Mat (k0_pay21 (F := Ideal) y) f := Ten.flat hy _

/-- The shared keys' gradient with one head's added. -/
theorem pay22 (hz : Mat z t) (hx : Ten x fun _ => g) : Mat (k0_pay22 (F := Ideal) z x) fun r e => t r e + g r ⟨128 + e, by omega⟩ :=
  Rep.cast (Rep.add (φ := .f32) hz (Mat.cols (Ten.flat hx shapeCasts_S1x512x192_S512x192) (by decide) (by decide))) fun _ => rfl

end One

/-! ## The heads one after the other -/

section All

variable {xq xk : FVec Ideal S8x512x192 .f32} {xv : FVec Ideal S8x512x128 .f32} {xc xs : FVec Ideal S512x32 .f32}
variable {q k : Fin 8 → Fin 512 → Fin 192 → ℝ} {v : Fin 8 → Fin 512 → Fin 128 → ℝ} {co si : Fin 512 → Fin 32 → ℝ}

abbrev upqOut (xq : FVec Ideal S8x512x192 .f32) (xc xs : FVec Ideal S512x32 .f32) (first : FVec Ideal S512x64 .f32) : FVec Ideal S512x1536 .bf16 :=
  k0_pay58 xc xs (k0_pay11 (head xq 0)) first (k0_pay18 (head xq 1)) (k0_pay19 xc xs (head xq 1))
    (k0_pay25 (head xq 2)) (k0_pay26 xc xs (head xq 2)) (k0_pay31 (head xq 3)) (k0_pay32 xc xs (head xq 3))
    (k0_pay38 (head xq 4)) (k0_pay39 xc xs (head xq 4)) (k0_pay44 (head xq 5)) (k0_pay45 xc xs (head xq 5))
    (k0_pay51 (head xq 6)) (k0_pay53 (head xq 6)) (k0_pay54 (head xq 6)) (k0_pay55 xc xs (head xq 6)) (head xq 7)

abbrev upkOut (xk : FVec Ideal S8x512x192 .f32) (xv : FVec Ideal S8x512x128 .f32) : FVec Ideal S512x2048 .bf16 :=
  k0_pay59 (k0_pay13 (head xk 0)) (k0_pay14 (head xv 0)) (k0_pay20 (head xk 1)) (k0_pay21 (head xv 1))
    (k0_pay27 (head xk 2)) (k0_pay28 (head xv 2)) (k0_pay33 (head xk 3)) (k0_pay34 (head xv 3))
    (k0_pay40 (k0_pay37 (head xk 4))) (k0_pay41 (head xv 4)) (k0_pay46 (head xk 5)) (k0_pay47 (head xv 5))
    (k0_pay50 (head xk 6)) (head xv 6) (head xk 7) (head xv 7)

abbrev sharedOut (xk : FVec Ideal S8x512x192 .f32) : FVec Ideal S512x64 .f32 :=
  k0_pay57 (k0_pay48 (k0_pay35 (k0_pay22 (k0_pay15 (head xk 0)) (head xk 1)) (k0_pay24 (head xk 2)) (head xk 3))
    (k0_pay37 (head xk 4)) (head xk 5)) (k0_pay50 (head xk 6)) (head xk 7)

/-- The pieces before the `k`-th of the `q` row. -/
theorem before_q (h : Fin 8) :
    ((([S512x128, S512x64, S512x128, S512x64, S512x128, S512x64, S512x128, S512x64, S512x128, S512x64, S512x128, S512x64, S512x128, S512x64, S512x128, S512x64].take (2 * h.val)).map fun s : Shape => if e : s.rank = (S512x1536).rank then s.size ((1 : Fin 2).cast e.symm) else 0).sum = 192 * h.val)
      ∧ ((([S512x128, S512x64, S512x128, S512x64, S512x128, S512x64, S512x128, S512x64, S512x128, S512x64, S512x128, S512x64, S512x128, S512x64, S512x128, S512x64].take (2 * h.val + 1)).map fun s : Shape => if e : s.rank = (S512x1536).rank then s.size ((1 : Fin 2).cast e.symm) else 0).sum
        = 192 * h.val + 128) := by
  revert h
  decide +kernel

/-- Sixteen pieces, two for each head. -/
theorem piece_q (P : Fin 8 → FVec Ideal S512x128 .f32) (R : Fin 8 → FVec Ideal S512x64 .f32) (p : Fin 8 → Fin 512 → Fin 128 → ℝ)
    (u : Fin 8 → Fin 512 → Fin 64 → ℝ) (hP : ∀ h, Mat (P h) (p h)) (hR : ∀ h, Mat (R h) (u h)) :
    Mat (concatenate S512x1536 1 [⟨S512x128, P 0⟩, ⟨S512x64, R 0⟩, ⟨S512x128, P 1⟩, ⟨S512x64, R 1⟩, ⟨S512x128, P 2⟩, ⟨S512x64, R 2⟩,
      ⟨S512x128, P 3⟩, ⟨S512x64, R 3⟩, ⟨S512x128, P 4⟩, ⟨S512x64, R 4⟩, ⟨S512x128, P 5⟩, ⟨S512x64, R 5⟩, ⟨S512x128, P 6⟩, ⟨S512x64, R 6⟩,
      ⟨S512x128, P 7⟩, ⟨S512x64, R 7⟩] concatenates_S512x128_S512x64_S512x128_S512x64_S512x128_S512x64_S512x128_S512x64_S512x128_S512x64_S512x128_S512x64_S512x128_S512x64_S512x128_S512x64_S512x1536_d1)
      fun r => flatq fun h e => if c : e.val < 128 then p h r ⟨e, c⟩ else u h r ⟨e - 128, by omega⟩ := fun i => by
  let xs : List ((s : Shape) × (s.Idx → EReal)) := [⟨S512x128, P 0⟩, ⟨S512x64, R 0⟩, ⟨S512x128, P 1⟩, ⟨S512x64, R 1⟩, ⟨S512x128, P 2⟩, ⟨S512x64, R 2⟩, ⟨S512x128, P 3⟩, ⟨S512x64, R 3⟩, ⟨S512x128, P 4⟩, ⟨S512x64, R 4⟩, ⟨S512x128, P 5⟩, ⟨S512x64, R 5⟩, ⟨S512x128, P 6⟩, ⟨S512x64, R 6⟩, ⟨S512x128, P 7⟩, ⟨S512x64, R 7⟩]
  have hc : Shape.Concatenates (xs.map (·.1)) S512x1536 1 :=
    concatenates_S512x128_S512x64_S512x128_S512x64_S512x128_S512x64_S512x128_S512x64_S512x128_S512x64_S512x128_S512x64_S512x128_S512x64_S512x128_S512x64_S512x1536_d1
  have h1 : (i 1).val < 1536 := (i 1).isLt
  obtain ⟨h, hh⟩ : ∃ h : Fin 8, (i 1).val / 192 = h.val := ⟨⟨(i 1).val / 192, by omega⟩, rfl⟩
  let e := (i 1).val % 192
  have he : (i 1).val % 192 = e := rfl
  have hi : 192 * h.val + e = (i 1).val := by omega
  show _ = ((dite _ _ _ : ℝ) : EReal)
  have hf : (⟨(i 1).val / 192, by omega⟩ : Fin 8) = h := Fin.ext hh
  split_ifs with c
  · have c' : e < 128 := c
    refine (concatenate_apply_piece (1 : Fin 2) xs hc i (2 * h.val) (by have := h.isLt; show 2 * h.val < 16; omega) S512x128 (P h)
      (by fin_cases h <;> rfl) rfl (192 * h.val) (by rw [List.map_take]; exact (before_q h).1) (ix2 (i 0) ⟨e, c'⟩)
      (fun a ha => match a with | ⟨0, _⟩ => rfl | ⟨1, _⟩ => absurd rfl ha) hi).trans ((hP h _).trans (congrArg _ ?_))
    rw [hf]
  · have c' : ¬e < 128 := c
    refine (concatenate_apply_piece (1 : Fin 2) xs hc i (2 * h.val + 1) (by have := h.isLt; show 2 * h.val + 1 < 16; omega) S512x64 (R h)
      (by fin_cases h <;> rfl) rfl (192 * h.val + 128) (by rw [List.map_take]; exact (before_q h).2) (ix2 (i 0) ⟨e - 128, by omega⟩)
      (fun a ha => match a with | ⟨0, _⟩ => rfl | ⟨1, _⟩ => absurd rfl ha) (by show 192 * h.val + 128 + (e - 128) = (i 1).val; omega)).trans
      ((hR h _).trans (congrArg _ ?_))
    rw [hf]

/-- The pieces before the `k`-th of the `k` row. -/
theorem before_k (h : Fin 8) :
    ((([S512x128, S512x128, S512x128, S512x128, S512x128, S512x128, S512x128, S512x128, S512x128, S512x128, S512x128, S512x128, S512x128, S512x128, S512x128, S512x128].take (2 * h.val)).map fun s : Shape => if e : s.rank = (S512x2048).rank then s.size ((1 : Fin 2).cast e.symm) else 0).sum = 256 * h.val)
      ∧ ((([S512x128, S512x128, S512x128, S512x128, S512x128, S512x128, S512x128, S512x128, S512x128, S512x128, S512x128, S512x128, S512x128, S512x128, S512x128, S512x128].take (2 * h.val + 1)).map fun s : Shape => if e : s.rank = (S512x2048).rank then s.size ((1 : Fin 2).cast e.symm) else 0).sum
        = 256 * h.val + 128) := by
  revert h
  decide +kernel

theorem piece_k (P R : Fin 8 → FVec Ideal S512x128 .f32) (p u : Fin 8 → Fin 512 → Fin 128 → ℝ)
    (hP : ∀ h, Mat (P h) (p h)) (hR : ∀ h, Mat (R h) (u h)) :
    Mat (concatenate S512x2048 1 [⟨S512x128, P 0⟩, ⟨S512x128, R 0⟩, ⟨S512x128, P 1⟩, ⟨S512x128, R 1⟩, ⟨S512x128, P 2⟩, ⟨S512x128, R 2⟩,
      ⟨S512x128, P 3⟩, ⟨S512x128, R 3⟩, ⟨S512x128, P 4⟩, ⟨S512x128, R 4⟩, ⟨S512x128, P 5⟩, ⟨S512x128, R 5⟩, ⟨S512x128, P 6⟩, ⟨S512x128, R 6⟩,
      ⟨S512x128, P 7⟩, ⟨S512x128, R 7⟩] concatenates_S512x128_S512x128_S512x128_S512x128_S512x128_S512x128_S512x128_S512x128_S512x128_S512x128_S512x128_S512x128_S512x128_S512x128_S512x128_S512x128_S512x2048_d1)
      fun r => flatk fun h e => if c : e.val < 128 then p h r ⟨e, c⟩ else u h r ⟨e - 128, by omega⟩ := fun i => by
  let xs : List ((s : Shape) × (s.Idx → EReal)) := [⟨S512x128, P 0⟩, ⟨S512x128, R 0⟩, ⟨S512x128, P 1⟩, ⟨S512x128, R 1⟩, ⟨S512x128, P 2⟩, ⟨S512x128, R 2⟩, ⟨S512x128, P 3⟩, ⟨S512x128, R 3⟩, ⟨S512x128, P 4⟩, ⟨S512x128, R 4⟩, ⟨S512x128, P 5⟩, ⟨S512x128, R 5⟩, ⟨S512x128, P 6⟩, ⟨S512x128, R 6⟩, ⟨S512x128, P 7⟩, ⟨S512x128, R 7⟩]
  have hc : Shape.Concatenates (xs.map (·.1)) S512x2048 1 :=
    concatenates_S512x128_S512x128_S512x128_S512x128_S512x128_S512x128_S512x128_S512x128_S512x128_S512x128_S512x128_S512x128_S512x128_S512x128_S512x128_S512x128_S512x2048_d1
  have h1 : (i 1).val < 2048 := (i 1).isLt
  obtain ⟨h, hh⟩ : ∃ h : Fin 8, (i 1).val / 256 = h.val := ⟨⟨(i 1).val / 256, by omega⟩, rfl⟩
  let e := (i 1).val % 256
  have he : (i 1).val % 256 = e := rfl
  have hi : 256 * h.val + e = (i 1).val := by omega
  show _ = ((dite _ _ _ : ℝ) : EReal)
  have hf : (⟨(i 1).val / 256, by omega⟩ : Fin 8) = h := Fin.ext hh
  split_ifs with c
  · have c' : e < 128 := c
    refine (concatenate_apply_piece (1 : Fin 2) xs hc i (2 * h.val) (by have := h.isLt; show 2 * h.val < 16; omega) S512x128 (P h)
      (by fin_cases h <;> rfl) rfl (256 * h.val) (by rw [List.map_take]; exact (before_k h).1) (ix2 (i 0) ⟨e, c'⟩)
      (fun a ha => match a with | ⟨0, _⟩ => rfl | ⟨1, _⟩ => absurd rfl ha) hi).trans ((hP h _).trans (congrArg _ ?_))
    rw [hf]
  · have c' : ¬e < 128 := c
    refine (concatenate_apply_piece (1 : Fin 2) xs hc i (2 * h.val + 1) (by have := h.isLt; show 2 * h.val + 1 < 16; omega) S512x128 (R h)
      (by fin_cases h <;> rfl) rfl (256 * h.val + 128) (by rw [List.map_take]; exact (before_k h).2) (ix2 (i 0) ⟨e - 128, by omega⟩)
      (fun a ha => match a with | ⟨0, _⟩ => rfl | ⟨1, _⟩ => absurd rfl ha) (by show 256 * h.val + 128 + (e - 128) = (i 1).val; omega)).trans
      ((hR h _).trans (congrArg _ ?_))
    rw [hf]

theorem upq_mat (hc : Mat xc co) (hs : Mat xs si) (hq : Ten xq q) :
    Mat (upqOut xq xc xs (k0_pay19 xc xs (head xq 0))) fun r => flatq (upq (co r) (si r) fun h => q h r) :=
  piece_q (fun h => k0_pay11 (head xq h)) (fun h => k0_pay19 xc xs (head xq h)) _ _ (fun h => pay11 (head_ten hq h))
    (fun h => pay19 hc hs (head_ten hq h))

theorem upk_mat (hk : Ten xk k) (hv : Ten xv v) : Mat (upkOut xk xv) fun r => flatk (upk (fun h => k h r) fun h => v h r) :=
  piece_k (fun h => k0_pay20 (head xk h)) (fun h => k0_pay21 (head xv h)) _ _ (fun h => pay20 (head_ten hk h))
    (fun h => pay21 (head_ten hv h))

theorem shared_mat (hk : Ten xk k) : Mat (sharedOut xk) fun r => shared fun h => k h r := by
  have z : Mat (broadcast S512x64 (Ideal.ofBits .f32 0x00000000#32)) fun _ _ => 0 := Rep.splat (φ := .f32) word_zero
  have h := fun j => head_ten hk j
  have s := pay22 (pay22 (pay22 (pay22 (pay22 (pay22 (pay22 (pay22 z (h 0)) (h 1)) (h 2)) (h 3)) (h 4)) (h 5)) (h 6)) (h 7)
  have key (r : Fin 512) (e : Fin 64) : 0 + k 0 r ⟨128 + e, by omega⟩ + k 1 r ⟨128 + e, by omega⟩ + k 2 r ⟨128 + e, by omega⟩
      + k 3 r ⟨128 + e, by omega⟩ + k 4 r ⟨128 + e, by omega⟩ + k 5 r ⟨128 + e, by omega⟩ + k 6 r ⟨128 + e, by omega⟩
      + k 7 r ⟨128 + e, by omega⟩ = shared (fun h => k h r) e := by
    unfold shared
    rw [Fin.sum_univ_eight, zero_add]
  exact Rep.cast (x := sharedOut xk) s fun i => key (i 0) (i 1)

end All

/-! ## The latents -/

section Latents

variable {d1 : FVec Ideal S512x1536 .bf16} {d2 : FVec Ideal S512x2048 .bf16} {xp : FVec Ideal S512x1024 .bf16} {xn : FVec Ideal S1x256 .f32}
variable {w1 : FVec Ideal S256x1536 .bf16} {w2 : FVec Ideal S256x2048 .bf16} {a1 : FVec Ideal S256x1536 .f32} {a2 : FVec Ideal S256x2048 .f32}
variable {xa : FVec Ideal S1x256 .f32}
variable {e1 : Fin 512 → Fin 1536 → ℝ} {e2 : Fin 512 → Fin 2048 → ℝ} {c : Fin 512 → Fin 256 → ℝ} {w : Fin 1 → Fin 256 → ℝ}
variable {u1 b1 : Fin 256 → Fin 1536 → ℝ} {u2 b2 : Fin 256 → Fin 2048 → ℝ} {a : Fin 1 → Fin 256 → ℝ}

theorem block_q (h : ∀ r q, xp (ix2 r ⟨q.val, by omega⟩) = (c r q : EReal)) : Mat (k0_pay60 (k0_pay5 (F := Ideal) xp)) c := fun i =>
  (extractStridedSlice_apply _ _ slices_S512x1024_o0_0_S512x256 _ (ix2 (n0 := 512) (n1 := 1024) (i 0) ⟨(i 1).val, by have := size1 i; omega⟩) fun b => match b with
    | ⟨0, _⟩ => (Nat.zero_add _).symm
    | ⟨1, _⟩ => (Nat.zero_add _).symm).trans ((congrFun (shapeCast_self xp _) _).trans (h (i 0) (i 1)))

theorem block_k (h : ∀ r q, xp (ix2 r ⟨256 + q.val, by omega⟩) = (c r q : EReal)) : Mat (k0_pay67 (k0_pay5 (F := Ideal) xp)) c := fun i =>
  (extractStridedSlice_apply _ _ slices_S512x1024_o0_256_S512x256 _ (ix2 (n0 := 512) (n1 := 1024) (i 0) ⟨256 + (i 1).val, by have := size1 i; omega⟩) fun b => match b with
    | ⟨0, _⟩ => (Nat.zero_add _).symm
    | ⟨1, _⟩ => rfl).trans ((congrFun (shapeCast_self xp _) _).trans (h (i 0) (i 1)))

/-- The mean square, the reciprocal root and the scaled row of a block of 256 columns. -/
def square (y : FVec Ideal S512x256 .f32) : FVec Ideal S512x1 .f32 :=
  divf (shapeCast S512x1 (multiReduction .add [1] S512 (mulf y y) 0x00000000#32 reduces_S512x256_S512 (.inl rfl) rfl) shapeCasts_S512_S512x1)
    (broadcast S512x1 (Scalar.ofBits .f32 0x43800000#32))

variable {y : FVec Ideal S512x256 .f32}

theorem pay69 (hy : Mat y c) : Mat (k0_pay69 (square y)) fun r _ => rr 256 (c r) :=
  Rep.cast (Rep.rsqrt (φ := .f32) (g := fun i => ms 256 (c (i 0))) (Rep.cast (Rep.add (φ := .f32) (Rep.div (φ := .f32)
    (Row.col (Mat.sum_rows (φ := .f32) (Rep.mul (φ := .f32) hy hy) _ _ _ _) _)
    (Rep.splat (φ := .f32) word_256) fun _ => by norm_num) (Rep.splat (φ := .f32) word_eps)) fun _ => rfl)
    fun i => ms_pos _ _ (by norm_num)) fun _ => rfl

theorem pay70 (hy : Mat y c) : Mat (k0_pay70 y (square y)) fun r => unit 256 (c r) :=
  Rep.cast (Rep.mul (φ := .f32) hy (Mat.repeat_col (pay69 hy) _)) fun _ => rfl

theorem pay71 (hd : Mat d2 e2) (hy : Mat y c) (hw : Mat xn w) (ha : Mat a2 b2) :
    Mat (k0_pay71 d2 y (square y) xn a2) fun i j => b2 i j + ∑ r, lat (c r) (w 0) i * e2 r j :=
  Rep.cast (Rep.add (φ := .f32) (Rep.self _ ha) (Rep.matmul (φ₁ := .bf16) (φ₂ := .bf16) dot_S512x256_S512x2048_S256x2048_0_0_1_1_n_n none
    (Rep.trunc (φ := .f32) (ψ := .bf16) bitsLt_bf16_f32 (Rep.mul (φ := .f32) (pay70 hy) (Mat.repeat_row hw _))) hd)) fun _ => rfl

theorem pay63 (hd : Mat d1 e1) (hy : Mat y c) (hw : Mat xn w) (ha : Mat a1 b1) :
    Mat (k0_pay63 d1 y (k0_pay69 (square y)) xn a1) fun i j => b1 i j + ∑ r, lat (c r) (w 0) i * e1 r j :=
  Rep.cast (Rep.add (φ := .f32) (Rep.self _ ha) (Rep.matmul (φ₁ := .bf16) (φ₂ := .bf16) dot_S512x256_S512x1536_S256x1536_0_0_1_1_n_n none
    (Rep.trunc (φ := .f32) (ψ := .bf16) bitsLt_bf16_f32 (Rep.mul (φ := .f32) (pay70 hy) (Mat.repeat_row hw _))) hd)) fun _ => rfl

theorem pay72 (hd : Mat d2 e2) (hu : Mat w2 u2) : Mat (k0_pay72 d2 w2) fun r => dlat (e2 r) u2 :=
  Rep.cast (Rep.matmul (φ₁ := .bf16) (φ₂ := .bf16) dot_S512x2048_S256x2048_S512x256_1_1_0_0_n_n none hd (Rep.self _ hu)) fun _ => rfl

theorem pay64 (hd : Mat d1 e1) (hu : Mat w1 u1) : Mat (k0_pay64 d1 w1) fun r => dlat (e1 r) u1 :=
  Rep.cast (Rep.matmul (φ₁ := .bf16) (φ₂ := .bf16) dot_S512x1536_S256x1536_S512x256_1_1_0_0_n_n none hd (Rep.self _ hu)) fun _ => rfl

theorem pay73 (hd : Mat d2 e2) (hy : Mat y c) (hu : Mat w2 u2) (ha : Mat xa a) :
    Mat (k0_pay73 d2 y (square y) w2 xa) fun k i => a k i + ∑ r, dlat (e2 r) u2 i * unit 256 (c r) i :=
  Rep.cast (Rep.add (φ := .f32) (Rep.self _ ha) (Row.row (Mat.sum_cols (φ := .f32) (Rep.mul (φ := .f32) (pay72 hd hu) (pay70 hy)) _ _ _ _) _))
    fun _ => rfl

theorem pay65 (hd : Mat d1 e1) (hy : Mat y c) (hu : Mat w1 u1) (ha : Mat xa a) :
    Mat (k0_pay65 d1 y (k0_pay69 (square y)) w1 xa) fun k i => a k i + ∑ r, dlat (e1 r) u1 i * unit 256 (c r) i :=
  Rep.cast (Rep.add (φ := .f32) (Rep.self _ ha) (Row.row (Mat.sum_cols (φ := .f32) (Rep.mul (φ := .f32) (pay64 hd hu) (pay70 hy)) _ _ _ _) _))
    fun _ => rfl

/-- The gradient of the part of the row, from that of the latent. -/
def partOut (y l : FVec Ideal S512x256 .f32) (xn : FVec Ideal S1x256 .f32) : FVec Ideal S512x256 .f32 :=
  mulf (broadcastTo S512x256 (k0_pay69 (square y)) broadcasts_S512x1_S512x256)
    (subf (mulf l (broadcastTo S512x256 xn broadcasts_S1x256_S512x256)) (mulf (k0_pay70 y (square y))
      (broadcastTo S512x256 (divf (shapeCast S512x1 (multiReduction .add [1] S512
        (mulf (mulf l (broadcastTo S512x256 xn broadcasts_S1x256_S512x256)) (k0_pay70 y (square y))) 0x00000000#32 reduces_S512x256_S512 (.inl rfl) rfl)
        shapeCasts_S512_S512x1) (broadcast S512x1 (Scalar.ofBits .f32 0x43800000#32))) broadcasts_S512x1_S512x256)))

theorem partOut_mat {l : FVec Ideal S512x256 .f32} {g : Fin 512 → Fin 256 → ℝ} (hy : Mat y c) (hl : Mat l g) (hw : Mat xn w) :
    Mat (partOut y l xn) fun r => back 256 (c r) fun i => g r i * w 0 i := by
  have hm : Mat (mulf l (broadcastTo S512x256 xn broadcasts_S1x256_S512x256)) fun r i => g r i * w 0 i :=
    Rep.cast (Rep.mul (φ := .f32) hl (Mat.repeat_row hw _)) fun _ => rfl
  exact Rep.cast (Rep.mul (φ := .f32) (Mat.repeat_col (pay69 hy) _) (Rep.sub (φ := .f32) hm (Rep.mul (φ := .f32) (pay70 hy)
    (Mat.repeat_col (Rep.div (φ := .f32) (Row.col (Mat.sum_rows (φ := .f32) (Rep.mul (φ := .f32) hm (pay70 hy)) _ _ _ _) _)
      (Rep.splat (φ := .f32) word_256) fun _ => by norm_num) _)))) fun _ => rfl

theorem pay74 (hd : Mat d2 e2) (hy : Mat y c) (hw : Mat xn w) (hu : Mat w2 u2) :
    Mat (k0_pay74 d2 y (square y) xn w2) fun r => dpart (c r) (w 0) (e2 r) u2 :=
  partOut_mat hy (pay72 hd hu) hw

theorem pay66 (hd : Mat d1 e1) (hy : Mat y c) (hw : Mat xn w) (hu : Mat w1 u1) :
    Mat (k0_pay66 d1 y (k0_pay69 (square y)) xn w1) fun r => dpart (c r) (w 0) (e1 r) u1 :=
  partOut_mat hy (pay64 hd hu) hw

end Latents

/-! ## The angles, and the gradient of the row's parts -/

section Row

variable {xt : IVec S512x1 32} {xf : FVec Ideal S1x32 .f32} {f : Fin 1 → Fin 32 → ℝ}

theorem pay6 (hf : Mat xf f) : Mat (k0_pay6 (F := Ideal) xt xf) fun r e => ((xt (ix2 r 0)).toInt : ℝ) * f 0 e := by
  have ht : Mat (sitofp (F := Ideal) .f32 (shapeCast S512x1 xt shapeCasts_S512x1_S512x1)) fun r _ => ((xt (ix2 r 0)).toInt : ℝ) := fun i => by
    rw [shapeCast_self]
    have e : i = ix2 (i 0) 0 := funext fun a => match a with
      | ⟨0, _⟩ => rfl
      | ⟨1, _⟩ => Fin.ext (by have := size1 i; show (i 1).val = 0; omega)
    rw [e]; rfl
  exact Rep.cast (Rep.mul (φ := .f32) (Mat.repeat_col ht _) (Mat.repeat_row (Rep.self _ hf) _)) fun _ => rfl

variable {xc xs : FVec Ideal S512x32 .f32} {x y : FVec Ideal S512x256 .f32} {z : FVec Ideal S512x64 .f32}
variable {co si : Fin 512 → Fin 32 → ℝ} {a b : Fin 512 → Fin 256 → ℝ} {t : Fin 512 → Fin 64 → ℝ}

theorem pay1 (hc : Mat xc co) (hs : Mat xs si) (hx : Mat x a) (hy : Mat y b) (hz : Mat z t) :
    Mat (k0_pay1 xc xs x y (k0_pay75 z) (k0_pay76 z) (k0_pay77 xc z) (k0_pay78 xs z))
      fun r => parts (a r) (b r) (unturn (co r) (si r) (t r)) :=
  parts_rep hx hy (unturned_mat hc hs hz) (Rep.splat (φ := .f32) word_zero)
    concatenates_S512x256_S512x256_S512x64_S512x448_S512x1024_d1

end Row

end Cert.MlaPay

end
-- ==== Proof.MlaBody.lean ====
/-
  The latent projections' gradient of the kernel, over the reals: what a block of 512 rows leaves in its windows.
-/
module
public import proofs.«01_k».proof.Proof.Windows
public import proofs.«01_k».proof.Proof.Gen.MlaIdeal.Value
public import proofs.«01_k».proof.Proof.MlaPay
@[expose] public section
set_option maxRecDepth 16384
noncomputable section
namespace Cert.MlaBody
open Cert.MlaIdeal Cert.MlaIdeal.Gen Cert.Latent Cert.Rms Cert.MlaPay Cert.Windows
open Idealize.ShloMosaic hiding ix1 ix2 ix3
open Idealize.ShloMosaic.TcCoe Idealize.SL.Sem Idealize.ShloMosaic.ValueIdx

/-! ## The block's functions -/

section Out

variable (x0 x1 : FVec Ideal S8x512x192 .f32) (x2 : FVec Ideal S8x512x128 .f32) (x3 : FVec Ideal S512x1024 .bf16) (x4 : IVec S512x1 32)
  (x5 : FVec Ideal S1x32 .f32) (x6 x7 : FVec Ideal S1x256 .f32) (x8 : FVec Ideal S256x1536 .bf16) (x9 : FVec Ideal S256x2048 .bf16)

abbrev dqOut : FVec Ideal S512x1536 .bf16 :=
  upqOut x0 (k0_pay7 x4 x5) (k0_pay8 x4 x5) (k0_pay12 x4 x5 (head x0 0))

def rowsOut : FVec Ideal S512x1024 .bf16 :=
  k0_pay1 (k0_pay7 x4 x5) (k0_pay8 x4 x5) (k0_pay66 (dqOut x0 x4 x5) (k0_pay60 (k0_pay5 x3)) (k0_pay61 (k0_pay5 x3)) x6 x8)
    (k0_pay74 (upkOut x1 x2) (k0_pay67 (k0_pay5 x3)) (k0_pay68 (k0_pay5 x3)) x7 x9)
    (k0_pay75 (sharedOut x1)) (k0_pay76 (sharedOut x1)) (k0_pay77 (k0_pay7 x4 x5) (sharedOut x1)) (k0_pay78 (k0_pay8 x4 x5) (sharedOut x1))

def upqAcc (xo : FVec Ideal S256x1536 .f32) : FVec Ideal S256x1536 .f32 :=
  k0_pay63 (dqOut x0 x4 x5) (k0_pay60 (k0_pay5 x3)) (k0_pay61 (k0_pay5 x3)) x6 xo

def upkAcc (xo : FVec Ideal S256x2048 .f32) : FVec Ideal S256x2048 .f32 :=
  k0_pay71 (upkOut x1 x2) (k0_pay67 (k0_pay5 x3)) (k0_pay68 (k0_pay5 x3)) x7 xo

/-- The block of sums with one block of rows added. -/
def sums (xo : FVec Ideal S8x256 .f32) : FVec Ideal S8x256 .f32 := fun y =>
  if (y 0).val = 1 then k0_pay73 (upkOut x1 x2) (k0_pay67 (k0_pay5 x3)) (k0_pay68 (k0_pay5 x3)) x9 (rowOf xo 1) (ix2 0 (y 1))
  else if (y 0).val = 0 then k0_pay65 (dqOut x0 x4 x5) (k0_pay60 (k0_pay5 x3)) (k0_pay61 (k0_pay5 x3)) x8 (rowOf xo 0) (ix2 0 (y 1))
  else xo y

end Out

/-! ## The body leaves them -/

section Body

variable (c : Dev nD) (i : grid0.Coords)
  (a1 : Memref sig .tc .vmem S8x512x192 .f32) (h1 : a1.IsWhole)
  (a2 : Memref sig .tc .vmem S8x512x192 .f32) (h2 : a2.IsWhole)
  (a3 : Memref sig .tc .vmem S8x512x128 .f32) (h3 : a3.IsWhole)
  (a4 : Memref sig .tc .vmem S512x1024 .bf16) (h4 : a4.IsWhole)
  (a5 : Memref sig .tc .vmem S512x1 .i32) (h5 : a5.IsWhole)
  (a6 : Memref sig .tc .vmem S1x32 .f32) (h6 : a6.IsWhole)
  (a7 : Memref sig .tc .vmem S1x256 .f32) (h7 : a7.IsWhole)
  (a8 : Memref sig .tc .vmem S1x256 .f32) (h8 : a8.IsWhole)
  (a9 : Memref sig .tc .vmem S256x1536 .bf16) (h9 : a9.IsWhole)
  (a10 : Memref sig .tc .vmem S256x2048 .bf16) (h10 : a10.IsWhole)
  (a11 : Memref sig .tc .vmem S512x1024 .bf16) (h11 : a11.IsWhole)
  (a12 : Memref sig .tc .vmem S256x1536 .f32) (h12 : a12.IsWhole)
  (a13 : Memref sig .tc .vmem S256x2048 .f32) (h13 : a13.IsWhole)
  (a14 : Memref sig .tc .vmem S8x256 .f32) (h14 : a14.IsWhole)
  (x0 x1 : FVec Ideal S8x512x192 .f32) (x2 : FVec Ideal S8x512x128 .f32) (x3 : FVec Ideal S512x1024 .bf16) (x4 : IVec S512x1 32)
  (x5 : FVec Ideal S1x32 .f32) (x6 x7 : FVec Ideal S1x256 .f32) (x8 : FVec Ideal S256x1536 .bf16) (x9 : FVec Ideal S256x2048 .bf16)
  (o1 : FVec Ideal S256x1536 .f32) (o2 : FVec Ideal S256x2048 .f32) (o3 : FVec Ideal S8x256 .f32)

theorem outB10 (hc) : out0_B_10 (F := Ideal) c i a1 h1 a2 h2 a3 h3 a4 h4 a5 h5 a6 h6 a7 h7 a8 h8 a9 h9 a10 h10 a11 h11 a12 h12 a13 h13 a14 h14 hc x0 x1 x2 x3 x4 x5 x6 x7 x8 x9 o1 o2 o3
    = rowsOut x0 x1 x2 x3 x4 x5 x6 x7 x8 x9 := by
  unfold out0_B_10
  rw [View.read_writes_eq_canon _ _ _ (fun _ => cover0_B_10 (F := Ideal) ..)]
  unfold kernelRun0_B
  dsimp only
  sl_unfold_words
  rw [View.canon_unit_zero hz]
  simp only [View.readAt_eq_ld, Memref.IsWhole.read_unread, ld_head, ld_whole]
  rfl

theorem outB11 (hc) : out0_B_11 (F := Ideal) c i a1 h1 a2 h2 a3 h3 a4 h4 a5 h5 a6 h6 a7 h7 a8 h8 a9 h9 a10 h10 a11 h11 a12 h12 a13 h13 a14 h14 hc x0 x1 x2 x3 x4 x5 x6 x7 x8 x9 o1 o2 o3
    = upqAcc x0 x3 x4 x5 x6 o1 := by
  unfold out0_B_11
  rw [View.read_writes_eq_canon _ _ _ (fun _ => cover0_B_11 (F := Ideal) ..)]
  unfold kernelRun0_B
  dsimp only
  sl_unfold_words
  rw [View.canon_unit_zero hz]
  simp only [View.readAt_eq_ld, Memref.IsWhole.read_unread, ld_head, ld_whole]
  rfl

theorem outB12 (hc) : out0_B_12 (F := Ideal) c i a1 h1 a2 h2 a3 h3 a4 h4 a5 h5 a6 h6 a7 h7 a8 h8 a9 h9 a10 h10 a11 h11 a12 h12 a13 h13 a14 h14 hc x0 x1 x2 x3 x4 x5 x6 x7 x8 x9 o1 o2 o3
    = upkAcc x1 x2 x3 x7 o2 := by
  unfold out0_B_12
  rw [View.read_writes_eq_canon _ _ _ (fun _ => cover0_B_12 (F := Ideal) ..)]
  unfold kernelRun0_B
  dsimp only
  sl_unfold_words
  rw [View.canon_unit_zero hz]
  simp only [View.readAt_eq_ld, Memref.IsWhole.read_unread, ld_head, ld_whole]
  rfl

theorem outB13 (hc) : out0_B_13 (F := Ideal) c i a1 h1 a2 h2 a3 h3 a4 h4 a5 h5 a6 h6 a7 h7 a8 h8 a9 h9 a10 h10 a11 h11 a12 h12 a13 h13 a14 h14 hc x0 x1 x2 x3 x4 x5 x6 x7 x8 x9 o1 o2 o3
    = sums x0 x1 x2 x3 x4 x5 x8 x9 o3 := by
  unfold out0_B_13 kernelRun0_B
  dsimp only
  sl_unfold_words
  simp only [View.readAt_eq_ld, Memref.IsWhole.read_unread, ld_head, ld_whole]
  simp only [row_stored, View.writes_nil, Memref.IsWhole.read_unread, ld_row]
  rfl

theorem outA10 (hc) : out0_A_10 (F := Ideal) c i a1 h1 a2 h2 a3 h3 a4 h4 a5 h5 a6 h6 a7 h7 a8 h8 a9 h9 a10 h10 a11 h11 a12 h12 a13 h13 a14 h14 hc x0 x1 x2 x3 x4 x5 x6 x7 x8 x9
    = rowsOut x0 x1 x2 x3 x4 x5 x6 x7 x8 x9 := by
  unfold out0_A_10
  rw [View.read_writes_eq_canon _ _ _ (fun _ => cover0_A_10 (F := Ideal) ..)]
  unfold kernelRun0_A
  dsimp only
  sl_unfold_words
  rw [View.canon_unit_zero hz]
  simp only [View.readAt_eq_ld, Memref.IsWhole.read_unread, ld_head, ld_whole]
  rfl

theorem outA11 (hc) : out0_A_11 (F := Ideal) c i a1 h1 a2 h2 a3 h3 a4 h4 a5 h5 a6 h6 a7 h7 a8 h8 a9 h9 a10 h10 a11 h11 a12 h12 a13 h13 a14 h14 hc x0 x1 x2 x3 x4 x5 x6 x7 x8 x9
    = upqAcc x0 x3 x4 x5 x6 k0_pay2 := by
  unfold out0_A_11 kernelRun0_A
  dsimp only
  sl_unfold_words
  simp only [View.readAt_eq_ld, Memref.IsWhole.read_unread, ld_head, ld_whole]
  rw [View.readCov_fill (s := S256x1536) _ _ _ _ _ (by decide), View.read_writes_full (s := S256x1536)]
  rfl

theorem outA12 (hc) : out0_A_12 (F := Ideal) c i a1 h1 a2 h2 a3 h3 a4 h4 a5 h5 a6 h6 a7 h7 a8 h8 a9 h9 a10 h10 a11 h11 a12 h12 a13 h13 a14 h14 hc x0 x1 x2 x3 x4 x5 x6 x7 x8 x9
    = upkAcc x1 x2 x3 x7 k0_pay3 := by
  unfold out0_A_12 kernelRun0_A
  dsimp only
  sl_unfold_words
  simp only [View.readAt_eq_ld, Memref.IsWhole.read_unread, ld_head, ld_whole]
  rw [View.readCov_fill (s := S256x2048) _ _ _ _ _ (by decide), View.read_writes_full (s := S256x2048)]
  rfl

theorem outA13 (hc) : out0_A_13 (F := Ideal) c i a1 h1 a2 h2 a3 h3 a4 h4 a5 h5 a6 h6 a7 h7 a8 h8 a9 h9 a10 h10 a11 h11 a12 h12 a13 h13 a14 h14 hc x0 x1 x2 x3 x4 x5 x6 x7 x8 x9
    = sums x0 x1 x2 x3 x4 x5 x8 x9 k0_pay4 := by
  unfold out0_A_13 kernelRun0_A
  dsimp only
  sl_unfold_words
  simp only [View.readAt_eq_ld, Memref.IsWhole.read_unread, ld_head, ld_whole]
  rw [View.readCov_skip _ _ _ _ _ (by decide), View.readCov_fill (s := S8x256) _ _ _ _ _ (by decide),
    View.readCov_fill (s := S8x256) _ _ _ _ _ (by decide)]
  simp only [row_stored, View.read_writes_full (s := S8x256), ld_row]
  rfl

end Body

/-! ## Over the reals -/

/-- What a block's windows hold. -/
structure Block (A : Args 512) (x0 x1 : FVec Ideal S8x512x192 .f32) (x2 : FVec Ideal S8x512x128 .f32) (x3 : FVec Ideal S512x1024 .bf16)
    (x4 : IVec S512x1 32) (x5 : FVec Ideal S1x32 .f32) (x6 x7 : FVec Ideal S1x256 .f32) (x8 : FVec Ideal S256x1536 .bf16)
    (x9 : FVec Ideal S256x2048 .bf16) : Prop where
  q : Ten x0 A.q
  k : Ten x1 A.k
  v : Ten x2 A.v
  cq : ∀ r (e : Fin 256), x3 (ix2 r ⟨e.val, by omega⟩) = (A.cq r e : EReal)
  ck : ∀ r (e : Fin 256), x3 (ix2 r ⟨256 + e.val, by omega⟩) = (A.ck r e : EReal)
  pos : ∀ r, ((x4 (ix2 r 0)).toInt : ℝ) = A.pos r
  freq : Mat x5 fun _ => freq
  qn : Mat x6 A.qn
  kn : Mat x7 A.kn
  wq : Mat x8 A.wq
  wk : Mat x9 A.wk

namespace Block

variable {A : Args 512} {x0 x1 : FVec Ideal S8x512x192 .f32} {x2 : FVec Ideal S8x512x128 .f32} {x3 : FVec Ideal S512x1024 .bf16} {x4 : IVec S512x1 32}
  {x5 : FVec Ideal S1x32 .f32} {x6 x7 : FVec Ideal S1x256 .f32} {x8 : FVec Ideal S256x1536 .bf16} {x9 : FVec Ideal S256x2048 .bf16}
  (b : Block A x0 x1 x2 x3 x4 x5 x6 x7 x8 x9)
include b

theorem angle : Mat (k0_pay6 (F := Ideal) x4 x5) fun r e => A.pos r * Latent.freq e :=
  Rep.cast (pay6 b.freq) fun i => by
    have key (r : Fin 512) (e : Fin 32) : ((x4 (ix2 r 0)).toInt : ℝ) * Latent.freq e = A.pos r * Latent.freq e := by rw [b.pos]
    exact key (i 0) (i 1)

theorem co : Mat (k0_pay7 (F := Ideal) x4 x5) A.cosAt := Rep.cast (Rep.cos (φ := .f32) b.angle) fun _ => rfl
theorem si : Mat (k0_pay8 (F := Ideal) x4 x5) A.sinAt := Rep.cast (Rep.sin (φ := .f32) b.angle) fun _ => rfl

theorem dq : Mat (dqOut x0 x4 x5) A.dq := upq_mat b.co b.si b.q
theorem dk : Mat (upkOut x1 x2) A.dk := upk_mat b.k b.v

theorem rows : Mat (rowsOut x0 x1 x2 x3 x4 x5 x6 x7 x8 x9) A.row :=
  pay1 b.co b.si (pay66 b.dq (block_q b.cq) b.qn b.wq) (pay74 b.dk (block_k b.ck) b.kn b.wk) (shared_mat b.k)

theorem gq {o : FVec Ideal S256x1536 .f32} {S : Fin 256 → Fin 1536 → ℝ} (ho : Mat o S) :
    Mat (upqAcc x0 x3 x4 x5 x6 o) fun i j => S i j + A.gq i j := pay63 b.dq (block_q b.cq) b.qn ho

theorem gk {o : FVec Ideal S256x2048 .f32} {S : Fin 256 → Fin 2048 → ℝ} (ho : Mat o S) :
    Mat (upkAcc x1 x2 x3 x7 o) fun i j => S i j + A.gk i j := pay71 b.dk (block_k b.ck) b.kn ho

theorem small {o : FVec Ideal S8x256 .f32} {S : Fin 8 → Fin 256 → ℝ} (hS : Mat o S) :
    Mat (sums x0 x1 x2 x3 x4 x5 x8 x9 o) fun k i => S k i + A.small k i := fun y => by
  have hr (k : Fin 8) : Mat (rowOf o k) fun _ q => S k q := fun z => hS (ix2 k (z 1))
  unfold sums Args.small
  by_cases e1 : (y 0).val = 1
  · rw [if_pos e1]
    refine (pay73 b.dk (block_k b.ck) b.wk (hr 1) (ix2 0 (y 1))).trans (congrArg _ ?_)
    have e : y 0 = (1 : Fin 8) := Fin.ext e1
    show S 1 (y 1) + _ = S (y 0) (y 1) + ite _ _ _
    rw [if_pos e1, e]
  rw [if_neg e1]
  by_cases e0 : (y 0).val = 0
  · rw [if_pos e0]
    refine (pay65 b.dq (block_q b.cq) b.wq (hr 0) (ix2 0 (y 1))).trans (congrArg _ ?_)
    have e : y 0 = (0 : Fin 8) := Fin.ext e0
    show S 0 (y 1) + _ = S (y 0) (y 1) + ite _ _ (ite _ _ _)
    rw [if_neg e1, if_pos e0, e]
  rw [if_neg e0, hS y]
  show _ = ((S (y 0) (y 1) + ite _ _ (ite _ _ _) : ℝ) : EReal)
  rw [if_neg e1, if_neg e0, add_zero]

end Block

theorem zero11 : Mat (k0_pay2 (F := Ideal)) fun _ _ => 0 := Rep.splat (φ := .f32) word_zero
theorem zero12 : Mat (k0_pay3 (F := Ideal)) fun _ _ => 0 := Rep.splat (φ := .f32) word_zero
theorem zero13 : Mat (k0_pay4 (F := Ideal)) fun _ _ => 0 := Rep.splat (φ := .f32) word_zero

end Cert.MlaBody
end
-- ==== Proof.MlaKernel.lean ====
/-
  The latent projections' gradient of the kernel, over the reals: the eight blocks, and the arrays they leave.
-/
module

public import proofs.«01_k».proof.Proof.MlaBody
public import proofs.«01_k».proof.Proof.Line

@[expose] public section

set_option maxRecDepth 16384

noncomputable section

namespace Cert.MlaKernel

open Cert.MlaIdeal Cert.MlaIdeal.Gen Cert.MlaIdeal.Value Cert.Latent Cert.Rms Cert.MlaPay Cert.MlaBody
open Idealize.ShloMosaic hiding ix1 ix2 ix3
open Idealize.ShloMosaic.TcCoe Idealize.SL.Sem Idealize.ShloMosaic.ValueIdx

/-- Row `r` of block `t`. -/
def at_ (t : Fin cfg0.N) (r : Fin 512) : Fin 4096 := ⟨512 * t.val + r.val, by have := t.isLt; have : cfg0.N = 8 := N_0; omega⟩

theorem index0 : ∀ t : Fin cfg0.N, win0_0.index t 0 = 0 ∧ win0_0.index t 1 = t.val ∧ win0_0.index t 2 = 0 := by decide +kernel
theorem index1 : ∀ t : Fin cfg0.N, win0_1.index t 0 = 0 ∧ win0_1.index t 1 = t.val ∧ win0_1.index t 2 = 0 := by decide +kernel
theorem index2 : ∀ t : Fin cfg0.N, win0_2.index t 0 = 0 ∧ win0_2.index t 1 = t.val ∧ win0_2.index t 2 = 0 := by decide +kernel
theorem index3 : ∀ t : Fin cfg0.N, win0_3.index t 0 = t.val ∧ win0_3.index t 1 = 3 := by decide +kernel
theorem index4 : ∀ t : Fin cfg0.N, win0_4.index t 0 = t.val ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel
theorem index7 : ∀ t : Fin cfg0.N, win0_7.index t 0 = 0 ∧ win0_7.index t 1 = 0 := by decide +kernel
theorem index8 : ∀ t : Fin cfg0.N, win0_8.index t 0 = 0 ∧ win0_8.index t 1 = 0 := by decide +kernel
theorem index9 : ∀ t : Fin cfg0.N, win0_9.index t 0 = 0 ∧ win0_9.index t 1 = 0 := by decide +kernel
theorem index10 : ∀ t : Fin cfg0.N, win0_10.index t 0 = t.val ∧ win0_10.index t 1 = 0 := by decide +kernel
theorem index11 : ∀ t : Fin cfg0.N, win0_11.index t 0 = 0 ∧ win0_11.index t 1 = 0 := by decide +kernel
theorem index12 : ∀ t : Fin cfg0.N, win0_12.index t 0 = 0 ∧ win0_12.index t 1 = 0 := by decide +kernel
theorem index13 : ∀ t : Fin cfg0.N, win0_13.index t 0 = 0 ∧ win0_13.index t 1 = 0 := by decide +kernel

/-! ## What a block's windows hold -/

theorem blk0 {X : (⟨3, ![8, 4096, 192]⟩ : Shape).Idx → EReal} {g : Fin 8 → Fin 4096 → Fin 192 → ℝ} (h : Ten X g) (t : Fin cfg0.N) :
    Ten (a := 8) (b := 512) (c := 192) (((cfg0.win 0).blk t).view.read (Elt Ideal) X) fun h r => g h (at_ t r) := fun j => by
  rw [View.read_apply]
  refine Eq.trans ?_ (h (ix3 (j 0) (at_ t (j 1)) (j 2)))
  refine congrArg X (funext fun a => Fin.ext ?_)
  match a with
  | ⟨0, _⟩ => show win0_0.index t 0 * 8 + 1 * (j 0).val = (j 0).val; rw [(index0 t).1]; omega
  | ⟨1, _⟩ => show win0_0.index t 1 * 512 + 1 * (j 1).val = 512 * t.val + (j 1).val; rw [(index0 t).2.1]; omega
  | ⟨2, _⟩ => show win0_0.index t 2 * 192 + 1 * (j 2).val = (j 2).val; rw [(index0 t).2.2]; omega

theorem blk1 {X : (⟨3, ![8, 4096, 192]⟩ : Shape).Idx → EReal} {g : Fin 8 → Fin 4096 → Fin 192 → ℝ} (h : Ten X g) (t : Fin cfg0.N) :
    Ten (a := 8) (b := 512) (c := 192) (((cfg0.win 1).blk t).view.read (Elt Ideal) X) fun h r => g h (at_ t r) := fun j => by
  rw [View.read_apply]
  refine Eq.trans ?_ (h (ix3 (j 0) (at_ t (j 1)) (j 2)))
  refine congrArg X (funext fun a => Fin.ext ?_)
  match a with
  | ⟨0, _⟩ => show win0_1.index t 0 * 8 + 1 * (j 0).val = (j 0).val; rw [(index1 t).1]; omega
  | ⟨1, _⟩ => show win0_1.index t 1 * 512 + 1 * (j 1).val = 512 * t.val + (j 1).val; rw [(index1 t).2.1]; omega
  | ⟨2, _⟩ => show win0_1.index t 2 * 192 + 1 * (j 2).val = (j 2).val; rw [(index1 t).2.2]; omega

theorem blk2 {X : (⟨3, ![8, 4096, 128]⟩ : Shape).Idx → EReal} {g : Fin 8 → Fin 4096 → Fin 128 → ℝ} (h : Ten X g) (t : Fin cfg0.N) :
    Ten (a := 8) (b := 512) (c := 128) (((cfg0.win 2).blk t).view.read (Elt Ideal) X) fun h r => g h (at_ t r) := fun j => by
  rw [View.read_apply]
  refine Eq.trans ?_ (h (ix3 (j 0) (at_ t (j 1)) (j 2)))
  refine congrArg X (funext fun a => Fin.ext ?_)
  match a with
  | ⟨0, _⟩ => show win0_2.index t 0 * 8 + 1 * (j 0).val = (j 0).val; rw [(index2 t).1]; omega
  | ⟨1, _⟩ => show win0_2.index t 1 * 512 + 1 * (j 1).val = 512 * t.val + (j 1).val; rw [(index2 t).2.1]; omega
  | ⟨2, _⟩ => show win0_2.index t 2 * 128 + 1 * (j 2).val = (j 2).val; rw [(index2 t).2.2]; omega

theorem blk3q {X : (⟨2, ![4096, 7168]⟩ : Shape).Idx → EReal} {g : Fin 4096 → Fin 256 → ℝ}
    (h : ∀ r (e : Fin 256), X (ix2 r ⟨3072 + e.val, by omega⟩) = (g r e : EReal)) (t : Fin cfg0.N) (r : Fin 512) (e : Fin 256) :
    (((cfg0.win 3).blk t).view.read (Elt Ideal) X : FVec Ideal S512x1024 .bf16) (ix2 r ⟨e.val, by omega⟩) = (g (at_ t r) e : EReal) := by
  rw [View.read_apply]
  refine Eq.trans ?_ (h (at_ t r) e)
  refine congrArg X (funext fun a => Fin.ext ?_)
  match a with
  | ⟨0, _⟩ => show win0_3.index t 0 * 512 + 1 * r.val = 512 * t.val + r.val; rw [(index3 t).1]; omega
  | ⟨1, _⟩ => show win0_3.index t 1 * 1024 + 1 * (e.val) = 3072 + e.val; rw [(index3 t).2]; omega

theorem blk3k {X : (⟨2, ![4096, 7168]⟩ : Shape).Idx → EReal} {g : Fin 4096 → Fin 256 → ℝ}
    (h : ∀ r (e : Fin 256), X (ix2 r ⟨3328 + e.val, by omega⟩) = (g r e : EReal)) (t : Fin cfg0.N) (r : Fin 512) (e : Fin 256) :
    (((cfg0.win 3).blk t).view.read (Elt Ideal) X : FVec Ideal S512x1024 .bf16) (ix2 r ⟨256 + e.val, by omega⟩) = (g (at_ t r) e : EReal) := by
  rw [View.read_apply]
  refine Eq.trans ?_ (h (at_ t r) e)
  refine congrArg X (funext fun a => Fin.ext ?_)
  match a with
  | ⟨0, _⟩ => show win0_3.index t 0 * 512 + 1 * r.val = 512 * t.val + r.val; rw [(index3 t).1]; omega
  | ⟨1, _⟩ => show win0_3.index t 1 * 1024 + 1 * (256 + e.val) = 3328 + e.val; rw [(index3 t).2]; omega

theorem blk4 {X : (⟨2, ![4096, 1]⟩ : Shape).Idx → BitVec 32} {g : Fin 4096 → ℝ} (h : ∀ r, ((X (ix2 r 0)).toInt : ℝ) = g r) (t : Fin cfg0.N) (r : Fin 512) :
    (((((cfg0.win 4).blk t).view.read (Elt Ideal) X : IVec S512x1 32) (ix2 r 0)).toInt : ℝ) = g (at_ t r) := by
  rw [View.read_apply]
  refine Eq.trans ?_ (h (at_ t r))
  refine congrArg (fun i => ((X i).toInt : ℝ)) (funext fun a => Fin.ext ?_)
  match a with
  | ⟨0, _⟩ => show win0_4.index t 0 * 512 + 1 * r.val = 512 * t.val + r.val; rw [(index4 t).1]; omega
  | ⟨1, _⟩ => show win0_4.index t 1 * 1 + 1 * 0 = 0; rw [(index4 t).2]

theorem blk5 {X : (⟨2, ![1, 32]⟩ : Shape).Idx → EReal} {g : Fin 1 → Fin 32 → ℝ} (h : Mat X g) (t : Fin cfg0.N) :
    Mat (n := 1) (m := 32) (((cfg0.win 5).blk t).view.read (Elt Ideal) X) g := fun j => by
  rw [View.read_apply]
  refine Eq.trans ?_ (h j)
  refine congrArg X (funext fun a => Fin.ext ?_)
  match a with
  | ⟨0, _⟩ => show win0_5.index t 0 * 1 + 1 * (j 0).val = (j 0).val; rw [(index5 t).1]; omega
  | ⟨1, _⟩ => show win0_5.index t 1 * 32 + 1 * (j 1).val = (j 1).val; rw [(index5 t).2]; omega

theorem blk6 {X : (⟨2, ![1, 256]⟩ : Shape).Idx → EReal} {g : Fin 1 → Fin 256 → ℝ} (h : Mat X g) (t : Fin cfg0.N) :
    Mat (n := 1) (m := 256) (((cfg0.win 6).blk t).view.read (Elt Ideal) X) g := fun j => by
  rw [View.read_apply]
  refine Eq.trans ?_ (h j)
  refine congrArg X (funext fun a => Fin.ext ?_)
  match a with
  | ⟨0, _⟩ => show win0_6.index t 0 * 1 + 1 * (j 0).val = (j 0).val; rw [(index6 t).1]; omega
  | ⟨1, _⟩ => show win0_6.index t 1 * 256 + 1 * (j 1).val = (j 1).val; rw [(index6 t).2]; omega

theorem blk7 {X : (⟨2, ![1, 256]⟩ : Shape).Idx → EReal} {g : Fin 1 → Fin 256 → ℝ} (h : Mat X g) (t : Fin cfg0.N) :
    Mat (n := 1) (m := 256) (((cfg0.win 7).blk t).view.read (Elt Ideal) X) g := fun j => by
  rw [View.read_apply]
  refine Eq.trans ?_ (h j)
  refine congrArg X (funext fun a => Fin.ext ?_)
  match a with
  | ⟨0, _⟩ => show win0_7.index t 0 * 1 + 1 * (j 0).val = (j 0).val; rw [(index7 t).1]; omega
  | ⟨1, _⟩ => show win0_7.index t 1 * 256 + 1 * (j 1).val = (j 1).val; rw [(index7 t).2]; omega

theorem blk8 {X : (⟨2, ![256, 1536]⟩ : Shape).Idx → EReal} {g : Fin 256 → Fin 1536 → ℝ} (h : Mat X g) (t : Fin cfg0.N) :
    Mat (n := 256) (m := 1536) (((cfg0.win 8).blk t).view.read (Elt Ideal) X) g := fun j => by
  rw [View.read_apply]
  refine Eq.trans ?_ (h j)
  refine congrArg X (funext fun a => Fin.ext ?_)
  match a with
  | ⟨0, _⟩ => show win0_8.index t 0 * 256 + 1 * (j 0).val = (j 0).val; rw [(index8 t).1]; omega
  | ⟨1, _⟩ => show win0_8.index t 1 * 1536 + 1 * (j 1).val = (j 1).val; rw [(index8 t).2]; omega

theorem blk9 {X : (⟨2, ![256, 2048]⟩ : Shape).Idx → EReal} {g : Fin 256 → Fin 2048 → ℝ} (h : Mat X g) (t : Fin cfg0.N) :
    Mat (n := 256) (m := 2048) (((cfg0.win 9).blk t).view.read (Elt Ideal) X) g := fun j => by
  rw [View.read_apply]
  refine Eq.trans ?_ (h j)
  refine congrArg X (funext fun a => Fin.ext ?_)
  match a with
  | ⟨0, _⟩ => show win0_9.index t 0 * 256 + 1 * (j 0).val = (j 0).val; rw [(index9 t).1]; omega
  | ⟨1, _⟩ => show win0_9.index t 1 * 2048 + 1 * (j 1).val = (j 1).val; rw [(index9 t).2]; omega

/-- What the region's arrays hold when it is entered. -/
structure Entry (m : (ℓ : Loc nD τ sig) → Buf (Elt Ideal) ℓ) (c : Dev nD) (A : Args 4096) : Prop where
  q : Ten (V m c main_arg0) A.q
  k : Ten (V m c main_arg1) A.k
  v : Ten (V m c main_arg2) A.v
  cq : ∀ r (e : Fin 256), V m c main_v15 (ix2 r ⟨3072 + e.val, by omega⟩) = (A.cq r e : EReal)
  ck : ∀ r (e : Fin 256), V m c main_v15 (ix2 r ⟨3328 + e.val, by omega⟩) = (A.ck r e : EReal)
  pos : ∀ r, ((V m c main_v16 (ix2 r 0)).toInt : ℝ) = A.pos r
  freq : Mat (V m c main_v10) fun _ => freq
  qn : Mat (V m c main_arg5) A.qn
  kn : Mat (V m c main_arg7) A.kn
  wq : Mat (V m c main_v17) A.wq
  wk : Mat (V m c main_v18) A.wk

variable {m : (ℓ : Loc nD τ sig) → Buf (Elt Ideal) ℓ} {c : Dev nD} {A : Args 4096}

theorem Entry.block (e : Entry m c A) (t : Fin cfg0.N) : Block (A.rows (at_ t)) (iblk m c 0 t) (iblk m c 1 t) (iblk m c 2 t) (iblk m c 3 t) (iblk m c 4 t) (iblk m c 5 t) (iblk m c 6 t) (iblk m c 7 t) (iblk m c 8 t) (iblk m c 9 t) :=
  ⟨blk0 e.q t, blk1 e.k t, blk2 e.v t, blk3q e.cq t, blk3k e.ck t, blk4 e.pos t, blk5 e.freq t, blk6 e.qn t, blk7 e.kn t, blk8 e.wq t, blk9 e.wk t⟩

theorem outs_first (m : (ℓ : Loc nD τ sig) → Buf (Elt Ideal) ℓ) (c : Dev nD) (t : Fin cfg0.N) (h : t.val % 8 = 0) : outsAt0 m c t.val t.isLt =
    (rowsOut (iblk m c 0 t) (iblk m c 1 t) (iblk m c 2 t) (iblk m c 3 t) (iblk m c 4 t) (iblk m c 5 t) (iblk m c 6 t) (iblk m c 7 t) (iblk m c 8 t) (iblk m c 9 t),
      upqAcc (iblk m c 0 t) (iblk m c 3 t) (iblk m c 4 t) (iblk m c 5 t) (iblk m c 6 t) k0_pay2,
      upkAcc (iblk m c 1 t) (iblk m c 2 t) (iblk m c 3 t) (iblk m c 7 t) k0_pay3,
      sums (iblk m c 0 t) (iblk m c 1 t) (iblk m c 2 t) (iblk m c 3 t) (iblk m c 4 t) (iblk m c 5 t) (iblk m c 8 t) (iblk m c 9 t) k0_pay4) :=
  (outsAt0_A m c t h).trans (by rw [outA10, outA11, outA12, outA13])

theorem outs_later (m : (ℓ : Loc nD τ sig) → Buf (Elt Ideal) ℓ) (c : Dev nD) (t : Fin cfg0.N) (h : ¬t.val % 8 = 0) : outsAt0 m c t.val t.isLt =
    (rowsOut (iblk m c 0 t) (iblk m c 1 t) (iblk m c 2 t) (iblk m c 3 t) (iblk m c 4 t) (iblk m c 5 t) (iblk m c 6 t) (iblk m c 7 t) (iblk m c 8 t) (iblk m c 9 t),
      upqAcc (iblk m c 0 t) (iblk m c 3 t) (iblk m c 4 t) (iblk m c 5 t) (iblk m c 6 t) (outsAt0 m c (t.val - 1) (lt_of_le_of_lt (Nat.sub_le ..) t.isLt)).2.1,
      upkAcc (iblk m c 1 t) (iblk m c 2 t) (iblk m c 3 t) (iblk m c 7 t) (outsAt0 m c (t.val - 1) (lt_of_le_of_lt (Nat.sub_le ..) t.isLt)).2.2.1,
      sums (iblk m c 0 t) (iblk m c 1 t) (iblk m c 2 t) (iblk m c 3 t) (iblk m c 4 t) (iblk m c 5 t) (iblk m c 8 t) (iblk m c 9 t) (outsAt0 m c (t.val - 1) (lt_of_le_of_lt (Nat.sub_le ..) t.isLt)).2.2.2) :=
  (outsAt0_B m c t h).trans (by rw [outB10, outB11, outB12, outB13])

theorem outs10 (e : Entry m c A) (t : Fin cfg0.N) : Mat (n := 512) (m := 1024) (outsAt0 m c t.val t.isLt).1 fun r => A.row (at_ t r) := by
  by_cases h : t.val % 8 = 0
  · rw [outs_first m c t h]
    exact (e.block t).rows
  · rw [outs_later m c t h]
    exact (e.block t).rows

theorem outs11 (e : Entry m c A) : ∀ (n : Nat) (h : n < cfg0.N),
    Mat (n := 256) (m := 1536) (outsAt0 m c n h).2.1 fun i j => ∑ t, if t.val ≤ n then (A.rows (at_ t)).gq i j else 0
  | 0, h => by
    rw [show outsAt0 m c 0 h = _ from outs_first m c ⟨0, h⟩ rfl]
    exact Rep.cast ((e.block _).gq zero11) fun i => (sum_upto_zero (fun t => (A.rows (at_ t)).gq (i 0) (i 1)) h).symm
  | n + 1, h => by
    have hN : cfg0.N = 8 := N_0
    rw [show outsAt0 m c (n + 1) h = _ from outs_later m c ⟨n + 1, h⟩ (by dsimp only; omega)]
    exact Rep.cast ((e.block _).gq (outs11 e n (by omega))) fun i => (sum_upto_succ (fun t => (A.rows (at_ t)).gq (i 0) (i 1)) h).symm

theorem outs12 (e : Entry m c A) : ∀ (n : Nat) (h : n < cfg0.N),
    Mat (n := 256) (m := 2048) (outsAt0 m c n h).2.2.1 fun i j => ∑ t, if t.val ≤ n then (A.rows (at_ t)).gk i j else 0
  | 0, h => by
    rw [show outsAt0 m c 0 h = _ from outs_first m c ⟨0, h⟩ rfl]
    exact Rep.cast ((e.block _).gk zero12) fun i => (sum_upto_zero (fun t => (A.rows (at_ t)).gk (i 0) (i 1)) h).symm
  | n + 1, h => by
    have hN : cfg0.N = 8 := N_0
    rw [show outsAt0 m c (n + 1) h = _ from outs_later m c ⟨n + 1, h⟩ (by dsimp only; omega)]
    exact Rep.cast ((e.block _).gk (outs12 e n (by omega))) fun i => (sum_upto_succ (fun t => (A.rows (at_ t)).gk (i 0) (i 1)) h).symm

theorem outs13 (e : Entry m c A) : ∀ (n : Nat) (h : n < cfg0.N),
    Mat (n := 8) (m := 256) (outsAt0 m c n h).2.2.2 fun i j => ∑ t, if t.val ≤ n then (A.rows (at_ t)).small i j else 0
  | 0, h => by
    rw [show outsAt0 m c 0 h = _ from outs_first m c ⟨0, h⟩ rfl]
    exact Rep.cast ((e.block _).small zero13) fun i => (sum_upto_zero (fun t => (A.rows (at_ t)).small (i 0) (i 1)) h).symm
  | n + 1, h => by
    have hN : cfg0.N = 8 := N_0
    rw [show outsAt0 m c (n + 1) h = _ from outs_later m c ⟨n + 1, h⟩ (by dsimp only; omega)]
    exact Rep.cast ((e.block _).small (outs13 e n (by omega))) fun i => (sum_upto_succ (fun t => (A.rows (at_ t)).small (i 0) (i 1)) h).symm

/-! ## The arrays -/

theorem result10 (e : Entry m c A) : Mat (n := 4096) (m := 1024) ((dats m 0 c).arrAt 10 cfg0.N) A.row := fun i => by
  have hi : (i 0).val < 4096 := (i 0).isLt
  have hN : cfg0.N = 8 := N_0
  let t : Fin cfg0.N := ⟨(i 0).val / 512, by omega⟩
  let j : S512x1024.Idx := ix2 ⟨(i 0).val % 512, Nat.mod_lt _ (by norm_num)⟩ (i 1)
  have h := (congrFun ((blocks10 m c t (flush0_10 t)).trans (flushed10 m c t)) j).trans (outs10 e t j)
  rw [View.read_apply] at h
  have hr : at_ t (j 0) = i 0 := Fin.ext (Nat.div_add_mod _ _)
  have hj : ((cfg0.win 10).blk t).view.emb j = i := funext fun a => Fin.ext <| match a with
    | ⟨0, _⟩ => by
      show win0_10.index t 0 * 512 + 1 * ((i 0).val % 512) = (i 0).val
      rw [(index10 t).1]; show (i 0).val / 512 * 512 + _ = _; omega
    | ⟨1, _⟩ => by show win0_10.index t 1 * 1024 + 1 * (i 1).val = (i 1).val; rw [(index10 t).2]; omega
  refine (congrArg _ hj).symm.trans (h.trans (congrArg _ ?_))
  show A.row (at_ t (j 0)) (i 1) = A.row (i 0) (i 1)
  rw [hr]

theorem upto_all (f : Fin cfg0.N → ℝ) : (∑ t, if t.val ≤ 7 then f t else 0) = ∑ t, f t :=
  have hN : cfg0.N = 8 := N_0
  Finset.sum_congr rfl fun t _ => if_pos (show t.val ≤ 7 by have := t.isLt; omega)

theorem rows_sum (f : Fin 4096 → ℝ) : (∑ t : Fin cfg0.N, ∑ r : Fin 512, f (at_ t r)) = ∑ r, f r :=
  sum_blocks (by rw [show cfg0.N = 8 from N_0]) f at_ fun t r => rfl

theorem sum_gq (i : Fin 256) (j : Fin 1536) : (∑ t : Fin cfg0.N, if t.val ≤ 7 then (A.rows (at_ t)).gq i j else 0) = A.gq i j :=
  (upto_all _).trans (rows_sum fun r => lat (A.cq r) (A.qn 0) i * A.dq r j)

theorem sum_gk (i : Fin 256) (j : Fin 2048) : (∑ t : Fin cfg0.N, if t.val ≤ 7 then (A.rows (at_ t)).gk i j else 0) = A.gk i j :=
  (upto_all _).trans (rows_sum fun r => lat (A.ck r) (A.kn 0) i * A.dk r j)

theorem sum_small (k : Fin 8) (i : Fin 256) : (∑ t : Fin cfg0.N, if t.val ≤ 7 then (A.rows (at_ t)).small k i else 0) = A.small k i := by
  refine (upto_all _).trans ?_
  unfold Args.small
  split_ifs
  · exact rows_sum fun r => dlat (A.dk r) A.wk i * unit 256 (A.ck r) i
  · exact rows_sum fun r => dlat (A.dq r) A.wq i * unit 256 (A.cq r) i
  · exact Finset.sum_const_zero

theorem alone11 (t t' : Fin cfg0.N) (h : (cfg0.win 11).flush t = true) (h' : (cfg0.win 11).flush t' = true) (hne : t ≠ t') :
    Disjoint ((cfg0.win 11).blk t).view.set ((cfg0.win 11).blk t').view.set := by
  have := (flush0_11 t).mp h
  have := (flush0_11 t').mp h'
  have hN : cfg0.N = 8 := N_0
  exact absurd (Fin.ext (by omega)) hne

theorem result11 (e : Entry m c A) : Mat (n := 256) (m := 1536) ((dats m 0 c).arrAt 11 cfg0.N) A.gq := fun i => by
  have hN : cfg0.N = 8 := N_0
  let t : Fin cfg0.N := ⟨7, by omega⟩
  have h := (congrFun (((dats m 0 c).read_blk_arrAt_eq_flushed 11 alone11 cfg0.N t t.isLt ((flush0_11 t).mpr rfl)).trans (flushed11 m c t))
    i).trans ((outs11 e 7 t.isLt i).trans (congrArg _ (sum_gq (i 0) (i 1))))
  rw [View.read_apply] at h
  have hj : ((cfg0.win 11).blk t).view.emb i = i := funext fun a => Fin.ext <| match a with
    | ⟨0, _⟩ => by show win0_11.index t 0 * 256 + 1 * (i 0).val = (i 0).val; rw [(index11 t).1]; omega
    | ⟨1, _⟩ => by show win0_11.index t 1 * 1536 + 1 * (i 1).val = (i 1).val; rw [(index11 t).2]; omega
  exact (congrArg _ hj).symm.trans h

theorem alone12 (t t' : Fin cfg0.N) (h : (cfg0.win 12).flush t = true) (h' : (cfg0.win 12).flush t' = true) (hne : t ≠ t') :
    Disjoint ((cfg0.win 12).blk t).view.set ((cfg0.win 12).blk t').view.set := by
  have := (flush0_12 t).mp h
  have := (flush0_12 t').mp h'
  have hN : cfg0.N = 8 := N_0
  exact absurd (Fin.ext (by omega)) hne

theorem result12 (e : Entry m c A) : Mat (n := 256) (m := 2048) ((dats m 0 c).arrAt 12 cfg0.N) A.gk := fun i => by
  have hN : cfg0.N = 8 := N_0
  let t : Fin cfg0.N := ⟨7, by omega⟩
  have h := (congrFun (((dats m 0 c).read_blk_arrAt_eq_flushed 12 alone12 cfg0.N t t.isLt ((flush0_12 t).mpr rfl)).trans (flushed12 m c t))
    i).trans ((outs12 e 7 t.isLt i).trans (congrArg _ (sum_gk (i 0) (i 1))))
  rw [View.read_apply] at h
  have hj : ((cfg0.win 12).blk t).view.emb i = i := funext fun a => Fin.ext <| match a with
    | ⟨0, _⟩ => by show win0_12.index t 0 * 256 + 1 * (i 0).val = (i 0).val; rw [(index12 t).1]; omega
    | ⟨1, _⟩ => by show win0_12.index t 1 * 2048 + 1 * (i 1).val = (i 1).val; rw [(index12 t).2]; omega
  exact (congrArg _ hj).symm.trans h

theorem alone13 (t t' : Fin cfg0.N) (h : (cfg0.win 13).flush t = true) (h' : (cfg0.win 13).flush t' = true) (hne : t ≠ t') :
    Disjoint ((cfg0.win 13).blk t).view.set ((cfg0.win 13).blk t').view.set := by
  have := (flush0_13 t).mp h
  have := (flush0_13 t').mp h'
  have hN : cfg0.N = 8 := N_0
  exact absurd (Fin.ext (by omega)) hne

theorem result13 (e : Entry m c A) : Mat (n := 8) (m := 256) ((dats m 0 c).arrAt 13 cfg0.N) A.small := fun i => by
  have hN : cfg0.N = 8 := N_0
  let t : Fin cfg0.N := ⟨7, by omega⟩
  have h := (congrFun (((dats m 0 c).read_blk_arrAt_eq_flushed 13 alone13 cfg0.N t t.isLt ((flush0_13 t).mpr rfl)).trans (flushed13 m c t))
    i).trans ((outs13 e 7 t.isLt i).trans (congrArg _ (sum_small (i 0) (i 1))))
  rw [View.read_apply] at h
  have hj : ((cfg0.win 13).blk t).view.emb i = i := funext fun a => Fin.ext <| match a with
    | ⟨0, _⟩ => by show win0_13.index t 0 * 8 + 1 * (i 0).val = (i 0).val; rw [(index13 t).1]; omega
    | ⟨1, _⟩ => by show win0_13.index t 1 * 256 + 1 * (i 1).val = (i 1).val; rw [(index13 t).2]; omega
  exact (congrArg _ hj).symm.trans h

end Cert.MlaKernel

end
-- ==== Proof.MlaHost.lean ====
/-
  What the latent projections' gradient's launch finds in its arrays: the host lines before it, read over the reals.
-/
module

public import proofs.«01_k».proof.Proof.MlaKernel

@[expose] public section

set_option maxRecDepth 16384

noncomputable section

namespace Cert.MlaKernel

open Cert.MlaIdeal Cert.MlaIdeal.Gen Cert.MlaIdeal.Value Cert.Latent
open Idealize.ShloMosaic hiding ix1 ix2 ix3
open Idealize.ShloMosaic.TcCoe Idealize.SL.Sem Idealize.ShloMosaic.StableHlo Idealize.ShloMosaic.ValueIdx

variable {m : (ℓ : Loc nD τ sig) → Buf (Elt Ideal) ℓ} {c : Dev nD} {A : Args 4096}

/-- The buffers the host operations write, one each, in order. -/
abbrev W : List (Ref sig .tc) := (List.finRange 24).map fun k => ⟨.hbm, ⟨k.val + 9, by have := k.isLt; show k.val + 9 < 37; omega⟩, rfl⟩

theorem line : Line.Ssa (hostOps0 (F := Ideal)) W 9 := ⟨rfl, by decide +kernel⟩

/-- The packed projection has the projection's first 3648 columns where they were. -/
theorem packed (r : Fin 4096) (q : Fin 3648) : V m c main_v15 (ix2 r ⟨q.val, by omega⟩) = m (c, Proc.devRef .tc main_arg3) (ix2 r ⟨q.val, by omega⟩) := by
  let V₀ : Valuation τ sig (Elt Ideal) := fun b => m (c, b)
  have L := line
  let xs : List ((s : Shape) × (s.Idx → EReal)) :=
    [⟨S4096x3648, V m c main_v11⟩, ⟨S4096x448, V m c main_v12⟩, ⟨S4096x3072, V m c main_v13⟩]
  refine (congrFun (L.unary (V := V₀) 20 rfl) _).trans ((congrFun (L.nary (V := V₀) 19 rfl) _).trans ?_)
  let j : S4096x7168.Idx := ix2 r ⟨q.val, by omega⟩
  let hc : Shape.Concatenates (xs.map (·.1)) S4096x7168 1 := concatenates_S4096x3648_S4096x448_S4096x3072_S4096x7168_d1
  refine (concatenate_apply_piece (1 : Fin 2) xs hc j 0 (show 0 < 3 by decide) S4096x3648 (V m c main_v11) rfl rfl 0 rfl
    (ix2 r q) (fun b hb => match b with | ⟨0, _⟩ => rfl | ⟨1, _⟩ => absurd rfl hb) (Nat.zero_add _)).trans ?_
  refine (congrFun (L.unary (V := V₀) 15 rfl) _).trans ?_
  refine (extractStridedSlice_apply _ _ _ _ (ix2 r ⟨q.val, by omega⟩) fun a => ?_).trans (congrFun (L.arg (V := V₀)) _)
  match a with
  | ⟨0, _⟩ => exact (Nat.zero_add _).symm
  | ⟨1, _⟩ => exact (Nat.zero_add _).symm

set_option maxHeartbeats 1000000 in
theorem entry (hq : Ten (m (c, Proc.devRef .tc main_arg0)) A.q) (hk : Ten (m (c, Proc.devRef .tc main_arg1)) A.k)
    (hv : Ten (m (c, Proc.devRef .tc main_arg2)) A.v)
    (hcq : ∀ r (e : Fin 256), m (c, Proc.devRef .tc main_arg3) (ix2 r ⟨3072 + e.val, by omega⟩) = (A.cq r e : EReal))
    (hck : ∀ r (e : Fin 256), m (c, Proc.devRef .tc main_arg3) (ix2 r ⟨3328 + e.val, by omega⟩) = (A.ck r e : EReal))
    (hp : ∀ r, ((m (c, Proc.devRef .tc main_arg4) (ix2 0 r)).toInt : ℝ) = A.pos r)
    (hqn : Mat (m (c, Proc.devRef .tc main_arg5)) A.qn) (hwq : Mat (m (c, Proc.devRef .tc main_arg6)) A.wq)
    (hkn : Mat (m (c, Proc.devRef .tc main_arg7)) A.kn) (hwk : Mat (m (c, Proc.devRef .tc main_arg8)) A.wk) : Entry m c A := by
  let V₀ : Valuation τ sig (Elt Ideal) := fun b => m (c, b)
  have L := line
  have v0 : Row (V m c main_v0) fun j => ((BitVec.ofNat 32 j.val).toInt : ℝ) :=
    Rep.of_eq (L.nullary (V := V₀) 0 rfl) fun _ => rfl
  have v9 : Row (V m c main_v9) freq :=
    Rep.cast (.of_eq (L.binary (V := V₀) 13 rfl) <| .pow (.of_eq (L.unary (V := V₀) 12 rfl) <| .host_splat (.of_eq (L.nullary (V := V₀) 11 rfl) <| .const word_10000) _ _) (.of_eq (L.binary (V := V₀) 10 rfl) <| .host_div (.of_eq (L.unary (V := V₀) 7 rfl) <| .host_neg (.of_eq (L.binary (V := V₀) 6 rfl) <| .add (.of_eq (L.unary (V := V₀) 5 rfl) <| .host_splat (.of_eq (L.nullary (V := V₀) 4 rfl) <| .const word_zero) _ _) (.of_eq (L.binary (V := V₀) 3 rfl) <| .mul (.of_eq (L.unary (V := V₀) 2 rfl) <| .host_splat (.of_eq (L.nullary (V := V₀) 1 rfl) <| .const word_2) _ _) v0))) (.of_eq (L.unary (V := V₀) 9 rfl) <| .host_splat (.of_eq (L.nullary (V := V₀) 8 rfl) <| .const word_64) _ _) fun _ => by norm_num)) fun _ => rfl
  exact {
    q := fun i => (congrFun (show V m c main_arg0 = m (c, Proc.devRef .tc main_arg0) from L.arg (V := V₀)) i).trans (hq i)
    k := fun i => (congrFun (show V m c main_arg1 = m (c, Proc.devRef .tc main_arg1) from L.arg (V := V₀)) i).trans (hk i)
    v := fun i => (congrFun (show V m c main_arg2 = m (c, Proc.devRef .tc main_arg2) from L.arg (V := V₀)) i).trans (hv i)
    cq := fun r e => (packed r ⟨3072 + e.val, by omega⟩).trans (hcq r e)
    ck := fun r e => (packed r ⟨3328 + e.val, by omega⟩).trans (hck r e)
    pos := fun r => by
      have e : V m c main_v16 (ix2 r 0) = m (c, Proc.devRef .tc main_arg4) (ix2 0 r) := by
        refine (congrFun (L.reshape (V := V₀) 21 rfl) _).trans ((shapeCast_apply _ _ _ (ix2 0 r) ?_).trans (congrFun (L.arg (V := V₀)) _))
        show (S1x4096.rowMajor (ix2 0 r)).val = (S4096x1.rowMajor (ix2 r 0)).val
        rw [Shape.rowMajor_val_two, Shape.rowMajor_val_two]
        show 0 * 4096 + r.val = r.val * 1 + 0
        omega
      rw [e, hp]
    freq := Rep.cast (.of_eq (L.reshape (V := V₀) 14 rfl) <| Row.row v9 _) fun _ => rfl
    qn := fun i => (congrFun (show V m c main_arg5 = m (c, Proc.devRef .tc main_arg5) from L.arg (V := V₀)) i).trans (hqn i)
    kn := fun i => (congrFun (show V m c main_arg7 = m (c, Proc.devRef .tc main_arg7) from L.arg (V := V₀)) i).trans (hkn i)
    wq := Rep.cast (.of_eq (L.unary (V := V₀) 22 rfl) <| .trunc bitsLt_bf16_f32
      (show Mat (V m c main_arg6) A.wq from fun i => (congrFun (show V m c main_arg6 = m (c, Proc.devRef .tc main_arg6) from L.arg (V := V₀)) i).trans (hwq i))) fun _ => rfl
    wk := Rep.cast (.of_eq (L.unary (V := V₀) 23 rfl) <| .trunc bitsLt_bf16_f32
      (show Mat (V m c main_arg8) A.wk from fun i => (congrFun (show V m c main_arg8 = m (c, Proc.devRef .tc main_arg8) from L.arg (V := V₀)) i).trans (hwk i))) fun _ => rfl }

end Cert.MlaKernel

end
-- ==== Proof.MlaRef.lean ====
/-
  The latent projections' gradient's reference, read over the reals: what each buffer of its line of operations holds, as
  a function of the real numbers that the arguments are.
-/
module

public import proofs.«01_k».proof.Proof.Line
public import proofs.«01_k».proof.Proof.Products
public import proofs.«01_k».proof.Proof.MlaReal
public import proofs.«01_k».proof.Proof.Gen.MlaRefIdeal

@[expose] public section

set_option maxRecDepth 16384

noncomputable section

namespace Cert.MlaRef

open Cert.MlaRefIdeal Cert.MlaRefIdeal.Gen Cert.Latent Cert.Rms
open Idealize.ShloMosaic hiding ix1 ix2 ix3
open Idealize.ShloMosaic.TcCoe Idealize.SL.Sem Idealize.ShloMosaic.StableHlo Idealize.ShloMosaic.ValueIdx

variable (m : (ℓ : Loc nD τ sig) → Buf (Elt Ideal) ℓ) (d : Dev nD)

abbrev V : Valuation τ sig (Elt Ideal) := launchContents m d
abbrev ops : List (HloOp τ sig (Elt Ideal)) := Line.opsOf (V m d) (main (F := Ideal) d)
/-- The buffers the operations write, one each, in order. -/
abbrev W : List (Ref sig .tc) := (List.finRange 217).map fun k => ⟨.hbm, k.natAdd 9, rfl⟩
theorem main_eq : main (F := Ideal) d = seq (ops m d) := rfl
theorem line : Line.Ssa (ops m d) W 9 := ⟨rfl, by decide +kernel⟩
abbrev B (r : Ref sig .tc) : r.ty.Contents (Elt Ideal) := after (ops m d) (V m d) (Proc.devRef .tc r)

variable {m d} {A : Args 4096}

/-! ## The turn -/

theorem turn (hp : Row (B m d main_v11) A.pos) : Mat (B m d main_v18) A.cosAt ∧ Mat (B m d main_v19) A.sinAt := by
  have L := line m d
  have v0 : Row (B m d main_v0) fun j => ((BitVec.ofNat 32 j.val).toInt : ℝ) :=
    Rep.of_eq (L.nullary 0 rfl) fun _ => rfl
  have v9 : Row (B m d main_v9) freq :=
    Rep.cast (.of_eq (L.binary 13 rfl) <| .pow (.of_eq (L.unary 12 rfl) <| .host_splat (.of_eq (L.nullary 11 rfl) <| .const word_10000) _ _) (.of_eq (L.binary 10 rfl) <| .host_div (.of_eq (L.unary 7 rfl) <| .host_neg (.of_eq (L.binary 6 rfl) <| .add (.of_eq (L.unary 5 rfl) <| .host_splat (.of_eq (L.nullary 4 rfl) <| .const word_zero) _ _) (.of_eq (L.binary 3 rfl) <| .mul (.of_eq (L.unary 2 rfl) <| .host_splat (.of_eq (L.nullary 1 rfl) <| .const word_2) _ _) v0))) (.of_eq (L.unary 9 rfl) <| .host_splat (.of_eq (L.nullary 8 rfl) <| .const word_64) _ _) fun _ => by norm_num)) fun _ => rfl
  have v16 : Mat (B m d main_v16) fun r e => A.pos r * freq e :=
    Rep.cast (.of_eq (L.binary 20 rfl) <| .mul (.of_eq (L.unary 18 rfl) <| Mat.host_repeat_col (.of_eq (L.unary 16 rfl) <| Row.host_col hp _) _) (.of_eq (L.unary 19 rfl) <| Mat.host_repeat_row (.of_eq (L.unary 17 rfl) <| Row.host_row v9 _) _)) fun _ => rfl
  have v18 : Mat (B m d main_v18) A.cosAt :=
    Rep.cast (.of_eq (L.unary 22 rfl) <| .host_cos v16) fun _ => rfl
  have v19 : Mat (B m d main_v19) A.sinAt :=
    Rep.cast (.of_eq (L.unary 23 rfl) <| .host_sin v16) fun _ => rfl
  exact ⟨v18, v19⟩

/-! ## The gradients of the two products -/

theorem high_eq (a b c s : ℝ) : a * c + -b * s = a * c - b * s := by ring

set_option maxHeartbeats 1000000 in
theorem upper (hk : Ten (B m d main_arg1) A.k) (hv : Ten (B m d main_arg2) A.v) : Mat (B m d main_v133) A.dk := by
  have L := line m d
  have v94 : Ten (B m d main_v94) fun r h e => A.v h r e :=
    Rep.cast (.of_eq (L.unary 107 rfl) <| Ten.swap hv _) fun _ => rfl
  have v95 : Ten (B m d main_v95) fun r h e => A.k h r e :=
    Rep.cast (.of_eq (L.unary 108 rfl) <| Ten.swap hk _) fun _ => rfl
  have v97 : Ten (B m d main_v97) fun r h (e : Fin 128) => A.k h r ⟨0 + e, by omega⟩ :=
    Rep.cast (.of_eq (L.unary 110 rfl) <| Ten.cut v95 (by decide) _) fun _ => rfl
  have v130 : Ten (B m d main_v130) fun r h (e : Fin 256) => if c : e.val < 128 then 0 else A.v h r ⟨e - 128, by omega⟩ :=
    Rep.cast (.of_eq (L.binary 147 rfl) <| Ten.after v94 (.of_eq (L.nullary 146 rfl) <| .const word_zero) rfl _ _) fun _ => rfl
  have v131 : Ten (B m d main_v131) fun r h (e : Fin 256) => if c : e.val < 128 then A.k h r ⟨0 + e, by omega⟩ else 0 :=
    Rep.cast (.of_eq (L.binary 149 rfl) <| Ten.before (o := 128) v97 (.of_eq (L.nullary 148 rfl) <| .const word_zero) rfl _ _) fun _ => rfl
  have v132 : Ten (B m d main_v132) fun r => upk (fun h => A.k h r) fun h => A.v h r :=
    Rep.cast (.of_eq (L.binary 150 rfl) <| .add v130 v131) fun i => sum_upk (fun h => A.k h (i 0)) (fun h => A.v h (i 0)) (i 1) (i 2)
  have v133 : Mat (B m d main_v133) A.dk :=
    Rep.cast (.of_eq (L.reshape 151 rfl) <| Ten.join v132 rfl (by norm_num) _) fun _ => rfl
  exact v133

set_option maxHeartbeats 1000000 in
theorem lower (hk : Ten (B m d main_arg1) A.k) (hc : Mat (B m d main_v18) A.cosAt) (hs : Mat (B m d main_v19) A.sinAt) :
    Mat (B m d main_v115) fun r => unturn (A.cosAt r) (A.sinAt r) (shared fun h => A.k h r) := by
  have L := line m d
  have v95 : Ten (B m d main_v95) fun r h e => A.k h r e :=
    Rep.cast (.of_eq (L.unary 108 rfl) <| Ten.swap hk _) fun _ => rfl
  have v98 : Ten (B m d main_v98) fun r h (e : Fin 64) => A.k h r ⟨128 + e, by omega⟩ :=
    Rep.cast (.of_eq (L.unary 111 rfl) <| Ten.cut v95 (by decide) _) fun _ => rfl
  have v99 : Mat (B m d main_v99) fun r => shared fun h => A.k h r :=
    Rep.cast (.of_eq (L.binary 113 rfl) <| Ten.host_sum_mid v98 (.of_eq (L.nullary 112 rfl) <| .const word_zero) _ _) fun _ => rfl
  have v100 : Ten (B m d main_v100) fun r (_ : Fin 1) e => shared (fun h => A.k h r) e :=
    Rep.cast (.of_eq (L.unary 114 rfl) <| Mat.host_mid v99 _) fun _ => rfl
  have v101 : Mat (B m d main_v101) fun r => shared fun h => A.k h r :=
    Rep.cast (.of_eq (L.binary 116 rfl) <| Ten.host_sum_mid v100 (.of_eq (L.nullary 115 rfl) <| .const word_zero) _ _) fun i => Fin.sum_univ_one _
  have v106 : Mat (B m d main_v106) fun r (e : Fin 32) => shared (fun h => A.k h r) ⟨0 + e, by omega⟩ :=
    Rep.cast (.of_eq (L.unary 122 rfl) <| Mat.cols v101 (by decide) _) fun _ => rfl
  have v107 : Mat (B m d main_v107) fun r (e : Fin 32) => shared (fun h => A.k h r) ⟨32 + e, by omega⟩ :=
    Rep.cast (.of_eq (L.unary 123 rfl) <| Mat.cols v101 (by decide) _) fun _ => rfl
  have v112 : Mat (B m d main_v112) fun r => high (A.cosAt r) (A.sinAt r) (shared fun h => A.k h r) :=
    Rep.cast (.of_eq (L.binary 128 rfl) <| .add (.of_eq (L.binary 124 rfl) <| .mul v107 hc) (.of_eq (L.binary 127 rfl) <| .mul (.of_eq (L.unary 126 rfl) <| .host_neg v106) hs)) fun _ => high_eq _ _ _ _
  have v114 : Mat (B m d main_v114) fun r => low (A.cosAt r) (A.sinAt r) (shared fun h => A.k h r) :=
    Rep.cast (.of_eq (L.binary 130 rfl) <| .add (.of_eq (L.binary 125 rfl) <| .mul v107 hs) (.of_eq (L.binary 129 rfl) <| .mul v106 hc)) fun _ => add_comm _ _
  have v115 : Mat (B m d main_v115) fun r => unturn (A.cosAt r) (A.sinAt r) (shared fun h => A.k h r) :=
    Rep.cast (.of_eq (L.binary 131 rfl) <| Mat.beside v114 v112 rfl _) fun _ => rfl
  exact v115

set_option maxHeartbeats 1000000 in
theorem queries (hq : Ten (B m d main_arg0) A.q) (hc : Mat (B m d main_v18) A.cosAt) (hs : Mat (B m d main_v19) A.sinAt) :
    Mat (B m d main_v159) A.dq := by
  have L := line m d
  have v61 : Ten (B m d main_v61) fun r (_ : Fin 1) e => A.cosAt r e :=
    Rep.cast (.of_eq (L.unary 73 rfl) <| Mat.host_mid hc _) fun _ => rfl
  have v62 : Ten (B m d main_v62) fun r (_ : Fin 1) e => A.sinAt r e :=
    Rep.cast (.of_eq (L.unary 74 rfl) <| Mat.host_mid hs _) fun _ => rfl
  have v96 : Ten (B m d main_v96) fun r h e => A.q h r e :=
    Rep.cast (.of_eq (L.unary 109 rfl) <| Ten.swap hq _) fun _ => rfl
  have v103 : Ten (B m d main_v103) fun r h e => A.q h r e * scale :=
    Rep.cast (.of_eq (L.binary 119 rfl) <| .mul v96 (.of_eq (L.unary 118 rfl) <| .host_splat (.of_eq (L.nullary 117 rfl) <| .const word_scale) _ _)) fun _ => rfl
  have v104 : Ten (B m d main_v104) fun r h (e : Fin 128) => A.q h r ⟨0 + e, by omega⟩ * scale :=
    Rep.cast (.of_eq (L.unary 120 rfl) <| Ten.cut v103 (by decide) _) fun _ => rfl
  have v105 : Ten (B m d main_v105) fun r h (e : Fin 64) => A.q h r ⟨128 + e, by omega⟩ * scale :=
    Rep.cast (.of_eq (L.unary 121 rfl) <| Ten.cut v103 (by decide) _) fun _ => rfl
  have v116 : Ten (B m d main_v116) fun r h (e : Fin 32) => (fun e : Fin 64 => A.q h r ⟨128 + e, by omega⟩ * scale) ⟨0 + e, by omega⟩ :=
    Rep.cast (.of_eq (L.unary 132 rfl) <| Ten.cut v105 (by decide) _) fun _ => rfl
  have v117 : Ten (B m d main_v117) fun r h (e : Fin 32) => (fun e : Fin 64 => A.q h r ⟨128 + e, by omega⟩ * scale) ⟨32 + e, by omega⟩ :=
    Rep.cast (.of_eq (L.unary 133 rfl) <| Ten.cut v105 (by decide) _) fun _ => rfl
  have v118 : Ten (B m d main_v118) fun r (_ : Fin 8) e => A.cosAt r e :=
    Rep.cast (.of_eq (L.unary 134 rfl) <| Ten.host_repeat_mid v61 _) fun _ => rfl
  have v120 : Ten (B m d main_v120) fun r (_ : Fin 8) e => A.sinAt r e :=
    Rep.cast (.of_eq (L.unary 136 rfl) <| Ten.host_repeat_mid v62 _) fun _ => rfl
  have v123 : Ten (B m d main_v123) fun r (_ : Fin 8) e => A.sinAt r e :=
    Rep.cast (.of_eq (L.unary 139 rfl) <| Ten.host_repeat_mid v62 _) fun _ => rfl
  have v126 : Ten (B m d main_v126) fun r (_ : Fin 8) e => A.cosAt r e :=
    Rep.cast (.of_eq (L.unary 142 rfl) <| Ten.host_repeat_mid v61 _) fun _ => rfl
  have v125 : Ten (B m d main_v125) fun r h => high (A.cosAt r) (A.sinAt r) (fun e : Fin 64 => A.q h r ⟨128 + e, by omega⟩ * scale) :=
    Rep.cast (.of_eq (L.binary 141 rfl) <| .add (.of_eq (L.binary 135 rfl) <| .mul v117 v118) (.of_eq (L.binary 140 rfl) <| .mul (.of_eq (L.unary 138 rfl) <| .host_neg v116) v123)) fun _ => high_eq _ _ _ _
  have v128 : Ten (B m d main_v128) fun r h => low (A.cosAt r) (A.sinAt r) (fun e : Fin 64 => A.q h r ⟨128 + e, by omega⟩ * scale) :=
    Rep.cast (.of_eq (L.binary 144 rfl) <| .add (.of_eq (L.binary 137 rfl) <| .mul v117 v120) (.of_eq (L.binary 143 rfl) <| .mul v116 v126)) fun _ => add_comm _ _
  have v129 : Ten (B m d main_v129) fun r h => unturn (A.cosAt r) (A.sinAt r) (fun e : Fin 64 => A.q h r ⟨128 + e, by omega⟩ * scale) :=
    Rep.cast (.of_eq (L.binary 145 rfl) <| Ten.beside v128 v125 rfl _) fun _ => rfl
  have v156 : Ten (B m d main_v156) fun r h (e : Fin 192) => if c : e.val < 128 then 0 else unturn (A.cosAt r) (A.sinAt r) (fun e : Fin 64 => A.q h r ⟨128 + e, by omega⟩ * scale) ⟨e - 128, by omega⟩ :=
    Rep.cast (.of_eq (L.binary 179 rfl) <| Ten.after v129 (.of_eq (L.nullary 178 rfl) <| .const word_zero) rfl _ _) fun _ => rfl
  have v157 : Ten (B m d main_v157) fun r h (e : Fin 192) => if c : e.val < 128 then A.q h r ⟨0 + e, by omega⟩ * scale else 0 :=
    Rep.cast (.of_eq (L.binary 181 rfl) <| Ten.before (o := 64) v104 (.of_eq (L.nullary 180 rfl) <| .const word_zero) rfl _ _) fun _ => rfl
  have v158 : Ten (B m d main_v158) fun r => upq (A.cosAt r) (A.sinAt r) fun h => A.q h r :=
    Rep.cast (.of_eq (L.binary 182 rfl) <| .add v156 v157) fun i => sum_upq (A.cosAt (i 0)) (A.sinAt (i 0)) (fun h => A.q h (i 0)) (i 1) (i 2)
  have v159 : Mat (B m d main_v159) A.dq :=
    Rep.cast (.of_eq (L.reshape 183 rfl) <| Ten.join v158 rfl (by norm_num) _) fun _ => rfl
  exact v159

/-! ## The two norms and their gradients -/

set_option maxHeartbeats 1000000 in
theorem norm_q (hc : Mat (B m d main_v20) A.cq) (hD : Mat (B m d main_v159) A.dq) (hw : Mat (B m d main_arg5) A.qn)
    (hW : Mat (B m d main_arg6) A.wq) : Mat (B m d main_v161) A.gq
    ∧ Mat (B m d main_v165) (fun _ i => ∑ r, dlat (A.dq r) A.wq i * unit 256 (A.cq r) i)
    ∧ Mat (B m d main_v181) fun r => dpart (A.cq r) (A.qn 0) (A.dq r) A.wq := by
  have L := line m d
  have v29 : Mat (B m d main_v29) fun r _ => ms 256 (A.cq r) :=
    Rep.cast (.of_eq (L.binary 36 rfl) <| .add (.of_eq (L.binary 33 rfl) <| .host_div (.of_eq (L.unary 30 rfl) <| Row.host_col (.of_eq (L.binary 29 rfl) <| Mat.host_sum_rows (.of_eq (L.binary 27 rfl) <| .mul hc hc) (.of_eq (L.nullary 28 rfl) <| .const word_zero) _ _) _) (.of_eq (L.unary 32 rfl) <| .host_splat (.of_eq (L.nullary 31 rfl) <| .const word_256) _ _) fun _ => by norm_num) (.of_eq (L.unary 35 rfl) <| .host_splat (.of_eq (L.nullary 34 rfl) <| .const word_eps) _ _)) fun _ => rfl
  have v30 : Mat (B m d main_v30) fun r _ => rr 256 (A.cq r) :=
    Rep.cast (.of_eq (L.unary 37 rfl) <| .host_rsqrt v29 fun _ => ms_pos _ _ (by norm_num)) fun _ => rfl
  have v33 : Mat (B m d main_v33) fun r _ => -1 / 2 * (rr 256 (A.cq r) / ms 256 (A.cq r)) :=
    Rep.cast (.of_eq (L.binary 41 rfl) <| .mul (.of_eq (L.unary 40 rfl) <| .host_splat (.of_eq (L.nullary 39 rfl) <| .const word_neg_half) _ _) (.of_eq (L.binary 38 rfl) <| .host_div v30 v29 fun _ => (ms_pos _ _ (by norm_num)).ne')) fun _ => rfl
  have v35 : Mat (B m d main_v35) fun r => unit 256 (A.cq r) :=
    Rep.cast (.of_eq (L.binary 43 rfl) <| .mul hc (.of_eq (L.unary 42 rfl) <| Mat.host_repeat_col v30 _)) fun _ => rfl
  have v37 : Mat (B m d main_v37) fun r => lat (A.cq r) (A.qn 0) :=
    Rep.cast (.of_eq (L.binary 45 rfl) <| .mul v35 (.of_eq (L.unary 44 rfl) <| Mat.host_repeat_row hw _)) fun _ => rfl
  have v160 : Mat (B m d main_v160) fun j i => ∑ r, A.dq r j * lat (A.cq r) (A.qn 0) i :=
    Rep.cast (.of_eq (L.binary 184 rfl) <| .host_dot (φ₁ := .f32) (φ₂ := .f32) _ none hD v37) fun _ => rfl
  have v161 : Mat (B m d main_v161) A.gq :=
    Rep.cast (.of_eq (L.unary 185 rfl) <| Mat.swap v160 _) fun _ => Finset.sum_congr rfl fun _ _ => mul_comm _ _
  have v162 : Mat (B m d main_v162) fun r => dlat (A.dq r) A.wq :=
    Rep.cast (.of_eq (L.binary 186 rfl) <| .host_dot (φ₁ := .f32) (φ₂ := .f32) _ none hD hW) fun _ => rfl
  have v165 : Mat (B m d main_v165) fun _ i => ∑ r, dlat (A.dq r) A.wq i * unit 256 (A.cq r) i :=
    Rep.cast (.of_eq (L.reshape 190 rfl) <| Row.row (.of_eq (L.binary 189 rfl) <| Mat.host_sum_cols (.of_eq (L.binary 187 rfl) <| .mul v35 v162) (.of_eq (L.nullary 188 rfl) <| .const word_zero) _ _) _) fun _ => Finset.sum_congr rfl fun _ _ => mul_comm _ _
  have v167 : Mat (B m d main_v167) fun r => fun i => dlat (A.dq r) A.wq i * A.qn 0 i :=
    Rep.cast (.of_eq (L.binary 192 rfl) <| .mul v162 (.of_eq (L.unary 191 rfl) <| Mat.host_repeat_row hw _)) fun _ => rfl
  have v177 : Mat (B m d main_v177) fun r _ => coef 256 (A.cq r) (fun i => dlat (A.dq r) A.wq i * A.qn 0 i) :=
    Rep.cast (.of_eq (L.unary 205 rfl) <| Row.host_col (.of_eq (L.binary 204 rfl) <| Mat.host_sum_unit (.of_eq (L.binary 202 rfl) <| .host_div (.of_eq (L.binary 199 rfl) <| .mul (.of_eq (L.reshape 196 rfl) <| Row.col (.of_eq (L.binary 195 rfl) <| Mat.host_sum_rows (.of_eq (L.binary 193 rfl) <| .mul hc v167) (.of_eq (L.nullary 194 rfl) <| .const word_zero) _ _) _) v33) (.of_eq (L.unary 201 rfl) <| .host_splat (.of_eq (L.nullary 200 rfl) <| .const word_256) _ _) fun _ => by norm_num) (.of_eq (L.nullary 203 rfl) <| .const word_zero) _ _) _) fun _ => rfl
  have v181 : Mat (B m d main_v181) fun r => backDiff 256 (A.cq r) (fun i => dlat (A.dq r) A.wq i * A.qn 0 i) :=
    Rep.cast (.of_eq (L.binary 209 rfl) <| .add (.of_eq (L.binary 207 rfl) <| .add (.of_eq (L.binary 198 rfl) <| .mul v167 (.of_eq (L.unary 197 rfl) <| Mat.host_repeat_col v30 _)) (.of_eq (L.binary 206 rfl) <| .mul hc v177)) (.of_eq (L.binary 208 rfl) <| .mul v177 hc)) fun _ => rfl
  exact ⟨v161, v165, Rep.cast v181 fun i => backDiff_eq 256 (A.cq (i 0)) (fun e => dlat (A.dq (i 0)) A.wq e * A.qn 0 e) (by norm_num) (i 1)⟩

set_option maxHeartbeats 1000000 in
theorem norm_k (hc : Mat (B m d main_v21) A.ck) (hD : Mat (B m d main_v133) A.dk) (hw : Mat (B m d main_arg7) A.kn)
    (hW : Mat (B m d main_arg8) A.wk) : Mat (B m d main_v135) A.gk
    ∧ Mat (B m d main_v139) (fun _ i => ∑ r, dlat (A.dk r) A.wk i * unit 256 (A.ck r) i)
    ∧ Mat (B m d main_v155) fun r => dpart (A.ck r) (A.kn 0) (A.dk r) A.wk := by
  have L := line m d
  have v48 : Mat (B m d main_v48) fun r _ => ms 256 (A.ck r) :=
    Rep.cast (.of_eq (L.binary 59 rfl) <| .add (.of_eq (L.binary 56 rfl) <| .host_div (.of_eq (L.unary 53 rfl) <| Row.host_col (.of_eq (L.binary 52 rfl) <| Mat.host_sum_rows (.of_eq (L.binary 50 rfl) <| .mul hc hc) (.of_eq (L.nullary 51 rfl) <| .const word_zero) _ _) _) (.of_eq (L.unary 55 rfl) <| .host_splat (.of_eq (L.nullary 54 rfl) <| .const word_256) _ _) fun _ => by norm_num) (.of_eq (L.unary 58 rfl) <| .host_splat (.of_eq (L.nullary 57 rfl) <| .const word_eps) _ _)) fun _ => rfl
  have v49 : Mat (B m d main_v49) fun r _ => rr 256 (A.ck r) :=
    Rep.cast (.of_eq (L.unary 60 rfl) <| .host_rsqrt v48 fun _ => ms_pos _ _ (by norm_num)) fun _ => rfl
  have v52 : Mat (B m d main_v52) fun r _ => -1 / 2 * (rr 256 (A.ck r) / ms 256 (A.ck r)) :=
    Rep.cast (.of_eq (L.binary 64 rfl) <| .mul (.of_eq (L.unary 63 rfl) <| .host_splat (.of_eq (L.nullary 62 rfl) <| .const word_neg_half) _ _) (.of_eq (L.binary 61 rfl) <| .host_div v49 v48 fun _ => (ms_pos _ _ (by norm_num)).ne')) fun _ => rfl
  have v54 : Mat (B m d main_v54) fun r => unit 256 (A.ck r) :=
    Rep.cast (.of_eq (L.binary 66 rfl) <| .mul hc (.of_eq (L.unary 65 rfl) <| Mat.host_repeat_col v49 _)) fun _ => rfl
  have v56 : Mat (B m d main_v56) fun r => lat (A.ck r) (A.kn 0) :=
    Rep.cast (.of_eq (L.binary 68 rfl) <| .mul v54 (.of_eq (L.unary 67 rfl) <| Mat.host_repeat_row hw _)) fun _ => rfl
  have v134 : Mat (B m d main_v134) fun j i => ∑ r, A.dk r j * lat (A.ck r) (A.kn 0) i :=
    Rep.cast (.of_eq (L.binary 152 rfl) <| .host_dot (φ₁ := .f32) (φ₂ := .f32) _ none hD v56) fun _ => rfl
  have v135 : Mat (B m d main_v135) A.gk :=
    Rep.cast (.of_eq (L.unary 153 rfl) <| Mat.swap v134 _) fun _ => Finset.sum_congr rfl fun _ _ => mul_comm _ _
  have v136 : Mat (B m d main_v136) fun r => dlat (A.dk r) A.wk :=
    Rep.cast (.of_eq (L.binary 154 rfl) <| .host_dot (φ₁ := .f32) (φ₂ := .f32) _ none hD hW) fun _ => rfl
  have v139 : Mat (B m d main_v139) fun _ i => ∑ r, dlat (A.dk r) A.wk i * unit 256 (A.ck r) i :=
    Rep.cast (.of_eq (L.reshape 158 rfl) <| Row.row (.of_eq (L.binary 157 rfl) <| Mat.host_sum_cols (.of_eq (L.binary 155 rfl) <| .mul v54 v136) (.of_eq (L.nullary 156 rfl) <| .const word_zero) _ _) _) fun _ => Finset.sum_congr rfl fun _ _ => mul_comm _ _
  have v141 : Mat (B m d main_v141) fun r => fun i => dlat (A.dk r) A.wk i * A.kn 0 i :=
    Rep.cast (.of_eq (L.binary 160 rfl) <| .mul v136 (.of_eq (L.unary 159 rfl) <| Mat.host_repeat_row hw _)) fun _ => rfl
  have v151 : Mat (B m d main_v151) fun r _ => coef 256 (A.ck r) (fun i => dlat (A.dk r) A.wk i * A.kn 0 i) :=
    Rep.cast (.of_eq (L.unary 173 rfl) <| Row.host_col (.of_eq (L.binary 172 rfl) <| Mat.host_sum_unit (.of_eq (L.binary 170 rfl) <| .host_div (.of_eq (L.binary 167 rfl) <| .mul (.of_eq (L.reshape 164 rfl) <| Row.col (.of_eq (L.binary 163 rfl) <| Mat.host_sum_rows (.of_eq (L.binary 161 rfl) <| .mul hc v141) (.of_eq (L.nullary 162 rfl) <| .const word_zero) _ _) _) v52) (.of_eq (L.unary 169 rfl) <| .host_splat (.of_eq (L.nullary 168 rfl) <| .const word_256) _ _) fun _ => by norm_num) (.of_eq (L.nullary 171 rfl) <| .const word_zero) _ _) _) fun _ => rfl
  have v155 : Mat (B m d main_v155) fun r => backDiff 256 (A.ck r) (fun i => dlat (A.dk r) A.wk i * A.kn 0 i) :=
    Rep.cast (.of_eq (L.binary 177 rfl) <| .add (.of_eq (L.binary 175 rfl) <| .add (.of_eq (L.binary 166 rfl) <| .mul v141 (.of_eq (L.unary 165 rfl) <| Mat.host_repeat_col v49 _)) (.of_eq (L.binary 174 rfl) <| .mul hc v151)) (.of_eq (L.binary 176 rfl) <| .mul v151 hc)) fun _ => rfl
  exact ⟨v135, v139, Rep.cast v155 fun i => backDiff_eq 256 (A.ck (i 0)) (fun e => dlat (A.dk (i 0)) A.wk e * A.kn 0 e) (by norm_num) (i 1)⟩

end Cert.MlaRef

end
-- ==== Proof.MlaRun.lean ====
/-
  The latent projections' gradient's reference, run, and its results over the reals.
-/
module

public import proofs.«01_k».proof.Proof.MlaRef

@[expose] public section

set_option maxRecDepth 16384

noncomputable section

namespace Cert.MlaRef

open Cert.MlaRefIdeal Cert.MlaRefIdeal.Gen Cert.Latent Cert.Rms
open Idealize.ShloMosaic hiding ix1 ix2 ix3
open Idealize.ShloMosaic.TcCoe Idealize.SL.Sem Idealize.ShloMosaic.StableHlo Idealize.ShloMosaic.ValueIdx

theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = B m d b :=
  Line.run (by decide) (by decide) (by decide +kernel) defs main (ops m) (main_eq m) (N := 217) (fun d => rfl) m ρ

variable {m : (ℓ : Loc nD τ sig) → Buf (Elt Ideal) ℓ} {d : Dev nD} {A : Args 4096}

/-- An argument ends as it was launched. -/
theorem kept (x : Ref sig .tc) (h : x.idx.val < 9 := by decide) : B m d x = m (d.tc.loc x) := (line m d).arg h

/-- The latents are columns 3072 to 3328 and 3328 to 3584 of the projection. -/
theorem latent_q (h : ∀ r (e : Fin 256), m ((d.tc : Thread nD τ).loc main_arg3) (ix2 r ⟨3072 + e.val, by omega⟩) = (A.cq r e : EReal)) :
    Mat (B m d main_v20) A.cq := fun i => by
  have h1 : (i 1).val < 256 := (i 1).isLt
  refine (congrFun ((line m d).unary 24 rfl) i).trans ?_
  refine (extractStridedSlice_apply _ _ _ i (ix2 (i 0) ⟨(i 1).val, by omega⟩) fun a => ?_).trans
    ((congrFun ((line m d).unary 21 rfl) _).trans ((extractStridedSlice_apply _ _ _ _ (ix2 (i 0) ⟨3072 + (i 1).val, by omega⟩) fun a => ?_).trans
      ((congrFun (line m d).arg _).trans (h (i 0) (i 1)))))
  · match a with
    | ⟨0, _⟩ => exact (Nat.zero_add _).symm
    | ⟨1, _⟩ => exact (Nat.zero_add _).symm
  · match a with
    | ⟨0, _⟩ => exact (Nat.zero_add _).symm
    | ⟨1, _⟩ => rfl

theorem latent_k (h : ∀ r (e : Fin 256), m ((d.tc : Thread nD τ).loc main_arg3) (ix2 r ⟨3328 + e.val, by omega⟩) = (A.ck r e : EReal)) :
    Mat (B m d main_v21) A.ck := fun i => by
  have h1 : (i 1).val < 256 := (i 1).isLt
  refine (congrFun ((line m d).unary 25 rfl) i).trans ?_
  refine (extractStridedSlice_apply _ _ _ i (ix2 (i 0) ⟨256 + (i 1).val, by omega⟩) fun a => ?_).trans
    ((congrFun ((line m d).unary 21 rfl) _).trans ((extractStridedSlice_apply _ _ _ _ (ix2 (i 0) ⟨3328 + (i 1).val, by omega⟩) fun a => ?_).trans
      ((congrFun (line m d).arg _).trans (h (i 0) (i 1)))))
  · match a with
    | ⟨0, _⟩ => exact (Nat.zero_add _).symm
    | ⟨1, _⟩ => rfl
  · match a with
    | ⟨0, _⟩ => exact (Nat.zero_add _).symm
    | ⟨1, _⟩ => show 3328 + (i 1).val = 3072 + (256 + (i 1).val); omega

/-- The positions, as real numbers. -/
theorem place (h : ∀ r, ((m ((d.tc : Thread nD τ).loc main_arg4) (ix2 0 r)).toInt : ℝ) = A.pos r) : Row (B m d main_v11) A.pos := fun i => by
  have e : B m d main_v10 i = m ((d.tc : Thread nD τ).loc main_arg4) (ix2 0 (i 0)) := by
    refine (congrFun ((line m d).reshape 14 rfl) i).trans ((shapeCast_apply _ _ i (ix2 0 (i 0)) ?_).trans (congrFun (line m d).arg _))
    rw [Shape.rowMajor_val_one, Shape.rowMajor_val_two]
    show 0 * 4096 + (i 0).val = (i 0).val
    omega
  have e' : B m d main_v11 i = (((B m d main_v10 i).toInt : ℝ) : EReal) := congrFun ((line m d).unary 15 rfl) i
  rw [e', e]
  exact congrArg Real.toEReal (h (i 0))

/-- The latents' gradients and the shared key's, side by side. -/
theorem columns {a b : Fin 4096 → Fin 256 → ℝ} {s : Fin 4096 → Fin 64 → ℝ} (ha : Mat (B m d main_v181) a) (hb : Mat (B m d main_v155) b)
    (hs : Mat (B m d main_v115) s) : Mat (B m d main_v184) fun r => parts (a r) (b r) (s r) := by
  have L := line m d
  have hz : Mat (B m d main_v182) fun _ _ => 0 :=
    Rep.of_eq (L.unary 211 rfl) <| Rep.host_splat (Rep.of_eq (L.nullary 210 rfl) <| Rep.const (φ := .f32) word_zero) _ _
  have v183 : Mat (B m d main_v183) fun r => parts (a r) (b r) (s r) :=
    Rep.of_eq (L.nary 212 rfl) <| parts_rep ha hb hs hz concatenates_S4096x256_S4096x256_S4096x64_S4096x448_S4096x1024_d1
  exact Rep.of_eq (L.unary 213 rfl) <| .trunc bitsLt_bf16_f32 v183

/-- The norms' gradients as rows 0 and 1 of eight. -/
theorem sums {s t : Fin 1 → Fin 256 → ℝ} (hs : Mat (B m d main_v165) s) (ht : Mat (B m d main_v139) t) :
    Mat (B m d main_v186) fun k q => if k.val = 1 then t 0 q else if k.val = 0 then s 0 q else 0 := fun i => by
  have hz : Mat (B m d main_v185) fun _ _ => 0 :=
    Rep.of_eq ((line m d).unary 215 rfl) <| Rep.host_splat (Rep.of_eq ((line m d).nullary 214 rfl) <| Rep.const (φ := .f32) word_zero) _ _
  have hi : (i 0).val < 8 := (i 0).isLt
  let xs : List ((s : Shape) × (s.Idx → EReal)) := [⟨S1x256, B m d main_v165⟩, ⟨S1x256, B m d main_v139⟩, ⟨S6x256, B m d main_v185⟩]
  refine (congrFun ((line m d).nary 216 rfl) i).trans ?_
  by_cases e1 : (i 0).val = 1
  · refine (concatenate_apply_piece (0 : Fin 2) xs _ i 1 (show 1 < 3 by decide) S1x256 (B m d main_v139) rfl rfl 1 rfl (ix2 0 (i 1))
      (fun b hb => match b with | ⟨0, _⟩ => absurd rfl hb | ⟨1, _⟩ => rfl) e1.symm).trans ((ht _).trans (congrArg _ ?_))
    exact (if_pos e1).symm
  by_cases e0 : (i 0).val = 0
  · refine (concatenate_apply_piece (0 : Fin 2) xs _ i 0 (show 0 < 3 by decide) S1x256 (B m d main_v165) rfl rfl 0 rfl (ix2 0 (i 1))
      (fun b hb => match b with | ⟨0, _⟩ => absurd rfl hb | ⟨1, _⟩ => rfl) e0.symm).trans ((hs _).trans (congrArg _ ?_))
    exact ((if_neg e1).trans (if_pos e0)).symm
  · refine (concatenate_apply_piece (0 : Fin 2) xs _ i 2 (show 2 < 3 by decide) S6x256 (B m d main_v185) rfl rfl 2 rfl (ix2 ⟨(i 0).val - 2, by omega⟩ (i 1))
      (fun b hb => match b with | ⟨0, _⟩ => absurd rfl hb | ⟨1, _⟩ => rfl) (show 2 + ((i 0).val - 2) = (i 0).val by omega)).trans ((hz _).trans (congrArg _ ?_))
    exact ((if_neg e1).trans (if_neg e0)).symm

/-- The four results. -/
theorem results (hq : Ten (B m d main_arg0) A.q) (hk : Ten (B m d main_arg1) A.k) (hv : Ten (B m d main_arg2) A.v)
    (hcq : Mat (B m d main_v20) A.cq) (hck : Mat (B m d main_v21) A.ck) (hp : Row (B m d main_v11) A.pos)
    (hqn : Mat (B m d main_arg5) A.qn) (hwq : Mat (B m d main_arg6) A.wq) (hkn : Mat (B m d main_arg7) A.kn) (hwk : Mat (B m d main_arg8) A.wk) :
    Mat (B m d main_v184) A.row ∧ Mat (B m d main_v161) A.gq ∧ Mat (B m d main_v135) A.gk ∧ Mat (B m d main_v186) A.small := by
  obtain ⟨hc, hs⟩ := turn hp
  obtain ⟨q0, q1, q2⟩ := norm_q hcq (queries hq hc hs) hqn hwq
  obtain ⟨k0, k1, k2⟩ := norm_k hck (upper hk hv) hkn hwk
  exact ⟨columns q2 k2 (lower hk hc hs), q0, k0, sums q1 k1⟩

end Cert.MlaRef

end
-- ==== Proof.MlaClaim.lean ====
/-
  The latent projections' gradients: the kernel's are the reference's.
-/
module

public import proofs.«01_k».proof.Proof.MlaHost
public import proofs.«01_k».proof.Proof.MlaRun
public import proofs.«01_k».proof.Proof.AttnClaim
public import proofs.«01_k».proof.Proof.Gen.Pre_finite_mla

@[expose] public section

set_option maxRecDepth 16384

noncomputable section

namespace Cert.MlaClaim

open Idealize.ShloMosaic hiding ix1 ix2 ix3
open Idealize.ShloMosaic.TcCoe Idealize.SL.Sem Idealize.ShloMosaic.StableHlo Idealize.ShloMosaic.ValueIdx
open Cert.Latent

theorem frame_ref (m : (ℓ : Loc MlaRefIdeal.nD MlaRefIdeal.τ MlaRefIdeal.sig) → Buf (Elt Ideal) ℓ) (ρ : Dev MlaRefIdeal.nD → PrngReg) :
    θ_run (MlaRefIdeal.defs (F := Ideal)) (onTc (τ := MlaRefIdeal.τ) (MlaRefIdeal.main (F := Ideal))) ⟨m, fun _ => 0, ρ⟩ fun r =>
      (∀ c : Dev MlaRefIdeal.nD, (r.2.mem (c.tc.loc MlaRefIdeal.main_arg0) = m (c.tc.loc MlaRefIdeal.main_arg0)
        ∧ r.2.mem (c.tc.loc MlaRefIdeal.main_arg1) = m (c.tc.loc MlaRefIdeal.main_arg1)
        ∧ r.2.mem (c.tc.loc MlaRefIdeal.main_arg2) = m (c.tc.loc MlaRefIdeal.main_arg2)
        ∧ r.2.mem (c.tc.loc MlaRefIdeal.main_arg3) = m (c.tc.loc MlaRefIdeal.main_arg3)
        ∧ r.2.mem (c.tc.loc MlaRefIdeal.main_arg4) = m (c.tc.loc MlaRefIdeal.main_arg4)
        ∧ r.2.mem (c.tc.loc MlaRefIdeal.main_arg5) = m (c.tc.loc MlaRefIdeal.main_arg5)
        ∧ r.2.mem (c.tc.loc MlaRefIdeal.main_arg6) = m (c.tc.loc MlaRefIdeal.main_arg6)
        ∧ r.2.mem (c.tc.loc MlaRefIdeal.main_arg7) = m (c.tc.loc MlaRefIdeal.main_arg7)
        ∧ r.2.mem (c.tc.loc MlaRefIdeal.main_arg8) = m (c.tc.loc MlaRefIdeal.main_arg8))) ∧ r.2.sem = fun _ => 0 :=
  (θ_run _ _ _).mono (fun r h => ⟨fun c =>
    ⟨(h c _).trans (MlaRef.kept _), (h c _).trans (MlaRef.kept _), (h c _).trans (MlaRef.kept _), (h c _).trans (MlaRef.kept _),
     (h c _).trans (MlaRef.kept _), (h c _).trans (MlaRef.kept _), (h c _).trans (MlaRef.kept _), (h c _).trans (MlaRef.kept _),
     (h c _).trans (MlaRef.kept _)⟩,
    sem_eq_zero_of_no_sems rfl _⟩) (MlaRef.run m ρ)

theorem algebraic : Cert.algebraic_MlaIdeal_MlaRefIdeal_pre_finite_mla := by
  intro m ρ m' ρ' hpre hag
  refine ⟨fun c => (MlaIdeal.Gen.dats m 0 c).arrAt 10 MlaIdeal.cfg0.N, fun c => (MlaIdeal.Gen.dats m 0 c).arrAt 11 MlaIdeal.cfg0.N,
    fun c => (MlaIdeal.Gen.dats m 0 c).arrAt 12 MlaIdeal.cfg0.N, fun c => (MlaIdeal.Gen.dats m 0 c).arrAt 13 MlaIdeal.cfg0.N,
    MlaIdeal.Value.run_blocks m ρ, (θ_run _ _ _).mono (fun r h c => ?_) (MlaRef.run m' ρ')⟩
  obtain ⟨p0, p1, p2, p3, p4, p5, p6, p7⟩ := hpre c
  obtain ⟨a0, a1, a2, a3, a4, a5, a6, a7, a8⟩ := hag c
  obtain ⟨Q, hQ⟩ := AttnClaim.exists_ten (exists_rep p0)
  obtain ⟨K, hK⟩ := AttnClaim.exists_ten (exists_rep p1)
  obtain ⟨V, hV⟩ := AttnClaim.exists_ten (exists_rep p2)
  obtain ⟨X, hX⟩ := exists_mat (exists_rep p3)
  obtain ⟨qn, hqn⟩ := exists_mat (exists_rep p4)
  obtain ⟨wq, hwq⟩ := exists_mat (exists_rep p5)
  obtain ⟨kn, hkn⟩ := exists_mat (exists_rep p6)
  obtain ⟨wk, hwk⟩ := exists_mat (exists_rep p7)
  have latent (r : Fin 4096) (q : Fin 512) : m ((c : Thread MlaIdeal.nD MlaIdeal.τ).loc MlaIdeal.main_arg3) (ix2 r ⟨3072 + q.val, by omega⟩)
      = (X r q : EReal) := by
    refine Eq.trans (Eq.symm ?_) (hX (ix2 r q))
    refine extractStridedSlice_apply _ _ _ _ _ fun a => ?_
    match a with
    | ⟨0, _⟩ => exact (Nat.zero_add _).symm
    | ⟨1, _⟩ => rfl
  let A : Args 4096 := { q := Q, k := K, v := V, cq := fun r e => X r ⟨e.val, by omega⟩, ck := fun r e => X r ⟨256 + e.val, by omega⟩
                         pos := fun r => ((m ((c : Thread MlaIdeal.nD MlaIdeal.τ).loc MlaIdeal.main_arg4) (ix2 0 r)).toInt : ℝ)
                         qn := qn, kn := kn, wq := wq, wk := wk }
  have hcq (r : Fin 4096) (e : Fin 256) : m ((c : Thread MlaIdeal.nD MlaIdeal.τ).loc MlaIdeal.main_arg3) (ix2 r ⟨3072 + e.val, by omega⟩)
      = (A.cq r e : EReal) := latent r ⟨e.val, by omega⟩
  have hck (r : Fin 4096) (e : Fin 256) : m ((c : Thread MlaIdeal.nD MlaIdeal.τ).loc MlaIdeal.main_arg3) (ix2 r ⟨3328 + e.val, by omega⟩)
      = (A.ck r e : EReal) := by
    refine Eq.trans (congrArg _ (congrArg (ix2 r) (Fin.ext ?_))) (latent r ⟨256 + e.val, by omega⟩)
    show 3328 + e.val = 3072 + (256 + e.val)
    omega
  have e : MlaKernel.Entry m c A := MlaKernel.entry hQ hK hV hcq hck (fun _ => rfl) hqn hwq hkn hwk
  obtain ⟨r0, r1, r2, r3⟩ := MlaRef.results (m := m') (d := c) (A := A)
    (((MlaRef.kept MlaRefIdeal.main_arg0).trans a0).symm ▸ hQ) (((MlaRef.kept MlaRefIdeal.main_arg1).trans a1).symm ▸ hK)
    (((MlaRef.kept MlaRefIdeal.main_arg2).trans a2).symm ▸ hV)
    (MlaRef.latent_q fun r e => (congrFun a3 _).trans (hcq r e)) (MlaRef.latent_k fun r e => (congrFun a3 _).trans (hck r e))
    (MlaRef.place fun r => congrArg (fun z : BitVec 32 => (z.toInt : ℝ)) (congrFun a4 (ix2 0 r)))
    (((MlaRef.kept MlaRefIdeal.main_arg5).trans a5).symm ▸ hqn) (((MlaRef.kept MlaRefIdeal.main_arg6).trans a6).symm ▸ hwq)
    (((MlaRef.kept MlaRefIdeal.main_arg7).trans a7).symm ▸ hkn) (((MlaRef.kept MlaRefIdeal.main_arg8).trans a8).symm ▸ hwk)
  exact ⟨(h c _).trans (funext fun i => (r0 i).trans (MlaKernel.result10 e i).symm), (h c _).trans (funext fun i => (r1 i).trans (MlaKernel.result11 e i).symm),
    (h c _).trans (funext fun i => (r2 i).trans (MlaKernel.result12 e i).symm), (h c _).trans (funext fun i => (r3 i).trans (MlaKernel.result13 e i).symm),
    (h c _).trans (MlaRef.kept _), (h c _).trans (MlaRef.kept _), (h c _).trans (MlaRef.kept _), (h c _).trans (MlaRef.kept _),
    (h c _).trans (MlaRef.kept _), (h c _).trans (MlaRef.kept _), (h c _).trans (MlaRef.kept _), (h c _).trans (MlaRef.kept _),
    (h c _).trans (MlaRef.kept _)⟩

end Cert.MlaClaim

end
-- ==== Proof.InxReal.lean ====
/-
  The input projection's gradient with respect to its input, over the reals: the projection's gradient times the
  transposed weight, then the gradient of the modulation and of the RMS norm before it.

  The kernel multiplies 7168 columns: the 6720 of the projection with 448 columns of zeros after the first 3648.
-/
module

public import proofs.«01_k».proof.Proof.Rms

@[expose] public section

noncomputable section

namespace Cert.InProj

open Cert.Rms

/-- The columns with the zeros between them. -/
def spread (a : Fin 6720 → ℝ) (p : Fin 7168) : ℝ :=
  if h : p.val < 3648 then a ⟨p.val, by omega⟩ else if p.val < 4096 then 0 else a ⟨p.val - 448, by omega⟩

theorem sum_parts (f : Fin 7168 → ℝ) : ∑ p, f p
    = (∑ i : Fin 3648, f ⟨i.val, by omega⟩) + ((∑ i : Fin 448, f ⟨3648 + i.val, by omega⟩) + ∑ i : Fin 3072, f ⟨4096 + i.val, by omega⟩) := by
  refine (Fin.sum_univ_add (a := 3648) (b := 3520) f).trans (congrArg₂ _ rfl ?_)
  refine (Fin.sum_univ_add (a := 448) (b := 3072) fun i => f (Fin.natAdd 3648 i)).trans (congrArg₂ _ rfl ?_)
  refine Finset.sum_congr rfl fun i _ => congrArg f (Fin.ext ?_)
  show 3648 + (448 + i.val) = 4096 + i.val
  omega

theorem sum_spread (a b : Fin 6720 → ℝ) : ∑ p, spread a p * spread b p = ∑ j, a j * b j := by
  rw [sum_parts]
  refine Eq.trans ?_ (Fin.sum_univ_add (a := 3648) (b := 3072) fun j => a j * b j).symm
  refine congrArg₂ _ (Finset.sum_congr rfl fun i _ => ?_) ?_
  · unfold spread
    rw [dif_pos i.isLt, dif_pos i.isLt]
    rfl
  · have z : ∑ i : Fin 448, spread a ⟨3648 + i.val, by omega⟩ * spread b ⟨3648 + i.val, by omega⟩ = 0 := by
      refine Finset.sum_eq_zero fun i _ => ?_
      unfold spread
      rw [dif_neg (by dsimp only; omega), if_pos (by dsimp only; omega), zero_mul]
    rw [z, zero_add]
    refine Finset.sum_congr rfl fun i _ => ?_
    unfold spread
    rw [dif_neg (by dsimp only; omega), if_neg (by dsimp only; omega), dif_neg (by dsimp only; omega), if_neg (by dsimp only; omega)]
    have e : (⟨4096 + i.val - 448, by omega⟩ : Fin 6720) = Fin.natAdd 3648 i := Fin.ext (by show 4096 + i.val - 448 = 3648 + i.val; omega)
    exact congrArg₂ _ (congrArg a e) (congrArg b e)

/-- The arguments, for `n` rows. -/
structure Args (n : ℕ) where
  P : Fin n → Fin 6720 → ℝ
  W : Fin 1024 → Fin 6720 → ℝ
  x : Fin n → Fin 1024 → ℝ
  dx2 : Fin n → Fin 1024 → ℝ
  nw : Fin 1024 → ℝ
  sc : Fin 1024 → ℝ

namespace Args

variable {n : ℕ} (A : Args n)

/-- The gradient of the projection's input, of the scaled row, and of the row over its root mean square. -/
def dh (r : Fin n) (c : Fin 1024) : ℝ := ∑ j, A.P r j * A.W c j
def dhn (r : Fin n) (c : Fin 1024) : ℝ := A.dh r c * (1 + A.sc c)
def dxn (r : Fin n) (c : Fin 1024) : ℝ := A.dhn r c * A.nw c
def dx (r : Fin n) (c : Fin 1024) : ℝ := back 1024 (A.x r) (A.dxn r) c + A.dx2 r c

/-- What one row adds to the gradients of the shift, the scale and the norm's weight. -/
def part (k : Fin 8) (r : Fin n) (c : Fin 1024) : ℝ :=
  if k.val = 2 then A.dhn r c * unit 1024 (A.x r) c
  else if k.val = 1 then A.dh r c * (unit 1024 (A.x r) c * A.nw c)
  else if k.val = 0 then A.dh r c else 0
def small (k : Fin 8) (c : Fin 1024) : ℝ := ∑ r, A.part k r c

/-- The terms of `dh` in block `k` of the columns. -/
def chunk (k : Fin 7) (r : Fin n) (c : Fin 1024) : ℝ :=
  ∑ e : Fin 1024, spread (A.P r) ⟨1024 * k.val + e.val, by omega⟩ * spread (A.W c) ⟨1024 * k.val + e.val, by omega⟩

theorem sum_chunk (r : Fin n) (c : Fin 1024) : ∑ k, A.chunk k r c = A.dh r c :=
  (sum_blocks (N := 7) (n := 1024) rfl (fun p => spread (A.P r) p * spread (A.W c) p) (fun k e => ⟨1024 * k.val + e.val, by omega⟩)
    fun _ _ => rfl).trans (sum_spread _ _)

end Args

/-- The sum of the first terms, and of one more. -/
theorem sum_below_succ {N q : ℕ} (f : Fin N → ℝ) (h : q < N) :
    (∑ t, if t.val < q + 1 then f t else 0) = (∑ t, if t.val < q then f t else 0) + f ⟨q, h⟩ := by
  have e : f ⟨q, h⟩ = ∑ t, if t = ⟨q, h⟩ then f t else 0 := by rw [Finset.sum_ite_eq', if_pos (Finset.mem_univ _)]
  rw [e, ← Finset.sum_add_distrib]
  refine Finset.sum_congr rfl fun t _ => ?_
  by_cases h1 : t.val < q
  · rw [if_pos (by omega), if_pos h1, if_neg fun h' => by rw [h'] at h1; simp at h1, add_zero]
  by_cases h2 : t.val = q
  · rw [if_pos (by omega), if_neg h1, if_pos (Fin.ext h2), zero_add]
  · rw [if_neg (by omega), if_neg h1, if_neg fun h' => h2 (by rw [h']), zero_add]

theorem sum_below_zero {N : ℕ} (f : Fin N → ℝ) : (∑ t, if t.val < 0 then f t else 0) = 0 :=
  Finset.sum_eq_zero fun _ _ => if_neg (Nat.not_lt_zero _)

theorem sum_below_all {N : ℕ} (f : Fin N → ℝ) : (∑ t, if t.val < N then f t else 0) = ∑ t, f t :=
  Finset.sum_congr rfl fun t _ => if_pos t.isLt

end Cert.InProj

end
-- ==== Proof.InxPay.lean ====
/-
  What the body of the input projection's gradient computes, over the reals.
-/
module

public import proofs.«01_k».proof.Proof.Windows
public import proofs.«01_k».proof.Proof.Gen.InxIdeal.Skeleton
public import proofs.«01_k».proof.Proof.Products
public import proofs.«01_k».proof.Proof.InxReal

@[expose] public section

set_option maxRecDepth 16384

noncomputable section

namespace Cert.InxPay

open Cert.InxIdeal Cert.InxIdeal.Gen Cert.InProj Cert.Rms Cert.Windows
open Idealize.ShloMosaic hiding ix1 ix2 ix3
open Idealize.ShloMosaic.ValueIdx

variable {a x y : FVec Ideal S1024x1024 .f32} {p w : FVec Ideal S1024x1024 .bf16} {nw xo sc : FVec Ideal S1x1024 .f32}
variable {D X Y P Q : Fin 1024 → Fin 1024 → ℝ} {N S : Fin 1024 → ℝ} {O : Fin 1 → Fin 1024 → ℝ}

theorem step (ha : Mat a D) (hp : Mat p P) (hw : Mat w Q) : Mat (k0_pay3 (F := Ideal) a p w) fun r c => D r c + ∑ e, P r e * Q e c :=
  Rep.cast (Rep.self _ (Rep.add (φ := .f32) ha (Rep.matmul (φ₁ := .bf16) (φ₂ := .bf16) dot_S1024x1024_S1024x1024_S1024x1024_1_0_0_1_n_n none
    (Rep.self _ hp) (Rep.self _ hw)))) fun _ => rfl

theorem zero : Mat (k0_pay2 (F := Ideal)) fun _ _ => 0 := Rep.self _ (Rep.splat (φ := .f32) word_zero)
theorem zeros : Mat (k0_pay1 (F := Ideal)) fun _ _ => 0 := Rep.splat (φ := .f32) word_zero

theorem root (hx : Mat x X) : Mat (k0_pay9 (F := Ideal) x) fun r _ => rr 1024 (X r) :=
  Rep.cast (Rep.rsqrt (φ := .f32) (g := fun i => ms 1024 (X (i 0))) (Rep.cast (Rep.add (φ := .f32) (Rep.div (φ := .f32)
    (Row.col (Mat.sum_rows (φ := .f32) (Rep.mul (φ := .f32) hx hx) _ _ _ _) _)
    (Rep.splat (φ := .f32) word_1024) fun _ => by norm_num) (Rep.splat (φ := .f32) word_eps)) fun _ => rfl)
    fun i => ms_pos _ _ (by norm_num)) fun _ => rfl

theorem unit_ (hx : Mat x X) : Mat (k0_pay10 (F := Ideal) x) fun r => unit 1024 (X r) :=
  Rep.cast (Rep.mul (φ := .f32) hx (Mat.repeat_col (root hx) _)) fun _ => rfl

theorem scaled (ha : Mat a D) (hs : Mat sc fun _ => S) : Mat (k0_pay13 (F := Ideal) a sc) fun r c => D r c * (1 + S c) :=
  Rep.cast (Rep.mul (φ := .f32) ha (Mat.repeat_row (Rep.add (φ := .f32) (Rep.splat (φ := .f32) word_one) (Rep.self _ hs)) _)) fun _ => rfl

theorem row0 (ha : Mat a D) (ho : Mat xo O) : Mat (k0_pay11 (F := Ideal) a xo) fun k c => O k c + ∑ r, D r c :=
  Rep.cast (Rep.add (φ := .f32) (Rep.self _ ho) (Row.row (Mat.sum_cols (φ := .f32) ha _ _ _ _) _)) fun _ => rfl

theorem row1 (ha : Mat a D) (hx : Mat x X) (hn : Mat nw fun _ => N) (ho : Mat xo O) :
    Mat (k0_pay12 (F := Ideal) a x nw xo) fun k c => O k c + ∑ r, D r c * (unit 1024 (X r) c * N c) :=
  Rep.cast (Rep.add (φ := .f32) (Rep.self _ ho) (Row.row (Mat.sum_cols (φ := .f32) (Rep.mul (φ := .f32) ha
    (Rep.mul (φ := .f32) (unit_ hx) (Mat.repeat_row hn _))) _ _ _ _) _)) fun _ => rfl

theorem row2 (hx : Mat x X) (hs : Mat y Y) (ho : Mat xo O) :
    Mat (k0_pay7 (F := Ideal) (k0_pay10 x) y xo) fun k c => O k c + ∑ r, Y r c * unit 1024 (X r) c :=
  Rep.cast (Rep.add (φ := .f32) (Rep.self _ ho) (Row.row (Mat.sum_cols (φ := .f32) (Rep.mul (φ := .f32) hs (unit_ hx)) _ _ _ _) _)) fun _ => rfl

theorem grad (hx : Mat x X) (hn : Mat nw fun _ => N) (hs : Mat y Y) (hp : Mat a D) :
    Mat (k0_pay8 (F := Ideal) (k0_pay9 x) (k0_pay10 x) nw y a) fun r c => back 1024 (X r) (fun c => Y r c * N c) c + D r c := by
  have e : Mat (mulf (F := Ideal) (φ := .f32) y (broadcastTo S1024x1024 nw broadcasts_S1x1024_S1024x1024)) fun r c => Y r c * N c :=
    Rep.cast (Rep.mul (φ := .f32) hs (Mat.repeat_row hn _)) fun _ => rfl
  exact Rep.cast (Rep.add (φ := .f32) (Rep.mul (φ := .f32) (Mat.repeat_col (root hx) _) (Rep.sub (φ := .f32) e (Rep.mul (φ := .f32) (unit_ hx)
    (Mat.repeat_col (Rep.div (φ := .f32) (Row.col (Mat.sum_rows (φ := .f32) (Rep.mul (φ := .f32) e (unit_ hx)) _ _ _ _) _)
      (Rep.splat (φ := .f32) word_1024) fun _ => by norm_num) _)))) hp) fun _ => rfl

end Cert.InxPay

end
-- ==== Proof.InxBody.lean ====
/-
  The body of the input projection's gradient at each of its points: what it leaves in its running sum and its windows.
-/
module

public import proofs.«01_k».proof.Proof.Windows
public import proofs.«01_k».proof.Proof.Gen.InxIdeal.Frame
public import proofs.«01_k».proof.Proof.InxPay

@[expose] public section

set_option maxRecDepth 16384

noncomputable section

namespace Cert.InxBody

open Cert.InxIdeal Cert.InxIdeal.Gen Cert.InxPay Cert.Windows
open Idealize.ShloMosaic hiding ix1 ix2 ix3
open Idealize.ShloMosaic.TcCoe Idealize.SL.Sem Idealize.ShloMosaic.ValueIdx

/-- The gradient of a block of rows, where the running sum is complete. -/
def gradOut (a x5 x6 : FVec Ideal S1024x1024 .f32) (x7 : FVec Ideal S1x1024 .f32) (x8 : FVec Ideal S8x1024 .f32) : FVec Ideal S1024x1024 .f32 :=
  k0_pay8 (k0_pay9 x5) (k0_pay10 x5) x7 (k0_pay13 a (rowOf x8 1)) x6

/-- The block of sums with one block of rows added. -/
def sums (a x5 : FVec Ideal S1024x1024 .f32) (x7 : FVec Ideal S1x1024 .f32) (x8 xo : FVec Ideal S8x1024 .f32) : FVec Ideal S8x1024 .f32 := fun y =>
  if (y 0).val = 2 then k0_pay7 (k0_pay10 x5) (k0_pay13 a (rowOf x8 1)) (rowOf xo 2) (ix2 0 (y 1))
  else if (y 0).val = 1 then k0_pay12 a x5 x7 (rowOf xo 1) (ix2 0 (y 1))
  else if (y 0).val = 0 then k0_pay11 a (rowOf xo 0) (ix2 0 (y 1))
  else xo y

/-- The four products are one text. -/
theorem pay6_eq (a : FVec Ideal S1024x1024 .f32) (p w : FVec Ideal S1024x1024 .bf16) : k0_pay6 (F := Ideal) a p w = k0_pay3 (F := Ideal) a p w := rfl

section Body

variable (c : Dev nD) (i : grid0.Coords)
  (a2 : Memref sig .tc .vmem S1024x1024 .bf16) (h2 : a2.IsWhole)
  (a3 : Memref sig .tc .vmem S1024x1024 .bf16) (h3 : a3.IsWhole)
  (a4 : Memref sig .tc .vmem S1024x1024 .bf16) (h4 : a4.IsWhole)
  (a5 : Memref sig .tc .vmem S1024x1024 .bf16) (h5 : a5.IsWhole)
  (a6 : Memref sig .tc .vmem S1024x1024 .bf16) (h6 : a6.IsWhole)
  (a7 : Memref sig .tc .vmem S1024x1024 .f32) (h7 : a7.IsWhole)
  (a8 : Memref sig .tc .vmem S1024x1024 .f32) (h8 : a8.IsWhole)
  (a9 : Memref sig .tc .vmem S1x1024 .f32) (h9 : a9.IsWhole)
  (a10 : Memref sig .tc .vmem S8x1024 .f32) (h10 : a10.IsWhole)
  (a11 : Memref sig .tc .vmem S1024x1024 .f32) (h11 : a11.IsWhole)
  (a12 : Memref sig .tc .vmem S8x1024 .f32) (h12 : a12.IsWhole)
  (a13 : Memref sig .tc .vmem S1024x1024 .f32) (h13 : a13.IsWhole)
  (x0 : FVec Ideal S1024x1024 .bf16)
  (x1 : FVec Ideal S1024x1024 .bf16)
  (x2 : FVec Ideal S1024x1024 .bf16)
  (x3 : FVec Ideal S1024x1024 .bf16)
  (x4 : FVec Ideal S1024x1024 .bf16)
  (x5 : FVec Ideal S1024x1024 .f32)
  (x6 : FVec Ideal S1024x1024 .f32)
  (x7 : FVec Ideal S1x1024 .f32)
  (x8 : FVec Ideal S8x1024 .f32)
  (xs : FVec Ideal S1024x1024 .f32) (xo : FVec Ideal S8x1024 .f32)

theorem accB (hc0 hc1 hc2 hc3 hc4 hc5 hc6) : sout0_B_0 (F := Ideal) c i a2 h2 a3 h3 a4 h4 a5 h5 a6 h6 a7 h7 a8 h8 a9 h9 a10 h10 a11 h11 a12 h12 a13 h13 hc0 hc1 hc2 hc3 hc4 hc5 hc6 x0 x1 x2 x3 x4 x5 x6 x7 x8 xs
    = k0_pay3 (F := Ideal) xs x0 x4 := by
  unfold sout0_B_0
  rw [View.read_writes_eq_canon _ _ _ (scover0_B_0 (F := Ideal) c i a2 h2 a3 h3 a4 h4 a5 h5 a6 h6 a7 h7 a8 h8 a9 h9 a10 h10 a11 h11 a12 h12 a13 h13 hc0 hc1 hc2 hc3 hc4 hc5 hc6 x0 x1 x2 x3 x4 x5 x6 x7 x8 xs)]
  unfold kernelRun0_B
  dsimp only
  sl_unfold_words
  rw [View.canon_unit_zero hz]
  simp only [View.readAt_eq_ld, Memref.IsWhole.read_unread, ld_whole]

theorem accC (hc0 hc1 hc2 hc3 hc4 hc5 hc6) : sout0_C_0 (F := Ideal) c i a2 h2 a3 h3 a4 h4 a5 h5 a6 h6 a7 h7 a8 h8 a9 h9 a10 h10 a11 h11 a12 h12 a13 h13 hc0 hc1 hc2 hc3 hc4 hc5 hc6 x0 x1 x2 x3 x4 x5 x6 x7 x8 xs
    = k0_pay3 (F := Ideal) xs x1 x4 := by
  unfold sout0_C_0
  rw [View.read_writes_eq_canon _ _ _ (scover0_C_0 (F := Ideal) c i a2 h2 a3 h3 a4 h4 a5 h5 a6 h6 a7 h7 a8 h8 a9 h9 a10 h10 a11 h11 a12 h12 a13 h13 hc0 hc1 hc2 hc3 hc4 hc5 hc6 x0 x1 x2 x3 x4 x5 x6 x7 x8 xs)]
  unfold kernelRun0_C
  dsimp only
  sl_unfold_words
  rw [View.canon_unit_zero hz]
  simp only [View.readAt_eq_ld, Memref.IsWhole.read_unread, ld_whole]
  rfl

theorem accD (hc0 hc1 hc2 hc3 hc4 hc5 hc6) : sout0_D_0 (F := Ideal) c i a2 h2 a3 h3 a4 h4 a5 h5 a6 h6 a7 h7 a8 h8 a9 h9 a10 h10 a11 h11 a12 h12 a13 h13 hc0 hc1 hc2 hc3 hc4 hc5 hc6 x0 x1 x2 x3 x4 x5 x6 x7 x8 xs
    = k0_pay3 (F := Ideal) xs x2 x4 := by
  unfold sout0_D_0
  rw [View.read_writes_eq_canon _ _ _ (scover0_D_0 (F := Ideal) c i a2 h2 a3 h3 a4 h4 a5 h5 a6 h6 a7 h7 a8 h8 a9 h9 a10 h10 a11 h11 a12 h12 a13 h13 hc0 hc1 hc2 hc3 hc4 hc5 hc6 x0 x1 x2 x3 x4 x5 x6 x7 x8 xs)]
  unfold kernelRun0_D
  dsimp only
  sl_unfold_words
  rw [View.canon_unit_zero hz]
  simp only [View.readAt_eq_ld, Memref.IsWhole.read_unread, ld_whole]
  rfl

theorem accE (hc0 hc1 hc2 hc3 hc4 hc5 hc6) : sout0_E_0 (F := Ideal) c i a2 h2 a3 h3 a4 h4 a5 h5 a6 h6 a7 h7 a8 h8 a9 h9 a10 h10 a11 h11 a12 h12 a13 h13 hc0 hc1 hc2 hc3 hc4 hc5 hc6 x0 x1 x2 x3 x4 x5 x6 x7 x8 xs
    = k0_pay3 (F := Ideal) xs x3 x4 := by
  unfold sout0_E_0
  rw [View.read_writes_eq_canon _ _ _ (scover0_E_0 (F := Ideal) c i a2 h2 a3 h3 a4 h4 a5 h5 a6 h6 a7 h7 a8 h8 a9 h9 a10 h10 a11 h11 a12 h12 a13 h13 hc0 hc1 hc2 hc3 hc4 hc5 hc6 x0 x1 x2 x3 x4 x5 x6 x7 x8 xs)]
  unfold kernelRun0_E
  dsimp only
  sl_unfold_words
  rw [View.canon_unit_zero hz]
  simp only [View.readAt_eq_ld, Memref.IsWhole.read_unread, ld_whole]
  rfl

theorem accF (hc0 hc1 hc2 hc3 hc4 hc5 hc6) : sout0_F_0 (F := Ideal) c i a2 h2 a3 h3 a4 h4 a5 h5 a6 h6 a7 h7 a8 h8 a9 h9 a10 h10 a11 h11 a12 h12 a13 h13 hc0 hc1 hc2 hc3 hc4 hc5 hc6 x0 x1 x2 x3 x4 x5 x6 x7 x8 xo xs
    = k0_pay3 (F := Ideal) xs x3 x4 := by
  unfold sout0_F_0
  rw [View.read_writes_eq_canon _ _ _ (scover0_F_0 (F := Ideal) c i a2 h2 a3 h3 a4 h4 a5 h5 a6 h6 a7 h7 a8 h8 a9 h9 a10 h10 a11 h11 a12 h12 a13 h13 hc0 hc1 hc2 hc3 hc4 hc5 hc6 x0 x1 x2 x3 x4 x5 x6 x7 x8 xo xs)]
  unfold kernelRun0_F
  dsimp only
  sl_unfold_words
  rw [View.canon_unit_zero hz]
  simp only [View.readAt_eq_ld, Memref.IsWhole.read_unread, ld_whole]
  rfl

theorem accA (hc0 hc1 hc2 hc3 hc4 hc5 hc6) : sout0_A_0 (F := Ideal) c i a2 h2 a3 h3 a4 h4 a5 h5 a6 h6 a7 h7 a8 h8 a9 h9 a10 h10 a11 h11 a12 h12 a13 h13 hc0 hc1 hc2 hc3 hc4 hc5 hc6 x0 x1 x2 x3 x4 x5 x6 x7 x8
    = k0_pay3 (F := Ideal) (k0_pay2 (F := Ideal)) x0 x4 := by
  unfold sout0_A_0 kernelRun0_A
  dsimp only
  sl_unfold_words
  simp only [View.readAt_eq_ld, Memref.IsWhole.read_unread, ld_whole]
  rw [View.readCov_fill (s := S1024x1024) _ _ _ _ _ (by decide), View.read_writes_full (s := S1024x1024)]
  rfl

theorem accG (hc0 hc1 hc2 hc3 hc4 hc5 hc6) : sout0_G_0 (F := Ideal) c i a2 h2 a3 h3 a4 h4 a5 h5 a6 h6 a7 h7 a8 h8 a9 h9 a10 h10 a11 h11 a12 h12 a13 h13 hc0 hc1 hc2 hc3 hc4 hc5 hc6 x0 x1 x2 x3 x4 x5 x6 x7 x8
    = k0_pay3 (F := Ideal) (k0_pay2 (F := Ideal)) x0 x4 := by
  unfold sout0_G_0 kernelRun0_G
  dsimp only
  sl_unfold_words
  simp only [View.readAt_eq_ld, Memref.IsWhole.read_unread, ld_whole]
  rw [View.readCov_fill (s := S1024x1024) _ _ _ _ _ (by decide), View.read_writes_full (s := S1024x1024)]
  rfl

theorem smallA (hc0 hc1 hc2 hc3 hc4 hc5 hc6) : out0_A_10 (F := Ideal) c i a2 h2 a3 h3 a4 h4 a5 h5 a6 h6 a7 h7 a8 h8 a9 h9 a10 h10 a11 h11 a12 h12 a13 h13 hc0 hc1 hc2 hc3 hc4 hc5 hc6 x0 x1 x2 x3 x4 x5 x6 x7 x8
    = k0_pay1 (F := Ideal) := by
  unfold out0_A_10
  rw [View.read_writes_eq_canon _ _ _ (fun _ => cover0_A_10 (F := Ideal) ..)]
  unfold kernelRun0_A
  dsimp only
  sl_unfold_words
  rw [View.canon_unit_zero hz]

theorem gradF (hc0 hc1 hc2 hc3 hc4 hc5 hc6) : out0_F_9 (F := Ideal) c i a2 h2 a3 h3 a4 h4 a5 h5 a6 h6 a7 h7 a8 h8 a9 h9 a10 h10 a11 h11 a12 h12 a13 h13 hc0 hc1 hc2 hc3 hc4 hc5 hc6 x0 x1 x2 x3 x4 x5 x6 x7 x8 xo xs
    = gradOut (k0_pay3 (F := Ideal) xs x3 x4) x5 x6 x7 x8 := by
  unfold out0_F_9
  rw [View.read_writes_eq_canon _ _ _ (fun _ => cover0_F_9 (F := Ideal) ..)]
  unfold kernelRun0_F
  dsimp only
  sl_unfold_words
  rw [View.canon_unit_zero hz]
  simp only [View.readAt_eq_ld, Memref.IsWhole.read_unread, ld_whole]
  rw [View.readCov_fill (s := S1024x1024) _ _ _ _ _ (by decide), ld_row, pay6_eq]
  rw [ld_whole]
  rfl

theorem smallF (hc0 hc1 hc2 hc3 hc4 hc5 hc6) : out0_F_10 (F := Ideal) c i a2 h2 a3 h3 a4 h4 a5 h5 a6 h6 a7 h7 a8 h8 a9 h9 a10 h10 a11 h11 a12 h12 a13 h13 hc0 hc1 hc2 hc3 hc4 hc5 hc6 x0 x1 x2 x3 x4 x5 x6 x7 x8 xo xs
    = sums (k0_pay3 (F := Ideal) xs x3 x4) x5 x7 x8 xo := by
  unfold out0_F_10 kernelRun0_F
  dsimp only
  sl_unfold_words
  simp only [View.readAt_eq_ld, Memref.IsWhole.read_unread, ld_whole]
  rw [View.readCov_fill (s := S1024x1024) _ _ _ _ _ (by decide), pay6_eq, ld_whole]
  simp only [row_stored, View.writes_nil, Memref.IsWhole.read_unread, ld_row]
  rfl

end Body

end Cert.InxBody

end
-- ==== Proof.InxKernel.lean ====
/-
  The input projection's gradient of the kernel, over the reals: what each point leaves, and the two arrays.
-/
module

public import proofs.«01_k».proof.Proof.InxBody
public import proofs.«01_k».proof.Proof.Line

@[expose] public section

set_option maxRecDepth 16384

noncomputable section

namespace Cert.InxKernel

open Cert.InxIdeal Cert.InxIdeal.Gen Cert.InProj Cert.Rms Cert.InxPay Cert.InxBody Cert.Windows
open Idealize.ShloMosaic hiding ix1 ix2 ix3
open Idealize.ShloMosaic.TcCoe Idealize.SL.Sem Idealize.ShloMosaic.ValueIdx

/-- Row `r` of the block of rows that point `n` is on. -/
def at_ (n : Nat) (h : n < cfg0.N) (r : Fin 1024) : Fin 4096 := ⟨1024 * (n / 7) + r.val, by have : cfg0.N = 28 := N_0; omega⟩
/-- Column `e` of the block of columns that point `n` is on. -/
def col (n : Nat) (e : Fin 1024) : Fin 7168 := ⟨1024 * (n % 7) + e.val, by omega⟩
/-- The block of rows, and the block of columns, that point `n` is on. -/
def rowBlk (n : Nat) (h : n < cfg0.N) : Fin 4 := ⟨n / 7, by have : cfg0.N = 28 := N_0; omega⟩
def colBlk (n : Nat) : Fin 7 := ⟨n % 7, by omega⟩

theorem index0 : ∀ t : Fin cfg0.N, win0_0.index t 0 = t.val / 7 ∧ (t.val % 7 ≤ 1 → win0_0.index t 1 = t.val % 7) := by decide +kernel
theorem index1 : ∀ t : Fin cfg0.N, win0_1.index t 0 = t.val / 7 ∧ win0_1.index t 1 = 0 := by decide +kernel
theorem index2 : ∀ t : Fin cfg0.N, win0_2.index t 0 = t.val / 7 ∧ win0_2.index t 1 = 0 := by decide +kernel
theorem index3 : ∀ t : Fin cfg0.N, win0_3.index t 0 = t.val / 7 ∧ (4 ≤ t.val % 7 → win0_3.index t 1 + 4 = t.val % 7) := by decide +kernel
theorem index4 : ∀ t : Fin cfg0.N, win0_4.index t 0 = t.val % 7 ∧ win0_4.index t 1 = 0 := by decide +kernel
theorem index5 : ∀ t : Fin cfg0.N, win0_5.index t 0 = t.val / 7 ∧ win0_5.index t 1 = 0 := by decide +kernel
theorem index6 : ∀ t : Fin cfg0.N, win0_6.index t 0 = t.val / 7 ∧ win0_6.index t 1 = 0 := by decide +kernel
theorem index7 : ∀ t : Fin cfg0.N, win0_7.index t 0 = 0 ∧ win0_7.index t 1 = 0 := by decide +kernel
theorem index8 : ∀ t : Fin cfg0.N, win0_8.index t 0 = 0 ∧ win0_8.index t 1 = 0 := by decide +kernel
theorem index9 : ∀ t : Fin cfg0.N, win0_9.index t 0 = t.val / 7 ∧ win0_9.index t 1 = 0 := by decide +kernel
theorem index10 : ∀ t : Fin cfg0.N, win0_10.index t 0 = 0 ∧ win0_10.index t 1 = 0 := by decide +kernel

/-! ## What a block's windows hold -/

theorem blk0 {X : (⟨2, ![4096, 2048]⟩ : Shape).Idx → EReal} {g : Fin 4096 → Fin 7168 → ℝ}
    (h : ∀ r (e : Fin 2048), X (ix2 r e) = (g r ⟨0 + e.val, by omega⟩ : EReal)) (t : Fin cfg0.N) (hk : t.val % 7 ≤ 1) :
    Mat (n := 1024) (m := 1024) (((cfg0.win 0).blk t).view.read (Elt Ideal) X) fun r e => g (at_ t.val t.isLt r) (col t.val e) := fun j => by
  rw [View.read_apply]
  have h1 : (j 1).val < 1024 := (j 1).isLt
  refine Eq.trans ?_ ((h (at_ t.val t.isLt (j 0)) (⟨1024 * (t.val % 7) + (j 1).val, by omega⟩ : Fin 2048)).trans (congrArg (fun q => ((g (at_ t.val t.isLt (j 0)) q : ℝ) : EReal))
    (Fin.ext (show 0 + (1024 * (t.val % 7) + (j 1).val) = 1024 * (t.val % 7) + (j 1).val by omega))))
  refine congrArg X (funext fun a => Fin.ext ?_)
  match a with
  | ⟨0, _⟩ => show win0_0.index t 0 * 1024 + 1 * (j 0).val = 1024 * (t.val / 7) + (j 0).val; rw [(index0 t).1]; omega
  | ⟨1, _⟩ => show win0_0.index t 1 * 1024 + 1 * (j 1).val = 1024 * (t.val % 7) + (j 1).val; rw [(index0 t).2 hk]; omega

theorem blk1 {X : (⟨2, ![4096, 1024]⟩ : Shape).Idx → EReal} {g : Fin 4096 → Fin 7168 → ℝ}
    (h : ∀ r (e : Fin 1024), X (ix2 r e) = (g r ⟨2048 + e.val, by omega⟩ : EReal)) (t : Fin cfg0.N) (hk : t.val % 7 = 2) :
    Mat (n := 1024) (m := 1024) (((cfg0.win 1).blk t).view.read (Elt Ideal) X) fun r e => g (at_ t.val t.isLt r) (col t.val e) := fun j => by
  rw [View.read_apply]
  have h1 : (j 1).val < 1024 := (j 1).isLt
  refine Eq.trans ?_ ((h (at_ t.val t.isLt (j 0)) (j 1 : Fin 1024)).trans (congrArg (fun q => ((g (at_ t.val t.isLt (j 0)) q : ℝ) : EReal))
    (Fin.ext (show 2048 + ((j 1).val) = 1024 * (t.val % 7) + (j 1).val by omega))))
  refine congrArg X (funext fun a => Fin.ext ?_)
  match a with
  | ⟨0, _⟩ => show win0_1.index t 0 * 1024 + 1 * (j 0).val = 1024 * (t.val / 7) + (j 0).val; rw [(index1 t).1]; omega
  | ⟨1, _⟩ => show win0_1.index t 1 * 1024 + 1 * (j 1).val = (j 1).val; rw [(index1 t).2]; omega

theorem blk2 {X : (⟨2, ![4096, 1024]⟩ : Shape).Idx → EReal} {g : Fin 4096 → Fin 7168 → ℝ}
    (h : ∀ r (e : Fin 1024), X (ix2 r e) = (g r ⟨3072 + e.val, by omega⟩ : EReal)) (t : Fin cfg0.N) (hk : t.val % 7 = 3) :
    Mat (n := 1024) (m := 1024) (((cfg0.win 2).blk t).view.read (Elt Ideal) X) fun r e => g (at_ t.val t.isLt r) (col t.val e) := fun j => by
  rw [View.read_apply]
  have h1 : (j 1).val < 1024 := (j 1).isLt
  refine Eq.trans ?_ ((h (at_ t.val t.isLt (j 0)) (j 1 : Fin 1024)).trans (congrArg (fun q => ((g (at_ t.val t.isLt (j 0)) q : ℝ) : EReal))
    (Fin.ext (show 3072 + ((j 1).val) = 1024 * (t.val % 7) + (j 1).val by omega))))
  refine congrArg X (funext fun a => Fin.ext ?_)
  match a with
  | ⟨0, _⟩ => show win0_2.index t 0 * 1024 + 1 * (j 0).val = 1024 * (t.val / 7) + (j 0).val; rw [(index2 t).1]; omega
  | ⟨1, _⟩ => show win0_2.index t 1 * 1024 + 1 * (j 1).val = (j 1).val; rw [(index2 t).2]; omega

theorem blk3 {X : (⟨2, ![4096, 3072]⟩ : Shape).Idx → EReal} {g : Fin 4096 → Fin 7168 → ℝ}
    (h : ∀ r (e : Fin 3072), X (ix2 r e) = (g r ⟨4096 + e.val, by omega⟩ : EReal)) (t : Fin cfg0.N) (hk : 4 ≤ t.val % 7) :
    Mat (n := 1024) (m := 1024) (((cfg0.win 3).blk t).view.read (Elt Ideal) X) fun r e => g (at_ t.val t.isLt r) (col t.val e) := fun j => by
  rw [View.read_apply]
  have h1 : (j 1).val < 1024 := (j 1).isLt
  refine Eq.trans ?_ ((h (at_ t.val t.isLt (j 0)) (⟨1024 * (t.val % 7 - 4) + (j 1).val, by omega⟩ : Fin 3072)).trans (congrArg (fun q => ((g (at_ t.val t.isLt (j 0)) q : ℝ) : EReal))
    (Fin.ext (show 4096 + (1024 * (t.val % 7 - 4) + (j 1).val) = 1024 * (t.val % 7) + (j 1).val by omega))))
  refine congrArg X (funext fun a => Fin.ext ?_)
  match a with
  | ⟨0, _⟩ => show win0_3.index t 0 * 1024 + 1 * (j 0).val = 1024 * (t.val / 7) + (j 0).val; rw [(index3 t).1]; omega
  | ⟨1, _⟩ => show win0_3.index t 1 * 1024 + 1 * (j 1).val = 1024 * (t.val % 7 - 4) + (j 1).val; have := (index3 t).2 hk; omega

theorem blk4 {X : (⟨2, ![7168, 1024]⟩ : Shape).Idx → EReal} {g : Fin 7168 → Fin 1024 → ℝ} (h : Mat X g) (t : Fin cfg0.N) :
    Mat (n := 1024) (m := 1024) (((cfg0.win 4).blk t).view.read (Elt Ideal) X) fun e c => g (col t.val e) c := fun j => by
  rw [View.read_apply]
  refine Eq.trans ?_ (h (ix2 (col t.val (j 0)) (j 1)))
  refine congrArg X (funext fun a => Fin.ext ?_)
  match a with
  | ⟨0, _⟩ => show win0_4.index t 0 * 1024 + 1 * (j 0).val = 1024 * (t.val % 7) + (j 0).val; rw [(index4 t).1]; omega
  | ⟨1, _⟩ => show win0_4.index t 1 * 1024 + 1 * (j 1).val = (j 1).val; rw [(index4 t).2]; omega

theorem blk5 {X : (⟨2, ![4096, 1024]⟩ : Shape).Idx → EReal} {g : Fin 4096 → Fin 1024 → ℝ} (h : Mat X g) (t : Fin cfg0.N) :
    Mat (n := 1024) (m := 1024) (((cfg0.win 5).blk t).view.read (Elt Ideal) X) fun r => g (at_ t.val t.isLt r) := fun j => by
  rw [View.read_apply]
  refine Eq.trans ?_ (h (ix2 (at_ t.val t.isLt (j 0)) (j 1)))
  refine congrArg X (funext fun a => Fin.ext ?_)
  match a with
  | ⟨0, _⟩ => show win0_5.index t 0 * 1024 + 1 * (j 0).val = 1024 * (t.val / 7) + (j 0).val; rw [(index5 t).1]; omega
  | ⟨1, _⟩ => show win0_5.index t 1 * 1024 + 1 * (j 1).val = (j 1).val; rw [(index5 t).2]; omega

theorem blk6 {X : (⟨2, ![4096, 1024]⟩ : Shape).Idx → EReal} {g : Fin 4096 → Fin 1024 → ℝ} (h : Mat X g) (t : Fin cfg0.N) :
    Mat (n := 1024) (m := 1024) (((cfg0.win 6).blk t).view.read (Elt Ideal) X) fun r => g (at_ t.val t.isLt r) := fun j => by
  rw [View.read_apply]
  refine Eq.trans ?_ (h (ix2 (at_ t.val t.isLt (j 0)) (j 1)))
  refine congrArg X (funext fun a => Fin.ext ?_)
  match a with
  | ⟨0, _⟩ => show win0_6.index t 0 * 1024 + 1 * (j 0).val = 1024 * (t.val / 7) + (j 0).val; rw [(index6 t).1]; omega
  | ⟨1, _⟩ => show win0_6.index t 1 * 1024 + 1 * (j 1).val = (j 1).val; rw [(index6 t).2]; omega

theorem blk7 {X : (⟨2, ![1, 1024]⟩ : Shape).Idx → EReal} {g : Fin 1 → Fin 1024 → ℝ} (h : Mat X g) (t : Fin cfg0.N) :
    Mat (n := 1) (m := 1024) (((cfg0.win 7).blk t).view.read (Elt Ideal) X) g := fun j => by
  rw [View.read_apply]
  refine Eq.trans ?_ (h j)
  refine congrArg X (funext fun a => Fin.ext ?_)
  match a with
  | ⟨0, _⟩ => show win0_7.index t 0 * 1 + 1 * (j 0).val = (j 0).val; rw [(index7 t).1]; omega
  | ⟨1, _⟩ => show win0_7.index t 1 * 1024 + 1 * (j 1).val = (j 1).val; rw [(index7 t).2]; omega

theorem blk8 {X : (⟨2, ![8, 1024]⟩ : Shape).Idx → EReal} {g : Fin 1024 → ℝ} (h : ∀ c, X (ix2 1 c) = (g c : EReal)) (t : Fin cfg0.N) :
    Mat (n := 1) (m := 1024) (rowOf (((cfg0.win 8).blk t).view.read (Elt Ideal) X) 1) fun _ => g := fun j => by
  unfold rowOf
  rw [View.read_apply]
  refine Eq.trans ?_ (h (j 1))
  refine congrArg X (funext fun a => Fin.ext ?_)
  match a with
  | ⟨0, _⟩ => show win0_8.index t 0 * 8 + 1 * 1 = 1; rw [(index8 t).1]
  | ⟨1, _⟩ => show win0_8.index t 1 * 1024 + 1 * (j 1).val = (j 1).val; rw [(index8 t).2]; omega

/-- What the region's arrays hold when it is entered. -/
structure Entry (m : (ℓ : Loc nD τ sig) → Buf (Elt Ideal) ℓ) (c : Dev nD) (A : Args 4096) : Prop where
  vg : ∀ r (e : Fin 2048), V m c main_v1 (ix2 r e) = (spread (A.P r) ⟨0 + e.val, by omega⟩ : EReal)
  ag : ∀ r (e : Fin 1024), V m c main_v3 (ix2 r e) = (spread (A.P r) ⟨2048 + e.val, by omega⟩ : EReal)
  mla : ∀ r (e : Fin 1024), V m c main_v7 (ix2 r e) = (spread (A.P r) ⟨3072 + e.val, by omega⟩ : EReal)
  gates : ∀ r (e : Fin 3072), V m c main_v9 (ix2 r e) = (spread (A.P r) ⟨4096 + e.val, by omega⟩ : EReal)
  w : Mat (V m c main_v15) fun p c => spread (A.W c) p
  x : Mat (V m c main_arg2) A.x
  dx2 : Mat (V m c main_arg3) A.dx2
  nw : Mat (V m c main_arg4) fun _ => A.nw
  sc : ∀ q, V m c main_v17 (ix2 1 q) = (A.sc q : EReal)

variable {m : (ℓ : Loc nD τ sig) → Buf (Elt Ideal) ℓ} {c : Dev nD} {A : Args 4096}

/-- The running sum after the first `k` blocks of columns, for the rows of point `n`. -/
def run (A : Args 4096) (n : Nat) (h : n < cfg0.N) (k : Nat) (r c : Fin 1024) : ℝ := ∑ i, if i.val < k then A.chunk i (at_ n h r) c else 0
/-- The sums over the first `q` blocks of rows. -/
def tot (A : Args 4096) (q : Nat) (k : Fin 8) (c : Fin 1024) : ℝ :=
  ∑ i : Fin 4, if i.val < q then ∑ r : Fin 1024, A.part k ⟨1024 * i.val + r.val, by omega⟩ c else 0

/-- What point `n` leaves. -/
structure Left (A : Args 4096) (n : Nat) (h : n < cfg0.N) (o : FVec Ideal S1024x1024 .f32 × FVec Ideal S8x1024 .f32 × FVec Ideal S1024x1024 .f32) : Prop where
  acc : Mat o.2.2 (run A n h (n % 7 + 1))
  small : Mat o.2.1 (tot A ((n + 1) / 7))
  grad : n % 7 = 6 → Mat o.1 fun r => A.dx (at_ n h r)

theorem run_next (n : Nat) (h : n < cfg0.N) (r c : Fin 1024) :
    run A n h (n % 7 + 1) r c = run A n h (n % 7) r c + ∑ e, spread (A.P (at_ n h r)) (col n e) * spread (A.W c) (col n e) :=
  sum_below_succ (fun i => A.chunk i (at_ n h r) c) (by omega : n % 7 < 7)

theorem run_same (n : Nat) (h : n + 1 < cfg0.N) (h' : n < cfg0.N) (hk : ¬(n + 1) % 7 = 0) : run A n h' (n % 7 + 1) = run A (n + 1) h ((n + 1) % 7) := by
  funext r c
  unfold run
  rw [show at_ n h' r = at_ (n + 1) h r from Fin.ext (show 1024 * (n / 7) + r.val = 1024 * ((n + 1) / 7) + r.val by omega),
    show n % 7 + 1 = (n + 1) % 7 by omega]

/-- A block's terms added to the running sum. -/
theorem Entry.acc (e : Entry m c A) (t : Fin cfg0.N) {a : FVec Ideal S1024x1024 .f32} {p : FVec Ideal S1024x1024 .bf16}
    (ha : Mat a (run A t.val t.isLt (t.val % 7))) (hp : Mat p fun r e => spread (A.P (at_ t.val t.isLt r)) (col t.val e)) :
    Mat (k0_pay3 (F := Ideal) a p (iblk m c 4 t)) (run A t.val t.isLt (t.val % 7 + 1)) :=
  Rep.cast (step ha hp (blk4 e.w t)) fun i => (run_next t.val t.isLt (i 0) (i 1)).symm

theorem Entry.acc0 (e : Entry m c A) (t : Fin cfg0.N) (hk : t.val % 7 = 0) {p : FVec Ideal S1024x1024 .bf16}
    (hp : Mat p fun r e => spread (A.P (at_ t.val t.isLt r)) (col t.val e)) :
    Mat (k0_pay3 (F := Ideal) (k0_pay2 (F := Ideal)) p (iblk m c 4 t)) (run A t.val t.isLt (t.val % 7 + 1)) :=
  e.acc t (Rep.cast zero fun i => show (0 : ℝ) = run A t.val t.isLt (t.val % 7) (i 0) (i 1) by rw [hk]; exact (sum_below_zero _).symm) hp

theorem run_all (n : Nat) (h : n < cfg0.N) (r c : Fin 1024) : run A n h 7 r c = A.dh (at_ n h r) c :=
  (sum_below_all (N := 7) fun i => A.chunk i (at_ n h r) c).trans (A.sum_chunk _ _)

theorem tot_next (t : Fin cfg0.N) (k : Fin 8) (q : Fin 1024) :
    tot A (t.val / 7 + 1) k q = tot A (t.val / 7) k q + ∑ r, A.part k (at_ t.val t.isLt r) q :=
  have hN : cfg0.N = 28 := N_0
  have := t.isLt
  sum_below_succ (fun i : Fin 4 => ∑ r : Fin 1024, A.part k ⟨1024 * i.val + r.val, by omega⟩ q) (by omega : t.val / 7 < 4)

theorem row_of {xo : FVec Ideal S8x1024 .f32} {g : Fin 8 → Fin 1024 → ℝ} (h : Mat xo g) (k : Fin 8) : Mat (rowOf xo k) fun _ => g k :=
  fun z => h (ix2 k (z 1))

/-- The sums with the rows of one block added, where the running sum is complete. -/
theorem Entry.sums (e : Entry m c A) (t : Fin cfg0.N) {a : FVec Ideal S1024x1024 .f32} {xo : FVec Ideal S8x1024 .f32} {q : Nat}
    (ha : Mat a fun r c => A.dh (at_ t.val t.isLt r) c) (ho : Mat xo (tot A (t.val / 7))) (hq : q = t.val / 7 + 1) :
    Mat (InxBody.sums a (iblk m c 5 t) (iblk m c 7 t) (iblk m c 8 t) xo) (tot A q) := fun y => by
  subst hq
  have hx := blk5 e.x t
  have hs := scaled ha (blk8 e.sc t)
  refine Eq.trans ?_ (congrArg Real.toEReal (tot_next t (y 0) (y 1)).symm)
  unfold InxBody.sums Args.part
  by_cases h2 : (y 0).val = 2
  · simp only [if_pos h2]
    exact (row2 hx hs (row_of ho 2) (ix2 0 (y 1))).trans (by rw [show y 0 = (2 : Fin 8) from Fin.ext h2]; rfl)
  by_cases h1 : (y 0).val = 1
  · simp only [if_neg h2, if_pos h1]
    exact (row1 ha hx (blk7 e.nw t) (row_of ho 1) (ix2 0 (y 1))).trans (by rw [show y 0 = (1 : Fin 8) from Fin.ext h1])
  by_cases h0 : (y 0).val = 0
  · simp only [if_neg h2, if_neg h1, if_pos h0]
    exact (row0 ha (row_of ho 0) (ix2 0 (y 1))).trans (by rw [show y 0 = (0 : Fin 8) from Fin.ext h0])
  · simp only [if_neg h2, if_neg h1, if_neg h0, Finset.sum_const_zero, add_zero]
    exact ho y

theorem Entry.grad (e : Entry m c A) (t : Fin cfg0.N) {a : FVec Ideal S1024x1024 .f32} (ha : Mat a fun r c => A.dh (at_ t.val t.isLt r) c) :
    Mat (gradOut a (iblk m c 5 t) (iblk m c 6 t) (iblk m c 7 t) (iblk m c 8 t)) fun r => A.dx (at_ t.val t.isLt r) :=
  Rep.cast (InxPay.grad (blk5 e.x t) (blk7 e.nw t) (scaled ha (blk8 e.sc t)) (blk6 e.dx2 t)) fun _ => rfl

theorem left (e : Entry m c A) : ∀ (n : Nat) (h : n < cfg0.N), Left A n h (outsAt0 m c n h)
  | 0, h => by
    let t : Fin cfg0.N := ⟨0, h⟩
    have o := outsAt0_A m c t (Nat.zero_mod _) (Nat.zero_mod _) (Nat.zero_le _) (show ¬(0 % 7 = 2) by decide) (show ¬(0 % 7 = 3) by decide) (show ¬(4 ≤ 0 % 7) by decide) (show ¬(0 % 7 = 6) by decide)
    rw [show outsAt0 m c 0 h = _ from o]
    refine ⟨?_, ?_, fun q => absurd q (by decide)⟩
    · dsimp only
      rw [accA]
      exact e.acc0 t rfl (blk0 e.vg t (Nat.zero_le _))
    · dsimp only
      rw [smallA]
      exact Rep.cast zeros fun i => (sum_below_zero _).symm
  | n + 1, h => by
    have hN : cfg0.N = 28 := N_0
    have h' : n < cfg0.N := by omega
    have ih := left e n h'
    let t : Fin cfg0.N := ⟨n + 1, h⟩
    have h0 : ¬(n + 1) % 28 = 0 := by omega
    have keep (hk : ¬(n + 1) % 7 = 6) : tot A ((n + 1) / 7) = tot A ((n + 1 + 1) / 7) := by rw [show (n + 1) / 7 = (n + 1 + 1) / 7 by omega]
    by_cases h1 : (n + 1) % 7 = 0
    · rw [show outsAt0 m c (n + 1) h = _ from outsAt0_G m c t h0 h1 (show (n + 1) % 7 ≤ 1 by omega) (show ¬(n + 1) % 7 = 2 by omega) (show ¬(n + 1) % 7 = 3 by omega) (show ¬4 ≤ (n + 1) % 7 by omega) (show ¬(n + 1) % 7 = 6 by omega)]
      refine ⟨?_, keep (by omega) ▸ ih.small, fun q => absurd q (by omega)⟩
      dsimp only
      rw [accG]
      exact e.acc0 t h1 (blk0 e.vg t (show (n + 1) % 7 ≤ 1 by omega))
    have acc := run_same (A := A) n h h' h1 ▸ ih.acc
    by_cases h2 : (n + 1) % 7 ≤ 1
    · rw [show outsAt0 m c (n + 1) h = _ from outsAt0_B m c t h0 h1 h2 (show ¬(n + 1) % 7 = 2 by omega) (show ¬(n + 1) % 7 = 3 by omega) (show ¬4 ≤ (n + 1) % 7 by omega) (show ¬(n + 1) % 7 = 6 by omega)]
      refine ⟨?_, keep (by omega) ▸ ih.small, fun q => absurd q (by omega)⟩
      dsimp only
      rw [accB]
      exact e.acc t acc (blk0 e.vg t h2)
    by_cases h3 : (n + 1) % 7 = 2
    · rw [show outsAt0 m c (n + 1) h = _ from outsAt0_C m c t h0 h1 h2 h3 (show ¬(n + 1) % 7 = 3 by omega) (show ¬4 ≤ (n + 1) % 7 by omega) (show ¬(n + 1) % 7 = 6 by omega)]
      refine ⟨?_, keep (by omega) ▸ ih.small, fun q => absurd q (by omega)⟩
      dsimp only
      rw [accC]
      exact e.acc t acc (blk1 e.ag t h3)
    by_cases h4 : (n + 1) % 7 = 3
    · rw [show outsAt0 m c (n + 1) h = _ from outsAt0_D m c t h0 h1 h2 h3 h4 (show ¬4 ≤ (n + 1) % 7 by omega) (show ¬(n + 1) % 7 = 6 by omega)]
      refine ⟨?_, keep (by omega) ▸ ih.small, fun q => absurd q (by omega)⟩
      dsimp only
      rw [accD]
      exact e.acc t acc (blk2 e.mla t h4)
    have h5 : 4 ≤ (n + 1) % 7 := by omega
    by_cases h6 : (n + 1) % 7 = 6
    · rw [show outsAt0 m c (n + 1) h = _ from outsAt0_F m c t h0 h1 h2 h3 h4 h5 h6]
      have full := e.acc t acc (blk3 e.gates t h5)
      have all : Mat (k0_pay3 (F := Ideal) (outsAt0 m c n h').2.2 (iblk m c 3 t) (iblk m c 4 t)) fun r c => A.dh (at_ t.val t.isLt r) c :=
        Rep.cast full fun i => show run A (n + 1) h ((n + 1) % 7 + 1) (i 0) (i 1) = _ by rw [h6]; exact run_all _ _ _ _
      refine ⟨?_, ?_, fun _ => ?_⟩
      · dsimp only
        rw [accF]
        exact full
      · dsimp only
        rw [smallF]
        exact e.sums t all ih.small (show (n + 1 + 1) / 7 = (n + 1) / 7 + 1 by omega)
      · dsimp only
        rw [gradF]
        exact e.grad t all
    · rw [show outsAt0 m c (n + 1) h = _ from outsAt0_E m c t h0 h1 h2 h3 h4 h5 h6]
      refine ⟨?_, keep h6 ▸ ih.small, fun q => absurd q h6⟩
      dsimp only
      rw [accE]
      exact e.acc t acc (blk3 e.gates t h5)

/-! ## The arrays -/

theorem idx9 : ∀ t t' : Fin cfg0.N, t.val % 7 = 6 → t'.val % 7 = 6 → win0_9.index t 0 = win0_9.index t' 0 → t = t' := fun t t' h h' q => by
  rw [(index9 t).1, (index9 t').1] at q
  exact Fin.ext (by omega)

theorem alone9 (t t' : Fin cfg0.N) (h : (cfg0.win 9).flush t = true) (h' : (cfg0.win 9).flush t' = true) (hne : t ≠ t') :
    Disjoint ((cfg0.win 9).blk t).view.set ((cfg0.win 9).blk t').view.set :=
  (cfg0.win 9).disjoint_blk fun q => hne (idx9 t t' ((flush0_9 t).mp h) ((flush0_9 t').mp h') (congrFun q 0))

theorem result9 (e : Entry m c A) : Mat (n := 4096) (m := 1024) ((dats m 0 c).arrAt 9 cfg0.N) A.dx := fun i => by
  have hi : (i 0).val < 4096 := (i 0).isLt
  have hN : cfg0.N = 28 := N_0
  let t : Fin cfg0.N := ⟨7 * ((i 0).val / 1024) + 6, by omega⟩
  let j : S1024x1024.Idx := ix2 ⟨(i 0).val % 1024, Nat.mod_lt _ (by norm_num)⟩ (i 1)
  have hk : t.val % 7 = 6 := show (7 * ((i 0).val / 1024) + 6) % 7 = 6 by omega
  have hq : t.val / 7 = (i 0).val / 1024 := show (7 * ((i 0).val / 1024) + 6) / 7 = _ by omega
  have h := (congrFun (((dats m 0 c).read_blk_arrAt_eq_flushed 9 alone9 cfg0.N t t.isLt ((flush0_9 t).mpr hk)).trans
    (congrArg ((cfg0.win 9).cut (grid0.coords t)) (after0_9 m c t))) j).trans ((left e t.val t.isLt).grad hk j)
  rw [View.read_apply] at h
  have hr : at_ t.val t.isLt (j 0) = i 0 := Fin.ext (show 1024 * (t.val / 7) + (i 0).val % 1024 = (i 0).val by omega)
  have hj : ((cfg0.win 9).blk t).view.emb j = i := funext fun a => Fin.ext <| match a with
    | ⟨0, _⟩ => by
      show win0_9.index t 0 * 1024 + 1 * ((i 0).val % 1024) = (i 0).val
      rw [(index9 t).1]; omega
    | ⟨1, _⟩ => by show win0_9.index t 1 * 1024 + 1 * (i 1).val = (i 1).val; rw [(index9 t).2]; omega
  refine (congrArg _ hj).symm.trans (h.trans (congrArg _ ?_))
  show A.dx (at_ t.val t.isLt (j 0)) (i 1) = A.dx (i 0) (i 1)
  rw [hr]

theorem tot_all (k : Fin 8) (q : Fin 1024) : tot A 4 k q = A.small k q :=
  (sum_below_all (N := 4) fun i => ∑ r : Fin 1024, A.part k ⟨1024 * i.val + r.val, by omega⟩ q).trans
    (sum_blocks (N := 4) (n := 1024) rfl (fun r => A.part k r q) (fun i r => ⟨1024 * i.val + r.val, by omega⟩) fun _ _ => rfl)

theorem alone10 (t t' : Fin cfg0.N) (h : (cfg0.win 10).flush t = true) (h' : (cfg0.win 10).flush t' = true) (hne : t ≠ t') :
    Disjoint ((cfg0.win 10).blk t).view.set ((cfg0.win 10).blk t').view.set := by
  have := (flush0_10 t).mp h
  have := (flush0_10 t').mp h'
  have hN : cfg0.N = 28 := N_0
  exact absurd (Fin.ext (by omega)) hne

theorem result10 (e : Entry m c A) : Mat (n := 8) (m := 1024) ((dats m 0 c).arrAt 10 cfg0.N) A.small := fun i => by
  have hN : cfg0.N = 28 := N_0
  let t : Fin cfg0.N := ⟨27, by omega⟩
  have h := (congrFun (((dats m 0 c).read_blk_arrAt_eq_flushed 10 alone10 cfg0.N t t.isLt ((flush0_10 t).mpr rfl)).trans
    (congrArg ((cfg0.win 10).cut (grid0.coords t)) (after0_10 m c t))) i).trans (((left e 27 t.isLt).small i).trans (congrArg _ (tot_all (i 0) (i 1))))
  rw [View.read_apply] at h
  have hj : ((cfg0.win 10).blk t).view.emb i = i := funext fun a => Fin.ext <| match a with
    | ⟨0, _⟩ => by show win0_10.index t 0 * 8 + 1 * (i 0).val = (i 0).val; rw [(index10 t).1]; omega
    | ⟨1, _⟩ => by show win0_10.index t 1 * 1024 + 1 * (i 1).val = (i 1).val; rw [(index10 t).2]; omega
  exact (congrArg _ hj).symm.trans h

end Cert.InxKernel

end
-- ==== Proof.InxHost.lean ====
/-
  What the input projection's gradient's launch finds in its arrays: the host lines before it, read over the reals.
-/
module

public import proofs.«01_k».proof.Proof.InxKernel
public import proofs.«01_k».proof.Proof.Axes

@[expose] public section

set_option maxRecDepth 16384

noncomputable section

namespace Cert.InxKernel

open Cert.InxIdeal Cert.InxIdeal.Gen Cert.InProj
open Idealize.ShloMosaic hiding ix1 ix2 ix3
open Idealize.ShloMosaic.TcCoe Idealize.SL.Sem Idealize.ShloMosaic.StableHlo Idealize.ShloMosaic.ValueIdx

variable {m : (ℓ : Loc nD τ sig) → Buf (Elt Ideal) ℓ} {c : Dev nD} {A : Args 4096}

/-- The buffers the host operations write, one each, in order. -/
abbrev W : List (Ref sig .tc) := (List.finRange 21).map fun k => ⟨.hbm, ⟨k.val + 8, by have := k.isLt; show k.val + 8 < 31; omega⟩, rfl⟩

theorem line : Line.Ssa (hostOps0 (F := Ideal)) W 8 := ⟨rfl, by decide +kernel⟩

theorem word_zero16 : Ideal.ofBits .bf16 0x0000#16 = ((0 : ℝ) : EReal) := by
  simp [Ideal.ofBits, Ideal.ieee]

theorem spread_low (a : Fin 6720 → ℝ) (p : Fin 7168) (h : p.val < 3648) : spread a p = a ⟨p.val, by omega⟩ := dif_pos h
theorem spread_mid (a : Fin 6720 → ℝ) (p : Fin 7168) (h : 3648 ≤ p.val) (h' : p.val < 4096) : spread a p = 0 :=
  (dif_neg (Nat.not_lt.mpr h)).trans (if_pos h')
theorem spread_high (a : Fin 6720 → ℝ) (p : Fin 7168) (h : 4096 ≤ p.val) : spread a p = a ⟨p.val - 448, by omega⟩ :=
  (dif_neg (by omega)).trans (if_neg (by omega))

/-- The third piece of the projection's gradient: 576 of its columns, then zeros. -/
theorem third (hP : Mat (m (c, Proc.devRef .tc main_arg0)) A.P) (r : Fin 4096) (e : Fin 1024) :
    V m c main_v7 (ix2 r e) = (spread (A.P r) ⟨3072 + e.val, by omega⟩ : EReal) := by
  let V₀ : Valuation τ sig (Elt Ideal) := fun b => m (c, b)
  have L := line
  let xs : List ((s : Shape) × (s.Idx → EReal)) := [⟨S4096x576, V m c main_v4⟩, ⟨S4096x448, V m c main_v5⟩]
  refine (congrFun (L.unary (V := V₀) 8 rfl) _).trans ((congrFun (L.binary (V := V₀) 7 rfl) _).trans ?_)
  let j : S4096x1024.Idx := ix2 r e
  let hc : Shape.Concatenates (xs.map (·.1)) S4096x1024 1 := concatenates_S4096x576_S4096x448_S4096x1024_d1
  by_cases he : e.val < 576
  · refine (concatenate_apply_piece (1 : Fin 2) xs hc j 0 (show 0 < 2 by decide) S4096x576 (V m c main_v4) rfl rfl 0 rfl
      (ix2 r ⟨e.val, he⟩) (fun b hb => match b with | ⟨0, _⟩ => rfl | ⟨1, _⟩ => absurd rfl hb) (Nat.zero_add _)).trans ?_
    refine (congrFun (L.unary (V := V₀) 4 rfl) _).trans ?_
    refine (extractStridedSlice_apply _ _ _ _ (ix2 r ⟨3072 + e.val, by omega⟩) fun a => ?_).trans
      ((congrFun (L.arg (V := V₀)) _).trans ((hP (ix2 r ⟨3072 + e.val, by omega⟩)).trans (congrArg _ (spread_low (A.P r) ⟨3072 + e.val, by omega⟩ (show 3072 + e.val < 3648 by omega)).symm)))
    match a with
    | ⟨0, _⟩ => exact (Nat.zero_add _).symm
    | ⟨1, _⟩ => rfl
  · refine (concatenate_apply_piece (1 : Fin 2) xs hc j 1 (show 1 < 2 by decide) S4096x448 (V m c main_v5) rfl rfl 576 rfl
      (ix2 r ⟨e.val - 576, by omega⟩) (fun b hb => match b with | ⟨0, _⟩ => rfl | ⟨1, _⟩ => absurd rfl hb)
      (show 576 + (e.val - 576) = e.val by omega)).trans ?_
    have z : Mat (V m c main_v5) fun _ _ => 0 := Rep.of_eq (L.unary (V := V₀) 6 rfl) <| .host_splat (.of_eq (L.nullary (V := V₀) 5 rfl) <| .const word_zero) _ _
    exact (z _).trans (congrArg _ (spread_mid _ _ (by dsimp only; omega) (by dsimp only; omega)).symm)

/-- The weights, with zeros where the columns of the projection were left blank. -/
theorem weights (hW : Mat (m (c, Proc.devRef .tc main_arg1)) A.W) : Mat (V m c main_v15) fun p q => spread (A.W q) p := fun i => by
  let V₀ : Valuation τ sig (Elt Ideal) := fun b => m (c, b)
  have L := line
  have v10 : Mat (V m c main_v10) A.W := Rep.cast (.of_eq (L.unary (V := V₀) 11 rfl) <| .trunc bitsLt_bf16_f32
    (show Mat (V m c main_arg1) A.W from fun i => (congrFun (show V m c main_arg1 = m (c, Proc.devRef .tc main_arg1) from L.arg (V := V₀)) i).trans (hW i))) fun _ => rfl
  have v11 : Mat (V m c main_v11) fun p q => A.W q p := Rep.cast (.of_eq (L.unary (V := V₀) 12 rfl) <| Mat.swap v10 _) fun _ => rfl
  let xs : List ((s : Shape) × (s.Idx → EReal)) :=
    [⟨S3648x1024, V m c main_v12⟩, ⟨S448x1024, V m c main_v13⟩, ⟨S3072x1024, V m c main_v14⟩]
  refine (congrFun (L.nary (V := V₀) 17 rfl) _).trans ?_
  let hc : Shape.Concatenates (xs.map (·.1)) S7168x1024 0 := concatenates_S3648x1024_S448x1024_S3072x1024_S7168x1024_d0
  have hi : (i 0).val < 7168 := (i 0).isLt
  by_cases h1 : (i 0).val < 3648
  · refine (concatenate_apply_piece (0 : Fin 2) xs hc i 0 (show 0 < 3 by decide) S3648x1024 (V m c main_v12) rfl rfl 0 rfl
      (ix2 ⟨(i 0).val, h1⟩ (i 1)) (fun b hb => match b with | ⟨0, _⟩ => absurd rfl hb | ⟨1, _⟩ => rfl) (Nat.zero_add _)).trans ?_
    refine (congrFun (L.unary (V := V₀) 13 rfl) _).trans ?_
    refine (extractStridedSlice_apply _ _ _ _ (ix2 ⟨(i 0).val, by omega⟩ (i 1)) fun a => ?_).trans
      ((v11 (ix2 ⟨(i 0).val, by omega⟩ (i 1))).trans (congrArg _ (spread_low _ _ h1).symm))
    match a with
    | ⟨0, _⟩ => exact (Nat.zero_add _).symm
    | ⟨1, _⟩ => exact (Nat.zero_add _).symm
  by_cases h2 : (i 0).val < 4096
  · refine (concatenate_apply_piece (0 : Fin 2) xs hc i 1 (show 1 < 3 by decide) S448x1024 (V m c main_v13) rfl rfl 3648 rfl
      (ix2 ⟨(i 0).val - 3648, by omega⟩ (i 1)) (fun b hb => match b with | ⟨0, _⟩ => absurd rfl hb | ⟨1, _⟩ => rfl)
      (show 3648 + ((i 0).val - 3648) = (i 0).val by omega)).trans ?_
    have z : Mat (V m c main_v13) fun _ _ => 0 := Rep.of_eq (L.unary (V := V₀) 15 rfl) <| .host_splat (.of_eq (L.nullary (V := V₀) 14 rfl) <| .const word_zero16) _ _
    exact (z _).trans (congrArg _ (spread_mid _ _ (Nat.not_lt.mp h1) h2).symm)
  · refine (concatenate_apply_piece (0 : Fin 2) xs hc i 2 (show 2 < 3 by decide) S3072x1024 (V m c main_v14) rfl rfl 4096 rfl
      (ix2 ⟨(i 0).val - 4096, by omega⟩ (i 1)) (fun b hb => match b with | ⟨0, _⟩ => absurd rfl hb | ⟨1, _⟩ => rfl)
      (show 4096 + ((i 0).val - 4096) = (i 0).val by omega)).trans ?_
    refine (congrFun (L.unary (V := V₀) 16 rfl) _).trans ?_
    refine (extractStridedSlice_apply _ _ _ _ (ix2 ⟨(i 0).val - 448, by omega⟩ (i 1)) fun a => ?_).trans
      ((v11 (ix2 ⟨(i 0).val - 448, by omega⟩ (i 1))).trans (congrArg _ (spread_high _ _ (Nat.not_lt.mp h2)).symm))
    match a with
    | ⟨0, _⟩ => show (i 0).val - 448 = 3648 + ((i 0).val - 4096); omega
    | ⟨1, _⟩ => exact (Nat.zero_add _).symm

theorem entry (hP : Mat (m (c, Proc.devRef .tc main_arg0)) A.P) (hW : Mat (m (c, Proc.devRef .tc main_arg1)) A.W)
    (hx : Mat (m (c, Proc.devRef .tc main_arg2)) A.x) (hd : Mat (m (c, Proc.devRef .tc main_arg3)) A.dx2)
    (hn : Mat (m (c, Proc.devRef .tc main_arg4)) fun _ => A.nw) (hs : Mat (m (c, Proc.devRef .tc main_arg6)) fun _ => A.sc) : Entry m c A := by
  let V₀ : Valuation τ sig (Elt Ideal) := fun b => m (c, b)
  have L := line
  exact {
    vg := fun r e => by
      refine (congrFun (L.unary (V := V₀) 1 rfl) _).trans ((congrFun (L.unary (V := V₀) 0 rfl) _).trans ?_)
      refine (extractStridedSlice_apply _ _ _ _ (ix2 r ⟨0 + e.val, by omega⟩) fun a => ?_).trans
        ((congrFun (L.arg (V := V₀)) _).trans ((hP (ix2 r ⟨0 + e.val, by omega⟩)).trans (congrArg _ (spread_low (A.P r) ⟨0 + e.val, by omega⟩ (show 0 + e.val < 3648 by omega)).symm)))
      match a with
      | ⟨0, _⟩ => exact (Nat.zero_add _).symm
      | ⟨1, _⟩ => rfl
    ag := fun r e => by
      refine (congrFun (L.unary (V := V₀) 3 rfl) _).trans ((congrFun (L.unary (V := V₀) 2 rfl) _).trans ?_)
      refine (extractStridedSlice_apply _ _ _ _ (ix2 r ⟨2048 + e.val, by omega⟩) fun a => ?_).trans
        ((congrFun (L.arg (V := V₀)) _).trans ((hP (ix2 r ⟨2048 + e.val, by omega⟩)).trans (congrArg _ (spread_low (A.P r) ⟨2048 + e.val, by omega⟩ (show 2048 + e.val < 3648 by omega)).symm)))
      match a with
      | ⟨0, _⟩ => exact (Nat.zero_add _).symm
      | ⟨1, _⟩ => rfl
    mla := third hP
    gates := fun r e => by
      refine (congrFun (L.unary (V := V₀) 10 rfl) _).trans ((congrFun (L.unary (V := V₀) 9 rfl) _).trans ?_)
      refine (extractStridedSlice_apply _ _ _ _ (ix2 r ⟨4096 + e.val - 448, by omega⟩) fun a => ?_).trans
        ((congrFun (L.arg (V := V₀)) _).trans ((hP (ix2 r ⟨4096 + e.val - 448, by omega⟩)).trans (congrArg _ (spread_high (A.P r) ⟨4096 + e.val, by omega⟩ (Nat.le_add_right _ _)).symm)))
      match a with
      | ⟨0, _⟩ => exact (Nat.zero_add _).symm
      | ⟨1, _⟩ => show 4096 + e.val - 448 = 3648 + e.val; omega
    w := weights hW
    x := fun i => (congrFun (show V m c main_arg2 = m (c, Proc.devRef .tc main_arg2) from L.arg (V := V₀)) i).trans (hx i)
    dx2 := fun i => (congrFun (show V m c main_arg3 = m (c, Proc.devRef .tc main_arg3) from L.arg (V := V₀)) i).trans (hd i)
    nw := fun i => (congrFun (show V m c main_arg4 = m (c, Proc.devRef .tc main_arg4) from L.arg (V := V₀)) i).trans (hn i)
    sc := fun q => by
      let xs : List ((s : Shape) × (s.Idx → EReal)) :=
        [⟨S1x1024, V m c main_arg5⟩, ⟨S1x1024, V m c main_arg6⟩, ⟨S1x1024, V m c main_arg7⟩, ⟨S5x1024, V m c main_v16⟩]
      refine (congrFun (L.nary (V := V₀) 20 rfl) _).trans ?_
      let j : S8x1024.Idx := ix2 1 q
      let hc : Shape.Concatenates (xs.map (·.1)) S8x1024 0 := concatenates_S1x1024_S1x1024_S1x1024_S5x1024_S8x1024_d0
      refine (concatenate_apply_piece (0 : Fin 2) xs hc j 1 (show 1 < 4 by decide) S1x1024 (V m c main_arg6) rfl rfl 1 rfl
        (ix2 0 q) (fun b hb => match b with | ⟨0, _⟩ => absurd rfl hb | ⟨1, _⟩ => rfl) rfl).trans ?_
      exact (congrFun (show V m c main_arg6 = m (c, Proc.devRef .tc main_arg6) from L.arg (V := V₀)) _).trans (hs _) }

end Cert.InxKernel

end
-- ==== Proof.InxRef.lean ====
/-
  The input projection's gradient's reference, read over the reals: what each buffer of its line of operations holds, as
  a function of the real numbers that the arguments are, and its run.
-/
module

public import proofs.«01_k».proof.Proof.Line
public import proofs.«01_k».proof.Proof.Products
public import proofs.«01_k».proof.Proof.InxReal
public import proofs.«01_k».proof.Proof.Gen.InxRefIdeal

@[expose] public section

set_option maxRecDepth 16384

noncomputable section

namespace Cert.InxRef

open Cert.InxRefIdeal Cert.InxRefIdeal.Gen Cert.InProj Cert.Rms
open Idealize.ShloMosaic hiding ix1 ix2 ix3
open Idealize.ShloMosaic.TcCoe Idealize.SL.Sem Idealize.ShloMosaic.StableHlo Idealize.ShloMosaic.ValueIdx

variable (m : (ℓ : Loc nD τ sig) → Buf (Elt Ideal) ℓ) (d : Dev nD)

abbrev V : Valuation τ sig (Elt Ideal) := launchContents m d
abbrev ops : List (HloOp τ sig (Elt Ideal)) := Line.opsOf (V m d) (main (F := Ideal) d)
/-- The buffers the operations write, one each, in order. -/
abbrev W : List (Ref sig .tc) := (List.finRange 64).map fun k => ⟨.hbm, k.natAdd 8, rfl⟩
theorem main_eq : main (F := Ideal) d = seq (ops m d) := rfl
theorem line : Line.Ssa (ops m d) W 8 := ⟨rfl, by decide +kernel⟩
abbrev B (r : Ref sig .tc) : r.ty.Contents (Elt Ideal) := after (ops m d) (V m d) (Proc.devRef .tc r)

theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = B m d b :=
  Line.run (by decide) (by decide) (by decide +kernel) defs main (ops m) (main_eq m) (N := 64) (fun d => rfl) m ρ

variable {m d} {A : Args 4096}

/-- An argument ends as it was launched. -/
theorem kept (x : Ref sig .tc) (h : x.idx.val < 8 := by decide) : B m d x = m (d.tc.loc x) := (line m d).arg h

theorem last (a b c e : ℝ) : e + a + b + c = a + b + c + e := by ring

set_option maxHeartbeats 1000000 in
theorem values (hP : Mat (B m d main_arg0) A.P) (hW : Mat (B m d main_arg1) A.W) (hx : Mat (B m d main_arg2) A.x)
    (hd : Mat (B m d main_arg3) A.dx2) (hn : Mat (B m d main_arg4) fun _ => A.nw) (hs : Mat (B m d main_arg6) fun _ => A.sc) :
    Mat (B m d main_v49) A.dx ∧ Mat (B m d main_v24) (fun _ c => ∑ r, A.dh r c)
    ∧ Mat (B m d main_v27) (fun _ c => ∑ r, A.dh r c * (unit 1024 (A.x r) c * A.nw c))
    ∧ Mat (B m d main_v32) (fun _ c => ∑ r, A.dhn r c * unit 1024 (A.x r) c) := by
  have L := line m d
  have v6 : Mat (B m d main_v6) fun r _ => ms 1024 (A.x r) :=
    Rep.cast (.of_eq (L.binary 9 rfl) <| .add (.of_eq (L.binary 6 rfl) <| .host_div (.of_eq (L.unary 3 rfl) <| Row.host_col (.of_eq (L.binary 2 rfl) <| Mat.host_sum_rows (.of_eq (L.binary 0 rfl) <| .mul hx hx) (.of_eq (L.nullary 1 rfl) <| .const word_zero) _ _) _) (.of_eq (L.unary 5 rfl) <| .host_splat (.of_eq (L.nullary 4 rfl) <| .const word_1024) _ _) fun _ => by norm_num) (.of_eq (L.unary 8 rfl) <| .host_splat (.of_eq (L.nullary 7 rfl) <| .const word_eps) _ _)) fun _ => rfl
  have v7 : Mat (B m d main_v7) fun r _ => rr 1024 (A.x r) :=
    Rep.cast (.of_eq (L.unary 10 rfl) <| .host_rsqrt v6 fun _ => ms_pos _ _ (by norm_num)) fun _ => rfl
  have v10 : Mat (B m d main_v10) fun r _ => -1 / 2 * (rr 1024 (A.x r) / ms 1024 (A.x r)) :=
    Rep.cast (.of_eq (L.binary 14 rfl) <| .mul (.of_eq (L.unary 13 rfl) <| .host_splat (.of_eq (L.nullary 12 rfl) <| .const word_neg_half) _ _) (.of_eq (L.binary 11 rfl) <| .host_div v7 v6 fun _ => (ms_pos _ _ (by norm_num)).ne')) fun _ => rfl
  have v12 : Mat (B m d main_v12) fun r => unit 1024 (A.x r) :=
    Rep.cast (.of_eq (L.binary 16 rfl) <| .mul hx (.of_eq (L.unary 15 rfl) <| Mat.host_repeat_col v7 _)) fun _ => rfl
  have v14 : Mat (B m d main_v14) fun r c => unit 1024 (A.x r) c * A.nw c :=
    Rep.cast (.of_eq (L.binary 18 rfl) <| .mul v12 (.of_eq (L.unary 17 rfl) <| Mat.host_repeat_row hn _)) fun _ => rfl
  have v16 : Mat (B m d main_v16) fun _ c => 1 + A.sc c :=
    Rep.cast (.of_eq (L.binary 21 rfl) <| .add (.of_eq (L.unary 20 rfl) <| .host_splat (.of_eq (L.nullary 19 rfl) <| .const word_one) _ _) hs) fun _ => rfl
  have v22 : Mat (B m d main_v22) A.dh :=
    Rep.cast (.of_eq (L.binary 27 rfl) <| .host_dot (φ₁ := .f32) (φ₂ := .f32) _ none hP hW) fun _ => rfl
  have v24 : Mat (B m d main_v24) fun _ c => ∑ r, A.dh r c :=
    Rep.cast (.of_eq (L.reshape 30 rfl) <| Row.row (.of_eq (L.binary 29 rfl) <| Mat.host_sum_cols v22 (.of_eq (L.nullary 28 rfl) <| .const word_zero) _ _) _) fun _ => rfl
  have v27 : Mat (B m d main_v27) fun _ c => ∑ r, A.dh r c * (unit 1024 (A.x r) c * A.nw c) :=
    Rep.cast (.of_eq (L.reshape 34 rfl) <| Row.row (.of_eq (L.binary 33 rfl) <| Mat.host_sum_cols (.of_eq (L.binary 31 rfl) <| .mul v14 v22) (.of_eq (L.nullary 32 rfl) <| .const word_zero) _ _) _) fun _ => Finset.sum_congr rfl fun _ _ => mul_comm _ _
  have v29 : Mat (B m d main_v29) A.dhn :=
    Rep.cast (.of_eq (L.binary 36 rfl) <| .mul v22 (.of_eq (L.unary 35 rfl) <| Mat.host_repeat_row v16 _)) fun _ => rfl
  have v32 : Mat (B m d main_v32) fun _ c => ∑ r, A.dhn r c * unit 1024 (A.x r) c :=
    Rep.cast (.of_eq (L.reshape 40 rfl) <| Row.row (.of_eq (L.binary 39 rfl) <| Mat.host_sum_cols (.of_eq (L.binary 37 rfl) <| .mul v12 v29) (.of_eq (L.nullary 38 rfl) <| .const word_zero) _ _) _) fun _ => Finset.sum_congr rfl fun _ _ => mul_comm _ _
  have v34 : Mat (B m d main_v34) A.dxn :=
    Rep.cast (.of_eq (L.binary 42 rfl) <| .mul v29 (.of_eq (L.unary 41 rfl) <| Mat.host_repeat_row hn _)) fun _ => rfl
  have v45 : Mat (B m d main_v45) fun r _ => coef 1024 (A.x r) (A.dxn r) :=
    Rep.cast (.of_eq (L.unary 56 rfl) <| Row.host_col (.of_eq (L.binary 55 rfl) <| Mat.host_sum_unit (.of_eq (L.binary 53 rfl) <| .host_div (.of_eq (L.binary 50 rfl) <| .mul (.of_eq (L.reshape 46 rfl) <| Row.col (.of_eq (L.binary 45 rfl) <| Mat.host_sum_rows (.of_eq (L.binary 43 rfl) <| .mul hx v34) (.of_eq (L.nullary 44 rfl) <| .const word_zero) _ _) _) v10) (.of_eq (L.unary 52 rfl) <| .host_splat (.of_eq (L.nullary 51 rfl) <| .const word_1024) _ _) fun _ => by norm_num) (.of_eq (L.nullary 54 rfl) <| .const word_zero) _ _) _) fun _ => rfl
  have v49 : Mat (B m d main_v49) fun r c => backDiff 1024 (A.x r) (A.dxn r) c + A.dx2 r c :=
    Rep.cast (.of_eq (L.binary 60 rfl) <| .add (.of_eq (L.binary 58 rfl) <| .add (.of_eq (L.binary 49 rfl) <| .add hd (.of_eq (L.binary 48 rfl) <| .mul v34 (.of_eq (L.unary 47 rfl) <| Mat.host_repeat_col v7 _))) (.of_eq (L.binary 57 rfl) <| .mul hx v45)) (.of_eq (L.binary 59 rfl) <| .mul v45 hx)) fun _ => last _ _ _ _
  exact ⟨Rep.cast v49 fun i => congrArg (· + A.dx2 (i 0) (i 1)) (backDiff_eq 1024 (A.x (i 0)) (A.dxn (i 0)) (by norm_num) (i 1)), v24, v27, v32⟩

/-- The three sums as the first rows of eight. -/
theorem rows {s t u : Fin 1 → Fin 1024 → ℝ} (hs : Mat (B m d main_v24) s) (ht : Mat (B m d main_v27) t) (hu : Mat (B m d main_v32) u) :
    Mat (B m d main_v51) fun k q => if k.val = 2 then u 0 q else if k.val = 1 then t 0 q else if k.val = 0 then s 0 q else 0 := fun i => by
  have hz : Mat (B m d main_v50) fun _ _ => 0 :=
    Rep.of_eq ((line m d).unary 62 rfl) <| Rep.host_splat (Rep.of_eq ((line m d).nullary 61 rfl) <| Rep.const (φ := .f32) word_zero) _ _
  have hi : (i 0).val < 8 := (i 0).isLt
  let xs : List ((s : Shape) × (s.Idx → EReal)) :=
    [⟨S1x1024, B m d main_v24⟩, ⟨S1x1024, B m d main_v27⟩, ⟨S1x1024, B m d main_v32⟩, ⟨S5x1024, B m d main_v50⟩]
  refine (congrFun ((line m d).nary 63 rfl) i).trans ?_
  by_cases e2 : (i 0).val = 2
  · refine (concatenate_apply_piece (0 : Fin 2) xs _ i 2 (show 2 < 4 by decide) S1x1024 (B m d main_v32) rfl rfl 2 rfl (ix2 0 (i 1))
      (fun b hb => match b with | ⟨0, _⟩ => absurd rfl hb | ⟨1, _⟩ => rfl) e2.symm).trans ((hu _).trans (congrArg _ ?_))
    exact (if_pos e2).symm
  by_cases e1 : (i 0).val = 1
  · refine (concatenate_apply_piece (0 : Fin 2) xs _ i 1 (show 1 < 4 by decide) S1x1024 (B m d main_v27) rfl rfl 1 rfl (ix2 0 (i 1))
      (fun b hb => match b with | ⟨0, _⟩ => absurd rfl hb | ⟨1, _⟩ => rfl) e1.symm).trans ((ht _).trans (congrArg _ ?_))
    exact ((if_neg e2).trans (if_pos e1)).symm
  by_cases e0 : (i 0).val = 0
  · refine (concatenate_apply_piece (0 : Fin 2) xs _ i 0 (show 0 < 4 by decide) S1x1024 (B m d main_v24) rfl rfl 0 rfl (ix2 0 (i 1))
      (fun b hb => match b with | ⟨0, _⟩ => absurd rfl hb | ⟨1, _⟩ => rfl) e0.symm).trans ((hs _).trans (congrArg _ ?_))
    exact ((if_neg e2).trans ((if_neg e1).trans (if_pos e0))).symm
  · refine (concatenate_apply_piece (0 : Fin 2) xs _ i 3 (show 3 < 4 by decide) S5x1024 (B m d main_v50) rfl rfl 3 rfl (ix2 ⟨(i 0).val - 3, by omega⟩ (i 1))
      (fun b hb => match b with | ⟨0, _⟩ => absurd rfl hb | ⟨1, _⟩ => rfl) (show 3 + ((i 0).val - 3) = (i 0).val by omega)).trans ((hz _).trans (congrArg _ ?_))
    exact ((if_neg e2).trans ((if_neg e1).trans (if_neg e0))).symm

theorem results (hP : Mat (B m d main_arg0) A.P) (hW : Mat (B m d main_arg1) A.W) (hx : Mat (B m d main_arg2) A.x)
    (hd : Mat (B m d main_arg3) A.dx2) (hn : Mat (B m d main_arg4) fun _ => A.nw) (hs : Mat (B m d main_arg6) fun _ => A.sc) :
    Mat (B m d main_v49) A.dx ∧ Mat (B m d main_v51) A.small := by
  obtain ⟨h0, h1, h2, h3⟩ := values hP hW hx hd hn hs
  refine ⟨h0, Rep.cast (rows h1 h2 h3) fun i => ?_⟩
  show _ = ∑ r, A.part (i 0) r (i 1)
  dsimp only
  by_cases e2 : (i 0).val = 2
  · rw [if_pos e2]
    exact Finset.sum_congr rfl fun r _ => (if_pos e2).symm
  by_cases e1 : (i 0).val = 1
  · rw [if_neg e2, if_pos e1]
    exact Finset.sum_congr rfl fun r _ => ((if_neg e2).trans (if_pos e1)).symm
  by_cases e0 : (i 0).val = 0
  · rw [if_neg e2, if_neg e1, if_pos e0]
    exact Finset.sum_congr rfl fun r _ => ((if_neg e2).trans ((if_neg e1).trans (if_pos e0))).symm
  · rw [if_neg e2, if_neg e1, if_neg e0]
    exact (Finset.sum_eq_zero fun r _ => (if_neg e2).trans ((if_neg e1).trans (if_neg e0))).symm

end Cert.InxRef

end
-- ==== Proof.InxClaim.lean ====
/-
  The input projection's gradient: the kernel's results are the reference's.
-/
module

public import proofs.«01_k».proof.Proof.InxHost
public import proofs.«01_k».proof.Proof.InxRef
public import proofs.«01_k».proof.Proof.AttnClaim
public import proofs.«01_k».proof.Proof.Gen.Pre_finite_inx

@[expose] public section

set_option maxRecDepth 16384

noncomputable section

namespace Cert.InxClaim

open Idealize.ShloMosaic hiding ix1 ix2 ix3
open Idealize.ShloMosaic.TcCoe Idealize.SL.Sem Idealize.ShloMosaic.StableHlo Idealize.ShloMosaic.ValueIdx
open Cert.InProj

theorem frame_ref (m : (ℓ : Loc InxRefIdeal.nD InxRefIdeal.τ InxRefIdeal.sig) → Buf (Elt Ideal) ℓ) (ρ : Dev InxRefIdeal.nD → PrngReg) :
    θ_run (InxRefIdeal.defs (F := Ideal)) (onTc (τ := InxRefIdeal.τ) (InxRefIdeal.main (F := Ideal))) ⟨m, fun _ => 0, ρ⟩ fun r =>
      (∀ c : Dev InxRefIdeal.nD, (r.2.mem (c.tc.loc InxRefIdeal.main_arg0) = m (c.tc.loc InxRefIdeal.main_arg0)
        ∧ r.2.mem (c.tc.loc InxRefIdeal.main_arg1) = m (c.tc.loc InxRefIdeal.main_arg1)
        ∧ r.2.mem (c.tc.loc InxRefIdeal.main_arg2) = m (c.tc.loc InxRefIdeal.main_arg2)
        ∧ r.2.mem (c.tc.loc InxRefIdeal.main_arg3) = m (c.tc.loc InxRefIdeal.main_arg3)
        ∧ r.2.mem (c.tc.loc InxRefIdeal.main_arg4) = m (c.tc.loc InxRefIdeal.main_arg4)
        ∧ r.2.mem (c.tc.loc InxRefIdeal.main_arg5) = m (c.tc.loc InxRefIdeal.main_arg5)
        ∧ r.2.mem (c.tc.loc InxRefIdeal.main_arg6) = m (c.tc.loc InxRefIdeal.main_arg6)
        ∧ r.2.mem (c.tc.loc InxRefIdeal.main_arg7) = m (c.tc.loc InxRefIdeal.main_arg7))) ∧ r.2.sem = fun _ => 0 :=
  (θ_run _ _ _).mono (fun r h => ⟨fun c =>
    ⟨(h c _).trans (InxRef.kept _), (h c _).trans (InxRef.kept _), (h c _).trans (InxRef.kept _), (h c _).trans (InxRef.kept _),
     (h c _).trans (InxRef.kept _), (h c _).trans (InxRef.kept _), (h c _).trans (InxRef.kept _), (h c _).trans (InxRef.kept _)⟩,
    sem_eq_zero_of_no_sems rfl _⟩) (InxRef.run m ρ)

section

open InxIdeal InxIdeal.Gen

/-- The kernel's run: the gradient of the rows, the sums, and the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18_0) = (dats m 0 c).arrAt 9 cfg0.N
      ∧ r.2.mem ((c.tc : Thread nD τ).loc main_v18_1) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h.1 c).1 9, (h.1 c).1 10, h.2.1 c⟩) (θ_run_and (run_main m ρ) (frame m ρ))

end

theorem algebraic : Cert.algebraic_InxIdeal_InxRefIdeal_pre_finite_inx := by
  intro m ρ m' ρ' hpre hag
  refine ⟨fun c => (InxIdeal.Gen.dats m 0 c).arrAt 9 InxIdeal.cfg0.N, fun c => (InxIdeal.Gen.dats m 0 c).arrAt 10 InxIdeal.cfg0.N,
    run m ρ, (θ_run _ _ _).mono (fun r h c => ?_) (InxRef.run m' ρ')⟩
  obtain ⟨p0, p1, p2, p3, p4, p5⟩ := hpre c
  obtain ⟨a0, a1, a2, a3, a4, a5, a6, a7⟩ := hag c
  obtain ⟨P, hP⟩ := exists_mat (exists_rep p0)
  obtain ⟨W, hW⟩ := exists_mat (exists_rep p1)
  obtain ⟨X, hX⟩ := exists_mat (exists_rep p2)
  obtain ⟨D, hD⟩ := exists_mat (exists_rep p3)
  obtain ⟨N, hN⟩ := exists_mat (exists_rep p4)
  obtain ⟨S, hS⟩ := exists_mat (exists_rep p5)
  have one {x : (⟨2, ![1, 1024]⟩ : Shape).Idx → EReal} {g : Fin 1 → Fin 1024 → ℝ} (h : Mat x g) : Mat x fun _ => g 0 :=
    Rep.cast h fun i => congrArg (fun k => g k (i 1)) (Subsingleton.elim (α := Fin 1) (i 0) 0)
  let A : Args 4096 := { P := P, W := W, x := X, dx2 := D, nw := N 0, sc := S 0 }
  have e : InxKernel.Entry m c A := InxKernel.entry hP hW hX hD (one hN) (one hS)
  obtain ⟨r0, r1⟩ := InxRef.results (m := m') (d := c) (A := A)
    (((InxRef.kept InxRefIdeal.main_arg0).trans a0).symm ▸ hP) (((InxRef.kept InxRefIdeal.main_arg1).trans a1).symm ▸ hW)
    (((InxRef.kept InxRefIdeal.main_arg2).trans a2).symm ▸ hX) (((InxRef.kept InxRefIdeal.main_arg3).trans a3).symm ▸ hD)
    (((InxRef.kept InxRefIdeal.main_arg4).trans a4).symm ▸ one hN) (((InxRef.kept InxRefIdeal.main_arg6).trans a6).symm ▸ one hS)
  exact ⟨(h c _).trans (funext fun i => (r0 i).trans (InxKernel.result9 e i).symm), (h c _).trans (funext fun i => (r1 i).trans (InxKernel.result10 e i).symm),
    (h c _).trans (InxRef.kept _), (h c _).trans (InxRef.kept _), (h c _).trans (InxRef.kept _), (h c _).trans (InxRef.kept _),
    (h c _).trans (InxRef.kept _), (h c _).trans (InxRef.kept _), (h c _).trans (InxRef.kept _), (h c _).trans (InxRef.kept _)⟩

end Cert.InxClaim

end
-- ==== Proof.MergeReal.lean ====
/-
  The merge of the two branches, the output projection, the last RMS norm and the loss, with the gradients of all of
  them, over the reals.
-/
module

public import proofs.«01_k».proof.Proof.Rms

@[expose] public section

noncomputable section

namespace Cert.Merge

open Cert.Rms

/-- The logistic function. -/
def sg (z : ℝ) : ℝ := (1 + Real.exp (-z))⁻¹

/-- The arguments, for `n` rows: the step's input and target, the two branches, the three gates of the projection, the
    modulation's gate, the norm's weight and the three weights. -/
structure Args (n : ℕ) where
  x : Fin n → Fin 1024 → ℝ
  t : Fin n → Fin 1024 → ℝ
  ya : Fin n → Fin 1024 → ℝ
  o : Fin n → Fin 1024 → ℝ
  bg : Fin n → Fin 1024 → ℝ
  ga : Fin n → Fin 1024 → ℝ
  gb : Fin n → Fin 1024 → ℝ
  gate : Fin 1024 → ℝ
  fw : Fin 1024 → ℝ
  wc : Fin 1024 → Fin 1024 → ℝ
  wa : Fin 1024 → Fin 1024 → ℝ
  wo : Fin 1024 → Fin 1024 → ℝ

namespace Args

variable {n : ℕ} (A : Args n)

/-- Some of the rows. -/
def rows {m : ℕ} (p : Fin m → Fin n) : Args m :=
  { A with x := fun r => A.x (p r), t := fun r => A.t (p r), ya := fun r => A.ya (p r), o := fun r => A.o (p r),
           bg := fun r => A.bg (p r), ga := fun r => A.ga (p r), gb := fun r => A.gb (p r) }

/-- Forward: the gated branch, the two projections, their merge, the output projection, the row before the norm, the
    error. -/
def sb (r : Fin n) (c : Fin 1024) : ℝ := A.bg r c * sg (A.bg r c)
def yb (r : Fin n) (c : Fin 1024) : ℝ := A.o r c * A.sb r c
def pA (r : Fin n) (c : Fin 1024) : ℝ := ∑ e, A.ya r e * A.wc e c
def pB (r : Fin n) (c : Fin 1024) : ℝ := ∑ e, A.yb r e * A.wa e c
def mg (r : Fin n) (c : Fin 1024) : ℝ := sg (A.ga r c) * A.pA r c + sg (A.gb r c) * A.pB r c
def z (r : Fin n) (c : Fin 1024) : ℝ := ∑ e, A.mg r e * A.wo e c
def y2 (r : Fin n) (c : Fin 1024) : ℝ := A.x r c + A.gate c * A.z r c
def err (r : Fin n) (c : Fin 1024) : ℝ := unit 1024 (A.y2 r) c * A.fw c - A.t r c

/-- Backward, in the opposite order. -/
def dy (r : Fin n) (c : Fin 1024) : ℝ := A.err r c * (1 / 1024)
def dxn (r : Fin n) (c : Fin 1024) : ℝ := A.dy r c * A.fw c
def dx2 (r : Fin n) (c : Fin 1024) : ℝ := back 1024 (A.y2 r) (A.dxn r) c
def dz (r : Fin n) (c : Fin 1024) : ℝ := A.dx2 r c * A.gate c
def dm (r : Fin n) (c : Fin 1024) : ℝ := ∑ e, A.dz r e * A.wo c e
def dA (r : Fin n) (c : Fin 1024) : ℝ := A.dm r c * sg (A.ga r c)
def dB (r : Fin n) (c : Fin 1024) : ℝ := A.dm r c * sg (A.gb r c)
def dga (r : Fin n) (c : Fin 1024) : ℝ := A.dm r c * A.pA r c * (sg (A.ga r c) * (1 - sg (A.ga r c)))
def dgb (r : Fin n) (c : Fin 1024) : ℝ := A.dm r c * A.pB r c * (sg (A.gb r c) * (1 - sg (A.gb r c)))
def dya (r : Fin n) (c : Fin 1024) : ℝ := ∑ e, A.dA r e * A.wc c e
def dyb (r : Fin n) (c : Fin 1024) : ℝ := ∑ e, A.dB r e * A.wa c e
def do_ (r : Fin n) (c : Fin 1024) : ℝ := A.dyb r c * A.sb r c
def dbg (r : Fin n) (c : Fin 1024) : ℝ := A.dyb r c * A.o r c * (sg (A.bg r c) * (1 + A.bg r c * (1 - sg (A.bg r c))))

/-- The gates' gradients beside one another. -/
def gates (r : Fin n) (p : Fin 3072) : ℝ :=
  if h : p.val < 1024 then A.dbg r ⟨p.val, h⟩
  else if h : p.val < 2048 then A.dga r ⟨p.val - 1024, by omega⟩ else A.dgb r ⟨p.val - 2048, by omega⟩

/-- The attention's correction of head `h`: the sum over the head of the output times its gradient. -/
def delta (h : Fin 8) (r : Fin n) : ℝ :=
  ∑ d : Fin 128, A.do_ r ⟨128 * h.val + d.val, by omega⟩ * A.o r ⟨128 * h.val + d.val, by omega⟩

/-- What one row adds to the gradients of the norm's weight and of the modulation's gate, and to the loss. -/
def part (k : Fin 8) (r : Fin n) (c : Fin 1024) : ℝ :=
  if k.val = 2 then (∑ e, A.err r e * A.err r e) * (1 / 2048)
  else if k.val = 1 then A.dx2 r c * A.z r c
  else if k.val = 0 then A.dy r c * unit 1024 (A.y2 r) c else 0
def small (k : Fin 8) (c : Fin 1024) : ℝ := ∑ r, A.part k r c

/-! ## Some of the rows -/

section Rows

variable {m : ℕ} (p : Fin m → Fin n) (r : Fin m)

theorem rows_sb : (A.rows p).sb r = A.sb (p r) := rfl
theorem rows_yb : (A.rows p).yb r = A.yb (p r) := by
  funext c
  unfold yb
  simp only [rows_sb]
  rfl
theorem rows_pA : (A.rows p).pA r = A.pA (p r) := rfl
theorem rows_pB : (A.rows p).pB r = A.pB (p r) := by
  funext c
  unfold pB
  simp only [rows_yb]
  rfl
theorem rows_mg : (A.rows p).mg r = A.mg (p r) := by
  funext c
  unfold mg
  simp only [rows_pA, rows_pB]
  rfl
theorem rows_z : (A.rows p).z r = A.z (p r) := by
  funext c
  unfold z
  simp only [rows_mg]
  rfl
theorem rows_y2 : (A.rows p).y2 r = A.y2 (p r) := by
  funext c
  unfold y2
  simp only [rows_z]
  rfl
theorem rows_err : (A.rows p).err r = A.err (p r) := by
  funext c
  unfold err
  simp only [rows_y2]
  rfl
theorem rows_dy : (A.rows p).dy r = A.dy (p r) := by
  funext c
  unfold dy
  simp only [rows_err]
theorem rows_dxn : (A.rows p).dxn r = A.dxn (p r) := by
  funext c
  unfold dxn
  simp only [rows_dy]
  rfl
theorem rows_dx2 : (A.rows p).dx2 r = A.dx2 (p r) := by
  funext c
  unfold dx2
  simp only [rows_y2, rows_dxn]
theorem rows_dz : (A.rows p).dz r = A.dz (p r) := by
  funext c
  unfold dz
  simp only [rows_dx2]
  rfl
theorem rows_dm : (A.rows p).dm r = A.dm (p r) := by
  funext c
  unfold dm
  simp only [rows_dz]
  rfl
theorem rows_dA : (A.rows p).dA r = A.dA (p r) := by
  funext c
  unfold dA
  simp only [rows_dm]
  rfl
theorem rows_dB : (A.rows p).dB r = A.dB (p r) := by
  funext c
  unfold dB
  simp only [rows_dm]
  rfl
theorem rows_dga : (A.rows p).dga r = A.dga (p r) := by
  funext c
  unfold dga
  simp only [rows_dm, rows_pA]
  rfl
theorem rows_dgb : (A.rows p).dgb r = A.dgb (p r) := by
  funext c
  unfold dgb
  simp only [rows_dm, rows_pB]
  rfl
theorem rows_dya : (A.rows p).dya r = A.dya (p r) := by
  funext c
  unfold dya
  simp only [rows_dA]
  rfl
theorem rows_dyb : (A.rows p).dyb r = A.dyb (p r) := by
  funext c
  unfold dyb
  simp only [rows_dB]
  rfl
theorem rows_do_ : (A.rows p).do_ r = A.do_ (p r) := by
  funext c
  unfold do_
  simp only [rows_dyb, rows_sb]
theorem rows_dbg : (A.rows p).dbg r = A.dbg (p r) := by
  funext c
  unfold dbg
  simp only [rows_dyb]
  rfl
theorem rows_gates : (A.rows p).gates r = A.gates (p r) := by
  funext c
  unfold gates
  simp only [rows_dbg, rows_dga, rows_dgb]
theorem rows_delta (h : Fin 8) : (A.rows p).delta h r = A.delta h (p r) := by
  unfold delta
  simp only [rows_do_]
  rfl
theorem rows_part (k : Fin 8) : (A.rows p).part k r = A.part k (p r) := by
  funext c
  unfold part
  simp only [rows_err, rows_dx2, rows_z, rows_dy, rows_y2]

end Rows

end Args

end Cert.Merge

end
-- ==== Proof.MergePay.lean ====
/-
  What the body of the merge and the loss computes at a block of rows, over the reals.
-/
module

public import proofs.«01_k».proof.Proof.Windows
public import proofs.«01_k».proof.Proof.Gen.MergeIdeal.Skeleton
public import proofs.«01_k».proof.Proof.Products
public import proofs.«01_k».proof.Proof.MergeReal

@[expose] public section

set_option maxRecDepth 16384

noncomputable section

namespace Cert.MergePay

open Cert.MergeIdeal Cert.MergeIdeal.Gen Cert.Merge Cert.Rms Cert.Windows
open Idealize.ShloMosaic hiding ix1 ix2 ix3
open Idealize.ShloMosaic.ValueIdx

/-- A weight out of the eight blocks of its rows. -/
def square (w : FVec Ideal S8x128x1024 .bf16) : FVec Ideal S1024x1024 .bf16 := shapeCast S1024x1024 w shapeCasts_S8x128x1024_S1024x1024

theorem square_mat {w : FVec Ideal S8x128x1024 .bf16} {g : Fin 1024 → Fin 1024 → ℝ} (h : Mat (square w) g) :
    Mat (shapeCast S1024x1024 (shapeCast S8x128x1024 w shapeCasts_S8x128x1024_S8x128x1024) shapeCasts_S8x128x1024_S1024x1024) g := by
  rw [shapeCast_self]
  exact h

theorem word_half_1024 : Ideal.ofBits .f32 0x3A000000#32 = ((1 / 2048 : ℝ) : EReal) := by
  simp [Ideal.ofBits, Ideal.ieee]; rw [← EReal.coe_mul]; norm_num
theorem word_one_1024 : Ideal.ofBits .f32 0x3A800000#32 = ((1 / 1024 : ℝ) : EReal) := by
  simp [Ideal.ofBits, Ideal.ieee]; rw [← EReal.coe_mul]; norm_num

variable (x0 x1 : FVec Ideal S256x1024 .f32) (x2 : FVec Ideal S256x1024 .bf16) (x3 : FVec Ideal S256x1024 .f32)
  (x4 x5 x6 : FVec Ideal S256x1024 .bf16) (x7 : FVec Ideal S8x1024 .f32) (x8 : FVec Ideal S1x1024 .f32)
  (x9 x10 x11 : FVec Ideal S8x128x1024 .bf16)

/-! ## The values of the body -/

def mgV : FVec Ideal S256x1024 .bf16 := k0_pay18 x4 x3 x2 x9 x10 x5 x6
def zV : FVec Ideal S256x1024 .f32 := k0_pay20 (mgV x2 x3 x4 x5 x6 x9 x10) (k0_pay19 x11)
def rootV : FVec Ideal S256x1 .f32 := k0_pay23 (mgV x2 x3 x4 x5 x6 x9 x10) (k0_pay19 x11) (rowOf x7 2) x0
def unitV : FVec Ideal S256x1024 .f32 := k0_pay24 (mgV x2 x3 x4 x5 x6 x9 x10) (k0_pay19 x11) (rowOf x7 2) x0
def lossV : FVec Ideal S1x1 .f32 := k0_pay27 (mgV x2 x3 x4 x5 x6 x9 x10) (k0_pay19 x11) (rowOf x7 2) x0 x8 x1
def dyV : FVec Ideal S256x1024 .f32 := k0_pay28 (mgV x2 x3 x4 x5 x6 x9 x10) (k0_pay19 x11) (rowOf x7 2) x0 x8 x1
def row0V (p : FVec Ideal S1x1024 .f32) : FVec Ideal S1x1024 .f32 :=
  k0_pay29 (mgV x2 x3 x4 x5 x6 x9 x10) (k0_pay19 x11) (rowOf x7 2) x0 x8 x1 p
def dx2V : FVec Ideal S256x1024 .f32 :=
  k0_pay30 (rootV x0 x2 x3 x4 x5 x6 x7 x9 x10 x11) (unitV x0 x2 x3 x4 x5 x6 x7 x9 x10 x11) (k0_pay25 x8) (dyV x0 x1 x2 x3 x4 x5 x6 x7 x8 x9 x10 x11)
def row1V (p : FVec Ideal S1x1024 .f32) : FVec Ideal S1x1024 .f32 :=
  k0_pay31 (zV x2 x3 x4 x5 x6 x9 x10 x11) (rootV x0 x2 x3 x4 x5 x6 x7 x9 x10 x11) (unitV x0 x2 x3 x4 x5 x6 x7 x9 x10 x11) (k0_pay25 x8)
    (dyV x0 x1 x2 x3 x4 x5 x6 x7 x8 x9 x10 x11) p
def row2V (p : FVec Ideal S1x1024 .f32) : FVec Ideal S1x1024 .f32 := k0_pay32 (lossV x0 x1 x2 x3 x4 x5 x6 x7 x8 x9 x10 x11) p
def dmV : FVec Ideal S256x1024 .f32 :=
  k0_pay34 (k0_pay21 (rowOf x7 2)) (rootV x0 x2 x3 x4 x5 x6 x7 x9 x10 x11) (unitV x0 x2 x3 x4 x5 x6 x7 x9 x10 x11) (k0_pay25 x8)
    (dyV x0 x1 x2 x3 x4 x5 x6 x7 x8 x9 x10 x11) x11
def dBV : FVec Ideal S256x1024 .bf16 := k0_pay38 (k0_pay17 x6) (dmV x0 x1 x2 x3 x4 x5 x6 x7 x8 x9 x10 x11)
def dyaV : FVec Ideal S256x1024 .f32 := k0_pay41 (k0_pay16 x5) (dmV x0 x1 x2 x3 x4 x5 x6 x7 x8 x9 x10 x11) x9
def doV : FVec Ideal S256x1024 .bf16 := k0_pay47 (k0_pay11 x4) (dBV x0 x1 x2 x3 x4 x5 x6 x7 x8 x9 x10 x11) x10
def dbgV : FVec Ideal S256x1024 .bf16 := k0_pay48 (k0_pay9 x4) (k0_pay10 x4) x3 (dBV x0 x1 x2 x3 x4 x5 x6 x7 x8 x9 x10 x11) x10
def dgaV : FVec Ideal S256x1024 .bf16 := k0_pay39 (k0_pay14 x2 x9) (k0_pay16 x5) (dmV x0 x1 x2 x3 x4 x5 x6 x7 x8 x9 x10 x11)
def dgbV : FVec Ideal S256x1024 .bf16 := k0_pay40 (k0_pay15 x4 x3 x10) (k0_pay17 x6) (dmV x0 x1 x2 x3 x4 x5 x6 x7 x8 x9 x10 x11)
def prodV : FVec Ideal S256x1024 .f32 := k0_pay49 (k0_pay11 x4) x3 (dBV x0 x1 x2 x3 x4 x5 x6 x7 x8 x9 x10 x11) x10

/-- The gates' gradients beside one another, and the block of sums with one block of rows added. -/
def gatesV : FVec Ideal S256x3072 .bf16 := fun y =>
  if h : (y 1).val < 1024 then dbgV x0 x1 x2 x3 x4 x5 x6 x7 x8 x9 x10 x11 (ix2 (y 0) ⟨(y 1).val, h⟩)
  else if h' : (y 1).val < 2048 then dgaV x0 x1 x2 x3 x4 x5 x6 x7 x8 x9 x10 x11 (ix2 (y 0) ⟨(y 1).val - 1024, by omega⟩)
  else dgbV x0 x1 x2 x3 x4 x5 x6 x7 x8 x9 x10 x11 (ix2 (y 0) ⟨(y 1).val - 2048, by have := (y 1).isLt; have e : S256x3072.size 1 = 3072 := rfl; omega⟩)
def sumsV (xo : FVec Ideal S8x1024 .f32) : FVec Ideal S8x1024 .f32 := fun y =>
  if (y 0).val = 2 then row2V x0 x1 x2 x3 x4 x5 x6 x7 x8 x9 x10 x11 (rowOf xo 2) (ix2 0 (y 1))
  else if (y 0).val = 1 then row1V x0 x1 x2 x3 x4 x5 x6 x7 x8 x9 x10 x11 (rowOf xo 1) (ix2 0 (y 1))
  else if (y 0).val = 0 then row0V x0 x1 x2 x3 x4 x5 x6 x7 x8 x9 x10 x11 (rowOf xo 0) (ix2 0 (y 1))
  else xo y

/-- What the blocks hold. -/
structure Blk (A : Args 256) : Prop where
  x : Mat x0 A.x
  t : Mat x1 A.t
  ya : Mat x2 A.ya
  o : Mat x3 A.o
  bg : Mat x4 A.bg
  ga : Mat x5 A.ga
  gb : Mat x6 A.gb
  gate : Mat (rowOf x7 2) fun _ => A.gate
  fw : Mat x8 fun _ => A.fw
  wc : Mat (square x9) A.wc
  wa : Mat (square x10) A.wa
  wo : Mat (square x11) A.wo

namespace Blk

variable {x0 x1 x2 x3 x4 x5 x6 x7 x8 x9 x10 x11} {A : Args 256} (b : Blk x0 x1 x2 x3 x4 x5 x6 x7 x8 x9 x10 x11 A)

include b

theorem bgx : Mat (k0_pay9 (F := Ideal) x4) A.bg := Rep.ext (φ := .bf16) (ψ := .f32) bitsLt_bf16_f32 (Rep.self _ b.bg)
theorem sgb : Mat (k0_pay10 (F := Ideal) x4) fun r c => sg (A.bg r c) := Rep.cast (Rep.logistic (φ := .f32) b.bgx) fun _ => rfl
theorem sb : Mat (k0_pay11 (F := Ideal) x4) A.sb := Rep.cast (Rep.mul (φ := .f32) b.bgx b.sgb) fun _ => rfl
theorem yb : Mat (k0_pay13 (F := Ideal) x4 x3) A.yb := Rep.cast (Rep.mul (φ := .f32) b.o b.sb) fun _ => rfl
theorem pA : Mat (k0_pay14 (F := Ideal) x2 x9) A.pA :=
  Rep.cast (Rep.matmul (φ₁ := .bf16) (φ₂ := .bf16) dot_S256x1024_S1024x1024_S256x1024_1_0_0_1_n_n none (Rep.self _ b.ya) (square_mat b.wc)) fun _ => rfl
theorem pB : Mat (k0_pay15 (F := Ideal) x4 x3 x10) A.pB :=
  Rep.cast (Rep.matmul (φ₁ := .bf16) (φ₂ := .bf16) dot_S256x1024_S1024x1024_S256x1024_1_0_0_1_n_n none b.yb (square_mat b.wa)) fun _ => rfl
theorem sa : Mat (k0_pay16 (F := Ideal) x5) fun r c => sg (A.ga r c) :=
  Rep.cast (Rep.logistic (φ := .f32) (Rep.ext (φ := .bf16) (ψ := .f32) bitsLt_bf16_f32 (Rep.self _ b.ga))) fun _ => rfl
theorem sc : Mat (k0_pay17 (F := Ideal) x6) fun r c => sg (A.gb r c) :=
  Rep.cast (Rep.logistic (φ := .f32) (Rep.ext (φ := .bf16) (ψ := .f32) bitsLt_bf16_f32 (Rep.self _ b.gb))) fun _ => rfl
theorem mg : Mat (mgV x2 x3 x4 x5 x6 x9 x10) A.mg :=
  Rep.cast (Rep.add (φ := .f32) (Rep.mul (φ := .f32) b.sa b.pA) (Rep.mul (φ := .f32) b.sc b.pB)) fun _ => rfl
theorem z : Mat (zV x2 x3 x4 x5 x6 x9 x10 x11) A.z :=
  Rep.cast (Rep.matmul (φ₁ := .bf16) (φ₂ := .bf16) dot_S256x1024_S1024x1024_S256x1024_1_0_0_1_n_n none b.mg (square_mat b.wo)) fun _ => rfl
theorem gate_ : Mat (k0_pay21 (F := Ideal) (rowOf x7 2)) fun _ => A.gate := Rep.self _ b.gate
theorem fw_ : Mat (k0_pay25 (F := Ideal) x8) fun _ => A.fw := Rep.self _ b.fw
theorem y2 : Mat (k0_pay22 (F := Ideal) (mgV x2 x3 x4 x5 x6 x9 x10) (k0_pay19 x11) (rowOf x7 2) x0) A.y2 :=
  Rep.cast (Rep.add (φ := .f32) b.x (Rep.mul (φ := .f32) (Mat.repeat_row b.gate_ _) b.z)) fun _ => rfl
theorem root : Mat (rootV x0 x2 x3 x4 x5 x6 x7 x9 x10 x11) fun r _ => rr 1024 (A.y2 r) :=
  Rep.cast (Rep.rsqrt (φ := .f32) (g := fun i => ms 1024 (A.y2 (i 0))) (Rep.cast (Rep.add (φ := .f32) (Rep.div (φ := .f32)
    (Row.col (Mat.sum_rows (φ := .f32) (Rep.mul (φ := .f32) b.y2 b.y2) _ _ _ _) _)
    (Rep.splat (φ := .f32) word_1024) fun _ => by norm_num) (Rep.splat (φ := .f32) word_eps)) fun _ => rfl)
    fun i => ms_pos _ _ (by norm_num)) fun _ => rfl
theorem unit_ : Mat (unitV x0 x2 x3 x4 x5 x6 x7 x9 x10 x11) fun r => unit 1024 (A.y2 r) :=
  Rep.cast (Rep.mul (φ := .f32) b.y2 (Mat.repeat_col b.root _)) fun _ => rfl
theorem err : Mat (k0_pay26 (F := Ideal) (mgV x2 x3 x4 x5 x6 x9 x10) (k0_pay19 x11) (rowOf x7 2) x0 x8 x1) A.err :=
  Rep.cast (Rep.sub (φ := .f32) (Rep.mul (φ := .f32) b.unit_ (Mat.repeat_row b.fw_ _)) b.t) fun _ => rfl
theorem loss : Mat (lossV x0 x1 x2 x3 x4 x5 x6 x7 x8 x9 x10 x11) fun _ _ => (∑ r, ∑ e, A.err r e * A.err r e) * (1 / 2048) :=
  Rep.cast (Rep.mul (φ := .f32) (Row.col (Mat.sum_cols (φ := .f32) (Row.col (Mat.sum_rows (φ := .f32) (Rep.mul (φ := .f32) b.err b.err) _ _ _ _) _) _ _ _ _) _)
    (Rep.splat (φ := .f32) word_half_1024)) fun _ => rfl
theorem dy : Mat (dyV x0 x1 x2 x3 x4 x5 x6 x7 x8 x9 x10 x11) A.dy :=
  Rep.cast (Rep.mul (φ := .f32) b.err (Rep.splat (φ := .f32) word_one_1024)) fun _ => rfl
theorem row0 {p : FVec Ideal S1x1024 .f32} {O : Fin 1 → Fin 1024 → ℝ} (h : Mat p O) :
    Mat (row0V x0 x1 x2 x3 x4 x5 x6 x7 x8 x9 x10 x11 p) fun k c => O k c + ∑ r, A.dy r c * unit 1024 (A.y2 r) c :=
  Rep.cast (Rep.add (φ := .f32) (Rep.self _ h) (Row.row (Mat.sum_cols (φ := .f32) (Rep.mul (φ := .f32) b.dy b.unit_) _ _ _ _) _)) fun _ => rfl
theorem dx2 : Mat (dx2V x0 x1 x2 x3 x4 x5 x6 x7 x8 x9 x10 x11) A.dx2 := by
  have e : Mat (mulf (F := Ideal) (φ := .f32) (dyV x0 x1 x2 x3 x4 x5 x6 x7 x8 x9 x10 x11)
      (broadcastTo S256x1024 (k0_pay25 x8) broadcasts_S1x1024_S256x1024)) A.dxn :=
    Rep.cast (Rep.mul (φ := .f32) b.dy (Mat.repeat_row b.fw_ _)) fun _ => rfl
  exact Rep.cast (Rep.mul (φ := .f32) (Mat.repeat_col b.root _) (Rep.sub (φ := .f32) e (Rep.mul (φ := .f32) b.unit_
    (Mat.repeat_col (Rep.div (φ := .f32) (Row.col (Mat.sum_rows (φ := .f32) (Rep.mul (φ := .f32) e b.unit_) _ _ _ _) _)
      (Rep.splat (φ := .f32) word_1024) fun _ => by norm_num) _)))) fun _ => rfl
theorem row1 {p : FVec Ideal S1x1024 .f32} {O : Fin 1 → Fin 1024 → ℝ} (h : Mat p O) :
    Mat (row1V x0 x1 x2 x3 x4 x5 x6 x7 x8 x9 x10 x11 p) fun k c => O k c + ∑ r, A.dx2 r c * A.z r c :=
  Rep.cast (Rep.add (φ := .f32) (Rep.self _ h) (Row.row (Mat.sum_cols (φ := .f32) (Rep.mul (φ := .f32) b.dx2 b.z) _ _ _ _) _)) fun _ => rfl
theorem row2 {p : FVec Ideal S1x1024 .f32} {O : Fin 1 → Fin 1024 → ℝ} (h : Mat p O) :
    Mat (row2V x0 x1 x2 x3 x4 x5 x6 x7 x8 x9 x10 x11 p) fun k c => O k c + (∑ r, ∑ e, A.err r e * A.err r e) * (1 / 2048) :=
  Rep.cast (Rep.add (φ := .f32) (Rep.self _ h) (Mat.repeat_col (Rep.self _ b.loss) _)) fun _ => rfl
theorem dm : Mat (dmV x0 x1 x2 x3 x4 x5 x6 x7 x8 x9 x10 x11) A.dm :=
  Rep.cast (Rep.matmul (φ₁ := .bf16) (φ₂ := .bf16) dot_S256x1024_S1024x1024_S256x1024_1_1_0_0_n_n none
    (Rep.mul (φ := .f32) b.dx2 (Mat.repeat_row b.gate_ _)) (square_mat b.wo)) fun _ => rfl
theorem dB : Mat (dBV x0 x1 x2 x3 x4 x5 x6 x7 x8 x9 x10 x11) A.dB := Rep.cast (Rep.mul (φ := .f32) b.dm b.sc) fun _ => rfl
theorem dya : Mat (dyaV x0 x1 x2 x3 x4 x5 x6 x7 x8 x9 x10 x11) A.dya :=
  Rep.cast (Rep.matmul (φ₁ := .bf16) (φ₂ := .bf16) dot_S256x1024_S1024x1024_S256x1024_1_1_0_0_n_n none (Rep.mul (φ := .f32) b.dm b.sa) (square_mat b.wc)) fun _ => rfl
theorem dyb : Mat (k0_pay44 (F := Ideal) (dBV x0 x1 x2 x3 x4 x5 x6 x7 x8 x9 x10 x11) x10) A.dyb :=
  Rep.cast (Rep.matmul (φ₁ := .bf16) (φ₂ := .bf16) dot_S256x1024_S1024x1024_S256x1024_1_1_0_0_n_n none b.dB (square_mat b.wa)) fun _ => rfl
theorem dof : Mat (k0_pay46 (F := Ideal) (k0_pay11 x4) (dBV x0 x1 x2 x3 x4 x5 x6 x7 x8 x9 x10 x11) x10) A.do_ :=
  Rep.cast (Rep.mul (φ := .f32) b.dyb b.sb) fun _ => rfl
theorem do_ : Mat (doV x0 x1 x2 x3 x4 x5 x6 x7 x8 x9 x10 x11) A.do_ := b.dof
theorem dbg : Mat (dbgV x0 x1 x2 x3 x4 x5 x6 x7 x8 x9 x10 x11) A.dbg :=
  Rep.cast (Rep.mul (φ := .f32) (Rep.mul (φ := .f32) b.dyb b.o) (Rep.mul (φ := .f32) b.sgb (Rep.add (φ := .f32) (Rep.splat (φ := .f32) word_one)
    (Rep.mul (φ := .f32) b.bgx (Rep.sub (φ := .f32) (Rep.splat (φ := .f32) word_one) b.sgb))))) fun _ => rfl
theorem dga : Mat (dgaV x0 x1 x2 x3 x4 x5 x6 x7 x8 x9 x10 x11) A.dga :=
  Rep.cast (Rep.mul (φ := .f32) (Rep.mul (φ := .f32) b.dm b.pA) (Rep.mul (φ := .f32) b.sa (Rep.sub (φ := .f32) (Rep.splat (φ := .f32) word_one) b.sa))) fun _ => rfl
theorem dgb : Mat (dgbV x0 x1 x2 x3 x4 x5 x6 x7 x8 x9 x10 x11) A.dgb :=
  Rep.cast (Rep.mul (φ := .f32) (Rep.mul (φ := .f32) b.dm b.pB) (Rep.mul (φ := .f32) b.sc (Rep.sub (φ := .f32) (Rep.splat (φ := .f32) word_one) b.sc))) fun _ => rfl
theorem prod : Mat (prodV x0 x1 x2 x3 x4 x5 x6 x7 x8 x9 x10 x11) fun r c => A.do_ r c * A.o r c :=
  Rep.cast (Rep.mul (φ := .f32) b.dof b.o) fun _ => rfl

theorem gates : Mat (gatesV x0 x1 x2 x3 x4 x5 x6 x7 x8 x9 x10 x11) A.gates := fun i => by
  unfold gatesV
  by_cases h : (i 1).val < 1024
  · rw [dif_pos h]
    refine (b.dbg _).trans (congrArg Real.toEReal ?_)
    show A.dbg (i 0) ⟨(i 1).val, h⟩ = A.gates (i 0) (i 1)
    unfold Args.gates; rw [dif_pos h]
  by_cases h' : (i 1).val < 2048
  · rw [dif_neg h, dif_pos h']
    refine (b.dga _).trans (congrArg Real.toEReal ?_)
    show A.dga (i 0) ⟨(i 1).val - 1024, _⟩ = A.gates (i 0) (i 1)
    unfold Args.gates; rw [dif_neg h, dif_pos h']
  · rw [dif_neg h, dif_neg h']
    refine (b.dgb _).trans (congrArg Real.toEReal ?_)
    show A.dgb (i 0) ⟨(i 1).val - 2048, _⟩ = A.gates (i 0) (i 1)
    unfold Args.gates; rw [dif_neg h, dif_neg h']

theorem sums {xo : FVec Ideal S8x1024 .f32} {O : Fin 8 → Fin 1024 → ℝ} (h : Mat xo O) :
    Mat (sumsV x0 x1 x2 x3 x4 x5 x6 x7 x8 x9 x10 x11 xo) fun k c => O k c + ∑ r, A.part k r c := fun i => by
  have hr (k : Fin 8) : Mat (rowOf xo k) fun _ => O k := fun z => h (ix2 k (z 1))
  unfold sumsV
  by_cases e2 : (i 0).val = 2
  · rw [if_pos e2]
    refine (b.row2 (hr 2) _).trans (congrArg Real.toEReal (congrArg₂ _ (congrArg (O · (i 1)) (Fin.ext e2.symm)) ?_))
    exact (Finset.sum_mul _ _ _).trans (Finset.sum_congr rfl fun r _ => (if_pos e2).symm)
  by_cases e1 : (i 0).val = 1
  · rw [if_neg e2, if_pos e1]
    refine (b.row1 (hr 1) _).trans (congrArg Real.toEReal (congrArg₂ _ (congrArg (O · (i 1)) (Fin.ext e1.symm)) ?_))
    exact Finset.sum_congr rfl fun r _ => ((if_neg e2).trans (if_pos e1)).symm
  by_cases e0 : (i 0).val = 0
  · rw [if_neg e2, if_neg e1, if_pos e0]
    refine (b.row0 (hr 0) _).trans (congrArg Real.toEReal (congrArg₂ _ (congrArg (O · (i 1)) (Fin.ext e0.symm)) ?_))
    exact Finset.sum_congr rfl fun r _ => ((if_neg e2).trans ((if_neg e1).trans (if_pos e0))).symm
  · rw [if_neg e2, if_neg e1, if_neg e0]
    refine (h i).trans (congrArg Real.toEReal ?_)
    have z : ∑ r, A.part (i 0) r (i 1) = 0 := Finset.sum_eq_zero fun r _ => (if_neg e2).trans ((if_neg e1).trans (if_neg e0))
    show _ = O (i 0) (i 1) + ∑ r, A.part (i 0) r (i 1)
    rw [z, add_zero]

end Blk

theorem zeros : Mat (k0_pay8 (F := Ideal)) fun _ _ => 0 := Rep.splat (φ := .f32) word_zero

/-! ## The heads' sums -/

section Heads

variable {p : FVec Ideal S256x1024 .f32} {P : Fin 256 → Fin 1024 → ℝ}

theorem head {k : Nat} (hk : 128 * k + 128 ≤ 1024) (hp : Mat p P) (h : S256x1024.Slices ![0, 128 * k] S256x128) :
    Mat (broadcastTo S256x128 (shapeCast S256x1 (shapeCast S256x1 (multiReduction (F := Ideal) (φ := .f32) .add [1] S256
      (extractStridedSlice S256x128 ![0, 128 * k] p h) 0x00000000#32 reduces_S256x128_S256 (.inl rfl) rfl) shapeCasts_S256_S256x1)
      shapeCasts_S256x1_S256x1) broadcasts_S256x1_S256x128) fun r _ => ∑ d : Fin 128, P r ⟨128 * k + d.val, by omega⟩ :=
  Rep.cast (Mat.repeat_col (Rep.self _ (Row.col (Mat.sum_rows (φ := .f32) (Mat.cols (n := 256) (m := 1024) (k := 128) hp hk h) _ _ _ _) _)) _) fun _ => rfl

theorem head1 (hp : Mat p P) : Ten (k0_pay51 (F := Ideal) p) fun _ r _ => ∑ d : Fin 128, P r ⟨128 * 1 + d.val, by omega⟩ :=
  Mat.stack (head (k := 1) (by decide) hp slices_S256x1024_o0_128_S256x128) _
theorem head2 (hp : Mat p P) : Ten (k0_pay52 (F := Ideal) p) fun _ r _ => ∑ d : Fin 128, P r ⟨128 * 2 + d.val, by omega⟩ :=
  Mat.stack (head (k := 2) (by decide) hp slices_S256x1024_o0_256_S256x128) _
theorem head3 (hp : Mat p P) : Ten (k0_pay53 (F := Ideal) p) fun _ r _ => ∑ d : Fin 128, P r ⟨128 * 3 + d.val, by omega⟩ :=
  Mat.stack (head (k := 3) (by decide) hp slices_S256x1024_o0_384_S256x128) _
theorem head4 (hp : Mat p P) : Ten (k0_pay54 (F := Ideal) p) fun _ r _ => ∑ d : Fin 128, P r ⟨128 * 4 + d.val, by omega⟩ :=
  Mat.stack (head (k := 4) (by decide) hp slices_S256x1024_o0_512_S256x128) _
theorem head5 (hp : Mat p P) : Ten (k0_pay1 (k0_pay55 (F := Ideal) p)) fun _ r _ => ∑ d : Fin 128, P r ⟨128 * 5 + d.val, by omega⟩ :=
  Mat.stack (head (k := 5) (by decide) hp slices_S256x1024_o0_640_S256x128) _
theorem head6 (hp : Mat p P) : Ten (k0_pay2 (F := Ideal) p) fun _ r _ => ∑ d : Fin 128, P r ⟨128 * 6 + d.val, by omega⟩ :=
  Mat.stack (head (k := 6) (by decide) hp slices_S256x1024_o0_768_S256x128) _
theorem head7 (hp : Mat p P) : Ten (k0_pay3 (F := Ideal) p) fun _ r _ => ∑ d : Fin 128, P r ⟨128 * 7 + d.val, by omega⟩ :=
  Mat.stack (head (k := 7) (by decide) hp slices_S256x1024_o0_896_S256x128) _

variable {v7 : FVec Ideal S256x1024 .f32} {v8 : FVec Ideal S256x1024 .f32} {v118 : FVec Ideal S256x1024 .bf16} {w : FVec Ideal S8x128x1024 .bf16}

theorem head0 (hp : Mat (k0_pay49 v7 v8 v118 w) P) : Ten (k0_pay50 (F := Ideal) v7 v8 v118 w) fun _ r _ => ∑ d : Fin 128, P r ⟨128 * 0 + d.val, by omega⟩ :=
  Mat.stack (head (k := 0) (by decide) hp slices_S256x1024_o0_0_S256x128) _

end Heads

end Cert.MergePay

end
-- ==== Proof.MergeBody.lean ====
/-
  The body of the merge and the loss at each of its points: what it leaves in its windows.
-/
module

public import proofs.«01_k».proof.Proof.Windows
public import proofs.«01_k».proof.Proof.Gen.MergeIdeal.Frame
public import proofs.«01_k».proof.Proof.MergePay

@[expose] public section

set_option maxRecDepth 16384

noncomputable section

namespace Cert.MergeBody

open Cert.MergeIdeal Cert.MergeIdeal.Gen Cert.MergePay Cert.Merge Cert.Windows
open Idealize.ShloMosaic hiding ix1 ix2 ix3
open Idealize.ShloMosaic.TcCoe Idealize.SL.Sem Idealize.ShloMosaic.ValueIdx

/-! ## Stores block by block -/

theorem cols_stored (v : View sig .tc .vmem S256x3072 .bf16) (f) (p0 p2 p1 : FVec Ideal S256x1024 .bf16) :
    v.read (Elt Ideal) (v.writes (Elt Ideal) f (⟨Rect.unit ![0, 0] ![256, 1024] inb_S256x3072_S256x1024_0_0, p0⟩
      :: ⟨Rect.unit ![0, 2048] ![256, 1024] inb_S256x3072_S256x1024_0_2048, p2⟩
      :: ⟨Rect.unit ![0, 1024] ![256, 1024] inb_S256x3072_S256x1024_0_1024, p1⟩ :: []))
      = fun y => if h : (y 1).val < 1024 then p0 (ix2 (y 0) ⟨(y 1).val, h⟩)
          else if h' : (y 1).val < 2048 then p1 (ix2 (y 0) ⟨(y 1).val - 1024, by omega⟩)
          else p2 (ix2 (y 0) ⟨(y 1).val - 2048, by have := (y 1).isLt; have e : S256x3072.size 1 = 3072 := rfl; omega⟩) := by
  funext y
  have hy : (y 1).val < 3072 := (y 1).isLt
  by_cases h : (y 1).val < 1024
  · rw [dif_pos h]
    exact View.read_writes_cons_unit_of_mem v f _ _ _ y (ix2 (y 0) ⟨(y 1).val, h⟩) rfl fun a => match a with
      | ⟨0, _⟩ => (Nat.zero_add _).symm
      | ⟨1, _⟩ => (Nat.zero_add _).symm
  rw [dif_neg h, View.read_writes_cons_unit_of_not_mem v f _ _ _ y rfl 1 (.inr (show 0 + 1024 ≤ (y 1).val by omega))]
  by_cases h' : (y 1).val < 2048
  · rw [dif_pos h', View.read_writes_cons_unit_of_not_mem v f _ _ _ y rfl 1 (.inl (show (y 1).val < 2048 by omega))]
    exact View.read_writes_cons_unit_of_mem v f _ _ _ y (ix2 (y 0) ⟨(y 1).val - 1024, by omega⟩) rfl fun a => match a with
      | ⟨0, _⟩ => (Nat.zero_add _).symm
      | ⟨1, _⟩ => show (y 1).val = 1024 + ((y 1).val - 1024) by omega
  · rw [dif_neg h']
    exact View.read_writes_cons_unit_of_mem v f _ _ _ y (ix2 (y 0) ⟨(y 1).val - 2048, by omega⟩) rfl fun a => match a with
      | ⟨0, _⟩ => (Nat.zero_add _).symm
      | ⟨1, _⟩ => show (y 1).val = 2048 + ((y 1).val - 2048) by omega

theorem heads_stored (v : View sig .tc .vmem S8x256x128 .f32) (f) (p7 p6 p5 p4 p3 p2 p1 p0 : FVec Ideal S1x256x128 .f32) :
    v.read (Elt Ideal) (v.writes (Elt Ideal) f (⟨Rect.unit ![7, 0, 0] ![1, 256, 128] inb_S8x256x128_S1x256x128_7_0_0, p7⟩ :: ⟨Rect.unit ![6, 0, 0] ![1, 256, 128] inb_S8x256x128_S1x256x128_6_0_0, p6⟩ :: ⟨Rect.unit ![5, 0, 0] ![1, 256, 128] inb_S8x256x128_S1x256x128_5_0_0, p5⟩ :: ⟨Rect.unit ![4, 0, 0] ![1, 256, 128] inb_S8x256x128_S1x256x128_4_0_0, p4⟩ :: ⟨Rect.unit ![3, 0, 0] ![1, 256, 128] inb_S8x256x128_S1x256x128_3_0_0, p3⟩ :: ⟨Rect.unit ![2, 0, 0] ![1, 256, 128] inb_S8x256x128_S1x256x128_2_0_0, p2⟩ :: ⟨Rect.unit ![1, 0, 0] ![1, 256, 128] inb_S8x256x128_S1x256x128_1_0_0, p1⟩ :: ⟨Rect.unit ![0, 0, 0] ![1, 256, 128] inb_S8x256x128_S1x256x128_0_0_0, p0⟩ :: []))
      = fun y => if (y 0).val = 7 then p7 (ix3 0 (y 1) (y 2)) else if (y 0).val = 6 then p6 (ix3 0 (y 1) (y 2)) else if (y 0).val = 5 then p5 (ix3 0 (y 1) (y 2)) else if (y 0).val = 4 then p4 (ix3 0 (y 1) (y 2)) else if (y 0).val = 3 then p3 (ix3 0 (y 1) (y 2)) else if (y 0).val = 2 then p2 (ix3 0 (y 1) (y 2)) else if (y 0).val = 1 then p1 (ix3 0 (y 1) (y 2)) else p0 (ix3 0 (y 1) (y 2)) := by
  funext y
  have hy : (y 0).val < 8 := (y 0).isLt
  simp only [head_stored]
  split_ifs <;> first | rfl | omega

/-! ## Rows read after the fill, past the rows stored before -/

theorem filled0 (v : View sig .tc .vmem S8x1024 .f32) (Z : FVec Ideal S8x1024 .f32) :
    (v.readCov (Val := Elt Ideal) (⟨Rect.unit (s := S8x1024) ![0, 0] ![8, 1024] inb_S8x1024_S8x1024_0_0, Z⟩ :: [])
      (Rect.unit (s := S8x1024) ![0, 0] ![1, 1024] inb_S8x1024_S1x1024_0_0).toLoadRect : FVec Ideal S1x1024 .f32) = rowOf Z 0 := by
  rw [View.readCov_fill (s := S8x1024) _ _ _ _ _ (by decide)]
  exact ld_row Z 0 _

theorem filled1 (v : View sig .tc .vmem S8x1024 .f32) (Z : FVec Ideal S8x1024 .f32) (p0 : FVec Ideal S1x1024 .f32) :
    (v.readCov (Val := Elt Ideal) (⟨Rect.unit (s := S8x1024) ![0, 0] ![1, 1024] inb_S8x1024_S1x1024_0_0, p0⟩ :: ⟨Rect.unit (s := S8x1024) ![0, 0] ![8, 1024] inb_S8x1024_S8x1024_0_0, Z⟩ :: [])
      (Rect.unit (s := S8x1024) ![1, 0] ![1, 1024] inb_S8x1024_S1x1024_1_0).toLoadRect : FVec Ideal S1x1024 .f32) = rowOf Z 1 := by
  rw [View.readCov_skip _ _ _ _ _ (by rfl)]
  rw [View.readCov_fill (s := S8x1024) _ _ _ _ _ (by decide)]
  exact ld_row Z 1 _

theorem filled2 (v : View sig .tc .vmem S8x1024 .f32) (Z : FVec Ideal S8x1024 .f32) (p1 p0 : FVec Ideal S1x1024 .f32) :
    (v.readCov (Val := Elt Ideal) (⟨Rect.unit (s := S8x1024) ![1, 0] ![1, 1024] inb_S8x1024_S1x1024_1_0, p1⟩ :: ⟨Rect.unit (s := S8x1024) ![0, 0] ![1, 1024] inb_S8x1024_S1x1024_0_0, p0⟩ :: ⟨Rect.unit (s := S8x1024) ![0, 0] ![8, 1024] inb_S8x1024_S8x1024_0_0, Z⟩ :: [])
      (Rect.unit (s := S8x1024) ![2, 0] ![1, 1024] inb_S8x1024_S1x1024_2_0).toLoadRect : FVec Ideal S1x1024 .f32) = rowOf Z 2 := by
  rw [View.readCov_skip _ _ _ _ _ (by rfl)]
  rw [View.readCov_skip _ _ _ _ _ (by rfl)]
  rw [View.readCov_fill (s := S8x1024) _ _ _ _ _ (by decide)]
  exact ld_row Z 2 _

section Heads

variable (x0 x1 : FVec Ideal S256x1024 .f32) (x2 : FVec Ideal S256x1024 .bf16) (x3 : FVec Ideal S256x1024 .f32)
  (x4 x5 x6 : FVec Ideal S256x1024 .bf16) (x7 : FVec Ideal S8x1024 .f32) (x8 : FVec Ideal S1x1024 .f32)
  (x9 x10 x11 : FVec Ideal S8x128x1024 .bf16)

/-- The heads' sums, one block each. -/
def deltaV : FVec Ideal S8x256x128 .f32 := fun y =>
  if (y 0).val = 7 then k0_pay3 (prodV x0 x1 x2 x3 x4 x5 x6 x7 x8 x9 x10 x11) (ix3 0 (y 1) (y 2)) else if (y 0).val = 6 then k0_pay2 (prodV x0 x1 x2 x3 x4 x5 x6 x7 x8 x9 x10 x11) (ix3 0 (y 1) (y 2)) else if (y 0).val = 5 then k0_pay1 (k0_pay55 (prodV x0 x1 x2 x3 x4 x5 x6 x7 x8 x9 x10 x11)) (ix3 0 (y 1) (y 2)) else if (y 0).val = 4 then k0_pay54 (prodV x0 x1 x2 x3 x4 x5 x6 x7 x8 x9 x10 x11) (ix3 0 (y 1) (y 2)) else if (y 0).val = 3 then k0_pay53 (prodV x0 x1 x2 x3 x4 x5 x6 x7 x8 x9 x10 x11) (ix3 0 (y 1) (y 2)) else if (y 0).val = 2 then k0_pay52 (prodV x0 x1 x2 x3 x4 x5 x6 x7 x8 x9 x10 x11) (ix3 0 (y 1) (y 2)) else if (y 0).val = 1 then k0_pay51 (prodV x0 x1 x2 x3 x4 x5 x6 x7 x8 x9 x10 x11) (ix3 0 (y 1) (y 2)) else k0_pay50 (k0_pay11 x4) x3 (dBV x0 x1 x2 x3 x4 x5 x6 x7 x8 x9 x10 x11) x10 (ix3 0 (y 1) (y 2))

theorem delta {A : Args 256} (b : Blk x0 x1 x2 x3 x4 x5 x6 x7 x8 x9 x10 x11 A) : Ten (deltaV x0 x1 x2 x3 x4 x5 x6 x7 x8 x9 x10 x11) fun h r _ => A.delta h r := fun i => by
  have hi : (i 0).val < 8 := (i 0).isLt
  have key (k : Fin 8) (e : (i 0).val = k.val) (x : FVec Ideal S1x256x128 .f32)
      (hx : Ten x fun _ r _ => ∑ d : Fin 128, A.do_ r ⟨128 * k.val + d.val, by omega⟩ * A.o r ⟨128 * k.val + d.val, by omega⟩) :
      x (ix3 0 (i 1) (i 2)) = ((A.delta (i 0) (i 1) : ℝ) : EReal) :=
    (hx _).trans (congrArg (fun h => ((A.delta h (i 1) : ℝ) : EReal)) (Fin.ext e.symm : k = i 0))
  unfold deltaV
  split_ifs with e7 e6 e5 e4 e3 e2 e1
  · exact key 7 e7 _ (head7 b.prod)
  · exact key 6 e6 _ (head6 b.prod)
  · exact key 5 e5 _ (head5 b.prod)
  · exact key 4 e4 _ (head4 b.prod)
  · exact key 3 e3 _ (head3 b.prod)
  · exact key 2 e2 _ (head2 b.prod)
  · exact key 1 e1 _ (head1 b.prod)
  · exact key 0 (show (i 0).val = 0 by omega) _ (head0 b.prod)

end Heads

section Body

variable (c : Dev nD) (i : grid0.Coords)
  (a1 : Memref sig .tc .vmem S256x1024 .f32) (h1 : a1.IsWhole)
  (a2 : Memref sig .tc .vmem S256x1024 .f32) (h2 : a2.IsWhole)
  (a3 : Memref sig .tc .vmem S256x1024 .bf16) (h3 : a3.IsWhole)
  (a4 : Memref sig .tc .vmem S256x1024 .f32) (h4 : a4.IsWhole)
  (a5 : Memref sig .tc .vmem S256x1024 .bf16) (h5 : a5.IsWhole)
  (a6 : Memref sig .tc .vmem S256x1024 .bf16) (h6 : a6.IsWhole)
  (a7 : Memref sig .tc .vmem S256x1024 .bf16) (h7 : a7.IsWhole)
  (a8 : Memref sig .tc .vmem S8x1024 .f32) (h8 : a8.IsWhole)
  (a9 : Memref sig .tc .vmem S1x1024 .f32) (h9 : a9.IsWhole)
  (a10 : Memref sig .tc .vmem S8x128x1024 .bf16) (h10 : a10.IsWhole)
  (a11 : Memref sig .tc .vmem S8x128x1024 .bf16) (h11 : a11.IsWhole)
  (a12 : Memref sig .tc .vmem S8x128x1024 .bf16) (h12 : a12.IsWhole)
  (a13 : Memref sig .tc .vmem S256x1024 .f32) (h13 : a13.IsWhole)
  (a14 : Memref sig .tc .vmem S256x1024 .bf16) (h14 : a14.IsWhole)
  (a15 : Memref sig .tc .vmem S8x256x128 .f32) (h15 : a15.IsWhole)
  (a16 : Memref sig .tc .vmem S256x3072 .bf16) (h16 : a16.IsWhole)
  (a17 : Memref sig .tc .vmem S256x1024 .f32) (h17 : a17.IsWhole)
  (a19 : Memref sig .tc .vmem S8x1024 .f32) (h19 : a19.IsWhole)
  (a20 : Memref sig .tc .vmem S3x1024x1024 .f32) (h20 : a20.IsWhole)
  (a21 : Memref sig .tc .vmem S1024x1024 .bf16) (h21 : a21.IsWhole)
  (x0 : FVec Ideal S256x1024 .f32)
  (x1 : FVec Ideal S256x1024 .f32)
  (x2 : FVec Ideal S256x1024 .bf16)
  (x3 : FVec Ideal S256x1024 .f32)
  (x4 : FVec Ideal S256x1024 .bf16)
  (x5 : FVec Ideal S256x1024 .bf16)
  (x6 : FVec Ideal S256x1024 .bf16)
  (x7 : FVec Ideal S8x1024 .f32)
  (x8 : FVec Ideal S1x1024 .f32)
  (x9 : FVec Ideal S8x128x1024 .bf16)
  (x10 : FVec Ideal S8x128x1024 .bf16)
  (x11 : FVec Ideal S8x128x1024 .bf16)
  (xo : FVec Ideal S8x1024 .f32) (xs : FVec Ideal S3x1024x1024 .f32)

set_option maxHeartbeats 1600000 in
theorem dyaA (hc0 hc1) : out0_A_12 (F := Ideal) c i a1 h1 a2 h2 a3 h3 a4 h4 a5 h5 a6 h6 a7 h7 a8 h8 a9 h9 a10 h10 a11 h11 a12 h12 a13 h13 a14 h14 a15 h15 a16 h16 a17 h17 a19 h19 a20 h20 a21 h21 hc0 hc1 x0 x1 x2 x3 x4 x5 x6 x7 x8 x9 x10 x11
    = dyaV x0 x1 x2 x3 x4 x5 x6 x7 x8 x9 x10 x11 := by
  unfold out0_A_12
  rw [View.read_writes_eq_canon _ _ _ (fun _ => cover0_A_12 (F := Ideal) ..)]
  unfold kernelRun0_A
  dsimp only
  sl_unfold_words
  rw [View.canon_unit_zero hz]
  simp only [View.readAt_eq_ld, Memref.IsWhole.read_unread, ld_whole, ld_whole3]
  simp only [ld_row]
  rfl

set_option maxHeartbeats 1600000 in
theorem doA (hc0 hc1) : out0_A_13 (F := Ideal) c i a1 h1 a2 h2 a3 h3 a4 h4 a5 h5 a6 h6 a7 h7 a8 h8 a9 h9 a10 h10 a11 h11 a12 h12 a13 h13 a14 h14 a15 h15 a16 h16 a17 h17 a19 h19 a20 h20 a21 h21 hc0 hc1 x0 x1 x2 x3 x4 x5 x6 x7 x8 x9 x10 x11
    = doV x0 x1 x2 x3 x4 x5 x6 x7 x8 x9 x10 x11 := by
  unfold out0_A_13
  rw [View.read_writes_eq_canon _ _ _ (fun _ => cover0_A_13 (F := Ideal) ..)]
  unfold kernelRun0_A
  dsimp only
  sl_unfold_words
  rw [View.canon_unit_zero hz]
  simp only [View.readAt_eq_ld, Memref.IsWhole.read_unread, ld_whole, ld_whole3]
  simp only [ld_row]
  rfl

set_option maxHeartbeats 1600000 in
theorem dx2A (hc0 hc1) : out0_A_16 (F := Ideal) c i a1 h1 a2 h2 a3 h3 a4 h4 a5 h5 a6 h6 a7 h7 a8 h8 a9 h9 a10 h10 a11 h11 a12 h12 a13 h13 a14 h14 a15 h15 a16 h16 a17 h17 a19 h19 a20 h20 a21 h21 hc0 hc1 x0 x1 x2 x3 x4 x5 x6 x7 x8 x9 x10 x11
    = dx2V x0 x1 x2 x3 x4 x5 x6 x7 x8 x9 x10 x11 := by
  unfold out0_A_16
  rw [View.read_writes_eq_canon _ _ _ (fun _ => cover0_A_16 (F := Ideal) ..)]
  unfold kernelRun0_A
  dsimp only
  sl_unfold_words
  rw [View.canon_unit_zero hz]
  simp only [View.readAt_eq_ld, Memref.IsWhole.read_unread, ld_whole, ld_whole3]
  simp only [ld_row]
  rfl

set_option maxHeartbeats 1600000 in
theorem deltaA (hc0 hc1) : out0_A_14 (F := Ideal) c i a1 h1 a2 h2 a3 h3 a4 h4 a5 h5 a6 h6 a7 h7 a8 h8 a9 h9 a10 h10 a11 h11 a12 h12 a13 h13 a14 h14 a15 h15 a16 h16 a17 h17 a19 h19 a20 h20 a21 h21 hc0 hc1 x0 x1 x2 x3 x4 x5 x6 x7 x8 x9 x10 x11
    = deltaV x0 x1 x2 x3 x4 x5 x6 x7 x8 x9 x10 x11 := by
  unfold out0_A_14 kernelRun0_A
  dsimp only
  sl_unfold_words
  simp only [View.readAt_eq_ld, Memref.IsWhole.read_unread, ld_whole, ld_whole3]
  simp only [ld_row]
  rw [heads_stored]
  rfl

set_option maxHeartbeats 1600000 in
theorem gatesA (hc0 hc1) : out0_A_15 (F := Ideal) c i a1 h1 a2 h2 a3 h3 a4 h4 a5 h5 a6 h6 a7 h7 a8 h8 a9 h9 a10 h10 a11 h11 a12 h12 a13 h13 a14 h14 a15 h15 a16 h16 a17 h17 a19 h19 a20 h20 a21 h21 hc0 hc1 x0 x1 x2 x3 x4 x5 x6 x7 x8 x9 x10 x11
    = gatesV x0 x1 x2 x3 x4 x5 x6 x7 x8 x9 x10 x11 := by
  unfold out0_A_15 kernelRun0_A
  dsimp only
  sl_unfold_words
  simp only [View.readAt_eq_ld, Memref.IsWhole.read_unread, ld_whole, ld_whole3]
  simp only [ld_row]
  rw [cols_stored]
  rfl

set_option maxHeartbeats 1600000 in
theorem smallA (hc0 hc1) : out0_A_17 (F := Ideal) c i a1 h1 a2 h2 a3 h3 a4 h4 a5 h5 a6 h6 a7 h7 a8 h8 a9 h9 a10 h10 a11 h11 a12 h12 a13 h13 a14 h14 a15 h15 a16 h16 a17 h17 a19 h19 a20 h20 a21 h21 hc0 hc1 x0 x1 x2 x3 x4 x5 x6 x7 x8 x9 x10 x11
    = sumsV x0 x1 x2 x3 x4 x5 x6 x7 x8 x9 x10 x11 (k0_pay8 (F := Ideal)) := by
  unfold out0_A_17 kernelRun0_A
  dsimp only
  sl_unfold_words
  simp only [View.readAt_eq_ld, Memref.IsWhole.read_unread, ld_whole, ld_whole3]
  simp only [ld_row]
  rw [filled2, filled1, filled0]
  simp only [row_stored, View.read_writes_full (s := S8x1024)]
  rfl

set_option maxHeartbeats 1600000 in
theorem dyaB (hc0 hc1) : out0_B_12 (F := Ideal) c i a1 h1 a2 h2 a3 h3 a4 h4 a5 h5 a6 h6 a7 h7 a8 h8 a9 h9 a10 h10 a11 h11 a12 h12 a13 h13 a14 h14 a15 h15 a16 h16 a17 h17 a19 h19 a20 h20 a21 h21 hc0 hc1 x0 x1 x2 x3 x4 x5 x6 x7 x8 x9 x10 x11 xo xs
    = dyaV x0 x1 x2 x3 x4 x5 x6 x7 x8 x9 x10 x11 := by
  unfold out0_B_12
  rw [View.read_writes_eq_canon _ _ _ (fun _ => cover0_B_12 (F := Ideal) ..)]
  unfold kernelRun0_B
  dsimp only
  sl_unfold_words
  rw [View.canon_unit_zero hz]
  simp only [View.readAt_eq_ld, Memref.IsWhole.read_unread, ld_whole, ld_whole3]
  simp only [ld_row]
  rfl

set_option maxHeartbeats 1600000 in
theorem doB (hc0 hc1) : out0_B_13 (F := Ideal) c i a1 h1 a2 h2 a3 h3 a4 h4 a5 h5 a6 h6 a7 h7 a8 h8 a9 h9 a10 h10 a11 h11 a12 h12 a13 h13 a14 h14 a15 h15 a16 h16 a17 h17 a19 h19 a20 h20 a21 h21 hc0 hc1 x0 x1 x2 x3 x4 x5 x6 x7 x8 x9 x10 x11 xo xs
    = doV x0 x1 x2 x3 x4 x5 x6 x7 x8 x9 x10 x11 := by
  unfold out0_B_13
  rw [View.read_writes_eq_canon _ _ _ (fun _ => cover0_B_13 (F := Ideal) ..)]
  unfold kernelRun0_B
  dsimp only
  sl_unfold_words
  rw [View.canon_unit_zero hz]
  simp only [View.readAt_eq_ld, Memref.IsWhole.read_unread, ld_whole, ld_whole3]
  simp only [ld_row]
  rfl

set_option maxHeartbeats 1600000 in
theorem dx2B (hc0 hc1) : out0_B_16 (F := Ideal) c i a1 h1 a2 h2 a3 h3 a4 h4 a5 h5 a6 h6 a7 h7 a8 h8 a9 h9 a10 h10 a11 h11 a12 h12 a13 h13 a14 h14 a15 h15 a16 h16 a17 h17 a19 h19 a20 h20 a21 h21 hc0 hc1 x0 x1 x2 x3 x4 x5 x6 x7 x8 x9 x10 x11 xo xs
    = dx2V x0 x1 x2 x3 x4 x5 x6 x7 x8 x9 x10 x11 := by
  unfold out0_B_16
  rw [View.read_writes_eq_canon _ _ _ (fun _ => cover0_B_16 (F := Ideal) ..)]
  unfold kernelRun0_B
  dsimp only
  sl_unfold_words
  rw [View.canon_unit_zero hz]
  simp only [View.readAt_eq_ld, Memref.IsWhole.read_unread, ld_whole, ld_whole3]
  simp only [ld_row]
  rfl

set_option maxHeartbeats 1600000 in
theorem deltaB (hc0 hc1) : out0_B_14 (F := Ideal) c i a1 h1 a2 h2 a3 h3 a4 h4 a5 h5 a6 h6 a7 h7 a8 h8 a9 h9 a10 h10 a11 h11 a12 h12 a13 h13 a14 h14 a15 h15 a16 h16 a17 h17 a19 h19 a20 h20 a21 h21 hc0 hc1 x0 x1 x2 x3 x4 x5 x6 x7 x8 x9 x10 x11 xo xs
    = deltaV x0 x1 x2 x3 x4 x5 x6 x7 x8 x9 x10 x11 := by
  unfold out0_B_14 kernelRun0_B
  dsimp only
  sl_unfold_words
  simp only [View.readAt_eq_ld, Memref.IsWhole.read_unread, ld_whole, ld_whole3]
  simp only [ld_row]
  rw [heads_stored]
  rfl

set_option maxHeartbeats 1600000 in
theorem gatesB (hc0 hc1) : out0_B_15 (F := Ideal) c i a1 h1 a2 h2 a3 h3 a4 h4 a5 h5 a6 h6 a7 h7 a8 h8 a9 h9 a10 h10 a11 h11 a12 h12 a13 h13 a14 h14 a15 h15 a16 h16 a17 h17 a19 h19 a20 h20 a21 h21 hc0 hc1 x0 x1 x2 x3 x4 x5 x6 x7 x8 x9 x10 x11 xo xs
    = gatesV x0 x1 x2 x3 x4 x5 x6 x7 x8 x9 x10 x11 := by
  unfold out0_B_15 kernelRun0_B
  dsimp only
  sl_unfold_words
  simp only [View.readAt_eq_ld, Memref.IsWhole.read_unread, ld_whole, ld_whole3]
  simp only [ld_row]
  rw [cols_stored]
  rfl

set_option maxHeartbeats 1600000 in
theorem smallB (hc0 hc1) : out0_B_17 (F := Ideal) c i a1 h1 a2 h2 a3 h3 a4 h4 a5 h5 a6 h6 a7 h7 a8 h8 a9 h9 a10 h10 a11 h11 a12 h12 a13 h13 a14 h14 a15 h15 a16 h16 a17 h17 a19 h19 a20 h20 a21 h21 hc0 hc1 x0 x1 x2 x3 x4 x5 x6 x7 x8 x9 x10 x11 xo xs
    = sumsV x0 x1 x2 x3 x4 x5 x6 x7 x8 x9 x10 x11 xo := by
  unfold out0_B_17 kernelRun0_B
  dsimp only
  sl_unfold_words
  simp only [View.readAt_eq_ld, Memref.IsWhole.read_unread, ld_whole, ld_whole3]
  simp only [ld_row]
  simp only [row_stored, View.writes_nil, Memref.IsWhole.read_unread]
  rfl

set_option maxHeartbeats 1600000 in
theorem dyaC (hc0 hc1) : out0_C_12 (F := Ideal) c i a1 h1 a2 h2 a3 h3 a4 h4 a5 h5 a6 h6 a7 h7 a8 h8 a9 h9 a10 h10 a11 h11 a12 h12 a13 h13 a14 h14 a15 h15 a16 h16 a17 h17 a19 h19 a20 h20 a21 h21 hc0 hc1 x0 x1 x2 x3 x4 x5 x6 x7 x8 x9 x10 x11 xo xs
    = dyaV x0 x1 x2 x3 x4 x5 x6 x7 x8 x9 x10 x11 := by
  unfold out0_C_12
  rw [View.read_writes_eq_canon _ _ _ (fun _ => cover0_C_12 (F := Ideal) ..)]
  unfold kernelRun0_C
  dsimp only
  sl_unfold_words
  rw [View.canon_unit_zero hz]
  simp only [View.readAt_eq_ld, Memref.IsWhole.read_unread, ld_whole, ld_whole3]
  simp only [ld_row]
  rfl

set_option maxHeartbeats 1600000 in
theorem doC (hc0 hc1) : out0_C_13 (F := Ideal) c i a1 h1 a2 h2 a3 h3 a4 h4 a5 h5 a6 h6 a7 h7 a8 h8 a9 h9 a10 h10 a11 h11 a12 h12 a13 h13 a14 h14 a15 h15 a16 h16 a17 h17 a19 h19 a20 h20 a21 h21 hc0 hc1 x0 x1 x2 x3 x4 x5 x6 x7 x8 x9 x10 x11 xo xs
    = doV x0 x1 x2 x3 x4 x5 x6 x7 x8 x9 x10 x11 := by
  unfold out0_C_13
  rw [View.read_writes_eq_canon _ _ _ (fun _ => cover0_C_13 (F := Ideal) ..)]
  unfold kernelRun0_C
  dsimp only
  sl_unfold_words
  rw [View.canon_unit_zero hz]
  simp only [View.readAt_eq_ld, Memref.IsWhole.read_unread, ld_whole, ld_whole3]
  simp only [ld_row]
  rfl

set_option maxHeartbeats 1600000 in
theorem dx2C (hc0 hc1) : out0_C_16 (F := Ideal) c i a1 h1 a2 h2 a3 h3 a4 h4 a5 h5 a6 h6 a7 h7 a8 h8 a9 h9 a10 h10 a11 h11 a12 h12 a13 h13 a14 h14 a15 h15 a16 h16 a17 h17 a19 h19 a20 h20 a21 h21 hc0 hc1 x0 x1 x2 x3 x4 x5 x6 x7 x8 x9 x10 x11 xo xs
    = dx2V x0 x1 x2 x3 x4 x5 x6 x7 x8 x9 x10 x11 := by
  unfold out0_C_16
  rw [View.read_writes_eq_canon _ _ _ (fun _ => cover0_C_16 (F := Ideal) ..)]
  unfold kernelRun0_C
  dsimp only
  sl_unfold_words
  rw [View.canon_unit_zero hz]
  simp only [View.readAt_eq_ld, Memref.IsWhole.read_unread, ld_whole, ld_whole3]
  simp only [ld_row]
  rfl

set_option maxHeartbeats 1600000 in
theorem deltaC (hc0 hc1) : out0_C_14 (F := Ideal) c i a1 h1 a2 h2 a3 h3 a4 h4 a5 h5 a6 h6 a7 h7 a8 h8 a9 h9 a10 h10 a11 h11 a12 h12 a13 h13 a14 h14 a15 h15 a16 h16 a17 h17 a19 h19 a20 h20 a21 h21 hc0 hc1 x0 x1 x2 x3 x4 x5 x6 x7 x8 x9 x10 x11 xo xs
    = deltaV x0 x1 x2 x3 x4 x5 x6 x7 x8 x9 x10 x11 := by
  unfold out0_C_14 kernelRun0_C
  dsimp only
  sl_unfold_words
  simp only [View.readAt_eq_ld, Memref.IsWhole.read_unread, ld_whole, ld_whole3]
  simp only [ld_row]
  rw [heads_stored]
  rfl

set_option maxHeartbeats 1600000 in
theorem gatesC (hc0 hc1) : out0_C_15 (F := Ideal) c i a1 h1 a2 h2 a3 h3 a4 h4 a5 h5 a6 h6 a7 h7 a8 h8 a9 h9 a10 h10 a11 h11 a12 h12 a13 h13 a14 h14 a15 h15 a16 h16 a17 h17 a19 h19 a20 h20 a21 h21 hc0 hc1 x0 x1 x2 x3 x4 x5 x6 x7 x8 x9 x10 x11 xo xs
    = gatesV x0 x1 x2 x3 x4 x5 x6 x7 x8 x9 x10 x11 := by
  unfold out0_C_15 kernelRun0_C
  dsimp only
  sl_unfold_words
  simp only [View.readAt_eq_ld, Memref.IsWhole.read_unread, ld_whole, ld_whole3]
  simp only [ld_row]
  rw [cols_stored]
  rfl

set_option maxHeartbeats 1600000 in
theorem smallC (hc0 hc1) : out0_C_17 (F := Ideal) c i a1 h1 a2 h2 a3 h3 a4 h4 a5 h5 a6 h6 a7 h7 a8 h8 a9 h9 a10 h10 a11 h11 a12 h12 a13 h13 a14 h14 a15 h15 a16 h16 a17 h17 a19 h19 a20 h20 a21 h21 hc0 hc1 x0 x1 x2 x3 x4 x5 x6 x7 x8 x9 x10 x11 xo xs
    = sumsV x0 x1 x2 x3 x4 x5 x6 x7 x8 x9 x10 x11 xo := by
  unfold out0_C_17 kernelRun0_C
  dsimp only
  sl_unfold_words
  simp only [View.readAt_eq_ld, Memref.IsWhole.read_unread, ld_whole, ld_whole3]
  simp only [ld_row]
  simp only [row_stored, View.writes_nil, Memref.IsWhole.read_unread]
  rfl

end Body

end Cert.MergeBody

end
-- ==== Proof.MergeKernel.lean ====
/-
  The merge and the loss of the kernel, over the reals: what each point leaves, and the six arrays.
-/
module

public import proofs.«01_k».proof.Proof.MergeBody
public import proofs.«01_k».proof.Proof.Line
public import proofs.«01_k».proof.Proof.InxReal

@[expose] public section

set_option maxRecDepth 16384

noncomputable section

namespace Cert.MergeKernel

open Cert.MergeIdeal Cert.MergeIdeal.Gen Cert.Merge Cert.Rms Cert.MergePay Cert.MergeBody Cert.Windows
open Cert.InProj (sum_below_succ sum_below_zero sum_below_all)
open Idealize.ShloMosaic hiding ix1 ix2 ix3
open Idealize.ShloMosaic.TcCoe Idealize.SL.Sem Idealize.ShloMosaic.ValueIdx

/-- Row `r` of the block of rows that point `n` is on. -/
def at_ (n : Nat) (h : n < cfg0.N) (r : Fin 256) : Fin 4096 := ⟨256 * n + r.val, by have : cfg0.N = 16 := N_0; omega⟩

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index12 : ∀ t : Fin cfg0.N, win0_12.index t 0 = t.val ∧ win0_12.index t 1 = 0 := by decide +kernel
theorem index13 : ∀ t : Fin cfg0.N, win0_13.index t 0 = t.val ∧ win0_13.index t 1 = 0 := by decide +kernel
theorem index15 : ∀ t : Fin cfg0.N, win0_15.index t 0 = t.val ∧ win0_15.index t 1 = 0 := by decide +kernel
theorem index16 : ∀ t : Fin cfg0.N, win0_16.index t 0 = t.val ∧ win0_16.index t 1 = 0 := by decide +kernel
theorem index4 : ∀ t : Fin cfg0.N, win0_4.index t 0 = t.val ∧ win0_4.index t 1 = 4 := by decide +kernel
theorem index5 : ∀ t : Fin cfg0.N, win0_5.index t 0 = t.val ∧ win0_5.index t 1 = 5 := by decide +kernel
theorem index6 : ∀ t : Fin cfg0.N, win0_6.index t 0 = t.val ∧ win0_6.index t 1 = 6 := by decide +kernel
theorem index7 : ∀ t : Fin cfg0.N, win0_7.index t 0 = 0 ∧ win0_7.index t 1 = 0 := by decide +kernel
theorem index8 : ∀ t : Fin cfg0.N, win0_8.index t 0 = 0 ∧ win0_8.index t 1 = 0 := by decide +kernel
theorem index17 : ∀ t : Fin cfg0.N, win0_17.index t 0 = 0 ∧ win0_17.index t 1 = 0 := by decide +kernel
theorem index9 : ∀ t : Fin cfg0.N, win0_9.index t 0 = 0 ∧ win0_9.index t 1 = 0 ∧ win0_9.index t 2 = 0 := by decide +kernel
theorem index10 : ∀ t : Fin cfg0.N, win0_10.index t 0 = 0 ∧ win0_10.index t 1 = 1 ∧ win0_10.index t 2 = 0 := by decide +kernel
theorem index11 : ∀ t : Fin cfg0.N, win0_11.index t 0 = 0 ∧ win0_11.index t 1 = 2 ∧ win0_11.index t 2 = 0 := by decide +kernel
theorem index14 : ∀ t : Fin cfg0.N, win0_14.index t 0 = 0 ∧ win0_14.index t 1 = t.val ∧ win0_14.index t 2 = 0 := by decide +kernel

/-! ## What a block's windows hold -/

theorem blk0 {X : (⟨2, ![4096, 1024]⟩ : Shape).Idx → EReal} {g : Fin 4096 → Fin 1024 → ℝ} (h : Mat X g) (t : Fin cfg0.N) :
    Mat (n := 256) (m := 1024) (((cfg0.win 0).blk t).view.read (Elt Ideal) X) fun r => g (at_ t.val t.isLt r) := fun j => by
  rw [View.read_apply]
  refine Eq.trans ?_ (h (ix2 (at_ t.val t.isLt (j 0)) (j 1)))
  refine congrArg X (funext fun a => Fin.ext ?_)
  match a with
  | ⟨0, _⟩ => show win0_0.index t 0 * 256 + 1 * (j 0).val = 256 * t.val + (j 0).val; rw [(index0 t).1]; omega
  | ⟨1, _⟩ => show win0_0.index t 1 * 1024 + 1 * (j 1).val = (j 1).val; rw [(index0 t).2]; omega

theorem blk1 {X : (⟨2, ![4096, 1024]⟩ : Shape).Idx → EReal} {g : Fin 4096 → Fin 1024 → ℝ} (h : Mat X g) (t : Fin cfg0.N) :
    Mat (n := 256) (m := 1024) (((cfg0.win 1).blk t).view.read (Elt Ideal) X) fun r => g (at_ t.val t.isLt r) := fun j => by
  rw [View.read_apply]
  refine Eq.trans ?_ (h (ix2 (at_ t.val t.isLt (j 0)) (j 1)))
  refine congrArg X (funext fun a => Fin.ext ?_)
  match a with
  | ⟨0, _⟩ => show win0_1.index t 0 * 256 + 1 * (j 0).val = 256 * t.val + (j 0).val; rw [(index1 t).1]; omega
  | ⟨1, _⟩ => show win0_1.index t 1 * 1024 + 1 * (j 1).val = (j 1).val; rw [(index1 t).2]; omega

theorem blk2 {X : (⟨2, ![4096, 1024]⟩ : Shape).Idx → EReal} {g : Fin 4096 → Fin 1024 → ℝ} (h : Mat X g) (t : Fin cfg0.N) :
    Mat (n := 256) (m := 1024) (((cfg0.win 2).blk t).view.read (Elt Ideal) X) fun r => g (at_ t.val t.isLt r) := fun j => by
  rw [View.read_apply]
  refine Eq.trans ?_ (h (ix2 (at_ t.val t.isLt (j 0)) (j 1)))
  refine congrArg X (funext fun a => Fin.ext ?_)
  match a with
  | ⟨0, _⟩ => show win0_2.index t 0 * 256 + 1 * (j 0).val = 256 * t.val + (j 0).val; rw [(index2 t).1]; omega
  | ⟨1, _⟩ => show win0_2.index t 1 * 1024 + 1 * (j 1).val = (j 1).val; rw [(index2 t).2]; omega

theorem blk3 {X : (⟨2, ![4096, 1024]⟩ : Shape).Idx → EReal} {g : Fin 4096 → Fin 1024 → ℝ} (h : Mat X g) (t : Fin cfg0.N) :
    Mat (n := 256) (m := 1024) (((cfg0.win 3).blk t).view.read (Elt Ideal) X) fun r => g (at_ t.val t.isLt r) := fun j => by
  rw [View.read_apply]
  refine Eq.trans ?_ (h (ix2 (at_ t.val t.isLt (j 0)) (j 1)))
  refine congrArg X (funext fun a => Fin.ext ?_)
  match a with
  | ⟨0, _⟩ => show win0_3.index t 0 * 256 + 1 * (j 0).val = 256 * t.val + (j 0).val; rw [(index3 t).1]; omega
  | ⟨1, _⟩ => show win0_3.index t 1 * 1024 + 1 * (j 1).val = (j 1).val; rw [(index3 t).2]; omega

theorem blk4 {X : (⟨2, ![4096, 7168]⟩ : Shape).Idx → EReal} {g : Fin 4096 → Fin 1024 → ℝ}
    (h : ∀ r (e : Fin 1024), X (ix2 r ⟨4096 + e.val, by omega⟩) = (g r e : EReal)) (t : Fin cfg0.N) :
    Mat (n := 256) (m := 1024) (((cfg0.win 4).blk t).view.read (Elt Ideal) X) fun r => g (at_ t.val t.isLt r) := fun j => by
  rw [View.read_apply]
  refine Eq.trans ?_ (h (at_ t.val t.isLt (j 0)) (j 1))
  refine congrArg X (funext fun a => Fin.ext ?_)
  match a with
  | ⟨0, _⟩ => show win0_4.index t 0 * 256 + 1 * (j 0).val = 256 * t.val + (j 0).val; rw [(index4 t).1]; omega
  | ⟨1, _⟩ => show win0_4.index t 1 * 1024 + 1 * (j 1).val = 4096 + (j 1).val; rw [(index4 t).2]; omega

theorem blk5 {X : (⟨2, ![4096, 7168]⟩ : Shape).Idx → EReal} {g : Fin 4096 → Fin 1024 → ℝ}
    (h : ∀ r (e : Fin 1024), X (ix2 r ⟨5120 + e.val, by omega⟩) = (g r e : EReal)) (t : Fin cfg0.N) :
    Mat (n := 256) (m := 1024) (((cfg0.win 5).blk t).view.read (Elt Ideal) X) fun r => g (at_ t.val t.isLt r) := fun j => by
  rw [View.read_apply]
  refine Eq.trans ?_ (h (at_ t.val t.isLt (j 0)) (j 1))
  refine congrArg X (funext fun a => Fin.ext ?_)
  match a with
  | ⟨0, _⟩ => show win0_5.index t 0 * 256 + 1 * (j 0).val = 256 * t.val + (j 0).val; rw [(index5 t).1]; omega
  | ⟨1, _⟩ => show win0_5.index t 1 * 1024 + 1 * (j 1).val = 5120 + (j 1).val; rw [(index5 t).2]; omega

theorem blk6 {X : (⟨2, ![4096, 7168]⟩ : Shape).Idx → EReal} {g : Fin 4096 → Fin 1024 → ℝ}
    (h : ∀ r (e : Fin 1024), X (ix2 r ⟨6144 + e.val, by omega⟩) = (g r e : EReal)) (t : Fin cfg0.N) :
    Mat (n := 256) (m := 1024) (((cfg0.win 6).blk t).view.read (Elt Ideal) X) fun r => g (at_ t.val t.isLt r) := fun j => by
  rw [View.read_apply]
  refine Eq.trans ?_ (h (at_ t.val t.isLt (j 0)) (j 1))
  refine congrArg X (funext fun a => Fin.ext ?_)
  match a with
  | ⟨0, _⟩ => show win0_6.index t 0 * 256 + 1 * (j 0).val = 256 * t.val + (j 0).val; rw [(index6 t).1]; omega
  | ⟨1, _⟩ => show win0_6.index t 1 * 1024 + 1 * (j 1).val = 6144 + (j 1).val; rw [(index6 t).2]; omega

theorem blk7 {X : (⟨2, ![8, 1024]⟩ : Shape).Idx → EReal} {g : Fin 1024 → ℝ} (h : ∀ c, X (ix2 2 c) = (g c : EReal)) (t : Fin cfg0.N) :
    Mat (n := 1) (m := 1024) (rowOf (((cfg0.win 7).blk t).view.read (Elt Ideal) X) 2) fun _ => g := fun j => by
  unfold rowOf
  rw [View.read_apply]
  refine Eq.trans ?_ (h (j 1))
  refine congrArg X (funext fun a => Fin.ext ?_)
  match a with
  | ⟨0, _⟩ => show win0_7.index t 0 * 8 + 1 * 2 = 2; rw [(index7 t).1]
  | ⟨1, _⟩ => show win0_7.index t 1 * 1024 + 1 * (j 1).val = (j 1).val; rw [(index7 t).2]; omega

theorem blk8 {X : (⟨2, ![1, 1024]⟩ : Shape).Idx → EReal} {g : Fin 1 → Fin 1024 → ℝ} (h : Mat X g) (t : Fin cfg0.N) :
    Mat (n := 1) (m := 1024) (((cfg0.win 8).blk t).view.read (Elt Ideal) X) g := fun j => by
  rw [View.read_apply]
  refine Eq.trans ?_ (h j)
  refine congrArg X (funext fun a => Fin.ext ?_)
  match a with
  | ⟨0, _⟩ => show win0_8.index t 0 * 1 + 1 * (j 0).val = (j 0).val; rw [(index8 t).1]; omega
  | ⟨1, _⟩ => show win0_8.index t 1 * 1024 + 1 * (j 1).val = (j 1).val; rw [(index8 t).2]; omega

/-- A weight from its blocks of 128 rows. -/
theorem square_of {w : FVec Ideal S8x128x1024 .bf16} {g : Fin 1024 → Fin 1024 → ℝ}
    (h : ∀ (k : Fin 8) (e : Fin 128) (c : Fin 1024), w (ix3 k e c) = (g ⟨128 * k.val + e.val, by omega⟩ c : EReal)) : Mat (square w) g := fun i => by
  have hi : (i 0).val < 1024 := (i 0).isLt
  unfold square
  rw [shapeCast_apply w shapeCasts_S8x128x1024_S1024x1024 i (ix3 ⟨(i 0).val / 128, by omega⟩ ⟨(i 0).val % 128, Nat.mod_lt _ (by norm_num)⟩ (i 1))]
  · refine (h _ _ _).trans (congrArg (fun r => ((g r (i 1) : ℝ) : EReal)) (Fin.ext ?_))
    show 128 * ((i 0).val / 128) + (i 0).val % 128 = (i 0).val
    omega
  · rw [Shape.rowMajor_val_two, Shape.rowMajor_val_three]
    show ((i 0).val / 128 * 128 + (i 0).val % 128) * 1024 + (i 1).val = (i 0).val * 1024 + (i 1).val
    omega

theorem blk9 {X : (⟨3, ![8, 384, 1024]⟩ : Shape).Idx → EReal} {g : Fin 1024 → Fin 1024 → ℝ}
    (h : ∀ (k : Fin 8) (e : Fin 128) (c : Fin 1024), X (ix3 k ⟨0 + e.val, by omega⟩ c) = (g ⟨128 * k.val + e.val, by omega⟩ c : EReal)) (t : Fin cfg0.N) :
    Mat (square (((cfg0.win 9).blk t).view.read (Elt Ideal) X)) g := square_of fun k e c => by
  rw [View.read_apply]
  refine Eq.trans ?_ (h k e c)
  refine congrArg X (funext fun a => Fin.ext ?_)
  match a with
  | ⟨0, _⟩ => show win0_9.index t 0 * 8 + 1 * k.val = k.val; rw [(index9 t).1]; omega
  | ⟨1, _⟩ => show win0_9.index t 1 * 128 + 1 * e.val = 0 + e.val; rw [(index9 t).2.1]; omega
  | ⟨2, _⟩ => show win0_9.index t 2 * 1024 + 1 * c.val = c.val; rw [(index9 t).2.2]; omega

theorem blk10 {X : (⟨3, ![8, 384, 1024]⟩ : Shape).Idx → EReal} {g : Fin 1024 → Fin 1024 → ℝ}
    (h : ∀ (k : Fin 8) (e : Fin 128) (c : Fin 1024), X (ix3 k ⟨128 + e.val, by omega⟩ c) = (g ⟨128 * k.val + e.val, by omega⟩ c : EReal)) (t : Fin cfg0.N) :
    Mat (square (((cfg0.win 10).blk t).view.read (Elt Ideal) X)) g := square_of fun k e c => by
  rw [View.read_apply]
  refine Eq.trans ?_ (h k e c)
  refine congrArg X (funext fun a => Fin.ext ?_)
  match a with
  | ⟨0, _⟩ => show win0_10.index t 0 * 8 + 1 * k.val = k.val; rw [(index10 t).1]; omega
  | ⟨1, _⟩ => show win0_10.index t 1 * 128 + 1 * e.val = 128 + e.val; rw [(index10 t).2.1]; omega
  | ⟨2, _⟩ => show win0_10.index t 2 * 1024 + 1 * c.val = c.val; rw [(index10 t).2.2]; omega

theorem blk11 {X : (⟨3, ![8, 384, 1024]⟩ : Shape).Idx → EReal} {g : Fin 1024 → Fin 1024 → ℝ}
    (h : ∀ (k : Fin 8) (e : Fin 128) (c : Fin 1024), X (ix3 k ⟨256 + e.val, by omega⟩ c) = (g ⟨128 * k.val + e.val, by omega⟩ c : EReal)) (t : Fin cfg0.N) :
    Mat (square (((cfg0.win 11).blk t).view.read (Elt Ideal) X)) g := square_of fun k e c => by
  rw [View.read_apply]
  refine Eq.trans ?_ (h k e c)
  refine congrArg X (funext fun a => Fin.ext ?_)
  match a with
  | ⟨0, _⟩ => show win0_11.index t 0 * 8 + 1 * k.val = k.val; rw [(index11 t).1]; omega
  | ⟨1, _⟩ => show win0_11.index t 1 * 128 + 1 * e.val = 256 + e.val; rw [(index11 t).2.1]; omega
  | ⟨2, _⟩ => show win0_11.index t 2 * 1024 + 1 * c.val = c.val; rw [(index11 t).2.2]; omega

/-- What the region's arrays hold when it is entered. -/
structure Entry (m : (ℓ : Loc nD τ sig) → Buf (Elt Ideal) ℓ) (c : Dev nD) (A : Args 4096) : Prop where
  x : Mat (V m c main_arg0) A.x
  t : Mat (V m c main_arg1) A.t
  ya : Mat (V m c main_v9) A.ya
  o : Mat (V m c main_arg3) A.o
  bg : ∀ r (e : Fin 1024), V m c main_v14 (ix2 r ⟨4096 + e.val, by omega⟩) = (A.bg r e : EReal)
  ga : ∀ r (e : Fin 1024), V m c main_v14 (ix2 r ⟨5120 + e.val, by omega⟩) = (A.ga r e : EReal)
  gb : ∀ r (e : Fin 1024), V m c main_v14 (ix2 r ⟨6144 + e.val, by omega⟩) = (A.gb r e : EReal)
  gate : ∀ q, V m c main_v1 (ix2 2 q) = (A.gate q : EReal)
  fw : Mat (V m c main_v15) fun _ => A.fw
  wc : ∀ (k : Fin 8) (e : Fin 128) (q : Fin 1024), V m c main_v8 (ix3 k ⟨0 + e.val, by omega⟩ q) = (A.wc ⟨128 * k.val + e.val, by omega⟩ q : EReal)
  wa : ∀ (k : Fin 8) (e : Fin 128) (q : Fin 1024), V m c main_v8 (ix3 k ⟨128 + e.val, by omega⟩ q) = (A.wa ⟨128 * k.val + e.val, by omega⟩ q : EReal)
  wo : ∀ (k : Fin 8) (e : Fin 128) (q : Fin 1024), V m c main_v8 (ix3 k ⟨256 + e.val, by omega⟩ q) = (A.wo ⟨128 * k.val + e.val, by omega⟩ q : EReal)

variable {m : (ℓ : Loc nD τ sig) → Buf (Elt Ideal) ℓ} {c : Dev nD} {A : Args 4096}

theorem Entry.blk (e : Entry m c A) (t : Fin cfg0.N) : Blk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (A.rows (at_ t.val t.isLt)) :=
  ⟨blk0 e.x t, blk1 e.t t, blk2 e.ya t, blk3 e.o t, blk4 e.bg t, blk5 e.ga t, blk6 e.gb t, blk7 e.gate t, blk8 e.fw t,
   blk9 e.wc t, blk10 e.wa t, blk11 e.wo t⟩

/-- The sums over the first `q` blocks of rows. -/
def tot (A : Args 4096) (q : Nat) (k : Fin 8) (c : Fin 1024) : ℝ :=
  ∑ i : Fin 16, if i.val < q then ∑ r : Fin 256, A.part k ⟨256 * i.val + r.val, by omega⟩ c else 0

theorem tot_next (t : Fin cfg0.N) (k : Fin 8) (q : Fin 1024) :
    tot A (t.val + 1) k q = tot A t.val k q + ∑ r, A.part k (at_ t.val t.isLt r) q :=
  have hN : cfg0.N = 16 := N_0
  have := t.isLt
  sum_below_succ (fun i : Fin 16 => ∑ r : Fin 256, A.part k ⟨256 * i.val + r.val, by omega⟩ q) (by omega : t.val < 16)

theorem tot_all (k : Fin 8) (q : Fin 1024) : tot A 16 k q = A.small k q :=
  (sum_below_all (N := 16) fun i => ∑ r : Fin 256, A.part k ⟨256 * i.val + r.val, by omega⟩ q).trans
    (sum_blocks (N := 16) (n := 256) rfl (fun r => A.part k r q) (fun i r => ⟨256 * i.val + r.val, by omega⟩) fun _ _ => rfl)

/-- What point `n` leaves. -/
structure Left (A : Args 4096) (n : Nat) (h : n < cfg0.N) (o : FVec Ideal S256x1024 .f32 × FVec Ideal S256x1024 .bf16 × FVec Ideal S8x256x128 .f32
    × FVec Ideal S256x3072 .bf16 × FVec Ideal S256x1024 .f32 × FVec Ideal S8x1024 .f32 × FVec Ideal S3x1024x1024 .f32) : Prop where
  dya : Mat o.1 fun r => A.dya (at_ n h r)
  do_ : Mat o.2.1 fun r => A.do_ (at_ n h r)
  delta : Ten o.2.2.1 fun k r _ => A.delta k (at_ n h r)
  gates : Mat o.2.2.2.1 fun r => A.gates (at_ n h r)
  dx2 : Mat o.2.2.2.2.1 fun r => A.dx2 (at_ n h r)
  small : Mat o.2.2.2.2.2.1 (tot A (n + 1))

/-- What a point leaves, from the values that its body computes. -/
theorem Entry.left (e : Entry m c A) (t : Fin cfg0.N) {xo : FVec Ideal S8x1024 .f32} (ho : Mat xo (tot A t.val)) (s : FVec Ideal S3x1024x1024 .f32) :
    Left A t.val t.isLt (dyaV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), doV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), deltaV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
      gatesV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), dx2V (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
      sumsV (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xo, s) :=
  have b := e.blk t
  have d := MergeBody.delta _ _ _ _ _ _ _ _ _ _ _ _ b
  { dya := fun i => (b.dya i).trans (congrArg (fun f => ((f (i 1) : ℝ) : EReal)) (A.rows_dya (at_ t.val t.isLt) (i 0)))
    do_ := fun i => (b.do_ i).trans (congrArg (fun f => ((f (i 1) : ℝ) : EReal)) (A.rows_do_ (at_ t.val t.isLt) (i 0)))
    delta := fun i => (d i).trans (congrArg Real.toEReal (A.rows_delta (at_ t.val t.isLt) (i 1) (i 0)))
    gates := fun i => (b.gates i).trans (congrArg (fun f => ((f (i 1) : ℝ) : EReal)) (A.rows_gates (at_ t.val t.isLt) (i 0)))
    dx2 := fun i => (b.dx2 i).trans (congrArg (fun f => ((f (i 1) : ℝ) : EReal)) (A.rows_dx2 (at_ t.val t.isLt) (i 0)))
    small := fun i => (b.sums ho i).trans (congrArg Real.toEReal ((congrArg (tot A t.val (i 0) (i 1) + ·)
       (Finset.sum_congr rfl fun r _ => congrFun (A.rows_part (at_ t.val t.isLt) r (i 0)) (i 1))).trans (tot_next t (i 0) (i 1)).symm)) }

theorem left (e : Entry m c A) : ∀ (n : Nat) (h : n < cfg0.N), Left A n h (outsAt0 m c n h)
  | 0, h => by
    let t : Fin cfg0.N := ⟨0, h⟩
    rw [show outsAt0 m c 0 h = _ from outsAt0_A m c t (Nat.zero_mod _) (show ¬(0 % 16 = 15) by decide)]
    rw [dyaA, doA, deltaA, gatesA, dx2A, smallA]
    exact e.left t (Rep.cast zeros fun i => (sum_below_zero _).symm) _
  | n + 1, h => by
    have hN : cfg0.N = 16 := N_0
    have h' : n < cfg0.N := by omega
    have ih := left e n h'
    let t : Fin cfg0.N := ⟨n + 1, h⟩
    have h0 : ¬(n + 1) % 16 = 0 := by omega
    by_cases h1 : (n + 1) % 16 = 15
    · rw [show outsAt0 m c (n + 1) h = _ from outsAt0_C m c t h0 h1]
      rw [dyaC, doC, deltaC, gatesC, dx2C, smallC]
      exact e.left t ih.small _
    · rw [show outsAt0 m c (n + 1) h = _ from outsAt0_B m c t h0 h1]
      rw [dyaB, doB, deltaB, gatesB, dx2B, smallB]
      exact e.left t ih.small _

/-! ## The arrays -/

theorem alone12 (t t' : Fin cfg0.N) (_ : (cfg0.win 12).flush t = true) (_ : (cfg0.win 12).flush t' = true) (hne : t ≠ t') :
    Disjoint ((cfg0.win 12).blk t).view.set ((cfg0.win 12).blk t').view.set :=
  (cfg0.win 12).disjoint_blk fun q => hne (Fin.ext (by have := congrFun q 0; rwa [(index12 t).1, (index12 t').1] at this))

theorem result12 (e : Entry m c A) : Mat (n := 4096) (m := 1024) ((dats m 0 c).arrAt 12 cfg0.N) A.dya := fun i => by
  have hi : (i 0).val < 4096 := (i 0).isLt
  have hN : cfg0.N = 16 := N_0
  let t : Fin cfg0.N := ⟨(i 0).val / 256, by omega⟩
  let j : S256x1024.Idx := ix2 ⟨(i 0).val % 256, Nat.mod_lt _ (by norm_num)⟩ (i 1)
  have h := (congrFun (((dats m 0 c).read_blk_arrAt_eq_flushed 12 alone12 cfg0.N t t.isLt (flush0_12 t)).trans
    (congrArg ((cfg0.win 12).cut (grid0.coords t)) (after0_12 m c t))) j).trans ((left e t.val t.isLt).dya j)
  rw [View.read_apply] at h
  have hr : at_ t.val t.isLt (j 0) = i 0 := Fin.ext (show 256 * ((i 0).val / 256) + (i 0).val % 256 = (i 0).val by omega)
  have hj : ((cfg0.win 12).blk t).view.emb j = i := funext fun a => Fin.ext <| match a with
    | ⟨0, _⟩ => by
      show win0_12.index t 0 * 256 + 1 * ((i 0).val % 256) = (i 0).val
      rw [(index12 t).1]; show (i 0).val / 256 * 256 + 1 * ((i 0).val % 256) = (i 0).val; omega
    | ⟨1, _⟩ => by show win0_12.index t 1 * 1024 + 1 * (i 1).val = (i 1).val; rw [(index12 t).2]; omega
  exact (congrArg _ hj).symm.trans (h.trans (congrArg (fun r => ((A.dya r (i 1) : ℝ) : EReal)) hr))

theorem alone13 (t t' : Fin cfg0.N) (_ : (cfg0.win 13).flush t = true) (_ : (cfg0.win 13).flush t' = true) (hne : t ≠ t') :
    Disjoint ((cfg0.win 13).blk t).view.set ((cfg0.win 13).blk t').view.set :=
  (cfg0.win 13).disjoint_blk fun q => hne (Fin.ext (by have := congrFun q 0; rwa [(index13 t).1, (index13 t').1] at this))

theorem result13 (e : Entry m c A) : Mat (n := 4096) (m := 1024) ((dats m 0 c).arrAt 13 cfg0.N) A.do_ := fun i => by
  have hi : (i 0).val < 4096 := (i 0).isLt
  have hN : cfg0.N = 16 := N_0
  let t : Fin cfg0.N := ⟨(i 0).val / 256, by omega⟩
  let j : S256x1024.Idx := ix2 ⟨(i 0).val % 256, Nat.mod_lt _ (by norm_num)⟩ (i 1)
  have h := (congrFun (((dats m 0 c).read_blk_arrAt_eq_flushed 13 alone13 cfg0.N t t.isLt (flush0_13 t)).trans
    (congrArg ((cfg0.win 13).cut (grid0.coords t)) (after0_13 m c t))) j).trans ((left e t.val t.isLt).do_ j)
  rw [View.read_apply] at h
  have hr : at_ t.val t.isLt (j 0) = i 0 := Fin.ext (show 256 * ((i 0).val / 256) + (i 0).val % 256 = (i 0).val by omega)
  have hj : ((cfg0.win 13).blk t).view.emb j = i := funext fun a => Fin.ext <| match a with
    | ⟨0, _⟩ => by
      show win0_13.index t 0 * 256 + 1 * ((i 0).val % 256) = (i 0).val
      rw [(index13 t).1]; show (i 0).val / 256 * 256 + 1 * ((i 0).val % 256) = (i 0).val; omega
    | ⟨1, _⟩ => by show win0_13.index t 1 * 1024 + 1 * (i 1).val = (i 1).val; rw [(index13 t).2]; omega
  exact (congrArg _ hj).symm.trans (h.trans (congrArg (fun r => ((A.do_ r (i 1) : ℝ) : EReal)) hr))

theorem alone15 (t t' : Fin cfg0.N) (_ : (cfg0.win 15).flush t = true) (_ : (cfg0.win 15).flush t' = true) (hne : t ≠ t') :
    Disjoint ((cfg0.win 15).blk t).view.set ((cfg0.win 15).blk t').view.set :=
  (cfg0.win 15).disjoint_blk fun q => hne (Fin.ext (by have := congrFun q 0; rwa [(index15 t).1, (index15 t').1] at this))

theorem result15 (e : Entry m c A) : Mat (n := 4096) (m := 3072) ((dats m 0 c).arrAt 15 cfg0.N) A.gates := fun i => by
  have hi : (i 0).val < 4096 := (i 0).isLt
  have hN : cfg0.N = 16 := N_0
  let t : Fin cfg0.N := ⟨(i 0).val / 256, by omega⟩
  let j : S256x3072.Idx := ix2 ⟨(i 0).val % 256, Nat.mod_lt _ (by norm_num)⟩ (i 1)
  have h := (congrFun (((dats m 0 c).read_blk_arrAt_eq_flushed 15 alone15 cfg0.N t t.isLt (flush0_15 t)).trans
    (congrArg ((cfg0.win 15).cut (grid0.coords t)) (after0_15 m c t))) j).trans ((left e t.val t.isLt).gates j)
  rw [View.read_apply] at h
  have hr : at_ t.val t.isLt (j 0) = i 0 := Fin.ext (show 256 * ((i 0).val / 256) + (i 0).val % 256 = (i 0).val by omega)
  have hj : ((cfg0.win 15).blk t).view.emb j = i := funext fun a => Fin.ext <| match a with
    | ⟨0, _⟩ => by
      show win0_15.index t 0 * 256 + 1 * ((i 0).val % 256) = (i 0).val
      rw [(index15 t).1]; show (i 0).val / 256 * 256 + 1 * ((i 0).val % 256) = (i 0).val; omega
    | ⟨1, _⟩ => by show win0_15.index t 1 * 3072 + 1 * (i 1).val = (i 1).val; rw [(index15 t).2]; omega
  exact (congrArg _ hj).symm.trans (h.trans (congrArg (fun r => ((A.gates r (i 1) : ℝ) : EReal)) hr))

theorem alone16 (t t' : Fin cfg0.N) (_ : (cfg0.win 16).flush t = true) (_ : (cfg0.win 16).flush t' = true) (hne : t ≠ t') :
    Disjoint ((cfg0.win 16).blk t).view.set ((cfg0.win 16).blk t').view.set :=
  (cfg0.win 16).disjoint_blk fun q => hne (Fin.ext (by have := congrFun q 0; rwa [(index16 t).1, (index16 t').1] at this))

theorem result16 (e : Entry m c A) : Mat (n := 4096) (m := 1024) ((dats m 0 c).arrAt 16 cfg0.N) A.dx2 := fun i => by
  have hi : (i 0).val < 4096 := (i 0).isLt
  have hN : cfg0.N = 16 := N_0
  let t : Fin cfg0.N := ⟨(i 0).val / 256, by omega⟩
  let j : S256x1024.Idx := ix2 ⟨(i 0).val % 256, Nat.mod_lt _ (by norm_num)⟩ (i 1)
  have h := (congrFun (((dats m 0 c).read_blk_arrAt_eq_flushed 16 alone16 cfg0.N t t.isLt (flush0_16 t)).trans
    (congrArg ((cfg0.win 16).cut (grid0.coords t)) (after0_16 m c t))) j).trans ((left e t.val t.isLt).dx2 j)
  rw [View.read_apply] at h
  have hr : at_ t.val t.isLt (j 0) = i 0 := Fin.ext (show 256 * ((i 0).val / 256) + (i 0).val % 256 = (i 0).val by omega)
  have hj : ((cfg0.win 16).blk t).view.emb j = i := funext fun a => Fin.ext <| match a with
    | ⟨0, _⟩ => by
      show win0_16.index t 0 * 256 + 1 * ((i 0).val % 256) = (i 0).val
      rw [(index16 t).1]; show (i 0).val / 256 * 256 + 1 * ((i 0).val % 256) = (i 0).val; omega
    | ⟨1, _⟩ => by show win0_16.index t 1 * 1024 + 1 * (i 1).val = (i 1).val; rw [(index16 t).2]; omega
  exact (congrArg _ hj).symm.trans (h.trans (congrArg (fun r => ((A.dx2 r (i 1) : ℝ) : EReal)) hr))

theorem alone14 (t t' : Fin cfg0.N) (_ : (cfg0.win 14).flush t = true) (_ : (cfg0.win 14).flush t' = true) (hne : t ≠ t') :
    Disjoint ((cfg0.win 14).blk t).view.set ((cfg0.win 14).blk t').view.set :=
  (cfg0.win 14).disjoint_blk fun q => hne (Fin.ext (by have := congrFun q 1; rwa [(index14 t).2.1, (index14 t').2.1] at this))

theorem result14 (e : Entry m c A) : Ten (a := 8) (b := 4096) (c := 128) ((dats m 0 c).arrAt 14 cfg0.N) fun k r _ => A.delta k r := fun i => by
  have hi : (i 1).val < 4096 := (i 1).isLt
  have hN : cfg0.N = 16 := N_0
  let t : Fin cfg0.N := ⟨(i 1).val / 256, by omega⟩
  let j : S8x256x128.Idx := ix3 (i 0) ⟨(i 1).val % 256, Nat.mod_lt _ (by norm_num)⟩ (i 2)
  have h := (congrFun (((dats m 0 c).read_blk_arrAt_eq_flushed 14 alone14 cfg0.N t t.isLt (flush0_14 t)).trans
    (congrArg ((cfg0.win 14).cut (grid0.coords t)) (after0_14 m c t))) j).trans ((left e t.val t.isLt).delta j)
  rw [View.read_apply] at h
  have hr : at_ t.val t.isLt (j 1) = i 1 := Fin.ext (show 256 * ((i 1).val / 256) + (i 1).val % 256 = (i 1).val by omega)
  have hj : ((cfg0.win 14).blk t).view.emb j = i := funext fun a => Fin.ext <| match a with
    | ⟨0, _⟩ => by show win0_14.index t 0 * 8 + 1 * (i 0).val = (i 0).val; rw [(index14 t).1]; omega
    | ⟨1, _⟩ => by
      show win0_14.index t 1 * 256 + 1 * ((i 1).val % 256) = (i 1).val
      rw [(index14 t).2.1]; show (i 1).val / 256 * 256 + 1 * ((i 1).val % 256) = (i 1).val; omega
    | ⟨2, _⟩ => by show win0_14.index t 2 * 128 + 1 * (i 2).val = (i 2).val; rw [(index14 t).2.2]; omega
  exact (congrArg _ hj).symm.trans (h.trans (congrArg (fun r => ((A.delta (i 0) r : ℝ) : EReal)) hr))

theorem alone17 (t t' : Fin cfg0.N) (h : (cfg0.win 17).flush t = true) (h' : (cfg0.win 17).flush t' = true) (hne : t ≠ t') :
    Disjoint ((cfg0.win 17).blk t).view.set ((cfg0.win 17).blk t').view.set := by
  have := (flush0_17 t).mp h
  have := (flush0_17 t').mp h'
  have hN : cfg0.N = 16 := N_0
  exact absurd (Fin.ext (by omega)) hne

theorem result17 (e : Entry m c A) : Mat (n := 8) (m := 1024) ((dats m 0 c).arrAt 17 cfg0.N) A.small := fun i => by
  have hN : cfg0.N = 16 := N_0
  let t : Fin cfg0.N := ⟨15, by omega⟩
  have h := (congrFun (((dats m 0 c).read_blk_arrAt_eq_flushed 17 alone17 cfg0.N t t.isLt ((flush0_17 t).mpr rfl)).trans
    (congrArg ((cfg0.win 17).cut (grid0.coords t)) (after0_17 m c t))) i).trans (((left e 15 t.isLt).small i).trans (congrArg _ (tot_all (i 0) (i 1))))
  rw [View.read_apply] at h
  have hj : ((cfg0.win 17).blk t).view.emb i = i := funext fun a => Fin.ext <| match a with
    | ⟨0, _⟩ => by show win0_17.index t 0 * 8 + 1 * (i 0).val = (i 0).val; rw [(index17 t).1]; omega
    | ⟨1, _⟩ => by show win0_17.index t 1 * 1024 + 1 * (i 1).val = (i 1).val; rw [(index17 t).2]; omega
  exact (congrArg _ hj).symm.trans h

end Cert.MergeKernel

end
-- ==== Proof.MergeHost.lean ====
/-
  What the merge's launch finds in its arrays: the host lines before it, read over the reals.
-/
module

public import proofs.«01_k».proof.Proof.MergeKernel
public import proofs.«01_k».proof.Proof.Axes

@[expose] public section

set_option maxRecDepth 16384

noncomputable section

namespace Cert.MergeKernel

open Cert.MergeIdeal Cert.MergeIdeal.Gen Cert.Merge
open Idealize.ShloMosaic hiding ix1 ix2 ix3
open Idealize.ShloMosaic.TcCoe Idealize.SL.Sem Idealize.ShloMosaic.StableHlo Idealize.ShloMosaic.ValueIdx

variable {m : (ℓ : Loc nD τ sig) → Buf (Elt Ideal) ℓ} {c : Dev nD} {A : Args 4096}

/-- The buffers the host operations write, one each, in order. -/
abbrev W : List (Ref sig .tc) := (List.finRange 18).map fun k => ⟨.hbm, ⟨k.val + 12, by have := k.isLt; show k.val + 12 < 37; omega⟩, rfl⟩

theorem line : Line.Ssa (hostOps0 (F := Ideal)) W 12 := ⟨rfl, by decide +kernel⟩

/-- The gates' columns of the packed projection. -/
theorem packed {P : Fin 4096 → Fin 6720 → ℝ} (hP : Mat (m (c, Proc.devRef .tc main_arg4)) P) (r : Fin 4096) (p : Fin 7168) (h : 4096 ≤ p.val) :
    V m c main_v14 (ix2 r p) = (P r ⟨p.val - 448, by omega⟩ : EReal) := by
  let V₀ : Valuation τ sig (Elt Ideal) := fun b => m (c, b)
  have L := line
  let xs : List ((s : Shape) × (s.Idx → EReal)) :=
    [⟨S4096x3648, V m c main_v10⟩, ⟨S4096x448, V m c main_v11⟩, ⟨S4096x3072, V m c main_v12⟩]
  refine (congrFun (L.unary (V := V₀) 16 rfl) _).trans ((congrFun (L.nary (V := V₀) 15 rfl) _).trans ?_)
  let j : S4096x7168.Idx := ix2 r p
  let hc : Shape.Concatenates (xs.map (·.1)) S4096x7168 1 := concatenates_S4096x3648_S4096x448_S4096x3072_S4096x7168_d1
  refine (concatenate_apply_piece (1 : Fin 2) xs hc j 2 (show 2 < 3 by decide) S4096x3072 (V m c main_v12) rfl rfl 4096 rfl
    (ix2 r ⟨p.val - 4096, by omega⟩) (fun b hb => match b with | ⟨0, _⟩ => rfl | ⟨1, _⟩ => absurd rfl hb)
    (show 4096 + (p.val - 4096) = p.val by omega)).trans ?_
  refine (congrFun (L.unary (V := V₀) 14 rfl) _).trans ?_
  refine (extractStridedSlice_apply _ _ _ _ (ix2 r ⟨p.val - 448, by omega⟩) fun a => ?_).trans
    ((congrFun (L.arg (V := V₀)) _).trans (hP (ix2 r ⟨p.val - 448, by omega⟩)))
  match a with
  | ⟨0, _⟩ => exact (Nat.zero_add _).symm
  | ⟨1, _⟩ => show p.val - 448 = 3648 + (p.val - 4096); omega

/-- A weight as eight blocks of its rows. -/
theorem blocks {w : (⟨2, ![1024, 1024]⟩ : Shape).Idx → EReal} {g : Fin 1024 → Fin 1024 → ℝ} (hw : Mat w g) (k : Fin 8) (e : Fin 128) (q : Fin 1024) :
    shapeCast S8x128x1024 w shapeCasts_S1024x1024_S8x128x1024 (ix3 k e q) = (g ⟨128 * k.val + e.val, by omega⟩ q : EReal) := by
  rw [shapeCast_apply w shapeCasts_S1024x1024_S8x128x1024 (ix3 k e q) (ix2 ⟨128 * k.val + e.val, by omega⟩ q)]
  · exact hw _
  · rw [Shape.rowMajor_val_two, Shape.rowMajor_val_three]
    show (128 * k.val + e.val) * 1024 + q.val = (k.val * 128 + e.val) * 1024 + q.val
    omega

theorem wc {g : Fin 1024 → Fin 1024 → ℝ} (hw : Mat (m (c, Proc.devRef .tc main_arg9)) g) (k : Fin 8) (e : Fin 128) (q : Fin 1024) :
    V m c main_v8 (ix3 k ⟨0 + e.val, by omega⟩ q) = (g ⟨128 * k.val + e.val, by omega⟩ q : EReal) := by
  let V₀ : Valuation τ sig (Elt Ideal) := fun b => m (c, b)
  have L := line
  let xs : List ((s : Shape) × (s.Idx → EReal)) :=
    [⟨S8x128x1024, V m c main_v3⟩, ⟨S8x128x1024, V m c main_v5⟩, ⟨S8x128x1024, V m c main_v7⟩]
  refine (congrFun (L.nary (V := V₀) 9 rfl) _).trans ?_
  let j : S8x384x1024.Idx := ix3 k ⟨0 + e.val, by omega⟩ q
  let hc : Shape.Concatenates (xs.map (·.1)) S8x384x1024 1 := concatenates_S8x128x1024_S8x128x1024_S8x128x1024_S8x384x1024_d1
  refine (concatenate_apply_piece (1 : Fin 3) xs hc j 0 (show 0 < 3 by decide) S8x128x1024 (V m c main_v3) rfl rfl 0 rfl
    (ix3 k e q) (fun b hb => match b with | ⟨0, _⟩ => rfl | ⟨1, _⟩ => absurd rfl hb | ⟨2, _⟩ => rfl) rfl).trans ?_
  refine (congrFun (L.unary (V := V₀) 4 rfl) _).trans ((congrFun (L.reshape (V := V₀) 3 rfl) _).trans ?_)
  exact blocks (show Mat (V m c main_arg9) g from fun i => (congrFun (show V m c main_arg9 = m (c, Proc.devRef .tc main_arg9) from L.arg (V := V₀)) i).trans (hw i)) k e q

theorem wa {g : Fin 1024 → Fin 1024 → ℝ} (hw : Mat (m (c, Proc.devRef .tc main_arg10)) g) (k : Fin 8) (e : Fin 128) (q : Fin 1024) :
    V m c main_v8 (ix3 k ⟨128 + e.val, by omega⟩ q) = (g ⟨128 * k.val + e.val, by omega⟩ q : EReal) := by
  let V₀ : Valuation τ sig (Elt Ideal) := fun b => m (c, b)
  have L := line
  let xs : List ((s : Shape) × (s.Idx → EReal)) :=
    [⟨S8x128x1024, V m c main_v3⟩, ⟨S8x128x1024, V m c main_v5⟩, ⟨S8x128x1024, V m c main_v7⟩]
  refine (congrFun (L.nary (V := V₀) 9 rfl) _).trans ?_
  let j : S8x384x1024.Idx := ix3 k ⟨128 + e.val, by omega⟩ q
  let hc : Shape.Concatenates (xs.map (·.1)) S8x384x1024 1 := concatenates_S8x128x1024_S8x128x1024_S8x128x1024_S8x384x1024_d1
  refine (concatenate_apply_piece (1 : Fin 3) xs hc j 1 (show 1 < 3 by decide) S8x128x1024 (V m c main_v5) rfl rfl 128 rfl
    (ix3 k e q) (fun b hb => match b with | ⟨0, _⟩ => rfl | ⟨1, _⟩ => absurd rfl hb | ⟨2, _⟩ => rfl) rfl).trans ?_
  refine (congrFun (L.unary (V := V₀) 6 rfl) _).trans ((congrFun (L.reshape (V := V₀) 5 rfl) _).trans ?_)
  exact blocks (show Mat (V m c main_arg10) g from fun i => (congrFun (show V m c main_arg10 = m (c, Proc.devRef .tc main_arg10) from L.arg (V := V₀)) i).trans (hw i)) k e q

theorem wo {g : Fin 1024 → Fin 1024 → ℝ} (hw : Mat (m (c, Proc.devRef .tc main_arg11)) g) (k : Fin 8) (e : Fin 128) (q : Fin 1024) :
    V m c main_v8 (ix3 k ⟨256 + e.val, by omega⟩ q) = (g ⟨128 * k.val + e.val, by omega⟩ q : EReal) := by
  let V₀ : Valuation τ sig (Elt Ideal) := fun b => m (c, b)
  have L := line
  let xs : List ((s : Shape) × (s.Idx → EReal)) :=
    [⟨S8x128x1024, V m c main_v3⟩, ⟨S8x128x1024, V m c main_v5⟩, ⟨S8x128x1024, V m c main_v7⟩]
  refine (congrFun (L.nary (V := V₀) 9 rfl) _).trans ?_
  let j : S8x384x1024.Idx := ix3 k ⟨256 + e.val, by omega⟩ q
  let hc : Shape.Concatenates (xs.map (·.1)) S8x384x1024 1 := concatenates_S8x128x1024_S8x128x1024_S8x128x1024_S8x384x1024_d1
  refine (concatenate_apply_piece (1 : Fin 3) xs hc j 2 (show 2 < 3 by decide) S8x128x1024 (V m c main_v7) rfl rfl 256 rfl
    (ix3 k e q) (fun b hb => match b with | ⟨0, _⟩ => rfl | ⟨1, _⟩ => absurd rfl hb | ⟨2, _⟩ => rfl) rfl).trans ?_
  refine (congrFun (L.unary (V := V₀) 8 rfl) _).trans ((congrFun (L.reshape (V := V₀) 7 rfl) _).trans ?_)
  exact blocks (show Mat (V m c main_arg11) g from fun i => (congrFun (show V m c main_arg11 = m (c, Proc.devRef .tc main_arg11) from L.arg (V := V₀)) i).trans (hw i)) k e q

theorem entry {P : Fin 4096 → Fin 6720 → ℝ} (hx : Mat (m (c, Proc.devRef .tc main_arg0)) A.x) (ht : Mat (m (c, Proc.devRef .tc main_arg1)) A.t)
    (hy : Mat (m (c, Proc.devRef .tc main_arg2)) A.ya) (ho : Mat (m (c, Proc.devRef .tc main_arg3)) A.o) (hP : Mat (m (c, Proc.devRef .tc main_arg4)) P)
    (hg : Mat (m (c, Proc.devRef .tc main_arg7)) fun _ => A.gate) (hf : Row (m (c, Proc.devRef .tc main_arg8)) A.fw)
    (hc : Mat (m (c, Proc.devRef .tc main_arg9)) A.wc) (ha : Mat (m (c, Proc.devRef .tc main_arg10)) A.wa) (hw : Mat (m (c, Proc.devRef .tc main_arg11)) A.wo)
    (bg : ∀ r e, A.bg r e = P r ⟨3648 + e.val, by omega⟩) (ga : ∀ r e, A.ga r e = P r ⟨4672 + e.val, by omega⟩)
    (gb : ∀ r e, A.gb r e = P r ⟨5696 + e.val, by omega⟩) : Entry m c A := by
  let V₀ : Valuation τ sig (Elt Ideal) := fun b => m (c, b)
  have L := line
  exact {
    x := fun i => (congrFun (show V m c main_arg0 = m (c, Proc.devRef .tc main_arg0) from L.arg (V := V₀)) i).trans (hx i)
    t := fun i => (congrFun (show V m c main_arg1 = m (c, Proc.devRef .tc main_arg1) from L.arg (V := V₀)) i).trans (ht i)
    ya := Rep.of_eq (L.unary (V := V₀) 10 rfl) <| .trunc bitsLt_bf16_f32
      (show Mat (V m c main_arg2) A.ya from fun i => (congrFun (show V m c main_arg2 = m (c, Proc.devRef .tc main_arg2) from L.arg (V := V₀)) i).trans (hy i))
    o := fun i => (congrFun (show V m c main_arg3 = m (c, Proc.devRef .tc main_arg3) from L.arg (V := V₀)) i).trans (ho i)
    bg := fun r e => (packed hP r ⟨4096 + e.val, by omega⟩ (show 4096 ≤ 4096 + e.val by omega)).trans
      (congrArg Real.toEReal ((bg r e).trans (congrArg (P r) (Fin.ext (show 3648 + e.val = 4096 + e.val - 448 by omega)))).symm)
    ga := fun r e => (packed hP r ⟨5120 + e.val, by omega⟩ (show 4096 ≤ 5120 + e.val by omega)).trans
      (congrArg Real.toEReal ((ga r e).trans (congrArg (P r) (Fin.ext (show 4672 + e.val = 5120 + e.val - 448 by omega)))).symm)
    gb := fun r e => (packed hP r ⟨6144 + e.val, by omega⟩ (show 4096 ≤ 6144 + e.val by omega)).trans
      (congrArg Real.toEReal ((gb r e).trans (congrArg (P r) (Fin.ext (show 5696 + e.val = 6144 + e.val - 448 by omega)))).symm)
    gate := fun q => by
      let xs : List ((s : Shape) × (s.Idx → EReal)) :=
        [⟨S1x1024, V m c main_arg5⟩, ⟨S1x1024, V m c main_arg6⟩, ⟨S1x1024, V m c main_arg7⟩, ⟨S5x1024, V m c main_v0⟩]
      refine (congrFun (L.nary (V := V₀) 2 rfl) _).trans ?_
      let j : S8x1024.Idx := ix2 2 q
      let hc : Shape.Concatenates (xs.map (·.1)) S8x1024 0 := concatenates_S1x1024_S1x1024_S1x1024_S5x1024_S8x1024_d0
      refine (concatenate_apply_piece (0 : Fin 2) xs hc j 2 (show 2 < 4 by decide) S1x1024 (V m c main_arg7) rfl rfl 2 rfl
        (ix2 0 q) (fun b hb => match b with | ⟨0, _⟩ => absurd rfl hb | ⟨1, _⟩ => rfl) rfl).trans ?_
      exact (congrFun (show V m c main_arg7 = m (c, Proc.devRef .tc main_arg7) from L.arg (V := V₀)) _).trans (hg _)
    fw := Rep.of_eq (L.reshape (V := V₀) 17 rfl) <| Row.row
      (show Row (V m c main_arg8) A.fw from fun i => (congrFun (show V m c main_arg8 = m (c, Proc.devRef .tc main_arg8) from L.arg (V := V₀)) i).trans (hf i)) _
    wc := wc hc
    wa := wa ha
    wo := wo hw }

end Cert.MergeKernel

end
-- ==== Proof.MergeRef.lean ====
/-
  The merge's and the loss's reference, read over the reals: what each buffer of its line of operations holds, as a
  function of the real numbers that the arguments are, and its run.
-/
module

public import Idealize.ShloMosaic.Lib.Pointwise.Reduce
public import proofs.«01_k».proof.Proof.Line
public import proofs.«01_k».proof.Proof.Products
public import proofs.«01_k».proof.Proof.Axes
public import proofs.«01_k».proof.Proof.Heads
public import proofs.«01_k».proof.Proof.MergeReal
public import proofs.«01_k».proof.Proof.Gen.MergeRefIdeal

@[expose] public section

set_option maxRecDepth 16384

noncomputable section

namespace Cert

open Idealize.ShloMosaic hiding ix1 ix2 ix3
open Idealize.ShloMosaic.ValueIdx

theorem word_half : Ideal.ofBits .f32 0x3F000000#32 = ((1 / 2 : ℝ) : EReal) := by
  simp [Ideal.ofBits, Ideal.ieee]; rw [← EReal.coe_mul]; norm_num

/-- The sum of a row, as one number. -/
theorem Row.host_total {n : Nat} {φ : FTy} {x : (⟨1, ![n]⟩ : Shape).Idx → EReal} {g : (⟨1, ![n]⟩ : Shape).Idx → ℝ}
    {z : (⟨0, ![]⟩ : Shape).Idx → EReal} (hx : Rep x g) (hz : Rep z (fun _ => 0)) (h) (hu)
    : Rep (Host.reduceAdd (F := Ideal) (φ := φ) (axes := [0]) (t := ⟨0, ![]⟩) x z h hu) (fun _ => ∑ k, g (ix1 k)) := fun i => by
  show Ideal.hostReduceAdd h x (z _) i = _
  rw [Ideal.hostReduceAdd_r1_a0, hz, EReal.coe_zero, zero_add, coe_sum]
  exact Finset.sum_congr rfl fun k _ => (congrArg x (funext fun y => match y with | ⟨0, _⟩ => rfl)).trans (hx (ix1 k))

end Cert

namespace Cert.MergeRef

open Cert.MergeRefIdeal Cert.MergeRefIdeal.Gen Cert.Merge Cert.Rms
open Idealize.ShloMosaic hiding ix1 ix2 ix3
open Idealize.ShloMosaic.TcCoe Idealize.SL.Sem Idealize.ShloMosaic.StableHlo Idealize.ShloMosaic.ValueIdx

variable (m : (ℓ : Loc nD τ sig) → Buf (Elt Ideal) ℓ) (d : Dev nD)

abbrev V : Valuation τ sig (Elt Ideal) := launchContents m d
abbrev ops : List (HloOp τ sig (Elt Ideal)) := Line.opsOf (V m d) (main (F := Ideal) d)
/-- The buffers the operations write, one each, in order. -/
abbrev W : List (Ref sig .tc) := (List.finRange 154).map fun k => ⟨.hbm, k.natAdd 12, rfl⟩
theorem main_eq : main (F := Ideal) d = seq (ops m d) := rfl
theorem line : Line.Ssa (ops m d) W 12 := ⟨rfl, by decide +kernel⟩
abbrev B (r : Ref sig .tc) : r.ty.Contents (Elt Ideal) := after (ops m d) (V m d) (Proc.devRef .tc r)

theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = B m d b :=
  Line.run (by decide) (by decide) (by decide +kernel) defs main (ops m) (main_eq m) (N := 154) (fun d => rfl) m ρ

variable {m d} {A : Args 4096}

/-- An argument ends as it was launched. -/
theorem kept (x : Ref sig .tc) (h : x.idx.val < 12 := by decide) : B m d x = m (d.tc.loc x) := (line m d).arg h

theorem den (z : ℝ) : 1 + Real.exp z ≠ 0 := by positivity
theorem logistic (z : ℝ) : 1 / (1 + Real.exp (-z)) = sg z := one_div _

/-- The arguments are the real numbers of `A`. -/
structure In (m : (ℓ : Loc nD τ sig) → Buf (Elt Ideal) ℓ) (d : Dev nD) (A : Args 4096) : Prop where
  x : Mat (B m d main_arg0) A.x
  t : Mat (B m d main_arg1) A.t
  ya : Mat (B m d main_arg2) A.ya
  o : Mat (B m d main_arg3) A.o
  bg : Mat (B m d main_v0) A.bg
  ga : Mat (B m d main_v1) A.ga
  gb : Mat (B m d main_v2) A.gb
  gate : Mat (B m d main_arg7) fun _ => A.gate
  fw : Row (B m d main_arg8) A.fw
  wc : Mat (B m d main_arg9) A.wc
  wa : Mat (B m d main_arg10) A.wa
  wo : Mat (B m d main_arg11) A.wo

/-- The forward values up to the row before the norm. -/
structure Fwd (m : (ℓ : Loc nD τ sig) → Buf (Elt Ideal) ℓ) (d : Dev nD) (A : Args 4096) : Prop where
  v4_2 : Mat (B m d main_v4_2) fun r c => sg (A.bg r c)
  v4_1 : Mat (B m d main_v4_1) fun r c => sg (A.bg r c) * (1 - sg (A.bg r c))
  v4_0 : Mat (B m d main_v4_0) A.sb
  v12 : Mat (B m d main_v12) fun r c => sg (A.ga r c)
  v15 : Mat (B m d main_v15) fun r c => sg (A.ga r c) * (1 - sg (A.ga r c))
  v22 : Mat (B m d main_v22) fun r c => sg (A.gb r c)
  v25 : Mat (B m d main_v25) fun r c => sg (A.gb r c) * (1 - sg (A.gb r c))
  v3 : Mat (B m d main_v3) A.pA
  v6 : Mat (B m d main_v6) A.pB
  v28 : Mat (B m d main_v28) A.z
  v31 : Mat (B m d main_v31) A.y2

set_option maxHeartbeats 1600000 in
theorem fwd (i : In m d A) : Fwd m d A := by
  have L := line m d
  have call0_v3 : Mat (B m d main_call0_v3) fun r c => 1 + Real.exp (-A.bg r c) :=
    Rep.cast (.of_eq (show B m d main_call0_v3 = addf (F := Ideal) (φ := .f32) (B m d main_call0_v2) (B m d main_call0_v1) from L.binary 8 rfl) <| .add (.of_eq (show B m d main_call0_v2 = broadcastInDim S4096x1024 ![] bcast_S_S4096x1024 (B m d main_call0_cst) from L.unary 7 rfl) <| .host_splat (.of_eq (show B m d main_call0_cst = constant (F := Ideal) S_ .f32 0x3F800000#32 from L.nullary 6 rfl) <| .const word_one) _ bcast_S_S4096x1024) (.of_eq (show B m d main_call0_v1 = Host.exp (F := Ideal) (φ := .f32) (B m d main_call0_v0) from L.unary 5 rfl) <| .host_exp (.of_eq (show B m d main_call0_v0 = Host.negf (F := Ideal) (φ := .f32) (B m d main_v0) from L.unary 4 rfl) <| .host_neg (i.bg)))) fun _ => rfl
  have v4_2 : Mat (B m d main_v4_2) fun r c => sg (A.bg r c) :=
    Rep.cast (.of_eq (show B m d main_v4_2 = Host.divf (F := Ideal) (φ := .f32) (B m d main_call0_v4) (B m d main_call0_v3) from L.binary 11 rfl) <| .host_div (.of_eq (show B m d main_call0_v4 = broadcastInDim S4096x1024 ![] bcast_S_S4096x1024 (B m d main_call0_cst_0) from L.unary 10 rfl) <| .host_splat (.of_eq (show B m d main_call0_cst_0 = constant (F := Ideal) S_ .f32 0x3F800000#32 from L.nullary 9 rfl) <| .const word_one) _ bcast_S_S4096x1024) call0_v3 fun _ => den _) fun _ => logistic _
  have v4_1 : Mat (B m d main_v4_1) fun r c => sg (A.bg r c) * (1 - sg (A.bg r c)) :=
    Rep.cast (.of_eq (show B m d main_v4_1 = mulf (F := Ideal) (φ := .f32) (B m d main_v4_2) (B m d main_call0_v7) from L.binary 15 rfl) <| .mul v4_2 (.of_eq (show B m d main_call0_v7 = subf (F := Ideal) (φ := .f32) (B m d main_call0_v6) (B m d main_v4_2) from L.binary 14 rfl) <| .sub (.of_eq (show B m d main_call0_v6 = broadcastInDim S4096x1024 ![] bcast_S_S4096x1024 (B m d main_call0_cst_1) from L.unary 13 rfl) <| .host_splat (.of_eq (show B m d main_call0_cst_1 = constant (F := Ideal) S_ .f32 0x3F800000#32 from L.nullary 12 rfl) <| .const word_one) _ bcast_S_S4096x1024) v4_2)) fun _ => rfl
  have v10 : Mat (B m d main_v10) fun r c => 1 + Real.exp (-A.ga r c) :=
    Rep.cast (.of_eq (L.binary 23 rfl) <| .add (.of_eq (L.unary 22 rfl) <| .host_splat (.of_eq (L.nullary 21 rfl) <| .const word_one) _ _) (.of_eq (L.unary 20 rfl) <| .host_exp (.of_eq (L.unary 19 rfl) <| .host_neg (i.ga)))) fun _ => rfl
  have v12 : Mat (B m d main_v12) fun r c => sg (A.ga r c) :=
    Rep.cast (.of_eq (L.binary 26 rfl) <| .host_div (.of_eq (L.unary 25 rfl) <| .host_splat (.of_eq (L.nullary 24 rfl) <| .const word_one) _ _) v10 fun _ => den _) fun _ => logistic _
  have v15 : Mat (B m d main_v15) fun r c => sg (A.ga r c) * (1 - sg (A.ga r c)) :=
    Rep.cast (.of_eq (L.binary 30 rfl) <| .mul v12 (.of_eq (L.binary 29 rfl) <| .sub (.of_eq (L.unary 28 rfl) <| .host_splat (.of_eq (L.nullary 27 rfl) <| .const word_one) _ _) v12)) fun _ => rfl
  have v20 : Mat (B m d main_v20) fun r c => 1 + Real.exp (-A.gb r c) :=
    Rep.cast (.of_eq (L.binary 36 rfl) <| .add (.of_eq (L.unary 35 rfl) <| .host_splat (.of_eq (L.nullary 34 rfl) <| .const word_one) _ _) (.of_eq (L.unary 33 rfl) <| .host_exp (.of_eq (L.unary 32 rfl) <| .host_neg (i.gb)))) fun _ => rfl
  have v22 : Mat (B m d main_v22) fun r c => sg (A.gb r c) :=
    Rep.cast (.of_eq (L.binary 39 rfl) <| .host_div (.of_eq (L.unary 38 rfl) <| .host_splat (.of_eq (L.nullary 37 rfl) <| .const word_one) _ _) v20 fun _ => den _) fun _ => logistic _
  have v25 : Mat (B m d main_v25) fun r c => sg (A.gb r c) * (1 - sg (A.gb r c)) :=
    Rep.cast (.of_eq (L.binary 43 rfl) <| .mul v22 (.of_eq (L.binary 42 rfl) <| .sub (.of_eq (L.unary 41 rfl) <| .host_splat (.of_eq (L.nullary 40 rfl) <| .const word_one) _ _) v22)) fun _ => rfl
  have v4_0 : Mat (B m d main_v4_0) A.sb :=
    Rep.cast (.of_eq (show B m d main_v4_0 = mulf (F := Ideal) (φ := .f32) (B m d main_v0) (B m d main_v4_2) from L.binary 16 rfl) <| .mul (i.bg) v4_2) fun _ => rfl
  have v3 : Mat (B m d main_v3) A.pA :=
    Rep.cast (.of_eq (L.binary 3 rfl) <| .host_dot (φ₁ := .f32) (φ₂ := .f32) _ none (i.ya) (i.wc)) fun _ => rfl
  have v6 : Mat (B m d main_v6) A.pB :=
    Rep.cast (.of_eq (L.binary 18 rfl) <| .host_dot (φ₁ := .f32) (φ₂ := .f32) _ none (.of_eq (L.binary 17 rfl) <| .mul (i.o) v4_0) (i.wa)) fun _ => rfl
  have v27 : Mat (B m d main_v27) A.mg :=
    Rep.cast (.of_eq (L.binary 45 rfl) <| .add (.of_eq (L.binary 31 rfl) <| .mul v12 v3) (.of_eq (L.binary 44 rfl) <| .mul v22 v6)) fun _ => rfl
  have v28 : Mat (B m d main_v28) A.z :=
    Rep.cast (.of_eq (L.binary 46 rfl) <| .host_dot (φ₁ := .f32) (φ₂ := .f32) _ none v27 (i.wo)) fun _ => rfl
  have v31 : Mat (B m d main_v31) A.y2 :=
    Rep.cast (.of_eq (L.binary 49 rfl) <| .add (i.x) (.of_eq (L.binary 48 rfl) <| .mul (.of_eq (L.unary 47 rfl) <| Mat.host_repeat_row (i.gate) _) v28)) fun _ => rfl
  exact ⟨v4_2, v4_1, v4_0, v12, v15, v22, v25, v3, v6, v28, v31⟩

theorem scale2 (e : ℝ) : 1 / 2 * 1 / 1024 * (2 * e) = e * (1 / 1024) := by ring

theorem halve (u : Fin 4096 → ℝ) : 1 / 2 * ∑ r, u r / 1024 = ∑ r, u r * (1 / 2048) := by
  rw [Finset.mul_sum]
  exact Finset.sum_congr rfl fun r _ => by ring

/-- The norm, the loss and their gradients. -/
structure Norm (m : (ℓ : Loc nD τ sig) → Buf (Elt Ideal) ℓ) (d : Dev nD) (A : Args 4096) : Prop where
  v44 : Mat (B m d main_v44) fun r => unit 1024 (A.y2 r)
  v48 : Mat (B m d main_v48) A.err
  v62 : Mat (B m d main_v62) A.dy
  v82 : Mat (B m d main_v82) A.dx2
  v65 : Mat (B m d main_v65) fun _ c => ∑ r, A.dy r c * unit 1024 (A.y2 r) c
  v56 : Rep (B m d main_v56) fun _ => ∑ r, (∑ e, A.err r e * A.err r e) * (1 / 2048)
  v109 : Mat (B m d main_v109) fun _ c => ∑ r, A.dy r c * unit 1024 (A.y2 r) c
  v87 : Mat (B m d main_v87) fun _ c => ∑ r, A.dx2 r c * A.z r c

set_option maxHeartbeats 1600000 in
theorem norm (i : In m d A) (f : Fwd m d A) : Norm m d A := by
  have L := line m d
  have v36 : Mat (B m d main_v36) fun r _ => (∑ c, A.y2 r c * A.y2 r c) / 1024 :=
    Rep.cast (.of_eq (L.binary 56 rfl) <| .host_div (.of_eq (L.unary 53 rfl) <| Row.host_col (.of_eq (L.binary 52 rfl) <| Mat.host_sum_rows (.of_eq (L.binary 50 rfl) <| .mul (f.v31) (f.v31)) (.of_eq (L.nullary 51 rfl) <| .const word_zero) _ _) _) (.of_eq (L.unary 55 rfl) <| .host_splat (.of_eq (L.nullary 54 rfl) <| .const word_1024) _ _) fun _ => by norm_num) fun _ => rfl
  have v38 : Mat (B m d main_v38) fun r _ => ms 1024 (A.y2 r) :=
    Rep.cast (.of_eq (L.binary 59 rfl) <| .add v36 (.of_eq (L.unary 58 rfl) <| .host_splat (.of_eq (L.nullary 57 rfl) <| .const word_eps) _ _)) fun _ => rfl
  have v39 : Mat (B m d main_v39) fun r _ => rr 1024 (A.y2 r) :=
    Rep.cast (.of_eq (L.unary 60 rfl) <| .host_rsqrt v38 fun _ => ms_pos _ _ (by norm_num)) fun _ => rfl
  have v42 : Mat (B m d main_v42) fun r _ => -1 / 2 * (rr 1024 (A.y2 r) / ms 1024 (A.y2 r)) :=
    Rep.cast (.of_eq (L.binary 64 rfl) <| .mul (.of_eq (L.unary 63 rfl) <| .host_splat (.of_eq (L.nullary 62 rfl) <| .const word_neg_half) _ _) (.of_eq (L.binary 61 rfl) <| .host_div v39 v38 fun _ => (ms_pos _ _ (by norm_num)).ne')) fun _ => rfl
  have v44 : Mat (B m d main_v44) fun r => unit 1024 (A.y2 r) :=
    Rep.cast (.of_eq (L.binary 66 rfl) <| .mul (f.v31) (.of_eq (L.unary 65 rfl) <| Mat.host_repeat_col v39 _)) fun _ => rfl
  have v45 : Mat (B m d main_v45) fun _ => A.fw :=
    Rep.cast (.of_eq (L.unary 67 rfl) <| Row.host_row (i.fw) _) fun _ => rfl
  have v48 : Mat (B m d main_v48) A.err :=
    Rep.cast (.of_eq (L.binary 70 rfl) <| .sub (.of_eq (L.binary 69 rfl) <| .mul v44 (.of_eq (L.unary 68 rfl) <| Mat.host_repeat_row v45 _)) (i.t)) fun _ => rfl
  have v54 : Row (B m d main_v54) fun r => (∑ e, A.err r e * A.err r e) / 1024 :=
    Rep.cast (.of_eq (L.binary 79 rfl) <| .host_div (.of_eq (L.binary 76 rfl) <| Mat.host_sum_rows (.of_eq (L.binary 71 rfl) <| .mul v48 v48) (.of_eq (L.nullary 75 rfl) <| .const word_zero) _ _) (.of_eq (L.unary 78 rfl) <| .host_splat (.of_eq (L.nullary 77 rfl) <| .const word_1024) _ _) fun _ => by norm_num) fun _ => rfl
  have v56 : Rep (B m d main_v56) fun _ => ∑ r, (∑ e, A.err r e * A.err r e) * (1 / 2048) :=
    Rep.cast (.of_eq (L.binary 83 rfl) <| .mul (.of_eq (L.nullary 82 rfl) <| .const word_half) (.of_eq (L.binary 81 rfl) <| Row.host_total (v54) (.of_eq (L.nullary 80 rfl) <| .const word_zero) _ _)) fun _ => halve _
  have v60 : Row (B m d main_v60) fun _ => 1 / 2 * 1 / 1024 :=
    Rep.cast (.of_eq (L.binary 90 rfl) <| .host_div (.of_eq (L.unary 87 rfl) <| .host_splat (.of_eq (L.binary 86 rfl) <| .mul (.of_eq (L.nullary 84 rfl) <| .const word_half) (.of_eq (L.nullary 85 rfl) <| .const word_one)) _ _) (.of_eq (L.unary 89 rfl) <| .host_splat (.of_eq (L.nullary 88 rfl) <| .const word_1024) _ _) fun _ => by norm_num) fun _ => rfl
  have v62 : Mat (B m d main_v62) A.dy :=
    Rep.cast (.of_eq (L.binary 92 rfl) <| .mul (.of_eq (L.unary 91 rfl) <| Row.host_col v60 _) (.of_eq (L.binary 74 rfl) <| .mul (.of_eq (L.unary 73 rfl) <| .host_splat (.of_eq (L.nullary 72 rfl) <| .const word_2) _ _) v48)) fun _ => scale2 _
  have v65 : Mat (B m d main_v65) fun _ c => ∑ r, A.dy r c * unit 1024 (A.y2 r) c :=
    Rep.cast (.of_eq (L.reshape 96 rfl) <| Row.row (.of_eq (L.binary 95 rfl) <| Mat.host_sum_cols (.of_eq (L.binary 93 rfl) <| .mul v44 v62) (.of_eq (L.nullary 94 rfl) <| .const word_zero) _ _) _) fun _ => Finset.sum_congr rfl fun _ _ => mul_comm _ _
  have v109 : Mat (B m d main_v109) fun _ c => ∑ r, A.dy r c * unit 1024 (A.y2 r) c :=
    Rep.cast (.of_eq (L.reshape 149 rfl) <| Row.row (.of_eq (L.binary 100 rfl) <| Mat.host_sum_cols v65 (.of_eq (L.nullary 99 rfl) <| .const word_zero) _ _) _) fun _ => Fin.sum_univ_one _
  have v67 : Mat (B m d main_v67) A.dxn :=
    Rep.cast (.of_eq (L.binary 98 rfl) <| .mul v62 (.of_eq (L.unary 97 rfl) <| Mat.host_repeat_row v45 _)) fun _ => rfl
  have v78 : Mat (B m d main_v78) fun r _ => coef 1024 (A.y2 r) (A.dxn r) :=
    Rep.cast (.of_eq (L.unary 113 rfl) <| Row.host_col (.of_eq (L.binary 112 rfl) <| Mat.host_sum_unit (.of_eq (L.binary 110 rfl) <| .host_div (.of_eq (L.binary 107 rfl) <| .mul (.of_eq (L.reshape 104 rfl) <| Row.col (.of_eq (L.binary 103 rfl) <| Mat.host_sum_rows (.of_eq (L.binary 101 rfl) <| .mul (f.v31) v67) (.of_eq (L.nullary 102 rfl) <| .const word_zero) _ _) _) v42) (.of_eq (L.unary 109 rfl) <| .host_splat (.of_eq (L.nullary 108 rfl) <| .const word_1024) _ _) fun _ => by norm_num) (.of_eq (L.nullary 111 rfl) <| .const word_zero) _ _) _) fun _ => rfl
  have v82 : Mat (B m d main_v82) A.dx2 :=
    Rep.cast (.of_eq (L.binary 117 rfl) <| .add (.of_eq (L.binary 115 rfl) <| .add (.of_eq (L.binary 106 rfl) <| .mul v67 (.of_eq (L.unary 105 rfl) <| Mat.host_repeat_col v39 _)) (.of_eq (L.binary 114 rfl) <| .mul (f.v31) v78)) (.of_eq (L.binary 116 rfl) <| .mul v78 (f.v31))) fun i => backDiff_eq 1024 (A.y2 (i 0)) (A.dxn (i 0)) (by norm_num) (i 1)
  have v87 : Mat (B m d main_v87) fun _ c => ∑ r, A.dx2 r c * A.z r c :=
    Rep.cast (.of_eq (L.reshape 123 rfl) <| Row.row (.of_eq (L.binary 122 rfl) <| Mat.host_sum_cols (.of_eq (L.binary 120 rfl) <| .mul v82 (f.v28)) (.of_eq (L.nullary 121 rfl) <| .const word_zero) _ _) _) fun _ => rfl
  exact ⟨v44, v48, v62, v82, v65, v56, v109, v87⟩

theorem gate_back (e u b s : ℝ) : e * u * s + b * (e * u) * (s * (1 - s)) = u * e * (s * (1 + b * (1 - s))) := by ring

/-- The gradients of the gates, of the two branches, and the attention's correction. -/
structure Back (m : (ℓ : Loc nD τ sig) → Buf (Elt Ideal) ℓ) (d : Dev nD) (A : Args 4096) : Prop where
  v98 : Mat (B m d main_v98) A.dbg
  v94 : Mat (B m d main_v94) A.dga
  v91 : Mat (B m d main_v91) A.dgb
  v99 : Mat (B m d main_v99) A.dya
  v104 : Mat (B m d main_v104) A.do_
  v106 : Ten (B m d main_v106) fun h r _ => A.delta h r

set_option maxHeartbeats 1600000 in
theorem back (i : In m d A) (f : Fwd m d A) (n : Norm m d A) : Back m d A := by
  have L := line m d
  have v84 : Mat (B m d main_v84) A.dz :=
    Rep.cast (.of_eq (L.binary 119 rfl) <| .mul (.of_eq (L.unary 118 rfl) <| Mat.host_repeat_row (i.gate) _) (n.v82)) fun _ => mul_comm _ _
  have v88 : Mat (B m d main_v88) A.dm :=
    Rep.cast (.of_eq (L.binary 124 rfl) <| .host_dot (φ₁ := .f32) (φ₂ := .f32) _ none v84 (i.wo)) fun _ => rfl
  have v89 : Mat (B m d main_v89) A.dB :=
    Rep.cast (.of_eq (L.binary 125 rfl) <| .mul (f.v22) v88) fun _ => mul_comm _ _
  have v92 : Mat (B m d main_v92) A.dA :=
    Rep.cast (.of_eq (L.binary 128 rfl) <| .mul (f.v12) v88) fun _ => mul_comm _ _
  have v91 : Mat (B m d main_v91) A.dgb :=
    Rep.cast (.of_eq (L.binary 127 rfl) <| .mul (.of_eq (L.binary 126 rfl) <| .mul v88 (f.v6)) (f.v25)) fun _ => rfl
  have v94 : Mat (B m d main_v94) A.dga :=
    Rep.cast (.of_eq (L.binary 130 rfl) <| .mul (.of_eq (L.binary 129 rfl) <| .mul v88 (f.v3)) (f.v15)) fun _ => rfl
  have v95 : Mat (B m d main_v95) A.dyb :=
    Rep.cast (.of_eq (L.binary 131 rfl) <| .host_dot (φ₁ := .f32) (φ₂ := .f32) _ none v89 (i.wa)) fun _ => rfl
  have v97 : Mat (B m d main_v97) A.do_ :=
    Rep.cast (.of_eq (L.binary 133 rfl) <| .mul v95 (f.v4_0)) fun _ => rfl
  have v96 : Mat (B m d main_v96) fun r c => A.o r c * A.dyb r c :=
    Rep.cast (.of_eq (L.binary 132 rfl) <| .mul (i.o) v95) fun _ => rfl
  have v98 : Mat (B m d main_v98) A.dbg :=
    Rep.cast (.of_eq (show B m d main_v98 = addf (F := Ideal) (φ := .f32) (B m d main_call1_v1) (B m d main_call1_v2) from L.binary 137 rfl) <| .add (.of_eq (show B m d main_call1_v1 = mulf (F := Ideal) (φ := .f32) (B m d main_v96) (B m d main_v4_2) from L.binary 135 rfl) <| .mul v96 (f.v4_2)) (.of_eq (show B m d main_call1_v2 = mulf (F := Ideal) (φ := .f32) (B m d main_call1_v0) (B m d main_v4_1) from L.binary 136 rfl) <| .mul (.of_eq (show B m d main_call1_v0 = mulf (F := Ideal) (φ := .f32) (B m d main_v0) (B m d main_v96) from L.binary 134 rfl) <| .mul (i.bg) v96) (f.v4_1))) fun _ => gate_back _ _ _ _
  have v99 : Mat (B m d main_v99) A.dya :=
    Rep.cast (.of_eq (L.binary 138 rfl) <| .host_dot (φ₁ := .f32) (φ₂ := .f32) _ none v92 (i.wc)) fun _ => rfl
  have v104 : Mat (B m d main_v104) A.do_ :=
    Rep.cast (.of_eq (L.unary 144 rfl) <| .trunc bitsLt_bf16_f32 v97) fun _ => rfl
  have v102 : Mat (B m d main_v102) fun r h => A.delta h r :=
    Rep.cast (.of_eq (L.binary 142 rfl) <| Ten.host_sum (.of_eq (L.reshape 140 rfl) <| Mat.heads (.of_eq (L.binary 139 rfl) <| .mul v97 (i.o)) (by norm_num) _ (fun p q => ⟨128 * p.val + q.val, by omega⟩) fun _ _ => rfl) (.of_eq (L.nullary 141 rfl) <| .const word_zero) _ _) fun _ => rfl
  have v103 : Mat (B m d main_v103) A.delta :=
    Rep.cast (.of_eq (L.unary 143 rfl) <| Mat.swap (n := 4096) (m := 8) (x := B m d main_v102) (g := fun r h => A.delta h r) (v102) _) fun _ => rfl
  have v106 : Ten (B m d main_v106) fun h r _ => A.delta h r :=
    Rep.cast (.of_eq (L.unary 146 rfl) <| Ten.host_repeat (.of_eq (L.unary 145 rfl) <| Mat.host_last (v103) _) _) fun _ => rfl
  exact ⟨v98, v94, v91, v99, v104, v106⟩

/-- The gates' gradients beside one another. -/
theorem gates (b : Back m d A) : Mat (B m d main_v108) A.gates := Rep.of_eq ((line m d).unary 148 rfl) <| .trunc bitsLt_bf16_f32 <| fun i => by
  have hi : (i 1).val < 3072 := (i 1).isLt
  let xs : List ((s : Shape) × (s.Idx → EReal)) :=
    [⟨S4096x1024, B m d main_v98⟩, ⟨S4096x1024, B m d main_v94⟩, ⟨S4096x1024, B m d main_v91⟩]
  refine (congrFun ((line m d).nary 147 rfl) i).trans ?_
  show _ = ((A.gates (i 0) (i 1) : ℝ) : EReal)
  unfold Args.gates
  by_cases e0 : (i 1).val < 1024
  · rw [dif_pos e0]
    exact (concatenate_apply_piece (1 : Fin 2) xs _ i 0 (show 0 < 3 by decide) S4096x1024 (B m d main_v98) rfl rfl 0 rfl (ix2 (i 0) ⟨(i 1).val, by omega⟩)
      (fun b hb => match b with | ⟨0, _⟩ => rfl | ⟨1, _⟩ => absurd rfl hb) (show 0 + ((i 1).val) = (i 1).val by omega)).trans (b.v98 _)
  rw [dif_neg e0]
  by_cases e1 : (i 1).val < 2048
  · rw [dif_pos e1]
    exact (concatenate_apply_piece (1 : Fin 2) xs _ i 1 (show 1 < 3 by decide) S4096x1024 (B m d main_v94) rfl rfl 1024 rfl (ix2 (i 0) ⟨(i 1).val - 1024, by omega⟩)
      (fun b hb => match b with | ⟨0, _⟩ => rfl | ⟨1, _⟩ => absurd rfl hb) (show 1024 + ((i 1).val - 1024) = (i 1).val by omega)).trans (b.v94 _)
  rw [dif_neg e1]
  exact (concatenate_apply_piece (1 : Fin 2) xs _ i 2 (show 2 < 3 by decide) S4096x1024 (B m d main_v91) rfl rfl 2048 rfl (ix2 (i 0) ⟨(i 1).val - 2048, by omega⟩)
      (fun b hb => match b with | ⟨0, _⟩ => rfl | ⟨1, _⟩ => absurd rfl hb) (show 2048 + ((i 1).val - 2048) = (i 1).val by omega)).trans (b.v91 _)

/-- The small sums, and the rest of eight rows. -/
theorem small (n : Norm m d A) : Mat (B m d main_v112) A.small := fun i => by
  have L := line m d
  have hz : Mat (B m d main_v111) fun _ _ => 0 := Rep.of_eq (L.unary 152 rfl) <| Rep.host_splat (Rep.of_eq (L.nullary 151 rfl) <| Rep.const (φ := .f32) word_zero) _ _
  have hl : Mat (B m d main_v110) fun _ _ => ∑ r, (∑ e, A.err r e * A.err r e) * (1 / 2048) :=
    Rep.of_eq (L.unary 150 rfl) <| Rep.host_splat n.v56 _ _
  have hi : (i 0).val < 8 := (i 0).isLt
  let xs : List ((s : Shape) × (s.Idx → EReal)) :=
    [⟨S1x1024, B m d main_v109⟩, ⟨S1x1024, B m d main_v87⟩, ⟨S1x1024, B m d main_v110⟩, ⟨S5x1024, B m d main_v111⟩]
  refine (congrFun (L.nary 153 rfl) i).trans ?_
  show _ = ((∑ r, A.part (i 0) r (i 1) : ℝ) : EReal)
  unfold Args.part
  by_cases e2 : (i 0).val = 2
  · simp only [if_pos e2]
    exact (concatenate_apply_piece (0 : Fin 2) xs _ i 2 (show 2 < 4 by decide) S1x1024 (B m d main_v110) rfl rfl 2 rfl (ix2 0 (i 1))
      (fun b hb => match b with | ⟨0, _⟩ => absurd rfl hb | ⟨1, _⟩ => rfl) e2.symm).trans (hl _)
  simp only [if_neg e2]
  by_cases e1 : (i 0).val = 1
  · simp only [if_pos e1]
    exact (concatenate_apply_piece (0 : Fin 2) xs _ i 1 (show 1 < 4 by decide) S1x1024 (B m d main_v87) rfl rfl 1 rfl (ix2 0 (i 1))
      (fun b hb => match b with | ⟨0, _⟩ => absurd rfl hb | ⟨1, _⟩ => rfl) e1.symm).trans (n.v87 _)
  simp only [if_neg e1]
  by_cases e0 : (i 0).val = 0
  · simp only [if_pos e0]
    exact (concatenate_apply_piece (0 : Fin 2) xs _ i 0 (show 0 < 4 by decide) S1x1024 (B m d main_v109) rfl rfl 0 rfl (ix2 0 (i 1))
      (fun b hb => match b with | ⟨0, _⟩ => absurd rfl hb | ⟨1, _⟩ => rfl) e0.symm).trans (n.v109 _)
  simp only [if_neg e0]
  refine (concatenate_apply_piece (0 : Fin 2) xs _ i 3 (show 3 < 4 by decide) S5x1024 (B m d main_v111) rfl rfl 3 rfl (ix2 ⟨(i 0).val - 3, by omega⟩ (i 1))
      (fun b hb => match b with | ⟨0, _⟩ => absurd rfl hb | ⟨1, _⟩ => rfl) (show 3 + ((i 0).val - 3) = (i 0).val by omega)).trans ((hz _).trans (congrArg _ ?_))
  exact Finset.sum_const_zero.symm

theorem results (i : In m d A) : Mat (B m d main_v99) A.dya ∧ Mat (B m d main_v104) A.do_ ∧ Ten (B m d main_v106) (fun h r _ => A.delta h r)
    ∧ Mat (B m d main_v108) A.gates ∧ Mat (B m d main_v82) A.dx2 ∧ Mat (B m d main_v112) A.small :=
  have f := fwd i
  have n := norm i f
  have b := back i f n
  ⟨b.v99, b.v104, b.v106, gates b, n.v82, small n⟩

end Cert.MergeRef

end
-- ==== Proof.MergeClaim.lean ====
/-
  The merge and the loss: the kernel's results are the reference's.
-/
module

public import proofs.«01_k».proof.Proof.MergeHost
public import proofs.«01_k».proof.Proof.MergeRef
public import proofs.«01_k».proof.Proof.AttnClaim
public import proofs.«01_k».proof.Proof.Gen.Pre_finite_merge

@[expose] public section

set_option maxRecDepth 16384

noncomputable section

namespace Cert.MergeClaim

open Idealize.ShloMosaic hiding ix1 ix2 ix3
open Idealize.ShloMosaic.TcCoe Idealize.SL.Sem Idealize.ShloMosaic.StableHlo Idealize.ShloMosaic.ValueIdx
open Cert.Merge (Args)

theorem frame_ref (m : (ℓ : Loc MergeRefIdeal.nD MergeRefIdeal.τ MergeRefIdeal.sig) → Buf (Elt Ideal) ℓ) (ρ : Dev MergeRefIdeal.nD → PrngReg) :
    θ_run (MergeRefIdeal.defs (F := Ideal)) (onTc (τ := MergeRefIdeal.τ) (MergeRefIdeal.main (F := Ideal))) ⟨m, fun _ => 0, ρ⟩ fun r =>
      (∀ c : Dev MergeRefIdeal.nD, (r.2.mem (c.tc.loc MergeRefIdeal.main_arg0) = m (c.tc.loc MergeRefIdeal.main_arg0)
        ∧ r.2.mem (c.tc.loc MergeRefIdeal.main_arg1) = m (c.tc.loc MergeRefIdeal.main_arg1)
        ∧ r.2.mem (c.tc.loc MergeRefIdeal.main_arg2) = m (c.tc.loc MergeRefIdeal.main_arg2)
        ∧ r.2.mem (c.tc.loc MergeRefIdeal.main_arg3) = m (c.tc.loc MergeRefIdeal.main_arg3)
        ∧ r.2.mem (c.tc.loc MergeRefIdeal.main_arg4) = m (c.tc.loc MergeRefIdeal.main_arg4)
        ∧ r.2.mem (c.tc.loc MergeRefIdeal.main_arg5) = m (c.tc.loc MergeRefIdeal.main_arg5)
        ∧ r.2.mem (c.tc.loc MergeRefIdeal.main_arg6) = m (c.tc.loc MergeRefIdeal.main_arg6)
        ∧ r.2.mem (c.tc.loc MergeRefIdeal.main_arg7) = m (c.tc.loc MergeRefIdeal.main_arg7)
        ∧ r.2.mem (c.tc.loc MergeRefIdeal.main_arg8) = m (c.tc.loc MergeRefIdeal.main_arg8)
        ∧ r.2.mem (c.tc.loc MergeRefIdeal.main_arg9) = m (c.tc.loc MergeRefIdeal.main_arg9)
        ∧ r.2.mem (c.tc.loc MergeRefIdeal.main_arg10) = m (c.tc.loc MergeRefIdeal.main_arg10)
        ∧ r.2.mem (c.tc.loc MergeRefIdeal.main_arg11) = m (c.tc.loc MergeRefIdeal.main_arg11))) ∧ r.2.sem = fun _ => 0 :=
  (θ_run _ _ _).mono (fun r h => ⟨fun c =>
    ⟨(h c _).trans (MergeRef.kept _), (h c _).trans (MergeRef.kept _), (h c _).trans (MergeRef.kept _), (h c _).trans (MergeRef.kept _), (h c _).trans (MergeRef.kept _), (h c _).trans (MergeRef.kept _), (h c _).trans (MergeRef.kept _), (h c _).trans (MergeRef.kept _), (h c _).trans (MergeRef.kept _), (h c _).trans (MergeRef.kept _), (h c _).trans (MergeRef.kept _), (h c _).trans (MergeRef.kept _)⟩,
    sem_eq_zero_of_no_sems rfl _⟩) (MergeRef.run m ρ)

section

open MergeIdeal MergeIdeal.Gen

/-- The kernel's run: its six results, and the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16_0) = (dats m 0 c).arrAt 12 cfg0.N
      ∧ r.2.mem ((c.tc : Thread nD τ).loc main_v16_1) = (dats m 0 c).arrAt 13 cfg0.N
      ∧ r.2.mem ((c.tc : Thread nD τ).loc main_v16_2) = (dats m 0 c).arrAt 14 cfg0.N
      ∧ r.2.mem ((c.tc : Thread nD τ).loc main_v16_3) = (dats m 0 c).arrAt 15 cfg0.N
      ∧ r.2.mem ((c.tc : Thread nD τ).loc main_v16_4) = (dats m 0 c).arrAt 16 cfg0.N
      ∧ r.2.mem ((c.tc : Thread nD τ).loc main_v16_6) = (dats m 0 c).arrAt 17 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h.1 c).1 12, (h.1 c).1 13, (h.1 c).1 14, (h.1 c).1 15, (h.1 c).1 16, (h.1 c).1 17, h.2.1 c⟩) (θ_run_and (run_main m ρ) (frame m ρ))

end

set_option maxHeartbeats 1600000 in
theorem algebraic : Cert.algebraic_MergeIdeal_MergeRefIdeal_pre_finite_merge := by
  intro m ρ m' ρ' hpre hag
  refine ⟨fun c => (MergeIdeal.Gen.dats m 0 c).arrAt 12 MergeIdeal.cfg0.N, fun c => (MergeIdeal.Gen.dats m 0 c).arrAt 13 MergeIdeal.cfg0.N, fun c => (MergeIdeal.Gen.dats m 0 c).arrAt 14 MergeIdeal.cfg0.N, fun c => (MergeIdeal.Gen.dats m 0 c).arrAt 15 MergeIdeal.cfg0.N, fun c => (MergeIdeal.Gen.dats m 0 c).arrAt 16 MergeIdeal.cfg0.N, fun c => (MergeIdeal.Gen.dats m 0 c).arrAt 17 MergeIdeal.cfg0.N,
    run m ρ, (θ_run _ _ _).mono (fun r h c => ?_) (MergeRef.run m' ρ')⟩
  obtain ⟨p0, p1, p2, p3, p4, p5, p6, p7, p8, p9⟩ := hpre c
  obtain ⟨a0, a1, a2, a3, a4, a5, a6, a7, a8, a9, a10, a11⟩ := hag c
  obtain ⟨X, hX⟩ := exists_mat (exists_rep p0)
  obtain ⟨T, hT⟩ := exists_mat (exists_rep p1)
  obtain ⟨Y, hY⟩ := exists_mat (exists_rep p2)
  obtain ⟨O, hO⟩ := exists_mat (exists_rep p3)
  obtain ⟨P, hP⟩ := exists_mat (exists_rep p4)
  obtain ⟨G, hG'⟩ := exists_mat (exists_rep p5)
  obtain ⟨f, hf⟩ := exists_rep p6
  obtain ⟨C, hC⟩ := exists_mat (exists_rep p7)
  obtain ⟨D, hD⟩ := exists_mat (exists_rep p8)
  obtain ⟨U, hU⟩ := exists_mat (exists_rep p9)
  let A : Args 4096 :=
    { x := X, t := T, ya := Y, o := O, bg := fun r e => P r ⟨3648 + e.val, by omega⟩, ga := fun r e => P r ⟨4672 + e.val, by omega⟩,
      gb := fun r e => P r ⟨5696 + e.val, by omega⟩, gate := G 0, fw := fun c => f (ix1 c), wc := C, wa := D, wo := U }
  have hG : Mat (m (c.tc.loc MergeIdeal.main_arg7)) fun _ => A.gate :=
    Rep.cast hG' fun i => congrArg (fun k => G k (i 1)) (Subsingleton.elim (α := Fin 1) (i 0) 0)
  have hF : Row (m (c.tc.loc MergeIdeal.main_arg8)) A.fw :=
    Rep.cast hf fun i => congrArg f (funext fun a => match a with | ⟨0, _⟩ => rfl)
  have e : MergeKernel.Entry m c A := MergeKernel.entry hX hT hY hO hP hG hF hC hD hU (fun _ _ => rfl) (fun _ _ => rfl) (fun _ _ => rfl)
  have L := MergeRef.line m' c
  have hP' : Mat (MergeRef.B m' c MergeRefIdeal.main_arg4) P := ((MergeRef.kept MergeRefIdeal.main_arg4).trans a4).symm ▸ hP
  have i : MergeRef.In m' c A :=
    { x := ((MergeRef.kept MergeRefIdeal.main_arg0).trans a0).symm ▸ hX
      t := ((MergeRef.kept MergeRefIdeal.main_arg1).trans a1).symm ▸ hT
      ya := ((MergeRef.kept MergeRefIdeal.main_arg2).trans a2).symm ▸ hY
      o := ((MergeRef.kept MergeRefIdeal.main_arg3).trans a3).symm ▸ hO
      bg := Rep.of_eq (L.unary 0 rfl) <| Mat.cols hP' (by decide) _
      ga := Rep.of_eq (L.unary 1 rfl) <| Mat.cols hP' (by decide) _
      gb := Rep.of_eq (L.unary 2 rfl) <| Mat.cols hP' (by decide) _
      gate := ((MergeRef.kept MergeRefIdeal.main_arg7).trans a7).symm ▸ hG
      fw := ((MergeRef.kept MergeRefIdeal.main_arg8).trans a8).symm ▸ hF
      wc := ((MergeRef.kept MergeRefIdeal.main_arg9).trans a9).symm ▸ hC
      wa := ((MergeRef.kept MergeRefIdeal.main_arg10).trans a10).symm ▸ hD
      wo := ((MergeRef.kept MergeRefIdeal.main_arg11).trans a11).symm ▸ hU }
  obtain ⟨r0, r1, r2, r3, r4, r5⟩ := MergeRef.results i
  exact ⟨(h c _).trans (funext fun i => (r0 i).trans (MergeKernel.result12 e i).symm), (h c _).trans (funext fun i => (r1 i).trans (MergeKernel.result13 e i).symm), (h c _).trans (funext fun i => (r2 i).trans (MergeKernel.result14 e i).symm), (h c _).trans (funext fun i => (r3 i).trans (MergeKernel.result15 e i).symm), (h c _).trans (funext fun i => (r4 i).trans (MergeKernel.result16 e i).symm), (h c _).trans (funext fun i => (r5 i).trans (MergeKernel.result17 e i).symm),
    (h c _).trans (MergeRef.kept _), (h c _).trans (MergeRef.kept _), (h c _).trans (MergeRef.kept _), (h c _).trans (MergeRef.kept _), (h c _).trans (MergeRef.kept _), (h c _).trans (MergeRef.kept _), (h c _).trans (MergeRef.kept _), (h c _).trans (MergeRef.kept _), (h c _).trans (MergeRef.kept _), (h c _).trans (MergeRef.kept _), (h c _).trans (MergeRef.kept _), (h c _).trans (MergeRef.kept _)⟩

end Cert.MergeClaim

end
-- ==== Proof.FwdBody.lean ====
/-
  The body of the attention's forward kernel at each of its points: what its loop carries and what it leaves in its two
  windows, over the blocks of its arguments.
-/
module

public import proofs.«01_k».proof.Proof.Windows
public import proofs.«01_k».proof.Proof.Gen.FwdIdeal.Frame
public import proofs.«01_k».proof.Proof.Products

@[expose] public section

set_option maxRecDepth 16384

noncomputable section

namespace Cert.FwdBody

open Cert.FwdIdeal Cert.FwdIdeal.Gen Cert.Windows
open Idealize.ShloMosaic hiding ix1 ix2 ix3
open Idealize.ShloMosaic.TcCoe Idealize.SL.Sem Idealize.ShloMosaic.ValueIdx

/-- What the loop carries: the rows' maxima, their sums of exponentials, and the weighted sums of the values. -/
abbrev St := FVec Ideal S1024x1 .f32 × FVec Ideal S1024x1 .f32 × FVec Ideal S1024x128 .f32

section Body

variable (c : Dev nD) (i : grid0.Coords)
  (x0 : FVec Ideal S1x1024x192 .bf16) (x1 : FVec Ideal S1x4096x192 .bf16) (x2 : FVec Ideal S1x4096x128 .bf16)

/-- The chunk of keys and of values a trip reads. -/
def keys (k : Fin (k0_t1_loop i).trips) : FVec Ideal S1x1024x192 .bf16 :=
  View.ld (Val := Elt Ideal) (S := S1x4096x192) (e' := .bf16) x1 (Rect.unit (s := S1x4096x192) (k0_off1 i k) S1x1024x192.size (k0_off1_inb i k))
def vals (k : Fin (k0_t1_loop i).trips) : FVec Ideal S1x1024x128 .bf16 :=
  View.ld (Val := Elt Ideal) (S := S1x4096x128) (e' := .bf16) x2 (Rect.unit (s := S1x4096x128) (k0_off2 i k) S1x1024x128.size (k0_off2_inb i k))

/-- The chunk on the diagonal. -/
def lastKeys : FVec Ideal S1x1024x192 .bf16 :=
  View.ld (Val := Elt Ideal) (S := S1x4096x192) (e' := .bf16) x1 (Rect.unit (s := S1x4096x192) (k0_off5 i) S1x1024x192.size (k0_off5_inb i))
def lastVals : FVec Ideal S1x1024x128 .bf16 :=
  View.ld (Val := Elt Ideal) (S := S1x4096x128) (e' := .bf16) x2 (Rect.unit (s := S1x4096x128) (k0_off6 i) S1x1024x128.size (k0_off6_inb i))

/-- One trip, and what is carried before each. -/
def trip (k : Fin (k0_t1_loop i).trips) (s : St) : St :=
  (k0_pay8 x0 s.1 (keys i x1 k), k0_pay11 x0 s.1 s.2.1 (keys i x1 k), k0_pay12 x0 s.1 s.2.2 (keys i x1 k) (vals i x2 k))

def before : ℕ → St
  | 0 => (k0_pay4 (F := Ideal), k0_pay5 (F := Ideal), k0_pay6 (F := Ideal))
  | k + 1 => if h : k < (k0_t1_loop i).trips then trip i x0 x1 x2 ⟨k, h⟩ (before k) else before k

theorem before_succ (k : Fin (k0_t1_loop i).trips) : before i x0 x1 x2 (k.val + 1) = trip i x0 x1 x2 k (before i x0 x1 x2 k.val) :=
  dif_pos k.isLt

/-- What the point leaves: the attention's rows, and the logarithm of every row's normaliser. -/
def rows (s : St) : FVec Ideal S1024x128 .f32 :=
  k0_pay1 (k0_pay23 x0 s.1 s.2.1 (lastKeys i x1)) (k0_pay24 x0 s.1 s.2.2 (lastKeys i x1)) (k0_pay25 x0 s.1 (lastKeys i x1)) (lastVals i x2)
def logs (s : St) : FVec Ideal S1x1024x128 .f32 :=
  k0_pay2 (k0_pay20 x0 s.1 (lastKeys i x1)) (k0_pay23 x0 s.1 s.2.1 (lastKeys i x1))

variable (a2 : Memref sig .tc .vmem S1x1024x192 .bf16) (h2 : a2.IsWhole)
  (a3 : Memref sig .tc .vmem S1x4096x192 .bf16) (h3 : a3.IsWhole)
  (a4 : Memref sig .tc .vmem S1x4096x128 .bf16) (h4 : a4.IsWhole)
  (a5 : Memref sig .tc .vmem S1024x128 .f32) (h5 : a5.IsWhole)
  (a6 : Memref sig .tc .vmem S1x1024x128 .f32) (h6 : a6.IsWhole)

theorem tripR_eq (bd) (k : Fin (k0_t1_loop i).trips) (s : St) :
    tripR_k0_t1 (F := Ideal) Variants.none c bd i a2 h2 a3 h3 a4 h4 a5 h5 a6 h6 x0 (h3.unread x1) (h4.unread x2) k s = trip i x0 x1 x2 k s := by
  unfold tripR_k0_t1 trip_k0_t1
  dsimp only
  sl_unfold_words
  simp only [View.readAt_eq_ld, h3.read_unread, h4.read_unread]
  rfl

theorem st_eq (bd) (n : ℕ) :
    st_k0_t1 (F := Ideal) Variants.none c bd i a2 h2 a3 h3 a4 h4 a5 h5 a6 h6 x0 (h3.unread x1) (h4.unread x2)
      (k0_pay4 (F := Ideal), k0_pay5 (F := Ideal), k0_pay6 (F := Ideal)) n = before i x0 x1 x2 n := by
  induction n with
  | zero => rfl
  | succ n ih =>
    rw [st_k0_t1.eq_2, before, ih]
    unfold st_k0_t1Step
    split
    · exact tripR_eq ..
    · rfl

/-- The second loop makes no trip. -/
theorem st2_eq (bd) (y1 : BufTy.Contents (Elt Ideal) a3.view.ty) (y2 : BufTy.Contents (Elt Ideal) a4.view.ty) (s : St) (n : ℕ) :
    st_k0_t2 (F := Ideal) Variants.none c bd i a2 h2 a3 h3 a4 h4 a5 h5 a6 h6 x0 y1 y2 s n = s := by
  induction n with
  | zero => rfl
  | succ n ih =>
    rw [st_k0_t2.eq_2, ih]
    unfold st_k0_t2Step
    split
    · rename_i h; exact absurd h (Nat.not_lt.mpr (Nat.le_trans (k0_t2_abs i).2.1 (Nat.zero_le _)))
    · rfl

/-- What the body leaves in its two windows. -/
theorem out_rows : out0_A_3 (F := Ideal) c i a2 h2 a3 h3 a4 h4 a5 h5 a6 h6 x0 x1 x2
    = rows i x0 x1 x2 (before i x0 x1 x2 (k0_t1_loop i).trips) := by
  unfold out0_A_3
  rw [View.read_writes_eq_canon _ _ _ (cover0_A_3 (F := Ideal) c i a2 h2 a3 h3 a4 h4 a5 h5 a6 h6 x0 x1 x2)]
  unfold kernelRun0_A
  dsimp only
  sl_unfold_words
  rw [View.canon_unit_zero hz]
  simp only [View.readAt_eq_ld, Memref.IsWhole.read_unread, ld_whole3, st_eq, st2_eq]
  rfl

theorem out_logs : out0_A_4 (F := Ideal) c i a2 h2 a3 h3 a4 h4 a5 h5 a6 h6 x0 x1 x2
    = logs i x0 x1 (before i x0 x1 x2 (k0_t1_loop i).trips) := by
  unfold out0_A_4
  rw [View.read_writes_eq_canon _ _ _ (cover0_A_4 (F := Ideal) c i a2 h2 a3 h3 a4 h4 a5 h5 a6 h6 x0 x1 x2)]
  unfold kernelRun0_A
  dsimp only
  sl_unfold_words
  rw [View.canon_unit_zero hz3]
  simp only [View.readAt_eq_ld, Memref.IsWhole.read_unread, ld_whole3, st_eq, st2_eq]
  rfl

end Body

end Cert.FwdBody

end
-- ==== Proof.FwdPay.lean ====
/-
  The attention's forward arithmetic on one chunk of keys, over the reals: the running maximum, the factor that brings the
  earlier sums to it, and the two sums.
-/
module

public import proofs.«01_k».proof.Proof.Products
public import proofs.«01_k».proof.Proof.Heads
public import proofs.«01_k».proof.Proof.AttnPay
public import proofs.«01_k».proof.Proof.FwdBody

@[expose] public section

set_option maxRecDepth 16384

noncomputable section

namespace FwdPay

open Cert Cert.FwdIdeal Cert.FwdIdeal.Gen
open Idealize.ShloMosaic hiding ix1 ix2 ix3
open Idealize.ShloMosaic.ValueIdx

/-- One chunk over its scores: the rows' new maxima, the factor of the earlier sums, the exponentials, the two sums. -/
def top (x : FVec Ideal S1024x1024 .f32) (m : FVec Ideal S1024x1 .f32) : FVec Ideal S1024x1 .f32 :=
  maximumf m (shapeCast S1024x1 (multiReduction .maximumf [1] S1024 x 0xFF800000#32 reduces_S1024x1024_S1024 (.inl rfl) rfl) shapeCasts_S1024_S1024x1)

def fac (x : FVec Ideal S1024x1024 .f32) (m : FVec Ideal S1024x1 .f32) : FVec Ideal S1024x1 .f32 := exp (subf m (top x m))

def exps (x : FVec Ideal S1024x1024 .f32) (m : FVec Ideal S1024x1 .f32) : FVec Ideal S1024x1024 .f32 :=
  exp (subf x (broadcastTo S1024x1024 (top x m) broadcasts_S1024x1_S1024x1024))

def sums (x : FVec Ideal S1024x1024 .f32) (m l : FVec Ideal S1024x1 .f32) : FVec Ideal S1024x1 .f32 :=
  addf (mulf (fac x m) l)
    (shapeCast S1024x1 (multiReduction .add [1] S1024 (exps x m) 0x00000000#32 reduces_S1024x1024_S1024 (.inl rfl) rfl) shapeCasts_S1024_S1024x1)

def accs (x : FVec Ideal S1024x1024 .f32) (m : FVec Ideal S1024x1 .f32) (a : FVec Ideal S1024x128 .f32) (v : FVec Ideal S1x1024x128 .bf16) :
    FVec Ideal S1024x128 .f32 :=
  addf (mulf (broadcastTo S1024x128 (fac x m) broadcasts_S1024x1_S1024x128) a)
    (matmul dot_S1024x1024_S1024x128_S1024x128_1_0_0_1_n_n none (truncf .bf16 (exps x m) bitsLt_bf16_f32)
      (shapeCast S1024x128 v shapeCasts_S1x1024x128_S1024x128) (constant S1024x128 .f32 0x00000000#32))

section Chunk

variable {x : FVec Ideal S1024x1024 .f32} {m l : FVec Ideal S1024x1 .f32} {a : FVec Ideal S1024x128 .f32} {v : FVec Ideal S1x1024x128 .bf16}
variable {p : S1024x1024.Idx → Prop} [DecidablePred p] {g : S1024x1024.Idx → ℝ}

/-- The greatest of a row of numbers and −∞s, one of them a number, and of an earlier maximum. -/
theorem real_max {ι : Type} [Fintype ι] (z : EReal) (f : ι → EReal) (hz : z ≠ ⊤) (hf : ∀ i, f i ≠ ⊤) (i : ι) (r : ℝ) (hi : f i = (r : EReal)) :
    ∃ M : ℝ, max z ((Finset.univ : Finset ι).fold max ⊥ f) = (M : EReal) := by
  refine ⟨_, (EReal.coe_toReal (ne_of_lt (max_lt (lt_top_iff_ne_top.mpr hz) ?_)) (ne_of_gt (lt_of_lt_of_le (EReal.bot_lt_coe r) ?_))).symm⟩
  · exact (Finset.fold_max_lt ⊤).mpr ⟨bot_lt_top, fun j _ => lt_top_iff_ne_top.mpr (hf j)⟩
  · exact ((Finset.le_fold_max _).mpr (.inr ⟨i, Finset.mem_univ _, hi.ge⟩)).trans (le_max_right _ _)

/-- The greatest entry of each row. -/
theorem max_rows {n k : ℕ} {φ : FTy} (x : (⟨2, ![n, k]⟩ : Shape).Idx → EReal) (w h hφ hw) (r : Fin n) :
    multiReduction (F := Ideal) (φ := φ) .maximumf [1] ⟨1, ![n]⟩ x w h hφ hw (ix1 r)
      = (Finset.univ : Finset (Fin k)).fold max (Ideal.ofBits φ w) fun c => x (ix2 r c) := by
  rw [Ideal.multiReduction_maximumf_single]
  exact congrArg (fun f => (Finset.univ : Finset (Fin k)).fold max (Ideal.ofBits φ w) f)
    (funext fun c => congrArg x (Mat.lift_rows h (ix1 r) c))

theorem top_real (hx : Cert.Part x p g) (hp : ∀ r : Fin 1024, ∃ c : Fin 1024, p (ix2 r c)) (hm : ∀ i, m i ≠ ⊤) :
    ∃ M : Fin 1024 → ℝ, Mat (top x m) fun r _ => M r := by
  have h : ∀ r : Fin 1024, ∃ M : ℝ, top x m (ix2 r 0) = (M : EReal) := fun r => by
    obtain ⟨c, hc⟩ := hp r
    have e : top x m (ix2 r 0) = max (m (ix2 r 0)) ((Finset.univ : Finset (Fin 1024)).fold max ⊥ fun c => x (ix2 r c)) := by
      unfold top
      show max _ (shapeCast S1024x1 (multiReduction .maximumf [1] S1024 x 0xFF800000#32 reduces_S1024x1024_S1024 (.inl rfl) rfl)
        shapeCasts_S1024_S1024x1 (ix2 r 0)) = _
      refine congrArg (max _) ((shapeCast_apply _ shapeCasts_S1024_S1024x1 (ix2 r 0) (ix1 r) ?_).trans
        ((max_rows (φ := .f32) x _ _ _ _ r).trans (congrArg (fun z => (Finset.univ : Finset (Fin 1024)).fold max z fun c => x (ix2 r c)) word_neg_inf)))
      rw [Shape.rowMajor_val_one, Shape.rowMajor_val_two]
      show r.val = r.val * 1 + 0
      omega
    rw [e]
    refine real_max _ _ (hm _) (fun j => ?_) c (g (ix2 r c)) ((hx _).trans (if_pos hc))
    rw [hx]
    split
    · exact EReal.coe_ne_top _
    · exact bot_ne_top
  choose M hM using h
  exact ⟨M, fun i => by
    have : i = ix2 (i 0) 0 := funext fun b => match b with | ⟨0, _⟩ => rfl | ⟨1, _⟩ => Fin.ext (by have h : (i 1).val < 1 := (i 1).isLt; show (i 1).val = 0; omega)
    rw [this]; exact hM _⟩

variable {M : Fin 1024 → ℝ}

theorem exps_real (hx : Cert.Part x p g) (hM : Mat (top x m) fun r _ => M r) :
    Rep (exps x m) fun i => if p i then Real.exp (g i - M (i 0)) else 0 :=
  Part.exp (φ := .f32) (Part.sub (φ := .f32) hx (Mat.repeat_col hM _))

theorem fac_apply (hM : Mat (top x m) fun r _ => M r) (i : S1024x1.Idx) : fac x m i = Ideal.exp (m i - (M (i 0) : EReal)) := by
  show Ideal.exp (m i - top x m i) = _
  rw [hM]

theorem sums_real {A : Fin 1024 → ℝ} {E : Fin 1024 → Fin 1024 → ℝ} (he : Mat (exps x m) E) (hM : Mat (top x m) fun r _ => M r)
    (hl : ∀ i : S1024x1.Idx, Ideal.exp (m i - (M (i 0) : EReal)) * l i = ((A (i 0) : ℝ) : EReal)) :
    Mat (sums x m l) fun r _ => A r + ∑ c : Fin 1024, E r c := by
  have h1 : Mat (mulf (fac x m) l) fun r _ => A r := fun i => by
    show fac x m i * l i = _
    rw [fac_apply hM]; exact hl i
  exact Rep.cast (Rep.add (φ := .f32) h1 (Row.col (Mat.sum_rows (φ := .f32) he _ _ _ _) _)) fun _ => rfl

theorem accs_real {E : Fin 1024 → Fin 1024 → ℝ} {B : Fin 1024 → Fin 128 → ℝ} {V : Fin 1024 → Fin 128 → ℝ} (he : Mat (exps x m) E) (hM : Mat (top x m) fun r _ => M r)
    (ha : ∀ i : S1024x128.Idx, Ideal.exp (m (ix2 (i 0) 0) - (M (i 0) : EReal)) * a i = ((B (i 0) (i 1) : ℝ) : EReal)) (hv : Ten v fun _ => V) :
    Mat (accs x m a v) fun r e => B r e + ∑ c : Fin 1024, E r c * V c e := by
  have h1 : Mat (mulf (broadcastTo S1024x128 (fac x m) broadcasts_S1024x1_S1024x128) a) B := fun i => by
    have e : broadcastTo S1024x128 (fac x m) broadcasts_S1024x1_S1024x128 i = fac x m (ix2 (i 0) 0) := by
      refine broadcastTo_apply _ _ i (ix2 (i 0) 0) fun b => ?_
      match b with
      | ⟨0, _⟩ => exact rfl
      | ⟨1, _⟩ => exact rfl
    show broadcastTo S1024x128 (fac x m) broadcasts_S1024x1_S1024x128 i * a i = _
    rw [e, fac_apply hM]; exact ha i
  exact Rep.cast (Rep.add (φ := .f32) h1 (Rep.matmul (φ₁ := .bf16) (φ₂ := .bf16) dot_S1024x1024_S1024x128_S1024x128_1_0_0_1_n_n none
    (Rep.trunc (φ := .f32) (ψ := .bf16) bitsLt_bf16_f32 he) (Ten.flat hv _))) fun _ => rfl

end Chunk

section Scores

variable {xq xk : FVec Ideal S1x1024x192 .bf16} {q k : Fin 1024 → Fin 192 → ℝ}

/-- The scores of a chunk, and of the one on the diagonal. -/
theorem pay7 (hq : Ten xq fun _ => q) (hk : Ten xk fun _ => k) : Part (k0_pay7 (F := Ideal) xq xk) (fun _ => True) fun i => AttnPay.dots q k (i 0) (i 1) :=
  fun i => by
    have hs := Rep.matmul (φ₁ := .bf16) (φ₂ := .bf16) dot_S1024x192_S1024x192_S1024x1024_1_1_0_0_n_n none (Ten.flat hq shapeCasts_S1x1024x192_S1024x192)
      (Ten.flat hk shapeCasts_S1x1024x192_S1024x192)
    exact (hs i).trans (if_pos trivial).symm

theorem pay19 (hq : Ten xq fun _ => q) (hk : Ten xk fun _ => k) :
    Part (k0_pay19 (F := Ideal) xq xk) (fun i => (i 1).val ≤ (i 0).val) fun i => AttnPay.dots q k (i 0) (i 1) := fun i => by
  have hs := Rep.matmul (φ₁ := .bf16) (φ₂ := .bf16) dot_S1024x192_S1024x192_S1024x1024_1_1_0_0_n_n none (Ten.flat hq shapeCasts_S1x1024x192_S1024x192)
    (Ten.flat hk shapeCasts_S1x1024x192_S1024x192)
  have hi0 : (i 0).val < 1024 := (i 0).isLt
  have hi1 : (i 1).val < 1024 := (i 1).isLt
  have e : cmpi .sle (iota .tc S1024x1024 32 [1] iota_S1024x1024_d1_w32) (iota .tc S1024x1024 32 [0] iota_S1024x1024_d0_w32) i
      = IntOp.cmpi .sle (BitVec.ofNat 32 (i 1).val) (BitVec.ofNat 32 (i 0).val) := by
    rw [← iota_single_apply .tc S1024x1024 32 1 iota_S1024x1024_d1_w32 i, ← iota_single_apply .tc S1024x1024 32 0 iota_S1024x1024_d0_w32 i]
    exact rfl
  refine (select_word (P := (i 1).val ≤ (i 0).val) (fun h => e.trans ?_) (fun h => e.trans ?_) _ _).trans ?_
  · exact (WordCmp.cmpi_sle_ofNat_eq_one_iff (by omega) (by omega)).mpr h
  · exact (WordCmp.cmpi_sle_ofNat_eq_zero_iff (by omega) (by omega)).mpr h
  · exact ite_congr rfl (fun _ => hs i) fun _ => word_neg_inf

end Scores

end FwdPay

end
-- ==== Proof.FwdValue.lean ====
/-
  The attention's forward kernel over the reals: before every chunk the carried sums are the softmax's sums over the
  earlier keys up to the factor of the carried maximum, and at the end of a point they are the softmax's own.
-/
module

public import proofs.«01_k».proof.Proof.FwdPay
public import proofs.«01_k».proof.Proof.AttnReal

@[expose] public section

set_option maxRecDepth 16384

noncomputable section

namespace FwdRun

open Cert Cert.FwdIdeal Cert.FwdIdeal.Gen Cert.FwdBody FwdPay
open AttnRun (upto row upto_all upto_zero upto_block ld_rows)
open AttnPay (dots)
open Idealize.ShloMosaic hiding ix1 ix2 ix3
open Idealize.ShloMosaic.ValueIdx

theorem upto_mul (n : ℕ) (r : ℝ) (f : Fin 4096 → ℝ) : r * upto n f = upto n fun j => r * f j := by
  unfold upto
  rw [Finset.mul_sum]
  exact Finset.sum_congr rfl fun j _ => by rw [mul_ite, mul_zero]

/-- The blocks before the diagonal, and of the diagonal's block the columns up to the row. -/
theorem upto_diag (b : Fin 4) (r : Fin 1024) (f : Fin 4096 → ℝ) :
    upto (1024 * b.val) f + ∑ c : Fin 1024, (if c.val ≤ r.val then f (row b c) else 0)
      = ∑ j : Fin 4096, if j.val ≤ (row b r).val then f j else 0 := by
  have hr : (row b r).val = 1024 * b.val + r.val := rfl
  have h := upto_block b fun j => if j.val ≤ (row b r).val then f j else 0
  have h1 : upto (1024 * b.val) (fun j => if j.val ≤ (row b r).val then f j else 0) = upto (1024 * b.val) f :=
    Finset.sum_congr rfl fun j _ => by
      by_cases hj : j.val < 1024 * b.val
      · rw [if_pos hj, if_pos hj]; exact if_pos (by omega)
      · rw [if_neg hj, if_neg hj]
  have h2 : upto (1024 * (b.val + 1)) (fun j => if j.val ≤ (row b r).val then f j else 0) = ∑ j : Fin 4096, if j.val ≤ (row b r).val then f j else 0 :=
    Finset.sum_congr rfl fun j _ => by
      by_cases hj : j.val < 1024 * (b.val + 1)
      · rw [if_pos hj]
      · rw [if_neg hj]; exact (if_neg (by omega)).symm
  rw [← h2, h, h1]
  refine congrArg (_ + ·) (Finset.sum_congr rfl fun c _ => ?_)
  have e : (c.val ≤ r.val) = ((row b c).val ≤ (row b r).val) := propext ⟨fun _ => show 1024 * b.val + c.val ≤ 1024 * b.val + r.val by omega,
    fun h => by have h' : 1024 * b.val + c.val ≤ 1024 * b.val + r.val := h; omega⟩
  simp only [e]

variable {A : AttnRun.Args} {h : Fin 8} {b : Fin 4} {i : grid0.Coords}
variable {x0 : FVec Ideal S1x1024x192 .bf16} {x1 : FVec Ideal S1x4096x192 .bf16} {x2 : FVec Ideal S1x4096x128 .bf16}

/-- The blocks at a point of head `h` and query block `b` hold the head's arrays. -/
structure Blocks (A : AttnRun.Args) (h : Fin 8) (b : Fin 4) (x0 : FVec Ideal S1x1024x192 .bf16) (x1 : FVec Ideal S1x4096x192 .bf16)
    (x2 : FVec Ideal S1x4096x128 .bf16) : Prop where
  h0 : Ten x0 fun _ r => A.q h (row b r)
  h1 : Ten x1 fun _ => A.k h
  h2 : Ten x2 fun _ => A.v h

/-- The state when the keys before `n` have been added: the sums, brought from the carried maxima to any other numbers. -/
structure Inv (A : AttnRun.Args) (h : Fin 8) (b : Fin 4) (n : ℕ) (s : St) : Prop where
  fin : ∀ i, s.1 i ≠ ⊤
  sum : ∀ (M : Fin 1024 → ℝ) (i : S1024x1.Idx), Ideal.exp (s.1 i - (M (i 0) : EReal)) * s.2.1 i
    = ((upto n fun j => Real.exp (A.s h (row b (i 0)) j - M (i 0)) : ℝ) : EReal)
  acc : ∀ (M : Fin 1024 → ℝ) (i : S1024x128.Idx), Ideal.exp (s.1 (ix2 (i 0) 0) - (M (i 0) : EReal)) * s.2.2 i
    = ((upto n fun j => Real.exp (A.s h (row b (i 0)) j - M (i 0)) * A.v h j (i 1) : ℝ) : EReal)

theorem shift (M N s : ℝ) : Real.exp (M - N) * Real.exp (s - M) = Real.exp (s - N) := by
  rw [← Real.exp_add]; congr 1; ring

theorem Inv.of_real {n : ℕ} {s : St} (M : Fin 1024 → ℝ) (h1 : Mat s.1 fun r _ => M r)
    (h2 : Mat s.2.1 fun r _ => upto n fun j => Real.exp (A.s h (row b r) j - M r))
    (h3 : Mat s.2.2 fun r e => upto n fun j => Real.exp (A.s h (row b r) j - M r) * A.v h j e) : Inv A h b n s where
  fin i := by rw [h1]; exact EReal.coe_ne_top _
  sum N i := by
    rw [h1, h2, ← EReal.coe_sub, Ideal.exp_coe, ← EReal.coe_mul, upto_mul]
    simp only [shift]
  acc N i := by
    rw [h1, h3]
    show Ideal.exp (((M (i 0) : ℝ) : EReal) - _) * _ = _
    rw [← EReal.coe_sub, Ideal.exp_coe, ← EReal.coe_mul, upto_mul]
    simp only [← mul_assoc, shift]

theorem Inv.zero : Inv A h b 0 (k0_pay4 (F := Ideal), k0_pay5 (F := Ideal), k0_pay6 (F := Ideal)) where
  fin i := by
    show Ideal.ofBits .f32 0xFF800000#32 ≠ ⊤
    rw [word_neg_inf]; exact bot_ne_top
  sum M i := by
    show _ * Ideal.ofBits .f32 0x00000000#32 = _
    rw [word_zero, EReal.coe_zero, mul_zero, upto_zero (fun j hj => absurd hj (Nat.not_lt_zero _))]; rfl
  acc M i := by
    show _ * Ideal.ofBits .f32 0x00000000#32 = _
    rw [word_zero, EReal.coe_zero, mul_zero, upto_zero (fun j hj => absurd hj (Nat.not_lt_zero _))]; rfl

theorem trips_eq : ∀ i : grid0.Coords, (k0_t1_loop i).trips = (i 1).val := by decide +kernel

/-- One chunk before the diagonal. -/
theorem Inv.chunk {s : St} (hB : Blocks A h b x0 x1 x2) (k : Fin (k0_t1_loop i).trips) (hs : Inv A h b (1024 * k.val) s) :
    Inv A h b (1024 * (k.val + 1)) (trip i x0 x1 x2 k s) := by
  have hk4 : k.val < 4 := by have := k.isLt; have := trips_eq i; have : (i 1).val < 4 := (i 1).isLt; omega
  let n : Fin 4 := ⟨k.val, hk4⟩
  have hk : Ten (keys i x1 k) fun _ r => A.k h (row n r) := ld_rows (e := .bf16) (n := n) hB.h1 (k0_off1_eq i k) le_rfl (k0_off1_inb i k)
  have hv : Ten (vals i x2 k) fun _ r => A.v h (row n r) := ld_rows (e := .bf16) (n := n) hB.h2 (k0_off2_eq i k) le_rfl (k0_off2_inb i k)
  obtain ⟨M, hM⟩ := top_real (pay7 hB.h0 hk) (fun r => ⟨0, trivial⟩) hs.fin
  have he : Mat (exps (k0_pay7 x0 (keys i x1 k)) s.1) fun r c => Real.exp (A.s h (row b r) (row n c) - M r) :=
    Rep.cast (exps_real (pay7 hB.h0 hk) hM) fun _ => if_pos trivial
  refine Inv.of_real M hM ?_ ?_
  · exact Rep.cast (sums_real (A := fun r => upto (1024 * n.val) fun q => Real.exp (A.s h (row b r) q - M r)) he hM (hs.sum M)) fun j => (upto_block n fun q => Real.exp (A.s h (row b (j 0)) q - M (j 0))).symm
  · exact Rep.cast (accs_real (B := fun r e => upto (1024 * n.val) fun q => Real.exp (A.s h (row b r) q - M r) * A.v h q e) he hM (hs.acc M) hv) fun j => (upto_block n fun q => Real.exp (A.s h (row b (j 0)) q - M (j 0)) * A.v h q (j 1)).symm

theorem Inv.reach (hB : Blocks A h b x0 x1 x2) (hb : (i 1).val = b.val) : Inv A h b (1024 * b.val) (before i x0 x1 x2 (k0_t1_loop i).trips) := by
  have H : ∀ k, k ≤ (k0_t1_loop i).trips → Inv A h b (1024 * k) (before i x0 x1 x2 k) := by
    intro k
    induction k with
    | zero => exact fun _ => Inv.zero
    | succ k ih =>
      intro hk
      rw [before_succ i x0 x1 x2 ⟨k, hk⟩]
      exact Inv.chunk hB ⟨k, hk⟩ (ih (Nat.le_of_succ_le hk))
  have e : 1024 * b.val = 1024 * (k0_t1_loop i).trips := by rw [trips_eq, hb]
  rw [e]
  exact H _ le_rfl

/-- The attention's result. -/
def out (A : AttnRun.Args) (h : Fin 8) (i : Fin 4096) (e : Fin 128) : ℝ := ∑ j, A.soft h i j * A.v h j e

theorem log_real {s : Shape} {x : s.Idx → EReal} {g : s.Idx → ℝ} (hx : Rep x g) (hg : ∀ i, 0 < g i) :
    Rep (log (F := Ideal) (φ := .f32) x) (fun i => Real.log (g i)) := fun i => by
  show Ideal.log (x i) = _
  rw [hx, Ideal.log_coe, if_neg (not_le.mpr (hg i))]

/-- A whole point. -/
theorem point (hB : Blocks A h b x0 x1 x2) (hb : (i 1).val = b.val) :
    Mat (rows i x0 x1 x2 (before i x0 x1 x2 (k0_t1_loop i).trips)) (fun r e => out A h (row b r) e)
    ∧ Ten (logs i x0 x1 (before i x0 x1 x2 (k0_t1_loop i).trips)) fun _ r _ => Real.log (A.den h (row b r)) := by
  have hs := Inv.reach hB hb
  generalize before i x0 x1 x2 (k0_t1_loop i).trips = s at hs ⊢
  have hk : Ten (lastKeys i x1) fun _ r => A.k h (row b r) :=
    ld_rows (e := .bf16) (n := b) hB.h1 ((k0_off5_eq i).trans (by rw [hb])) le_rfl (k0_off5_inb i)
  have hv : Ten (lastVals i x2) fun _ r => A.v h (row b r) :=
    ld_rows (e := .bf16) (n := b) hB.h2 ((k0_off6_eq i).trans (by rw [hb])) le_rfl (k0_off6_inb i)
  obtain ⟨M, hM⟩ := top_real (pay19 hB.h0 hk) (fun r => ⟨r, le_rfl⟩) hs.fin
  have he : Mat (exps (k0_pay19 x0 (lastKeys i x1)) s.1) fun r c => if c.val ≤ r.val then Real.exp (A.s h (row b r) (row b c) - M r) else 0 :=
    Rep.cast (exps_real (pay19 hB.h0 hk) hM) fun _ => rfl
  have hl : Mat (sums (k0_pay19 x0 (lastKeys i x1)) s.1 s.2.1) fun r _ => ∑ j, A.ex h (row b r) j (M r) :=
    Rep.cast (sums_real (A := fun r => upto (1024 * b.val) fun q => Real.exp (A.s h (row b r) q - M r)) he hM (hs.sum M)) fun j => upto_diag b (j 0) fun q => Real.exp (A.s h (row b (j 0)) q - M (j 0))
  have ha : Mat (accs (k0_pay19 x0 (lastKeys i x1)) s.1 s.2.2 (lastVals i x2)) fun r e => ∑ j, A.ex h (row b r) j (M r) * A.v h j e :=
    Rep.cast (accs_real (B := fun r e => upto (1024 * b.val) fun q => Real.exp (A.s h (row b r) q - M r) * A.v h q e) he hM (hs.acc M) hv) fun j => by
      simp only [ite_mul, zero_mul]
      refine (upto_diag b (j 0) fun q => Real.exp (A.s h (row b (j 0)) q - M (j 0)) * A.v h q (j 1)).trans ?_
      refine Finset.sum_congr rfl fun q _ => ?_
      unfold AttnRun.Args.ex
      rw [ite_mul, zero_mul]
  constructor
  · refine Rep.cast (Rep.div (φ := .f32) ha (Mat.repeat_col hl broadcasts_S1024x1_S1024x128) fun j => (A.sum_pos h _ _).ne') fun j => ?_
    show (∑ q, A.ex h (row b (j 0)) q (M (j 0)) * A.v h q (j 1)) / (∑ q, A.ex h (row b (j 0)) q (M (j 0))) = _
    rw [Finset.sum_div]
    refine Finset.sum_congr rfl fun q _ => ?_
    rw [← A.ex_div h (row b (j 0)) q (M (j 0)), div_mul_eq_mul_div]
  · refine Mat.stack (g := fun r _ => Real.log (A.den h (row b r))) (Rep.cast (Mat.repeat_col (Rep.self _ (Rep.add (φ := .f32) hM
      (log_real hl fun j => A.sum_pos h _ _))) broadcasts_S1024x1_S1024x128) fun j => ?_) _
    exact A.log_sum h (row b (j 0)) (M (j 0))

end FwdRun

end
-- ==== Proof.FwdKernel.lean ====
/-
  The attention's forward kernel over the reals: the arrays the launch finds, the blocks the points read, and the two
  arrays the launch leaves.
-/
module

public import proofs.«01_k».proof.Proof.FwdValue
public import proofs.«01_k».proof.Proof.Line
public import proofs.«01_k».proof.Proof.Heads

@[expose] public section

set_option maxRecDepth 16384

noncomputable section

namespace FwdRun

open Cert Cert.FwdIdeal Cert.FwdIdeal.Gen Cert.FwdBody
open AttnRun (row Args)
open Idealize.ShloMosaic hiding ix1 ix2 ix3
open Idealize.ShloMosaic.ValueIdx Idealize.ShloMosaic.TcCoe Idealize.SL.Sem Idealize.ShloMosaic.StableHlo

/-- The head and the query block of a point. -/
def hd (t : Fin cfg0.N) : Fin 8 := ⟨t.val / 4, by have := t.isLt; have : cfg0.N = 32 := N_0; omega⟩
def qb (t : Fin cfg0.N) : Fin 4 := ⟨t.val % 4, Nat.mod_lt _ (by norm_num)⟩

theorem coord1 : ∀ t : Fin cfg0.N, ((grid0.coords t) 1).val = (qb t).val := by decide +kernel
theorem index0 : ∀ t : Fin cfg0.N, win0_0.index t 0 = t.val / 4 ∧ win0_0.index t 1 = t.val % 4 ∧ win0_0.index t 2 = 0 := by decide +kernel
theorem index1 : ∀ t : Fin cfg0.N, win0_1.index t 0 = t.val / 4 ∧ win0_1.index t 1 = 0 ∧ win0_1.index t 2 = 0 := by decide +kernel
theorem index2 : ∀ t : Fin cfg0.N, win0_2.index t 0 = t.val / 4 ∧ win0_2.index t 1 = 0 ∧ win0_2.index t 2 = 0 := by decide +kernel
theorem index3 : ∀ t : Fin cfg0.N, win0_3.index t 0 = t.val % 4 ∧ win0_3.index t 1 = t.val / 4 := by decide +kernel
theorem index4 : ∀ t : Fin cfg0.N, win0_4.index t 0 = t.val / 4 ∧ win0_4.index t 1 = t.val % 4 ∧ win0_4.index t 2 = 0 := by decide +kernel

/-- What the launch finds in its arrays. -/
structure Entry (m : (ℓ : Loc nD τ sig) → Buf (Elt Ideal) ℓ) (c : Dev nD) (A : Args) : Prop where
  q : Ten (V m c main_v0) A.q
  k : Ten (V m c main_v1) A.k
  v : Ten (V m c main_v2) A.v

variable {m : (ℓ : Loc nD τ sig) → Buf (Elt Ideal) ℓ} {c : Dev nD} {A : Args}

/-- The buffers the host operations write, one each, in order. -/
abbrev W : List (Ref sig .tc) := [main_v0, main_v1, main_v2]

theorem line : Line.Ssa (hostOps0 (F := Ideal)) W 3 := ⟨rfl, by decide +kernel⟩

theorem entry (hq : Ten (m (c, Proc.devRef .tc main_arg0)) A.q) (hk : Ten (m (c, Proc.devRef .tc main_arg1)) A.k)
    (hv : Ten (m (c, Proc.devRef .tc main_arg2)) A.v) : Entry m c A := by
  let V₀ : Valuation τ sig (Elt Ideal) := fun b => m (c, b)
  have L := line
  have q : Ten (V m c main_arg0) A.q := fun i => (congrFun (show V m c main_arg0 = m (c, Proc.devRef .tc main_arg0) from L.arg (V := V₀)) i).trans (hq i)
  have k : Ten (V m c main_arg1) A.k := fun i => (congrFun (show V m c main_arg1 = m (c, Proc.devRef .tc main_arg1) from L.arg (V := V₀)) i).trans (hk i)
  have v : Ten (V m c main_arg2) A.v := fun i => (congrFun (show V m c main_arg2 = m (c, Proc.devRef .tc main_arg2) from L.arg (V := V₀)) i).trans (hv i)
  exact {
    q := Rep.cast (.of_eq (L.unary (V := V₀) 0 rfl) <| .trunc bitsLt_bf16_f32 q) fun _ => rfl
    k := Rep.cast (.of_eq (L.unary (V := V₀) 1 rfl) <| .trunc bitsLt_bf16_f32 k) fun _ => rfl
    v := Rep.cast (.of_eq (L.unary (V := V₀) 2 rfl) <| .trunc bitsLt_bf16_f32 v) fun _ => rfl }

theorem blk0 {x : (⟨3, ![8, 4096, 192]⟩ : Shape).Idx → EReal} (h0 : Ten x A.q) (t : Fin cfg0.N) :
    Ten (a := 1) (b := 1024) (c := 192) (((cfg0.win 0).blk t).view.read (Elt Ideal) x) (fun _ r => A.q (hd t) (row (qb t) r)) := fun j => by
  have hj : (j 0).val < 1 := (j 0).isLt
  rw [View.read_apply]
  refine Eq.trans ?_ (h0 (ix3 (hd t) (row (qb t) (j 1)) (j 2)))
  refine congrArg x (funext fun a => Fin.ext ?_)
  match a with
  | ⟨0, _⟩ => show win0_0.index t 0 * 1 + 1 * (j 0).val = t.val / 4; rw [(index0 t).1]; omega
  | ⟨1, _⟩ => show win0_0.index t 1 * 1024 + 1 * (j 1).val = 1024 * (t.val % 4) + (j 1).val; rw [(index0 t).2.1]; omega
  | ⟨2, _⟩ => show win0_0.index t 2 * 192 + 1 * (j 2).val = (j 2).val; rw [(index0 t).2.2]; omega

theorem blk1 {x : (⟨3, ![8, 4096, 192]⟩ : Shape).Idx → EReal} (h0 : Ten x A.k) (t : Fin cfg0.N) :
    Ten (a := 1) (b := 4096) (c := 192) (((cfg0.win 1).blk t).view.read (Elt Ideal) x) (fun _ => A.k (hd t)) := fun j => by
  have hj : (j 0).val < 1 := (j 0).isLt
  rw [View.read_apply]
  refine Eq.trans ?_ (h0 (ix3 (hd t) (j 1) (j 2)))
  refine congrArg x (funext fun a => Fin.ext ?_)
  match a with
  | ⟨0, _⟩ => show win0_1.index t 0 * 1 + 1 * (j 0).val = t.val / 4; rw [(index1 t).1]; omega
  | ⟨1, _⟩ => show win0_1.index t 1 * 4096 + 1 * (j 1).val = (j 1).val; rw [(index1 t).2.1]; omega
  | ⟨2, _⟩ => show win0_1.index t 2 * 192 + 1 * (j 2).val = (j 2).val; rw [(index1 t).2.2]; omega

theorem blk2 {x : (⟨3, ![8, 4096, 128]⟩ : Shape).Idx → EReal} (h0 : Ten x A.v) (t : Fin cfg0.N) :
    Ten (a := 1) (b := 4096) (c := 128) (((cfg0.win 2).blk t).view.read (Elt Ideal) x) (fun _ => A.v (hd t)) := fun j => by
  have hj : (j 0).val < 1 := (j 0).isLt
  rw [View.read_apply]
  refine Eq.trans ?_ (h0 (ix3 (hd t) (j 1) (j 2)))
  refine congrArg x (funext fun a => Fin.ext ?_)
  match a with
  | ⟨0, _⟩ => show win0_2.index t 0 * 1 + 1 * (j 0).val = t.val / 4; rw [(index2 t).1]; omega
  | ⟨1, _⟩ => show win0_2.index t 1 * 4096 + 1 * (j 1).val = (j 1).val; rw [(index2 t).2.1]; omega
  | ⟨2, _⟩ => show win0_2.index t 2 * 128 + 1 * (j 2).val = (j 2).val; rw [(index2 t).2.2]; omega

theorem Entry.blocks (e : Entry m c A) (t : Fin cfg0.N) : Blocks A (hd t) (qb t) (iblk m c 0 t) (iblk m c 1 t) (iblk m c 2 t) :=
  ⟨blk0 e.q t, blk1 e.k t, blk2 e.v t⟩

theorem Entry.left3 (e : Entry m c A) (t : Fin cfg0.N) :
    Mat (n := 1024) (m := 128) ((dats m 0 c).after 3 t) fun r x => out A (hd t) (row (qb t) r) x := by
  rw [after0_3]
  unfold outsAt0
  dsimp only
  rw [out_rows]
  exact (point (e.blocks t) (coord1 t)).1

theorem Entry.left4 (e : Entry m c A) (t : Fin cfg0.N) :
    Ten (a := 1) (b := 1024) (c := 128) ((dats m 0 c).after 4 t) fun _ r _ => Real.log (A.den (hd t) (row (qb t) r)) := by
  rw [after0_4]
  unfold outsAt0
  dsimp only
  rw [out_logs]
  exact (point (e.blocks t) (coord1 t)).2

theorem idx3 : ∀ t t' : Fin cfg0.N, (cfg0.win 3).index t = (cfg0.win 3).index t' → t = t' := fun t t' h => by
  have e0 := congrFun h 0
  have e1 := congrFun h 1
  rw [show (cfg0.win 3).index t 0 = t.val % 4 from (index3 t).1, show (cfg0.win 3).index t' 0 = t'.val % 4 from (index3 t').1] at e0
  rw [show (cfg0.win 3).index t 1 = t.val / 4 from (index3 t).2, show (cfg0.win 3).index t' 1 = t'.val / 4 from (index3 t').2] at e1
  exact Fin.ext (by omega)

theorem idx4 : ∀ t t' : Fin cfg0.N, (cfg0.win 4).index t = (cfg0.win 4).index t' → t = t' := fun t t' h => by
  have e0 := congrFun h 0
  have e1 := congrFun h 1
  rw [show (cfg0.win 4).index t 0 = t.val / 4 from (index4 t).1, show (cfg0.win 4).index t' 0 = t'.val / 4 from (index4 t').1] at e0
  rw [show (cfg0.win 4).index t 1 = t.val % 4 from (index4 t).2.1, show (cfg0.win 4).index t' 1 = t'.val % 4 from (index4 t').2.1] at e1
  exact Fin.ext (by omega)

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun q => hne (idx3 t t' q)
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun q => hne (idx4 t t' q)

/-- The attention's result with the heads side by side. -/
def joined (A : Args) (r : Fin 4096) (l : Fin 1024) : ℝ := out A ⟨l.val / 128, by omega⟩ r ⟨l.val % 128, Nat.mod_lt _ (by norm_num)⟩

theorem Entry.result3 (e : Entry m c A) : Mat (n := 4096) (m := 1024) ((dats m 0 c).arrAt 3 cfg0.N) (joined A) := fun i => by
  have h0 : (i 0).val < 4096 := (i 0).isLt
  have h1 : (i 1).val < 1024 := (i 1).isLt
  have hN : cfg0.N = 32 := N_0
  let t : Fin cfg0.N := ⟨4 * ((i 1).val / 128) + (i 0).val / 1024, by omega⟩
  let j : (⟨2, ![1024, 128]⟩ : Shape).Idx := ix2 ⟨(i 0).val % 1024, Nat.mod_lt _ (by norm_num)⟩ ⟨(i 1).val % 128, Nat.mod_lt _ (by norm_num)⟩
  have h := (congrFun (((dats m 0 c).read_blk_arrAt_eq_flushed 3 disjoint3 cfg0.N t t.isLt (flush0_3 t))) j).trans (e.left3 t j)
  rw [View.read_apply] at h
  have eh : hd t = ⟨(i 1).val / 128, by omega⟩ := Fin.ext (show (4 * ((i 1).val / 128) + (i 0).val / 1024) / 4 = (i 1).val / 128 by omega)
  have hj : ((cfg0.win 3).blk t).view.emb j = i := funext fun a => Fin.ext <| match a with
    | ⟨0, _⟩ => by show win0_3.index t 0 * 1024 + 1 * ((i 0).val % 1024) = (i 0).val; rw [(index3 t).1]; show (4 * ((i 1).val / 128) + (i 0).val / 1024) % 4 * 1024 + _ = _; omega
    | ⟨1, _⟩ => by show win0_3.index t 1 * 128 + 1 * ((i 1).val % 128) = (i 1).val; rw [(index3 t).2]; show (4 * ((i 1).val / 128) + (i 0).val / 1024) / 4 * 128 + _ = _; omega
  have er : row (qb t) (j 0) = i 0 := Fin.ext (show 1024 * ((4 * ((i 1).val / 128) + (i 0).val / 1024) % 4) + (i 0).val % 1024 = (i 0).val by omega)
  refine (congrArg _ hj).symm.trans (h.trans (congrArg _ ?_))
  show out A (hd t) (row (qb t) (j 0)) (j 1) = joined A (i 0) (i 1)
  rw [eh, er]
  rfl

theorem Entry.result4 (e : Entry m c A) : Ten (a := 8) (b := 4096) (c := 128) ((dats m 0 c).arrAt 4 cfg0.N)
    fun h r _ => Real.log (A.den h r) := fun i => by
  have h0 : (i 0).val < 8 := (i 0).isLt
  have h1 : (i 1).val < 4096 := (i 1).isLt
  have hN : cfg0.N = 32 := N_0
  let t : Fin cfg0.N := ⟨4 * (i 0).val + (i 1).val / 1024, by omega⟩
  let j : (⟨3, ![1, 1024, 128]⟩ : Shape).Idx := ix3 0 ⟨(i 1).val % 1024, Nat.mod_lt _ (by norm_num)⟩ (i 2)
  have h := (congrFun (((dats m 0 c).read_blk_arrAt_eq_flushed 4 disjoint4 cfg0.N t t.isLt (flush0_4 t))) j).trans (e.left4 t j)
  rw [View.read_apply] at h
  have eh : hd t = i 0 := Fin.ext (show (4 * (i 0).val + (i 1).val / 1024) / 4 = (i 0).val by omega)
  have hj : ((cfg0.win 4).blk t).view.emb j = i := funext fun a => Fin.ext <| match a with
    | ⟨0, _⟩ => by show win0_4.index t 0 * 1 + 1 * 0 = (i 0).val; rw [(index4 t).1]; show (4 * (i 0).val + (i 1).val / 1024) / 4 * 1 + 1 * 0 = _; omega
    | ⟨1, _⟩ => by show win0_4.index t 1 * 1024 + 1 * ((i 1).val % 1024) = (i 1).val; rw [(index4 t).2.1]; show (4 * (i 0).val + (i 1).val / 1024) % 4 * 1024 + _ = _; omega
    | ⟨2, _⟩ => by show win0_4.index t 2 * 128 + 1 * (i 2).val = (i 2).val; rw [(index4 t).2.2]; omega
  have er : row (qb t) (j 1) = i 1 := Fin.ext (show 1024 * ((4 * (i 0).val + (i 1).val / 1024) % 4) + (i 1).val % 1024 = (i 1).val by omega)
  refine (congrArg _ hj).symm.trans (h.trans (congrArg _ ?_))
  show Real.log (A.den (hd t) (row (qb t) (j 1))) = Real.log (A.den (i 0) (i 1))
  rw [eh, er]

end FwdRun

end
-- ==== Proof.FwdRef.lean ====
/-
  The attention's reference, read over the reals: what its line of operations leaves in the two results.
-/
module

public import proofs.«01_k».proof.Proof.Line
public import proofs.«01_k».proof.Proof.Heads
public import proofs.«01_k».proof.Proof.Axes
public import proofs.«01_k».proof.Proof.FwdKernel
public import proofs.«01_k».proof.Proof.Gen.FwdRefIdeal

@[expose] public section

set_option maxRecDepth 16384

noncomputable section

namespace Cert.FwdRef

open Cert Cert.FwdRefIdeal Cert.FwdRefIdeal.Gen
open AttnRun (Args)
open Idealize.ShloMosaic hiding ix1 ix2 ix3
open Idealize.ShloMosaic.ValueIdx Idealize.ShloMosaic.TcCoe Idealize.SL.Sem Idealize.ShloMosaic.StableHlo

variable (m : (ℓ : Loc nD τ sig) → Buf (Elt Ideal) ℓ) (e : Dev nD)

abbrev V : Valuation τ sig (Elt Ideal) := launchContents m e
abbrev ops : List (HloOp τ sig (Elt Ideal)) := Line.opsOf (V m e) (main (F := Ideal) e)
/-- The buffers the operations write, one each, in order. -/
abbrev W : List (Ref sig .tc) := (List.finRange 42).map fun k => ⟨.hbm, k.natAdd 3, rfl⟩
theorem main_eq : main (F := Ideal) e = seq (ops m e) := rfl
theorem line : Line.Ssa (ops m e) W 3 := ⟨rfl, by decide +kernel⟩
abbrev B (r : Ref sig .tc) : r.ty.Contents (Elt Ideal) := after (ops m e) (V m e) (Proc.devRef .tc r)

variable {m e} {A : Args}

set_option maxHeartbeats 4000000 in
theorem results (q : Ten (B m e main_arg0) A.q) (k : Ten (B m e main_arg1) A.k) (v : Ten (B m e main_arg2) A.v) :
    Mat (B m e main_v31) (FwdRun.joined A) ∧ Ten (B m e main_v32) fun h i _ => Real.log (A.den h i) := by
  have L := line m e
  have v0 : Ten (B m e main_v0) A.s :=
    Rep.cast (.of_eq (L.binary 0 rfl) <| .host_dot (φ₁ := .f32) (φ₂ := .f32) _ none q k) fun _ => rfl
  have mask := causal (n := 4096) (w := B m e main_call0_v1) (by norm_num) (by norm_num) (L.nullary 1 rfl) (L.unary 2 rfl)
    (L.unary 3 rfl) (L.unary 4 rfl) (L.unary 5 rfl) (L.binary 6 rfl) (L.unary 7 rfl)
    (show B m e main_call0_v1 = broadcastInDim S8x4096x4096 ![0, 1, 2] bcast_S1x4096x4096_S8x4096x4096_0_1_2 (B m e main_v7) from L.unary 10 rfl)
  have inf : ∀ i : S8x4096x4096.Idx, B m e main_call0_v2 i = (⊥ : EReal) := fun i => by
    rw [show B m e main_call0_v2 = broadcastInDim S8x4096x4096 ![] bcast_S_S8x4096x4096 (B m e main_call0_v0) from L.unary 11 rfl,
      show B m e main_call0_v0 = B m e main_cst from L.unary 9 rfl,
      show B m e main_cst = constant (F := Ideal) S_ .f32 0xFF800000#32 from L.nullary 8 rfl]
    exact word_neg_inf
  have v8 : Part (B m e main_v8) (fun i => (i 2).val ≤ (i 1).val) fun i => A.s (i 0) (i 1) (i 2) :=
    Part.masked mask (show B m e main_v8 = select (B m e main_call0_v1) (B m e main_v0) (B m e main_call0_v2) from L.ternary 12 rfl) v0 inf
  obtain ⟨M, v9⟩ : ∃ M, Mat (B m e main_v9) M := by
    obtain ⟨M, hM⟩ := Part.host_max v8 (z := B m e main_cst_0) (fun i => by
      rw [show B m e main_cst_0 = constant (F := Ideal) S_ .f32 0xFF800000#32 from L.nullary 13 rfl]; exact word_neg_inf) _ h_S_
    exact ⟨M, fun i => (congrFun (L.binary 14 rfl) i).trans (hM i)⟩
  have v11 : Mat (B m e main_v11) M := Rep.max_bot (L.binary 17 rfl) (L.unary 16 rfl) (L.nullary 15 rfl) v9
  have v15 : Ten (B m e main_v15) fun h i j => A.ex h i j (M h i) :=
    Rep.cast (.of_eq (L.unary 21 rfl) <| Part.host_exp (φ := .f32) (Part.of_eq (L.binary 20 rfl) <| Part.sub (φ := .f32) v8 (.of_eq (L.unary 19 rfl) <| Ten.host_repeat
      (.of_eq (L.unary 18 rfl) <| Mat.host_last v11 _) _))) fun _ => rfl
  have v17 : Ten (B m e main_v17) fun h i _ => ∑ j, A.ex h i j (M h i) :=
    Rep.cast (.of_eq (L.unary 24 rfl) <| Mat.host_last (.of_eq (L.binary 23 rfl) <| Ten.host_sum (φ := .f32) v15
      (.of_eq (L.nullary 22 rfl) <| .const word_zero) _ _) _) fun _ => rfl
  have v19 : Ten (B m e main_v19) A.soft :=
    Rep.cast (.of_eq (L.binary 26 rfl) <| .host_div v15 (.of_eq (L.unary 25 rfl) <| Ten.host_repeat v17 _) fun _ => (A.sum_pos _ _ _).ne') fun _ => A.ex_div _ _ _ _
  obtain ⟨N, v20⟩ : ∃ N, Mat (B m e main_v20) N := by
    obtain ⟨N, hN⟩ := Part.host_max v8 (z := B m e main_cst_3) (fun i => by
      rw [show B m e main_cst_3 = constant (F := Ideal) S_ .f32 0xFF800000#32 from L.nullary 27 rfl]; exact word_neg_inf) _ h_S_
    exact ⟨N, fun i => (congrFun (L.binary 28 rfl) i).trans (hN i)⟩
  have v21 : Ten (B m e main_v21) fun h i _ => N h i := Rep.cast (.of_eq (L.unary 29 rfl) <| Mat.host_last v20 _) fun _ => rfl
  have v24 : Ten (B m e main_v24) fun h i j => A.ex h i j (N h i) :=
    Rep.cast (.of_eq (L.unary 32 rfl) <| Part.host_exp (φ := .f32) (Part.of_eq (L.binary 31 rfl) <| Part.sub (φ := .f32) v8 (.of_eq (L.unary 30 rfl) <| Ten.host_repeat v21 _))) fun _ => rfl
  have v26 : Ten (B m e main_v26) fun h i _ => ∑ j, A.ex h i j (N h i) :=
    Rep.cast (.of_eq (L.unary 35 rfl) <| Mat.host_last (.of_eq (L.binary 34 rfl) <| Ten.host_sum (φ := .f32) v24
      (.of_eq (L.nullary 33 rfl) <| .const word_zero) _ _) _) fun _ => rfl
  have v28 : Ten (B m e main_v28) fun h i _ => Real.log (A.den h i) :=
    Rep.cast (.of_eq (L.binary 37 rfl) <| .add v21 (.of_eq (L.unary 36 rfl) <| .log v26 fun _ => A.sum_pos _ _ _)) fun _ => A.log_sum _ _ _
  have v29 : Ten (B m e main_v29) fun h x i => FwdRun.out A h i x :=
    Rep.cast (.of_eq (L.binary 38 rfl) <| .host_dot (φ₁ := .f32) (φ₂ := .f32) _ none v v19) fun _ => Finset.sum_congr rfl fun _ _ => mul_comm _ _
  have v30 : Ten (B m e main_v30) fun i h x => FwdRun.out A h i x := fun i => by
    refine (congrFun (L.unary 39 rfl) i).trans ((transpose_apply _ _ _ i (ix3 (i 1) (i 2) (i 0)) fun b => ?_).trans (v29 _))
    match b with
    | ⟨0, _⟩ => rfl
    | ⟨1, _⟩ => rfl
    | ⟨2, _⟩ => rfl
  exact ⟨Rep.cast (.of_eq (L.reshape 40 rfl) <| Ten.join v30 (by norm_num) (by norm_num) shapeCasts_S4096x8x128_S4096x1024) fun _ => rfl,
    Rep.cast (.of_eq (L.unary 41 rfl) <| Ten.host_repeat v28 _) fun _ => rfl⟩

theorem run (m : (ℓ : Loc nD τ sig) → Buf (Elt Ideal) ℓ) (ρ : Dev nD → PrngReg) : θ_run (defs (F := Ideal)) (onTc (τ := τ) (main (F := Ideal))) ⟨m, fun _ => 0, ρ⟩ fun r =>
    ∀ (d : Dev nD) (b : Ref sig .tc), r.2.mem ((d.tc : Thread nD τ).loc b) = B m d b :=
  Line.run (by decide) (by decide) (by decide +kernel) defs main (ops m) (main_eq m) (N := 42) (fun d => rfl) m ρ

theorem kept (x : Ref sig .tc) (h : x.idx.val < 3 := by decide) : B m e x = m (e.tc.loc x) := (line m e).arg h

end Cert.FwdRef

end
-- ==== Proof.FwdClaim.lean ====
/-
  The attention: the frame of the reference, and the kernel's two results are the reference's.
-/
module

public import proofs.«01_k».proof.Proof.FwdKernel
public import proofs.«01_k».proof.Proof.FwdRef
public import proofs.«01_k».proof.Proof.AttnClaim
public import proofs.«01_k».proof.Defs
public import Idealize.ShloMosaic.Lib.Quiescent
public import proofs.«01_k».proof.Proof.Gen.Pre_finite_fwd

@[expose] public section

set_option maxRecDepth 16384

noncomputable section

namespace Cert.FwdClaim

open Idealize.ShloMosaic hiding ix1 ix2 ix3
open Idealize.ShloMosaic.ValueIdx Idealize.ShloMosaic.TcCoe Idealize.SL.Sem Idealize.ShloMosaic.StableHlo

theorem frame_ref (m : (ℓ : Loc FwdRefIdeal.nD FwdRefIdeal.τ FwdRefIdeal.sig) → Buf (Elt Ideal) ℓ) (ρ : Dev FwdRefIdeal.nD → PrngReg) :
    θ_run (FwdRefIdeal.defs (F := Ideal)) (onTc (τ := FwdRefIdeal.τ) (FwdRefIdeal.main (F := Ideal))) ⟨m, fun _ => 0, ρ⟩ fun r =>
      (∀ c : Dev FwdRefIdeal.nD, (r.2.mem (c.tc.loc FwdRefIdeal.main_arg0) = m (c.tc.loc FwdRefIdeal.main_arg0)
        ∧ r.2.mem (c.tc.loc FwdRefIdeal.main_arg1) = m (c.tc.loc FwdRefIdeal.main_arg1)
        ∧ r.2.mem (c.tc.loc FwdRefIdeal.main_arg2) = m (c.tc.loc FwdRefIdeal.main_arg2))) ∧ r.2.sem = fun _ => 0 :=
  (θ_run _ _ _).mono (fun r h => ⟨fun c =>
    have L := FwdRef.line m c
    ⟨(h c _).trans L.arg, (h c _).trans L.arg, (h c _).trans L.arg⟩, sem_eq_zero_of_no_sems rfl _⟩) (FwdRef.run m ρ)

section

open FwdIdeal FwdIdeal.Gen

/-- The kernel's run: the attention, the logarithms of its sums, and the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3_0) = (dats m 0 c).arrAt 3 cfg0.N
      ∧ r.2.mem ((c.tc : Thread nD τ).loc main_v3_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).1 3, (h.1 c).1 4, h.2.1 c⟩) (θ_run_and (run_main m ρ) (frame m ρ))

end

theorem algebraic : Cert.algebraic_FwdIdeal_FwdRefIdeal_pre_finite_fwd := by
  intro m ρ m' ρ' hpre hag
  refine ⟨fun c => (FwdIdeal.Gen.dats m 0 c).arrAt 3 FwdIdeal.cfg0.N, fun c => (FwdIdeal.Gen.dats m 0 c).arrAt 4 FwdIdeal.cfg0.N,
    run m ρ, (θ_run _ _ _).mono (fun r h c => ?_) (FwdRef.run m' ρ')⟩
  obtain ⟨p0, p1, p2⟩ := hpre c
  obtain ⟨a0, a1, a2⟩ := hag c
  obtain ⟨Q, hQ⟩ := AttnClaim.exists_ten (exists_rep p0)
  obtain ⟨K, hK⟩ := AttnClaim.exists_ten (exists_rep p1)
  obtain ⟨V, hV⟩ := AttnClaim.exists_ten (exists_rep p2)
  have e := FwdRun.entry (m := m) (c := c) (A := ⟨Q, K, V, fun _ _ => 0⟩) hQ hK hV
  obtain ⟨r0, r1⟩ := FwdRef.results (m := m') (e := c) (A := ⟨Q, K, V, fun _ _ => 0⟩)
    (((FwdRef.kept FwdRefIdeal.main_arg0).trans a0).symm ▸ hQ) (((FwdRef.kept FwdRefIdeal.main_arg1).trans a1).symm ▸ hK)
    (((FwdRef.kept FwdRefIdeal.main_arg2).trans a2).symm ▸ hV)
  exact ⟨(h c _).trans (funext fun i => (r0 i).trans (e.result3 i).symm), (h c _).trans (funext fun i => (r1 i).trans (e.result4 i).symm),
    (h c _).trans (FwdRef.kept _), (h c _).trans (FwdRef.kept _), (h c _).trans (FwdRef.kept _)⟩

end Cert.FwdClaim

end
-- ==== Proof.PrepPay.lean ====
/-
  The latent projections of the kernel, over the reals: queries, keys and values of a row, and what the body leaves of a
  block of 512 rows.
-/
module

public import Idealize.ShloMosaic.Lib.Pipeline.Value
public import proofs.«01_k».proof.Proof.Windows
public import proofs.«01_k».proof.Proof.Gen.PrepIdeal.Frame
public import proofs.«01_k».proof.Proof.MlaPay

@[expose] public section

set_option maxRecDepth 16384

noncomputable section

namespace Cert.Prep

open Cert.Latent Cert.Windows
open Idealize.ShloMosaic hiding ix1 ix2 ix3
open Idealize.ShloMosaic.ValueIdx Idealize.ShloMosaic.TcCoe Idealize.SL.Sem

/-! ## A row, over the reals -/

/-- The turn of 64 columns by the position's angles. -/
def lo (co si : Fin 32 → ℝ) (g : Fin 64 → ℝ) (e : Fin 32) : ℝ := g ⟨0 + e, by omega⟩ * co e - g ⟨32 + e, by omega⟩ * si e
def hi (co si : Fin 32 → ℝ) (g : Fin 64 → ℝ) (e : Fin 32) : ℝ := g ⟨0 + e, by omega⟩ * si e + g ⟨32 + e, by omega⟩ * co e
def turn (co si : Fin 32 → ℝ) (g : Fin 64 → ℝ) (e : Fin 64) : ℝ := if h : e.val < 32 then lo co si g ⟨e, h⟩ else hi co si g ⟨e - 32, by omega⟩
/-- A head's own columns and its turned ones. -/
def full (p : Fin 128 → ℝ) (s : Fin 64 → ℝ) (e : Fin 192) : ℝ := if h : e.val < 128 then p ⟨e, h⟩ else s ⟨e - 128, by omega⟩

/-- The arguments, over the reals, of `n` rows. -/
structure Args (n : ℕ) where
  x : Fin n → Fin 576 → ℝ
  pos : Fin n → ℝ
  qn : Fin 1 → Fin 256 → ℝ
  kn : Fin 1 → Fin 256 → ℝ
  wq : Fin 256 → Fin 1536 → ℝ
  wk : Fin 256 → Fin 2048 → ℝ

/-- Row `r` of the 512 of point `t`. -/
def row (t : Fin 8) (r : Fin 512) : Fin 4096 := ⟨512 * t.val + r.val, by omega⟩

namespace Args

variable {n : ℕ} (A : Args n) (h : Fin 8) (r : Fin n)

def co (e : Fin 32) : ℝ := Real.cos (A.pos r * freq e)
def si (e : Fin 32) : ℝ := Real.sin (A.pos r * freq e)
def lq : Fin 256 → ℝ := lat (fun e => A.x r ⟨0 + e, by omega⟩) (A.qn 0)
def lk : Fin 256 → ℝ := lat (fun e => A.x r ⟨256 + e, by omega⟩) (A.kn 0)
/-- The latents' products with the two weights, and one head's columns of them. -/
def qp (j : Fin 1536) : ℝ := ∑ i, A.lq r i * A.wq i j
def kp (j : Fin 2048) : ℝ := ∑ i, A.lk r i * A.wk i j
def qh (e : Fin 192) : ℝ := A.qp r ⟨192 * h + e, by omega⟩
def kh (e : Fin 256) : ℝ := A.kp r ⟨256 * h + e, by omega⟩
/-- The shared key, turned. -/
def pe : Fin 64 → ℝ := turn (A.co r) (A.si r) fun e => A.x r ⟨512 + e, by omega⟩
/-- The results. -/
def q (e : Fin 192) : ℝ := full (fun e => A.qh h r ⟨0 + e, by omega⟩) (turn (A.co r) (A.si r) fun e => A.qh h r ⟨128 + e, by omega⟩) e * scale
def k : Fin 192 → ℝ := full (fun e => A.kh h r ⟨0 + e, by omega⟩) (A.pe r)
def v (e : Fin 128) : ℝ := A.kh h r ⟨128 + e, by omega⟩

/-- The rows of a point. -/
def rows (A : Args 4096) (t : Fin 8) : Args 512 :=
  { x := fun r => A.x (row t r), pos := fun r => A.pos (row t r), qn := A.qn, kn := A.kn, wq := A.wq, wk := A.wk }

end Args

/-! ## The body -/

open Cert.PrepIdeal Cert.PrepIdeal.Gen

variable {A : Args 512} {x0 : FVec Ideal S512x1024 .bf16} {x1 : IVec S512x1 32} {x2 : FVec Ideal S1x32 .f32} {x3 x4 : FVec Ideal S1x256 .f32}
  {x5 : FVec Ideal S256x1536 .bf16} {x6 : FVec Ideal S256x2048 .bf16}

theorem cols {X : Fin 512 → Fin 576 → ℝ} (h : ∀ r (q : Fin 576), x0 (ix2 r ⟨q, by omega⟩) = (X r q : EReal)) {o k : Nat} (ho : o + k ≤ 576)
    (sl : S512x1024.Slices ![0, o] ⟨2, ![512, k]⟩) :
    Mat (extractStridedSlice (s := S512x1024) ⟨2, ![512, k]⟩ ![0, o] (k0_pay2 (F := Ideal) x0) sl) fun r j => X r ⟨o + j, by omega⟩ := fun i =>
  have h1 := size1 i
  (extractStridedSlice_apply _ _ sl _ (ix2 (n0 := 512) (n1 := 1024) (i 0) ⟨o + (i 1).val, by omega⟩) fun b => match b with
    | ⟨0, _⟩ => (Nat.zero_add _).symm
    | ⟨1, _⟩ => rfl).trans ((congrFun (shapeCast_self x0 _) _).trans (h (i 0) ⟨o + (i 1).val, by omega⟩))

/-- The turn of a block of 64 columns. -/
def turned (xc xs : FVec Ideal S512x32 .f32) (z : FVec Ideal S512x64 .f32) : FVec Ideal S512x64 .f32 :=
  have a := extractStridedSlice S512x32 ![0, 0] z slices_S512x64_o0_0_S512x32
  have b := extractStridedSlice S512x32 ![0, 32] z slices_S512x64_o0_32_S512x32
  concatenate S512x64 1 [⟨S512x32, subf (mulf a xc) (mulf b xs)⟩, ⟨S512x32, addf (mulf a xs) (mulf b xc)⟩] concatenates_S512x32_S512x32_S512x64_d1

/-- What is stored of a head's queries and keys. -/
def headQ (xc xs : FVec Ideal S512x32 .f32) (z : FVec Ideal S512x192 .f32) : FVec Ideal S1x512x192 .bf16 :=
  shapeCast S1x512x192 (truncf .bf16 (mulf (concatenate S512x192 1
    [⟨S512x128, extractStridedSlice S512x128 ![0, 0] z slices_S512x192_o0_0_S512x128⟩,
     ⟨S512x64, turned xc xs (extractStridedSlice S512x64 ![0, 128] z slices_S512x192_o0_128_S512x64)⟩] concatenates_S512x128_S512x64_S512x192_d1)
    (broadcast S512x192 (Scalar.ofBits .f32 0x3D93CD3A#32))) bitsLt_bf16_f32) shapeCasts_S512x192_S1x512x192
def headK (y : FVec Ideal S512x128 .f32) (z : FVec Ideal S512x64 .f32) : FVec Ideal S1x512x192 .bf16 :=
  shapeCast S1x512x192 (truncf .bf16 (concatenate S512x192 1 [⟨S512x128, y⟩, ⟨S512x64, z⟩] concatenates_S512x128_S512x64_S512x192_d1) bitsLt_bf16_f32)
    shapeCasts_S512x192_S1x512x192
def headV (y : FVec Ideal S512x128 .f32) : FVec Ideal S1x512x128 .bf16 :=
  shapeCast S1x512x128 (truncf .bf16 y bitsLt_bf16_f32) shapeCasts_S512x128_S1x512x128

section Head

variable {xc xs : FVec Ideal S512x32 .f32} {z : FVec Ideal S512x64 .f32} {xq : FVec Ideal S512x1536 .f32} {xk : FVec Ideal S512x2048 .f32}

theorem turned_mat {g : Fin 512 → Fin 64 → ℝ} (hc : Mat xc A.co) (hs : Mat xs A.si) (hz : Mat z g) :
    Mat (turned xc xs z) fun r => turn (A.co r) (A.si r) (g r) := by
  have l := Mat.cols hz (o := 0) (k := 32) (by decide) slices_S512x64_o0_0_S512x32
  have u := Mat.cols hz (o := 32) (k := 32) (by decide) slices_S512x64_o0_32_S512x32
  exact Mat.beside (m := 64) (g := fun r => lo (A.co r) (A.si r) (g r)) (f := fun r => hi (A.co r) (A.si r) (g r))
    (Rep.cast (Rep.sub (φ := .f32) (Rep.mul (φ := .f32) l hc) (Rep.mul (φ := .f32) u hs)) fun _ => rfl)
    (Rep.cast (Rep.add (φ := .f32) (Rep.mul (φ := .f32) l hs) (Rep.mul (φ := .f32) u hc)) fun _ => rfl) rfl concatenates_S512x32_S512x32_S512x64_d1

theorem headQ_ten (hc : Mat xc A.co) (hs : Mat xs A.si) (hq : Mat xq A.qp) (h : Fin 8) (sl : S512x1536.Slices ![0, 192 * h.val] S512x192) :
    Ten (headQ xc xs (extractStridedSlice S512x192 ![0, 192 * h.val] xq sl)) fun _ => A.q h := by
  have z : Mat (extractStridedSlice S512x192 ![0, 192 * h.val] xq sl) (A.qh h) := Rep.cast (Mat.cols hq (by omega) sl) fun _ => rfl
  exact Mat.stack (Rep.trunc (φ := .f32) (ψ := .bf16) _ (Rep.cast (Rep.mul (φ := .f32)
    (Mat.beside (Mat.cols z (by decide) _) (turned_mat hc hs (Mat.cols z (by decide) _)) rfl _) (Rep.splat (φ := .f32) word_scale)) fun _ => rfl)) _

theorem headK_ten (hz : Mat z A.pe) (hk : Mat xk A.kp) (h : Fin 8) (sl : S512x2048.Slices ![0, 256 * h.val] S512x128) :
    Ten (headK (extractStridedSlice S512x128 ![0, 256 * h.val] xk sl) z) fun _ => A.k h := by
  have y : Mat (extractStridedSlice S512x128 ![0, 256 * h.val] xk sl) fun r e => A.kh h r ⟨0 + e, by omega⟩ :=
    Rep.cast (Mat.cols hk (by omega) sl) fun i => congrArg (A.kp (i 0)) (Fin.ext (by show 256 * h.val + _ = 256 * h.val + (0 + _); omega))
  exact Mat.stack (Rep.trunc (φ := .f32) (ψ := .bf16) _ (Rep.cast (Mat.beside y hz rfl _) fun _ => rfl)) _

theorem headV_ten (hk : Mat xk A.kp) (h : Fin 8) (sl : S512x2048.Slices ![0, 256 * h.val + 128] S512x128) :
    Ten (headV (extractStridedSlice S512x128 ![0, 256 * h.val + 128] xk sl)) fun _ => A.v h :=
  Mat.stack (Rep.trunc (φ := .f32) (ψ := .bf16) _ (Rep.cast (Mat.cols hk (by omega) sl) fun i =>
    congrArg (A.kp (i 0)) (Fin.ext (by show 256 * h.val + 128 + _ = 256 * h.val + (128 + _); omega)))) _

/-- A piece that holds head `h`. -/
theorem piece {w : Nat} {P : (⟨3, ![1, 512, w]⟩ : Shape).Idx → EReal} {g : Fin 8 → Fin 512 → Fin w → ℝ} (h : Fin 8) (hP : Ten P fun _ => g h)
    (inb : ∀ a, (![h.val, 0, 0] : Fin 3 → Nat) a + (⟨3, ![1, 512, w]⟩ : Shape).size a ≤ (⟨3, ![8, 512, w]⟩ : Shape).size a)
    (x : (⟨3, ![1, 512, w]⟩ : Shape).Idx) : P x = (fun y : (⟨3, ![8, 512, w]⟩ : Shape).Idx => (g (y 0) (y 1) (y 2) : EReal))
      ((Rect.unit (s := ⟨3, ![8, 512, w]⟩) ![h.val, 0, 0] (⟨3, ![1, 512, w]⟩ : Shape).size inb).emb x) := by
  have e0 : (x 0).val < 1 := (x 0).isLt
  have e : (Rect.unit (s := ⟨3, ![8, 512, w]⟩) ![h.val, 0, 0] (⟨3, ![1, 512, w]⟩ : Shape).size inb).emb x = ix3 h (x 1) (x 2) :=
    funext fun a => Fin.ext <| match a with
      | ⟨0, _⟩ => by show h.val + 1 * (x 0).val = h.val; omega
      | ⟨1, _⟩ => by show 0 + 1 * (x 1).val = (x 1).val; omega
      | ⟨2, _⟩ => by show 0 + 1 * (x 2).val = (x 2).val; omega
  rw [e]
  exact hP x

end Head

/-- The blocks a point reads. -/
structure Blocks (A : Args 512) (x0 : FVec Ideal S512x1024 .bf16) (x1 : IVec S512x1 32) (x2 : FVec Ideal S1x32 .f32) (x3 x4 : FVec Ideal S1x256 .f32)
    (x5 : FVec Ideal S256x1536 .bf16) (x6 : FVec Ideal S256x2048 .bf16) : Prop where
  x : ∀ r (q : Fin 576), x0 (ix2 r ⟨q, by omega⟩) = (A.x r q : EReal)
  pos : ∀ r, ((x1 (ix2 r 0)).toInt : ℝ) = A.pos r
  freq : Mat x2 fun _ => freq
  qn : Mat x3 A.qn
  kn : Mat x4 A.kn
  wq : Mat x5 A.wq
  wk : Mat x6 A.wk

namespace Blocks

variable (b : Blocks A x0 x1 x2 x3 x4 x5 x6)
include b

theorem angle : Mat (k0_pay3 (F := Ideal) x1 x2) fun r e => A.pos r * Latent.freq e :=
  Rep.cast (MlaPay.pay6 (xt := x1) b.freq) fun i => congrArg (· * _) (b.pos (i 0))
theorem co : Mat (k0_pay4 (F := Ideal) x1 x2) A.co := Rep.cast (Rep.cos (φ := .f32) b.angle) fun _ => rfl
theorem si : Mat (k0_pay5 (F := Ideal) x1 x2) A.si := Rep.cast (Rep.sin (φ := .f32) b.angle) fun _ => rfl
theorem lk : Mat (k0_pay6 (F := Ideal) x0 x4) A.lk :=
  Rep.cast (Rep.mul (φ := .f32) (MlaPay.pay70 (cols b.x (o := 256) (k := 256) (by decide) slices_S512x1024_o0_256_S512x256)) (Mat.repeat_row b.kn _)) fun _ => rfl
theorem lq : Mat (k0_pay7 (F := Ideal) x0 x3) A.lq :=
  Rep.trunc (φ := .f32) (ψ := .bf16) bitsLt_bf16_f32 (Rep.cast (Rep.mul (φ := .f32)
    (MlaPay.pay70 (cols b.x (o := 0) (k := 256) (by decide) slices_S512x1024_o0_0_S512x256)) (Mat.repeat_row b.qn _)) fun _ => rfl)
theorem qp : Mat (k0_pay8 (k0_pay7 (F := Ideal) x0 x3) x5) A.qp :=
  Rep.cast (Rep.matmul (φ₁ := .bf16) (φ₂ := .bf16) dot_S512x256_S256x1536_S512x1536_1_0_0_1_n_n none b.lq (Rep.self _ b.wq)) fun _ => rfl
theorem kp : Mat (k0_pay9 (k0_pay6 (F := Ideal) x0 x4) x6) A.kp :=
  Rep.cast (Rep.matmul (φ₁ := .bf16) (φ₂ := .bf16) dot_S512x256_S256x2048_S512x2048_1_0_0_1_n_n none
    (Rep.trunc (φ := .f32) (ψ := .bf16) bitsLt_bf16_f32 b.lk) (Rep.self _ b.wk)) fun _ => rfl
theorem pe : Mat (k0_pay10 (k0_pay2 (F := Ideal) x0) (k0_pay4 x1 x2) (k0_pay5 x1 x2)) A.pe :=
  turned_mat b.co b.si (cols b.x (o := 512) (k := 64) (by decide) slices_S512x1024_o0_512_S512x64)

theorem out7 : Ten (out0_7 (F := Ideal) x0 x1 x2 x3 x4 x5 x6) A.q := fun y => by
  unfold out0_7 k0_pay49 k0_pay48 k0_pay46 k0_pay45
  simp only [ld_whole]
  refine View.canon_apply_of_pieces (Val := Elt Ideal) (e := .bf16) (fun y : S8x512x192.Idx => (A.q (y 0) (y 1) (y 2) : EReal)) _ ?_ y (cover0_7 _ _ _ _ _ _ _ _ y)
  simp only [List.forall_mem_cons]
  have q := headQ_ten b.co b.si b.qp
  exact ⟨piece 7 (q 7 slices_S512x1536_o0_1344_S512x192) _, piece 6 (q 6 slices_S512x1536_o0_1152_S512x192) _,
    piece 5 (q 5 slices_S512x1536_o0_960_S512x192) _, piece 4 (q 4 slices_S512x1536_o0_768_S512x192) _,
    piece 3 (q 3 slices_S512x1536_o0_576_S512x192) _, piece 2 (q 2 slices_S512x1536_o0_384_S512x192) _,
    piece 1 (q 1 slices_S512x1536_o0_192_S512x192) _, piece 0 (q 0 slices_S512x1536_o0_0_S512x192) _, fun _ h => absurd h List.not_mem_nil⟩

theorem out8 : Ten (out0_8 (F := Ideal) x0 x1 x2 x3 x4 x5 x6) A.k := fun y => by
  unfold out0_8 k0_pay51 k0_pay50 k0_pay47 k0_pay46 k0_pay45 k0_pay44
  simp only [ld_whole]
  refine View.canon_apply_of_pieces (Val := Elt Ideal) (e := .bf16) (fun y : S8x512x192.Idx => (A.k (y 0) (y 1) (y 2) : EReal)) _ ?_ y (cover0_8 _ _ _ _ _ _ _ _ y)
  simp only [List.forall_mem_cons]
  have k := headK_ten b.pe b.kp
  exact ⟨piece 7 (k 7 slices_S512x2048_o0_1792_S512x128) _, piece 6 (k 6 slices_S512x2048_o0_1536_S512x128) _,
    piece 5 (k 5 slices_S512x2048_o0_1280_S512x128) _, piece 4 (k 4 slices_S512x2048_o0_1024_S512x128) _,
    piece 3 (k 3 slices_S512x2048_o0_768_S512x128) _, piece 2 (k 2 slices_S512x2048_o0_512_S512x128) _,
    piece 1 (k 1 slices_S512x2048_o0_256_S512x128) _, piece 0 (k 0 slices_S512x2048_o0_0_S512x128) _, fun _ h => absurd h List.not_mem_nil⟩

theorem out9 : Ten (out0_9 (F := Ideal) x0 x1 x2 x3 x4 x5 x6) A.v := fun y => by
  unfold out0_9 k0_pay50 k0_pay47
  simp only [ld_whole]
  refine View.canon_apply_of_pieces (Val := Elt Ideal) (e := .bf16) (fun y : S8x512x128.Idx => (A.v (y 0) (y 1) (y 2) : EReal)) _ ?_ y (cover0_9 _ _ _ _ _ _ _ _ y)
  simp only [List.forall_mem_cons]
  have v := headV_ten b.kp
  exact ⟨piece 7 (v 7 slices_S512x2048_o0_1920_S512x128) _, piece 6 (v 6 slices_S512x2048_o0_1664_S512x128) _,
    piece 5 (v 5 slices_S512x2048_o0_1408_S512x128) _, piece 4 (v 4 slices_S512x2048_o0_1152_S512x128) _,
    piece 3 (v 3 slices_S512x2048_o0_896_S512x128) _, piece 2 (v 2 slices_S512x2048_o0_640_S512x128) _,
    piece 1 (v 1 slices_S512x2048_o0_384_S512x128) _, piece 0 (v 0 slices_S512x2048_o0_128_S512x128) _, fun _ h => absurd h List.not_mem_nil⟩

end Blocks

end Cert.Prep

end
-- ==== Proof.PrepKernel.lean ====
/-
  The latent projections' kernel over the reals: the arrays the launch finds, the blocks the points read, and the three
  arrays the launch leaves.
-/
module

public import proofs.«01_k».proof.Proof.Line
public import proofs.«01_k».proof.Proof.Heads
public import proofs.«01_k».proof.Proof.PrepPay

@[expose] public section

set_option maxRecDepth 16384

noncomputable section

namespace Cert.Prep

open Cert.Latent Cert.PrepIdeal Cert.PrepIdeal.Gen
open Idealize.ShloMosaic hiding ix1 ix2 ix3
open Idealize.ShloMosaic.ValueIdx Idealize.ShloMosaic.TcCoe Idealize.SL.Sem Idealize.ShloMosaic.StableHlo

variable {m : (ℓ : Loc nD τ sig) → Buf (Elt Ideal) ℓ} {c : Dev nD} {A : Args 4096}

/-! ## What the launch finds -/

/-- The arguments, as real numbers: the latents and the shared key are columns 3072 to 3648 of the first. -/
structure Given (x : (⟨2, ![4096, 6720]⟩ : Shape).Idx → EReal) (p : (⟨2, ![1, 4096]⟩ : Shape).Idx → BitVec 32) (qn kn : (⟨2, ![1, 256]⟩ : Shape).Idx → EReal)
    (wq : (⟨2, ![256, 1536]⟩ : Shape).Idx → EReal) (wk : (⟨2, ![256, 2048]⟩ : Shape).Idx → EReal) (A : Args 4096) : Prop where
  x : ∀ r (q : Fin 576), x (ix2 r ⟨3072 + q, by omega⟩) = (A.x r q : EReal)
  pos : ∀ r, ((p (ix2 0 r)).toInt : ℝ) = A.pos r
  qn : Mat qn A.qn
  kn : Mat kn A.kn
  wq : Mat wq A.wq
  wk : Mat wk A.wk

/-- The buffers the host operations write, one each, in order. -/
abbrev W : List (Ref sig .tc) := (List.finRange 24).map fun k => ⟨.hbm, ⟨k.val + 6, by have := k.isLt; show k.val + 6 < 33; omega⟩, rfl⟩

theorem line : Line.Ssa (hostOps0 (F := Ideal)) W 6 := ⟨rfl, by decide +kernel⟩

/-- The packed projection has the projection's first 3648 columns where they were. -/
theorem packed (r : Fin 4096) (q : Fin 3648) : V m c main_v15 (ix2 r ⟨q, by omega⟩) = m (c, Proc.devRef .tc main_arg0) (ix2 r ⟨q, by omega⟩) := by
  let V₀ : Valuation τ sig (Elt Ideal) := fun b => m (c, b)
  have L := line
  let xs : List ((s : Shape) × (s.Idx → EReal)) := [⟨S4096x3648, V m c main_v11⟩, ⟨S4096x448, V m c main_v12⟩, ⟨S4096x3072, V m c main_v13⟩]
  let hc : Shape.Concatenates (xs.map (·.1)) S4096x7168 1 := concatenates_S4096x3648_S4096x448_S4096x3072_S4096x7168_d1
  refine (congrFun (L.unary (V := V₀) 20 rfl) _).trans ((congrFun (L.nary (V := V₀) 19 rfl) _).trans ?_)
  refine (concatenate_apply_piece (1 : Fin 2) xs hc (ix2 (n1 := 7168) r ⟨q.val, by omega⟩) 0 (show 0 < 3 by decide) S4096x3648 (V m c main_v11) rfl rfl 0 rfl
    (ix2 r q) (fun b hb => match b with | ⟨0, _⟩ => rfl | ⟨1, _⟩ => absurd rfl hb) (Nat.zero_add _)).trans ?_
  refine (congrFun (L.unary (V := V₀) 15 rfl) _).trans ?_
  exact (extractStridedSlice_apply _ _ _ _ (ix2 r ⟨q.val, by omega⟩) fun a => match a with
    | ⟨0, _⟩ => (Nat.zero_add _).symm
    | ⟨1, _⟩ => (Nat.zero_add _).symm).trans (congrFun (L.arg (V := V₀)) _)

/-- What the launch finds in its arrays. -/
structure Entry (m : (ℓ : Loc nD τ sig) → Buf (Elt Ideal) ℓ) (c : Dev nD) (A : Args 4096) : Prop where
  x : ∀ r (q : Fin 576), V m c main_v15 (ix2 r ⟨3072 + q, by omega⟩) = (A.x r q : EReal)
  pos : ∀ r, ((V m c main_v16 (ix2 r 0)).toInt : ℝ) = A.pos r
  freq : Mat (V m c main_v10) fun _ => freq
  qn : Mat (V m c main_arg2) A.qn
  kn : Mat (V m c main_arg4) A.kn
  wq : Mat (V m c main_v17) A.wq
  wk : Mat (V m c main_v18) A.wk

set_option maxHeartbeats 1000000 in
theorem entry (g : Given (m (c, Proc.devRef .tc main_arg0)) (m (c, Proc.devRef .tc main_arg1)) (m (c, Proc.devRef .tc main_arg2))
    (m (c, Proc.devRef .tc main_arg4)) (m (c, Proc.devRef .tc main_arg3)) (m (c, Proc.devRef .tc main_arg5)) A) : Entry m c A := by
  let V₀ : Valuation τ sig (Elt Ideal) := fun b => m (c, b)
  have L := line
  have v9 : Row (V m c main_v9) freq :=
    Rep.cast (.of_eq (L.binary (V := V₀) 13 rfl) <| .pow (.of_eq (L.unary (V := V₀) 12 rfl) <| .host_splat (.of_eq (L.nullary (V := V₀) 11 rfl) <| .const word_10000) _ _) (.of_eq (L.binary (V := V₀) 10 rfl) <| .host_div (.of_eq (L.unary (V := V₀) 7 rfl) <| .host_neg (.of_eq (L.binary (V := V₀) 6 rfl) <| .add (.of_eq (L.unary (V := V₀) 5 rfl) <| .host_splat (.of_eq (L.nullary (V := V₀) 4 rfl) <| .const word_zero) _ _) (.of_eq (L.binary (V := V₀) 3 rfl) <| .mul (.of_eq (L.unary (V := V₀) 2 rfl) <| .host_splat (.of_eq (L.nullary (V := V₀) 1 rfl) <| .const word_2) _ _)
      (show Row (V m c main_v0) fun j => ((BitVec.ofNat 32 j.val).toInt : ℝ) from Rep.of_eq (L.nullary (V := V₀) 0 rfl) fun _ => rfl)))) (.of_eq (L.unary (V := V₀) 9 rfl) <| .host_splat (.of_eq (L.nullary (V := V₀) 8 rfl) <| .const word_64) _ _) fun _ => by norm_num)) fun _ => rfl
  exact {
    x := fun r q => (packed r ⟨3072 + q.val, by omega⟩).trans (g.x r q)
    pos := fun r => by
      rw [← g.pos r]
      refine congrArg (fun z : BitVec 32 => (z.toInt : ℝ)) ((congrFun (L.reshape (V := V₀) 21 rfl) _).trans ((shapeCast_apply _ _ _ (ix2 0 r) ?_).trans (congrFun (L.arg (V := V₀)) _)))
      show (S1x4096.rowMajor (ix2 0 r)).val = (S4096x1.rowMajor (ix2 r 0)).val
      rw [Shape.rowMajor_val_two, Shape.rowMajor_val_two]
      show 0 * 4096 + r.val = r.val * 1 + 0
      omega
    freq := Rep.cast (.of_eq (L.reshape (V := V₀) 14 rfl) <| Row.row v9 _) fun _ => rfl
    qn := Rep.of_eq (L.arg (V := V₀)) g.qn
    kn := Rep.of_eq (L.arg (V := V₀)) g.kn
    wq := Rep.of_eq (L.unary (V := V₀) 22 rfl) <| .trunc bitsLt_bf16_f32 (Rep.of_eq (L.arg (V := V₀)) g.wq)
    wk := Rep.of_eq (L.unary (V := V₀) 23 rfl) <| .trunc bitsLt_bf16_f32 (Rep.of_eq (L.arg (V := V₀)) g.wk) }

/-! ## The blocks -/

theorem index0 : ∀ t : Fin cfg0.N, win0_0.index t 0 = t.val ∧ win0_0.index t 1 = 3 := by decide +kernel
theorem index1 : ∀ t : Fin cfg0.N, win0_1.index t 0 = t.val ∧ win0_1.index t 1 = 0 := by decide +kernel
theorem index2 : ∀ t : Fin cfg0.N, ∀ a, win0_2.index t a = 0 ∧ win0_3.index t a = 0 ∧ win0_4.index t a = 0 ∧ win0_5.index t a = 0
    ∧ win0_6.index t a = 0 := by decide +kernel
theorem index7 : ∀ t : Fin cfg0.N, ∀ a, win0_7.index t a = (![0, t.val, 0] : Fin 3 → Nat) a ∧ win0_8.index t a = (![0, t.val, 0] : Fin 3 → Nat) a
    ∧ win0_9.index t a = (![0, t.val, 0] : Fin 3 → Nat) a := by decide +kernel

/-- A point, counted. -/
def pt (t : Fin cfg0.N) : Fin 8 := Fin.cast N_0 t

/-- A block that is its whole array. -/
theorem whole {n k : Nat} {X Y : (⟨2, ![n, k]⟩ : Shape).Idx → EReal} {g : Fin n → Fin k → ℝ} (hX : Mat X g)
    (emb : (⟨2, ![n, k]⟩ : Shape).Idx → (⟨2, ![n, k]⟩ : Shape).Idx) (hY : ∀ j, Y j = X (emb j)) (e : ∀ j a, (emb j a).val = (j a).val) : Mat Y g :=
  fun j => (hY j).trans ((congrArg X (funext fun a => Fin.ext (e j a))).trans (hX j))

theorem Entry.blocks (e : Entry m c A) (t : Fin cfg0.N) :
    Blocks (A.rows (pt t)) (iblk m c 0 t) (iblk m c 1 t) (iblk m c 2 t) (iblk m c 3 t) (iblk m c 4 t) (iblk m c 5 t) (iblk m c 6 t) where
  x := fun r q => (View.read_apply ..).trans (Eq.trans (congrArg (V m c main_v15) (funext fun a => Fin.ext <| match a with
    | ⟨0, _⟩ => by show win0_0.index t 0 * 512 + 1 * r.val = 512 * t.val + r.val; rw [(index0 t).1]; omega
    | ⟨1, _⟩ => by show win0_0.index t 1 * 1024 + 1 * q.val = 3072 + q.val; rw [(index0 t).2]; omega)) (e.x (row (pt t) r) q))
  pos := fun r => Eq.trans (congrArg (fun i => ((V m c main_v16 i).toInt : ℝ)) (funext fun a => Fin.ext <| match a with
    | ⟨0, _⟩ => by show win0_1.index t 0 * 512 + 1 * r.val = 512 * t.val + r.val; rw [(index1 t).1]; omega
    | ⟨1, _⟩ => by show win0_1.index t 1 * 1 + 1 * 0 = 0; rw [(index1 t).2])) (e.pos (row (pt t) r))
  freq := whole e.freq ((cfg0.win 2).blk t).view.emb (fun _ => rfl) fun j a => by show win0_2.index t a * _ + 1 * (j a).val = _; rw [(index2 t a).1]; omega
  qn := whole e.qn ((cfg0.win 3).blk t).view.emb (fun _ => rfl) fun j a => by show win0_3.index t a * _ + 1 * (j a).val = _; rw [(index2 t a).2.1]; omega
  kn := whole e.kn ((cfg0.win 4).blk t).view.emb (fun _ => rfl) fun j a => by show win0_4.index t a * _ + 1 * (j a).val = _; rw [(index2 t a).2.2.1]; omega
  wq := whole e.wq ((cfg0.win 5).blk t).view.emb (fun _ => rfl) fun j a => by show win0_5.index t a * _ + 1 * (j a).val = _; rw [(index2 t a).2.2.2.1]; omega
  wk := whole e.wk ((cfg0.win 6).blk t).view.emb (fun _ => rfl) fun j a => by show win0_6.index t a * _ + 1 * (j a).val = _; rw [(index2 t a).2.2.2.2]; omega

/-! ## What the launch leaves -/

/-- An array whose blocks of 512 rows are known. -/
theorem assemble {w : Nat} {a : (⟨3, ![8, 4096, w]⟩ : Shape).Idx → EReal} {g : Fin 8 → Fin 4096 → Fin w → ℝ}
    (emb : Fin cfg0.N → (⟨3, ![8, 512, w]⟩ : Shape).Idx → (⟨3, ![8, 4096, w]⟩ : Shape).Idx)
    (he : ∀ t j b, (emb t j b).val = (![0, t.val, 0] : Fin 3 → Nat) b * (![8, 512, w] : Fin 3 → Nat) b + 1 * (j b).val)
    (h : ∀ t, Ten (fun j => a (emb t j)) fun h r => g h (row (pt t) r)) : Ten a g := fun i => by
  have h1 : (i 1).val < 4096 := (i 1).isLt
  let t : Fin cfg0.N := Fin.cast N_0.symm ⟨(i 1).val / 512, by omega⟩
  let j : (⟨3, ![8, 512, w]⟩ : Shape).Idx := ix3 (i 0) ⟨(i 1).val % 512, Nat.mod_lt _ (by norm_num)⟩ (i 2)
  have e : emb t j = i := funext fun b => Fin.ext <| (he t j b).trans <| match b with
    | ⟨0, _⟩ => by show 0 * 8 + 1 * (i 0).val = (i 0).val; omega
    | ⟨1, _⟩ => by show (i 1).val / 512 * 512 + 1 * ((i 1).val % 512) = (i 1).val; omega
    | ⟨2, _⟩ => by show 0 * w + 1 * (i 2).val = (i 2).val; omega
  have r : row (pt t) (j 1) = i 1 := Fin.ext (show 512 * ((i 1).val / 512) + (i 1).val % 512 = (i 1).val by omega)
  have q := h t j
  beta_reduce at q
  rw [e, r] at q
  exact q

theorem Entry.result7 (e : Entry m c A) : Ten (a := 8) (b := 4096) (c := 192) ((dats m 0 c).arrAt 7 cfg0.N) A.q :=
  assemble (fun t => ((cfg0.win 7).blk t).view.emb) (fun t j b => by show win0_7.index t b * _ + _ = _; rw [(index7 t b).1]; rfl) fun t j =>
    ((congrFun (((dats m 0 c).read_blk_arrAt_eq_flushed 7 (fun t t' _ _ hne => (cfg0.win 7).disjoint_blk fun q => hne (Fin.ext
      ((index7 t 1).1.symm.trans ((congrFun q 1).trans (index7 t' 1).1)))) cfg0.N t t.isLt (flush0_7 t))) j).trans
      ((congrFun (after0_7 m c t) j).trans ((e.blocks t).out7 j)))
theorem Entry.result8 (e : Entry m c A) : Ten (a := 8) (b := 4096) (c := 192) ((dats m 0 c).arrAt 8 cfg0.N) A.k :=
  assemble (fun t => ((cfg0.win 8).blk t).view.emb) (fun t j b => by show win0_8.index t b * _ + _ = _; rw [(index7 t b).2.1]; rfl) fun t j =>
    ((congrFun (((dats m 0 c).read_blk_arrAt_eq_flushed 8 (fun t t' _ _ hne => (cfg0.win 8).disjoint_blk fun q => hne (Fin.ext
      ((index7 t 1).2.1.symm.trans ((congrFun q 1).trans (index7 t' 1).2.1)))) cfg0.N t t.isLt (flush0_8 t))) j).trans
      ((congrFun (after0_8 m c t) j).trans ((e.blocks t).out8 j)))
theorem Entry.result9 (e : Entry m c A) : Ten (a := 8) (b := 4096) (c := 128) ((dats m 0 c).arrAt 9 cfg0.N) A.v :=
  assemble (fun t => ((cfg0.win 9).blk t).view.emb) (fun t j b => by show win0_9.index t b * _ + _ = _; rw [(index7 t b).2.2]; rfl) fun t j =>
    ((congrFun (((dats m 0 c).read_blk_arrAt_eq_flushed 9 (fun t t' _ _ hne => (cfg0.win 9).disjoint_blk fun q => hne (Fin.ext
      ((index7 t 1).2.2.symm.trans ((congrFun q 1).trans (index7 t' 1).2.2)))) cfg0.N t t.isLt (flush0_9 t))) j).trans
      ((congrFun (after0_9 m c t) j).trans ((e.blocks t).out9 j)))

end Cert.Prep

end
-- ==== Proof.PrepRef.lean ====
/-
  The latent projections' reference, run, and its three results over the reals.
-/
module

public import proofs.«01_k».proof.Proof.PrepKernel
public import proofs.«01_k».proof.Proof.Gen.PrepRefIdeal

@[expose] public section

set_option maxRecDepth 16384

noncomputable section

namespace Cert.PrepRef

open Cert.PrepRefIdeal Cert.PrepRefIdeal.Gen Cert.Latent Cert.Rms Cert.Prep
open Idealize.ShloMosaic hiding ix1 ix2 ix3
open Idealize.ShloMosaic.TcCoe Idealize.SL.Sem Idealize.ShloMosaic.StableHlo Idealize.ShloMosaic.ValueIdx

variable (m : (ℓ : Loc nD τ sig) → Buf (Elt Ideal) ℓ) (d : Dev nD)

abbrev V : Valuation τ sig (Elt Ideal) := launchContents m d
abbrev ops : List (HloOp τ sig (Elt Ideal)) := Line.opsOf (V m d) (main (F := Ideal) d)
/-- The buffers the operations write, one each, in order. -/
abbrev W : List (Ref sig .tc) := (List.finRange 102).map fun k => ⟨.hbm, k.natAdd 6, rfl⟩
theorem main_eq : main (F := Ideal) d = seq (ops m d) := rfl
theorem line : Line.Ssa (ops m d) W 6 := ⟨rfl, by decide +kernel⟩
abbrev B (r : Ref sig .tc) : r.ty.Contents (Elt Ideal) := after (ops m d) (V m d) (Proc.devRef .tc r)

theorem run (ρ : Dev nD → PrngReg) : θ_run (defs (F := Ideal)) (onTc (τ := τ) (main (F := Ideal))) ⟨m, fun _ => 0, ρ⟩ fun r =>
    ∀ (d : Dev nD) (b : Ref sig .tc), r.2.mem ((d.tc : Thread nD τ).loc b) = B m d b :=
  Line.run (by decide) (by decide) (by decide +kernel) defs main (ops m) (main_eq m) (N := 102) (fun d => rfl) m ρ

variable {m d} {A : Prep.Args 4096}

/-- An argument ends as it was launched. -/
theorem kept (x : Ref sig .tc) (h : x.idx.val < 6 := by decide) : B m d x = m (d.tc.loc x) := (line m d).arg h

theorem angles (hp : ∀ r, ((B m d main_arg1 (ix2 0 r)).toInt : ℝ) = A.pos r) : Mat (B m d main_v18) A.co ∧ Mat (B m d main_v19) A.si := by
  have L := line m d
  have v0 : Row (B m d main_v0) fun j => ((BitVec.ofNat 32 j.val).toInt : ℝ) :=
    Rep.of_eq (L.nullary 0 rfl) fun _ => rfl
  have v9 : Row (B m d main_v9) freq :=
    Rep.cast (.of_eq (L.binary 13 rfl) <| .pow (.of_eq (L.unary 12 rfl) <| .host_splat (.of_eq (L.nullary 11 rfl) <| .const word_10000) _ _) (.of_eq (L.binary 10 rfl) <| .host_div (.of_eq (L.unary 7 rfl) <| .host_neg (.of_eq (L.binary 6 rfl) <| .add (.of_eq (L.unary 5 rfl) <| .host_splat (.of_eq (L.nullary 4 rfl) <| .const word_zero) _ _) (.of_eq (L.binary 3 rfl) <| .mul (.of_eq (L.unary 2 rfl) <| .host_splat (.of_eq (L.nullary 1 rfl) <| .const word_2) _ _) v0))) (.of_eq (L.unary 9 rfl) <| .host_splat (.of_eq (L.nullary 8 rfl) <| .const word_64) _ _) fun _ => by norm_num)) fun _ => rfl
  have v11 : Row (B m d main_v11) A.pos := fun i => by
    have e : B m d main_v11 i = (((B m d main_v10 i).toInt : ℝ) : EReal) := congrFun (L.unary 15 rfl) i
    refine e.trans (congrArg Real.toEReal ((congrArg (fun z : BitVec 32 => (z.toInt : ℝ))
      ((congrFun (L.reshape 14 rfl) i).trans (shapeCast_apply _ _ i (ix2 0 (i 0)) ?_))).trans (hp (i 0))))
    rw [Shape.rowMajor_val_one, Shape.rowMajor_val_two]
    show 0 * 4096 + (i 0).val = (i 0).val
    omega
  have v16 : Mat (B m d main_v16) fun r e => A.pos r * freq e :=
    Rep.cast (.of_eq (L.binary 20 rfl) <| .mul (.of_eq (L.unary 18 rfl) <| Mat.host_repeat_col (.of_eq (L.unary 16 rfl) <| Row.host_col v11 _) _) (.of_eq (L.unary 19 rfl) <| Mat.host_repeat_row (.of_eq (L.unary 17 rfl) <| Row.host_row v9 _) _)) fun _ => rfl
  exact ⟨Rep.cast (.of_eq (L.unary 22 rfl) <| .host_cos v16) fun _ => rfl, Rep.cast (.of_eq (L.unary 23 rfl) <| .host_sin v16) fun _ => rfl⟩

/-- The projection's columns for the latents and the shared key. -/
theorem part (h : ∀ r (q : Fin 576), B m d main_arg0 (ix2 r ⟨3072 + q, by omega⟩) = (A.x r q : EReal)) : Mat (B m d main_v17) A.x := fun i =>
  have h1 : (i 1).val < 576 := (i 1).isLt
  (congrFun ((line m d).unary 21 rfl) i).trans ((extractStridedSlice_apply _ _ _ i (ix2 (i 0) ⟨3072 + (i 1).val, by omega⟩) fun a => match a with
    | ⟨0, _⟩ => (Nat.zero_add _).symm
    | ⟨1, _⟩ => rfl).trans (h (i 0) (i 1)))

set_option maxHeartbeats 1000000 in
theorem product_q (hx : Mat (B m d main_v17) A.x) (hw : Mat (B m d main_arg2) A.qn) (hW : Mat (B m d main_arg3) A.wq) :
    Ten (B m d main_v36) fun r h => A.qh h r := by
  have L := line m d
  have c : Mat (B m d main_v20) fun r (e : Fin 256) => A.x r ⟨0 + e, by omega⟩ :=
    Rep.cast (.of_eq (L.unary 24 rfl) <| Mat.cols hx (by decide) _) fun _ => rfl
  have v29 : Mat (B m d main_v29) fun r _ => ms 256 fun e : Fin 256 => A.x r ⟨0 + e, by omega⟩ :=
    Rep.cast (.of_eq (L.binary 36 rfl) <| .add (.of_eq (L.binary 33 rfl) <| .host_div (.of_eq (L.unary 30 rfl) <| Row.host_col (.of_eq (L.binary 29 rfl) <| Mat.host_sum_rows (.of_eq (L.binary 27 rfl) <| .mul c c) (.of_eq (L.nullary 28 rfl) <| .const word_zero) _ _) _) (.of_eq (L.unary 32 rfl) <| .host_splat (.of_eq (L.nullary 31 rfl) <| .const word_256) _ _) fun _ => by norm_num) (.of_eq (L.unary 35 rfl) <| .host_splat (.of_eq (L.nullary 34 rfl) <| .const word_eps) _ _)) fun _ => rfl
  have v34 : Mat (B m d main_v34) A.lq :=
    Rep.cast (.of_eq (L.binary 41 rfl) <| .mul (.of_eq (L.binary 39 rfl) <| .mul c (.of_eq (L.unary 38 rfl) <| Mat.host_repeat_col (.of_eq (L.unary 37 rfl) <| .host_rsqrt v29 fun _ => ms_pos _ _ (by norm_num)) _)) (.of_eq (L.unary 40 rfl) <| Mat.host_repeat_row hw _)) fun _ => rfl
  have v35 : Mat (B m d main_v35) A.qp :=
    Rep.cast (.of_eq (L.binary 42 rfl) <| .host_dot (φ₁ := .f32) (φ₂ := .f32) _ none v34 hW) fun _ => rfl
  exact Rep.cast (.of_eq (L.reshape 43 rfl) <| Mat.heads v35 (k := 8) (w := 192) rfl _ (fun p q => ⟨192 * p + q, by omega⟩) fun _ _ => rfl) fun _ => rfl

set_option maxHeartbeats 1000000 in
theorem product_k (hx : Mat (B m d main_v17) A.x) (hw : Mat (B m d main_arg4) A.kn) (hW : Mat (B m d main_arg5) A.wk) :
    Ten (B m d main_v52) fun r h => A.kh h r := by
  have L := line m d
  have c : Mat (B m d main_v21) fun r (e : Fin 256) => A.x r ⟨256 + e, by omega⟩ :=
    Rep.cast (.of_eq (L.unary 25 rfl) <| Mat.cols hx (by decide) _) fun _ => rfl
  have v45 : Mat (B m d main_v45) fun r _ => ms 256 fun e : Fin 256 => A.x r ⟨256 + e, by omega⟩ :=
    Rep.cast (.of_eq (L.binary 55 rfl) <| .add (.of_eq (L.binary 52 rfl) <| .host_div (.of_eq (L.unary 49 rfl) <| Row.host_col (.of_eq (L.binary 48 rfl) <| Mat.host_sum_rows (.of_eq (L.binary 46 rfl) <| .mul c c) (.of_eq (L.nullary 47 rfl) <| .const word_zero) _ _) _) (.of_eq (L.unary 51 rfl) <| .host_splat (.of_eq (L.nullary 50 rfl) <| .const word_256) _ _) fun _ => by norm_num) (.of_eq (L.unary 54 rfl) <| .host_splat (.of_eq (L.nullary 53 rfl) <| .const word_eps) _ _)) fun _ => rfl
  have v50 : Mat (B m d main_v50) A.lk :=
    Rep.cast (.of_eq (L.binary 60 rfl) <| .mul (.of_eq (L.binary 58 rfl) <| .mul c (.of_eq (L.unary 57 rfl) <| Mat.host_repeat_col (.of_eq (L.unary 56 rfl) <| .host_rsqrt v45 fun _ => ms_pos _ _ (by norm_num)) _)) (.of_eq (L.unary 59 rfl) <| Mat.host_repeat_row hw _)) fun _ => rfl
  have v51 : Mat (B m d main_v51) A.kp :=
    Rep.cast (.of_eq (L.binary 61 rfl) <| .host_dot (φ₁ := .f32) (φ₂ := .f32) _ none v50 hW) fun _ => rfl
  exact Rep.cast (.of_eq (L.reshape 62 rfl) <| Mat.heads v51 (k := 8) (w := 256) rfl _ (fun p q => ⟨256 * p + q, by omega⟩) fun _ _ => rfl) fun _ => rfl

set_option maxHeartbeats 1000000 in
theorem queries (hq : Ten (B m d main_v36) fun r h => A.qh h r) (hc : Mat (B m d main_v18) A.co) (hs : Mat (B m d main_v19) A.si) :
    Ten (B m d main_v88) A.q := by
  have L := line m d
  have v38 : Ten (B m d main_v38) fun r h (e : Fin 64) => A.qh h r ⟨128 + e, by omega⟩ :=
    Rep.cast (.of_eq (L.unary 45 rfl) <| Ten.cut hq (by decide) _) fun _ => rfl
  have v55 : Ten (B m d main_v55) fun r (_ : Fin 1) e => A.co r e := Rep.cast (.of_eq (L.unary 65 rfl) <| Mat.host_mid hc _) fun _ => rfl
  have v56 : Ten (B m d main_v56) fun r (_ : Fin 1) e => A.si r e := Rep.cast (.of_eq (L.unary 66 rfl) <| Mat.host_mid hs _) fun _ => rfl
  have v57 : Ten (B m d main_v57) fun r h (e : Fin 32) => (fun e : Fin 64 => A.qh h r ⟨128 + e, by omega⟩) ⟨0 + e, by omega⟩ :=
    Rep.cast (.of_eq (L.unary 67 rfl) <| Ten.cut v38 (by decide) _) fun _ => rfl
  have v58 : Ten (B m d main_v58) fun r h (e : Fin 32) => (fun e : Fin 64 => A.qh h r ⟨128 + e, by omega⟩) ⟨32 + e, by omega⟩ :=
    Rep.cast (.of_eq (L.unary 68 rfl) <| Ten.cut v38 (by decide) _) fun _ => rfl
  have v63 : Ten (B m d main_v63) fun r h => lo (A.co r) (A.si r) fun e => A.qh h r ⟨128 + e, by omega⟩ :=
    Rep.cast (.of_eq (L.binary 73 rfl) <| .sub (.of_eq (L.binary 70 rfl) <| .mul v57 (.of_eq (L.unary 69 rfl) <| Ten.host_repeat_mid v55 _)) (.of_eq (L.binary 72 rfl) <| .mul v58 (.of_eq (L.unary 71 rfl) <| Ten.host_repeat_mid v56 _))) fun _ => rfl
  have v68 : Ten (B m d main_v68) fun r h => hi (A.co r) (A.si r) fun e => A.qh h r ⟨128 + e, by omega⟩ :=
    Rep.cast (.of_eq (L.binary 78 rfl) <| .add (.of_eq (L.binary 75 rfl) <| .mul v57 (.of_eq (L.unary 74 rfl) <| Ten.host_repeat_mid v56 _)) (.of_eq (L.binary 77 rfl) <| .mul v58 (.of_eq (L.unary 76 rfl) <| Ten.host_repeat_mid v55 _))) fun _ => rfl
  have v69 : Ten (B m d main_v69) fun r h => turn (A.co r) (A.si r) fun e => A.qh h r ⟨128 + e, by omega⟩ :=
    Rep.cast (.of_eq (L.binary 79 rfl) <| Ten.beside v63 v68 rfl _) fun _ => rfl
  have v37 : Ten (B m d main_v37) fun r h (e : Fin 128) => A.qh h r ⟨0 + e, by omega⟩ :=
    Rep.cast (.of_eq (L.unary 44 rfl) <| Ten.cut hq (by decide) _) fun _ => rfl
  have v79 : Ten (B m d main_v79) fun r h => full (fun e => A.qh h r ⟨0 + e, by omega⟩) (turn (A.co r) (A.si r) fun e => A.qh h r ⟨128 + e, by omega⟩) :=
    Rep.cast (.of_eq (L.binary 89 rfl) <| Ten.beside v37 v69 rfl _) fun _ => rfl
  exact Rep.cast (.of_eq (L.unary 99 rfl) <| .trunc bitsLt_bf16_f32 <| .of_eq (L.unary 96 rfl) <| Ten.swap (g := fun r h => A.q h r)
    (Rep.cast (.of_eq (L.binary 92 rfl) <| .mul v79 (.of_eq (L.unary 91 rfl) <| .host_splat (.of_eq (L.nullary 90 rfl) <| .const word_scale) _ _)) fun _ => rfl) _) fun _ => rfl

set_option maxHeartbeats 1000000 in
theorem keys (hx : Mat (B m d main_v17) A.x) (hk : Ten (B m d main_v52) fun r h => A.kh h r) (hc : Mat (B m d main_v18) A.co)
    (hs : Mat (B m d main_v19) A.si) : Ten (B m d main_v89) A.k := by
  have L := line m d
  have v22 : Mat (B m d main_v22) fun r (e : Fin 64) => A.x r ⟨512 + e, by omega⟩ :=
    Rep.cast (.of_eq (L.unary 26 rfl) <| Mat.cols hx (by decide) _) fun _ => rfl
  have v70 : Mat (B m d main_v70) fun r (e : Fin 32) => (fun e : Fin 64 => A.x r ⟨512 + e, by omega⟩) ⟨0 + e, by omega⟩ :=
    Rep.cast (.of_eq (L.unary 80 rfl) <| Mat.cols v22 (by decide) _) fun _ => rfl
  have v71 : Mat (B m d main_v71) fun r (e : Fin 32) => (fun e : Fin 64 => A.x r ⟨512 + e, by omega⟩) ⟨32 + e, by omega⟩ :=
    Rep.cast (.of_eq (L.unary 81 rfl) <| Mat.cols v22 (by decide) _) fun _ => rfl
  have v74 : Mat (B m d main_v74) fun r => lo (A.co r) (A.si r) fun e => A.x r ⟨512 + e, by omega⟩ :=
    Rep.cast (.of_eq (L.binary 84 rfl) <| .sub (.of_eq (L.binary 82 rfl) <| .mul v70 hc) (.of_eq (L.binary 83 rfl) <| .mul v71 hs)) fun _ => rfl
  have v77 : Mat (B m d main_v77) fun r => hi (A.co r) (A.si r) fun e => A.x r ⟨512 + e, by omega⟩ :=
    Rep.cast (.of_eq (L.binary 87 rfl) <| .add (.of_eq (L.binary 85 rfl) <| .mul v70 hs) (.of_eq (L.binary 86 rfl) <| .mul v71 hc)) fun _ => rfl
  have v78 : Mat (B m d main_v78) A.pe := Rep.cast (.of_eq (L.binary 88 rfl) <| Mat.beside v74 v77 rfl _) fun _ => rfl
  have v53 : Ten (B m d main_v53) fun r h (e : Fin 128) => A.kh h r ⟨0 + e, by omega⟩ :=
    Rep.cast (.of_eq (L.unary 63 rfl) <| Ten.cut hk (by decide) _) fun _ => rfl
  have v82 : Ten (B m d main_v82) fun r (_ : Fin 1) e => A.pe r e := Rep.cast (.of_eq (L.unary 93 rfl) <| Mat.host_mid v78 _) fun _ => rfl
  have v83 : Ten (B m d main_v83) fun r (_ : Fin 8) e => A.pe r e := Rep.cast (.of_eq (L.unary 94 rfl) <| Ten.host_repeat_mid v82 _) fun _ => rfl
  have v84 : Ten (B m d main_v84) fun r h => A.k h r :=
    Rep.cast (.of_eq (L.binary 95 rfl) <| Ten.beside v53 v83 rfl _) fun _ => rfl
  exact Rep.cast (.of_eq (L.unary 100 rfl) <| .trunc bitsLt_bf16_f32 <| .of_eq (L.unary 97 rfl) <| Ten.swap v84 _) fun _ => rfl

/-- The three results. -/
theorem results (g : Given (B m d main_arg0) (B m d main_arg1) (B m d main_arg2) (B m d main_arg4) (B m d main_arg3) (B m d main_arg5) A) :
    Ten (B m d main_v88) A.q ∧ Ten (B m d main_v89) A.k ∧ Ten (B m d main_v90) A.v := by
  obtain ⟨hc, hs⟩ := angles g.pos
  have L := line m d
  have k := product_k (part g.x) g.kn g.wk
  have v54 : Ten (B m d main_v54) fun r h => A.v h r := Rep.cast (.of_eq (L.unary 64 rfl) <| Ten.cut k (by decide) _) fun _ => rfl
  exact ⟨queries (product_q (part g.x) g.qn g.wq) hc hs, keys (part g.x) k hc hs,
    Rep.cast (.of_eq (L.unary 101 rfl) <| .trunc bitsLt_bf16_f32 <| .of_eq (L.unary 98 rfl) <| Ten.swap v54 _) fun _ => rfl⟩

end Cert.PrepRef

end
-- ==== Proof.PrepClaim.lean ====
/-
  The latent projections: the frame of the reference, and the kernel's three results are the reference's.
-/
module

public import proofs.«01_k».proof.Proof.PrepRef
public import proofs.«01_k».proof.Proof.AttnClaim
public import proofs.«01_k».proof.Defs
public import Idealize.ShloMosaic.Lib.Quiescent
public import proofs.«01_k».proof.Proof.Gen.Pre_finite_prep

@[expose] public section

set_option maxRecDepth 16384

noncomputable section

namespace Cert.PrepClaim

open Idealize.ShloMosaic hiding ix1 ix2 ix3
open Idealize.ShloMosaic.ValueIdx Idealize.ShloMosaic.TcCoe Idealize.SL.Sem Idealize.ShloMosaic.StableHlo

theorem frame_ref (m : (ℓ : Loc PrepRefIdeal.nD PrepRefIdeal.τ PrepRefIdeal.sig) → Buf (Elt Ideal) ℓ) (ρ : Dev PrepRefIdeal.nD → PrngReg) :
    θ_run (PrepRefIdeal.defs (F := Ideal)) (onTc (τ := PrepRefIdeal.τ) (PrepRefIdeal.main (F := Ideal))) ⟨m, fun _ => 0, ρ⟩ fun r =>
      (∀ c : Dev PrepRefIdeal.nD, (r.2.mem (c.tc.loc PrepRefIdeal.main_arg0) = m (c.tc.loc PrepRefIdeal.main_arg0)
        ∧ r.2.mem (c.tc.loc PrepRefIdeal.main_arg1) = m (c.tc.loc PrepRefIdeal.main_arg1)
        ∧ r.2.mem (c.tc.loc PrepRefIdeal.main_arg2) = m (c.tc.loc PrepRefIdeal.main_arg2)
        ∧ r.2.mem (c.tc.loc PrepRefIdeal.main_arg3) = m (c.tc.loc PrepRefIdeal.main_arg3)
        ∧ r.2.mem (c.tc.loc PrepRefIdeal.main_arg4) = m (c.tc.loc PrepRefIdeal.main_arg4)
        ∧ r.2.mem (c.tc.loc PrepRefIdeal.main_arg5) = m (c.tc.loc PrepRefIdeal.main_arg5))) ∧ r.2.sem = fun _ => 0 :=
  (θ_run _ _ _).mono (fun r h => ⟨fun c =>
    ⟨(h c _).trans (PrepRef.kept _), (h c _).trans (PrepRef.kept _), (h c _).trans (PrepRef.kept _), (h c _).trans (PrepRef.kept _),
     (h c _).trans (PrepRef.kept _), (h c _).trans (PrepRef.kept _)⟩, sem_eq_zero_of_no_sems rfl _⟩) (PrepRef.run m ρ)

theorem algebraic : Cert.algebraic_PrepIdeal_PrepRefIdeal_pre_finite_prep := by
  intro m ρ m' ρ' hpre hag
  refine ⟨fun c => (PrepIdeal.Gen.dats m 0 c).arrAt 7 PrepIdeal.cfg0.N, fun c => (PrepIdeal.Gen.dats m 0 c).arrAt 8 PrepIdeal.cfg0.N,
    fun c => (PrepIdeal.Gen.dats m 0 c).arrAt 9 PrepIdeal.cfg0.N,
    (θ_run _ _ _).mono (fun _ h c => ⟨(h.1 c).1 7, (h.1 c).1 8, (h.1 c).1 9, h.2.1 c⟩)
      (θ_run_and (PrepIdeal.Gen.run_main m ρ) (PrepIdeal.Gen.frame m ρ)),
    (θ_run _ _ _).mono (fun r h c => ?_) (PrepRef.run m' ρ')⟩
  obtain ⟨p0, p1, p2, p3, p4⟩ := hpre c
  obtain ⟨a0, a1, a2, a3, a4, a5⟩ := hag c
  obtain ⟨X, hX⟩ := exists_mat (exists_rep p0)
  obtain ⟨qn, hqn⟩ := exists_mat (exists_rep p1)
  obtain ⟨wq, hwq⟩ := exists_mat (exists_rep p2)
  obtain ⟨kn, hkn⟩ := exists_mat (exists_rep p3)
  obtain ⟨wk, hwk⟩ := exists_mat (exists_rep p4)
  let A : Prep.Args 4096 := ⟨X, fun r => ((m ((c : Thread PrepIdeal.nD PrepIdeal.τ).loc PrepIdeal.main_arg1) (ix2 0 r)).toInt : ℝ), qn, kn, wq, wk⟩
  have g : Prep.Given (m ((c : Thread PrepIdeal.nD PrepIdeal.τ).loc PrepIdeal.main_arg0)) (m ((c : Thread PrepIdeal.nD PrepIdeal.τ).loc PrepIdeal.main_arg1))
      (m ((c : Thread PrepIdeal.nD PrepIdeal.τ).loc PrepIdeal.main_arg2)) (m ((c : Thread PrepIdeal.nD PrepIdeal.τ).loc PrepIdeal.main_arg4))
      (m ((c : Thread PrepIdeal.nD PrepIdeal.τ).loc PrepIdeal.main_arg3)) (m ((c : Thread PrepIdeal.nD PrepIdeal.τ).loc PrepIdeal.main_arg5)) A :=
    { x := fun r q => Eq.trans (Eq.symm (extractStridedSlice_apply _ _ _ _ _ fun a => match a with
        | ⟨0, _⟩ => (Nat.zero_add _).symm
        | ⟨1, _⟩ => rfl)) (hX (ix2 r q))
      pos := fun _ => rfl, qn := hqn, kn := hkn, wq := hwq, wk := hwk }
  have e := Prep.entry g
  have k := @PrepRef.kept m' c
  obtain ⟨r0, r1, r2⟩ := PrepRef.results (m := m') (d := c) (A := A) (by
    rw [k PrepRefIdeal.main_arg0, k PrepRefIdeal.main_arg1, k PrepRefIdeal.main_arg2, k PrepRefIdeal.main_arg3, k PrepRefIdeal.main_arg4,
      k PrepRefIdeal.main_arg5, a0, a1, a2, a3, a4, a5]
    exact g)
  exact ⟨(h c _).trans (funext fun i => (r0 i).trans (e.result7 i).symm), (h c _).trans (funext fun i => (r1 i).trans (e.result8 i).symm),
    (h c _).trans (funext fun i => (r2 i).trans (e.result9 i).symm),
    (h c _).trans (k _), (h c _).trans (k _), (h c _).trans (k _), (h c _).trans (k _), (h c _).trans (k _), (h c _).trans (k _)⟩

end Cert.PrepClaim

end
-- ==== Proof.lean ====
/-
  The certificate's claims, put together: for each backward call the frames of the kernel, of its idealization and of the
  reference, that the idealization is the kernel's own text, and that its gradients are the reference's.
-/
module

public import proofs.«01_k».proof.Defs
public import proofs.«01_k».proof.Proof.Gen.Rows
public import proofs.«01_k».proof.Proof.Gen.Rows.Skeleton
public import proofs.«01_k».proof.Proof.Gen.Rows.Launch
public import proofs.«01_k».proof.Proof.Gen.Rows.Points
public import proofs.«01_k».proof.Proof.Gen.Rows.Frame
public import proofs.«01_k».proof.Proof.Gen.RowsIdeal
public import proofs.«01_k».proof.Proof.Gen.RowsIdeal.Skeleton
public import proofs.«01_k».proof.Proof.Gen.RowsIdeal.Launch
public import proofs.«01_k».proof.Proof.Gen.RowsIdeal.Points
public import proofs.«01_k».proof.Proof.Gen.RowsIdeal.Frame
public import proofs.«01_k».proof.Proof.Gen.RowsRefIdeal
public import proofs.«01_k».proof.Proof.Gen.Pre_finite_rows
public import proofs.«01_k».proof.Proof.Gen.RowsIdeal.Value
public import proofs.«01_k».proof.Proof.RowsClaim
public import proofs.«01_k».proof.Proof.AttnClaim
public import proofs.«01_k».proof.Proof.MlaClaim
public import proofs.«01_k».proof.Proof.InxClaim
public import proofs.«01_k».proof.Proof.MergeClaim
public import proofs.«01_k».proof.Proof.FwdClaim
public import proofs.«01_k».proof.Proof.PrepClaim
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite_attn
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaIdeal.Value
public import proofs.«01_k».proof.Proof.Gen.MlaRefIdeal
public import proofs.«01_k».proof.Proof.Gen.Pre_finite_mla
public import proofs.«01_k».proof.Proof.Gen.Inx
public import proofs.«01_k».proof.Proof.Gen.Inx.Skeleton
public import proofs.«01_k».proof.Proof.Gen.Inx.Launch
public import proofs.«01_k».proof.Proof.Gen.Inx.Points
public import proofs.«01_k».proof.Proof.Gen.Inx.Frame
public import proofs.«01_k».proof.Proof.Gen.InxIdeal
public import proofs.«01_k».proof.Proof.Gen.InxIdeal.Skeleton
public import proofs.«01_k».proof.Proof.Gen.InxIdeal.Launch
public import proofs.«01_k».proof.Proof.Gen.InxIdeal.Points
public import proofs.«01_k».proof.Proof.Gen.InxIdeal.Frame
public import proofs.«01_k».proof.Proof.Gen.InxRefIdeal
public import proofs.«01_k».proof.Proof.Gen.Pre_finite_inx
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Pre_finite_merge
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdRefIdeal
public import proofs.«01_k».proof.Proof.Gen.Pre_finite_fwd
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.Pre_finite_prep
public import Idealize.ShloMosaic.Adequacy
public import Idealize.ShloMosaic.Init

@[expose] public section

noncomputable section

namespace Cert.Proof

open Idealize.ShloMosaic Idealize.SL.Sem Cert.Rows

theorem claim : Cert.Claim :=
  ⟨Cert.Rows.Gen.facts, Cert.RowsIdeal.Gen.facts, Cert.RowsRefIdeal.Gen.facts,
    Cert.Attn.Gen.facts, Cert.AttnIdeal.Gen.facts, Cert.AttnRefIdeal.Gen.facts,
    Cert.Mla.Gen.facts, Cert.MlaIdeal.Gen.facts, Cert.MlaRefIdeal.Gen.facts,
    Cert.Inx.Gen.facts, Cert.InxIdeal.Gen.facts, Cert.InxRefIdeal.Gen.facts,
    Cert.Merge.Gen.facts, Cert.MergeIdeal.Gen.facts, Cert.MergeRefIdeal.Gen.facts,
    Cert.Fwd.Gen.facts, Cert.FwdIdeal.Gen.facts, Cert.FwdRefIdeal.Gen.facts,
    Cert.Prep.Gen.facts, Cert.PrepIdeal.Gen.facts, Cert.PrepRefIdeal.Gen.facts,
    Cert.Pre_finite_rows.Gen.facts, Cert.Pre_finite_attn.Gen.facts, Cert.Pre_finite_mla.Gen.facts, Cert.Pre_finite_inx.Gen.facts, Cert.Pre_finite_merge.Gen.facts, Cert.Pre_finite_fwd.Gen.facts,
    Cert.Pre_finite_prep.Gen.facts,
    fun m ρ _ => Cert.Rows.Gen.frame m ρ, fun m ρ _ => Cert.RowsIdeal.Gen.frame m ρ, fun m ρ _ => Cert.RowsIdeal.Gen.frame m ρ,
    fun m ρ _ => RowsClaim.frame_ref m ρ, fun m ρ _ => RowsClaim.frame_ref m ρ,
    AttnClaim.frame, fun m ρ _ => AttnRun.frame_any m ρ, fun m ρ _ => AttnRun.frame_any m ρ,
    fun m ρ _ => AttnClaim.frame_ref m ρ, fun m ρ _ => AttnClaim.frame_ref m ρ,
    fun m ρ _ => Cert.Mla.Gen.frame m ρ, fun m ρ _ => Cert.MlaIdeal.Gen.frame m ρ, fun m ρ _ => Cert.MlaIdeal.Gen.frame m ρ,
    fun m ρ _ => MlaClaim.frame_ref m ρ, fun m ρ _ => MlaClaim.frame_ref m ρ,
    fun m ρ _ => Cert.Inx.Gen.frame m ρ, fun m ρ _ => Cert.InxIdeal.Gen.frame m ρ, fun m ρ _ => Cert.InxIdeal.Gen.frame m ρ,
    fun m ρ _ => InxClaim.frame_ref m ρ, fun m ρ _ => InxClaim.frame_ref m ρ,
    fun m ρ _ => Cert.Merge.Gen.frame m ρ, fun m ρ _ => Cert.MergeIdeal.Gen.frame m ρ, fun m ρ _ => Cert.MergeIdeal.Gen.frame m ρ,
    fun m ρ _ => MergeClaim.frame_ref m ρ, fun m ρ _ => MergeClaim.frame_ref m ρ,
    fun m ρ _ => Cert.Fwd.Gen.frame m ρ, fun m ρ _ => Cert.FwdIdeal.Gen.frame m ρ, fun m ρ _ => Cert.FwdIdeal.Gen.frame m ρ,
    fun m ρ _ => FwdClaim.frame_ref m ρ, fun m ρ _ => FwdClaim.frame_ref m ρ,
    fun m ρ _ => Cert.Prep.Gen.frame m ρ, fun m ρ _ => Cert.PrepIdeal.Gen.frame m ρ, fun m ρ _ => Cert.PrepIdeal.Gen.frame m ρ,
    fun m ρ _ => PrepClaim.frame_ref m ρ, fun m ρ _ => PrepClaim.frame_ref m ρ,
    trivial, RowsClaim.algebraic, trivial, AttnClaim.algebraic, trivial, MlaClaim.algebraic, trivial, InxClaim.algebraic,
    trivial, MergeClaim.algebraic, trivial, FwdClaim.algebraic, trivial, PrepClaim.algebraic⟩

end Cert.Proof

end
